-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdIdeal_norm_bwd_finite [hPre_norm_bwd_finite : Cert.Pre_norm_bwd_finite.Facts] (m : (ℓ : Loc Cert.NormBwdIdeal.nD Cert.NormBwdIdeal.τ Cert.NormBwdIdeal.sig) → Buf (Elt Ideal) ℓ) : Prop :=
  ∀ c : Dev Cert.NormBwdIdeal.nD,
    (Cert.Pre_norm_bwd_finite.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2)) (m ((c.tc : Thread Cert.NormBwdIdeal.nD Cert.NormBwdIdeal.τ).loc Cert.NormBwdIdeal.main_arg3)) (m ((c.tc : Thread Cert.NormBwdIdeal.nD Cert.NormBwdIdeal.τ).loc Cert.NormBwdIdeal.main_arg4)) (m ((c.tc : Thread Cert.NormBwdIdeal.nD Cert.NormBwdIdeal.τ).loc Cert.NormBwdIdeal.main_arg5)) (m ((c.tc : Thread Cert.NormBwdIdeal.nD Cert.NormBwdIdeal.τ).loc Cert.NormBwdIdeal.main_arg6)) (m ((c.tc : Thread Cert.NormBwdIdeal.nD Cert.NormBwdIdeal.τ).loc Cert.NormBwdIdeal.main_arg7))) = (fun _ => 1#1)

def Pre_NormBwdRefIdeal (m : (ℓ : Loc Cert.NormBwdRefIdeal.nD Cert.NormBwdRefIdeal.τ Cert.NormBwdRefIdeal.sig) → Buf (Elt Ideal) ℓ) : Prop :=
  True

def Pre_NormBwdRefIdeal_norm_bwd_finite [hPre_norm_bwd_finite : Cert.Pre_norm_bwd_finite.Facts] (m : (ℓ : Loc Cert.NormBwdRefIdeal.nD Cert.NormBwdRefIdeal.τ Cert.NormBwdRefIdeal.sig) → Buf (Elt Ideal) ℓ) : Prop :=
  ∀ c : Dev Cert.NormBwdRefIdeal.nD,
    (Cert.Pre_norm_bwd_finite.fn (F := Ideal) (m ((c.tc : Thread Cert.NormBwdRefIdeal.nD Cert.NormBwdRefIdeal.τ).loc Cert.NormBwdRefIdeal.main_arg0)) (m ((c.tc : Thread Cert.NormBwdRefIdeal.nD Cert.NormBwdRefIdeal.τ).loc Cert.NormBwdRefIdeal.main_arg1)) (m ((c.tc : Thread Cert.NormBwdRefIdeal.nD Cert.NormBwdRefIdeal.τ).loc Cert.NormBwdRefIdeal.main_arg2)) (m ((c.tc : Thread Cert.NormBwdRefIdeal.nD Cert.NormBwdRefIdeal.τ).loc Cert.NormBwdRefIdeal.main_arg3)) (m ((c.tc : Thread Cert.NormBwdRefIdeal.nD Cert.NormBwdRefIdeal.τ).loc Cert.NormBwdRefIdeal.main_arg4)) (m ((c.tc : Thread Cert.NormBwdRefIdeal.nD Cert.NormBwdRefIdeal.τ).loc Cert.NormBwdRefIdeal.main_arg5)) (m ((c.tc : Thread Cert.NormBwdRefIdeal.nD Cert.NormBwdRefIdeal.τ).loc Cert.NormBwdRefIdeal.main_arg6)) (m ((c.tc : Thread Cert.NormBwdRefIdeal.nD Cert.NormBwdRefIdeal.τ).loc Cert.NormBwdRefIdeal.main_arg7))) = (fun _ => 1#1)

def Pre_OutBwd (m : (ℓ : Loc Cert.OutBwd.nD Cert.OutBwd.τ Cert.OutBwd.sig) → Buf (Elt Bits) ℓ) : Prop :=
  True

def Pre_OutBwdIdeal (m : (ℓ : Loc Cert.OutBwdIdeal.nD Cert.OutBwdIdeal.τ Cert.OutBwdIdeal.sig) → Buf (Elt Ideal) ℓ) : Prop :=
  True

def Pre_OutBwdRefIdeal (m : (ℓ : Loc Cert.OutBwdRefIdeal.nD Cert.OutBwdRefIdeal.τ Cert.OutBwdRefIdeal.sig) → Buf (Elt Ideal) ℓ) : Prop :=
  True

def Pre_OutWgrad (m : (ℓ : Loc Cert.OutWgrad.nD Cert.OutWgrad.τ Cert.OutWgrad.sig) → Buf (Elt Bits) ℓ) : Prop :=
  True

def Pre_OutWgradIdeal (m : (ℓ : Loc Cert.OutWgradIdeal.nD Cert.OutWgradIdeal.τ Cert.OutWgradIdeal.sig) → Buf (Elt Ideal) ℓ) : Prop :=
  True

def Pre_OutWgradRefIdeal (m : (ℓ : Loc Cert.OutWgradRefIdeal.nD Cert.OutWgradRefIdeal.τ Cert.OutWgradRefIdeal.sig) → Buf (Elt Ideal) ℓ) : Prop :=
  True

def Pre_InWgrad (m : (ℓ : Loc Cert.InWgrad.nD Cert.InWgrad.τ Cert.InWgrad.sig) → Buf (Elt Bits) ℓ) : Prop :=
  True

def Pre_InWgradIdeal (m : (ℓ : Loc Cert.InWgradIdeal.nD Cert.InWgradIdeal.τ Cert.InWgradIdeal.sig) → Buf (Elt Ideal) ℓ) : Prop :=
  True

def Pre_InWgradRefIdeal (m : (ℓ : Loc Cert.InWgradRefIdeal.nD Cert.InWgradRefIdeal.τ Cert.InWgradRefIdeal.sig) → Buf (Elt Ideal) ℓ) : Prop :=
  True

def Pre_EvenWgrad (m : (ℓ : Loc Cert.EvenWgrad.nD Cert.EvenWgrad.τ Cert.EvenWgrad.sig) → Buf (Elt Bits) ℓ) : Prop :=
  True

def Pre_EvenWgradIdeal (m : (ℓ : Loc Cert.EvenWgradIdeal.nD Cert.EvenWgradIdeal.τ Cert.EvenWgradIdeal.sig) → Buf (Elt Ideal) ℓ) : Prop :=
  True

def Pre_EvenWgradRefIdeal (m : (ℓ : Loc Cert.EvenWgradRefIdeal.nD Cert.EvenWgradRefIdeal.τ Cert.EvenWgradRefIdeal.sig) → Buf (Elt Ideal) ℓ) : Prop :=
  True

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdRefIdeal (m : (ℓ : Loc Cert.OutFwdRefIdeal.nD Cert.OutFwdRefIdeal.τ Cert.OutFwdRefIdeal.sig) → Buf (Elt Ideal) ℓ) : Prop :=
  True

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InFwdRefIdeal (m : (ℓ : Loc Cert.InFwdRefIdeal.nD Cert.InFwdRefIdeal.τ Cert.InFwdRefIdeal.sig) → Buf (Elt Ideal) ℓ) : Prop :=
  True

def Pre_GateBwd (m : (ℓ : Loc Cert.GateBwd.nD Cert.GateBwd.τ Cert.GateBwd.sig) → Buf (Elt Bits) ℓ) : Prop :=
  True

def Pre_GateBwdIdeal (m : (ℓ : Loc Cert.GateBwdIdeal.nD Cert.GateBwdIdeal.τ Cert.GateBwdIdeal.sig) → Buf (Elt Ideal) ℓ) : Prop :=
  True

def Pre_GateBwdIdeal_gate_bwd_finite [hPre_gate_bwd_finite : Cert.Pre_gate_bwd_finite.Facts] (m : (ℓ : Loc Cert.GateBwdIdeal.nD Cert.GateBwdIdeal.τ Cert.GateBwdIdeal.sig) → Buf (Elt Ideal) ℓ) : Prop :=
  ∀ c : Dev Cert.GateBwdIdeal.nD,
    (Cert.Pre_gate_bwd_finite.fn (F := Ideal) (m ((c.tc : Thread Cert.GateBwdIdeal.nD Cert.GateBwdIdeal.τ).loc Cert.GateBwdIdeal.main_arg0)) (m ((c.tc : Thread Cert.GateBwdIdeal.nD Cert.GateBwdIdeal.τ).loc Cert.GateBwdIdeal.main_arg1)) (m ((c.tc : Thread Cert.GateBwdIdeal.nD Cert.GateBwdIdeal.τ).loc Cert.GateBwdIdeal.main_arg2)) (m ((c.tc : Thread Cert.GateBwdIdeal.nD Cert.GateBwdIdeal.τ).loc Cert.GateBwdIdeal.main_arg3)) (m ((c.tc : Thread Cert.GateBwdIdeal.nD Cert.GateBwdIdeal.τ).loc Cert.GateBwdIdeal.main_arg4))) = (fun _ => 1#1)

def Pre_GateBwdRefIdeal (m : (ℓ : Loc Cert.GateBwdRefIdeal.nD Cert.GateBwdRefIdeal.τ Cert.GateBwdRefIdeal.sig) → Buf (Elt Ideal) ℓ) : Prop :=
  True

def Pre_GateBwdRefIdeal_gate_bwd_finite [hPre_gate_bwd_finite : Cert.Pre_gate_bwd_finite.Facts] (m : (ℓ : Loc Cert.GateBwdRefIdeal.nD Cert.GateBwdRefIdeal.τ Cert.GateBwdRefIdeal.sig) → Buf (Elt Ideal) ℓ) : Prop :=
  ∀ c : Dev Cert.GateBwdRefIdeal.nD,
    (Cert.Pre_gate_bwd_finite.fn (F := Ideal) (m ((c.tc : Thread Cert.GateBwdRefIdeal.nD Cert.GateBwdRefIdeal.τ).loc Cert.GateBwdRefIdeal.main_arg0)) (m ((c.tc : Thread Cert.GateBwdRefIdeal.nD Cert.GateBwdRefIdeal.τ).loc Cert.GateBwdRefIdeal.main_arg1)) (m ((c.tc : Thread Cert.GateBwdRefIdeal.nD Cert.GateBwdRefIdeal.τ).loc Cert.GateBwdRefIdeal.main_arg2)) (m ((c.tc : Thread Cert.GateBwdRefIdeal.nD Cert.GateBwdRefIdeal.τ).loc Cert.GateBwdRefIdeal.main_arg3)) (m ((c.tc : Thread Cert.GateBwdRefIdeal.nD Cert.GateBwdRefIdeal.τ).loc Cert.GateBwdRefIdeal.main_arg4))) = (fun _ => 1#1)

def Pre_EvenBwd (m : (ℓ : Loc Cert.EvenBwd.nD Cert.EvenBwd.τ Cert.EvenBwd.sig) → Buf (Elt Bits) ℓ) : Prop :=
  True

def Pre_EvenBwdIdeal (m : (ℓ : Loc Cert.EvenBwdIdeal.nD Cert.EvenBwdIdeal.τ Cert.EvenBwdIdeal.sig) → Buf (Elt Ideal) ℓ) : Prop :=
  True

def Pre_EvenBwdIdeal_even_bwd_finite [hPre_even_bwd_finite : Cert.Pre_even_bwd_finite.Facts] (m : (ℓ : Loc Cert.EvenBwdIdeal.nD Cert.EvenBwdIdeal.τ Cert.EvenBwdIdeal.sig) → Buf (Elt Ideal) ℓ) : Prop :=
  ∀ c : Dev Cert.EvenBwdIdeal.nD,
    (Cert.Pre_even_bwd_finite.fn (F := Ideal) (m ((c.tc : Thread Cert.EvenBwdIdeal.nD Cert.EvenBwdIdeal.τ).loc Cert.EvenBwdIdeal.main_arg0)) (m ((c.tc : Thread Cert.EvenBwdIdeal.nD Cert.EvenBwdIdeal.τ).loc Cert.EvenBwdIdeal.main_arg1)) (m ((c.tc : Thread Cert.EvenBwdIdeal.nD Cert.EvenBwdIdeal.τ).loc Cert.EvenBwdIdeal.main_arg2)) (m ((c.tc : Thread Cert.EvenBwdIdeal.nD Cert.EvenBwdIdeal.τ).loc Cert.EvenBwdIdeal.main_arg3)) (m ((c.tc : Thread Cert.EvenBwdIdeal.nD Cert.EvenBwdIdeal.τ).loc Cert.EvenBwdIdeal.main_arg4)) (m ((c.tc : Thread Cert.EvenBwdIdeal.nD Cert.EvenBwdIdeal.τ).loc Cert.EvenBwdIdeal.main_arg5)) (m ((c.tc : Thread Cert.EvenBwdIdeal.nD Cert.EvenBwdIdeal.τ).loc Cert.EvenBwdIdeal.main_arg6)) (m ((c.tc : Thread Cert.EvenBwdIdeal.nD Cert.EvenBwdIdeal.τ).loc Cert.EvenBwdIdeal.main_arg7)) (m ((c.tc : Thread Cert.EvenBwdIdeal.nD Cert.EvenBwdIdeal.τ).loc Cert.EvenBwdIdeal.main_arg8)) (m ((c.tc : Thread Cert.EvenBwdIdeal.nD Cert.EvenBwdIdeal.τ).loc Cert.EvenBwdIdeal.main_arg9))) = (fun _ => 1#1)

def Pre_EvenBwdRefIdeal (m : (ℓ : Loc Cert.EvenBwdRefIdeal.nD Cert.EvenBwdRefIdeal.τ Cert.EvenBwdRefIdeal.sig) → Buf (Elt Ideal) ℓ) : Prop :=
  True

def Pre_EvenBwdRefIdeal_even_bwd_finite [hPre_even_bwd_finite : Cert.Pre_even_bwd_finite.Facts] (m : (ℓ : Loc Cert.EvenBwdRefIdeal.nD Cert.EvenBwdRefIdeal.τ Cert.EvenBwdRefIdeal.sig) → Buf (Elt Ideal) ℓ) : Prop :=
  ∀ c : Dev Cert.EvenBwdRefIdeal.nD,
    (Cert.Pre_even_bwd_finite.fn (F := Ideal) (m ((c.tc : Thread Cert.EvenBwdRefIdeal.nD Cert.EvenBwdRefIdeal.τ).loc Cert.EvenBwdRefIdeal.main_arg0)) (m ((c.tc : Thread Cert.EvenBwdRefIdeal.nD Cert.EvenBwdRefIdeal.τ).loc Cert.EvenBwdRefIdeal.main_arg1)) (m ((c.tc : Thread Cert.EvenBwdRefIdeal.nD Cert.EvenBwdRefIdeal.τ).loc Cert.EvenBwdRefIdeal.main_arg2)) (m ((c.tc : Thread Cert.EvenBwdRefIdeal.nD Cert.EvenBwdRefIdeal.τ).loc Cert.EvenBwdRefIdeal.main_arg3)) (m ((c.tc : Thread Cert.EvenBwdRefIdeal.nD Cert.EvenBwdRefIdeal.τ).loc Cert.EvenBwdRefIdeal.main_arg4)) (m ((c.tc : Thread Cert.EvenBwdRefIdeal.nD Cert.EvenBwdRefIdeal.τ).loc Cert.EvenBwdRefIdeal.main_arg5)) (m ((c.tc : Thread Cert.EvenBwdRefIdeal.nD Cert.EvenBwdRefIdeal.τ).loc Cert.EvenBwdRefIdeal.main_arg6)) (m ((c.tc : Thread Cert.EvenBwdRefIdeal.nD Cert.EvenBwdRefIdeal.τ).loc Cert.EvenBwdRefIdeal.main_arg7)) (m ((c.tc : Thread Cert.EvenBwdRefIdeal.nD Cert.EvenBwdRefIdeal.τ).loc Cert.EvenBwdRefIdeal.main_arg8)) (m ((c.tc : Thread Cert.EvenBwdRefIdeal.nD Cert.EvenBwdRefIdeal.τ).loc Cert.EvenBwdRefIdeal.main_arg9))) = (fun _ => 1#1)

def Pre_AdamInEven (m : (ℓ : Loc Cert.AdamInEven.nD Cert.AdamInEven.τ Cert.AdamInEven.sig) → Buf (Elt Bits) ℓ) : Prop :=
  True

def Pre_AdamInEvenIdeal (m : (ℓ : Loc Cert.AdamInEvenIdeal.nD Cert.AdamInEvenIdeal.τ Cert.AdamInEvenIdeal.sig) → Buf (Elt Ideal) ℓ) : Prop :=
  True

def Pre_AdamInEvenRefIdeal (m : (ℓ : Loc Cert.AdamInEvenRefIdeal.nD Cert.AdamInEvenRefIdeal.τ Cert.AdamInEvenRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamInOdd (m : (ℓ : Loc Cert.AdamInOdd.nD Cert.AdamInOdd.τ Cert.AdamInOdd.sig) → Buf (Elt Bits) ℓ) : Prop :=
  True

def Pre_AdamInOddIdeal (m : (ℓ : Loc Cert.AdamInOddIdeal.nD Cert.AdamInOddIdeal.τ Cert.AdamInOddIdeal.sig) → Buf (Elt Ideal) ℓ) : Prop :=
  True

def Pre_AdamInOddRefIdeal (m : (ℓ : Loc Cert.AdamInOddRefIdeal.nD Cert.AdamInOddRefIdeal.τ Cert.AdamInOddRefIdeal.sig) → Buf (Elt Ideal) ℓ) : Prop :=
  True

def Pre_AdamPool (m : (ℓ : Loc Cert.AdamPool.nD Cert.AdamPool.τ Cert.AdamPool.sig) → Buf (Elt Bits) ℓ) : Prop :=
  True

def Pre_AdamPoolIdeal (m : (ℓ : Loc Cert.AdamPoolIdeal.nD Cert.AdamPoolIdeal.τ Cert.AdamPoolIdeal.sig) → Buf (Elt Ideal) ℓ) : Prop :=
  True

def Pre_AdamPoolRefIdeal (m : (ℓ : Loc Cert.AdamPoolRefIdeal.nD Cert.AdamPoolRefIdeal.τ Cert.AdamPoolRefIdeal.sig) → Buf (Elt Ideal) ℓ) : Prop :=
  True

def Pre_FinalLoss (m : (ℓ : Loc Cert.FinalLoss.nD Cert.FinalLoss.τ Cert.FinalLoss.sig) → Buf (Elt Bits) ℓ) : Prop :=
  True

def Pre_FinalLossIdeal (m : (ℓ : Loc Cert.FinalLossIdeal.nD Cert.FinalLossIdeal.τ Cert.FinalLossIdeal.sig) → Buf (Elt Ideal) ℓ) : Prop :=
  True

def Pre_FinalLossIdeal_final_loss_finite [hPre_final_loss_finite : Cert.Pre_final_loss_finite.Facts] (m : (ℓ : Loc Cert.FinalLossIdeal.nD Cert.FinalLossIdeal.τ Cert.FinalLossIdeal.sig) → Buf (Elt Ideal) ℓ) : Prop :=
  ∀ c : Dev Cert.FinalLossIdeal.nD,
    (Cert.Pre_final_loss_finite.fn (F := Ideal) (m ((c.tc : Thread Cert.FinalLossIdeal.nD Cert.FinalLossIdeal.τ).loc Cert.FinalLossIdeal.main_arg0)) (m ((c.tc : Thread Cert.FinalLossIdeal.nD Cert.FinalLossIdeal.τ).loc Cert.FinalLossIdeal.main_arg1)) (m ((c.tc : Thread Cert.FinalLossIdeal.nD Cert.FinalLossIdeal.τ).loc Cert.FinalLossIdeal.main_arg2)) (m ((c.tc : Thread Cert.FinalLossIdeal.nD Cert.FinalLossIdeal.τ).loc Cert.FinalLossIdeal.main_arg3)) (m ((c.tc : Thread Cert.FinalLossIdeal.nD Cert.FinalLossIdeal.τ).loc Cert.FinalLossIdeal.main_arg4))) = (fun _ => 1#1)

def Pre_FinalLossRefIdeal (m : (ℓ : Loc Cert.FinalLossRefIdeal.nD Cert.FinalLossRefIdeal.τ Cert.FinalLossRefIdeal.sig) → Buf (Elt Ideal) ℓ) : Prop :=
  True

def Pre_FinalLossRefIdeal_final_loss_finite [hPre_final_loss_finite : Cert.Pre_final_loss_finite.Facts] (m : (ℓ : Loc Cert.FinalLossRefIdeal.nD Cert.FinalLossRefIdeal.τ Cert.FinalLossRefIdeal.sig) → Buf (Elt Ideal) ℓ) : Prop :=
  ∀ c : Dev Cert.FinalLossRefIdeal.nD,
    (Cert.Pre_final_loss_finite.fn (F := Ideal) (m ((c.tc : Thread Cert.FinalLossRefIdeal.nD Cert.FinalLossRefIdeal.τ).loc Cert.FinalLossRefIdeal.main_arg0)) (m ((c.tc : Thread Cert.FinalLossRefIdeal.nD Cert.FinalLossRefIdeal.τ).loc Cert.FinalLossRefIdeal.main_arg1)) (m ((c.tc : Thread Cert.FinalLossRefIdeal.nD Cert.FinalLossRefIdeal.τ).loc Cert.FinalLossRefIdeal.main_arg2)) (m ((c.tc : Thread Cert.FinalLossRefIdeal.nD Cert.FinalLossRefIdeal.τ).loc Cert.FinalLossRefIdeal.main_arg3)) (m ((c.tc : Thread Cert.FinalLossRefIdeal.nD Cert.FinalLossRefIdeal.τ).loc Cert.FinalLossRefIdeal.main_arg4))) = (fun _ => 1#1)

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_AdamTiny (m : (ℓ : Loc Cert.AdamTiny.nD Cert.AdamTiny.τ Cert.AdamTiny.sig) → Buf (Elt Bits) ℓ) : Prop :=
  True

def Pre_AdamTinyIdeal (m : (ℓ : Loc Cert.AdamTinyIdeal.nD Cert.AdamTinyIdeal.τ Cert.AdamTinyIdeal.sig) → Buf (Elt Ideal) ℓ) : Prop :=
  True

def Pre_AdamTinyRefIdeal (m : (ℓ : Loc Cert.AdamTinyRefIdeal.nD Cert.AdamTinyRefIdeal.τ Cert.AdamTinyRefIdeal.sig) → Buf (Elt Ideal) ℓ) : Prop :=
  True

def Pre_AdamAda (m : (ℓ : Loc Cert.AdamAda.nD Cert.AdamAda.τ Cert.AdamAda.sig) → Buf (Elt Bits) ℓ) : Prop :=
  True

def Pre_AdamAdaIdeal (m : (ℓ : Loc Cert.AdamAdaIdeal.nD Cert.AdamAdaIdeal.τ Cert.AdamAdaIdeal.sig) → Buf (Elt Ideal) ℓ) : Prop :=
  True

def Pre_AdamAdaRefIdeal (m : (ℓ : Loc Cert.AdamAdaRefIdeal.nD Cert.AdamAdaRefIdeal.τ Cert.AdamAdaRefIdeal.sig) → Buf (Elt Ideal) ℓ) : Prop :=
  True

def Pre_GateFwd (m : (ℓ : Loc Cert.GateFwd.nD Cert.GateFwd.τ Cert.GateFwd.sig) → Buf (Elt Bits) ℓ) : Prop :=
  True

def Pre_GateFwdIdeal (m : (ℓ : Loc Cert.GateFwdIdeal.nD Cert.GateFwdIdeal.τ Cert.GateFwdIdeal.sig) → Buf (Elt Ideal) ℓ) : Prop :=
  True

def Pre_GateFwdRefIdeal (m : (ℓ : Loc Cert.GateFwdRefIdeal.nD Cert.GateFwdRefIdeal.τ Cert.GateFwdRefIdeal.sig) → Buf (Elt Ideal) ℓ) : Prop :=
  True

def Pre_LnMod (m : (ℓ : Loc Cert.LnMod.nD Cert.LnMod.τ Cert.LnMod.sig) → Buf (Elt Bits) ℓ) : Prop :=
  True

def Pre_LnModIdeal (m : (ℓ : Loc Cert.LnModIdeal.nD Cert.LnModIdeal.τ Cert.LnModIdeal.sig) → Buf (Elt Ideal) ℓ) : Prop :=
  True

def Pre_LnModRefIdeal (m : (ℓ : Loc Cert.LnModRefIdeal.nD Cert.LnModRefIdeal.τ Cert.LnModRefIdeal.sig) → Buf (Elt Ideal) ℓ) : Prop :=
  True

def Pre_ResidLn (m : (ℓ : Loc Cert.ResidLn.nD Cert.ResidLn.τ Cert.ResidLn.sig) → Buf (Elt Bits) ℓ) : Prop :=
  True

def Pre_ResidLnIdeal (m : (ℓ : Loc Cert.ResidLnIdeal.nD Cert.ResidLnIdeal.τ Cert.ResidLnIdeal.sig) → Buf (Elt Ideal) ℓ) : Prop :=
  True

def Pre_ResidLnRefIdeal (m : (ℓ : Loc Cert.ResidLnRefIdeal.nD Cert.ResidLnRefIdeal.τ Cert.ResidLnRefIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3)
      ∧ r.2.mem ((c.tc : Thread Cert.NormBwd.nD Cert.NormBwd.τ).loc Cert.NormBwd.main_arg4) = m ((c.tc : Thread Cert.NormBwd.nD Cert.NormBwd.τ).loc Cert.NormBwd.main_arg4)
      ∧ r.2.mem ((c.tc : Thread Cert.NormBwd.nD Cert.NormBwd.τ).loc Cert.NormBwd.main_arg5) = m ((c.tc : Thread Cert.NormBwd.nD Cert.NormBwd.τ).loc Cert.NormBwd.main_arg5)
      ∧ r.2.mem ((c.tc : Thread Cert.NormBwd.nD Cert.NormBwd.τ).loc Cert.NormBwd.main_arg6) = m ((c.tc : Thread Cert.NormBwd.nD Cert.NormBwd.τ).loc Cert.NormBwd.main_arg6)
      ∧ r.2.mem ((c.tc : Thread Cert.NormBwd.nD Cert.NormBwd.τ).loc Cert.NormBwd.main_arg7) = m ((c.tc : Thread Cert.NormBwd.nD Cert.NormBwd.τ).loc Cert.NormBwd.main_arg7))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
      ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4)
      ∧ r.2.mem ((c.tc : Thread Cert.NormBwdIdeal.nD Cert.NormBwdIdeal.τ).loc Cert.NormBwdIdeal.main_arg5) = m ((c.tc : Thread Cert.NormBwdIdeal.nD Cert.NormBwdIdeal.τ).loc Cert.NormBwdIdeal.main_arg5)
      ∧ r.2.mem ((c.tc : Thread Cert.NormBwdIdeal.nD Cert.NormBwdIdeal.τ).loc Cert.NormBwdIdeal.main_arg6) = m ((c.tc : Thread Cert.NormBwdIdeal.nD Cert.NormBwdIdeal.τ).loc Cert.NormBwdIdeal.main_arg6)
      ∧ r.2.mem ((c.tc : Thread Cert.NormBwdIdeal.nD Cert.NormBwdIdeal.τ).loc Cert.NormBwdIdeal.main_arg7) = m ((c.tc : Thread Cert.NormBwdIdeal.nD Cert.NormBwdIdeal.τ).loc Cert.NormBwdIdeal.main_arg7))
      ∧ r.2.sem = fun _ => 0)

def quiescent_NormBwdIdeal_pre_norm_bwd_finite [hNormBwdIdeal : Cert.NormBwdIdeal.Facts] [hPre_norm_bwd_finite : Cert.Pre_norm_bwd_finite.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal_norm_bwd_finite m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
      ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4)
      ∧ r.2.mem ((c.tc : Thread Cert.NormBwdIdeal.nD Cert.NormBwdIdeal.τ).loc Cert.NormBwdIdeal.main_arg5) = m ((c.tc : Thread Cert.NormBwdIdeal.nD Cert.NormBwdIdeal.τ).loc Cert.NormBwdIdeal.main_arg5)
      ∧ r.2.mem ((c.tc : Thread Cert.NormBwdIdeal.nD Cert.NormBwdIdeal.τ).loc Cert.NormBwdIdeal.main_arg6) = m ((c.tc : Thread Cert.NormBwdIdeal.nD Cert.NormBwdIdeal.τ).loc Cert.NormBwdIdeal.main_arg6)
      ∧ r.2.mem ((c.tc : Thread Cert.NormBwdIdeal.nD Cert.NormBwdIdeal.τ).loc Cert.NormBwdIdeal.main_arg7) = m ((c.tc : Thread Cert.NormBwdIdeal.nD Cert.NormBwdIdeal.τ).loc Cert.NormBwdIdeal.main_arg7))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3)
      ∧ r.2.mem ((c.tc : Thread Cert.NormBwdRefIdeal.nD Cert.NormBwdRefIdeal.τ).loc Cert.NormBwdRefIdeal.main_arg4) = m ((c.tc : Thread Cert.NormBwdRefIdeal.nD Cert.NormBwdRefIdeal.τ).loc Cert.NormBwdRefIdeal.main_arg4)
      ∧ r.2.mem ((c.tc : Thread Cert.NormBwdRefIdeal.nD Cert.NormBwdRefIdeal.τ).loc Cert.NormBwdRefIdeal.main_arg5) = m ((c.tc : Thread Cert.NormBwdRefIdeal.nD Cert.NormBwdRefIdeal.τ).loc Cert.NormBwdRefIdeal.main_arg5)
      ∧ r.2.mem ((c.tc : Thread Cert.NormBwdRefIdeal.nD Cert.NormBwdRefIdeal.τ).loc Cert.NormBwdRefIdeal.main_arg6) = m ((c.tc : Thread Cert.NormBwdRefIdeal.nD Cert.NormBwdRefIdeal.τ).loc Cert.NormBwdRefIdeal.main_arg6)
      ∧ r.2.mem ((c.tc : Thread Cert.NormBwdRefIdeal.nD Cert.NormBwdRefIdeal.τ).loc Cert.NormBwdRefIdeal.main_arg7) = m ((c.tc : Thread Cert.NormBwdRefIdeal.nD Cert.NormBwdRefIdeal.τ).loc Cert.NormBwdRefIdeal.main_arg7))
      ∧ r.2.sem = fun _ => 0)

def quiescent_NormBwdRefIdeal_pre_norm_bwd_finite [hNormBwdRefIdeal : Cert.NormBwdRefIdeal.Facts] [hPre_norm_bwd_finite : Cert.Pre_norm_bwd_finite.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal_norm_bwd_finite m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3)
      ∧ r.2.mem ((c.tc : Thread Cert.NormBwdRefIdeal.nD Cert.NormBwdRefIdeal.τ).loc Cert.NormBwdRefIdeal.main_arg4) = m ((c.tc : Thread Cert.NormBwdRefIdeal.nD Cert.NormBwdRefIdeal.τ).loc Cert.NormBwdRefIdeal.main_arg4)
      ∧ r.2.mem ((c.tc : Thread Cert.NormBwdRefIdeal.nD Cert.NormBwdRefIdeal.τ).loc Cert.NormBwdRefIdeal.main_arg5) = m ((c.tc : Thread Cert.NormBwdRefIdeal.nD Cert.NormBwdRefIdeal.τ).loc Cert.NormBwdRefIdeal.main_arg5)
      ∧ r.2.mem ((c.tc : Thread Cert.NormBwdRefIdeal.nD Cert.NormBwdRefIdeal.τ).loc Cert.NormBwdRefIdeal.main_arg6) = m ((c.tc : Thread Cert.NormBwdRefIdeal.nD Cert.NormBwdRefIdeal.τ).loc Cert.NormBwdRefIdeal.main_arg6)
      ∧ r.2.mem ((c.tc : Thread Cert.NormBwdRefIdeal.nD Cert.NormBwdRefIdeal.τ).loc Cert.NormBwdRefIdeal.main_arg7) = m ((c.tc : Thread Cert.NormBwdRefIdeal.nD Cert.NormBwdRefIdeal.τ).loc Cert.NormBwdRefIdeal.main_arg7))
      ∧ r.2.sem = fun _ => 0)

def quiescent_OutBwd [hOutBwd : Cert.OutBwd.Facts] : Prop :=
  ∀ (m : (ℓ : Loc Cert.OutBwd.nD Cert.OutBwd.τ Cert.OutBwd.sig) → Buf (Elt Bits) ℓ) (g : Dev Cert.OutBwd.nD → PrngReg), Pre_OutBwd m →
    θ_run (Cert.OutBwd.defs (F := Bits)) (onTc (τ := Cert.OutBwd.τ) (Cert.OutBwd.main (F := Bits))) ⟨m, fun _ => 0, g⟩ (fun r => (∀ c : Dev Cert.OutBwd.nD,
      r.2.mem ((c.tc : Thread Cert.OutBwd.nD Cert.OutBwd.τ).loc Cert.OutBwd.main_arg0) = m ((c.tc : Thread Cert.OutBwd.nD Cert.OutBwd.τ).loc Cert.OutBwd.main_arg0)
      ∧ r.2.mem ((c.tc : Thread Cert.OutBwd.nD Cert.OutBwd.τ).loc Cert.OutBwd.main_arg1) = m ((c.tc : Thread Cert.OutBwd.nD Cert.OutBwd.τ).loc Cert.OutBwd.main_arg1))
      ∧ r.2.sem = fun _ => 0)

def quiescent_OutBwdIdeal [hOutBwdIdeal : Cert.OutBwdIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1))
      ∧ r.2.sem = fun _ => 0)

def quiescent_OutBwdRefIdeal [hOutBwdRefIdeal : Cert.OutBwdRefIdeal.Facts] : Prop :=
  ∀ (m : (ℓ : Loc Cert.OutBwdRefIdeal.nD Cert.OutBwdRefIdeal.τ Cert.OutBwdRefIdeal.sig) → Buf (Elt Ideal) ℓ) (g : Dev Cert.OutBwdRefIdeal.nD → PrngReg), Pre_OutBwdRefIdeal m →
    θ_run (Cert.OutBwdRefIdeal.defs (F := Ideal)) (onTc (τ := Cert.OutBwdRefIdeal.τ) (Cert.OutBwdRefIdeal.main (F := Ideal))) ⟨m, fun _ => 0, g⟩ (fun r => (∀ c : Dev Cert.OutBwdRefIdeal.nD,
      r.2.mem ((c.tc : Thread Cert.OutBwdRefIdeal.nD Cert.OutBwdRefIdeal.τ).loc Cert.OutBwdRefIdeal.main_arg0) = m ((c.tc : Thread Cert.OutBwdRefIdeal.nD Cert.OutBwdRefIdeal.τ).loc Cert.OutBwdRefIdeal.main_arg0)
      ∧ r.2.mem ((c.tc : Thread Cert.OutBwdRefIdeal.nD Cert.OutBwdRefIdeal.τ).loc Cert.OutBwdRefIdeal.main_arg1) = m ((c.tc : Thread Cert.OutBwdRefIdeal.nD Cert.OutBwdRefIdeal.τ).loc Cert.OutBwdRefIdeal.main_arg1))
      ∧ r.2.sem = fun _ => 0)

def quiescent_OutWgrad [hOutWgrad : Cert.OutWgrad.Facts] : Prop :=
  ∀ (m : (ℓ : Loc Cert.OutWgrad.nD Cert.OutWgrad.τ Cert.OutWgrad.sig) → Buf (Elt Bits) ℓ) (g : Dev Cert.OutWgrad.nD → PrngReg), Pre_OutWgrad m →
    θ_run (Cert.OutWgrad.defs (F := Bits)) (onTc (τ := Cert.OutWgrad.τ) (Cert.OutWgrad.main (F := Bits))) ⟨m, fun _ => 0, g⟩ (fun r => (∀ c : Dev Cert.OutWgrad.nD,
      r.2.mem ((c.tc : Thread Cert.OutWgrad.nD Cert.OutWgrad.τ).loc Cert.OutWgrad.main_arg0) = m ((c.tc : Thread Cert.OutWgrad.nD Cert.OutWgrad.τ).loc Cert.OutWgrad.main_arg0)
      ∧ r.2.mem ((c.tc : Thread Cert.OutWgrad.nD Cert.OutWgrad.τ).loc Cert.OutWgrad.main_arg1) = m ((c.tc : Thread Cert.OutWgrad.nD Cert.OutWgrad.τ).loc Cert.OutWgrad.main_arg1))
      ∧ r.2.sem = fun _ => 0)

def quiescent_OutWgradIdeal [hOutWgradIdeal : Cert.OutWgradIdeal.Facts] : Prop :=
  ∀ (m : (ℓ : Loc Cert.OutWgradIdeal.nD Cert.OutWgradIdeal.τ Cert.OutWgradIdeal.sig) → Buf (Elt Ideal) ℓ) (g : Dev Cert.OutWgradIdeal.nD → PrngReg), Pre_OutWgradIdeal m →
    θ_run (Cert.OutWgradIdeal.defs (F := Ideal)) (onTc (τ := Cert.OutWgradIdeal.τ) (Cert.OutWgradIdeal.main (F := Ideal))) ⟨m, fun _ => 0, g⟩ (fun r => (∀ c : Dev Cert.OutWgradIdeal.nD,
      r.2.mem ((c.tc : Thread Cert.OutWgradIdeal.nD Cert.OutWgradIdeal.τ).loc Cert.OutWgradIdeal.main_arg0) = m ((c.tc : Thread Cert.OutWgradIdeal.nD Cert.OutWgradIdeal.τ).loc Cert.OutWgradIdeal.main_arg0)
      ∧ r.2.mem ((c.tc : Thread Cert.OutWgradIdeal.nD Cert.OutWgradIdeal.τ).loc Cert.OutWgradIdeal.main_arg1) = m ((c.tc : Thread Cert.OutWgradIdeal.nD Cert.OutWgradIdeal.τ).loc Cert.OutWgradIdeal.main_arg1))
      ∧ r.2.sem = fun _ => 0)

def quiescent_OutWgradRefIdeal [hOutWgradRefIdeal : Cert.OutWgradRefIdeal.Facts] : Prop :=
  ∀ (m : (ℓ : Loc Cert.OutWgradRefIdeal.nD Cert.OutWgradRefIdeal.τ Cert.OutWgradRefIdeal.sig) → Buf (Elt Ideal) ℓ) (g : Dev Cert.OutWgradRefIdeal.nD → PrngReg), Pre_OutWgradRefIdeal m →
    θ_run (Cert.OutWgradRefIdeal.defs (F := Ideal)) (onTc (τ := Cert.OutWgradRefIdeal.τ) (Cert.OutWgradRefIdeal.main (F := Ideal))) ⟨m, fun _ => 0, g⟩ (fun r => (∀ c : Dev Cert.OutWgradRefIdeal.nD,
      r.2.mem ((c.tc : Thread Cert.OutWgradRefIdeal.nD Cert.OutWgradRefIdeal.τ).loc Cert.OutWgradRefIdeal.main_arg0) = m ((c.tc : Thread Cert.OutWgradRefIdeal.nD Cert.OutWgradRefIdeal.τ).loc Cert.OutWgradRefIdeal.main_arg0)
      ∧ r.2.mem ((c.tc : Thread Cert.OutWgradRefIdeal.nD Cert.OutWgradRefIdeal.τ).loc Cert.OutWgradRefIdeal.main_arg1) = m ((c.tc : Thread Cert.OutWgradRefIdeal.nD Cert.OutWgradRefIdeal.τ).loc Cert.OutWgradRefIdeal.main_arg1))
      ∧ r.2.sem = fun _ => 0)

def quiescent_InWgrad [hInWgrad : Cert.InWgrad.Facts] : Prop :=
  ∀ (m : (ℓ : Loc Cert.InWgrad.nD Cert.InWgrad.τ Cert.InWgrad.sig) → Buf (Elt Bits) ℓ) (g : Dev Cert.InWgrad.nD → PrngReg), Pre_InWgrad m →
    θ_run (Cert.InWgrad.defs (F := Bits)) (onTc (τ := Cert.InWgrad.τ) (Cert.InWgrad.main (F := Bits))) ⟨m, fun _ => 0, g⟩ (fun r => (∀ c : Dev Cert.InWgrad.nD,
      r.2.mem ((c.tc : Thread Cert.InWgrad.nD Cert.InWgrad.τ).loc Cert.InWgrad.main_arg0) = m ((c.tc : Thread Cert.InWgrad.nD Cert.InWgrad.τ).loc Cert.InWgrad.main_arg0)
      ∧ r.2.mem ((c.tc : Thread Cert.InWgrad.nD Cert.InWgrad.τ).loc Cert.InWgrad.main_arg1) = m ((c.tc : Thread Cert.InWgrad.nD Cert.InWgrad.τ).loc Cert.InWgrad.main_arg1))
      ∧ r.2.sem = fun _ => 0)

def quiescent_InWgradIdeal [hInWgradIdeal : Cert.InWgradIdeal.Facts] : Prop :=
  ∀ (m : (ℓ : Loc Cert.InWgradIdeal.nD Cert.InWgradIdeal.τ Cert.InWgradIdeal.sig) → Buf (Elt Ideal) ℓ) (g : Dev Cert.InWgradIdeal.nD → PrngReg), Pre_InWgradIdeal m →
    θ_run (Cert.InWgradIdeal.defs (F := Ideal)) (onTc (τ := Cert.InWgradIdeal.τ) (Cert.InWgradIdeal.main (F := Ideal))) ⟨m, fun _ => 0, g⟩ (fun r => (∀ c : Dev Cert.InWgradIdeal.nD,
      r.2.mem ((c.tc : Thread Cert.InWgradIdeal.nD Cert.InWgradIdeal.τ).loc Cert.InWgradIdeal.main_arg0) = m ((c.tc : Thread Cert.InWgradIdeal.nD Cert.InWgradIdeal.τ).loc Cert.InWgradIdeal.main_arg0)
      ∧ r.2.mem ((c.tc : Thread Cert.InWgradIdeal.nD Cert.InWgradIdeal.τ).loc Cert.InWgradIdeal.main_arg1) = m ((c.tc : Thread Cert.InWgradIdeal.nD Cert.InWgradIdeal.τ).loc Cert.InWgradIdeal.main_arg1))
      ∧ r.2.sem = fun _ => 0)

def quiescent_InWgradRefIdeal [hInWgradRefIdeal : Cert.InWgradRefIdeal.Facts] : Prop :=
  ∀ (m : (ℓ : Loc Cert.InWgradRefIdeal.nD Cert.InWgradRefIdeal.τ Cert.InWgradRefIdeal.sig) → Buf (Elt Ideal) ℓ) (g : Dev Cert.InWgradRefIdeal.nD → PrngReg), Pre_InWgradRefIdeal m →
    θ_run (Cert.InWgradRefIdeal.defs (F := Ideal)) (onTc (τ := Cert.InWgradRefIdeal.τ) (Cert.InWgradRefIdeal.main (F := Ideal))) ⟨m, fun _ => 0, g⟩ (fun r => (∀ c : Dev Cert.InWgradRefIdeal.nD,
      r.2.mem ((c.tc : Thread Cert.InWgradRefIdeal.nD Cert.InWgradRefIdeal.τ).loc Cert.InWgradRefIdeal.main_arg0) = m ((c.tc : Thread Cert.InWgradRefIdeal.nD Cert.InWgradRefIdeal.τ).loc Cert.InWgradRefIdeal.main_arg0)
      ∧ r.2.mem ((c.tc : Thread Cert.InWgradRefIdeal.nD Cert.InWgradRefIdeal.τ).loc Cert.InWgradRefIdeal.main_arg1) = m ((c.tc : Thread Cert.InWgradRefIdeal.nD Cert.InWgradRefIdeal.τ).loc Cert.InWgradRefIdeal.main_arg1))
      ∧ r.2.sem = fun _ => 0)

def quiescent_EvenWgrad [hEvenWgrad : Cert.EvenWgrad.Facts] : Prop :=
  ∀ (m : (ℓ : Loc Cert.EvenWgrad.nD Cert.EvenWgrad.τ Cert.EvenWgrad.sig) → Buf (Elt Bits) ℓ) (g : Dev Cert.EvenWgrad.nD → PrngReg), Pre_EvenWgrad m →
    θ_run (Cert.EvenWgrad.defs (F := Bits)) (onTc (τ := Cert.EvenWgrad.τ) (Cert.EvenWgrad.main (F := Bits))) ⟨m, fun _ => 0, g⟩ (fun r => (∀ c : Dev Cert.EvenWgrad.nD,
      r.2.mem ((c.tc : Thread Cert.EvenWgrad.nD Cert.EvenWgrad.τ).loc Cert.EvenWgrad.main_arg0) = m ((c.tc : Thread Cert.EvenWgrad.nD Cert.EvenWgrad.τ).loc Cert.EvenWgrad.main_arg0)
      ∧ r.2.mem ((c.tc : Thread Cert.EvenWgrad.nD Cert.EvenWgrad.τ).loc Cert.EvenWgrad.main_arg1) = m ((c.tc : Thread Cert.EvenWgrad.nD Cert.EvenWgrad.τ).loc Cert.EvenWgrad.main_arg1)
      ∧ r.2.mem ((c.tc : Thread Cert.EvenWgrad.nD Cert.EvenWgrad.τ).loc Cert.EvenWgrad.main_arg2) = m ((c.tc : Thread Cert.EvenWgrad.nD Cert.EvenWgrad.τ).loc Cert.EvenWgrad.main_arg2)
      ∧ r.2.mem ((c.tc : Thread Cert.EvenWgrad.nD Cert.EvenWgrad.τ).loc Cert.EvenWgrad.main_arg3) = m ((c.tc : Thread Cert.EvenWgrad.nD Cert.EvenWgrad.τ).loc Cert.EvenWgrad.main_arg3)
      ∧ r.2.mem ((c.tc : Thread Cert.EvenWgrad.nD Cert.EvenWgrad.τ).loc Cert.EvenWgrad.main_arg4) = m ((c.tc : Thread Cert.EvenWgrad.nD Cert.EvenWgrad.τ).loc Cert.EvenWgrad.main_arg4)
      ∧ r.2.mem ((c.tc : Thread Cert.EvenWgrad.nD Cert.EvenWgrad.τ).loc Cert.EvenWgrad.main_arg5) = m ((c.tc : Thread Cert.EvenWgrad.nD Cert.EvenWgrad.τ).loc Cert.EvenWgrad.main_arg5))
      ∧ r.2.sem = fun _ => 0)

def quiescent_EvenWgradIdeal [hEvenWgradIdeal : Cert.EvenWgradIdeal.Facts] : Prop :=
  ∀ (m : (ℓ : Loc Cert.EvenWgradIdeal.nD Cert.EvenWgradIdeal.τ Cert.EvenWgradIdeal.sig) → Buf (Elt Ideal) ℓ) (g : Dev Cert.EvenWgradIdeal.nD → PrngReg), Pre_EvenWgradIdeal m →
    θ_run (Cert.EvenWgradIdeal.defs (F := Ideal)) (onTc (τ := Cert.EvenWgradIdeal.τ) (Cert.EvenWgradIdeal.main (F := Ideal))) ⟨m, fun _ => 0, g⟩ (fun r => (∀ c : Dev Cert.EvenWgradIdeal.nD,
      r.2.mem ((c.tc : Thread Cert.EvenWgradIdeal.nD Cert.EvenWgradIdeal.τ).loc Cert.EvenWgradIdeal.main_arg0) = m ((c.tc : Thread Cert.EvenWgradIdeal.nD Cert.EvenWgradIdeal.τ).loc Cert.EvenWgradIdeal.main_arg0)
      ∧ r.2.mem ((c.tc : Thread Cert.EvenWgradIdeal.nD Cert.EvenWgradIdeal.τ).loc Cert.EvenWgradIdeal.main_arg1) = m ((c.tc : Thread Cert.EvenWgradIdeal.nD Cert.EvenWgradIdeal.τ).loc Cert.EvenWgradIdeal.main_arg1)
      ∧ r.2.mem ((c.tc : Thread Cert.EvenWgradIdeal.nD Cert.EvenWgradIdeal.τ).loc Cert.EvenWgradIdeal.main_arg2) = m ((c.tc : Thread Cert.EvenWgradIdeal.nD Cert.EvenWgradIdeal.τ).loc Cert.EvenWgradIdeal.main_arg2)
      ∧ r.2.mem ((c.tc : Thread Cert.EvenWgradIdeal.nD Cert.EvenWgradIdeal.τ).loc Cert.EvenWgradIdeal.main_arg3) = m ((c.tc : Thread Cert.EvenWgradIdeal.nD Cert.EvenWgradIdeal.τ).loc Cert.EvenWgradIdeal.main_arg3)
      ∧ r.2.mem ((c.tc : Thread Cert.EvenWgradIdeal.nD Cert.EvenWgradIdeal.τ).loc Cert.EvenWgradIdeal.main_arg4) = m ((c.tc : Thread Cert.EvenWgradIdeal.nD Cert.EvenWgradIdeal.τ).loc Cert.EvenWgradIdeal.main_arg4)
      ∧ r.2.mem ((c.tc : Thread Cert.EvenWgradIdeal.nD Cert.EvenWgradIdeal.τ).loc Cert.EvenWgradIdeal.main_arg5) = m ((c.tc : Thread Cert.EvenWgradIdeal.nD Cert.EvenWgradIdeal.τ).loc Cert.EvenWgradIdeal.main_arg5))
      ∧ r.2.sem = fun _ => 0)

def quiescent_EvenWgradRefIdeal [hEvenWgradRefIdeal : Cert.EvenWgradRefIdeal.Facts] : Prop :=
  ∀ (m : (ℓ : Loc Cert.EvenWgradRefIdeal.nD Cert.EvenWgradRefIdeal.τ Cert.EvenWgradRefIdeal.sig) → Buf (Elt Ideal) ℓ) (g : Dev Cert.EvenWgradRefIdeal.nD → PrngReg), Pre_EvenWgradRefIdeal m →
    θ_run (Cert.EvenWgradRefIdeal.defs (F := Ideal)) (onTc (τ := Cert.EvenWgradRefIdeal.τ) (Cert.EvenWgradRefIdeal.main (F := Ideal))) ⟨m, fun _ => 0, g⟩ (fun r => (∀ c : Dev Cert.EvenWgradRefIdeal.nD,
      r.2.mem ((c.tc : Thread Cert.EvenWgradRefIdeal.nD Cert.EvenWgradRefIdeal.τ).loc Cert.EvenWgradRefIdeal.main_arg0) = m ((c.tc : Thread Cert.EvenWgradRefIdeal.nD Cert.EvenWgradRefIdeal.τ).loc Cert.EvenWgradRefIdeal.main_arg0)
      ∧ r.2.mem ((c.tc : Thread Cert.EvenWgradRefIdeal.nD Cert.EvenWgradRefIdeal.τ).loc Cert.EvenWgradRefIdeal.main_arg1) = m ((c.tc : Thread Cert.EvenWgradRefIdeal.nD Cert.EvenWgradRefIdeal.τ).loc Cert.EvenWgradRefIdeal.main_arg1)
      ∧ r.2.mem ((c.tc : Thread Cert.EvenWgradRefIdeal.nD Cert.EvenWgradRefIdeal.τ).loc Cert.EvenWgradRefIdeal.main_arg2) = m ((c.tc : Thread Cert.EvenWgradRefIdeal.nD Cert.EvenWgradRefIdeal.τ).loc Cert.EvenWgradRefIdeal.main_arg2)
      ∧ r.2.mem ((c.tc : Thread Cert.EvenWgradRefIdeal.nD Cert.EvenWgradRefIdeal.τ).loc Cert.EvenWgradRefIdeal.main_arg3) = m ((c.tc : Thread Cert.EvenWgradRefIdeal.nD Cert.EvenWgradRefIdeal.τ).loc Cert.EvenWgradRefIdeal.main_arg3)
      ∧ r.2.mem ((c.tc : Thread Cert.EvenWgradRefIdeal.nD Cert.EvenWgradRefIdeal.τ).loc Cert.EvenWgradRefIdeal.main_arg4) = m ((c.tc : Thread Cert.EvenWgradRefIdeal.nD Cert.EvenWgradRefIdeal.τ).loc Cert.EvenWgradRefIdeal.main_arg4)
      ∧ r.2.mem ((c.tc : Thread Cert.EvenWgradRefIdeal.nD Cert.EvenWgradRefIdeal.τ).loc Cert.EvenWgradRefIdeal.main_arg5) = m ((c.tc : Thread Cert.EvenWgradRefIdeal.nD Cert.EvenWgradRefIdeal.τ).loc Cert.EvenWgradRefIdeal.main_arg5))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1))
      ∧ r.2.sem = fun _ => 0)

def quiescent_OutFwdRefIdeal [hOutFwdRefIdeal : Cert.OutFwdRefIdeal.Facts] : Prop :=
  ∀ (m : (ℓ : Loc Cert.OutFwdRefIdeal.nD Cert.OutFwdRefIdeal.τ Cert.OutFwdRefIdeal.sig) → Buf (Elt Ideal) ℓ) (g : Dev Cert.OutFwdRefIdeal.nD → PrngReg), Pre_OutFwdRefIdeal m →
    θ_run (Cert.OutFwdRefIdeal.defs (F := Ideal)) (onTc (τ := Cert.OutFwdRefIdeal.τ) (Cert.OutFwdRefIdeal.main (F := Ideal))) ⟨m, fun _ => 0, g⟩ (fun r => (∀ c : Dev Cert.OutFwdRefIdeal.nD,
      r.2.mem ((c.tc : Thread Cert.OutFwdRefIdeal.nD Cert.OutFwdRefIdeal.τ).loc Cert.OutFwdRefIdeal.main_arg0) = m ((c.tc : Thread Cert.OutFwdRefIdeal.nD Cert.OutFwdRefIdeal.τ).loc Cert.OutFwdRefIdeal.main_arg0)
      ∧ r.2.mem ((c.tc : Thread Cert.OutFwdRefIdeal.nD Cert.OutFwdRefIdeal.τ).loc Cert.OutFwdRefIdeal.main_arg1) = m ((c.tc : Thread Cert.OutFwdRefIdeal.nD Cert.OutFwdRefIdeal.τ).loc Cert.OutFwdRefIdeal.main_arg1))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1))
      ∧ r.2.sem = fun _ => 0)

def quiescent_InFwdRefIdeal [hInFwdRefIdeal : Cert.InFwdRefIdeal.Facts] : Prop :=
  ∀ (m : (ℓ : Loc Cert.InFwdRefIdeal.nD Cert.InFwdRefIdeal.τ Cert.InFwdRefIdeal.sig) → Buf (Elt Ideal) ℓ) (g : Dev Cert.InFwdRefIdeal.nD → PrngReg), Pre_InFwdRefIdeal m →
    θ_run (Cert.InFwdRefIdeal.defs (F := Ideal)) (onTc (τ := Cert.InFwdRefIdeal.τ) (Cert.InFwdRefIdeal.main (F := Ideal))) ⟨m, fun _ => 0, g⟩ (fun r => (∀ c : Dev Cert.InFwdRefIdeal.nD,
      r.2.mem ((c.tc : Thread Cert.InFwdRefIdeal.nD Cert.InFwdRefIdeal.τ).loc Cert.InFwdRefIdeal.main_arg0) = m ((c.tc : Thread Cert.InFwdRefIdeal.nD Cert.InFwdRefIdeal.τ).loc Cert.InFwdRefIdeal.main_arg0)
      ∧ r.2.mem ((c.tc : Thread Cert.InFwdRefIdeal.nD Cert.InFwdRefIdeal.τ).loc Cert.InFwdRefIdeal.main_arg1) = m ((c.tc : Thread Cert.InFwdRefIdeal.nD Cert.InFwdRefIdeal.τ).loc Cert.InFwdRefIdeal.main_arg1))
      ∧ r.2.sem = fun _ => 0)

def quiescent_GateBwd [hGateBwd : Cert.GateBwd.Facts] : Prop :=
  ∀ (m : (ℓ : Loc Cert.GateBwd.nD Cert.GateBwd.τ Cert.GateBwd.sig) → Buf (Elt Bits) ℓ) (g : Dev Cert.GateBwd.nD → PrngReg), Pre_GateBwd m →
    θ_run (Cert.GateBwd.defs (F := Bits)) (onTc (τ := Cert.GateBwd.τ) (Cert.GateBwd.main (F := Bits))) ⟨m, fun _ => 0, g⟩ (fun r => (∀ c : Dev Cert.GateBwd.nD,
      r.2.mem ((c.tc : Thread Cert.GateBwd.nD Cert.GateBwd.τ).loc Cert.GateBwd.main_arg0) = m ((c.tc : Thread Cert.GateBwd.nD Cert.GateBwd.τ).loc Cert.GateBwd.main_arg0)
      ∧ r.2.mem ((c.tc : Thread Cert.GateBwd.nD Cert.GateBwd.τ).loc Cert.GateBwd.main_arg1) = m ((c.tc : Thread Cert.GateBwd.nD Cert.GateBwd.τ).loc Cert.GateBwd.main_arg1)
      ∧ r.2.mem ((c.tc : Thread Cert.GateBwd.nD Cert.GateBwd.τ).loc Cert.GateBwd.main_arg2) = m ((c.tc : Thread Cert.GateBwd.nD Cert.GateBwd.τ).loc Cert.GateBwd.main_arg2)
      ∧ r.2.mem ((c.tc : Thread Cert.GateBwd.nD Cert.GateBwd.τ).loc Cert.GateBwd.main_arg3) = m ((c.tc : Thread Cert.GateBwd.nD Cert.GateBwd.τ).loc Cert.GateBwd.main_arg3)
      ∧ r.2.mem ((c.tc : Thread Cert.GateBwd.nD Cert.GateBwd.τ).loc Cert.GateBwd.main_arg4) = m ((c.tc : Thread Cert.GateBwd.nD Cert.GateBwd.τ).loc Cert.GateBwd.main_arg4))
      ∧ r.2.sem = fun _ => 0)

def quiescent_GateBwdIdeal [hGateBwdIdeal : Cert.GateBwdIdeal.Facts] : Prop :=
  ∀ (m : (ℓ : Loc Cert.GateBwdIdeal.nD Cert.GateBwdIdeal.τ Cert.GateBwdIdeal.sig) → Buf (Elt Ideal) ℓ) (g : Dev Cert.GateBwdIdeal.nD → PrngReg), Pre_GateBwdIdeal m →
    θ_run (Cert.GateBwdIdeal.defs (F := Ideal)) (onTc (τ := Cert.GateBwdIdeal.τ) (Cert.GateBwdIdeal.main (F := Ideal))) ⟨m, fun _ => 0, g⟩ (fun r => (∀ c : Dev Cert.GateBwdIdeal.nD,
      r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
      ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
      ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
      ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3)
      ∧ r.2.mem ((c.tc : Thread Cert.GateBwdIdeal.nD Cert.GateBwdIdeal.τ).loc Cert.GateBwdIdeal.main_arg4) = m ((c.tc : Thread Cert.GateBwdIdeal.nD Cert.GateBwdIdeal.τ).loc Cert.GateBwdIdeal.main_arg4))
      ∧ r.2.sem = fun _ => 0)

def quiescent_GateBwdIdeal_pre_gate_bwd_finite [hGateBwdIdeal : Cert.GateBwdIdeal.Facts] [hPre_gate_bwd_finite : Cert.Pre_gate_bwd_finite.Facts] : Prop :=
  ∀ (m : (ℓ : Loc Cert.GateBwdIdeal.nD Cert.GateBwdIdeal.τ Cert.GateBwdIdeal.sig) → Buf (Elt Ideal) ℓ) (g : Dev Cert.GateBwdIdeal.nD → PrngReg), Pre_GateBwdIdeal_gate_bwd_finite m →
    θ_run (Cert.GateBwdIdeal.defs (F := Ideal)) (onTc (τ := Cert.GateBwdIdeal.τ) (Cert.GateBwdIdeal.main (F := Ideal))) ⟨m, fun _ => 0, g⟩ (fun r => (∀ c : Dev Cert.GateBwdIdeal.nD,
      r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
      ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
      ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
      ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3)
      ∧ r.2.mem ((c.tc : Thread Cert.GateBwdIdeal.nD Cert.GateBwdIdeal.τ).loc Cert.GateBwdIdeal.main_arg4) = m ((c.tc : Thread Cert.GateBwdIdeal.nD Cert.GateBwdIdeal.τ).loc Cert.GateBwdIdeal.main_arg4))
      ∧ r.2.sem = fun _ => 0)

def quiescent_GateBwdRefIdeal [hGateBwdRefIdeal : Cert.GateBwdRefIdeal.Facts] : Prop :=
  ∀ (m : (ℓ : Loc Cert.GateBwdRefIdeal.nD Cert.GateBwdRefIdeal.τ Cert.GateBwdRefIdeal.sig) → Buf (Elt Ideal) ℓ) (g : Dev Cert.GateBwdRefIdeal.nD → PrngReg), Pre_GateBwdRefIdeal m →
    θ_run (Cert.GateBwdRefIdeal.defs (F := Ideal)) (onTc (τ := Cert.GateBwdRefIdeal.τ) (Cert.GateBwdRefIdeal.main (F := Ideal))) ⟨m, fun _ => 0, g⟩ (fun r => (∀ c : Dev Cert.GateBwdRefIdeal.nD,
      r.2.mem ((c.tc : Thread Cert.GateBwdRefIdeal.nD Cert.GateBwdRefIdeal.τ).loc Cert.GateBwdRefIdeal.main_arg0) = m ((c.tc : Thread Cert.GateBwdRefIdeal.nD Cert.GateBwdRefIdeal.τ).loc Cert.GateBwdRefIdeal.main_arg0)
      ∧ r.2.mem ((c.tc : Thread Cert.GateBwdRefIdeal.nD Cert.GateBwdRefIdeal.τ).loc Cert.GateBwdRefIdeal.main_arg1) = m ((c.tc : Thread Cert.GateBwdRefIdeal.nD Cert.GateBwdRefIdeal.τ).loc Cert.GateBwdRefIdeal.main_arg1)
      ∧ r.2.mem ((c.tc : Thread Cert.GateBwdRefIdeal.nD Cert.GateBwdRefIdeal.τ).loc Cert.GateBwdRefIdeal.main_arg2) = m ((c.tc : Thread Cert.GateBwdRefIdeal.nD Cert.GateBwdRefIdeal.τ).loc Cert.GateBwdRefIdeal.main_arg2)
      ∧ r.2.mem ((c.tc : Thread Cert.GateBwdRefIdeal.nD Cert.GateBwdRefIdeal.τ).loc Cert.GateBwdRefIdeal.main_arg3) = m ((c.tc : Thread Cert.GateBwdRefIdeal.nD Cert.GateBwdRefIdeal.τ).loc Cert.GateBwdRefIdeal.main_arg3)
      ∧ r.2.mem ((c.tc : Thread Cert.GateBwdRefIdeal.nD Cert.GateBwdRefIdeal.τ).loc Cert.GateBwdRefIdeal.main_arg4) = m ((c.tc : Thread Cert.GateBwdRefIdeal.nD Cert.GateBwdRefIdeal.τ).loc Cert.GateBwdRefIdeal.main_arg4))
      ∧ r.2.sem = fun _ => 0)

def quiescent_GateBwdRefIdeal_pre_gate_bwd_finite [hGateBwdRefIdeal : Cert.GateBwdRefIdeal.Facts] [hPre_gate_bwd_finite : Cert.Pre_gate_bwd_finite.Facts] : Prop :=
  ∀ (m : (ℓ : Loc Cert.GateBwdRefIdeal.nD Cert.GateBwdRefIdeal.τ Cert.GateBwdRefIdeal.sig) → Buf (Elt Ideal) ℓ) (g : Dev Cert.GateBwdRefIdeal.nD → PrngReg), Pre_GateBwdRefIdeal_gate_bwd_finite m →
    θ_run (Cert.GateBwdRefIdeal.defs (F := Ideal)) (onTc (τ := Cert.GateBwdRefIdeal.τ) (Cert.GateBwdRefIdeal.main (F := Ideal))) ⟨m, fun _ => 0, g⟩ (fun r => (∀ c : Dev Cert.GateBwdRefIdeal.nD,
      r.2.mem ((c.tc : Thread Cert.GateBwdRefIdeal.nD Cert.GateBwdRefIdeal.τ).loc Cert.GateBwdRefIdeal.main_arg0) = m ((c.tc : Thread Cert.GateBwdRefIdeal.nD Cert.GateBwdRefIdeal.τ).loc Cert.GateBwdRefIdeal.main_arg0)
      ∧ r.2.mem ((c.tc : Thread Cert.GateBwdRefIdeal.nD Cert.GateBwdRefIdeal.τ).loc Cert.GateBwdRefIdeal.main_arg1) = m ((c.tc : Thread Cert.GateBwdRefIdeal.nD Cert.GateBwdRefIdeal.τ).loc Cert.GateBwdRefIdeal.main_arg1)
      ∧ r.2.mem ((c.tc : Thread Cert.GateBwdRefIdeal.nD Cert.GateBwdRefIdeal.τ).loc Cert.GateBwdRefIdeal.main_arg2) = m ((c.tc : Thread Cert.GateBwdRefIdeal.nD Cert.GateBwdRefIdeal.τ).loc Cert.GateBwdRefIdeal.main_arg2)
      ∧ r.2.mem ((c.tc : Thread Cert.GateBwdRefIdeal.nD Cert.GateBwdRefIdeal.τ).loc Cert.GateBwdRefIdeal.main_arg3) = m ((c.tc : Thread Cert.GateBwdRefIdeal.nD Cert.GateBwdRefIdeal.τ).loc Cert.GateBwdRefIdeal.main_arg3)
      ∧ r.2.mem ((c.tc : Thread Cert.GateBwdRefIdeal.nD Cert.GateBwdRefIdeal.τ).loc Cert.GateBwdRefIdeal.main_arg4) = m ((c.tc : Thread Cert.GateBwdRefIdeal.nD Cert.GateBwdRefIdeal.τ).loc Cert.GateBwdRefIdeal.main_arg4))
      ∧ r.2.sem = fun _ => 0)

def quiescent_EvenBwd [hEvenBwd : Cert.EvenBwd.Facts] : Prop :=
  ∀ (m : (ℓ : Loc Cert.EvenBwd.nD Cert.EvenBwd.τ Cert.EvenBwd.sig) → Buf (Elt Bits) ℓ) (g : Dev Cert.EvenBwd.nD → PrngReg), Pre_EvenBwd m →
    θ_run (Cert.EvenBwd.defs (F := Bits)) (onTc (τ := Cert.EvenBwd.τ) (Cert.EvenBwd.main (F := Bits))) ⟨m, fun _ => 0, g⟩ (fun r => (∀ c : Dev Cert.EvenBwd.nD,
      r.2.mem ((c.tc : Thread Cert.EvenBwd.nD Cert.EvenBwd.τ).loc Cert.EvenBwd.main_arg0) = m ((c.tc : Thread Cert.EvenBwd.nD Cert.EvenBwd.τ).loc Cert.EvenBwd.main_arg0)
      ∧ r.2.mem ((c.tc : Thread Cert.EvenBwd.nD Cert.EvenBwd.τ).loc Cert.EvenBwd.main_arg1) = m ((c.tc : Thread Cert.EvenBwd.nD Cert.EvenBwd.τ).loc Cert.EvenBwd.main_arg1)
      ∧ r.2.mem ((c.tc : Thread Cert.EvenBwd.nD Cert.EvenBwd.τ).loc Cert.EvenBwd.main_arg2) = m ((c.tc : Thread Cert.EvenBwd.nD Cert.EvenBwd.τ).loc Cert.EvenBwd.main_arg2)
      ∧ r.2.mem ((c.tc : Thread Cert.EvenBwd.nD Cert.EvenBwd.τ).loc Cert.EvenBwd.main_arg3) = m ((c.tc : Thread Cert.EvenBwd.nD Cert.EvenBwd.τ).loc Cert.EvenBwd.main_arg3)
      ∧ r.2.mem ((c.tc : Thread Cert.EvenBwd.nD Cert.EvenBwd.τ).loc Cert.EvenBwd.main_arg4) = m ((c.tc : Thread Cert.EvenBwd.nD Cert.EvenBwd.τ).loc Cert.EvenBwd.main_arg4)
      ∧ r.2.mem ((c.tc : Thread Cert.EvenBwd.nD Cert.EvenBwd.τ).loc Cert.EvenBwd.main_arg5) = m ((c.tc : Thread Cert.EvenBwd.nD Cert.EvenBwd.τ).loc Cert.EvenBwd.main_arg5)
      ∧ r.2.mem ((c.tc : Thread Cert.EvenBwd.nD Cert.EvenBwd.τ).loc Cert.EvenBwd.main_arg6) = m ((c.tc : Thread Cert.EvenBwd.nD Cert.EvenBwd.τ).loc Cert.EvenBwd.main_arg6)
      ∧ r.2.mem ((c.tc : Thread Cert.EvenBwd.nD Cert.EvenBwd.τ).loc Cert.EvenBwd.main_arg7) = m ((c.tc : Thread Cert.EvenBwd.nD Cert.EvenBwd.τ).loc Cert.EvenBwd.main_arg7)
      ∧ r.2.mem ((c.tc : Thread Cert.EvenBwd.nD Cert.EvenBwd.τ).loc Cert.EvenBwd.main_arg8) = m ((c.tc : Thread Cert.EvenBwd.nD Cert.EvenBwd.τ).loc Cert.EvenBwd.main_arg8)
      ∧ r.2.mem ((c.tc : Thread Cert.EvenBwd.nD Cert.EvenBwd.τ).loc Cert.EvenBwd.main_arg9) = m ((c.tc : Thread Cert.EvenBwd.nD Cert.EvenBwd.τ).loc Cert.EvenBwd.main_arg9))
      ∧ r.2.sem = fun _ => 0)

def quiescent_EvenBwdIdeal [hEvenBwdIdeal : Cert.EvenBwdIdeal.Facts] : Prop :=
  ∀ (m : (ℓ : Loc Cert.EvenBwdIdeal.nD Cert.EvenBwdIdeal.τ Cert.EvenBwdIdeal.sig) → Buf (Elt Ideal) ℓ) (g : Dev Cert.EvenBwdIdeal.nD → PrngReg), Pre_EvenBwdIdeal m →
    θ_run (Cert.EvenBwdIdeal.defs (F := Ideal)) (onTc (τ := Cert.EvenBwdIdeal.τ) (Cert.EvenBwdIdeal.main (F := Ideal))) ⟨m, fun _ => 0, g⟩ (fun r => (∀ c : Dev Cert.EvenBwdIdeal.nD,
      r.2.mem ((c.tc : Thread Cert.EvenBwdIdeal.nD Cert.EvenBwdIdeal.τ).loc Cert.EvenBwdIdeal.main_arg0) = m ((c.tc : Thread Cert.EvenBwdIdeal.nD Cert.EvenBwdIdeal.τ).loc Cert.EvenBwdIdeal.main_arg0)
      ∧ r.2.mem ((c.tc : Thread Cert.EvenBwdIdeal.nD Cert.EvenBwdIdeal.τ).loc Cert.EvenBwdIdeal.main_arg1) = m ((c.tc : Thread Cert.EvenBwdIdeal.nD Cert.EvenBwdIdeal.τ).loc Cert.EvenBwdIdeal.main_arg1)
      ∧ r.2.mem ((c.tc : Thread Cert.EvenBwdIdeal.nD Cert.EvenBwdIdeal.τ).loc Cert.EvenBwdIdeal.main_arg2) = m ((c.tc : Thread Cert.EvenBwdIdeal.nD Cert.EvenBwdIdeal.τ).loc Cert.EvenBwdIdeal.main_arg2)
      ∧ r.2.mem ((c.tc : Thread Cert.EvenBwdIdeal.nD Cert.EvenBwdIdeal.τ).loc Cert.EvenBwdIdeal.main_arg3) = m ((c.tc : Thread Cert.EvenBwdIdeal.nD Cert.EvenBwdIdeal.τ).loc Cert.EvenBwdIdeal.main_arg3)
      ∧ r.2.mem ((c.tc : Thread Cert.EvenBwdIdeal.nD Cert.EvenBwdIdeal.τ).loc Cert.EvenBwdIdeal.main_arg4) = m ((c.tc : Thread Cert.EvenBwdIdeal.nD Cert.EvenBwdIdeal.τ).loc Cert.EvenBwdIdeal.main_arg4)
      ∧ r.2.mem ((c.tc : Thread Cert.EvenBwdIdeal.nD Cert.EvenBwdIdeal.τ).loc Cert.EvenBwdIdeal.main_arg5) = m ((c.tc : Thread Cert.EvenBwdIdeal.nD Cert.EvenBwdIdeal.τ).loc Cert.EvenBwdIdeal.main_arg5)
      ∧ r.2.mem ((c.tc : Thread Cert.EvenBwdIdeal.nD Cert.EvenBwdIdeal.τ).loc Cert.EvenBwdIdeal.main_arg6) = m ((c.tc : Thread Cert.EvenBwdIdeal.nD Cert.EvenBwdIdeal.τ).loc Cert.EvenBwdIdeal.main_arg6)
      ∧ r.2.mem ((c.tc : Thread Cert.EvenBwdIdeal.nD Cert.EvenBwdIdeal.τ).loc Cert.EvenBwdIdeal.main_arg7) = m ((c.tc : Thread Cert.EvenBwdIdeal.nD Cert.EvenBwdIdeal.τ).loc Cert.EvenBwdIdeal.main_arg7)
      ∧ r.2.mem ((c.tc : Thread Cert.EvenBwdIdeal.nD Cert.EvenBwdIdeal.τ).loc Cert.EvenBwdIdeal.main_arg8) = m ((c.tc : Thread Cert.EvenBwdIdeal.nD Cert.EvenBwdIdeal.τ).loc Cert.EvenBwdIdeal.main_arg8)
      ∧ r.2.mem ((c.tc : Thread Cert.EvenBwdIdeal.nD Cert.EvenBwdIdeal.τ).loc Cert.EvenBwdIdeal.main_arg9) = m ((c.tc : Thread Cert.EvenBwdIdeal.nD Cert.EvenBwdIdeal.τ).loc Cert.EvenBwdIdeal.main_arg9))
      ∧ r.2.sem = fun _ => 0)

def quiescent_EvenBwdIdeal_pre_even_bwd_finite [hEvenBwdIdeal : Cert.EvenBwdIdeal.Facts] [hPre_even_bwd_finite : Cert.Pre_even_bwd_finite.Facts] : Prop :=
  ∀ (m : (ℓ : Loc Cert.EvenBwdIdeal.nD Cert.EvenBwdIdeal.τ Cert.EvenBwdIdeal.sig) → Buf (Elt Ideal) ℓ) (g : Dev Cert.EvenBwdIdeal.nD → PrngReg), Pre_EvenBwdIdeal_even_bwd_finite m →
    θ_run (Cert.EvenBwdIdeal.defs (F := Ideal)) (onTc (τ := Cert.EvenBwdIdeal.τ) (Cert.EvenBwdIdeal.main (F := Ideal))) ⟨m, fun _ => 0, g⟩ (fun r => (∀ c : Dev Cert.EvenBwdIdeal.nD,
      r.2.mem ((c.tc : Thread Cert.EvenBwdIdeal.nD Cert.EvenBwdIdeal.τ).loc Cert.EvenBwdIdeal.main_arg0) = m ((c.tc : Thread Cert.EvenBwdIdeal.nD Cert.EvenBwdIdeal.τ).loc Cert.EvenBwdIdeal.main_arg0)
      ∧ r.2.mem ((c.tc : Thread Cert.EvenBwdIdeal.nD Cert.EvenBwdIdeal.τ).loc Cert.EvenBwdIdeal.main_arg1) = m ((c.tc : Thread Cert.EvenBwdIdeal.nD Cert.EvenBwdIdeal.τ).loc Cert.EvenBwdIdeal.main_arg1)
      ∧ r.2.mem ((c.tc : Thread Cert.EvenBwdIdeal.nD Cert.EvenBwdIdeal.τ).loc Cert.EvenBwdIdeal.main_arg2) = m ((c.tc : Thread Cert.EvenBwdIdeal.nD Cert.EvenBwdIdeal.τ).loc Cert.EvenBwdIdeal.main_arg2)
      ∧ r.2.mem ((c.tc : Thread Cert.EvenBwdIdeal.nD Cert.EvenBwdIdeal.τ).loc Cert.EvenBwdIdeal.main_arg3) = m ((c.tc : Thread Cert.EvenBwdIdeal.nD Cert.EvenBwdIdeal.τ).loc Cert.EvenBwdIdeal.main_arg3)
      ∧ r.2.mem ((c.tc : Thread Cert.EvenBwdIdeal.nD Cert.EvenBwdIdeal.τ).loc Cert.EvenBwdIdeal.main_arg4) = m ((c.tc : Thread Cert.EvenBwdIdeal.nD Cert.EvenBwdIdeal.τ).loc Cert.EvenBwdIdeal.main_arg4)
      ∧ r.2.mem ((c.tc : Thread Cert.EvenBwdIdeal.nD Cert.EvenBwdIdeal.τ).loc Cert.EvenBwdIdeal.main_arg5) = m ((c.tc : Thread Cert.EvenBwdIdeal.nD Cert.EvenBwdIdeal.τ).loc Cert.EvenBwdIdeal.main_arg5)
      ∧ r.2.mem ((c.tc : Thread Cert.EvenBwdIdeal.nD Cert.EvenBwdIdeal.τ).loc Cert.EvenBwdIdeal.main_arg6) = m ((c.tc : Thread Cert.EvenBwdIdeal.nD Cert.EvenBwdIdeal.τ).loc Cert.EvenBwdIdeal.main_arg6)
      ∧ r.2.mem ((c.tc : Thread Cert.EvenBwdIdeal.nD Cert.EvenBwdIdeal.τ).loc Cert.EvenBwdIdeal.main_arg7) = m ((c.tc : Thread Cert.EvenBwdIdeal.nD Cert.EvenBwdIdeal.τ).loc Cert.EvenBwdIdeal.main_arg7)
      ∧ r.2.mem ((c.tc : Thread Cert.EvenBwdIdeal.nD Cert.EvenBwdIdeal.τ).loc Cert.EvenBwdIdeal.main_arg8) = m ((c.tc : Thread Cert.EvenBwdIdeal.nD Cert.EvenBwdIdeal.τ).loc Cert.EvenBwdIdeal.main_arg8)
      ∧ r.2.mem ((c.tc : Thread Cert.EvenBwdIdeal.nD Cert.EvenBwdIdeal.τ).loc Cert.EvenBwdIdeal.main_arg9) = m ((c.tc : Thread Cert.EvenBwdIdeal.nD Cert.EvenBwdIdeal.τ).loc Cert.EvenBwdIdeal.main_arg9))
      ∧ r.2.sem = fun _ => 0)

def quiescent_EvenBwdRefIdeal [hEvenBwdRefIdeal : Cert.EvenBwdRefIdeal.Facts] : Prop :=
  ∀ (m : (ℓ : Loc Cert.EvenBwdRefIdeal.nD Cert.EvenBwdRefIdeal.τ Cert.EvenBwdRefIdeal.sig) → Buf (Elt Ideal) ℓ) (g : Dev Cert.EvenBwdRefIdeal.nD → PrngReg), Pre_EvenBwdRefIdeal m →
    θ_run (Cert.EvenBwdRefIdeal.defs (F := Ideal)) (onTc (τ := Cert.EvenBwdRefIdeal.τ) (Cert.EvenBwdRefIdeal.main (F := Ideal))) ⟨m, fun _ => 0, g⟩ (fun r => (∀ c : Dev Cert.EvenBwdRefIdeal.nD,
      r.2.mem ((c.tc : Thread Cert.EvenBwdRefIdeal.nD Cert.EvenBwdRefIdeal.τ).loc Cert.EvenBwdRefIdeal.main_arg0) = m ((c.tc : Thread Cert.EvenBwdRefIdeal.nD Cert.EvenBwdRefIdeal.τ).loc Cert.EvenBwdRefIdeal.main_arg0)
      ∧ r.2.mem ((c.tc : Thread Cert.EvenBwdRefIdeal.nD Cert.EvenBwdRefIdeal.τ).loc Cert.EvenBwdRefIdeal.main_arg1) = m ((c.tc : Thread Cert.EvenBwdRefIdeal.nD Cert.EvenBwdRefIdeal.τ).loc Cert.EvenBwdRefIdeal.main_arg1)
      ∧ r.2.mem ((c.tc : Thread Cert.EvenBwdRefIdeal.nD Cert.EvenBwdRefIdeal.τ).loc Cert.EvenBwdRefIdeal.main_arg2) = m ((c.tc : Thread Cert.EvenBwdRefIdeal.nD Cert.EvenBwdRefIdeal.τ).loc Cert.EvenBwdRefIdeal.main_arg2)
      ∧ r.2.mem ((c.tc : Thread Cert.EvenBwdRefIdeal.nD Cert.EvenBwdRefIdeal.τ).loc Cert.EvenBwdRefIdeal.main_arg3) = m ((c.tc : Thread Cert.EvenBwdRefIdeal.nD Cert.EvenBwdRefIdeal.τ).loc Cert.EvenBwdRefIdeal.main_arg3)
      ∧ r.2.mem ((c.tc : Thread Cert.EvenBwdRefIdeal.nD Cert.EvenBwdRefIdeal.τ).loc Cert.EvenBwdRefIdeal.main_arg4) = m ((c.tc : Thread Cert.EvenBwdRefIdeal.nD Cert.EvenBwdRefIdeal.τ).loc Cert.EvenBwdRefIdeal.main_arg4)
      ∧ r.2.mem ((c.tc : Thread Cert.EvenBwdRefIdeal.nD Cert.EvenBwdRefIdeal.τ).loc Cert.EvenBwdRefIdeal.main_arg5) = m ((c.tc : Thread Cert.EvenBwdRefIdeal.nD Cert.EvenBwdRefIdeal.τ).loc Cert.EvenBwdRefIdeal.main_arg5)
      ∧ r.2.mem ((c.tc : Thread Cert.EvenBwdRefIdeal.nD Cert.EvenBwdRefIdeal.τ).loc Cert.EvenBwdRefIdeal.main_arg6) = m ((c.tc : Thread Cert.EvenBwdRefIdeal.nD Cert.EvenBwdRefIdeal.τ).loc Cert.EvenBwdRefIdeal.main_arg6)
      ∧ r.2.mem ((c.tc : Thread Cert.EvenBwdRefIdeal.nD Cert.EvenBwdRefIdeal.τ).loc Cert.EvenBwdRefIdeal.main_arg7) = m ((c.tc : Thread Cert.EvenBwdRefIdeal.nD Cert.EvenBwdRefIdeal.τ).loc Cert.EvenBwdRefIdeal.main_arg7)
      ∧ r.2.mem ((c.tc : Thread Cert.EvenBwdRefIdeal.nD Cert.EvenBwdRefIdeal.τ).loc Cert.EvenBwdRefIdeal.main_arg8) = m ((c.tc : Thread Cert.EvenBwdRefIdeal.nD Cert.EvenBwdRefIdeal.τ).loc Cert.EvenBwdRefIdeal.main_arg8)
      ∧ r.2.mem ((c.tc : Thread Cert.EvenBwdRefIdeal.nD Cert.EvenBwdRefIdeal.τ).loc Cert.EvenBwdRefIdeal.main_arg9) = m ((c.tc : Thread Cert.EvenBwdRefIdeal.nD Cert.EvenBwdRefIdeal.τ).loc Cert.EvenBwdRefIdeal.main_arg9))
      ∧ r.2.sem = fun _ => 0)

def quiescent_EvenBwdRefIdeal_pre_even_bwd_finite [hEvenBwdRefIdeal : Cert.EvenBwdRefIdeal.Facts] [hPre_even_bwd_finite : Cert.Pre_even_bwd_finite.Facts] : Prop :=
  ∀ (m : (ℓ : Loc Cert.EvenBwdRefIdeal.nD Cert.EvenBwdRefIdeal.τ Cert.EvenBwdRefIdeal.sig) → Buf (Elt Ideal) ℓ) (g : Dev Cert.EvenBwdRefIdeal.nD → PrngReg), Pre_EvenBwdRefIdeal_even_bwd_finite m →
    θ_run (Cert.EvenBwdRefIdeal.defs (F := Ideal)) (onTc (τ := Cert.EvenBwdRefIdeal.τ) (Cert.EvenBwdRefIdeal.main (F := Ideal))) ⟨m, fun _ => 0, g⟩ (fun r => (∀ c : Dev Cert.EvenBwdRefIdeal.nD,
      r.2.mem ((c.tc : Thread Cert.EvenBwdRefIdeal.nD Cert.EvenBwdRefIdeal.τ).loc Cert.EvenBwdRefIdeal.main_arg0) = m ((c.tc : Thread Cert.EvenBwdRefIdeal.nD Cert.EvenBwdRefIdeal.τ).loc Cert.EvenBwdRefIdeal.main_arg0)
      ∧ r.2.mem ((c.tc : Thread Cert.EvenBwdRefIdeal.nD Cert.EvenBwdRefIdeal.τ).loc Cert.EvenBwdRefIdeal.main_arg1) = m ((c.tc : Thread Cert.EvenBwdRefIdeal.nD Cert.EvenBwdRefIdeal.τ).loc Cert.EvenBwdRefIdeal.main_arg1)
      ∧ r.2.mem ((c.tc : Thread Cert.EvenBwdRefIdeal.nD Cert.EvenBwdRefIdeal.τ).loc Cert.EvenBwdRefIdeal.main_arg2) = m ((c.tc : Thread Cert.EvenBwdRefIdeal.nD Cert.EvenBwdRefIdeal.τ).loc Cert.EvenBwdRefIdeal.main_arg2)
      ∧ r.2.mem ((c.tc : Thread Cert.EvenBwdRefIdeal.nD Cert.EvenBwdRefIdeal.τ).loc Cert.EvenBwdRefIdeal.main_arg3) = m ((c.tc : Thread Cert.EvenBwdRefIdeal.nD Cert.EvenBwdRefIdeal.τ).loc Cert.EvenBwdRefIdeal.main_arg3)
      ∧ r.2.mem ((c.tc : Thread Cert.EvenBwdRefIdeal.nD Cert.EvenBwdRefIdeal.τ).loc Cert.EvenBwdRefIdeal.main_arg4) = m ((c.tc : Thread Cert.EvenBwdRefIdeal.nD Cert.EvenBwdRefIdeal.τ).loc Cert.EvenBwdRefIdeal.main_arg4)
      ∧ r.2.mem ((c.tc : Thread Cert.EvenBwdRefIdeal.nD Cert.EvenBwdRefIdeal.τ).loc Cert.EvenBwdRefIdeal.main_arg5) = m ((c.tc : Thread Cert.EvenBwdRefIdeal.nD Cert.EvenBwdRefIdeal.τ).loc Cert.EvenBwdRefIdeal.main_arg5)
      ∧ r.2.mem ((c.tc : Thread Cert.EvenBwdRefIdeal.nD Cert.EvenBwdRefIdeal.τ).loc Cert.EvenBwdRefIdeal.main_arg6) = m ((c.tc : Thread Cert.EvenBwdRefIdeal.nD Cert.EvenBwdRefIdeal.τ).loc Cert.EvenBwdRefIdeal.main_arg6)
      ∧ r.2.mem ((c.tc : Thread Cert.EvenBwdRefIdeal.nD Cert.EvenBwdRefIdeal.τ).loc Cert.EvenBwdRefIdeal.main_arg7) = m ((c.tc : Thread Cert.EvenBwdRefIdeal.nD Cert.EvenBwdRefIdeal.τ).loc Cert.EvenBwdRefIdeal.main_arg7)
      ∧ r.2.mem ((c.tc : Thread Cert.EvenBwdRefIdeal.nD Cert.EvenBwdRefIdeal.τ).loc Cert.EvenBwdRefIdeal.main_arg8) = m ((c.tc : Thread Cert.EvenBwdRefIdeal.nD Cert.EvenBwdRefIdeal.τ).loc Cert.EvenBwdRefIdeal.main_arg8)
      ∧ r.2.mem ((c.tc : Thread Cert.EvenBwdRefIdeal.nD Cert.EvenBwdRefIdeal.τ).loc Cert.EvenBwdRefIdeal.main_arg9) = m ((c.tc : Thread Cert.EvenBwdRefIdeal.nD Cert.EvenBwdRefIdeal.τ).loc Cert.EvenBwdRefIdeal.main_arg9))
      ∧ r.2.sem = fun _ => 0)

def quiescent_AdamInEven [hAdamInEven : Cert.AdamInEven.Facts] : Prop :=
  ∀ (m : (ℓ : Loc Cert.AdamInEven.nD Cert.AdamInEven.τ Cert.AdamInEven.sig) → Buf (Elt Bits) ℓ) (g : Dev Cert.AdamInEven.nD → PrngReg), Pre_AdamInEven m →
    θ_run (Cert.AdamInEven.defs (F := Bits)) (onTc (τ := Cert.AdamInEven.τ) (Cert.AdamInEven.main (F := Bits))) ⟨m, fun _ => 0, g⟩ (fun r => (∀ c : Dev Cert.AdamInEven.nD,
      r.2.mem ((c.tc : Thread Cert.AdamInEven.nD Cert.AdamInEven.τ).loc Cert.AdamInEven.main_arg0) = m ((c.tc : Thread Cert.AdamInEven.nD Cert.AdamInEven.τ).loc Cert.AdamInEven.main_arg0)
      ∧ r.2.mem ((c.tc : Thread Cert.AdamInEven.nD Cert.AdamInEven.τ).loc Cert.AdamInEven.main_arg1) = m ((c.tc : Thread Cert.AdamInEven.nD Cert.AdamInEven.τ).loc Cert.AdamInEven.main_arg1)
      ∧ r.2.mem ((c.tc : Thread Cert.AdamInEven.nD Cert.AdamInEven.τ).loc Cert.AdamInEven.main_arg2) = m ((c.tc : Thread Cert.AdamInEven.nD Cert.AdamInEven.τ).loc Cert.AdamInEven.main_arg2)
      ∧ r.2.mem ((c.tc : Thread Cert.AdamInEven.nD Cert.AdamInEven.τ).loc Cert.AdamInEven.main_arg3) = m ((c.tc : Thread Cert.AdamInEven.nD Cert.AdamInEven.τ).loc Cert.AdamInEven.main_arg3))
      ∧ r.2.sem = fun _ => 0)

def quiescent_AdamInEvenIdeal [hAdamInEvenIdeal : Cert.AdamInEvenIdeal.Facts] : Prop :=
  ∀ (m : (ℓ : Loc Cert.AdamInEvenIdeal.nD Cert.AdamInEvenIdeal.τ Cert.AdamInEvenIdeal.sig) → Buf (Elt Ideal) ℓ) (g : Dev Cert.AdamInEvenIdeal.nD → PrngReg), Pre_AdamInEvenIdeal m →
    θ_run (Cert.AdamInEvenIdeal.defs (F := Ideal)) (onTc (τ := Cert.AdamInEvenIdeal.τ) (Cert.AdamInEvenIdeal.main (F := Ideal))) ⟨m, fun _ => 0, g⟩ (fun r => (∀ c : Dev Cert.AdamInEvenIdeal.nD,
      r.2.mem ((c.tc : Thread Cert.AdamInEvenIdeal.nD Cert.AdamInEvenIdeal.τ).loc Cert.AdamInEvenIdeal.main_arg0) = m ((c.tc : Thread Cert.AdamInEvenIdeal.nD Cert.AdamInEvenIdeal.τ).loc Cert.AdamInEvenIdeal.main_arg0)
      ∧ r.2.mem ((c.tc : Thread Cert.AdamInEvenIdeal.nD Cert.AdamInEvenIdeal.τ).loc Cert.AdamInEvenIdeal.main_arg1) = m ((c.tc : Thread Cert.AdamInEvenIdeal.nD Cert.AdamInEvenIdeal.τ).loc Cert.AdamInEvenIdeal.main_arg1)
      ∧ r.2.mem ((c.tc : Thread Cert.AdamInEvenIdeal.nD Cert.AdamInEvenIdeal.τ).loc Cert.AdamInEvenIdeal.main_arg2) = m ((c.tc : Thread Cert.AdamInEvenIdeal.nD Cert.AdamInEvenIdeal.τ).loc Cert.AdamInEvenIdeal.main_arg2)
      ∧ r.2.mem ((c.tc : Thread Cert.AdamInEvenIdeal.nD Cert.AdamInEvenIdeal.τ).loc Cert.AdamInEvenIdeal.main_arg3) = m ((c.tc : Thread Cert.AdamInEvenIdeal.nD Cert.AdamInEvenIdeal.τ).loc Cert.AdamInEvenIdeal.main_arg3))
      ∧ r.2.sem = fun _ => 0)

def quiescent_AdamInEvenRefIdeal [hAdamInEvenRefIdeal : Cert.AdamInEvenRefIdeal.Facts] : Prop :=
  ∀ (m : (ℓ : Loc Cert.AdamInEvenRefIdeal.nD Cert.AdamInEvenRefIdeal.τ Cert.AdamInEvenRefIdeal.sig) → Buf (Elt Ideal) ℓ) (g : Dev Cert.AdamInEvenRefIdeal.nD → PrngReg), Pre_AdamInEvenRefIdeal m →
    θ_run (Cert.AdamInEvenRefIdeal.defs (F := Ideal)) (onTc (τ := Cert.AdamInEvenRefIdeal.τ) (Cert.AdamInEvenRefIdeal.main (F := Ideal))) ⟨m, fun _ => 0, g⟩ (fun r => (∀ c : Dev Cert.AdamInEvenRefIdeal.nD,
      r.2.mem ((c.tc : Thread Cert.AdamInEvenRefIdeal.nD Cert.AdamInEvenRefIdeal.τ).loc Cert.AdamInEvenRefIdeal.main_arg0) = m ((c.tc : Thread Cert.AdamInEvenRefIdeal.nD Cert.AdamInEvenRefIdeal.τ).loc Cert.AdamInEvenRefIdeal.main_arg0)
      ∧ r.2.mem ((c.tc : Thread Cert.AdamInEvenRefIdeal.nD Cert.AdamInEvenRefIdeal.τ).loc Cert.AdamInEvenRefIdeal.main_arg1) = m ((c.tc : Thread Cert.AdamInEvenRefIdeal.nD Cert.AdamInEvenRefIdeal.τ).loc Cert.AdamInEvenRefIdeal.main_arg1)
      ∧ r.2.mem ((c.tc : Thread Cert.AdamInEvenRefIdeal.nD Cert.AdamInEvenRefIdeal.τ).loc Cert.AdamInEvenRefIdeal.main_arg2) = m ((c.tc : Thread Cert.AdamInEvenRefIdeal.nD Cert.AdamInEvenRefIdeal.τ).loc Cert.AdamInEvenRefIdeal.main_arg2)
      ∧ r.2.mem ((c.tc : Thread Cert.AdamInEvenRefIdeal.nD Cert.AdamInEvenRefIdeal.τ).loc Cert.AdamInEvenRefIdeal.main_arg3) = m ((c.tc : Thread Cert.AdamInEvenRefIdeal.nD Cert.AdamInEvenRefIdeal.τ).loc Cert.AdamInEvenRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamInOdd [hAdamInOdd : Cert.AdamInOdd.Facts] : Prop :=
  ∀ (m : (ℓ : Loc Cert.AdamInOdd.nD Cert.AdamInOdd.τ Cert.AdamInOdd.sig) → Buf (Elt Bits) ℓ) (g : Dev Cert.AdamInOdd.nD → PrngReg), Pre_AdamInOdd m →
    θ_run (Cert.AdamInOdd.defs (F := Bits)) (onTc (τ := Cert.AdamInOdd.τ) (Cert.AdamInOdd.main (F := Bits))) ⟨m, fun _ => 0, g⟩ (fun r => (∀ c : Dev Cert.AdamInOdd.nD,
      r.2.mem ((c.tc : Thread Cert.AdamInOdd.nD Cert.AdamInOdd.τ).loc Cert.AdamInOdd.main_arg0) = m ((c.tc : Thread Cert.AdamInOdd.nD Cert.AdamInOdd.τ).loc Cert.AdamInOdd.main_arg0)
      ∧ r.2.mem ((c.tc : Thread Cert.AdamInOdd.nD Cert.AdamInOdd.τ).loc Cert.AdamInOdd.main_arg1) = m ((c.tc : Thread Cert.AdamInOdd.nD Cert.AdamInOdd.τ).loc Cert.AdamInOdd.main_arg1)
      ∧ r.2.mem ((c.tc : Thread Cert.AdamInOdd.nD Cert.AdamInOdd.τ).loc Cert.AdamInOdd.main_arg2) = m ((c.tc : Thread Cert.AdamInOdd.nD Cert.AdamInOdd.τ).loc Cert.AdamInOdd.main_arg2)
      ∧ r.2.mem ((c.tc : Thread Cert.AdamInOdd.nD Cert.AdamInOdd.τ).loc Cert.AdamInOdd.main_arg3) = m ((c.tc : Thread Cert.AdamInOdd.nD Cert.AdamInOdd.τ).loc Cert.AdamInOdd.main_arg3))
      ∧ r.2.sem = fun _ => 0)

def quiescent_AdamInOddIdeal [hAdamInOddIdeal : Cert.AdamInOddIdeal.Facts] : Prop :=
  ∀ (m : (ℓ : Loc Cert.AdamInOddIdeal.nD Cert.AdamInOddIdeal.τ Cert.AdamInOddIdeal.sig) → Buf (Elt Ideal) ℓ) (g : Dev Cert.AdamInOddIdeal.nD → PrngReg), Pre_AdamInOddIdeal m →
    θ_run (Cert.AdamInOddIdeal.defs (F := Ideal)) (onTc (τ := Cert.AdamInOddIdeal.τ) (Cert.AdamInOddIdeal.main (F := Ideal))) ⟨m, fun _ => 0, g⟩ (fun r => (∀ c : Dev Cert.AdamInOddIdeal.nD,
      r.2.mem ((c.tc : Thread Cert.AdamInOddIdeal.nD Cert.AdamInOddIdeal.τ).loc Cert.AdamInOddIdeal.main_arg0) = m ((c.tc : Thread Cert.AdamInOddIdeal.nD Cert.AdamInOddIdeal.τ).loc Cert.AdamInOddIdeal.main_arg0)
      ∧ r.2.mem ((c.tc : Thread Cert.AdamInOddIdeal.nD Cert.AdamInOddIdeal.τ).loc Cert.AdamInOddIdeal.main_arg1) = m ((c.tc : Thread Cert.AdamInOddIdeal.nD Cert.AdamInOddIdeal.τ).loc Cert.AdamInOddIdeal.main_arg1)
      ∧ r.2.mem ((c.tc : Thread Cert.AdamInOddIdeal.nD Cert.AdamInOddIdeal.τ).loc Cert.AdamInOddIdeal.main_arg2) = m ((c.tc : Thread Cert.AdamInOddIdeal.nD Cert.AdamInOddIdeal.τ).loc Cert.AdamInOddIdeal.main_arg2)
      ∧ r.2.mem ((c.tc : Thread Cert.AdamInOddIdeal.nD Cert.AdamInOddIdeal.τ).loc Cert.AdamInOddIdeal.main_arg3) = m ((c.tc : Thread Cert.AdamInOddIdeal.nD Cert.AdamInOddIdeal.τ).loc Cert.AdamInOddIdeal.main_arg3))
      ∧ r.2.sem = fun _ => 0)

def quiescent_AdamInOddRefIdeal [hAdamInOddRefIdeal : Cert.AdamInOddRefIdeal.Facts] : Prop :=
  ∀ (m : (ℓ : Loc Cert.AdamInOddRefIdeal.nD Cert.AdamInOddRefIdeal.τ Cert.AdamInOddRefIdeal.sig) → Buf (Elt Ideal) ℓ) (g : Dev Cert.AdamInOddRefIdeal.nD → PrngReg), Pre_AdamInOddRefIdeal m →
    θ_run (Cert.AdamInOddRefIdeal.defs (F := Ideal)) (onTc (τ := Cert.AdamInOddRefIdeal.τ) (Cert.AdamInOddRefIdeal.main (F := Ideal))) ⟨m, fun _ => 0, g⟩ (fun r => (∀ c : Dev Cert.AdamInOddRefIdeal.nD,
      r.2.mem ((c.tc : Thread Cert.AdamInOddRefIdeal.nD Cert.AdamInOddRefIdeal.τ).loc Cert.AdamInOddRefIdeal.main_arg0) = m ((c.tc : Thread Cert.AdamInOddRefIdeal.nD Cert.AdamInOddRefIdeal.τ).loc Cert.AdamInOddRefIdeal.main_arg0)
      ∧ r.2.mem ((c.tc : Thread Cert.AdamInOddRefIdeal.nD Cert.AdamInOddRefIdeal.τ).loc Cert.AdamInOddRefIdeal.main_arg1) = m ((c.tc : Thread Cert.AdamInOddRefIdeal.nD Cert.AdamInOddRefIdeal.τ).loc Cert.AdamInOddRefIdeal.main_arg1)
      ∧ r.2.mem ((c.tc : Thread Cert.AdamInOddRefIdeal.nD Cert.AdamInOddRefIdeal.τ).loc Cert.AdamInOddRefIdeal.main_arg2) = m ((c.tc : Thread Cert.AdamInOddRefIdeal.nD Cert.AdamInOddRefIdeal.τ).loc Cert.AdamInOddRefIdeal.main_arg2)
      ∧ r.2.mem ((c.tc : Thread Cert.AdamInOddRefIdeal.nD Cert.AdamInOddRefIdeal.τ).loc Cert.AdamInOddRefIdeal.main_arg3) = m ((c.tc : Thread Cert.AdamInOddRefIdeal.nD Cert.AdamInOddRefIdeal.τ).loc Cert.AdamInOddRefIdeal.main_arg3))
      ∧ r.2.sem = fun _ => 0)

def quiescent_AdamPool [hAdamPool : Cert.AdamPool.Facts] : Prop :=
  ∀ (m : (ℓ : Loc Cert.AdamPool.nD Cert.AdamPool.τ Cert.AdamPool.sig) → Buf (Elt Bits) ℓ) (g : Dev Cert.AdamPool.nD → PrngReg), Pre_AdamPool m →
    θ_run (Cert.AdamPool.defs (F := Bits)) (onTc (τ := Cert.AdamPool.τ) (Cert.AdamPool.main (F := Bits))) ⟨m, fun _ => 0, g⟩ (fun r => (∀ c : Dev Cert.AdamPool.nD,
      r.2.mem ((c.tc : Thread Cert.AdamPool.nD Cert.AdamPool.τ).loc Cert.AdamPool.main_arg0) = m ((c.tc : Thread Cert.AdamPool.nD Cert.AdamPool.τ).loc Cert.AdamPool.main_arg0)
      ∧ r.2.mem ((c.tc : Thread Cert.AdamPool.nD Cert.AdamPool.τ).loc Cert.AdamPool.main_arg1) = m ((c.tc : Thread Cert.AdamPool.nD Cert.AdamPool.τ).loc Cert.AdamPool.main_arg1)
      ∧ r.2.mem ((c.tc : Thread Cert.AdamPool.nD Cert.AdamPool.τ).loc Cert.AdamPool.main_arg2) = m ((c.tc : Thread Cert.AdamPool.nD Cert.AdamPool.τ).loc Cert.AdamPool.main_arg2)
      ∧ r.2.mem ((c.tc : Thread Cert.AdamPool.nD Cert.AdamPool.τ).loc Cert.AdamPool.main_arg3) = m ((c.tc : Thread Cert.AdamPool.nD Cert.AdamPool.τ).loc Cert.AdamPool.main_arg3))
      ∧ r.2.sem = fun _ => 0)

def quiescent_AdamPoolIdeal [hAdamPoolIdeal : Cert.AdamPoolIdeal.Facts] : Prop :=
  ∀ (m : (ℓ : Loc Cert.AdamPoolIdeal.nD Cert.AdamPoolIdeal.τ Cert.AdamPoolIdeal.sig) → Buf (Elt Ideal) ℓ) (g : Dev Cert.AdamPoolIdeal.nD → PrngReg), Pre_AdamPoolIdeal m →
    θ_run (Cert.AdamPoolIdeal.defs (F := Ideal)) (onTc (τ := Cert.AdamPoolIdeal.τ) (Cert.AdamPoolIdeal.main (F := Ideal))) ⟨m, fun _ => 0, g⟩ (fun r => (∀ c : Dev Cert.AdamPoolIdeal.nD,
      r.2.mem ((c.tc : Thread Cert.AdamPoolIdeal.nD Cert.AdamPoolIdeal.τ).loc Cert.AdamPoolIdeal.main_arg0) = m ((c.tc : Thread Cert.AdamPoolIdeal.nD Cert.AdamPoolIdeal.τ).loc Cert.AdamPoolIdeal.main_arg0)
      ∧ r.2.mem ((c.tc : Thread Cert.AdamPoolIdeal.nD Cert.AdamPoolIdeal.τ).loc Cert.AdamPoolIdeal.main_arg1) = m ((c.tc : Thread Cert.AdamPoolIdeal.nD Cert.AdamPoolIdeal.τ).loc Cert.AdamPoolIdeal.main_arg1)
      ∧ r.2.mem ((c.tc : Thread Cert.AdamPoolIdeal.nD Cert.AdamPoolIdeal.τ).loc Cert.AdamPoolIdeal.main_arg2) = m ((c.tc : Thread Cert.AdamPoolIdeal.nD Cert.AdamPoolIdeal.τ).loc Cert.AdamPoolIdeal.main_arg2)
      ∧ r.2.mem ((c.tc : Thread Cert.AdamPoolIdeal.nD Cert.AdamPoolIdeal.τ).loc Cert.AdamPoolIdeal.main_arg3) = m ((c.tc : Thread Cert.AdamPoolIdeal.nD Cert.AdamPoolIdeal.τ).loc Cert.AdamPoolIdeal.main_arg3))
      ∧ r.2.sem = fun _ => 0)

def quiescent_AdamPoolRefIdeal [hAdamPoolRefIdeal : Cert.AdamPoolRefIdeal.Facts] : Prop :=
  ∀ (m : (ℓ : Loc Cert.AdamPoolRefIdeal.nD Cert.AdamPoolRefIdeal.τ Cert.AdamPoolRefIdeal.sig) → Buf (Elt Ideal) ℓ) (g : Dev Cert.AdamPoolRefIdeal.nD → PrngReg), Pre_AdamPoolRefIdeal m →
    θ_run (Cert.AdamPoolRefIdeal.defs (F := Ideal)) (onTc (τ := Cert.AdamPoolRefIdeal.τ) (Cert.AdamPoolRefIdeal.main (F := Ideal))) ⟨m, fun _ => 0, g⟩ (fun r => (∀ c : Dev Cert.AdamPoolRefIdeal.nD,
      r.2.mem ((c.tc : Thread Cert.AdamPoolRefIdeal.nD Cert.AdamPoolRefIdeal.τ).loc Cert.AdamPoolRefIdeal.main_arg0) = m ((c.tc : Thread Cert.AdamPoolRefIdeal.nD Cert.AdamPoolRefIdeal.τ).loc Cert.AdamPoolRefIdeal.main_arg0)
      ∧ r.2.mem ((c.tc : Thread Cert.AdamPoolRefIdeal.nD Cert.AdamPoolRefIdeal.τ).loc Cert.AdamPoolRefIdeal.main_arg1) = m ((c.tc : Thread Cert.AdamPoolRefIdeal.nD Cert.AdamPoolRefIdeal.τ).loc Cert.AdamPoolRefIdeal.main_arg1)
      ∧ r.2.mem ((c.tc : Thread Cert.AdamPoolRefIdeal.nD Cert.AdamPoolRefIdeal.τ).loc Cert.AdamPoolRefIdeal.main_arg2) = m ((c.tc : Thread Cert.AdamPoolRefIdeal.nD Cert.AdamPoolRefIdeal.τ).loc Cert.AdamPoolRefIdeal.main_arg2)
      ∧ r.2.mem ((c.tc : Thread Cert.AdamPoolRefIdeal.nD Cert.AdamPoolRefIdeal.τ).loc Cert.AdamPoolRefIdeal.main_arg3) = m ((c.tc : Thread Cert.AdamPoolRefIdeal.nD Cert.AdamPoolRefIdeal.τ).loc Cert.AdamPoolRefIdeal.main_arg3))
      ∧ r.2.sem = fun _ => 0)

def quiescent_FinalLoss [hFinalLoss : Cert.FinalLoss.Facts] : Prop :=
  ∀ (m : (ℓ : Loc Cert.FinalLoss.nD Cert.FinalLoss.τ Cert.FinalLoss.sig) → Buf (Elt Bits) ℓ) (g : Dev Cert.FinalLoss.nD → PrngReg), Pre_FinalLoss m →
    θ_run (Cert.FinalLoss.defs (F := Bits)) (onTc (τ := Cert.FinalLoss.τ) (Cert.FinalLoss.main (F := Bits))) ⟨m, fun _ => 0, g⟩ (fun r => (∀ c : Dev Cert.FinalLoss.nD,
      r.2.mem ((c.tc : Thread Cert.FinalLoss.nD Cert.FinalLoss.τ).loc Cert.FinalLoss.main_arg0) = m ((c.tc : Thread Cert.FinalLoss.nD Cert.FinalLoss.τ).loc Cert.FinalLoss.main_arg0)
      ∧ r.2.mem ((c.tc : Thread Cert.FinalLoss.nD Cert.FinalLoss.τ).loc Cert.FinalLoss.main_arg1) = m ((c.tc : Thread Cert.FinalLoss.nD Cert.FinalLoss.τ).loc Cert.FinalLoss.main_arg1)
      ∧ r.2.mem ((c.tc : Thread Cert.FinalLoss.nD Cert.FinalLoss.τ).loc Cert.FinalLoss.main_arg2) = m ((c.tc : Thread Cert.FinalLoss.nD Cert.FinalLoss.τ).loc Cert.FinalLoss.main_arg2)
      ∧ r.2.mem ((c.tc : Thread Cert.FinalLoss.nD Cert.FinalLoss.τ).loc Cert.FinalLoss.main_arg3) = m ((c.tc : Thread Cert.FinalLoss.nD Cert.FinalLoss.τ).loc Cert.FinalLoss.main_arg3)
      ∧ r.2.mem ((c.tc : Thread Cert.FinalLoss.nD Cert.FinalLoss.τ).loc Cert.FinalLoss.main_arg4) = m ((c.tc : Thread Cert.FinalLoss.nD Cert.FinalLoss.τ).loc Cert.FinalLoss.main_arg4))
      ∧ r.2.sem = fun _ => 0)

def quiescent_FinalLossIdeal [hFinalLossIdeal : Cert.FinalLossIdeal.Facts] : Prop :=
  ∀ (m : (ℓ : Loc Cert.FinalLossIdeal.nD Cert.FinalLossIdeal.τ Cert.FinalLossIdeal.sig) → Buf (Elt Ideal) ℓ) (g : Dev Cert.FinalLossIdeal.nD → PrngReg), Pre_FinalLossIdeal m →
    θ_run (Cert.FinalLossIdeal.defs (F := Ideal)) (onTc (τ := Cert.FinalLossIdeal.τ) (Cert.FinalLossIdeal.main (F := Ideal))) ⟨m, fun _ => 0, g⟩ (fun r => (∀ c : Dev Cert.FinalLossIdeal.nD,
      r.2.mem ((c.tc : Thread Cert.FinalLossIdeal.nD Cert.FinalLossIdeal.τ).loc Cert.FinalLossIdeal.main_arg0) = m ((c.tc : Thread Cert.FinalLossIdeal.nD Cert.FinalLossIdeal.τ).loc Cert.FinalLossIdeal.main_arg0)
      ∧ r.2.mem ((c.tc : Thread Cert.FinalLossIdeal.nD Cert.FinalLossIdeal.τ).loc Cert.FinalLossIdeal.main_arg1) = m ((c.tc : Thread Cert.FinalLossIdeal.nD Cert.FinalLossIdeal.τ).loc Cert.FinalLossIdeal.main_arg1)
      ∧ r.2.mem ((c.tc : Thread Cert.FinalLossIdeal.nD Cert.FinalLossIdeal.τ).loc Cert.FinalLossIdeal.main_arg2) = m ((c.tc : Thread Cert.FinalLossIdeal.nD Cert.FinalLossIdeal.τ).loc Cert.FinalLossIdeal.main_arg2)
      ∧ r.2.mem ((c.tc : Thread Cert.FinalLossIdeal.nD Cert.FinalLossIdeal.τ).loc Cert.FinalLossIdeal.main_arg3) = m ((c.tc : Thread Cert.FinalLossIdeal.nD Cert.FinalLossIdeal.τ).loc Cert.FinalLossIdeal.main_arg3)
      ∧ r.2.mem ((c.tc : Thread Cert.FinalLossIdeal.nD Cert.FinalLossIdeal.τ).loc Cert.FinalLossIdeal.main_arg4) = m ((c.tc : Thread Cert.FinalLossIdeal.nD Cert.FinalLossIdeal.τ).loc Cert.FinalLossIdeal.main_arg4))
      ∧ r.2.sem = fun _ => 0)

def quiescent_FinalLossIdeal_pre_final_loss_finite [hFinalLossIdeal : Cert.FinalLossIdeal.Facts] [hPre_final_loss_finite : Cert.Pre_final_loss_finite.Facts] : Prop :=
  ∀ (m : (ℓ : Loc Cert.FinalLossIdeal.nD Cert.FinalLossIdeal.τ Cert.FinalLossIdeal.sig) → Buf (Elt Ideal) ℓ) (g : Dev Cert.FinalLossIdeal.nD → PrngReg), Pre_FinalLossIdeal_final_loss_finite m →
    θ_run (Cert.FinalLossIdeal.defs (F := Ideal)) (onTc (τ := Cert.FinalLossIdeal.τ) (Cert.FinalLossIdeal.main (F := Ideal))) ⟨m, fun _ => 0, g⟩ (fun r => (∀ c : Dev Cert.FinalLossIdeal.nD,
      r.2.mem ((c.tc : Thread Cert.FinalLossIdeal.nD Cert.FinalLossIdeal.τ).loc Cert.FinalLossIdeal.main_arg0) = m ((c.tc : Thread Cert.FinalLossIdeal.nD Cert.FinalLossIdeal.τ).loc Cert.FinalLossIdeal.main_arg0)
      ∧ r.2.mem ((c.tc : Thread Cert.FinalLossIdeal.nD Cert.FinalLossIdeal.τ).loc Cert.FinalLossIdeal.main_arg1) = m ((c.tc : Thread Cert.FinalLossIdeal.nD Cert.FinalLossIdeal.τ).loc Cert.FinalLossIdeal.main_arg1)
      ∧ r.2.mem ((c.tc : Thread Cert.FinalLossIdeal.nD Cert.FinalLossIdeal.τ).loc Cert.FinalLossIdeal.main_arg2) = m ((c.tc : Thread Cert.FinalLossIdeal.nD Cert.FinalLossIdeal.τ).loc Cert.FinalLossIdeal.main_arg2)
      ∧ r.2.mem ((c.tc : Thread Cert.FinalLossIdeal.nD Cert.FinalLossIdeal.τ).loc Cert.FinalLossIdeal.main_arg3) = m ((c.tc : Thread Cert.FinalLossIdeal.nD Cert.FinalLossIdeal.τ).loc Cert.FinalLossIdeal.main_arg3)
      ∧ r.2.mem ((c.tc : Thread Cert.FinalLossIdeal.nD Cert.FinalLossIdeal.τ).loc Cert.FinalLossIdeal.main_arg4) = m ((c.tc : Thread Cert.FinalLossIdeal.nD Cert.FinalLossIdeal.τ).loc Cert.FinalLossIdeal.main_arg4))
      ∧ r.2.sem = fun _ => 0)

def quiescent_FinalLossRefIdeal [hFinalLossRefIdeal : Cert.FinalLossRefIdeal.Facts] : Prop :=
  ∀ (m : (ℓ : Loc Cert.FinalLossRefIdeal.nD Cert.FinalLossRefIdeal.τ Cert.FinalLossRefIdeal.sig) → Buf (Elt Ideal) ℓ) (g : Dev Cert.FinalLossRefIdeal.nD → PrngReg), Pre_FinalLossRefIdeal m →
    θ_run (Cert.FinalLossRefIdeal.defs (F := Ideal)) (onTc (τ := Cert.FinalLossRefIdeal.τ) (Cert.FinalLossRefIdeal.main (F := Ideal))) ⟨m, fun _ => 0, g⟩ (fun r => (∀ c : Dev Cert.FinalLossRefIdeal.nD,
      r.2.mem ((c.tc : Thread Cert.FinalLossRefIdeal.nD Cert.FinalLossRefIdeal.τ).loc Cert.FinalLossRefIdeal.main_arg0) = m ((c.tc : Thread Cert.FinalLossRefIdeal.nD Cert.FinalLossRefIdeal.τ).loc Cert.FinalLossRefIdeal.main_arg0)
      ∧ r.2.mem ((c.tc : Thread Cert.FinalLossRefIdeal.nD Cert.FinalLossRefIdeal.τ).loc Cert.FinalLossRefIdeal.main_arg1) = m ((c.tc : Thread Cert.FinalLossRefIdeal.nD Cert.FinalLossRefIdeal.τ).loc Cert.FinalLossRefIdeal.main_arg1)
      ∧ r.2.mem ((c.tc : Thread Cert.FinalLossRefIdeal.nD Cert.FinalLossRefIdeal.τ).loc Cert.FinalLossRefIdeal.main_arg2) = m ((c.tc : Thread Cert.FinalLossRefIdeal.nD Cert.FinalLossRefIdeal.τ).loc Cert.FinalLossRefIdeal.main_arg2)
      ∧ r.2.mem ((c.tc : Thread Cert.FinalLossRefIdeal.nD Cert.FinalLossRefIdeal.τ).loc Cert.FinalLossRefIdeal.main_arg3) = m ((c.tc : Thread Cert.FinalLossRefIdeal.nD Cert.FinalLossRefIdeal.τ).loc Cert.FinalLossRefIdeal.main_arg3)
      ∧ r.2.mem ((c.tc : Thread Cert.FinalLossRefIdeal.nD Cert.FinalLossRefIdeal.τ).loc Cert.FinalLossRefIdeal.main_arg4) = m ((c.tc : Thread Cert.FinalLossRefIdeal.nD Cert.FinalLossRefIdeal.τ).loc Cert.FinalLossRefIdeal.main_arg4))
      ∧ r.2.sem = fun _ => 0)

def quiescent_FinalLossRefIdeal_pre_final_loss_finite [hFinalLossRefIdeal : Cert.FinalLossRefIdeal.Facts] [hPre_final_loss_finite : Cert.Pre_final_loss_finite.Facts] : Prop :=
  ∀ (m : (ℓ : Loc Cert.FinalLossRefIdeal.nD Cert.FinalLossRefIdeal.τ Cert.FinalLossRefIdeal.sig) → Buf (Elt Ideal) ℓ) (g : Dev Cert.FinalLossRefIdeal.nD → PrngReg), Pre_FinalLossRefIdeal_final_loss_finite m →
    θ_run (Cert.FinalLossRefIdeal.defs (F := Ideal)) (onTc (τ := Cert.FinalLossRefIdeal.τ) (Cert.FinalLossRefIdeal.main (F := Ideal))) ⟨m, fun _ => 0, g⟩ (fun r => (∀ c : Dev Cert.FinalLossRefIdeal.nD,
      r.2.mem ((c.tc : Thread Cert.FinalLossRefIdeal.nD Cert.FinalLossRefIdeal.τ).loc Cert.FinalLossRefIdeal.main_arg0) = m ((c.tc : Thread Cert.FinalLossRefIdeal.nD Cert.FinalLossRefIdeal.τ).loc Cert.FinalLossRefIdeal.main_arg0)
      ∧ r.2.mem ((c.tc : Thread Cert.FinalLossRefIdeal.nD Cert.FinalLossRefIdeal.τ).loc Cert.FinalLossRefIdeal.main_arg1) = m ((c.tc : Thread Cert.FinalLossRefIdeal.nD Cert.FinalLossRefIdeal.τ).loc Cert.FinalLossRefIdeal.main_arg1)
      ∧ r.2.mem ((c.tc : Thread Cert.FinalLossRefIdeal.nD Cert.FinalLossRefIdeal.τ).loc Cert.FinalLossRefIdeal.main_arg2) = m ((c.tc : Thread Cert.FinalLossRefIdeal.nD Cert.FinalLossRefIdeal.τ).loc Cert.FinalLossRefIdeal.main_arg2)
      ∧ r.2.mem ((c.tc : Thread Cert.FinalLossRefIdeal.nD Cert.FinalLossRefIdeal.τ).loc Cert.FinalLossRefIdeal.main_arg3) = m ((c.tc : Thread Cert.FinalLossRefIdeal.nD Cert.FinalLossRefIdeal.τ).loc Cert.FinalLossRefIdeal.main_arg3)
      ∧ r.2.mem ((c.tc : Thread Cert.FinalLossRefIdeal.nD Cert.FinalLossRefIdeal.τ).loc Cert.FinalLossRefIdeal.main_arg4) = m ((c.tc : Thread Cert.FinalLossRefIdeal.nD Cert.FinalLossRefIdeal.τ).loc Cert.FinalLossRefIdeal.main_arg4))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3)
      ∧ r.2.mem ((c.tc : Thread Cert.AdamSmall.nD Cert.AdamSmall.τ).loc Cert.AdamSmall.main_arg4) = m ((c.tc : Thread Cert.AdamSmall.nD Cert.AdamSmall.τ).loc Cert.AdamSmall.main_arg4)
      ∧ r.2.mem ((c.tc : Thread Cert.AdamSmall.nD Cert.AdamSmall.τ).loc Cert.AdamSmall.main_arg5) = m ((c.tc : Thread Cert.AdamSmall.nD Cert.AdamSmall.τ).loc Cert.AdamSmall.main_arg5)
      ∧ r.2.mem ((c.tc : Thread Cert.AdamSmall.nD Cert.AdamSmall.τ).loc Cert.AdamSmall.main_arg6) = m ((c.tc : Thread Cert.AdamSmall.nD Cert.AdamSmall.τ).loc Cert.AdamSmall.main_arg6)
      ∧ r.2.mem ((c.tc : Thread Cert.AdamSmall.nD Cert.AdamSmall.τ).loc Cert.AdamSmall.main_arg7) = m ((c.tc : Thread Cert.AdamSmall.nD Cert.AdamSmall.τ).loc Cert.AdamSmall.main_arg7)
      ∧ r.2.mem ((c.tc : Thread Cert.AdamSmall.nD Cert.AdamSmall.τ).loc Cert.AdamSmall.main_arg8) = m ((c.tc : Thread Cert.AdamSmall.nD Cert.AdamSmall.τ).loc Cert.AdamSmall.main_arg8)
      ∧ r.2.mem ((c.tc : Thread Cert.AdamSmall.nD Cert.AdamSmall.τ).loc Cert.AdamSmall.main_arg9) = m ((c.tc : Thread Cert.AdamSmall.nD Cert.AdamSmall.τ).loc Cert.AdamSmall.main_arg9)
      ∧ r.2.mem ((c.tc : Thread Cert.AdamSmall.nD Cert.AdamSmall.τ).loc Cert.AdamSmall.main_arg10) = m ((c.tc : Thread Cert.AdamSmall.nD Cert.AdamSmall.τ).loc Cert.AdamSmall.main_arg10)
      ∧ r.2.mem ((c.tc : Thread Cert.AdamSmall.nD Cert.AdamSmall.τ).loc Cert.AdamSmall.main_arg11) = m ((c.tc : Thread Cert.AdamSmall.nD Cert.AdamSmall.τ).loc Cert.AdamSmall.main_arg11))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
      ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
      ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
      ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
      ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
      ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
      ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
      ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
      ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3)
      ∧ r.2.mem ((c.tc : Thread Cert.AdamSmallRefIdeal.nD Cert.AdamSmallRefIdeal.τ).loc Cert.AdamSmallRefIdeal.main_arg4) = m ((c.tc : Thread Cert.AdamSmallRefIdeal.nD Cert.AdamSmallRefIdeal.τ).loc Cert.AdamSmallRefIdeal.main_arg4)
      ∧ r.2.mem ((c.tc : Thread Cert.AdamSmallRefIdeal.nD Cert.AdamSmallRefIdeal.τ).loc Cert.AdamSmallRefIdeal.main_arg5) = m ((c.tc : Thread Cert.AdamSmallRefIdeal.nD Cert.AdamSmallRefIdeal.τ).loc Cert.AdamSmallRefIdeal.main_arg5)
      ∧ r.2.mem ((c.tc : Thread Cert.AdamSmallRefIdeal.nD Cert.AdamSmallRefIdeal.τ).loc Cert.AdamSmallRefIdeal.main_arg6) = m ((c.tc : Thread Cert.AdamSmallRefIdeal.nD Cert.AdamSmallRefIdeal.τ).loc Cert.AdamSmallRefIdeal.main_arg6)
      ∧ r.2.mem ((c.tc : Thread Cert.AdamSmallRefIdeal.nD Cert.AdamSmallRefIdeal.τ).loc Cert.AdamSmallRefIdeal.main_arg7) = m ((c.tc : Thread Cert.AdamSmallRefIdeal.nD Cert.AdamSmallRefIdeal.τ).loc Cert.AdamSmallRefIdeal.main_arg7)
      ∧ r.2.mem ((c.tc : Thread Cert.AdamSmallRefIdeal.nD Cert.AdamSmallRefIdeal.τ).loc Cert.AdamSmallRefIdeal.main_arg8) = m ((c.tc : Thread Cert.AdamSmallRefIdeal.nD Cert.AdamSmallRefIdeal.τ).loc Cert.AdamSmallRefIdeal.main_arg8)
      ∧ r.2.mem ((c.tc : Thread Cert.AdamSmallRefIdeal.nD Cert.AdamSmallRefIdeal.τ).loc Cert.AdamSmallRefIdeal.main_arg9) = m ((c.tc : Thread Cert.AdamSmallRefIdeal.nD Cert.AdamSmallRefIdeal.τ).loc Cert.AdamSmallRefIdeal.main_arg9)
      ∧ r.2.mem ((c.tc : Thread Cert.AdamSmallRefIdeal.nD Cert.AdamSmallRefIdeal.τ).loc Cert.AdamSmallRefIdeal.main_arg10) = m ((c.tc : Thread Cert.AdamSmallRefIdeal.nD Cert.AdamSmallRefIdeal.τ).loc Cert.AdamSmallRefIdeal.main_arg10)
      ∧ r.2.mem ((c.tc : Thread Cert.AdamSmallRefIdeal.nD Cert.AdamSmallRefIdeal.τ).loc Cert.AdamSmallRefIdeal.main_arg11) = m ((c.tc : Thread Cert.AdamSmallRefIdeal.nD Cert.AdamSmallRefIdeal.τ).loc Cert.AdamSmallRefIdeal.main_arg11))
      ∧ r.2.sem = fun _ => 0)

def quiescent_AdamTiny [hAdamTiny : Cert.AdamTiny.Facts] : Prop :=
  ∀ (m : (ℓ : Loc Cert.AdamTiny.nD Cert.AdamTiny.τ Cert.AdamTiny.sig) → Buf (Elt Bits) ℓ) (g : Dev Cert.AdamTiny.nD → PrngReg), Pre_AdamTiny m →
    θ_run (Cert.AdamTiny.defs (F := Bits)) (onTc (τ := Cert.AdamTiny.τ) (Cert.AdamTiny.main (F := Bits))) ⟨m, fun _ => 0, g⟩ (fun r => (∀ c : Dev Cert.AdamTiny.nD,
      r.2.mem ((c.tc : Thread Cert.AdamTiny.nD Cert.AdamTiny.τ).loc Cert.AdamTiny.main_arg0) = m ((c.tc : Thread Cert.AdamTiny.nD Cert.AdamTiny.τ).loc Cert.AdamTiny.main_arg0)
      ∧ r.2.mem ((c.tc : Thread Cert.AdamTiny.nD Cert.AdamTiny.τ).loc Cert.AdamTiny.main_arg1) = m ((c.tc : Thread Cert.AdamTiny.nD Cert.AdamTiny.τ).loc Cert.AdamTiny.main_arg1)
      ∧ r.2.mem ((c.tc : Thread Cert.AdamTiny.nD Cert.AdamTiny.τ).loc Cert.AdamTiny.main_arg2) = m ((c.tc : Thread Cert.AdamTiny.nD Cert.AdamTiny.τ).loc Cert.AdamTiny.main_arg2)
      ∧ r.2.mem ((c.tc : Thread Cert.AdamTiny.nD Cert.AdamTiny.τ).loc Cert.AdamTiny.main_arg3) = m ((c.tc : Thread Cert.AdamTiny.nD Cert.AdamTiny.τ).loc Cert.AdamTiny.main_arg3)
      ∧ r.2.mem ((c.tc : Thread Cert.AdamTiny.nD Cert.AdamTiny.τ).loc Cert.AdamTiny.main_arg4) = m ((c.tc : Thread Cert.AdamTiny.nD Cert.AdamTiny.τ).loc Cert.AdamTiny.main_arg4)
      ∧ r.2.mem ((c.tc : Thread Cert.AdamTiny.nD Cert.AdamTiny.τ).loc Cert.AdamTiny.main_arg5) = m ((c.tc : Thread Cert.AdamTiny.nD Cert.AdamTiny.τ).loc Cert.AdamTiny.main_arg5)
      ∧ r.2.mem ((c.tc : Thread Cert.AdamTiny.nD Cert.AdamTiny.τ).loc Cert.AdamTiny.main_arg6) = m ((c.tc : Thread Cert.AdamTiny.nD Cert.AdamTiny.τ).loc Cert.AdamTiny.main_arg6)
      ∧ r.2.mem ((c.tc : Thread Cert.AdamTiny.nD Cert.AdamTiny.τ).loc Cert.AdamTiny.main_arg7) = m ((c.tc : Thread Cert.AdamTiny.nD Cert.AdamTiny.τ).loc Cert.AdamTiny.main_arg7)
      ∧ r.2.mem ((c.tc : Thread Cert.AdamTiny.nD Cert.AdamTiny.τ).loc Cert.AdamTiny.main_arg8) = m ((c.tc : Thread Cert.AdamTiny.nD Cert.AdamTiny.τ).loc Cert.AdamTiny.main_arg8)
      ∧ r.2.mem ((c.tc : Thread Cert.AdamTiny.nD Cert.AdamTiny.τ).loc Cert.AdamTiny.main_arg9) = m ((c.tc : Thread Cert.AdamTiny.nD Cert.AdamTiny.τ).loc Cert.AdamTiny.main_arg9)
      ∧ r.2.mem ((c.tc : Thread Cert.AdamTiny.nD Cert.AdamTiny.τ).loc Cert.AdamTiny.main_arg10) = m ((c.tc : Thread Cert.AdamTiny.nD Cert.AdamTiny.τ).loc Cert.AdamTiny.main_arg10)
      ∧ r.2.mem ((c.tc : Thread Cert.AdamTiny.nD Cert.AdamTiny.τ).loc Cert.AdamTiny.main_arg11) = m ((c.tc : Thread Cert.AdamTiny.nD Cert.AdamTiny.τ).loc Cert.AdamTiny.main_arg11))
      ∧ r.2.sem = fun _ => 0)

def quiescent_AdamTinyIdeal [hAdamTinyIdeal : Cert.AdamTinyIdeal.Facts] : Prop :=
  ∀ (m : (ℓ : Loc Cert.AdamTinyIdeal.nD Cert.AdamTinyIdeal.τ Cert.AdamTinyIdeal.sig) → Buf (Elt Ideal) ℓ) (g : Dev Cert.AdamTinyIdeal.nD → PrngReg), Pre_AdamTinyIdeal m →
    θ_run (Cert.AdamTinyIdeal.defs (F := Ideal)) (onTc (τ := Cert.AdamTinyIdeal.τ) (Cert.AdamTinyIdeal.main (F := Ideal))) ⟨m, fun _ => 0, g⟩ (fun r => (∀ c : Dev Cert.AdamTinyIdeal.nD,
      r.2.mem ((c.tc : Thread Cert.AdamTinyIdeal.nD Cert.AdamTinyIdeal.τ).loc Cert.AdamTinyIdeal.main_arg0) = m ((c.tc : Thread Cert.AdamTinyIdeal.nD Cert.AdamTinyIdeal.τ).loc Cert.AdamTinyIdeal.main_arg0)
      ∧ r.2.mem ((c.tc : Thread Cert.AdamTinyIdeal.nD Cert.AdamTinyIdeal.τ).loc Cert.AdamTinyIdeal.main_arg1) = m ((c.tc : Thread Cert.AdamTinyIdeal.nD Cert.AdamTinyIdeal.τ).loc Cert.AdamTinyIdeal.main_arg1)
      ∧ r.2.mem ((c.tc : Thread Cert.AdamTinyIdeal.nD Cert.AdamTinyIdeal.τ).loc Cert.AdamTinyIdeal.main_arg2) = m ((c.tc : Thread Cert.AdamTinyIdeal.nD Cert.AdamTinyIdeal.τ).loc Cert.AdamTinyIdeal.main_arg2)
      ∧ r.2.mem ((c.tc : Thread Cert.AdamTinyIdeal.nD Cert.AdamTinyIdeal.τ).loc Cert.AdamTinyIdeal.main_arg3) = m ((c.tc : Thread Cert.AdamTinyIdeal.nD Cert.AdamTinyIdeal.τ).loc Cert.AdamTinyIdeal.main_arg3)
      ∧ r.2.mem ((c.tc : Thread Cert.AdamTinyIdeal.nD Cert.AdamTinyIdeal.τ).loc Cert.AdamTinyIdeal.main_arg4) = m ((c.tc : Thread Cert.AdamTinyIdeal.nD Cert.AdamTinyIdeal.τ).loc Cert.AdamTinyIdeal.main_arg4)
      ∧ r.2.mem ((c.tc : Thread Cert.AdamTinyIdeal.nD Cert.AdamTinyIdeal.τ).loc Cert.AdamTinyIdeal.main_arg5) = m ((c.tc : Thread Cert.AdamTinyIdeal.nD Cert.AdamTinyIdeal.τ).loc Cert.AdamTinyIdeal.main_arg5)
      ∧ r.2.mem ((c.tc : Thread Cert.AdamTinyIdeal.nD Cert.AdamTinyIdeal.τ).loc Cert.AdamTinyIdeal.main_arg6) = m ((c.tc : Thread Cert.AdamTinyIdeal.nD Cert.AdamTinyIdeal.τ).loc Cert.AdamTinyIdeal.main_arg6)
      ∧ r.2.mem ((c.tc : Thread Cert.AdamTinyIdeal.nD Cert.AdamTinyIdeal.τ).loc Cert.AdamTinyIdeal.main_arg7) = m ((c.tc : Thread Cert.AdamTinyIdeal.nD Cert.AdamTinyIdeal.τ).loc Cert.AdamTinyIdeal.main_arg7)
      ∧ r.2.mem ((c.tc : Thread Cert.AdamTinyIdeal.nD Cert.AdamTinyIdeal.τ).loc Cert.AdamTinyIdeal.main_arg8) = m ((c.tc : Thread Cert.AdamTinyIdeal.nD Cert.AdamTinyIdeal.τ).loc Cert.AdamTinyIdeal.main_arg8)
      ∧ r.2.mem ((c.tc : Thread Cert.AdamTinyIdeal.nD Cert.AdamTinyIdeal.τ).loc Cert.AdamTinyIdeal.main_arg9) = m ((c.tc : Thread Cert.AdamTinyIdeal.nD Cert.AdamTinyIdeal.τ).loc Cert.AdamTinyIdeal.main_arg9)
      ∧ r.2.mem ((c.tc : Thread Cert.AdamTinyIdeal.nD Cert.AdamTinyIdeal.τ).loc Cert.AdamTinyIdeal.main_arg10) = m ((c.tc : Thread Cert.AdamTinyIdeal.nD Cert.AdamTinyIdeal.τ).loc Cert.AdamTinyIdeal.main_arg10)
      ∧ r.2.mem ((c.tc : Thread Cert.AdamTinyIdeal.nD Cert.AdamTinyIdeal.τ).loc Cert.AdamTinyIdeal.main_arg11) = m ((c.tc : Thread Cert.AdamTinyIdeal.nD Cert.AdamTinyIdeal.τ).loc Cert.AdamTinyIdeal.main_arg11))
      ∧ r.2.sem = fun _ => 0)

def quiescent_AdamTinyRefIdeal [hAdamTinyRefIdeal : Cert.AdamTinyRefIdeal.Facts] : Prop :=
  ∀ (m : (ℓ : Loc Cert.AdamTinyRefIdeal.nD Cert.AdamTinyRefIdeal.τ Cert.AdamTinyRefIdeal.sig) → Buf (Elt Ideal) ℓ) (g : Dev Cert.AdamTinyRefIdeal.nD → PrngReg), Pre_AdamTinyRefIdeal m →
    θ_run (Cert.AdamTinyRefIdeal.defs (F := Ideal)) (onTc (τ := Cert.AdamTinyRefIdeal.τ) (Cert.AdamTinyRefIdeal.main (F := Ideal))) ⟨m, fun _ => 0, g⟩ (fun r => (∀ c : Dev Cert.AdamTinyRefIdeal.nD,
      r.2.mem ((c.tc : Thread Cert.AdamTinyRefIdeal.nD Cert.AdamTinyRefIdeal.τ).loc Cert.AdamTinyRefIdeal.main_arg0) = m ((c.tc : Thread Cert.AdamTinyRefIdeal.nD Cert.AdamTinyRefIdeal.τ).loc Cert.AdamTinyRefIdeal.main_arg0)
      ∧ r.2.mem ((c.tc : Thread Cert.AdamTinyRefIdeal.nD Cert.AdamTinyRefIdeal.τ).loc Cert.AdamTinyRefIdeal.main_arg1) = m ((c.tc : Thread Cert.AdamTinyRefIdeal.nD Cert.AdamTinyRefIdeal.τ).loc Cert.AdamTinyRefIdeal.main_arg1)
      ∧ r.2.mem ((c.tc : Thread Cert.AdamTinyRefIdeal.nD Cert.AdamTinyRefIdeal.τ).loc Cert.AdamTinyRefIdeal.main_arg2) = m ((c.tc : Thread Cert.AdamTinyRefIdeal.nD Cert.AdamTinyRefIdeal.τ).loc Cert.AdamTinyRefIdeal.main_arg2)
      ∧ r.2.mem ((c.tc : Thread Cert.AdamTinyRefIdeal.nD Cert.AdamTinyRefIdeal.τ).loc Cert.AdamTinyRefIdeal.main_arg3) = m ((c.tc : Thread Cert.AdamTinyRefIdeal.nD Cert.AdamTinyRefIdeal.τ).loc Cert.AdamTinyRefIdeal.main_arg3)
      ∧ r.2.mem ((c.tc : Thread Cert.AdamTinyRefIdeal.nD Cert.AdamTinyRefIdeal.τ).loc Cert.AdamTinyRefIdeal.main_arg4) = m ((c.tc : Thread Cert.AdamTinyRefIdeal.nD Cert.AdamTinyRefIdeal.τ).loc Cert.AdamTinyRefIdeal.main_arg4)
      ∧ r.2.mem ((c.tc : Thread Cert.AdamTinyRefIdeal.nD Cert.AdamTinyRefIdeal.τ).loc Cert.AdamTinyRefIdeal.main_arg5) = m ((c.tc : Thread Cert.AdamTinyRefIdeal.nD Cert.AdamTinyRefIdeal.τ).loc Cert.AdamTinyRefIdeal.main_arg5)
      ∧ r.2.mem ((c.tc : Thread Cert.AdamTinyRefIdeal.nD Cert.AdamTinyRefIdeal.τ).loc Cert.AdamTinyRefIdeal.main_arg6) = m ((c.tc : Thread Cert.AdamTinyRefIdeal.nD Cert.AdamTinyRefIdeal.τ).loc Cert.AdamTinyRefIdeal.main_arg6)
      ∧ r.2.mem ((c.tc : Thread Cert.AdamTinyRefIdeal.nD Cert.AdamTinyRefIdeal.τ).loc Cert.AdamTinyRefIdeal.main_arg7) = m ((c.tc : Thread Cert.AdamTinyRefIdeal.nD Cert.AdamTinyRefIdeal.τ).loc Cert.AdamTinyRefIdeal.main_arg7)
      ∧ r.2.mem ((c.tc : Thread Cert.AdamTinyRefIdeal.nD Cert.AdamTinyRefIdeal.τ).loc Cert.AdamTinyRefIdeal.main_arg8) = m ((c.tc : Thread Cert.AdamTinyRefIdeal.nD Cert.AdamTinyRefIdeal.τ).loc Cert.AdamTinyRefIdeal.main_arg8)
      ∧ r.2.mem ((c.tc : Thread Cert.AdamTinyRefIdeal.nD Cert.AdamTinyRefIdeal.τ).loc Cert.AdamTinyRefIdeal.main_arg9) = m ((c.tc : Thread Cert.AdamTinyRefIdeal.nD Cert.AdamTinyRefIdeal.τ).loc Cert.AdamTinyRefIdeal.main_arg9)
      ∧ r.2.mem ((c.tc : Thread Cert.AdamTinyRefIdeal.nD Cert.AdamTinyRefIdeal.τ).loc Cert.AdamTinyRefIdeal.main_arg10) = m ((c.tc : Thread Cert.AdamTinyRefIdeal.nD Cert.AdamTinyRefIdeal.τ).loc Cert.AdamTinyRefIdeal.main_arg10)
      ∧ r.2.mem ((c.tc : Thread Cert.AdamTinyRefIdeal.nD Cert.AdamTinyRefIdeal.τ).loc Cert.AdamTinyRefIdeal.main_arg11) = m ((c.tc : Thread Cert.AdamTinyRefIdeal.nD Cert.AdamTinyRefIdeal.τ).loc Cert.AdamTinyRefIdeal.main_arg11))
      ∧ r.2.sem = fun _ => 0)

def quiescent_AdamAda [hAdamAda : Cert.AdamAda.Facts] : Prop :=
  ∀ (m : (ℓ : Loc Cert.AdamAda.nD Cert.AdamAda.τ Cert.AdamAda.sig) → Buf (Elt Bits) ℓ) (g : Dev Cert.AdamAda.nD → PrngReg), Pre_AdamAda m →
    θ_run (Cert.AdamAda.defs (F := Bits)) (onTc (τ := Cert.AdamAda.τ) (Cert.AdamAda.main (F := Bits))) ⟨m, fun _ => 0, g⟩ (fun r => (∀ c : Dev Cert.AdamAda.nD,
      r.2.mem ((c.tc : Thread Cert.AdamAda.nD Cert.AdamAda.τ).loc Cert.AdamAda.main_arg0) = m ((c.tc : Thread Cert.AdamAda.nD Cert.AdamAda.τ).loc Cert.AdamAda.main_arg0)
      ∧ r.2.mem ((c.tc : Thread Cert.AdamAda.nD Cert.AdamAda.τ).loc Cert.AdamAda.main_arg1) = m ((c.tc : Thread Cert.AdamAda.nD Cert.AdamAda.τ).loc Cert.AdamAda.main_arg1)
      ∧ r.2.mem ((c.tc : Thread Cert.AdamAda.nD Cert.AdamAda.τ).loc Cert.AdamAda.main_arg2) = m ((c.tc : Thread Cert.AdamAda.nD Cert.AdamAda.τ).loc Cert.AdamAda.main_arg2)
      ∧ r.2.mem ((c.tc : Thread Cert.AdamAda.nD Cert.AdamAda.τ).loc Cert.AdamAda.main_arg3) = m ((c.tc : Thread Cert.AdamAda.nD Cert.AdamAda.τ).loc Cert.AdamAda.main_arg3)
      ∧ r.2.mem ((c.tc : Thread Cert.AdamAda.nD Cert.AdamAda.τ).loc Cert.AdamAda.main_arg4) = m ((c.tc : Thread Cert.AdamAda.nD Cert.AdamAda.τ).loc Cert.AdamAda.main_arg4))
      ∧ r.2.sem = fun _ => 0)

def quiescent_AdamAdaIdeal [hAdamAdaIdeal : Cert.AdamAdaIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg), Pre_AdamAdaIdeal m →
    θ_run (Cert.AdamAdaIdeal.defs (F := Ideal)) (onTc (τ := Cert.AdamAdaIdeal.τ) (Cert.AdamAdaIdeal.main (F := Ideal))) ⟨m, fun _ => 0, g⟩ (fun r => (∀ c : Dev Cert.AdamAdaIdeal.nD,
      r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
      ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
      ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
      ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3)
      ∧ r.2.mem ((c.tc : Thread Cert.AdamAdaIdeal.nD Cert.AdamAdaIdeal.τ).loc Cert.AdamAdaIdeal.main_arg4) = m ((c.tc : Thread Cert.AdamAdaIdeal.nD Cert.AdamAdaIdeal.τ).loc Cert.AdamAdaIdeal.main_arg4))
      ∧ r.2.sem = fun _ => 0)

def quiescent_AdamAdaRefIdeal [hAdamAdaRefIdeal : Cert.AdamAdaRefIdeal.Facts] : Prop :=
  ∀ (m : (ℓ : Loc Cert.AdamAdaRefIdeal.nD Cert.AdamAdaRefIdeal.τ Cert.AdamAdaRefIdeal.sig) → Buf (Elt Ideal) ℓ) (g : Dev Cert.AdamAdaRefIdeal.nD → PrngReg), Pre_AdamAdaRefIdeal m →
    θ_run (Cert.AdamAdaRefIdeal.defs (F := Ideal)) (onTc (τ := Cert.AdamAdaRefIdeal.τ) (Cert.AdamAdaRefIdeal.main (F := Ideal))) ⟨m, fun _ => 0, g⟩ (fun r => (∀ c : Dev Cert.AdamAdaRefIdeal.nD,
      r.2.mem ((c.tc : Thread Cert.AdamAdaRefIdeal.nD Cert.AdamAdaRefIdeal.τ).loc Cert.AdamAdaRefIdeal.main_arg0) = m ((c.tc : Thread Cert.AdamAdaRefIdeal.nD Cert.AdamAdaRefIdeal.τ).loc Cert.AdamAdaRefIdeal.main_arg0)
      ∧ r.2.mem ((c.tc : Thread Cert.AdamAdaRefIdeal.nD Cert.AdamAdaRefIdeal.τ).loc Cert.AdamAdaRefIdeal.main_arg1) = m ((c.tc : Thread Cert.AdamAdaRefIdeal.nD Cert.AdamAdaRefIdeal.τ).loc Cert.AdamAdaRefIdeal.main_arg1)
      ∧ r.2.mem ((c.tc : Thread Cert.AdamAdaRefIdeal.nD Cert.AdamAdaRefIdeal.τ).loc Cert.AdamAdaRefIdeal.main_arg2) = m ((c.tc : Thread Cert.AdamAdaRefIdeal.nD Cert.AdamAdaRefIdeal.τ).loc Cert.AdamAdaRefIdeal.main_arg2)
      ∧ r.2.mem ((c.tc : Thread Cert.AdamAdaRefIdeal.nD Cert.AdamAdaRefIdeal.τ).loc Cert.AdamAdaRefIdeal.main_arg3) = m ((c.tc : Thread Cert.AdamAdaRefIdeal.nD Cert.AdamAdaRefIdeal.τ).loc Cert.AdamAdaRefIdeal.main_arg3)
      ∧ r.2.mem ((c.tc : Thread Cert.AdamAdaRefIdeal.nD Cert.AdamAdaRefIdeal.τ).loc Cert.AdamAdaRefIdeal.main_arg4) = m ((c.tc : Thread Cert.AdamAdaRefIdeal.nD Cert.AdamAdaRefIdeal.τ).loc Cert.AdamAdaRefIdeal.main_arg4))
      ∧ r.2.sem = fun _ => 0)

def quiescent_GateFwd [hGateFwd : Cert.GateFwd.Facts] : Prop :=
  ∀ (m : (ℓ : Loc Cert.GateFwd.nD Cert.GateFwd.τ Cert.GateFwd.sig) → Buf (Elt Bits) ℓ) (g : Dev Cert.GateFwd.nD → PrngReg), Pre_GateFwd m →
    θ_run (Cert.GateFwd.defs (F := Bits)) (onTc (τ := Cert.GateFwd.τ) (Cert.GateFwd.main (F := Bits))) ⟨m, fun _ => 0, g⟩ (fun r => (∀ c : Dev Cert.GateFwd.nD,
      r.2.mem ((c.tc : Thread Cert.GateFwd.nD Cert.GateFwd.τ).loc Cert.GateFwd.main_arg0) = m ((c.tc : Thread Cert.GateFwd.nD Cert.GateFwd.τ).loc Cert.GateFwd.main_arg0)
      ∧ r.2.mem ((c.tc : Thread Cert.GateFwd.nD Cert.GateFwd.τ).loc Cert.GateFwd.main_arg1) = m ((c.tc : Thread Cert.GateFwd.nD Cert.GateFwd.τ).loc Cert.GateFwd.main_arg1)
      ∧ r.2.mem ((c.tc : Thread Cert.GateFwd.nD Cert.GateFwd.τ).loc Cert.GateFwd.main_arg2) = m ((c.tc : Thread Cert.GateFwd.nD Cert.GateFwd.τ).loc Cert.GateFwd.main_arg2)
      ∧ r.2.mem ((c.tc : Thread Cert.GateFwd.nD Cert.GateFwd.τ).loc Cert.GateFwd.main_arg3) = m ((c.tc : Thread Cert.GateFwd.nD Cert.GateFwd.τ).loc Cert.GateFwd.main_arg3))
      ∧ r.2.sem = fun _ => 0)

def quiescent_GateFwdIdeal [hGateFwdIdeal : Cert.GateFwdIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg), Pre_GateFwdIdeal m →
    θ_run (Cert.GateFwdIdeal.defs (F := Ideal)) (onTc (τ := Cert.GateFwdIdeal.τ) (Cert.GateFwdIdeal.main (F := Ideal))) ⟨m, fun _ => 0, g⟩ (fun r => (∀ c : Dev Cert.GateFwdIdeal.nD,
      r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
      ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1)
      ∧ r.2.mem ((c.tc : Thread Cert.GateFwdIdeal.nD Cert.GateFwdIdeal.τ).loc Cert.GateFwdIdeal.main_arg2) = m ((c.tc : Thread Cert.GateFwdIdeal.nD Cert.GateFwdIdeal.τ).loc Cert.GateFwdIdeal.main_arg2)
      ∧ r.2.mem ((c.tc : Thread Cert.GateFwdIdeal.nD Cert.GateFwdIdeal.τ).loc Cert.GateFwdIdeal.main_arg3) = m ((c.tc : Thread Cert.GateFwdIdeal.nD Cert.GateFwdIdeal.τ).loc Cert.GateFwdIdeal.main_arg3))
      ∧ r.2.sem = fun _ => 0)

def quiescent_GateFwdRefIdeal [hGateFwdRefIdeal : Cert.GateFwdRefIdeal.Facts] : Prop :=
  ∀ (m : (ℓ : Loc Cert.GateFwdRefIdeal.nD Cert.GateFwdRefIdeal.τ Cert.GateFwdRefIdeal.sig) → Buf (Elt Ideal) ℓ) (g : Dev Cert.GateFwdRefIdeal.nD → PrngReg), Pre_GateFwdRefIdeal m →
    θ_run (Cert.GateFwdRefIdeal.defs (F := Ideal)) (onTc (τ := Cert.GateFwdRefIdeal.τ) (Cert.GateFwdRefIdeal.main (F := Ideal))) ⟨m, fun _ => 0, g⟩ (fun r => (∀ c : Dev Cert.GateFwdRefIdeal.nD,
      r.2.mem ((c.tc : Thread Cert.GateFwdRefIdeal.nD Cert.GateFwdRefIdeal.τ).loc Cert.GateFwdRefIdeal.main_arg0) = m ((c.tc : Thread Cert.GateFwdRefIdeal.nD Cert.GateFwdRefIdeal.τ).loc Cert.GateFwdRefIdeal.main_arg0)
      ∧ r.2.mem ((c.tc : Thread Cert.GateFwdRefIdeal.nD Cert.GateFwdRefIdeal.τ).loc Cert.GateFwdRefIdeal.main_arg1) = m ((c.tc : Thread Cert.GateFwdRefIdeal.nD Cert.GateFwdRefIdeal.τ).loc Cert.GateFwdRefIdeal.main_arg1)
      ∧ r.2.mem ((c.tc : Thread Cert.GateFwdRefIdeal.nD Cert.GateFwdRefIdeal.τ).loc Cert.GateFwdRefIdeal.main_arg2) = m ((c.tc : Thread Cert.GateFwdRefIdeal.nD Cert.GateFwdRefIdeal.τ).loc Cert.GateFwdRefIdeal.main_arg2)
      ∧ r.2.mem ((c.tc : Thread Cert.GateFwdRefIdeal.nD Cert.GateFwdRefIdeal.τ).loc Cert.GateFwdRefIdeal.main_arg3) = m ((c.tc : Thread Cert.GateFwdRefIdeal.nD Cert.GateFwdRefIdeal.τ).loc Cert.GateFwdRefIdeal.main_arg3))
      ∧ r.2.sem = fun _ => 0)

def quiescent_LnMod [hLnMod : Cert.LnMod.Facts] : Prop :=
  ∀ (m : (ℓ : Loc Cert.LnMod.nD Cert.LnMod.τ Cert.LnMod.sig) → Buf (Elt Bits) ℓ) (g : Dev Cert.LnMod.nD → PrngReg), Pre_LnMod m →
    θ_run (Cert.LnMod.defs (F := Bits)) (onTc (τ := Cert.LnMod.τ) (Cert.LnMod.main (F := Bits))) ⟨m, fun _ => 0, g⟩ (fun r => (∀ c : Dev Cert.LnMod.nD,
      r.2.mem ((c.tc : Thread Cert.LnMod.nD Cert.LnMod.τ).loc Cert.LnMod.main_arg0) = m ((c.tc : Thread Cert.LnMod.nD Cert.LnMod.τ).loc Cert.LnMod.main_arg0)
      ∧ r.2.mem ((c.tc : Thread Cert.LnMod.nD Cert.LnMod.τ).loc Cert.LnMod.main_arg1) = m ((c.tc : Thread Cert.LnMod.nD Cert.LnMod.τ).loc Cert.LnMod.main_arg1)
      ∧ r.2.mem ((c.tc : Thread Cert.LnMod.nD Cert.LnMod.τ).loc Cert.LnMod.main_arg2) = m ((c.tc : Thread Cert.LnMod.nD Cert.LnMod.τ).loc Cert.LnMod.main_arg2)
      ∧ r.2.mem ((c.tc : Thread Cert.LnMod.nD Cert.LnMod.τ).loc Cert.LnMod.main_arg3) = m ((c.tc : Thread Cert.LnMod.nD Cert.LnMod.τ).loc Cert.LnMod.main_arg3))
      ∧ r.2.sem = fun _ => 0)

def quiescent_LnModIdeal [hLnModIdeal : Cert.LnModIdeal.Facts] : Prop :=
  ∀ (m : (ℓ : Loc Cert.LnModIdeal.nD Cert.LnModIdeal.τ Cert.LnModIdeal.sig) → Buf (Elt Ideal) ℓ) (g : Dev Cert.LnModIdeal.nD → PrngReg), Pre_LnModIdeal m →
    θ_run (Cert.LnModIdeal.defs (F := Ideal)) (onTc (τ := Cert.LnModIdeal.τ) (Cert.LnModIdeal.main (F := Ideal))) ⟨m, fun _ => 0, g⟩ (fun r => (∀ c : Dev Cert.LnModIdeal.nD,
      r.2.mem ((c.tc : Thread Cert.LnModIdeal.nD Cert.LnModIdeal.τ).loc Cert.LnModIdeal.main_arg0) = m ((c.tc : Thread Cert.LnModIdeal.nD Cert.LnModIdeal.τ).loc Cert.LnModIdeal.main_arg0)
      ∧ r.2.mem ((c.tc : Thread Cert.LnModIdeal.nD Cert.LnModIdeal.τ).loc Cert.LnModIdeal.main_arg1) = m ((c.tc : Thread Cert.LnModIdeal.nD Cert.LnModIdeal.τ).loc Cert.LnModIdeal.main_arg1)
      ∧ r.2.mem ((c.tc : Thread Cert.LnModIdeal.nD Cert.LnModIdeal.τ).loc Cert.LnModIdeal.main_arg2) = m ((c.tc : Thread Cert.LnModIdeal.nD Cert.LnModIdeal.τ).loc Cert.LnModIdeal.main_arg2)
      ∧ r.2.mem ((c.tc : Thread Cert.LnModIdeal.nD Cert.LnModIdeal.τ).loc Cert.LnModIdeal.main_arg3) = m ((c.tc : Thread Cert.LnModIdeal.nD Cert.LnModIdeal.τ).loc Cert.LnModIdeal.main_arg3))
      ∧ r.2.sem = fun _ => 0)

def quiescent_LnModRefIdeal [hLnModRefIdeal : Cert.LnModRefIdeal.Facts] : Prop :=
  ∀ (m : (ℓ : Loc Cert.LnModRefIdeal.nD Cert.LnModRefIdeal.τ Cert.LnModRefIdeal.sig) → Buf (Elt Ideal) ℓ) (g : Dev Cert.LnModRefIdeal.nD → PrngReg), Pre_LnModRefIdeal m →
    θ_run (Cert.LnModRefIdeal.defs (F := Ideal)) (onTc (τ := Cert.LnModRefIdeal.τ) (Cert.LnModRefIdeal.main (F := Ideal))) ⟨m, fun _ => 0, g⟩ (fun r => (∀ c : Dev Cert.LnModRefIdeal.nD,
      r.2.mem ((c.tc : Thread Cert.LnModRefIdeal.nD Cert.LnModRefIdeal.τ).loc Cert.LnModRefIdeal.main_arg0) = m ((c.tc : Thread Cert.LnModRefIdeal.nD Cert.LnModRefIdeal.τ).loc Cert.LnModRefIdeal.main_arg0)
      ∧ r.2.mem ((c.tc : Thread Cert.LnModRefIdeal.nD Cert.LnModRefIdeal.τ).loc Cert.LnModRefIdeal.main_arg1) = m ((c.tc : Thread Cert.LnModRefIdeal.nD Cert.LnModRefIdeal.τ).loc Cert.LnModRefIdeal.main_arg1)
      ∧ r.2.mem ((c.tc : Thread Cert.LnModRefIdeal.nD Cert.LnModRefIdeal.τ).loc Cert.LnModRefIdeal.main_arg2) = m ((c.tc : Thread Cert.LnModRefIdeal.nD Cert.LnModRefIdeal.τ).loc Cert.LnModRefIdeal.main_arg2)
      ∧ r.2.mem ((c.tc : Thread Cert.LnModRefIdeal.nD Cert.LnModRefIdeal.τ).loc Cert.LnModRefIdeal.main_arg3) = m ((c.tc : Thread Cert.LnModRefIdeal.nD Cert.LnModRefIdeal.τ).loc Cert.LnModRefIdeal.main_arg3))
      ∧ r.2.sem = fun _ => 0)

def quiescent_ResidLn [hResidLn : Cert.ResidLn.Facts] : Prop :=
  ∀ (m : (ℓ : Loc Cert.ResidLn.nD Cert.ResidLn.τ Cert.ResidLn.sig) → Buf (Elt Bits) ℓ) (g : Dev Cert.ResidLn.nD → PrngReg), Pre_ResidLn m →
    θ_run (Cert.ResidLn.defs (F := Bits)) (onTc (τ := Cert.ResidLn.τ) (Cert.ResidLn.main (F := Bits))) ⟨m, fun _ => 0, g⟩ (fun r => (∀ c : Dev Cert.ResidLn.nD,
      r.2.mem ((c.tc : Thread Cert.ResidLn.nD Cert.ResidLn.τ).loc Cert.ResidLn.main_arg0) = m ((c.tc : Thread Cert.ResidLn.nD Cert.ResidLn.τ).loc Cert.ResidLn.main_arg0)
      ∧ r.2.mem ((c.tc : Thread Cert.ResidLn.nD Cert.ResidLn.τ).loc Cert.ResidLn.main_arg1) = m ((c.tc : Thread Cert.ResidLn.nD Cert.ResidLn.τ).loc Cert.ResidLn.main_arg1)
      ∧ r.2.mem ((c.tc : Thread Cert.ResidLn.nD Cert.ResidLn.τ).loc Cert.ResidLn.main_arg2) = m ((c.tc : Thread Cert.ResidLn.nD Cert.ResidLn.τ).loc Cert.ResidLn.main_arg2)
      ∧ r.2.mem ((c.tc : Thread Cert.ResidLn.nD Cert.ResidLn.τ).loc Cert.ResidLn.main_arg3) = m ((c.tc : Thread Cert.ResidLn.nD Cert.ResidLn.τ).loc Cert.ResidLn.main_arg3)
      ∧ r.2.mem ((c.tc : Thread Cert.ResidLn.nD Cert.ResidLn.τ).loc Cert.ResidLn.main_arg4) = m ((c.tc : Thread Cert.ResidLn.nD Cert.ResidLn.τ).loc Cert.ResidLn.main_arg4)
      ∧ r.2.mem ((c.tc : Thread Cert.ResidLn.nD Cert.ResidLn.τ).loc Cert.ResidLn.main_arg5) = m ((c.tc : Thread Cert.ResidLn.nD Cert.ResidLn.τ).loc Cert.ResidLn.main_arg5))
      ∧ r.2.sem = fun _ => 0)

def quiescent_ResidLnIdeal [hResidLnIdeal : Cert.ResidLnIdeal.Facts] : Prop :=
  ∀ (m : (ℓ : Loc Cert.ResidLnIdeal.nD Cert.ResidLnIdeal.τ Cert.ResidLnIdeal.sig) → Buf (Elt Ideal) ℓ) (g : Dev Cert.ResidLnIdeal.nD → PrngReg), Pre_ResidLnIdeal m →
    θ_run (Cert.ResidLnIdeal.defs (F := Ideal)) (onTc (τ := Cert.ResidLnIdeal.τ) (Cert.ResidLnIdeal.main (F := Ideal))) ⟨m, fun _ => 0, g⟩ (fun r => (∀ c : Dev Cert.ResidLnIdeal.nD,
      r.2.mem ((c.tc : Thread Cert.ResidLnIdeal.nD Cert.ResidLnIdeal.τ).loc Cert.ResidLnIdeal.main_arg0) = m ((c.tc : Thread Cert.ResidLnIdeal.nD Cert.ResidLnIdeal.τ).loc Cert.ResidLnIdeal.main_arg0)
      ∧ r.2.mem ((c.tc : Thread Cert.ResidLnIdeal.nD Cert.ResidLnIdeal.τ).loc Cert.ResidLnIdeal.main_arg1) = m ((c.tc : Thread Cert.ResidLnIdeal.nD Cert.ResidLnIdeal.τ).loc Cert.ResidLnIdeal.main_arg1)
      ∧ r.2.mem ((c.tc : Thread Cert.ResidLnIdeal.nD Cert.ResidLnIdeal.τ).loc Cert.ResidLnIdeal.main_arg2) = m ((c.tc : Thread Cert.ResidLnIdeal.nD Cert.ResidLnIdeal.τ).loc Cert.ResidLnIdeal.main_arg2)
      ∧ r.2.mem ((c.tc : Thread Cert.ResidLnIdeal.nD Cert.ResidLnIdeal.τ).loc Cert.ResidLnIdeal.main_arg3) = m ((c.tc : Thread Cert.ResidLnIdeal.nD Cert.ResidLnIdeal.τ).loc Cert.ResidLnIdeal.main_arg3)
      ∧ r.2.mem ((c.tc : Thread Cert.ResidLnIdeal.nD Cert.ResidLnIdeal.τ).loc Cert.ResidLnIdeal.main_arg4) = m ((c.tc : Thread Cert.ResidLnIdeal.nD Cert.ResidLnIdeal.τ).loc Cert.ResidLnIdeal.main_arg4)
      ∧ r.2.mem ((c.tc : Thread Cert.ResidLnIdeal.nD Cert.ResidLnIdeal.τ).loc Cert.ResidLnIdeal.main_arg5) = m ((c.tc : Thread Cert.ResidLnIdeal.nD Cert.ResidLnIdeal.τ).loc Cert.ResidLnIdeal.main_arg5))
      ∧ r.2.sem = fun _ => 0)

def quiescent_ResidLnRefIdeal [hResidLnRefIdeal : Cert.ResidLnRefIdeal.Facts] : Prop :=
  ∀ (m : (ℓ : Loc Cert.ResidLnRefIdeal.nD Cert.ResidLnRefIdeal.τ Cert.ResidLnRefIdeal.sig) → Buf (Elt Ideal) ℓ) (g : Dev Cert.ResidLnRefIdeal.nD → PrngReg), Pre_ResidLnRefIdeal m →
    θ_run (Cert.ResidLnRefIdeal.defs (F := Ideal)) (onTc (τ := Cert.ResidLnRefIdeal.τ) (Cert.ResidLnRefIdeal.main (F := Ideal))) ⟨m, fun _ => 0, g⟩ (fun r => (∀ c : Dev Cert.ResidLnRefIdeal.nD,
      r.2.mem ((c.tc : Thread Cert.ResidLnRefIdeal.nD Cert.ResidLnRefIdeal.τ).loc Cert.ResidLnRefIdeal.main_arg0) = m ((c.tc : Thread Cert.ResidLnRefIdeal.nD Cert.ResidLnRefIdeal.τ).loc Cert.ResidLnRefIdeal.main_arg0)
      ∧ r.2.mem ((c.tc : Thread Cert.ResidLnRefIdeal.nD Cert.ResidLnRefIdeal.τ).loc Cert.ResidLnRefIdeal.main_arg1) = m ((c.tc : Thread Cert.ResidLnRefIdeal.nD Cert.ResidLnRefIdeal.τ).loc Cert.ResidLnRefIdeal.main_arg1)
      ∧ r.2.mem ((c.tc : Thread Cert.ResidLnRefIdeal.nD Cert.ResidLnRefIdeal.τ).loc Cert.ResidLnRefIdeal.main_arg2) = m ((c.tc : Thread Cert.ResidLnRefIdeal.nD Cert.ResidLnRefIdeal.τ).loc Cert.ResidLnRefIdeal.main_arg2)
      ∧ r.2.mem ((c.tc : Thread Cert.ResidLnRefIdeal.nD Cert.ResidLnRefIdeal.τ).loc Cert.ResidLnRefIdeal.main_arg3) = m ((c.tc : Thread Cert.ResidLnRefIdeal.nD Cert.ResidLnRefIdeal.τ).loc Cert.ResidLnRefIdeal.main_arg3)
      ∧ r.2.mem ((c.tc : Thread Cert.ResidLnRefIdeal.nD Cert.ResidLnRefIdeal.τ).loc Cert.ResidLnRefIdeal.main_arg4) = m ((c.tc : Thread Cert.ResidLnRefIdeal.nD Cert.ResidLnRefIdeal.τ).loc Cert.ResidLnRefIdeal.main_arg4)
      ∧ r.2.mem ((c.tc : Thread Cert.ResidLnRefIdeal.nD Cert.ResidLnRefIdeal.τ).loc Cert.ResidLnRefIdeal.main_arg5) = m ((c.tc : Thread Cert.ResidLnRefIdeal.nD Cert.ResidLnRefIdeal.τ).loc Cert.ResidLnRefIdeal.main_arg5))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1)
      ∧ r.2.mem ((c.tc : Thread Cert.ConvFwd.nD Cert.ConvFwd.τ).loc Cert.ConvFwd.main_arg2) = m ((c.tc : Thread Cert.ConvFwd.nD Cert.ConvFwd.τ).loc Cert.ConvFwd.main_arg2))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
      ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1)
      ∧ r.2.mem ((c.tc : Thread Cert.ConvFwdRefIdeal.nD Cert.ConvFwdRefIdeal.τ).loc Cert.ConvFwdRefIdeal.main_arg2) = m ((c.tc : Thread Cert.ConvFwdRefIdeal.nD Cert.ConvFwdRefIdeal.τ).loc Cert.ConvFwdRefIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_v74) = v1 c
          ∧ r.2.mem ((c.tc : Thread Cert.ReferenceIdeal.nD Cert.ReferenceIdeal.τ).loc Cert.ReferenceIdeal.main_v83) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_NormBwd_NormBwdIdeal : Prop :=
  True

def algebraic_NormBwdIdeal_NormBwdRefIdeal_pre_norm_bwd_finite [hNormBwdIdeal : Cert.NormBwdIdeal.Facts] [hNormBwdRefIdeal : Cert.NormBwdRefIdeal.Facts] [hPre_norm_bwd_finite : Cert.Pre_norm_bwd_finite.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal_norm_bwd_finite m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
      ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)
      ∧ m' ((c.tc : Thread Cert.NormBwdRefIdeal.nD Cert.NormBwdRefIdeal.τ).loc Cert.NormBwdRefIdeal.main_arg4) = m ((c.tc : Thread Cert.NormBwdIdeal.nD Cert.NormBwdIdeal.τ).loc Cert.NormBwdIdeal.main_arg4)
      ∧ m' ((c.tc : Thread Cert.NormBwdRefIdeal.nD Cert.NormBwdRefIdeal.τ).loc Cert.NormBwdRefIdeal.main_arg5) = m ((c.tc : Thread Cert.NormBwdIdeal.nD Cert.NormBwdIdeal.τ).loc Cert.NormBwdIdeal.main_arg5)
      ∧ m' ((c.tc : Thread Cert.NormBwdRefIdeal.nD Cert.NormBwdRefIdeal.τ).loc Cert.NormBwdRefIdeal.main_arg6) = m ((c.tc : Thread Cert.NormBwdIdeal.nD Cert.NormBwdIdeal.τ).loc Cert.NormBwdIdeal.main_arg6)
      ∧ m' ((c.tc : Thread Cert.NormBwdRefIdeal.nD Cert.NormBwdRefIdeal.τ).loc Cert.NormBwdRefIdeal.main_arg7) = m ((c.tc : Thread Cert.NormBwdIdeal.nD Cert.NormBwdIdeal.τ).loc Cert.NormBwdIdeal.main_arg7)) →
    ∃ (v0 : (c : Dev Cert.NormBwdIdeal.nD) → Buf (Elt Ideal) ((c.tc : Thread Cert.NormBwdIdeal.nD Cert.NormBwdIdeal.τ).loc Cert.NormBwdIdeal.main_v0_0)) (v1 : (c : Dev Cert.NormBwdIdeal.nD) → Buf (Elt Ideal) ((c.tc : Thread Cert.NormBwdIdeal.nD Cert.NormBwdIdeal.τ).loc Cert.NormBwdIdeal.main_v0_1)) (v2 : (c : Dev Cert.NormBwdIdeal.nD) → Buf (Elt Ideal) ((c.tc : Thread Cert.NormBwdIdeal.nD Cert.NormBwdIdeal.τ).loc Cert.NormBwdIdeal.main_v0_2)) (v3 : (c : Dev Cert.NormBwdIdeal.nD) → Buf (Elt Ideal) ((c.tc : Thread Cert.NormBwdIdeal.nD Cert.NormBwdIdeal.τ).loc Cert.NormBwdIdeal.main_v0_3)) (v4 : (c : Dev Cert.NormBwdIdeal.nD) → Buf (Elt Ideal) ((c.tc : Thread Cert.NormBwdIdeal.nD Cert.NormBwdIdeal.τ).loc Cert.NormBwdIdeal.main_v0_4)) (v5 : (c : Dev Cert.NormBwdIdeal.nD) → Buf (Elt Ideal) ((c.tc : Thread Cert.NormBwdIdeal.nD Cert.NormBwdIdeal.τ).loc Cert.NormBwdIdeal.main_v0_5)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v0_0) = v0 c
          ∧ r.2.mem ((c.tc : Thread Cert.NormBwdIdeal.nD Cert.NormBwdIdeal.τ).loc Cert.NormBwdIdeal.main_v0_1) = v1 c
          ∧ r.2.mem ((c.tc : Thread Cert.NormBwdIdeal.nD Cert.NormBwdIdeal.τ).loc Cert.NormBwdIdeal.main_v0_2) = v2 c
          ∧ r.2.mem ((c.tc : Thread Cert.NormBwdIdeal.nD Cert.NormBwdIdeal.τ).loc Cert.NormBwdIdeal.main_v0_3) = v3 c
          ∧ r.2.mem ((c.tc : Thread Cert.NormBwdIdeal.nD Cert.NormBwdIdeal.τ).loc Cert.NormBwdIdeal.main_v0_4) = v4 c
          ∧ r.2.mem ((c.tc : Thread Cert.NormBwdIdeal.nD Cert.NormBwdIdeal.τ).loc Cert.NormBwdIdeal.main_v0_5) = v5 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
          ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4)
          ∧ r.2.mem ((c.tc : Thread Cert.NormBwdIdeal.nD Cert.NormBwdIdeal.τ).loc Cert.NormBwdIdeal.main_arg5) = m ((c.tc : Thread Cert.NormBwdIdeal.nD Cert.NormBwdIdeal.τ).loc Cert.NormBwdIdeal.main_arg5)
          ∧ r.2.mem ((c.tc : Thread Cert.NormBwdIdeal.nD Cert.NormBwdIdeal.τ).loc Cert.NormBwdIdeal.main_arg6) = m ((c.tc : Thread Cert.NormBwdIdeal.nD Cert.NormBwdIdeal.τ).loc Cert.NormBwdIdeal.main_arg6)
          ∧ r.2.mem ((c.tc : Thread Cert.NormBwdIdeal.nD Cert.NormBwdIdeal.τ).loc Cert.NormBwdIdeal.main_arg7) = m ((c.tc : Thread Cert.NormBwdIdeal.nD Cert.NormBwdIdeal.τ).loc Cert.NormBwdIdeal.main_arg7))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v54) = v0 c
          ∧ r.2.mem ((c.tc : Thread Cert.NormBwdRefIdeal.nD Cert.NormBwdRefIdeal.τ).loc Cert.NormBwdRefIdeal.main_v29) = v1 c
          ∧ r.2.mem ((c.tc : Thread Cert.NormBwdRefIdeal.nD Cert.NormBwdRefIdeal.τ).loc Cert.NormBwdRefIdeal.main_v32) = v2 c
          ∧ r.2.mem ((c.tc : Thread Cert.NormBwdRefIdeal.nD Cert.NormBwdRefIdeal.τ).loc Cert.NormBwdRefIdeal.main_v37) = v3 c
          ∧ r.2.mem ((c.tc : Thread Cert.NormBwdRefIdeal.nD Cert.NormBwdRefIdeal.τ).loc Cert.NormBwdRefIdeal.main_v64) = v4 c
          ∧ r.2.mem ((c.tc : Thread Cert.NormBwdRefIdeal.nD Cert.NormBwdRefIdeal.τ).loc Cert.NormBwdRefIdeal.main_v63) = v5 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2)
          ∧ r.2.mem ((c.tc : Thread Cert.NormBwdRefIdeal.nD Cert.NormBwdRefIdeal.τ).loc Cert.NormBwdRefIdeal.main_arg3) = m' ((c.tc : Thread Cert.NormBwdRefIdeal.nD Cert.NormBwdRefIdeal.τ).loc Cert.NormBwdRefIdeal.main_arg3)
          ∧ r.2.mem ((c.tc : Thread Cert.NormBwdRefIdeal.nD Cert.NormBwdRefIdeal.τ).loc Cert.NormBwdRefIdeal.main_arg4) = m' ((c.tc : Thread Cert.NormBwdRefIdeal.nD Cert.NormBwdRefIdeal.τ).loc Cert.NormBwdRefIdeal.main_arg4)
          ∧ r.2.mem ((c.tc : Thread Cert.NormBwdRefIdeal.nD Cert.NormBwdRefIdeal.τ).loc Cert.NormBwdRefIdeal.main_arg5) = m' ((c.tc : Thread Cert.NormBwdRefIdeal.nD Cert.NormBwdRefIdeal.τ).loc Cert.NormBwdRefIdeal.main_arg5)
          ∧ r.2.mem ((c.tc : Thread Cert.NormBwdRefIdeal.nD Cert.NormBwdRefIdeal.τ).loc Cert.NormBwdRefIdeal.main_arg6) = m' ((c.tc : Thread Cert.NormBwdRefIdeal.nD Cert.NormBwdRefIdeal.τ).loc Cert.NormBwdRefIdeal.main_arg6)
          ∧ r.2.mem ((c.tc : Thread Cert.NormBwdRefIdeal.nD Cert.NormBwdRefIdeal.τ).loc Cert.NormBwdRefIdeal.main_arg7) = m' ((c.tc : Thread Cert.NormBwdRefIdeal.nD Cert.NormBwdRefIdeal.τ).loc Cert.NormBwdRefIdeal.main_arg7))

def preserves_OutBwd_OutBwdIdeal : Prop :=
  True

def algebraic_OutBwdIdeal_OutBwdRefIdeal [hOutBwdIdeal : Cert.OutBwdIdeal.Facts] [hOutBwdRefIdeal : Cert.OutBwdRefIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg)
    (m' : (ℓ : Loc Cert.OutBwdRefIdeal.nD Cert.OutBwdRefIdeal.τ Cert.OutBwdRefIdeal.sig) → Buf (Elt Ideal) ℓ) (g' : Dev Cert.OutBwdRefIdeal.nD → PrngReg), Pre_OutBwdIdeal m →
    (∀ c : Dev Cert.OutBwdIdeal.nD,
      m' ((c.tc : Thread Cert.OutBwdRefIdeal.nD Cert.OutBwdRefIdeal.τ).loc Cert.OutBwdRefIdeal.main_arg0) = m ((c.tc : Thread Cert.OutBwdIdeal.nD Cert.OutBwdIdeal.τ).loc Cert.OutBwdIdeal.main_arg0)
      ∧ m' ((c.tc : Thread Cert.OutBwdRefIdeal.nD Cert.OutBwdRefIdeal.τ).loc Cert.OutBwdRefIdeal.main_arg1) = m ((c.tc : Thread Cert.OutBwdIdeal.nD Cert.OutBwdIdeal.τ).loc Cert.OutBwdIdeal.main_arg1)) →
    ∃ (v0 : (c : Dev Cert.OutBwdIdeal.nD) → Buf (Elt Ideal) ((c.tc : Thread Cert.OutBwdIdeal.nD Cert.OutBwdIdeal.τ).loc Cert.OutBwdIdeal.main_v0)),
      θ_run (Cert.OutBwdIdeal.defs (F := Ideal)) (onTc (τ := Cert.OutBwdIdeal.τ) (Cert.OutBwdIdeal.main (F := Ideal))) ⟨m, fun _ => 0, g⟩ (fun r => ∀ c : Dev Cert.OutBwdIdeal.nD,
          r.2.mem ((c.tc : Thread Cert.OutBwdIdeal.nD Cert.OutBwdIdeal.τ).loc Cert.OutBwdIdeal.main_v0) = v0 c
          ∧ r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
          ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1))
      ∧ θ_run (Cert.OutBwdRefIdeal.defs (F := Ideal)) (onTc (τ := Cert.OutBwdRefIdeal.τ) (Cert.OutBwdRefIdeal.main (F := Ideal))) ⟨m', fun _ => 0, g'⟩ (fun r => ∀ c : Dev Cert.OutBwdRefIdeal.nD,
          r.2.mem ((c.tc : Thread Cert.OutBwdRefIdeal.nD Cert.OutBwdRefIdeal.τ).loc Cert.OutBwdRefIdeal.main_v4) = v0 c
          ∧ r.2.mem ((c.tc : Thread Cert.OutBwdRefIdeal.nD Cert.OutBwdRefIdeal.τ).loc Cert.OutBwdRefIdeal.main_arg0) = m' ((c.tc : Thread Cert.OutBwdRefIdeal.nD Cert.OutBwdRefIdeal.τ).loc Cert.OutBwdRefIdeal.main_arg0)
          ∧ r.2.mem ((c.tc : Thread Cert.OutBwdRefIdeal.nD Cert.OutBwdRefIdeal.τ).loc Cert.OutBwdRefIdeal.main_arg1) = m' ((c.tc : Thread Cert.OutBwdRefIdeal.nD Cert.OutBwdRefIdeal.τ).loc Cert.OutBwdRefIdeal.main_arg1))

def preserves_OutWgrad_OutWgradIdeal : Prop :=
  True

def algebraic_OutWgradIdeal_OutWgradRefIdeal [hOutWgradIdeal : Cert.OutWgradIdeal.Facts] [hOutWgradRefIdeal : Cert.OutWgradRefIdeal.Facts] : Prop :=
  ∀ (m : (ℓ : Loc Cert.OutWgradIdeal.nD Cert.OutWgradIdeal.τ Cert.OutWgradIdeal.sig) → Buf (Elt Ideal) ℓ) (g : Dev Cert.OutWgradIdeal.nD → PrngReg)
    (m' : (ℓ : Loc Cert.OutWgradRefIdeal.nD Cert.OutWgradRefIdeal.τ Cert.OutWgradRefIdeal.sig) → Buf (Elt Ideal) ℓ) (g' : Dev Cert.OutWgradRefIdeal.nD → PrngReg), Pre_OutWgradIdeal m →
    (∀ c : Dev Cert.OutWgradIdeal.nD,
      m' ((c.tc : Thread Cert.OutWgradRefIdeal.nD Cert.OutWgradRefIdeal.τ).loc Cert.OutWgradRefIdeal.main_arg0) = m ((c.tc : Thread Cert.OutWgradIdeal.nD Cert.OutWgradIdeal.τ).loc Cert.OutWgradIdeal.main_arg0)
      ∧ m' ((c.tc : Thread Cert.OutWgradRefIdeal.nD Cert.OutWgradRefIdeal.τ).loc Cert.OutWgradRefIdeal.main_arg1) = m ((c.tc : Thread Cert.OutWgradIdeal.nD Cert.OutWgradIdeal.τ).loc Cert.OutWgradIdeal.main_arg1)) →
    ∃ (v0 : (c : Dev Cert.OutWgradIdeal.nD) → Buf (Elt Ideal) ((c.tc : Thread Cert.OutWgradIdeal.nD Cert.OutWgradIdeal.τ).loc Cert.OutWgradIdeal.main_v0)),
      θ_run (Cert.OutWgradIdeal.defs (F := Ideal)) (onTc (τ := Cert.OutWgradIdeal.τ) (Cert.OutWgradIdeal.main (F := Ideal))) ⟨m, fun _ => 0, g⟩ (fun r => ∀ c : Dev Cert.OutWgradIdeal.nD,
          r.2.mem ((c.tc : Thread Cert.OutWgradIdeal.nD Cert.OutWgradIdeal.τ).loc Cert.OutWgradIdeal.main_v0) = v0 c
          ∧ r.2.mem ((c.tc : Thread Cert.OutWgradIdeal.nD Cert.OutWgradIdeal.τ).loc Cert.OutWgradIdeal.main_arg0) = m ((c.tc : Thread Cert.OutWgradIdeal.nD Cert.OutWgradIdeal.τ).loc Cert.OutWgradIdeal.main_arg0)
          ∧ r.2.mem ((c.tc : Thread Cert.OutWgradIdeal.nD Cert.OutWgradIdeal.τ).loc Cert.OutWgradIdeal.main_arg1) = m ((c.tc : Thread Cert.OutWgradIdeal.nD Cert.OutWgradIdeal.τ).loc Cert.OutWgradIdeal.main_arg1))
      ∧ θ_run (Cert.OutWgradRefIdeal.defs (F := Ideal)) (onTc (τ := Cert.OutWgradRefIdeal.τ) (Cert.OutWgradRefIdeal.main (F := Ideal))) ⟨m', fun _ => 0, g'⟩ (fun r => ∀ c : Dev Cert.OutWgradRefIdeal.nD,
          r.2.mem ((c.tc : Thread Cert.OutWgradRefIdeal.nD Cert.OutWgradRefIdeal.τ).loc Cert.OutWgradRefIdeal.main_v7) = v0 c
          ∧ r.2.mem ((c.tc : Thread Cert.OutWgradRefIdeal.nD Cert.OutWgradRefIdeal.τ).loc Cert.OutWgradRefIdeal.main_arg0) = m' ((c.tc : Thread Cert.OutWgradRefIdeal.nD Cert.OutWgradRefIdeal.τ).loc Cert.OutWgradRefIdeal.main_arg0)
          ∧ r.2.mem ((c.tc : Thread Cert.OutWgradRefIdeal.nD Cert.OutWgradRefIdeal.τ).loc Cert.OutWgradRefIdeal.main_arg1) = m' ((c.tc : Thread Cert.OutWgradRefIdeal.nD Cert.OutWgradRefIdeal.τ).loc Cert.OutWgradRefIdeal.main_arg1))

def preserves_InWgrad_InWgradIdeal : Prop :=
  True

def algebraic_InWgradIdeal_InWgradRefIdeal [hInWgradIdeal : Cert.InWgradIdeal.Facts] [hInWgradRefIdeal : Cert.InWgradRefIdeal.Facts] : Prop :=
  ∀ (m : (ℓ : Loc Cert.InWgradIdeal.nD Cert.InWgradIdeal.τ Cert.InWgradIdeal.sig) → Buf (Elt Ideal) ℓ) (g : Dev Cert.InWgradIdeal.nD → PrngReg)
    (m' : (ℓ : Loc Cert.InWgradRefIdeal.nD Cert.InWgradRefIdeal.τ Cert.InWgradRefIdeal.sig) → Buf (Elt Ideal) ℓ) (g' : Dev Cert.InWgradRefIdeal.nD → PrngReg), Pre_InWgradIdeal m →
    (∀ c : Dev Cert.InWgradIdeal.nD,
      m' ((c.tc : Thread Cert.InWgradRefIdeal.nD Cert.InWgradRefIdeal.τ).loc Cert.InWgradRefIdeal.main_arg0) = m ((c.tc : Thread Cert.InWgradIdeal.nD Cert.InWgradIdeal.τ).loc Cert.InWgradIdeal.main_arg0)
      ∧ m' ((c.tc : Thread Cert.InWgradRefIdeal.nD Cert.InWgradRefIdeal.τ).loc Cert.InWgradRefIdeal.main_arg1) = m ((c.tc : Thread Cert.InWgradIdeal.nD Cert.InWgradIdeal.τ).loc Cert.InWgradIdeal.main_arg1)) →
    ∃ (v0 : (c : Dev Cert.InWgradIdeal.nD) → Buf (Elt Ideal) ((c.tc : Thread Cert.InWgradIdeal.nD Cert.InWgradIdeal.τ).loc Cert.InWgradIdeal.main_v0)),
      θ_run (Cert.InWgradIdeal.defs (F := Ideal)) (onTc (τ := Cert.InWgradIdeal.τ) (Cert.InWgradIdeal.main (F := Ideal))) ⟨m, fun _ => 0, g⟩ (fun r => ∀ c : Dev Cert.InWgradIdeal.nD,
          r.2.mem ((c.tc : Thread Cert.InWgradIdeal.nD Cert.InWgradIdeal.τ).loc Cert.InWgradIdeal.main_v0) = v0 c
          ∧ r.2.mem ((c.tc : Thread Cert.InWgradIdeal.nD Cert.InWgradIdeal.τ).loc Cert.InWgradIdeal.main_arg0) = m ((c.tc : Thread Cert.InWgradIdeal.nD Cert.InWgradIdeal.τ).loc Cert.InWgradIdeal.main_arg0)
          ∧ r.2.mem ((c.tc : Thread Cert.InWgradIdeal.nD Cert.InWgradIdeal.τ).loc Cert.InWgradIdeal.main_arg1) = m ((c.tc : Thread Cert.InWgradIdeal.nD Cert.InWgradIdeal.τ).loc Cert.InWgradIdeal.main_arg1))
      ∧ θ_run (Cert.InWgradRefIdeal.defs (F := Ideal)) (onTc (τ := Cert.InWgradRefIdeal.τ) (Cert.InWgradRefIdeal.main (F := Ideal))) ⟨m', fun _ => 0, g'⟩ (fun r => ∀ c : Dev Cert.InWgradRefIdeal.nD,
          r.2.mem ((c.tc : Thread Cert.InWgradRefIdeal.nD Cert.InWgradRefIdeal.τ).loc Cert.InWgradRefIdeal.main_v9) = v0 c
          ∧ r.2.mem ((c.tc : Thread Cert.InWgradRefIdeal.nD Cert.InWgradRefIdeal.τ).loc Cert.InWgradRefIdeal.main_arg0) = m' ((c.tc : Thread Cert.InWgradRefIdeal.nD Cert.InWgradRefIdeal.τ).loc Cert.InWgradRefIdeal.main_arg0)
          ∧ r.2.mem ((c.tc : Thread Cert.InWgradRefIdeal.nD Cert.InWgradRefIdeal.τ).loc Cert.InWgradRefIdeal.main_arg1) = m' ((c.tc : Thread Cert.InWgradRefIdeal.nD Cert.InWgradRefIdeal.τ).loc Cert.InWgradRefIdeal.main_arg1))

def preserves_EvenWgrad_EvenWgradIdeal : Prop :=
  True

def algebraic_EvenWgradIdeal_EvenWgradRefIdeal [hEvenWgradIdeal : Cert.EvenWgradIdeal.Facts] [hEvenWgradRefIdeal : Cert.EvenWgradRefIdeal.Facts] : Prop :=
  ∀ (m : (ℓ : Loc Cert.EvenWgradIdeal.nD Cert.EvenWgradIdeal.τ Cert.EvenWgradIdeal.sig) → Buf (Elt Ideal) ℓ) (g : Dev Cert.EvenWgradIdeal.nD → PrngReg)
    (m' : (ℓ : Loc Cert.EvenWgradRefIdeal.nD Cert.EvenWgradRefIdeal.τ Cert.EvenWgradRefIdeal.sig) → Buf (Elt Ideal) ℓ) (g' : Dev Cert.EvenWgradRefIdeal.nD → PrngReg), Pre_EvenWgradIdeal m →
    (∀ c : Dev Cert.EvenWgradIdeal.nD,
      m' ((c.tc : Thread Cert.EvenWgradRefIdeal.nD Cert.EvenWgradRefIdeal.τ).loc Cert.EvenWgradRefIdeal.main_arg0) = m ((c.tc : Thread Cert.EvenWgradIdeal.nD Cert.EvenWgradIdeal.τ).loc Cert.EvenWgradIdeal.main_arg0)
      ∧ m' ((c.tc : Thread Cert.EvenWgradRefIdeal.nD Cert.EvenWgradRefIdeal.τ).loc Cert.EvenWgradRefIdeal.main_arg1) = m ((c.tc : Thread Cert.EvenWgradIdeal.nD Cert.EvenWgradIdeal.τ).loc Cert.EvenWgradIdeal.main_arg1)
      ∧ m' ((c.tc : Thread Cert.EvenWgradRefIdeal.nD Cert.EvenWgradRefIdeal.τ).loc Cert.EvenWgradRefIdeal.main_arg2) = m ((c.tc : Thread Cert.EvenWgradIdeal.nD Cert.EvenWgradIdeal.τ).loc Cert.EvenWgradIdeal.main_arg2)
      ∧ m' ((c.tc : Thread Cert.EvenWgradRefIdeal.nD Cert.EvenWgradRefIdeal.τ).loc Cert.EvenWgradRefIdeal.main_arg3) = m ((c.tc : Thread Cert.EvenWgradIdeal.nD Cert.EvenWgradIdeal.τ).loc Cert.EvenWgradIdeal.main_arg3)
      ∧ m' ((c.tc : Thread Cert.EvenWgradRefIdeal.nD Cert.EvenWgradRefIdeal.τ).loc Cert.EvenWgradRefIdeal.main_arg4) = m ((c.tc : Thread Cert.EvenWgradIdeal.nD Cert.EvenWgradIdeal.τ).loc Cert.EvenWgradIdeal.main_arg4)
      ∧ m' ((c.tc : Thread Cert.EvenWgradRefIdeal.nD Cert.EvenWgradRefIdeal.τ).loc Cert.EvenWgradRefIdeal.main_arg5) = m ((c.tc : Thread Cert.EvenWgradIdeal.nD Cert.EvenWgradIdeal.τ).loc Cert.EvenWgradIdeal.main_arg5)) →
    ∃ (v0 : (c : Dev Cert.EvenWgradIdeal.nD) → Buf (Elt Ideal) ((c.tc : Thread Cert.EvenWgradIdeal.nD Cert.EvenWgradIdeal.τ).loc Cert.EvenWgradIdeal.main_v0)),
      θ_run (Cert.EvenWgradIdeal.defs (F := Ideal)) (onTc (τ := Cert.EvenWgradIdeal.τ) (Cert.EvenWgradIdeal.main (F := Ideal))) ⟨m, fun _ => 0, g⟩ (fun r => ∀ c : Dev Cert.EvenWgradIdeal.nD,
          r.2.mem ((c.tc : Thread Cert.EvenWgradIdeal.nD Cert.EvenWgradIdeal.τ).loc Cert.EvenWgradIdeal.main_v0) = v0 c
          ∧ r.2.mem ((c.tc : Thread Cert.EvenWgradIdeal.nD Cert.EvenWgradIdeal.τ).loc Cert.EvenWgradIdeal.main_arg0) = m ((c.tc : Thread Cert.EvenWgradIdeal.nD Cert.EvenWgradIdeal.τ).loc Cert.EvenWgradIdeal.main_arg0)
          ∧ r.2.mem ((c.tc : Thread Cert.EvenWgradIdeal.nD Cert.EvenWgradIdeal.τ).loc Cert.EvenWgradIdeal.main_arg1) = m ((c.tc : Thread Cert.EvenWgradIdeal.nD Cert.EvenWgradIdeal.τ).loc Cert.EvenWgradIdeal.main_arg1)
          ∧ r.2.mem ((c.tc : Thread Cert.EvenWgradIdeal.nD Cert.EvenWgradIdeal.τ).loc Cert.EvenWgradIdeal.main_arg2) = m ((c.tc : Thread Cert.EvenWgradIdeal.nD Cert.EvenWgradIdeal.τ).loc Cert.EvenWgradIdeal.main_arg2)
          ∧ r.2.mem ((c.tc : Thread Cert.EvenWgradIdeal.nD Cert.EvenWgradIdeal.τ).loc Cert.EvenWgradIdeal.main_arg3) = m ((c.tc : Thread Cert.EvenWgradIdeal.nD Cert.EvenWgradIdeal.τ).loc Cert.EvenWgradIdeal.main_arg3)
          ∧ r.2.mem ((c.tc : Thread Cert.EvenWgradIdeal.nD Cert.EvenWgradIdeal.τ).loc Cert.EvenWgradIdeal.main_arg4) = m ((c.tc : Thread Cert.EvenWgradIdeal.nD Cert.EvenWgradIdeal.τ).loc Cert.EvenWgradIdeal.main_arg4)
          ∧ r.2.mem ((c.tc : Thread Cert.EvenWgradIdeal.nD Cert.EvenWgradIdeal.τ).loc Cert.EvenWgradIdeal.main_arg5) = m ((c.tc : Thread Cert.EvenWgradIdeal.nD Cert.EvenWgradIdeal.τ).loc Cert.EvenWgradIdeal.main_arg5))
      ∧ θ_run (Cert.EvenWgradRefIdeal.defs (F := Ideal)) (onTc (τ := Cert.EvenWgradRefIdeal.τ) (Cert.EvenWgradRefIdeal.main (F := Ideal))) ⟨m', fun _ => 0, g'⟩ (fun r => ∀ c : Dev Cert.EvenWgradRefIdeal.nD,
          r.2.mem ((c.tc : Thread Cert.EvenWgradRefIdeal.nD Cert.EvenWgradRefIdeal.τ).loc Cert.EvenWgradRefIdeal.main_v10) = v0 c
          ∧ r.2.mem ((c.tc : Thread Cert.EvenWgradRefIdeal.nD Cert.EvenWgradRefIdeal.τ).loc Cert.EvenWgradRefIdeal.main_arg0) = m' ((c.tc : Thread Cert.EvenWgradRefIdeal.nD Cert.EvenWgradRefIdeal.τ).loc Cert.EvenWgradRefIdeal.main_arg0)
          ∧ r.2.mem ((c.tc : Thread Cert.EvenWgradRefIdeal.nD Cert.EvenWgradRefIdeal.τ).loc Cert.EvenWgradRefIdeal.main_arg1) = m' ((c.tc : Thread Cert.EvenWgradRefIdeal.nD Cert.EvenWgradRefIdeal.τ).loc Cert.EvenWgradRefIdeal.main_arg1)
          ∧ r.2.mem ((c.tc : Thread Cert.EvenWgradRefIdeal.nD Cert.EvenWgradRefIdeal.τ).loc Cert.EvenWgradRefIdeal.main_arg2) = m' ((c.tc : Thread Cert.EvenWgradRefIdeal.nD Cert.EvenWgradRefIdeal.τ).loc Cert.EvenWgradRefIdeal.main_arg2)
          ∧ r.2.mem ((c.tc : Thread Cert.EvenWgradRefIdeal.nD Cert.EvenWgradRefIdeal.τ).loc Cert.EvenWgradRefIdeal.main_arg3) = m' ((c.tc : Thread Cert.EvenWgradRefIdeal.nD Cert.EvenWgradRefIdeal.τ).loc Cert.EvenWgradRefIdeal.main_arg3)
          ∧ r.2.mem ((c.tc : Thread Cert.EvenWgradRefIdeal.nD Cert.EvenWgradRefIdeal.τ).loc Cert.EvenWgradRefIdeal.main_arg4) = m' ((c.tc : Thread Cert.EvenWgradRefIdeal.nD Cert.EvenWgradRefIdeal.τ).loc Cert.EvenWgradRefIdeal.main_arg4)
          ∧ r.2.mem ((c.tc : Thread Cert.EvenWgradRefIdeal.nD Cert.EvenWgradRefIdeal.τ).loc Cert.EvenWgradRefIdeal.main_arg5) = m' ((c.tc : Thread Cert.EvenWgradRefIdeal.nD Cert.EvenWgradRefIdeal.τ).loc Cert.EvenWgradRefIdeal.main_arg5))

def preserves_OutFwd_OutFwdIdeal : Prop :=
  True

def algebraic_OutFwdIdeal_OutFwdRefIdeal [hOutFwdIdeal : Cert.OutFwdIdeal.Facts] [hOutFwdRefIdeal : Cert.OutFwdRefIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdRefIdeal.nD Cert.OutFwdRefIdeal.τ Cert.OutFwdRefIdeal.sig) → Buf (Elt Ideal) ℓ) (g' : Dev Cert.OutFwdRefIdeal.nD → PrngReg), Pre_OutFwdIdeal m →
    (∀ c : Dev Cert.OutFwdIdeal.nD,
      m' ((c.tc : Thread Cert.OutFwdRefIdeal.nD Cert.OutFwdRefIdeal.τ).loc Cert.OutFwdRefIdeal.main_arg0) = m ((c.tc : Thread Cert.OutFwdIdeal.nD Cert.OutFwdIdeal.τ).loc Cert.OutFwdIdeal.main_arg0)
      ∧ m' ((c.tc : Thread Cert.OutFwdRefIdeal.nD Cert.OutFwdRefIdeal.τ).loc Cert.OutFwdRefIdeal.main_arg1) = m ((c.tc : Thread Cert.OutFwdIdeal.nD Cert.OutFwdIdeal.τ).loc Cert.OutFwdIdeal.main_arg1)) →
    ∃ (v0 : (c : Dev Cert.OutFwdIdeal.nD) → Buf (Elt Ideal) ((c.tc : Thread Cert.OutFwdIdeal.nD Cert.OutFwdIdeal.τ).loc Cert.OutFwdIdeal.main_v0)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v0) = v0 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1))
      ∧ θ_run (Cert.OutFwdRefIdeal.defs (F := Ideal)) (onTc (τ := Cert.OutFwdRefIdeal.τ) (Cert.OutFwdRefIdeal.main (F := Ideal))) ⟨m', fun _ => 0, g'⟩ (fun r => ∀ c : Dev Cert.OutFwdRefIdeal.nD,
          r.2.mem ((c.tc : Thread Cert.OutFwdRefIdeal.nD Cert.OutFwdRefIdeal.τ).loc Cert.OutFwdRefIdeal.main_v2) = v0 c
          ∧ r.2.mem ((c.tc : Thread Cert.OutFwdRefIdeal.nD Cert.OutFwdRefIdeal.τ).loc Cert.OutFwdRefIdeal.main_arg0) = m' ((c.tc : Thread Cert.OutFwdRefIdeal.nD Cert.OutFwdRefIdeal.τ).loc Cert.OutFwdRefIdeal.main_arg0)
          ∧ r.2.mem ((c.tc : Thread Cert.OutFwdRefIdeal.nD Cert.OutFwdRefIdeal.τ).loc Cert.OutFwdRefIdeal.main_arg1) = m' ((c.tc : Thread Cert.OutFwdRefIdeal.nD Cert.OutFwdRefIdeal.τ).loc Cert.OutFwdRefIdeal.main_arg1))

def preserves_InFwd_InFwdIdeal : Prop :=
  True

def algebraic_InFwdIdeal_InFwdRefIdeal [hInFwdIdeal : Cert.InFwdIdeal.Facts] [hInFwdRefIdeal : Cert.InFwdRefIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InFwdRefIdeal.nD Cert.InFwdRefIdeal.τ Cert.InFwdRefIdeal.sig) → Buf (Elt Ideal) ℓ) (g' : Dev Cert.InFwdRefIdeal.nD → PrngReg), Pre_InFwdIdeal m →
    (∀ c : Dev Cert.InFwdIdeal.nD,
      m' ((c.tc : Thread Cert.InFwdRefIdeal.nD Cert.InFwdRefIdeal.τ).loc Cert.InFwdRefIdeal.main_arg0) = m ((c.tc : Thread Cert.InFwdIdeal.nD Cert.InFwdIdeal.τ).loc Cert.InFwdIdeal.main_arg0)
      ∧ m' ((c.tc : Thread Cert.InFwdRefIdeal.nD Cert.InFwdRefIdeal.τ).loc Cert.InFwdRefIdeal.main_arg1) = m ((c.tc : Thread Cert.InFwdIdeal.nD Cert.InFwdIdeal.τ).loc Cert.InFwdIdeal.main_arg1)) →
    ∃ (v0 : (c : Dev Cert.InFwdIdeal.nD) → Buf (Elt Ideal) ((c.tc : Thread Cert.InFwdIdeal.nD Cert.InFwdIdeal.τ).loc Cert.InFwdIdeal.main_v0)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v0) = v0 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1))
      ∧ θ_run (Cert.InFwdRefIdeal.defs (F := Ideal)) (onTc (τ := Cert.InFwdRefIdeal.τ) (Cert.InFwdRefIdeal.main (F := Ideal))) ⟨m', fun _ => 0, g'⟩ (fun r => ∀ c : Dev Cert.InFwdRefIdeal.nD,
          r.2.mem ((c.tc : Thread Cert.InFwdRefIdeal.nD Cert.InFwdRefIdeal.τ).loc Cert.InFwdRefIdeal.main_v5) = v0 c
          ∧ r.2.mem ((c.tc : Thread Cert.InFwdRefIdeal.nD Cert.InFwdRefIdeal.τ).loc Cert.InFwdRefIdeal.main_arg0) = m' ((c.tc : Thread Cert.InFwdRefIdeal.nD Cert.InFwdRefIdeal.τ).loc Cert.InFwdRefIdeal.main_arg0)
          ∧ r.2.mem ((c.tc : Thread Cert.InFwdRefIdeal.nD Cert.InFwdRefIdeal.τ).loc Cert.InFwdRefIdeal.main_arg1) = m' ((c.tc : Thread Cert.InFwdRefIdeal.nD Cert.InFwdRefIdeal.τ).loc Cert.InFwdRefIdeal.main_arg1))

def preserves_GateBwd_GateBwdIdeal : Prop :=
  True

def algebraic_GateBwdIdeal_GateBwdRefIdeal_pre_gate_bwd_finite [hGateBwdIdeal : Cert.GateBwdIdeal.Facts] [hGateBwdRefIdeal : Cert.GateBwdRefIdeal.Facts] [hPre_gate_bwd_finite : Cert.Pre_gate_bwd_finite.Facts] : Prop :=
  ∀ (m : (ℓ : Loc Cert.GateBwdIdeal.nD Cert.GateBwdIdeal.τ Cert.GateBwdIdeal.sig) → Buf (Elt Ideal) ℓ) (g : Dev Cert.GateBwdIdeal.nD → PrngReg)
    (m' : (ℓ : Loc Cert.GateBwdRefIdeal.nD Cert.GateBwdRefIdeal.τ Cert.GateBwdRefIdeal.sig) → Buf (Elt Ideal) ℓ) (g' : Dev Cert.GateBwdRefIdeal.nD → PrngReg), Pre_GateBwdIdeal_gate_bwd_finite m →
    (∀ c : Dev Cert.GateBwdIdeal.nD,
      m' ((c.tc : Thread Cert.GateBwdRefIdeal.nD Cert.GateBwdRefIdeal.τ).loc Cert.GateBwdRefIdeal.main_arg0) = m ((c.tc : Thread Cert.GateBwdIdeal.nD Cert.GateBwdIdeal.τ).loc Cert.GateBwdIdeal.main_arg0)
      ∧ m' ((c.tc : Thread Cert.GateBwdRefIdeal.nD Cert.GateBwdRefIdeal.τ).loc Cert.GateBwdRefIdeal.main_arg1) = m ((c.tc : Thread Cert.GateBwdIdeal.nD Cert.GateBwdIdeal.τ).loc Cert.GateBwdIdeal.main_arg1)
      ∧ m' ((c.tc : Thread Cert.GateBwdRefIdeal.nD Cert.GateBwdRefIdeal.τ).loc Cert.GateBwdRefIdeal.main_arg2) = m ((c.tc : Thread Cert.GateBwdIdeal.nD Cert.GateBwdIdeal.τ).loc Cert.GateBwdIdeal.main_arg2)
      ∧ m' ((c.tc : Thread Cert.GateBwdRefIdeal.nD Cert.GateBwdRefIdeal.τ).loc Cert.GateBwdRefIdeal.main_arg3) = m ((c.tc : Thread Cert.GateBwdIdeal.nD Cert.GateBwdIdeal.τ).loc Cert.GateBwdIdeal.main_arg3)
      ∧ m' ((c.tc : Thread Cert.GateBwdRefIdeal.nD Cert.GateBwdRefIdeal.τ).loc Cert.GateBwdRefIdeal.main_arg4) = m ((c.tc : Thread Cert.GateBwdIdeal.nD Cert.GateBwdIdeal.τ).loc Cert.GateBwdIdeal.main_arg4)) →
    ∃ (v0 : (c : Dev Cert.GateBwdIdeal.nD) → Buf (Elt Ideal) ((c.tc : Thread Cert.GateBwdIdeal.nD Cert.GateBwdIdeal.τ).loc Cert.GateBwdIdeal.main_v0_0)) (v1 : (c : Dev Cert.GateBwdIdeal.nD) → Buf (Elt Ideal) ((c.tc : Thread Cert.GateBwdIdeal.nD Cert.GateBwdIdeal.τ).loc Cert.GateBwdIdeal.main_v0_1)) (v2 : (c : Dev Cert.GateBwdIdeal.nD) → Buf (Elt Ideal) ((c.tc : Thread Cert.GateBwdIdeal.nD Cert.GateBwdIdeal.τ).loc Cert.GateBwdIdeal.main_v0_2)) (v3 : (c : Dev Cert.GateBwdIdeal.nD) → Buf (Elt Ideal) ((c.tc : Thread Cert.GateBwdIdeal.nD Cert.GateBwdIdeal.τ).loc Cert.GateBwdIdeal.main_v0_3)),
      θ_run (Cert.GateBwdIdeal.defs (F := Ideal)) (onTc (τ := Cert.GateBwdIdeal.τ) (Cert.GateBwdIdeal.main (F := Ideal))) ⟨m, fun _ => 0, g⟩ (fun r => ∀ c : Dev Cert.GateBwdIdeal.nD,
          r.2.mem ((c.tc : Thread Cert.GateBwdIdeal.nD Cert.GateBwdIdeal.τ).loc Cert.GateBwdIdeal.main_v0_0) = v0 c
          ∧ r.2.mem ((c.tc : Thread Cert.GateBwdIdeal.nD Cert.GateBwdIdeal.τ).loc Cert.GateBwdIdeal.main_v0_1) = v1 c
          ∧ r.2.mem ((c.tc : Thread Cert.GateBwdIdeal.nD Cert.GateBwdIdeal.τ).loc Cert.GateBwdIdeal.main_v0_2) = v2 c
          ∧ r.2.mem ((c.tc : Thread Cert.GateBwdIdeal.nD Cert.GateBwdIdeal.τ).loc Cert.GateBwdIdeal.main_v0_3) = v3 c
          ∧ r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
          ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
          ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
          ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3)
          ∧ r.2.mem ((c.tc : Thread Cert.GateBwdIdeal.nD Cert.GateBwdIdeal.τ).loc Cert.GateBwdIdeal.main_arg4) = m ((c.tc : Thread Cert.GateBwdIdeal.nD Cert.GateBwdIdeal.τ).loc Cert.GateBwdIdeal.main_arg4))
      ∧ θ_run (Cert.GateBwdRefIdeal.defs (F := Ideal)) (onTc (τ := Cert.GateBwdRefIdeal.τ) (Cert.GateBwdRefIdeal.main (F := Ideal))) ⟨m', fun _ => 0, g'⟩ (fun r => ∀ c : Dev Cert.GateBwdRefIdeal.nD,
          r.2.mem ((c.tc : Thread Cert.GateBwdRefIdeal.nD Cert.GateBwdRefIdeal.τ).loc Cert.GateBwdRefIdeal.main_v20) = v0 c
          ∧ r.2.mem ((c.tc : Thread Cert.GateBwdRefIdeal.nD Cert.GateBwdRefIdeal.τ).loc Cert.GateBwdRefIdeal.main_v13) = v1 c
          ∧ r.2.mem ((c.tc : Thread Cert.GateBwdRefIdeal.nD Cert.GateBwdRefIdeal.τ).loc Cert.GateBwdRefIdeal.main_v21) = v2 c
          ∧ r.2.mem ((c.tc : Thread Cert.GateBwdRefIdeal.nD Cert.GateBwdRefIdeal.τ).loc Cert.GateBwdRefIdeal.main_v22) = v3 c
          ∧ r.2.mem ((c.tc : Thread Cert.GateBwdRefIdeal.nD Cert.GateBwdRefIdeal.τ).loc Cert.GateBwdRefIdeal.main_arg0) = m' ((c.tc : Thread Cert.GateBwdRefIdeal.nD Cert.GateBwdRefIdeal.τ).loc Cert.GateBwdRefIdeal.main_arg0)
          ∧ r.2.mem ((c.tc : Thread Cert.GateBwdRefIdeal.nD Cert.GateBwdRefIdeal.τ).loc Cert.GateBwdRefIdeal.main_arg1) = m' ((c.tc : Thread Cert.GateBwdRefIdeal.nD Cert.GateBwdRefIdeal.τ).loc Cert.GateBwdRefIdeal.main_arg1)
          ∧ r.2.mem ((c.tc : Thread Cert.GateBwdRefIdeal.nD Cert.GateBwdRefIdeal.τ).loc Cert.GateBwdRefIdeal.main_arg2) = m' ((c.tc : Thread Cert.GateBwdRefIdeal.nD Cert.GateBwdRefIdeal.τ).loc Cert.GateBwdRefIdeal.main_arg2)
          ∧ r.2.mem ((c.tc : Thread Cert.GateBwdRefIdeal.nD Cert.GateBwdRefIdeal.τ).loc Cert.GateBwdRefIdeal.main_arg3) = m' ((c.tc : Thread Cert.GateBwdRefIdeal.nD Cert.GateBwdRefIdeal.τ).loc Cert.GateBwdRefIdeal.main_arg3)
          ∧ r.2.mem ((c.tc : Thread Cert.GateBwdRefIdeal.nD Cert.GateBwdRefIdeal.τ).loc Cert.GateBwdRefIdeal.main_arg4) = m' ((c.tc : Thread Cert.GateBwdRefIdeal.nD Cert.GateBwdRefIdeal.τ).loc Cert.GateBwdRefIdeal.main_arg4))

def preserves_EvenBwd_EvenBwdIdeal : Prop :=
  True

def algebraic_EvenBwdIdeal_EvenBwdRefIdeal_pre_even_bwd_finite [hEvenBwdIdeal : Cert.EvenBwdIdeal.Facts] [hEvenBwdRefIdeal : Cert.EvenBwdRefIdeal.Facts] [hPre_even_bwd_finite : Cert.Pre_even_bwd_finite.Facts] : Prop :=
  ∀ (m : (ℓ : Loc Cert.EvenBwdIdeal.nD Cert.EvenBwdIdeal.τ Cert.EvenBwdIdeal.sig) → Buf (Elt Ideal) ℓ) (g : Dev Cert.EvenBwdIdeal.nD → PrngReg)
    (m' : (ℓ : Loc Cert.EvenBwdRefIdeal.nD Cert.EvenBwdRefIdeal.τ Cert.EvenBwdRefIdeal.sig) → Buf (Elt Ideal) ℓ) (g' : Dev Cert.EvenBwdRefIdeal.nD → PrngReg), Pre_EvenBwdIdeal_even_bwd_finite m →
    (∀ c : Dev Cert.EvenBwdIdeal.nD,
      m' ((c.tc : Thread Cert.EvenBwdRefIdeal.nD Cert.EvenBwdRefIdeal.τ).loc Cert.EvenBwdRefIdeal.main_arg0) = m ((c.tc : Thread Cert.EvenBwdIdeal.nD Cert.EvenBwdIdeal.τ).loc Cert.EvenBwdIdeal.main_arg0)
      ∧ m' ((c.tc : Thread Cert.EvenBwdRefIdeal.nD Cert.EvenBwdRefIdeal.τ).loc Cert.EvenBwdRefIdeal.main_arg1) = m ((c.tc : Thread Cert.EvenBwdIdeal.nD Cert.EvenBwdIdeal.τ).loc Cert.EvenBwdIdeal.main_arg1)
      ∧ m' ((c.tc : Thread Cert.EvenBwdRefIdeal.nD Cert.EvenBwdRefIdeal.τ).loc Cert.EvenBwdRefIdeal.main_arg2) = m ((c.tc : Thread Cert.EvenBwdIdeal.nD Cert.EvenBwdIdeal.τ).loc Cert.EvenBwdIdeal.main_arg2)
      ∧ m' ((c.tc : Thread Cert.EvenBwdRefIdeal.nD Cert.EvenBwdRefIdeal.τ).loc Cert.EvenBwdRefIdeal.main_arg3) = m ((c.tc : Thread Cert.EvenBwdIdeal.nD Cert.EvenBwdIdeal.τ).loc Cert.EvenBwdIdeal.main_arg3)
      ∧ m' ((c.tc : Thread Cert.EvenBwdRefIdeal.nD Cert.EvenBwdRefIdeal.τ).loc Cert.EvenBwdRefIdeal.main_arg4) = m ((c.tc : Thread Cert.EvenBwdIdeal.nD Cert.EvenBwdIdeal.τ).loc Cert.EvenBwdIdeal.main_arg4)
      ∧ m' ((c.tc : Thread Cert.EvenBwdRefIdeal.nD Cert.EvenBwdRefIdeal.τ).loc Cert.EvenBwdRefIdeal.main_arg5) = m ((c.tc : Thread Cert.EvenBwdIdeal.nD Cert.EvenBwdIdeal.τ).loc Cert.EvenBwdIdeal.main_arg5)
      ∧ m' ((c.tc : Thread Cert.EvenBwdRefIdeal.nD Cert.EvenBwdRefIdeal.τ).loc Cert.EvenBwdRefIdeal.main_arg6) = m ((c.tc : Thread Cert.EvenBwdIdeal.nD Cert.EvenBwdIdeal.τ).loc Cert.EvenBwdIdeal.main_arg6)
      ∧ m' ((c.tc : Thread Cert.EvenBwdRefIdeal.nD Cert.EvenBwdRefIdeal.τ).loc Cert.EvenBwdRefIdeal.main_arg7) = m ((c.tc : Thread Cert.EvenBwdIdeal.nD Cert.EvenBwdIdeal.τ).loc Cert.EvenBwdIdeal.main_arg7)
      ∧ m' ((c.tc : Thread Cert.EvenBwdRefIdeal.nD Cert.EvenBwdRefIdeal.τ).loc Cert.EvenBwdRefIdeal.main_arg8) = m ((c.tc : Thread Cert.EvenBwdIdeal.nD Cert.EvenBwdIdeal.τ).loc Cert.EvenBwdIdeal.main_arg8)
      ∧ m' ((c.tc : Thread Cert.EvenBwdRefIdeal.nD Cert.EvenBwdRefIdeal.τ).loc Cert.EvenBwdRefIdeal.main_arg9) = m ((c.tc : Thread Cert.EvenBwdIdeal.nD Cert.EvenBwdIdeal.τ).loc Cert.EvenBwdIdeal.main_arg9)) →
    ∃ (v0 : (c : Dev Cert.EvenBwdIdeal.nD) → Buf (Elt Ideal) ((c.tc : Thread Cert.EvenBwdIdeal.nD Cert.EvenBwdIdeal.τ).loc Cert.EvenBwdIdeal.main_v1_0)) (v1 : (c : Dev Cert.EvenBwdIdeal.nD) → Buf (Elt Ideal) ((c.tc : Thread Cert.EvenBwdIdeal.nD Cert.EvenBwdIdeal.τ).loc Cert.EvenBwdIdeal.main_v1_1)) (v2 : (c : Dev Cert.EvenBwdIdeal.nD) → Buf (Elt Ideal) ((c.tc : Thread Cert.EvenBwdIdeal.nD Cert.EvenBwdIdeal.τ).loc Cert.EvenBwdIdeal.main_v1_2)) (v3 : (c : Dev Cert.EvenBwdIdeal.nD) → Buf (Elt Ideal) ((c.tc : Thread Cert.EvenBwdIdeal.nD Cert.EvenBwdIdeal.τ).loc Cert.EvenBwdIdeal.main_v1_3)),
      θ_run (Cert.EvenBwdIdeal.defs (F := Ideal)) (onTc (τ := Cert.EvenBwdIdeal.τ) (Cert.EvenBwdIdeal.main (F := Ideal))) ⟨m, fun _ => 0, g⟩ (fun r => ∀ c : Dev Cert.EvenBwdIdeal.nD,
          r.2.mem ((c.tc : Thread Cert.EvenBwdIdeal.nD Cert.EvenBwdIdeal.τ).loc Cert.EvenBwdIdeal.main_v1_0) = v0 c
          ∧ r.2.mem ((c.tc : Thread Cert.EvenBwdIdeal.nD Cert.EvenBwdIdeal.τ).loc Cert.EvenBwdIdeal.main_v1_1) = v1 c
          ∧ r.2.mem ((c.tc : Thread Cert.EvenBwdIdeal.nD Cert.EvenBwdIdeal.τ).loc Cert.EvenBwdIdeal.main_v1_2) = v2 c
          ∧ r.2.mem ((c.tc : Thread Cert.EvenBwdIdeal.nD Cert.EvenBwdIdeal.τ).loc Cert.EvenBwdIdeal.main_v1_3) = v3 c
          ∧ r.2.mem ((c.tc : Thread Cert.EvenBwdIdeal.nD Cert.EvenBwdIdeal.τ).loc Cert.EvenBwdIdeal.main_arg0) = m ((c.tc : Thread Cert.EvenBwdIdeal.nD Cert.EvenBwdIdeal.τ).loc Cert.EvenBwdIdeal.main_arg0)
          ∧ r.2.mem ((c.tc : Thread Cert.EvenBwdIdeal.nD Cert.EvenBwdIdeal.τ).loc Cert.EvenBwdIdeal.main_arg1) = m ((c.tc : Thread Cert.EvenBwdIdeal.nD Cert.EvenBwdIdeal.τ).loc Cert.EvenBwdIdeal.main_arg1)
          ∧ r.2.mem ((c.tc : Thread Cert.EvenBwdIdeal.nD Cert.EvenBwdIdeal.τ).loc Cert.EvenBwdIdeal.main_arg2) = m ((c.tc : Thread Cert.EvenBwdIdeal.nD Cert.EvenBwdIdeal.τ).loc Cert.EvenBwdIdeal.main_arg2)
          ∧ r.2.mem ((c.tc : Thread Cert.EvenBwdIdeal.nD Cert.EvenBwdIdeal.τ).loc Cert.EvenBwdIdeal.main_arg3) = m ((c.tc : Thread Cert.EvenBwdIdeal.nD Cert.EvenBwdIdeal.τ).loc Cert.EvenBwdIdeal.main_arg3)
          ∧ r.2.mem ((c.tc : Thread Cert.EvenBwdIdeal.nD Cert.EvenBwdIdeal.τ).loc Cert.EvenBwdIdeal.main_arg4) = m ((c.tc : Thread Cert.EvenBwdIdeal.nD Cert.EvenBwdIdeal.τ).loc Cert.EvenBwdIdeal.main_arg4)
          ∧ r.2.mem ((c.tc : Thread Cert.EvenBwdIdeal.nD Cert.EvenBwdIdeal.τ).loc Cert.EvenBwdIdeal.main_arg5) = m ((c.tc : Thread Cert.EvenBwdIdeal.nD Cert.EvenBwdIdeal.τ).loc Cert.EvenBwdIdeal.main_arg5)
          ∧ r.2.mem ((c.tc : Thread Cert.EvenBwdIdeal.nD Cert.EvenBwdIdeal.τ).loc Cert.EvenBwdIdeal.main_arg6) = m ((c.tc : Thread Cert.EvenBwdIdeal.nD Cert.EvenBwdIdeal.τ).loc Cert.EvenBwdIdeal.main_arg6)
          ∧ r.2.mem ((c.tc : Thread Cert.EvenBwdIdeal.nD Cert.EvenBwdIdeal.τ).loc Cert.EvenBwdIdeal.main_arg7) = m ((c.tc : Thread Cert.EvenBwdIdeal.nD Cert.EvenBwdIdeal.τ).loc Cert.EvenBwdIdeal.main_arg7)
          ∧ r.2.mem ((c.tc : Thread Cert.EvenBwdIdeal.nD Cert.EvenBwdIdeal.τ).loc Cert.EvenBwdIdeal.main_arg8) = m ((c.tc : Thread Cert.EvenBwdIdeal.nD Cert.EvenBwdIdeal.τ).loc Cert.EvenBwdIdeal.main_arg8)
          ∧ r.2.mem ((c.tc : Thread Cert.EvenBwdIdeal.nD Cert.EvenBwdIdeal.τ).loc Cert.EvenBwdIdeal.main_arg9) = m ((c.tc : Thread Cert.EvenBwdIdeal.nD Cert.EvenBwdIdeal.τ).loc Cert.EvenBwdIdeal.main_arg9))
      ∧ θ_run (Cert.EvenBwdRefIdeal.defs (F := Ideal)) (onTc (τ := Cert.EvenBwdRefIdeal.τ) (Cert.EvenBwdRefIdeal.main (F := Ideal))) ⟨m', fun _ => 0, g'⟩ (fun r => ∀ c : Dev Cert.EvenBwdRefIdeal.nD,
          r.2.mem ((c.tc : Thread Cert.EvenBwdRefIdeal.nD Cert.EvenBwdRefIdeal.τ).loc Cert.EvenBwdRefIdeal.main_v55) = v0 c
          ∧ r.2.mem ((c.tc : Thread Cert.EvenBwdRefIdeal.nD Cert.EvenBwdRefIdeal.τ).loc Cert.EvenBwdRefIdeal.main_v30) = v1 c
          ∧ r.2.mem ((c.tc : Thread Cert.EvenBwdRefIdeal.nD Cert.EvenBwdRefIdeal.τ).loc Cert.EvenBwdRefIdeal.main_v33) = v2 c
          ∧ r.2.mem ((c.tc : Thread Cert.EvenBwdRefIdeal.nD Cert.EvenBwdRefIdeal.τ).loc Cert.EvenBwdRefIdeal.main_v38) = v3 c
          ∧ r.2.mem ((c.tc : Thread Cert.EvenBwdRefIdeal.nD Cert.EvenBwdRefIdeal.τ).loc Cert.EvenBwdRefIdeal.main_arg0) = m' ((c.tc : Thread Cert.EvenBwdRefIdeal.nD Cert.EvenBwdRefIdeal.τ).loc Cert.EvenBwdRefIdeal.main_arg0)
          ∧ r.2.mem ((c.tc : Thread Cert.EvenBwdRefIdeal.nD Cert.EvenBwdRefIdeal.τ).loc Cert.EvenBwdRefIdeal.main_arg1) = m' ((c.tc : Thread Cert.EvenBwdRefIdeal.nD Cert.EvenBwdRefIdeal.τ).loc Cert.EvenBwdRefIdeal.main_arg1)
          ∧ r.2.mem ((c.tc : Thread Cert.EvenBwdRefIdeal.nD Cert.EvenBwdRefIdeal.τ).loc Cert.EvenBwdRefIdeal.main_arg2) = m' ((c.tc : Thread Cert.EvenBwdRefIdeal.nD Cert.EvenBwdRefIdeal.τ).loc Cert.EvenBwdRefIdeal.main_arg2)
          ∧ r.2.mem ((c.tc : Thread Cert.EvenBwdRefIdeal.nD Cert.EvenBwdRefIdeal.τ).loc Cert.EvenBwdRefIdeal.main_arg3) = m' ((c.tc : Thread Cert.EvenBwdRefIdeal.nD Cert.EvenBwdRefIdeal.τ).loc Cert.EvenBwdRefIdeal.main_arg3)
          ∧ r.2.mem ((c.tc : Thread Cert.EvenBwdRefIdeal.nD Cert.EvenBwdRefIdeal.τ).loc Cert.EvenBwdRefIdeal.main_arg4) = m' ((c.tc : Thread Cert.EvenBwdRefIdeal.nD Cert.EvenBwdRefIdeal.τ).loc Cert.EvenBwdRefIdeal.main_arg4)
          ∧ r.2.mem ((c.tc : Thread Cert.EvenBwdRefIdeal.nD Cert.EvenBwdRefIdeal.τ).loc Cert.EvenBwdRefIdeal.main_arg5) = m' ((c.tc : Thread Cert.EvenBwdRefIdeal.nD Cert.EvenBwdRefIdeal.τ).loc Cert.EvenBwdRefIdeal.main_arg5)
          ∧ r.2.mem ((c.tc : Thread Cert.EvenBwdRefIdeal.nD Cert.EvenBwdRefIdeal.τ).loc Cert.EvenBwdRefIdeal.main_arg6) = m' ((c.tc : Thread Cert.EvenBwdRefIdeal.nD Cert.EvenBwdRefIdeal.τ).loc Cert.EvenBwdRefIdeal.main_arg6)
          ∧ r.2.mem ((c.tc : Thread Cert.EvenBwdRefIdeal.nD Cert.EvenBwdRefIdeal.τ).loc Cert.EvenBwdRefIdeal.main_arg7) = m' ((c.tc : Thread Cert.EvenBwdRefIdeal.nD Cert.EvenBwdRefIdeal.τ).loc Cert.EvenBwdRefIdeal.main_arg7)
          ∧ r.2.mem ((c.tc : Thread Cert.EvenBwdRefIdeal.nD Cert.EvenBwdRefIdeal.τ).loc Cert.EvenBwdRefIdeal.main_arg8) = m' ((c.tc : Thread Cert.EvenBwdRefIdeal.nD Cert.EvenBwdRefIdeal.τ).loc Cert.EvenBwdRefIdeal.main_arg8)
          ∧ r.2.mem ((c.tc : Thread Cert.EvenBwdRefIdeal.nD Cert.EvenBwdRefIdeal.τ).loc Cert.EvenBwdRefIdeal.main_arg9) = m' ((c.tc : Thread Cert.EvenBwdRefIdeal.nD Cert.EvenBwdRefIdeal.τ).loc Cert.EvenBwdRefIdeal.main_arg9))

def preserves_AdamInEven_AdamInEvenIdeal : Prop :=
  True

def algebraic_AdamInEvenIdeal_AdamInEvenRefIdeal [hAdamInEvenIdeal : Cert.AdamInEvenIdeal.Facts] [hAdamInEvenRefIdeal : Cert.AdamInEvenRefIdeal.Facts] : Prop :=
  ∀ (m : (ℓ : Loc Cert.AdamInEvenIdeal.nD Cert.AdamInEvenIdeal.τ Cert.AdamInEvenIdeal.sig) → Buf (Elt Ideal) ℓ) (g : Dev Cert.AdamInEvenIdeal.nD → PrngReg)
    (m' : (ℓ : Loc Cert.AdamInEvenRefIdeal.nD Cert.AdamInEvenRefIdeal.τ Cert.AdamInEvenRefIdeal.sig) → Buf (Elt Ideal) ℓ) (g' : Dev Cert.AdamInEvenRefIdeal.nD → PrngReg), Pre_AdamInEvenIdeal m →
    (∀ c : Dev Cert.AdamInEvenIdeal.nD,
      m' ((c.tc : Thread Cert.AdamInEvenRefIdeal.nD Cert.AdamInEvenRefIdeal.τ).loc Cert.AdamInEvenRefIdeal.main_arg0) = m ((c.tc : Thread Cert.AdamInEvenIdeal.nD Cert.AdamInEvenIdeal.τ).loc Cert.AdamInEvenIdeal.main_arg0)
      ∧ m' ((c.tc : Thread Cert.AdamInEvenRefIdeal.nD Cert.AdamInEvenRefIdeal.τ).loc Cert.AdamInEvenRefIdeal.main_arg1) = m ((c.tc : Thread Cert.AdamInEvenIdeal.nD Cert.AdamInEvenIdeal.τ).loc Cert.AdamInEvenIdeal.main_arg1)
      ∧ m' ((c.tc : Thread Cert.AdamInEvenRefIdeal.nD Cert.AdamInEvenRefIdeal.τ).loc Cert.AdamInEvenRefIdeal.main_arg2) = m ((c.tc : Thread Cert.AdamInEvenIdeal.nD Cert.AdamInEvenIdeal.τ).loc Cert.AdamInEvenIdeal.main_arg2)
      ∧ m' ((c.tc : Thread Cert.AdamInEvenRefIdeal.nD Cert.AdamInEvenRefIdeal.τ).loc Cert.AdamInEvenRefIdeal.main_arg3) = m ((c.tc : Thread Cert.AdamInEvenIdeal.nD Cert.AdamInEvenIdeal.τ).loc Cert.AdamInEvenIdeal.main_arg3)) →
    ∃ (v0 : (c : Dev Cert.AdamInEvenIdeal.nD) → Buf (Elt Ideal) ((c.tc : Thread Cert.AdamInEvenIdeal.nD Cert.AdamInEvenIdeal.τ).loc Cert.AdamInEvenIdeal.main_v0_0)) (v1 : (c : Dev Cert.AdamInEvenIdeal.nD) → Buf (Elt Ideal) ((c.tc : Thread Cert.AdamInEvenIdeal.nD Cert.AdamInEvenIdeal.τ).loc Cert.AdamInEvenIdeal.main_v0_1)) (v2 : (c : Dev Cert.AdamInEvenIdeal.nD) → Buf (Elt Ideal) ((c.tc : Thread Cert.AdamInEvenIdeal.nD Cert.AdamInEvenIdeal.τ).loc Cert.AdamInEvenIdeal.main_v0_2)) (v3 : (c : Dev Cert.AdamInEvenIdeal.nD) → Buf (Elt Ideal) ((c.tc : Thread Cert.AdamInEvenIdeal.nD Cert.AdamInEvenIdeal.τ).loc Cert.AdamInEvenIdeal.main_v0_3)),
      θ_run (Cert.AdamInEvenIdeal.defs (F := Ideal)) (onTc (τ := Cert.AdamInEvenIdeal.τ) (Cert.AdamInEvenIdeal.main (F := Ideal))) ⟨m, fun _ => 0, g⟩ (fun r => ∀ c : Dev Cert.AdamInEvenIdeal.nD,
          r.2.mem ((c.tc : Thread Cert.AdamInEvenIdeal.nD Cert.AdamInEvenIdeal.τ).loc Cert.AdamInEvenIdeal.main_v0_0) = v0 c
          ∧ r.2.mem ((c.tc : Thread Cert.AdamInEvenIdeal.nD Cert.AdamInEvenIdeal.τ).loc Cert.AdamInEvenIdeal.main_v0_1) = v1 c
          ∧ r.2.mem ((c.tc : Thread Cert.AdamInEvenIdeal.nD Cert.AdamInEvenIdeal.τ).loc Cert.AdamInEvenIdeal.main_v0_2) = v2 c
          ∧ r.2.mem ((c.tc : Thread Cert.AdamInEvenIdeal.nD Cert.AdamInEvenIdeal.τ).loc Cert.AdamInEvenIdeal.main_v0_3) = v3 c
          ∧ r.2.mem ((c.tc : Thread Cert.AdamInEvenIdeal.nD Cert.AdamInEvenIdeal.τ).loc Cert.AdamInEvenIdeal.main_arg0) = m ((c.tc : Thread Cert.AdamInEvenIdeal.nD Cert.AdamInEvenIdeal.τ).loc Cert.AdamInEvenIdeal.main_arg0)
          ∧ r.2.mem ((c.tc : Thread Cert.AdamInEvenIdeal.nD Cert.AdamInEvenIdeal.τ).loc Cert.AdamInEvenIdeal.main_arg1) = m ((c.tc : Thread Cert.AdamInEvenIdeal.nD Cert.AdamInEvenIdeal.τ).loc Cert.AdamInEvenIdeal.main_arg1)
          ∧ r.2.mem ((c.tc : Thread Cert.AdamInEvenIdeal.nD Cert.AdamInEvenIdeal.τ).loc Cert.AdamInEvenIdeal.main_arg2) = m ((c.tc : Thread Cert.AdamInEvenIdeal.nD Cert.AdamInEvenIdeal.τ).loc Cert.AdamInEvenIdeal.main_arg2)
          ∧ r.2.mem ((c.tc : Thread Cert.AdamInEvenIdeal.nD Cert.AdamInEvenIdeal.τ).loc Cert.AdamInEvenIdeal.main_arg3) = m ((c.tc : Thread Cert.AdamInEvenIdeal.nD Cert.AdamInEvenIdeal.τ).loc Cert.AdamInEvenIdeal.main_arg3))
      ∧ θ_run (Cert.AdamInEvenRefIdeal.defs (F := Ideal)) (onTc (τ := Cert.AdamInEvenRefIdeal.τ) (Cert.AdamInEvenRefIdeal.main (F := Ideal))) ⟨m', fun _ => 0, g'⟩ (fun r => ∀ c : Dev Cert.AdamInEvenRefIdeal.nD,
          r.2.mem ((c.tc : Thread Cert.AdamInEvenRefIdeal.nD Cert.AdamInEvenRefIdeal.τ).loc Cert.AdamInEvenRefIdeal.main_v1) = v0 c
          ∧ r.2.mem ((c.tc : Thread Cert.AdamInEvenRefIdeal.nD Cert.AdamInEvenRefIdeal.τ).loc Cert.AdamInEvenRefIdeal.main_v25) = v1 c
          ∧ r.2.mem ((c.tc : Thread Cert.AdamInEvenRefIdeal.nD Cert.AdamInEvenRefIdeal.τ).loc Cert.AdamInEvenRefIdeal.main_v6) = v2 c
          ∧ r.2.mem ((c.tc : Thread Cert.AdamInEvenRefIdeal.nD Cert.AdamInEvenRefIdeal.τ).loc Cert.AdamInEvenRefIdeal.main_v12) = v3 c
          ∧ r.2.mem ((c.tc : Thread Cert.AdamInEvenRefIdeal.nD Cert.AdamInEvenRefIdeal.τ).loc Cert.AdamInEvenRefIdeal.main_arg0) = m' ((c.tc : Thread Cert.AdamInEvenRefIdeal.nD Cert.AdamInEvenRefIdeal.τ).loc Cert.AdamInEvenRefIdeal.main_arg0)
          ∧ r.2.mem ((c.tc : Thread Cert.AdamInEvenRefIdeal.nD Cert.AdamInEvenRefIdeal.τ).loc Cert.AdamInEvenRefIdeal.main_arg1) = m' ((c.tc : Thread Cert.AdamInEvenRefIdeal.nD Cert.AdamInEvenRefIdeal.τ).loc Cert.AdamInEvenRefIdeal.main_arg1)
          ∧ r.2.mem ((c.tc : Thread Cert.AdamInEvenRefIdeal.nD Cert.AdamInEvenRefIdeal.τ).loc Cert.AdamInEvenRefIdeal.main_arg2) = m' ((c.tc : Thread Cert.AdamInEvenRefIdeal.nD Cert.AdamInEvenRefIdeal.τ).loc Cert.AdamInEvenRefIdeal.main_arg2)
          ∧ r.2.mem ((c.tc : Thread Cert.AdamInEvenRefIdeal.nD Cert.AdamInEvenRefIdeal.τ).loc Cert.AdamInEvenRefIdeal.main_arg3) = m' ((c.tc : Thread Cert.AdamInEvenRefIdeal.nD Cert.AdamInEvenRefIdeal.τ).loc Cert.AdamInEvenRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v1) = v0 c
          ∧ r.2.mem ((c.tc : Thread Cert.AdamOutRefIdeal.nD Cert.AdamOutRefIdeal.τ).loc Cert.AdamOutRefIdeal.main_v25) = v1 c
          ∧ r.2.mem ((c.tc : Thread Cert.AdamOutRefIdeal.nD Cert.AdamOutRefIdeal.τ).loc Cert.AdamOutRefIdeal.main_v6) = v2 c
          ∧ r.2.mem ((c.tc : Thread Cert.AdamOutRefIdeal.nD Cert.AdamOutRefIdeal.τ).loc Cert.AdamOutRefIdeal.main_v12) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamInOdd_AdamInOddIdeal : Prop :=
  True

def algebraic_AdamInOddIdeal_AdamInOddRefIdeal [hAdamInOddIdeal : Cert.AdamInOddIdeal.Facts] [hAdamInOddRefIdeal : Cert.AdamInOddRefIdeal.Facts] : Prop :=
  ∀ (m : (ℓ : Loc Cert.AdamInOddIdeal.nD Cert.AdamInOddIdeal.τ Cert.AdamInOddIdeal.sig) → Buf (Elt Ideal) ℓ) (g : Dev Cert.AdamInOddIdeal.nD → PrngReg)
    (m' : (ℓ : Loc Cert.AdamInOddRefIdeal.nD Cert.AdamInOddRefIdeal.τ Cert.AdamInOddRefIdeal.sig) → Buf (Elt Ideal) ℓ) (g' : Dev Cert.AdamInOddRefIdeal.nD → PrngReg), Pre_AdamInOddIdeal m →
    (∀ c : Dev Cert.AdamInOddIdeal.nD,
      m' ((c.tc : Thread Cert.AdamInOddRefIdeal.nD Cert.AdamInOddRefIdeal.τ).loc Cert.AdamInOddRefIdeal.main_arg0) = m ((c.tc : Thread Cert.AdamInOddIdeal.nD Cert.AdamInOddIdeal.τ).loc Cert.AdamInOddIdeal.main_arg0)
      ∧ m' ((c.tc : Thread Cert.AdamInOddRefIdeal.nD Cert.AdamInOddRefIdeal.τ).loc Cert.AdamInOddRefIdeal.main_arg1) = m ((c.tc : Thread Cert.AdamInOddIdeal.nD Cert.AdamInOddIdeal.τ).loc Cert.AdamInOddIdeal.main_arg1)
      ∧ m' ((c.tc : Thread Cert.AdamInOddRefIdeal.nD Cert.AdamInOddRefIdeal.τ).loc Cert.AdamInOddRefIdeal.main_arg2) = m ((c.tc : Thread Cert.AdamInOddIdeal.nD Cert.AdamInOddIdeal.τ).loc Cert.AdamInOddIdeal.main_arg2)
      ∧ m' ((c.tc : Thread Cert.AdamInOddRefIdeal.nD Cert.AdamInOddRefIdeal.τ).loc Cert.AdamInOddRefIdeal.main_arg3) = m ((c.tc : Thread Cert.AdamInOddIdeal.nD Cert.AdamInOddIdeal.τ).loc Cert.AdamInOddIdeal.main_arg3)) →
    ∃ (v0 : (c : Dev Cert.AdamInOddIdeal.nD) → Buf (Elt Ideal) ((c.tc : Thread Cert.AdamInOddIdeal.nD Cert.AdamInOddIdeal.τ).loc Cert.AdamInOddIdeal.main_v0_0)) (v1 : (c : Dev Cert.AdamInOddIdeal.nD) → Buf (Elt Ideal) ((c.tc : Thread Cert.AdamInOddIdeal.nD Cert.AdamInOddIdeal.τ).loc Cert.AdamInOddIdeal.main_v0_1)) (v2 : (c : Dev Cert.AdamInOddIdeal.nD) → Buf (Elt Ideal) ((c.tc : Thread Cert.AdamInOddIdeal.nD Cert.AdamInOddIdeal.τ).loc Cert.AdamInOddIdeal.main_v0_2)) (v3 : (c : Dev Cert.AdamInOddIdeal.nD) → Buf (Elt Ideal) ((c.tc : Thread Cert.AdamInOddIdeal.nD Cert.AdamInOddIdeal.τ).loc Cert.AdamInOddIdeal.main_v0_3)),
      θ_run (Cert.AdamInOddIdeal.defs (F := Ideal)) (onTc (τ := Cert.AdamInOddIdeal.τ) (Cert.AdamInOddIdeal.main (F := Ideal))) ⟨m, fun _ => 0, g⟩ (fun r => ∀ c : Dev Cert.AdamInOddIdeal.nD,
          r.2.mem ((c.tc : Thread Cert.AdamInOddIdeal.nD Cert.AdamInOddIdeal.τ).loc Cert.AdamInOddIdeal.main_v0_0) = v0 c
          ∧ r.2.mem ((c.tc : Thread Cert.AdamInOddIdeal.nD Cert.AdamInOddIdeal.τ).loc Cert.AdamInOddIdeal.main_v0_1) = v1 c
          ∧ r.2.mem ((c.tc : Thread Cert.AdamInOddIdeal.nD Cert.AdamInOddIdeal.τ).loc Cert.AdamInOddIdeal.main_v0_2) = v2 c
          ∧ r.2.mem ((c.tc : Thread Cert.AdamInOddIdeal.nD Cert.AdamInOddIdeal.τ).loc Cert.AdamInOddIdeal.main_v0_3) = v3 c
          ∧ r.2.mem ((c.tc : Thread Cert.AdamInOddIdeal.nD Cert.AdamInOddIdeal.τ).loc Cert.AdamInOddIdeal.main_arg0) = m ((c.tc : Thread Cert.AdamInOddIdeal.nD Cert.AdamInOddIdeal.τ).loc Cert.AdamInOddIdeal.main_arg0)
          ∧ r.2.mem ((c.tc : Thread Cert.AdamInOddIdeal.nD Cert.AdamInOddIdeal.τ).loc Cert.AdamInOddIdeal.main_arg1) = m ((c.tc : Thread Cert.AdamInOddIdeal.nD Cert.AdamInOddIdeal.τ).loc Cert.AdamInOddIdeal.main_arg1)
          ∧ r.2.mem ((c.tc : Thread Cert.AdamInOddIdeal.nD Cert.AdamInOddIdeal.τ).loc Cert.AdamInOddIdeal.main_arg2) = m ((c.tc : Thread Cert.AdamInOddIdeal.nD Cert.AdamInOddIdeal.τ).loc Cert.AdamInOddIdeal.main_arg2)
          ∧ r.2.mem ((c.tc : Thread Cert.AdamInOddIdeal.nD Cert.AdamInOddIdeal.τ).loc Cert.AdamInOddIdeal.main_arg3) = m ((c.tc : Thread Cert.AdamInOddIdeal.nD Cert.AdamInOddIdeal.τ).loc Cert.AdamInOddIdeal.main_arg3))
      ∧ θ_run (Cert.AdamInOddRefIdeal.defs (F := Ideal)) (onTc (τ := Cert.AdamInOddRefIdeal.τ) (Cert.AdamInOddRefIdeal.main (F := Ideal))) ⟨m', fun _ => 0, g'⟩ (fun r => ∀ c : Dev Cert.AdamInOddRefIdeal.nD,
          r.2.mem ((c.tc : Thread Cert.AdamInOddRefIdeal.nD Cert.AdamInOddRefIdeal.τ).loc Cert.AdamInOddRefIdeal.main_v1) = v0 c
          ∧ r.2.mem ((c.tc : Thread Cert.AdamInOddRefIdeal.nD Cert.AdamInOddRefIdeal.τ).loc Cert.AdamInOddRefIdeal.main_v25) = v1 c
          ∧ r.2.mem ((c.tc : Thread Cert.AdamInOddRefIdeal.nD Cert.AdamInOddRefIdeal.τ).loc Cert.AdamInOddRefIdeal.main_v6) = v2 c
          ∧ r.2.mem ((c.tc : Thread Cert.AdamInOddRefIdeal.nD Cert.AdamInOddRefIdeal.τ).loc Cert.AdamInOddRefIdeal.main_v12) = v3 c
          ∧ r.2.mem ((c.tc : Thread Cert.AdamInOddRefIdeal.nD Cert.AdamInOddRefIdeal.τ).loc Cert.AdamInOddRefIdeal.main_arg0) = m' ((c.tc : Thread Cert.AdamInOddRefIdeal.nD Cert.AdamInOddRefIdeal.τ).loc Cert.AdamInOddRefIdeal.main_arg0)
          ∧ r.2.mem ((c.tc : Thread Cert.AdamInOddRefIdeal.nD Cert.AdamInOddRefIdeal.τ).loc Cert.AdamInOddRefIdeal.main_arg1) = m' ((c.tc : Thread Cert.AdamInOddRefIdeal.nD Cert.AdamInOddRefIdeal.τ).loc Cert.AdamInOddRefIdeal.main_arg1)
          ∧ r.2.mem ((c.tc : Thread Cert.AdamInOddRefIdeal.nD Cert.AdamInOddRefIdeal.τ).loc Cert.AdamInOddRefIdeal.main_arg2) = m' ((c.tc : Thread Cert.AdamInOddRefIdeal.nD Cert.AdamInOddRefIdeal.τ).loc Cert.AdamInOddRefIdeal.main_arg2)
          ∧ r.2.mem ((c.tc : Thread Cert.AdamInOddRefIdeal.nD Cert.AdamInOddRefIdeal.τ).loc Cert.AdamInOddRefIdeal.main_arg3) = m' ((c.tc : Thread Cert.AdamInOddRefIdeal.nD Cert.AdamInOddRefIdeal.τ).loc Cert.AdamInOddRefIdeal.main_arg3))

def preserves_AdamPool_AdamPoolIdeal : Prop :=
  True

def algebraic_AdamPoolIdeal_AdamPoolRefIdeal [hAdamPoolIdeal : Cert.AdamPoolIdeal.Facts] [hAdamPoolRefIdeal : Cert.AdamPoolRefIdeal.Facts] : Prop :=
  ∀ (m : (ℓ : Loc Cert.AdamPoolIdeal.nD Cert.AdamPoolIdeal.τ Cert.AdamPoolIdeal.sig) → Buf (Elt Ideal) ℓ) (g : Dev Cert.AdamPoolIdeal.nD → PrngReg)
    (m' : (ℓ : Loc Cert.AdamPoolRefIdeal.nD Cert.AdamPoolRefIdeal.τ Cert.AdamPoolRefIdeal.sig) → Buf (Elt Ideal) ℓ) (g' : Dev Cert.AdamPoolRefIdeal.nD → PrngReg), Pre_AdamPoolIdeal m →
    (∀ c : Dev Cert.AdamPoolIdeal.nD,
      m' ((c.tc : Thread Cert.AdamPoolRefIdeal.nD Cert.AdamPoolRefIdeal.τ).loc Cert.AdamPoolRefIdeal.main_arg0) = m ((c.tc : Thread Cert.AdamPoolIdeal.nD Cert.AdamPoolIdeal.τ).loc Cert.AdamPoolIdeal.main_arg0)
      ∧ m' ((c.tc : Thread Cert.AdamPoolRefIdeal.nD Cert.AdamPoolRefIdeal.τ).loc Cert.AdamPoolRefIdeal.main_arg1) = m ((c.tc : Thread Cert.AdamPoolIdeal.nD Cert.AdamPoolIdeal.τ).loc Cert.AdamPoolIdeal.main_arg1)
      ∧ m' ((c.tc : Thread Cert.AdamPoolRefIdeal.nD Cert.AdamPoolRefIdeal.τ).loc Cert.AdamPoolRefIdeal.main_arg2) = m ((c.tc : Thread Cert.AdamPoolIdeal.nD Cert.AdamPoolIdeal.τ).loc Cert.AdamPoolIdeal.main_arg2)
      ∧ m' ((c.tc : Thread Cert.AdamPoolRefIdeal.nD Cert.AdamPoolRefIdeal.τ).loc Cert.AdamPoolRefIdeal.main_arg3) = m ((c.tc : Thread Cert.AdamPoolIdeal.nD Cert.AdamPoolIdeal.τ).loc Cert.AdamPoolIdeal.main_arg3)) →
    ∃ (v0 : (c : Dev Cert.AdamPoolIdeal.nD) → Buf (Elt Ideal) ((c.tc : Thread Cert.AdamPoolIdeal.nD Cert.AdamPoolIdeal.τ).loc Cert.AdamPoolIdeal.main_v0_0)) (v1 : (c : Dev Cert.AdamPoolIdeal.nD) → Buf (Elt Ideal) ((c.tc : Thread Cert.AdamPoolIdeal.nD Cert.AdamPoolIdeal.τ).loc Cert.AdamPoolIdeal.main_v0_1)) (v2 : (c : Dev Cert.AdamPoolIdeal.nD) → Buf (Elt Ideal) ((c.tc : Thread Cert.AdamPoolIdeal.nD Cert.AdamPoolIdeal.τ).loc Cert.AdamPoolIdeal.main_v0_2)) (v3 : (c : Dev Cert.AdamPoolIdeal.nD) → Buf (Elt Ideal) ((c.tc : Thread Cert.AdamPoolIdeal.nD Cert.AdamPoolIdeal.τ).loc Cert.AdamPoolIdeal.main_v0_3)),
      θ_run (Cert.AdamPoolIdeal.defs (F := Ideal)) (onTc (τ := Cert.AdamPoolIdeal.τ) (Cert.AdamPoolIdeal.main (F := Ideal))) ⟨m, fun _ => 0, g⟩ (fun r => ∀ c : Dev Cert.AdamPoolIdeal.nD,
          r.2.mem ((c.tc : Thread Cert.AdamPoolIdeal.nD Cert.AdamPoolIdeal.τ).loc Cert.AdamPoolIdeal.main_v0_0) = v0 c
          ∧ r.2.mem ((c.tc : Thread Cert.AdamPoolIdeal.nD Cert.AdamPoolIdeal.τ).loc Cert.AdamPoolIdeal.main_v0_1) = v1 c
          ∧ r.2.mem ((c.tc : Thread Cert.AdamPoolIdeal.nD Cert.AdamPoolIdeal.τ).loc Cert.AdamPoolIdeal.main_v0_2) = v2 c
          ∧ r.2.mem ((c.tc : Thread Cert.AdamPoolIdeal.nD Cert.AdamPoolIdeal.τ).loc Cert.AdamPoolIdeal.main_v0_3) = v3 c
          ∧ r.2.mem ((c.tc : Thread Cert.AdamPoolIdeal.nD Cert.AdamPoolIdeal.τ).loc Cert.AdamPoolIdeal.main_arg0) = m ((c.tc : Thread Cert.AdamPoolIdeal.nD Cert.AdamPoolIdeal.τ).loc Cert.AdamPoolIdeal.main_arg0)
          ∧ r.2.mem ((c.tc : Thread Cert.AdamPoolIdeal.nD Cert.AdamPoolIdeal.τ).loc Cert.AdamPoolIdeal.main_arg1) = m ((c.tc : Thread Cert.AdamPoolIdeal.nD Cert.AdamPoolIdeal.τ).loc Cert.AdamPoolIdeal.main_arg1)
          ∧ r.2.mem ((c.tc : Thread Cert.AdamPoolIdeal.nD Cert.AdamPoolIdeal.τ).loc Cert.AdamPoolIdeal.main_arg2) = m ((c.tc : Thread Cert.AdamPoolIdeal.nD Cert.AdamPoolIdeal.τ).loc Cert.AdamPoolIdeal.main_arg2)
          ∧ r.2.mem ((c.tc : Thread Cert.AdamPoolIdeal.nD Cert.AdamPoolIdeal.τ).loc Cert.AdamPoolIdeal.main_arg3) = m ((c.tc : Thread Cert.AdamPoolIdeal.nD Cert.AdamPoolIdeal.τ).loc Cert.AdamPoolIdeal.main_arg3))
      ∧ θ_run (Cert.AdamPoolRefIdeal.defs (F := Ideal)) (onTc (τ := Cert.AdamPoolRefIdeal.τ) (Cert.AdamPoolRefIdeal.main (F := Ideal))) ⟨m', fun _ => 0, g'⟩ (fun r => ∀ c : Dev Cert.AdamPoolRefIdeal.nD,
          r.2.mem ((c.tc : Thread Cert.AdamPoolRefIdeal.nD Cert.AdamPoolRefIdeal.τ).loc Cert.AdamPoolRefIdeal.main_v1) = v0 c
          ∧ r.2.mem ((c.tc : Thread Cert.AdamPoolRefIdeal.nD Cert.AdamPoolRefIdeal.τ).loc Cert.AdamPoolRefIdeal.main_v25) = v1 c
          ∧ r.2.mem ((c.tc : Thread Cert.AdamPoolRefIdeal.nD Cert.AdamPoolRefIdeal.τ).loc Cert.AdamPoolRefIdeal.main_v6) = v2 c
          ∧ r.2.mem ((c.tc : Thread Cert.AdamPoolRefIdeal.nD Cert.AdamPoolRefIdeal.τ).loc Cert.AdamPoolRefIdeal.main_v12) = v3 c
          ∧ r.2.mem ((c.tc : Thread Cert.AdamPoolRefIdeal.nD Cert.AdamPoolRefIdeal.τ).loc Cert.AdamPoolRefIdeal.main_arg0) = m' ((c.tc : Thread Cert.AdamPoolRefIdeal.nD Cert.AdamPoolRefIdeal.τ).loc Cert.AdamPoolRefIdeal.main_arg0)
          ∧ r.2.mem ((c.tc : Thread Cert.AdamPoolRefIdeal.nD Cert.AdamPoolRefIdeal.τ).loc Cert.AdamPoolRefIdeal.main_arg1) = m' ((c.tc : Thread Cert.AdamPoolRefIdeal.nD Cert.AdamPoolRefIdeal.τ).loc Cert.AdamPoolRefIdeal.main_arg1)
          ∧ r.2.mem ((c.tc : Thread Cert.AdamPoolRefIdeal.nD Cert.AdamPoolRefIdeal.τ).loc Cert.AdamPoolRefIdeal.main_arg2) = m' ((c.tc : Thread Cert.AdamPoolRefIdeal.nD Cert.AdamPoolRefIdeal.τ).loc Cert.AdamPoolRefIdeal.main_arg2)
          ∧ r.2.mem ((c.tc : Thread Cert.AdamPoolRefIdeal.nD Cert.AdamPoolRefIdeal.τ).loc Cert.AdamPoolRefIdeal.main_arg3) = m' ((c.tc : Thread Cert.AdamPoolRefIdeal.nD Cert.AdamPoolRefIdeal.τ).loc Cert.AdamPoolRefIdeal.main_arg3))

def preserves_FinalLoss_FinalLossIdeal : Prop :=
  True

def algebraic_FinalLossIdeal_FinalLossRefIdeal_pre_final_loss_finite [hFinalLossIdeal : Cert.FinalLossIdeal.Facts] [hFinalLossRefIdeal : Cert.FinalLossRefIdeal.Facts] [hPre_final_loss_finite : Cert.Pre_final_loss_finite.Facts] : Prop :=
  ∀ (m : (ℓ : Loc Cert.FinalLossIdeal.nD Cert.FinalLossIdeal.τ Cert.FinalLossIdeal.sig) → Buf (Elt Ideal) ℓ) (g : Dev Cert.FinalLossIdeal.nD → PrngReg)
    (m' : (ℓ : Loc Cert.FinalLossRefIdeal.nD Cert.FinalLossRefIdeal.τ Cert.FinalLossRefIdeal.sig) → Buf (Elt Ideal) ℓ) (g' : Dev Cert.FinalLossRefIdeal.nD → PrngReg), Pre_FinalLossIdeal_final_loss_finite m →
    (∀ c : Dev Cert.FinalLossIdeal.nD,
      m' ((c.tc : Thread Cert.FinalLossRefIdeal.nD Cert.FinalLossRefIdeal.τ).loc Cert.FinalLossRefIdeal.main_arg0) = m ((c.tc : Thread Cert.FinalLossIdeal.nD Cert.FinalLossIdeal.τ).loc Cert.FinalLossIdeal.main_arg0)
      ∧ m' ((c.tc : Thread Cert.FinalLossRefIdeal.nD Cert.FinalLossRefIdeal.τ).loc Cert.FinalLossRefIdeal.main_arg1) = m ((c.tc : Thread Cert.FinalLossIdeal.nD Cert.FinalLossIdeal.τ).loc Cert.FinalLossIdeal.main_arg1)
      ∧ m' ((c.tc : Thread Cert.FinalLossRefIdeal.nD Cert.FinalLossRefIdeal.τ).loc Cert.FinalLossRefIdeal.main_arg2) = m ((c.tc : Thread Cert.FinalLossIdeal.nD Cert.FinalLossIdeal.τ).loc Cert.FinalLossIdeal.main_arg2)
      ∧ m' ((c.tc : Thread Cert.FinalLossRefIdeal.nD Cert.FinalLossRefIdeal.τ).loc Cert.FinalLossRefIdeal.main_arg3) = m ((c.tc : Thread Cert.FinalLossIdeal.nD Cert.FinalLossIdeal.τ).loc Cert.FinalLossIdeal.main_arg3)
      ∧ m' ((c.tc : Thread Cert.FinalLossRefIdeal.nD Cert.FinalLossRefIdeal.τ).loc Cert.FinalLossRefIdeal.main_arg4) = m ((c.tc : Thread Cert.FinalLossIdeal.nD Cert.FinalLossIdeal.τ).loc Cert.FinalLossIdeal.main_arg4)) →
    ∃ (v0 : (c : Dev Cert.FinalLossIdeal.nD) → Buf (Elt Ideal) ((c.tc : Thread Cert.FinalLossIdeal.nD Cert.FinalLossIdeal.τ).loc Cert.FinalLossIdeal.main_v0_0)) (v1 : (c : Dev Cert.FinalLossIdeal.nD) → Buf (Elt Ideal) ((c.tc : Thread Cert.FinalLossIdeal.nD Cert.FinalLossIdeal.τ).loc Cert.FinalLossIdeal.main_v0_1)) (v2 : (c : Dev Cert.FinalLossIdeal.nD) → Buf (Elt Ideal) ((c.tc : Thread Cert.FinalLossIdeal.nD Cert.FinalLossIdeal.τ).loc Cert.FinalLossIdeal.main_v0_2)) (v3 : (c : Dev Cert.FinalLossIdeal.nD) → Buf (Elt Ideal) ((c.tc : Thread Cert.FinalLossIdeal.nD Cert.FinalLossIdeal.τ).loc Cert.FinalLossIdeal.main_v0_3)) (v4 : (c : Dev Cert.FinalLossIdeal.nD) → Buf (Elt Ideal) ((c.tc : Thread Cert.FinalLossIdeal.nD Cert.FinalLossIdeal.τ).loc Cert.FinalLossIdeal.main_v0_4)),
      θ_run (Cert.FinalLossIdeal.defs (F := Ideal)) (onTc (τ := Cert.FinalLossIdeal.τ) (Cert.FinalLossIdeal.main (F := Ideal))) ⟨m, fun _ => 0, g⟩ (fun r => ∀ c : Dev Cert.FinalLossIdeal.nD,
          r.2.mem ((c.tc : Thread Cert.FinalLossIdeal.nD Cert.FinalLossIdeal.τ).loc Cert.FinalLossIdeal.main_v0_0) = v0 c
          ∧ r.2.mem ((c.tc : Thread Cert.FinalLossIdeal.nD Cert.FinalLossIdeal.τ).loc Cert.FinalLossIdeal.main_v0_1) = v1 c
          ∧ r.2.mem ((c.tc : Thread Cert.FinalLossIdeal.nD Cert.FinalLossIdeal.τ).loc Cert.FinalLossIdeal.main_v0_2) = v2 c
          ∧ r.2.mem ((c.tc : Thread Cert.FinalLossIdeal.nD Cert.FinalLossIdeal.τ).loc Cert.FinalLossIdeal.main_v0_3) = v3 c
          ∧ r.2.mem ((c.tc : Thread Cert.FinalLossIdeal.nD Cert.FinalLossIdeal.τ).loc Cert.FinalLossIdeal.main_v0_4) = v4 c
          ∧ r.2.mem ((c.tc : Thread Cert.FinalLossIdeal.nD Cert.FinalLossIdeal.τ).loc Cert.FinalLossIdeal.main_arg0) = m ((c.tc : Thread Cert.FinalLossIdeal.nD Cert.FinalLossIdeal.τ).loc Cert.FinalLossIdeal.main_arg0)
          ∧ r.2.mem ((c.tc : Thread Cert.FinalLossIdeal.nD Cert.FinalLossIdeal.τ).loc Cert.FinalLossIdeal.main_arg1) = m ((c.tc : Thread Cert.FinalLossIdeal.nD Cert.FinalLossIdeal.τ).loc Cert.FinalLossIdeal.main_arg1)
          ∧ r.2.mem ((c.tc : Thread Cert.FinalLossIdeal.nD Cert.FinalLossIdeal.τ).loc Cert.FinalLossIdeal.main_arg2) = m ((c.tc : Thread Cert.FinalLossIdeal.nD Cert.FinalLossIdeal.τ).loc Cert.FinalLossIdeal.main_arg2)
          ∧ r.2.mem ((c.tc : Thread Cert.FinalLossIdeal.nD Cert.FinalLossIdeal.τ).loc Cert.FinalLossIdeal.main_arg3) = m ((c.tc : Thread Cert.FinalLossIdeal.nD Cert.FinalLossIdeal.τ).loc Cert.FinalLossIdeal.main_arg3)
          ∧ r.2.mem ((c.tc : Thread Cert.FinalLossIdeal.nD Cert.FinalLossIdeal.τ).loc Cert.FinalLossIdeal.main_arg4) = m ((c.tc : Thread Cert.FinalLossIdeal.nD Cert.FinalLossIdeal.τ).loc Cert.FinalLossIdeal.main_arg4))
      ∧ θ_run (Cert.FinalLossRefIdeal.defs (F := Ideal)) (onTc (τ := Cert.FinalLossRefIdeal.τ) (Cert.FinalLossRefIdeal.main (F := Ideal))) ⟨m', fun _ => 0, g'⟩ (fun r => ∀ c : Dev Cert.FinalLossRefIdeal.nD,
          r.2.mem ((c.tc : Thread Cert.FinalLossRefIdeal.nD Cert.FinalLossRefIdeal.τ).loc Cert.FinalLossRefIdeal.main_v53) = v0 c
          ∧ r.2.mem ((c.tc : Thread Cert.FinalLossRefIdeal.nD Cert.FinalLossRefIdeal.τ).loc Cert.FinalLossRefIdeal.main_v59) = v1 c
          ∧ r.2.mem ((c.tc : Thread Cert.FinalLossRefIdeal.nD Cert.FinalLossRefIdeal.τ).loc Cert.FinalLossRefIdeal.main_v60) = v2 c
          ∧ r.2.mem ((c.tc : Thread Cert.FinalLossRefIdeal.nD Cert.FinalLossRefIdeal.τ).loc Cert.FinalLossRefIdeal.main_v37) = v3 c
          ∧ r.2.mem ((c.tc : Thread Cert.FinalLossRefIdeal.nD Cert.FinalLossRefIdeal.τ).loc Cert.FinalLossRefIdeal.main_v58) = v4 c
          ∧ r.2.mem ((c.tc : Thread Cert.FinalLossRefIdeal.nD Cert.FinalLossRefIdeal.τ).loc Cert.FinalLossRefIdeal.main_arg0) = m' ((c.tc : Thread Cert.FinalLossRefIdeal.nD Cert.FinalLossRefIdeal.τ).loc Cert.FinalLossRefIdeal.main_arg0)
          ∧ r.2.mem ((c.tc : Thread Cert.FinalLossRefIdeal.nD Cert.FinalLossRefIdeal.τ).loc Cert.FinalLossRefIdeal.main_arg1) = m' ((c.tc : Thread Cert.FinalLossRefIdeal.nD Cert.FinalLossRefIdeal.τ).loc Cert.FinalLossRefIdeal.main_arg1)
          ∧ r.2.mem ((c.tc : Thread Cert.FinalLossRefIdeal.nD Cert.FinalLossRefIdeal.τ).loc Cert.FinalLossRefIdeal.main_arg2) = m' ((c.tc : Thread Cert.FinalLossRefIdeal.nD Cert.FinalLossRefIdeal.τ).loc Cert.FinalLossRefIdeal.main_arg2)
          ∧ r.2.mem ((c.tc : Thread Cert.FinalLossRefIdeal.nD Cert.FinalLossRefIdeal.τ).loc Cert.FinalLossRefIdeal.main_arg3) = m' ((c.tc : Thread Cert.FinalLossRefIdeal.nD Cert.FinalLossRefIdeal.τ).loc Cert.FinalLossRefIdeal.main_arg3)
          ∧ r.2.mem ((c.tc : Thread Cert.FinalLossRefIdeal.nD Cert.FinalLossRefIdeal.τ).loc Cert.FinalLossRefIdeal.main_arg4) = m' ((c.tc : Thread Cert.FinalLossRefIdeal.nD Cert.FinalLossRefIdeal.τ).loc Cert.FinalLossRefIdeal.main_arg4))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)
      ∧ m' ((c.tc : Thread Cert.AdamSmallRefIdeal.nD Cert.AdamSmallRefIdeal.τ).loc Cert.AdamSmallRefIdeal.main_arg4) = m ((c.tc : Thread Cert.AdamSmallIdeal.nD Cert.AdamSmallIdeal.τ).loc Cert.AdamSmallIdeal.main_arg4)
      ∧ m' ((c.tc : Thread Cert.AdamSmallRefIdeal.nD Cert.AdamSmallRefIdeal.τ).loc Cert.AdamSmallRefIdeal.main_arg5) = m ((c.tc : Thread Cert.AdamSmallIdeal.nD Cert.AdamSmallIdeal.τ).loc Cert.AdamSmallIdeal.main_arg5)
      ∧ m' ((c.tc : Thread Cert.AdamSmallRefIdeal.nD Cert.AdamSmallRefIdeal.τ).loc Cert.AdamSmallRefIdeal.main_arg6) = m ((c.tc : Thread Cert.AdamSmallIdeal.nD Cert.AdamSmallIdeal.τ).loc Cert.AdamSmallIdeal.main_arg6)
      ∧ m' ((c.tc : Thread Cert.AdamSmallRefIdeal.nD Cert.AdamSmallRefIdeal.τ).loc Cert.AdamSmallRefIdeal.main_arg7) = m ((c.tc : Thread Cert.AdamSmallIdeal.nD Cert.AdamSmallIdeal.τ).loc Cert.AdamSmallIdeal.main_arg7)
      ∧ m' ((c.tc : Thread Cert.AdamSmallRefIdeal.nD Cert.AdamSmallRefIdeal.τ).loc Cert.AdamSmallRefIdeal.main_arg8) = m ((c.tc : Thread Cert.AdamSmallIdeal.nD Cert.AdamSmallIdeal.τ).loc Cert.AdamSmallIdeal.main_arg8)
      ∧ m' ((c.tc : Thread Cert.AdamSmallRefIdeal.nD Cert.AdamSmallRefIdeal.τ).loc Cert.AdamSmallRefIdeal.main_arg9) = m ((c.tc : Thread Cert.AdamSmallIdeal.nD Cert.AdamSmallIdeal.τ).loc Cert.AdamSmallIdeal.main_arg9)
      ∧ m' ((c.tc : Thread Cert.AdamSmallRefIdeal.nD Cert.AdamSmallRefIdeal.τ).loc Cert.AdamSmallRefIdeal.main_arg10) = m ((c.tc : Thread Cert.AdamSmallIdeal.nD Cert.AdamSmallIdeal.τ).loc Cert.AdamSmallIdeal.main_arg10)
      ∧ m' ((c.tc : Thread Cert.AdamSmallRefIdeal.nD Cert.AdamSmallRefIdeal.τ).loc Cert.AdamSmallRefIdeal.main_arg11) = m ((c.tc : Thread Cert.AdamSmallIdeal.nD Cert.AdamSmallIdeal.τ).loc Cert.AdamSmallIdeal.main_arg11)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)) (v4 : (c : Dev Cert.AdamSmallIdeal.nD) → Buf (Elt Ideal) ((c.tc : Thread Cert.AdamSmallIdeal.nD Cert.AdamSmallIdeal.τ).loc Cert.AdamSmallIdeal.main_v0_4)) (v5 : (c : Dev Cert.AdamSmallIdeal.nD) → Buf (Elt Ideal) ((c.tc : Thread Cert.AdamSmallIdeal.nD Cert.AdamSmallIdeal.τ).loc Cert.AdamSmallIdeal.main_v0_5)) (v6 : (c : Dev Cert.AdamSmallIdeal.nD) → Buf (Elt Ideal) ((c.tc : Thread Cert.AdamSmallIdeal.nD Cert.AdamSmallIdeal.τ).loc Cert.AdamSmallIdeal.main_v0_6)) (v7 : (c : Dev Cert.AdamSmallIdeal.nD) → Buf (Elt Ideal) ((c.tc : Thread Cert.AdamSmallIdeal.nD Cert.AdamSmallIdeal.τ).loc Cert.AdamSmallIdeal.main_v0_7)) (v8 : (c : Dev Cert.AdamSmallIdeal.nD) → Buf (Elt Ideal) ((c.tc : Thread Cert.AdamSmallIdeal.nD Cert.AdamSmallIdeal.τ).loc Cert.AdamSmallIdeal.main_v0_8)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_v0_4) = v4 c
          ∧ r.2.mem ((c.tc : Thread Cert.AdamSmallIdeal.nD Cert.AdamSmallIdeal.τ).loc Cert.AdamSmallIdeal.main_v0_5) = v5 c
          ∧ r.2.mem ((c.tc : Thread Cert.AdamSmallIdeal.nD Cert.AdamSmallIdeal.τ).loc Cert.AdamSmallIdeal.main_v0_6) = v6 c
          ∧ r.2.mem ((c.tc : Thread Cert.AdamSmallIdeal.nD Cert.AdamSmallIdeal.τ).loc Cert.AdamSmallIdeal.main_v0_7) = v7 c
          ∧ r.2.mem ((c.tc : Thread Cert.AdamSmallIdeal.nD Cert.AdamSmallIdeal.τ).loc Cert.AdamSmallIdeal.main_v0_8) = v8 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
          ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
          ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
          ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
          ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
          ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
          ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
          ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
          ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_v47) = v3 c
          ∧ r.2.mem ((c.tc : Thread Cert.AdamSmallRefIdeal.nD Cert.AdamSmallRefIdeal.τ).loc Cert.AdamSmallRefIdeal.main_v28) = v4 c
          ∧ r.2.mem ((c.tc : Thread Cert.AdamSmallRefIdeal.nD Cert.AdamSmallRefIdeal.τ).loc Cert.AdamSmallRefIdeal.main_v34) = v5 c
          ∧ r.2.mem ((c.tc : Thread Cert.AdamSmallRefIdeal.nD Cert.AdamSmallRefIdeal.τ).loc Cert.AdamSmallRefIdeal.main_v71) = v6 c
          ∧ r.2.mem ((c.tc : Thread Cert.AdamSmallRefIdeal.nD Cert.AdamSmallRefIdeal.τ).loc Cert.AdamSmallRefIdeal.main_v52) = v7 c
          ∧ r.2.mem ((c.tc : Thread Cert.AdamSmallRefIdeal.nD Cert.AdamSmallRefIdeal.τ).loc Cert.AdamSmallRefIdeal.main_v58) = v8 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3)
          ∧ r.2.mem ((c.tc : Thread Cert.AdamSmallRefIdeal.nD Cert.AdamSmallRefIdeal.τ).loc Cert.AdamSmallRefIdeal.main_arg4) = m' ((c.tc : Thread Cert.AdamSmallRefIdeal.nD Cert.AdamSmallRefIdeal.τ).loc Cert.AdamSmallRefIdeal.main_arg4)
          ∧ r.2.mem ((c.tc : Thread Cert.AdamSmallRefIdeal.nD Cert.AdamSmallRefIdeal.τ).loc Cert.AdamSmallRefIdeal.main_arg5) = m' ((c.tc : Thread Cert.AdamSmallRefIdeal.nD Cert.AdamSmallRefIdeal.τ).loc Cert.AdamSmallRefIdeal.main_arg5)
          ∧ r.2.mem ((c.tc : Thread Cert.AdamSmallRefIdeal.nD Cert.AdamSmallRefIdeal.τ).loc Cert.AdamSmallRefIdeal.main_arg6) = m' ((c.tc : Thread Cert.AdamSmallRefIdeal.nD Cert.AdamSmallRefIdeal.τ).loc Cert.AdamSmallRefIdeal.main_arg6)
          ∧ r.2.mem ((c.tc : Thread Cert.AdamSmallRefIdeal.nD Cert.AdamSmallRefIdeal.τ).loc Cert.AdamSmallRefIdeal.main_arg7) = m' ((c.tc : Thread Cert.AdamSmallRefIdeal.nD Cert.AdamSmallRefIdeal.τ).loc Cert.AdamSmallRefIdeal.main_arg7)
          ∧ r.2.mem ((c.tc : Thread Cert.AdamSmallRefIdeal.nD Cert.AdamSmallRefIdeal.τ).loc Cert.AdamSmallRefIdeal.main_arg8) = m' ((c.tc : Thread Cert.AdamSmallRefIdeal.nD Cert.AdamSmallRefIdeal.τ).loc Cert.AdamSmallRefIdeal.main_arg8)
          ∧ r.2.mem ((c.tc : Thread Cert.AdamSmallRefIdeal.nD Cert.AdamSmallRefIdeal.τ).loc Cert.AdamSmallRefIdeal.main_arg9) = m' ((c.tc : Thread Cert.AdamSmallRefIdeal.nD Cert.AdamSmallRefIdeal.τ).loc Cert.AdamSmallRefIdeal.main_arg9)
          ∧ r.2.mem ((c.tc : Thread Cert.AdamSmallRefIdeal.nD Cert.AdamSmallRefIdeal.τ).loc Cert.AdamSmallRefIdeal.main_arg10) = m' ((c.tc : Thread Cert.AdamSmallRefIdeal.nD Cert.AdamSmallRefIdeal.τ).loc Cert.AdamSmallRefIdeal.main_arg10)
          ∧ r.2.mem ((c.tc : Thread Cert.AdamSmallRefIdeal.nD Cert.AdamSmallRefIdeal.τ).loc Cert.AdamSmallRefIdeal.main_arg11) = m' ((c.tc : Thread Cert.AdamSmallRefIdeal.nD Cert.AdamSmallRefIdeal.τ).loc Cert.AdamSmallRefIdeal.main_arg11))

def preserves_AdamTiny_AdamTinyIdeal : Prop :=
  True

def algebraic_AdamTinyIdeal_AdamTinyRefIdeal [hAdamTinyIdeal : Cert.AdamTinyIdeal.Facts] [hAdamTinyRefIdeal : Cert.AdamTinyRefIdeal.Facts] : Prop :=
  ∀ (m : (ℓ : Loc Cert.AdamTinyIdeal.nD Cert.AdamTinyIdeal.τ Cert.AdamTinyIdeal.sig) → Buf (Elt Ideal) ℓ) (g : Dev Cert.AdamTinyIdeal.nD → PrngReg)
    (m' : (ℓ : Loc Cert.AdamTinyRefIdeal.nD Cert.AdamTinyRefIdeal.τ Cert.AdamTinyRefIdeal.sig) → Buf (Elt Ideal) ℓ) (g' : Dev Cert.AdamTinyRefIdeal.nD → PrngReg), Pre_AdamTinyIdeal m →
    (∀ c : Dev Cert.AdamTinyIdeal.nD,
      m' ((c.tc : Thread Cert.AdamTinyRefIdeal.nD Cert.AdamTinyRefIdeal.τ).loc Cert.AdamTinyRefIdeal.main_arg0) = m ((c.tc : Thread Cert.AdamTinyIdeal.nD Cert.AdamTinyIdeal.τ).loc Cert.AdamTinyIdeal.main_arg0)
      ∧ m' ((c.tc : Thread Cert.AdamTinyRefIdeal.nD Cert.AdamTinyRefIdeal.τ).loc Cert.AdamTinyRefIdeal.main_arg1) = m ((c.tc : Thread Cert.AdamTinyIdeal.nD Cert.AdamTinyIdeal.τ).loc Cert.AdamTinyIdeal.main_arg1)
      ∧ m' ((c.tc : Thread Cert.AdamTinyRefIdeal.nD Cert.AdamTinyRefIdeal.τ).loc Cert.AdamTinyRefIdeal.main_arg2) = m ((c.tc : Thread Cert.AdamTinyIdeal.nD Cert.AdamTinyIdeal.τ).loc Cert.AdamTinyIdeal.main_arg2)
      ∧ m' ((c.tc : Thread Cert.AdamTinyRefIdeal.nD Cert.AdamTinyRefIdeal.τ).loc Cert.AdamTinyRefIdeal.main_arg3) = m ((c.tc : Thread Cert.AdamTinyIdeal.nD Cert.AdamTinyIdeal.τ).loc Cert.AdamTinyIdeal.main_arg3)
      ∧ m' ((c.tc : Thread Cert.AdamTinyRefIdeal.nD Cert.AdamTinyRefIdeal.τ).loc Cert.AdamTinyRefIdeal.main_arg4) = m ((c.tc : Thread Cert.AdamTinyIdeal.nD Cert.AdamTinyIdeal.τ).loc Cert.AdamTinyIdeal.main_arg4)
      ∧ m' ((c.tc : Thread Cert.AdamTinyRefIdeal.nD Cert.AdamTinyRefIdeal.τ).loc Cert.AdamTinyRefIdeal.main_arg5) = m ((c.tc : Thread Cert.AdamTinyIdeal.nD Cert.AdamTinyIdeal.τ).loc Cert.AdamTinyIdeal.main_arg5)
      ∧ m' ((c.tc : Thread Cert.AdamTinyRefIdeal.nD Cert.AdamTinyRefIdeal.τ).loc Cert.AdamTinyRefIdeal.main_arg6) = m ((c.tc : Thread Cert.AdamTinyIdeal.nD Cert.AdamTinyIdeal.τ).loc Cert.AdamTinyIdeal.main_arg6)
      ∧ m' ((c.tc : Thread Cert.AdamTinyRefIdeal.nD Cert.AdamTinyRefIdeal.τ).loc Cert.AdamTinyRefIdeal.main_arg7) = m ((c.tc : Thread Cert.AdamTinyIdeal.nD Cert.AdamTinyIdeal.τ).loc Cert.AdamTinyIdeal.main_arg7)
      ∧ m' ((c.tc : Thread Cert.AdamTinyRefIdeal.nD Cert.AdamTinyRefIdeal.τ).loc Cert.AdamTinyRefIdeal.main_arg8) = m ((c.tc : Thread Cert.AdamTinyIdeal.nD Cert.AdamTinyIdeal.τ).loc Cert.AdamTinyIdeal.main_arg8)
      ∧ m' ((c.tc : Thread Cert.AdamTinyRefIdeal.nD Cert.AdamTinyRefIdeal.τ).loc Cert.AdamTinyRefIdeal.main_arg9) = m ((c.tc : Thread Cert.AdamTinyIdeal.nD Cert.AdamTinyIdeal.τ).loc Cert.AdamTinyIdeal.main_arg9)
      ∧ m' ((c.tc : Thread Cert.AdamTinyRefIdeal.nD Cert.AdamTinyRefIdeal.τ).loc Cert.AdamTinyRefIdeal.main_arg10) = m ((c.tc : Thread Cert.AdamTinyIdeal.nD Cert.AdamTinyIdeal.τ).loc Cert.AdamTinyIdeal.main_arg10)
      ∧ m' ((c.tc : Thread Cert.AdamTinyRefIdeal.nD Cert.AdamTinyRefIdeal.τ).loc Cert.AdamTinyRefIdeal.main_arg11) = m ((c.tc : Thread Cert.AdamTinyIdeal.nD Cert.AdamTinyIdeal.τ).loc Cert.AdamTinyIdeal.main_arg11)) →
    ∃ (v0 : (c : Dev Cert.AdamTinyIdeal.nD) → Buf (Elt Ideal) ((c.tc : Thread Cert.AdamTinyIdeal.nD Cert.AdamTinyIdeal.τ).loc Cert.AdamTinyIdeal.main_v0_0)) (v1 : (c : Dev Cert.AdamTinyIdeal.nD) → Buf (Elt Ideal) ((c.tc : Thread Cert.AdamTinyIdeal.nD Cert.AdamTinyIdeal.τ).loc Cert.AdamTinyIdeal.main_v0_1)) (v2 : (c : Dev Cert.AdamTinyIdeal.nD) → Buf (Elt Ideal) ((c.tc : Thread Cert.AdamTinyIdeal.nD Cert.AdamTinyIdeal.τ).loc Cert.AdamTinyIdeal.main_v0_2)) (v3 : (c : Dev Cert.AdamTinyIdeal.nD) → Buf (Elt Ideal) ((c.tc : Thread Cert.AdamTinyIdeal.nD Cert.AdamTinyIdeal.τ).loc Cert.AdamTinyIdeal.main_v0_3)) (v4 : (c : Dev Cert.AdamTinyIdeal.nD) → Buf (Elt Ideal) ((c.tc : Thread Cert.AdamTinyIdeal.nD Cert.AdamTinyIdeal.τ).loc Cert.AdamTinyIdeal.main_v0_4)) (v5 : (c : Dev Cert.AdamTinyIdeal.nD) → Buf (Elt Ideal) ((c.tc : Thread Cert.AdamTinyIdeal.nD Cert.AdamTinyIdeal.τ).loc Cert.AdamTinyIdeal.main_v0_5)) (v6 : (c : Dev Cert.AdamTinyIdeal.nD) → Buf (Elt Ideal) ((c.tc : Thread Cert.AdamTinyIdeal.nD Cert.AdamTinyIdeal.τ).loc Cert.AdamTinyIdeal.main_v0_6)) (v7 : (c : Dev Cert.AdamTinyIdeal.nD) → Buf (Elt Ideal) ((c.tc : Thread Cert.AdamTinyIdeal.nD Cert.AdamTinyIdeal.τ).loc Cert.AdamTinyIdeal.main_v0_7)) (v8 : (c : Dev Cert.AdamTinyIdeal.nD) → Buf (Elt Ideal) ((c.tc : Thread Cert.AdamTinyIdeal.nD Cert.AdamTinyIdeal.τ).loc Cert.AdamTinyIdeal.main_v0_8)),
      θ_run (Cert.AdamTinyIdeal.defs (F := Ideal)) (onTc (τ := Cert.AdamTinyIdeal.τ) (Cert.AdamTinyIdeal.main (F := Ideal))) ⟨m, fun _ => 0, g⟩ (fun r => ∀ c : Dev Cert.AdamTinyIdeal.nD,
          r.2.mem ((c.tc : Thread Cert.AdamTinyIdeal.nD Cert.AdamTinyIdeal.τ).loc Cert.AdamTinyIdeal.main_v0_0) = v0 c
          ∧ r.2.mem ((c.tc : Thread Cert.AdamTinyIdeal.nD Cert.AdamTinyIdeal.τ).loc Cert.AdamTinyIdeal.main_v0_1) = v1 c
          ∧ r.2.mem ((c.tc : Thread Cert.AdamTinyIdeal.nD Cert.AdamTinyIdeal.τ).loc Cert.AdamTinyIdeal.main_v0_2) = v2 c
          ∧ r.2.mem ((c.tc : Thread Cert.AdamTinyIdeal.nD Cert.AdamTinyIdeal.τ).loc Cert.AdamTinyIdeal.main_v0_3) = v3 c
          ∧ r.2.mem ((c.tc : Thread Cert.AdamTinyIdeal.nD Cert.AdamTinyIdeal.τ).loc Cert.AdamTinyIdeal.main_v0_4) = v4 c
          ∧ r.2.mem ((c.tc : Thread Cert.AdamTinyIdeal.nD Cert.AdamTinyIdeal.τ).loc Cert.AdamTinyIdeal.main_v0_5) = v5 c
          ∧ r.2.mem ((c.tc : Thread Cert.AdamTinyIdeal.nD Cert.AdamTinyIdeal.τ).loc Cert.AdamTinyIdeal.main_v0_6) = v6 c
          ∧ r.2.mem ((c.tc : Thread Cert.AdamTinyIdeal.nD Cert.AdamTinyIdeal.τ).loc Cert.AdamTinyIdeal.main_v0_7) = v7 c
          ∧ r.2.mem ((c.tc : Thread Cert.AdamTinyIdeal.nD Cert.AdamTinyIdeal.τ).loc Cert.AdamTinyIdeal.main_v0_8) = v8 c
          ∧ r.2.mem ((c.tc : Thread Cert.AdamTinyIdeal.nD Cert.AdamTinyIdeal.τ).loc Cert.AdamTinyIdeal.main_arg0) = m ((c.tc : Thread Cert.AdamTinyIdeal.nD Cert.AdamTinyIdeal.τ).loc Cert.AdamTinyIdeal.main_arg0)
          ∧ r.2.mem ((c.tc : Thread Cert.AdamTinyIdeal.nD Cert.AdamTinyIdeal.τ).loc Cert.AdamTinyIdeal.main_arg1) = m ((c.tc : Thread Cert.AdamTinyIdeal.nD Cert.AdamTinyIdeal.τ).loc Cert.AdamTinyIdeal.main_arg1)
          ∧ r.2.mem ((c.tc : Thread Cert.AdamTinyIdeal.nD Cert.AdamTinyIdeal.τ).loc Cert.AdamTinyIdeal.main_arg2) = m ((c.tc : Thread Cert.AdamTinyIdeal.nD Cert.AdamTinyIdeal.τ).loc Cert.AdamTinyIdeal.main_arg2)
          ∧ r.2.mem ((c.tc : Thread Cert.AdamTinyIdeal.nD Cert.AdamTinyIdeal.τ).loc Cert.AdamTinyIdeal.main_arg3) = m ((c.tc : Thread Cert.AdamTinyIdeal.nD Cert.AdamTinyIdeal.τ).loc Cert.AdamTinyIdeal.main_arg3)
          ∧ r.2.mem ((c.tc : Thread Cert.AdamTinyIdeal.nD Cert.AdamTinyIdeal.τ).loc Cert.AdamTinyIdeal.main_arg4) = m ((c.tc : Thread Cert.AdamTinyIdeal.nD Cert.AdamTinyIdeal.τ).loc Cert.AdamTinyIdeal.main_arg4)
          ∧ r.2.mem ((c.tc : Thread Cert.AdamTinyIdeal.nD Cert.AdamTinyIdeal.τ).loc Cert.AdamTinyIdeal.main_arg5) = m ((c.tc : Thread Cert.AdamTinyIdeal.nD Cert.AdamTinyIdeal.τ).loc Cert.AdamTinyIdeal.main_arg5)
          ∧ r.2.mem ((c.tc : Thread Cert.AdamTinyIdeal.nD Cert.AdamTinyIdeal.τ).loc Cert.AdamTinyIdeal.main_arg6) = m ((c.tc : Thread Cert.AdamTinyIdeal.nD Cert.AdamTinyIdeal.τ).loc Cert.AdamTinyIdeal.main_arg6)
          ∧ r.2.mem ((c.tc : Thread Cert.AdamTinyIdeal.nD Cert.AdamTinyIdeal.τ).loc Cert.AdamTinyIdeal.main_arg7) = m ((c.tc : Thread Cert.AdamTinyIdeal.nD Cert.AdamTinyIdeal.τ).loc Cert.AdamTinyIdeal.main_arg7)
          ∧ r.2.mem ((c.tc : Thread Cert.AdamTinyIdeal.nD Cert.AdamTinyIdeal.τ).loc Cert.AdamTinyIdeal.main_arg8) = m ((c.tc : Thread Cert.AdamTinyIdeal.nD Cert.AdamTinyIdeal.τ).loc Cert.AdamTinyIdeal.main_arg8)
          ∧ r.2.mem ((c.tc : Thread Cert.AdamTinyIdeal.nD Cert.AdamTinyIdeal.τ).loc Cert.AdamTinyIdeal.main_arg9) = m ((c.tc : Thread Cert.AdamTinyIdeal.nD Cert.AdamTinyIdeal.τ).loc Cert.AdamTinyIdeal.main_arg9)
          ∧ r.2.mem ((c.tc : Thread Cert.AdamTinyIdeal.nD Cert.AdamTinyIdeal.τ).loc Cert.AdamTinyIdeal.main_arg10) = m ((c.tc : Thread Cert.AdamTinyIdeal.nD Cert.AdamTinyIdeal.τ).loc Cert.AdamTinyIdeal.main_arg10)
          ∧ r.2.mem ((c.tc : Thread Cert.AdamTinyIdeal.nD Cert.AdamTinyIdeal.τ).loc Cert.AdamTinyIdeal.main_arg11) = m ((c.tc : Thread Cert.AdamTinyIdeal.nD Cert.AdamTinyIdeal.τ).loc Cert.AdamTinyIdeal.main_arg11))
      ∧ θ_run (Cert.AdamTinyRefIdeal.defs (F := Ideal)) (onTc (τ := Cert.AdamTinyRefIdeal.τ) (Cert.AdamTinyRefIdeal.main (F := Ideal))) ⟨m', fun _ => 0, g'⟩ (fun r => ∀ c : Dev Cert.AdamTinyRefIdeal.nD,
          r.2.mem ((c.tc : Thread Cert.AdamTinyRefIdeal.nD Cert.AdamTinyRefIdeal.τ).loc Cert.AdamTinyRefIdeal.main_v23) = v0 c
          ∧ r.2.mem ((c.tc : Thread Cert.AdamTinyRefIdeal.nD Cert.AdamTinyRefIdeal.τ).loc Cert.AdamTinyRefIdeal.main_v4) = v1 c
          ∧ r.2.mem ((c.tc : Thread Cert.AdamTinyRefIdeal.nD Cert.AdamTinyRefIdeal.τ).loc Cert.AdamTinyRefIdeal.main_v10) = v2 c
          ∧ r.2.mem ((c.tc : Thread Cert.AdamTinyRefIdeal.nD Cert.AdamTinyRefIdeal.τ).loc Cert.AdamTinyRefIdeal.main_v47) = v3 c
          ∧ r.2.mem ((c.tc : Thread Cert.AdamTinyRefIdeal.nD Cert.AdamTinyRefIdeal.τ).loc Cert.AdamTinyRefIdeal.main_v28) = v4 c
          ∧ r.2.mem ((c.tc : Thread Cert.AdamTinyRefIdeal.nD Cert.AdamTinyRefIdeal.τ).loc Cert.AdamTinyRefIdeal.main_v34) = v5 c
          ∧ r.2.mem ((c.tc : Thread Cert.AdamTinyRefIdeal.nD Cert.AdamTinyRefIdeal.τ).loc Cert.AdamTinyRefIdeal.main_v71) = v6 c
          ∧ r.2.mem ((c.tc : Thread Cert.AdamTinyRefIdeal.nD Cert.AdamTinyRefIdeal.τ).loc Cert.AdamTinyRefIdeal.main_v52) = v7 c
          ∧ r.2.mem ((c.tc : Thread Cert.AdamTinyRefIdeal.nD Cert.AdamTinyRefIdeal.τ).loc Cert.AdamTinyRefIdeal.main_v58) = v8 c
          ∧ r.2.mem ((c.tc : Thread Cert.AdamTinyRefIdeal.nD Cert.AdamTinyRefIdeal.τ).loc Cert.AdamTinyRefIdeal.main_arg0) = m' ((c.tc : Thread Cert.AdamTinyRefIdeal.nD Cert.AdamTinyRefIdeal.τ).loc Cert.AdamTinyRefIdeal.main_arg0)
          ∧ r.2.mem ((c.tc : Thread Cert.AdamTinyRefIdeal.nD Cert.AdamTinyRefIdeal.τ).loc Cert.AdamTinyRefIdeal.main_arg1) = m' ((c.tc : Thread Cert.AdamTinyRefIdeal.nD Cert.AdamTinyRefIdeal.τ).loc Cert.AdamTinyRefIdeal.main_arg1)
          ∧ r.2.mem ((c.tc : Thread Cert.AdamTinyRefIdeal.nD Cert.AdamTinyRefIdeal.τ).loc Cert.AdamTinyRefIdeal.main_arg2) = m' ((c.tc : Thread Cert.AdamTinyRefIdeal.nD Cert.AdamTinyRefIdeal.τ).loc Cert.AdamTinyRefIdeal.main_arg2)
          ∧ r.2.mem ((c.tc : Thread Cert.AdamTinyRefIdeal.nD Cert.AdamTinyRefIdeal.τ).loc Cert.AdamTinyRefIdeal.main_arg3) = m' ((c.tc : Thread Cert.AdamTinyRefIdeal.nD Cert.AdamTinyRefIdeal.τ).loc Cert.AdamTinyRefIdeal.main_arg3)
          ∧ r.2.mem ((c.tc : Thread Cert.AdamTinyRefIdeal.nD Cert.AdamTinyRefIdeal.τ).loc Cert.AdamTinyRefIdeal.main_arg4) = m' ((c.tc : Thread Cert.AdamTinyRefIdeal.nD Cert.AdamTinyRefIdeal.τ).loc Cert.AdamTinyRefIdeal.main_arg4)
          ∧ r.2.mem ((c.tc : Thread Cert.AdamTinyRefIdeal.nD Cert.AdamTinyRefIdeal.τ).loc Cert.AdamTinyRefIdeal.main_arg5) = m' ((c.tc : Thread Cert.AdamTinyRefIdeal.nD Cert.AdamTinyRefIdeal.τ).loc Cert.AdamTinyRefIdeal.main_arg5)
          ∧ r.2.mem ((c.tc : Thread Cert.AdamTinyRefIdeal.nD Cert.AdamTinyRefIdeal.τ).loc Cert.AdamTinyRefIdeal.main_arg6) = m' ((c.tc : Thread Cert.AdamTinyRefIdeal.nD Cert.AdamTinyRefIdeal.τ).loc Cert.AdamTinyRefIdeal.main_arg6)
          ∧ r.2.mem ((c.tc : Thread Cert.AdamTinyRefIdeal.nD Cert.AdamTinyRefIdeal.τ).loc Cert.AdamTinyRefIdeal.main_arg7) = m' ((c.tc : Thread Cert.AdamTinyRefIdeal.nD Cert.AdamTinyRefIdeal.τ).loc Cert.AdamTinyRefIdeal.main_arg7)
          ∧ r.2.mem ((c.tc : Thread Cert.AdamTinyRefIdeal.nD Cert.AdamTinyRefIdeal.τ).loc Cert.AdamTinyRefIdeal.main_arg8) = m' ((c.tc : Thread Cert.AdamTinyRefIdeal.nD Cert.AdamTinyRefIdeal.τ).loc Cert.AdamTinyRefIdeal.main_arg8)
          ∧ r.2.mem ((c.tc : Thread Cert.AdamTinyRefIdeal.nD Cert.AdamTinyRefIdeal.τ).loc Cert.AdamTinyRefIdeal.main_arg9) = m' ((c.tc : Thread Cert.AdamTinyRefIdeal.nD Cert.AdamTinyRefIdeal.τ).loc Cert.AdamTinyRefIdeal.main_arg9)
          ∧ r.2.mem ((c.tc : Thread Cert.AdamTinyRefIdeal.nD Cert.AdamTinyRefIdeal.τ).loc Cert.AdamTinyRefIdeal.main_arg10) = m' ((c.tc : Thread Cert.AdamTinyRefIdeal.nD Cert.AdamTinyRefIdeal.τ).loc Cert.AdamTinyRefIdeal.main_arg10)
          ∧ r.2.mem ((c.tc : Thread Cert.AdamTinyRefIdeal.nD Cert.AdamTinyRefIdeal.τ).loc Cert.AdamTinyRefIdeal.main_arg11) = m' ((c.tc : Thread Cert.AdamTinyRefIdeal.nD Cert.AdamTinyRefIdeal.τ).loc Cert.AdamTinyRefIdeal.main_arg11))

def preserves_AdamAda_AdamAdaIdeal : Prop :=
  True

def algebraic_AdamAdaIdeal_AdamAdaRefIdeal [hAdamAdaIdeal : Cert.AdamAdaIdeal.Facts] [hAdamAdaRefIdeal : Cert.AdamAdaRefIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg)
    (m' : (ℓ : Loc Cert.AdamAdaRefIdeal.nD Cert.AdamAdaRefIdeal.τ Cert.AdamAdaRefIdeal.sig) → Buf (Elt Ideal) ℓ) (g' : Dev Cert.AdamAdaRefIdeal.nD → PrngReg), Pre_AdamAdaIdeal m →
    (∀ c : Dev Cert.AdamAdaIdeal.nD,
      m' ((c.tc : Thread Cert.AdamAdaRefIdeal.nD Cert.AdamAdaRefIdeal.τ).loc Cert.AdamAdaRefIdeal.main_arg0) = m ((c.tc : Thread Cert.AdamAdaIdeal.nD Cert.AdamAdaIdeal.τ).loc Cert.AdamAdaIdeal.main_arg0)
      ∧ m' ((c.tc : Thread Cert.AdamAdaRefIdeal.nD Cert.AdamAdaRefIdeal.τ).loc Cert.AdamAdaRefIdeal.main_arg1) = m ((c.tc : Thread Cert.AdamAdaIdeal.nD Cert.AdamAdaIdeal.τ).loc Cert.AdamAdaIdeal.main_arg1)
      ∧ m' ((c.tc : Thread Cert.AdamAdaRefIdeal.nD Cert.AdamAdaRefIdeal.τ).loc Cert.AdamAdaRefIdeal.main_arg2) = m ((c.tc : Thread Cert.AdamAdaIdeal.nD Cert.AdamAdaIdeal.τ).loc Cert.AdamAdaIdeal.main_arg2)
      ∧ m' ((c.tc : Thread Cert.AdamAdaRefIdeal.nD Cert.AdamAdaRefIdeal.τ).loc Cert.AdamAdaRefIdeal.main_arg3) = m ((c.tc : Thread Cert.AdamAdaIdeal.nD Cert.AdamAdaIdeal.τ).loc Cert.AdamAdaIdeal.main_arg3)
      ∧ m' ((c.tc : Thread Cert.AdamAdaRefIdeal.nD Cert.AdamAdaRefIdeal.τ).loc Cert.AdamAdaRefIdeal.main_arg4) = m ((c.tc : Thread Cert.AdamAdaIdeal.nD Cert.AdamAdaIdeal.τ).loc Cert.AdamAdaIdeal.main_arg4)) →
    ∃ (v0 : (c : Dev Cert.AdamAdaIdeal.nD) → Buf (Elt Ideal) ((c.tc : Thread Cert.AdamAdaIdeal.nD Cert.AdamAdaIdeal.τ).loc Cert.AdamAdaIdeal.main_v1_0)) (v1 : (c : Dev Cert.AdamAdaIdeal.nD) → Buf (Elt Ideal) ((c.tc : Thread Cert.AdamAdaIdeal.nD Cert.AdamAdaIdeal.τ).loc Cert.AdamAdaIdeal.main_v1_1)) (v2 : (c : Dev Cert.AdamAdaIdeal.nD) → Buf (Elt Ideal) ((c.tc : Thread Cert.AdamAdaIdeal.nD Cert.AdamAdaIdeal.τ).loc Cert.AdamAdaIdeal.main_v1_2)) (v3 : (c : Dev Cert.AdamAdaIdeal.nD) → Buf (Elt Ideal) ((c.tc : Thread Cert.AdamAdaIdeal.nD Cert.AdamAdaIdeal.τ).loc Cert.AdamAdaIdeal.main_v1_3)),
      θ_run (Cert.AdamAdaIdeal.defs (F := Ideal)) (onTc (τ := Cert.AdamAdaIdeal.τ) (Cert.AdamAdaIdeal.main (F := Ideal))) ⟨m, fun _ => 0, g⟩ (fun r => ∀ c : Dev Cert.AdamAdaIdeal.nD,
          r.2.mem ((c.tc : Thread Cert.AdamAdaIdeal.nD Cert.AdamAdaIdeal.τ).loc Cert.AdamAdaIdeal.main_v1_0) = v0 c
          ∧ r.2.mem ((c.tc : Thread Cert.AdamAdaIdeal.nD Cert.AdamAdaIdeal.τ).loc Cert.AdamAdaIdeal.main_v1_1) = v1 c
          ∧ r.2.mem ((c.tc : Thread Cert.AdamAdaIdeal.nD Cert.AdamAdaIdeal.τ).loc Cert.AdamAdaIdeal.main_v1_2) = v2 c
          ∧ r.2.mem ((c.tc : Thread Cert.AdamAdaIdeal.nD Cert.AdamAdaIdeal.τ).loc Cert.AdamAdaIdeal.main_v1_3) = v3 c
          ∧ r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
          ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
          ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
          ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3)
          ∧ r.2.mem ((c.tc : Thread Cert.AdamAdaIdeal.nD Cert.AdamAdaIdeal.τ).loc Cert.AdamAdaIdeal.main_arg4) = m ((c.tc : Thread Cert.AdamAdaIdeal.nD Cert.AdamAdaIdeal.τ).loc Cert.AdamAdaIdeal.main_arg4))
      ∧ θ_run (Cert.AdamAdaRefIdeal.defs (F := Ideal)) (onTc (τ := Cert.AdamAdaRefIdeal.τ) (Cert.AdamAdaRefIdeal.main (F := Ideal))) ⟨m', fun _ => 0, g'⟩ (fun r => ∀ c : Dev Cert.AdamAdaRefIdeal.nD,
          r.2.mem ((c.tc : Thread Cert.AdamAdaRefIdeal.nD Cert.AdamAdaRefIdeal.τ).loc Cert.AdamAdaRefIdeal.main_v4) = v0 c
          ∧ r.2.mem ((c.tc : Thread Cert.AdamAdaRefIdeal.nD Cert.AdamAdaRefIdeal.τ).loc Cert.AdamAdaRefIdeal.main_v28) = v1 c
          ∧ r.2.mem ((c.tc : Thread Cert.AdamAdaRefIdeal.nD Cert.AdamAdaRefIdeal.τ).loc Cert.AdamAdaRefIdeal.main_v9) = v2 c
          ∧ r.2.mem ((c.tc : Thread Cert.AdamAdaRefIdeal.nD Cert.AdamAdaRefIdeal.τ).loc Cert.AdamAdaRefIdeal.main_v15) = v3 c
          ∧ r.2.mem ((c.tc : Thread Cert.AdamAdaRefIdeal.nD Cert.AdamAdaRefIdeal.τ).loc Cert.AdamAdaRefIdeal.main_arg0) = m' ((c.tc : Thread Cert.AdamAdaRefIdeal.nD Cert.AdamAdaRefIdeal.τ).loc Cert.AdamAdaRefIdeal.main_arg0)
          ∧ r.2.mem ((c.tc : Thread Cert.AdamAdaRefIdeal.nD Cert.AdamAdaRefIdeal.τ).loc Cert.AdamAdaRefIdeal.main_arg1) = m' ((c.tc : Thread Cert.AdamAdaRefIdeal.nD Cert.AdamAdaRefIdeal.τ).loc Cert.AdamAdaRefIdeal.main_arg1)
          ∧ r.2.mem ((c.tc : Thread Cert.AdamAdaRefIdeal.nD Cert.AdamAdaRefIdeal.τ).loc Cert.AdamAdaRefIdeal.main_arg2) = m' ((c.tc : Thread Cert.AdamAdaRefIdeal.nD Cert.AdamAdaRefIdeal.τ).loc Cert.AdamAdaRefIdeal.main_arg2)
          ∧ r.2.mem ((c.tc : Thread Cert.AdamAdaRefIdeal.nD Cert.AdamAdaRefIdeal.τ).loc Cert.AdamAdaRefIdeal.main_arg3) = m' ((c.tc : Thread Cert.AdamAdaRefIdeal.nD Cert.AdamAdaRefIdeal.τ).loc Cert.AdamAdaRefIdeal.main_arg3)
          ∧ r.2.mem ((c.tc : Thread Cert.AdamAdaRefIdeal.nD Cert.AdamAdaRefIdeal.τ).loc Cert.AdamAdaRefIdeal.main_arg4) = m' ((c.tc : Thread Cert.AdamAdaRefIdeal.nD Cert.AdamAdaRefIdeal.τ).loc Cert.AdamAdaRefIdeal.main_arg4))

def preserves_GateFwd_GateFwdIdeal : Prop :=
  True

def algebraic_GateFwdIdeal_GateFwdRefIdeal [hGateFwdIdeal : Cert.GateFwdIdeal.Facts] [hGateFwdRefIdeal : Cert.GateFwdRefIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg)
    (m' : (ℓ : Loc Cert.GateFwdRefIdeal.nD Cert.GateFwdRefIdeal.τ Cert.GateFwdRefIdeal.sig) → Buf (Elt Ideal) ℓ) (g' : Dev Cert.GateFwdRefIdeal.nD → PrngReg), Pre_GateFwdIdeal m →
    (∀ c : Dev Cert.GateFwdIdeal.nD,
      m' ((c.tc : Thread Cert.GateFwdRefIdeal.nD Cert.GateFwdRefIdeal.τ).loc Cert.GateFwdRefIdeal.main_arg0) = m ((c.tc : Thread Cert.GateFwdIdeal.nD Cert.GateFwdIdeal.τ).loc Cert.GateFwdIdeal.main_arg0)
      ∧ m' ((c.tc : Thread Cert.GateFwdRefIdeal.nD Cert.GateFwdRefIdeal.τ).loc Cert.GateFwdRefIdeal.main_arg1) = m ((c.tc : Thread Cert.GateFwdIdeal.nD Cert.GateFwdIdeal.τ).loc Cert.GateFwdIdeal.main_arg1)
      ∧ m' ((c.tc : Thread Cert.GateFwdRefIdeal.nD Cert.GateFwdRefIdeal.τ).loc Cert.GateFwdRefIdeal.main_arg2) = m ((c.tc : Thread Cert.GateFwdIdeal.nD Cert.GateFwdIdeal.τ).loc Cert.GateFwdIdeal.main_arg2)
      ∧ m' ((c.tc : Thread Cert.GateFwdRefIdeal.nD Cert.GateFwdRefIdeal.τ).loc Cert.GateFwdRefIdeal.main_arg3) = m ((c.tc : Thread Cert.GateFwdIdeal.nD Cert.GateFwdIdeal.τ).loc Cert.GateFwdIdeal.main_arg3)) →
    ∃ (v0 : (c : Dev Cert.GateFwdIdeal.nD) → Buf (Elt Ideal) ((c.tc : Thread Cert.GateFwdIdeal.nD Cert.GateFwdIdeal.τ).loc Cert.GateFwdIdeal.main_v0_0)) (v1 : (c : Dev Cert.GateFwdIdeal.nD) → Buf (Elt Ideal) ((c.tc : Thread Cert.GateFwdIdeal.nD Cert.GateFwdIdeal.τ).loc Cert.GateFwdIdeal.main_v0_1)),
      θ_run (Cert.GateFwdIdeal.defs (F := Ideal)) (onTc (τ := Cert.GateFwdIdeal.τ) (Cert.GateFwdIdeal.main (F := Ideal))) ⟨m, fun _ => 0, g⟩ (fun r => ∀ c : Dev Cert.GateFwdIdeal.nD,
          r.2.mem ((c.tc : Thread Cert.GateFwdIdeal.nD Cert.GateFwdIdeal.τ).loc Cert.GateFwdIdeal.main_v0_0) = v0 c
          ∧ r.2.mem ((c.tc : Thread Cert.GateFwdIdeal.nD Cert.GateFwdIdeal.τ).loc Cert.GateFwdIdeal.main_v0_1) = v1 c
          ∧ r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
          ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1)
          ∧ r.2.mem ((c.tc : Thread Cert.GateFwdIdeal.nD Cert.GateFwdIdeal.τ).loc Cert.GateFwdIdeal.main_arg2) = m ((c.tc : Thread Cert.GateFwdIdeal.nD Cert.GateFwdIdeal.τ).loc Cert.GateFwdIdeal.main_arg2)
          ∧ r.2.mem ((c.tc : Thread Cert.GateFwdIdeal.nD Cert.GateFwdIdeal.τ).loc Cert.GateFwdIdeal.main_arg3) = m ((c.tc : Thread Cert.GateFwdIdeal.nD Cert.GateFwdIdeal.τ).loc Cert.GateFwdIdeal.main_arg3))
      ∧ θ_run (Cert.GateFwdRefIdeal.defs (F := Ideal)) (onTc (τ := Cert.GateFwdRefIdeal.τ) (Cert.GateFwdRefIdeal.main (F := Ideal))) ⟨m', fun _ => 0, g'⟩ (fun r => ∀ c : Dev Cert.GateFwdRefIdeal.nD,
          r.2.mem ((c.tc : Thread Cert.GateFwdRefIdeal.nD Cert.GateFwdRefIdeal.τ).loc Cert.GateFwdRefIdeal.main_v7) = v0 c
          ∧ r.2.mem ((c.tc : Thread Cert.GateFwdRefIdeal.nD Cert.GateFwdRefIdeal.τ).loc Cert.GateFwdRefIdeal.main_v9) = v1 c
          ∧ r.2.mem ((c.tc : Thread Cert.GateFwdRefIdeal.nD Cert.GateFwdRefIdeal.τ).loc Cert.GateFwdRefIdeal.main_arg0) = m' ((c.tc : Thread Cert.GateFwdRefIdeal.nD Cert.GateFwdRefIdeal.τ).loc Cert.GateFwdRefIdeal.main_arg0)
          ∧ r.2.mem ((c.tc : Thread Cert.GateFwdRefIdeal.nD Cert.GateFwdRefIdeal.τ).loc Cert.GateFwdRefIdeal.main_arg1) = m' ((c.tc : Thread Cert.GateFwdRefIdeal.nD Cert.GateFwdRefIdeal.τ).loc Cert.GateFwdRefIdeal.main_arg1)
          ∧ r.2.mem ((c.tc : Thread Cert.GateFwdRefIdeal.nD Cert.GateFwdRefIdeal.τ).loc Cert.GateFwdRefIdeal.main_arg2) = m' ((c.tc : Thread Cert.GateFwdRefIdeal.nD Cert.GateFwdRefIdeal.τ).loc Cert.GateFwdRefIdeal.main_arg2)
          ∧ r.2.mem ((c.tc : Thread Cert.GateFwdRefIdeal.nD Cert.GateFwdRefIdeal.τ).loc Cert.GateFwdRefIdeal.main_arg3) = m' ((c.tc : Thread Cert.GateFwdRefIdeal.nD Cert.GateFwdRefIdeal.τ).loc Cert.GateFwdRefIdeal.main_arg3))

def preserves_LnMod_LnModIdeal : Prop :=
  True

def algebraic_LnModIdeal_LnModRefIdeal [hLnModIdeal : Cert.LnModIdeal.Facts] [hLnModRefIdeal : Cert.LnModRefIdeal.Facts] : Prop :=
  ∀ (m : (ℓ : Loc Cert.LnModIdeal.nD Cert.LnModIdeal.τ Cert.LnModIdeal.sig) → Buf (Elt Ideal) ℓ) (g : Dev Cert.LnModIdeal.nD → PrngReg)
    (m' : (ℓ : Loc Cert.LnModRefIdeal.nD Cert.LnModRefIdeal.τ Cert.LnModRefIdeal.sig) → Buf (Elt Ideal) ℓ) (g' : Dev Cert.LnModRefIdeal.nD → PrngReg), Pre_LnModIdeal m →
    (∀ c : Dev Cert.LnModIdeal.nD,
      m' ((c.tc : Thread Cert.LnModRefIdeal.nD Cert.LnModRefIdeal.τ).loc Cert.LnModRefIdeal.main_arg0) = m ((c.tc : Thread Cert.LnModIdeal.nD Cert.LnModIdeal.τ).loc Cert.LnModIdeal.main_arg0)
      ∧ m' ((c.tc : Thread Cert.LnModRefIdeal.nD Cert.LnModRefIdeal.τ).loc Cert.LnModRefIdeal.main_arg1) = m ((c.tc : Thread Cert.LnModIdeal.nD Cert.LnModIdeal.τ).loc Cert.LnModIdeal.main_arg1)
      ∧ m' ((c.tc : Thread Cert.LnModRefIdeal.nD Cert.LnModRefIdeal.τ).loc Cert.LnModRefIdeal.main_arg2) = m ((c.tc : Thread Cert.LnModIdeal.nD Cert.LnModIdeal.τ).loc Cert.LnModIdeal.main_arg2)
      ∧ m' ((c.tc : Thread Cert.LnModRefIdeal.nD Cert.LnModRefIdeal.τ).loc Cert.LnModRefIdeal.main_arg3) = m ((c.tc : Thread Cert.LnModIdeal.nD Cert.LnModIdeal.τ).loc Cert.LnModIdeal.main_arg3)) →
    ∃ (v0 : (c : Dev Cert.LnModIdeal.nD) → Buf (Elt Ideal) ((c.tc : Thread Cert.LnModIdeal.nD Cert.LnModIdeal.τ).loc Cert.LnModIdeal.main_v0_0)) (v1 : (c : Dev Cert.LnModIdeal.nD) → Buf (Elt Ideal) ((c.tc : Thread Cert.LnModIdeal.nD Cert.LnModIdeal.τ).loc Cert.LnModIdeal.main_v0_1)),
      θ_run (Cert.LnModIdeal.defs (F := Ideal)) (onTc (τ := Cert.LnModIdeal.τ) (Cert.LnModIdeal.main (F := Ideal))) ⟨m, fun _ => 0, g⟩ (fun r => ∀ c : Dev Cert.LnModIdeal.nD,
          r.2.mem ((c.tc : Thread Cert.LnModIdeal.nD Cert.LnModIdeal.τ).loc Cert.LnModIdeal.main_v0_0) = v0 c
          ∧ r.2.mem ((c.tc : Thread Cert.LnModIdeal.nD Cert.LnModIdeal.τ).loc Cert.LnModIdeal.main_v0_1) = v1 c
          ∧ r.2.mem ((c.tc : Thread Cert.LnModIdeal.nD Cert.LnModIdeal.τ).loc Cert.LnModIdeal.main_arg0) = m ((c.tc : Thread Cert.LnModIdeal.nD Cert.LnModIdeal.τ).loc Cert.LnModIdeal.main_arg0)
          ∧ r.2.mem ((c.tc : Thread Cert.LnModIdeal.nD Cert.LnModIdeal.τ).loc Cert.LnModIdeal.main_arg1) = m ((c.tc : Thread Cert.LnModIdeal.nD Cert.LnModIdeal.τ).loc Cert.LnModIdeal.main_arg1)
          ∧ r.2.mem ((c.tc : Thread Cert.LnModIdeal.nD Cert.LnModIdeal.τ).loc Cert.LnModIdeal.main_arg2) = m ((c.tc : Thread Cert.LnModIdeal.nD Cert.LnModIdeal.τ).loc Cert.LnModIdeal.main_arg2)
          ∧ r.2.mem ((c.tc : Thread Cert.LnModIdeal.nD Cert.LnModIdeal.τ).loc Cert.LnModIdeal.main_arg3) = m ((c.tc : Thread Cert.LnModIdeal.nD Cert.LnModIdeal.τ).loc Cert.LnModIdeal.main_arg3))
      ∧ θ_run (Cert.LnModRefIdeal.defs (F := Ideal)) (onTc (τ := Cert.LnModRefIdeal.τ) (Cert.LnModRefIdeal.main (F := Ideal))) ⟨m', fun _ => 0, g'⟩ (fun r => ∀ c : Dev Cert.LnModRefIdeal.nD,
          r.2.mem ((c.tc : Thread Cert.LnModRefIdeal.nD Cert.LnModRefIdeal.τ).loc Cert.LnModRefIdeal.main_v18) = v0 c
          ∧ r.2.mem ((c.tc : Thread Cert.LnModRefIdeal.nD Cert.LnModRefIdeal.τ).loc Cert.LnModRefIdeal.main_v20) = v1 c
          ∧ r.2.mem ((c.tc : Thread Cert.LnModRefIdeal.nD Cert.LnModRefIdeal.τ).loc Cert.LnModRefIdeal.main_arg0) = m' ((c.tc : Thread Cert.LnModRefIdeal.nD Cert.LnModRefIdeal.τ).loc Cert.LnModRefIdeal.main_arg0)
          ∧ r.2.mem ((c.tc : Thread Cert.LnModRefIdeal.nD Cert.LnModRefIdeal.τ).loc Cert.LnModRefIdeal.main_arg1) = m' ((c.tc : Thread Cert.LnModRefIdeal.nD Cert.LnModRefIdeal.τ).loc Cert.LnModRefIdeal.main_arg1)
          ∧ r.2.mem ((c.tc : Thread Cert.LnModRefIdeal.nD Cert.LnModRefIdeal.τ).loc Cert.LnModRefIdeal.main_arg2) = m' ((c.tc : Thread Cert.LnModRefIdeal.nD Cert.LnModRefIdeal.τ).loc Cert.LnModRefIdeal.main_arg2)
          ∧ r.2.mem ((c.tc : Thread Cert.LnModRefIdeal.nD Cert.LnModRefIdeal.τ).loc Cert.LnModRefIdeal.main_arg3) = m' ((c.tc : Thread Cert.LnModRefIdeal.nD Cert.LnModRefIdeal.τ).loc Cert.LnModRefIdeal.main_arg3))

def preserves_ResidLn_ResidLnIdeal : Prop :=
  True

def algebraic_ResidLnIdeal_ResidLnRefIdeal [hResidLnIdeal : Cert.ResidLnIdeal.Facts] [hResidLnRefIdeal : Cert.ResidLnRefIdeal.Facts] : Prop :=
  ∀ (m : (ℓ : Loc Cert.ResidLnIdeal.nD Cert.ResidLnIdeal.τ Cert.ResidLnIdeal.sig) → Buf (Elt Ideal) ℓ) (g : Dev Cert.ResidLnIdeal.nD → PrngReg)
    (m' : (ℓ : Loc Cert.ResidLnRefIdeal.nD Cert.ResidLnRefIdeal.τ Cert.ResidLnRefIdeal.sig) → Buf (Elt Ideal) ℓ) (g' : Dev Cert.ResidLnRefIdeal.nD → PrngReg), Pre_ResidLnIdeal m →
    (∀ c : Dev Cert.ResidLnIdeal.nD,
      m' ((c.tc : Thread Cert.ResidLnRefIdeal.nD Cert.ResidLnRefIdeal.τ).loc Cert.ResidLnRefIdeal.main_arg0) = m ((c.tc : Thread Cert.ResidLnIdeal.nD Cert.ResidLnIdeal.τ).loc Cert.ResidLnIdeal.main_arg0)
      ∧ m' ((c.tc : Thread Cert.ResidLnRefIdeal.nD Cert.ResidLnRefIdeal.τ).loc Cert.ResidLnRefIdeal.main_arg1) = m ((c.tc : Thread Cert.ResidLnIdeal.nD Cert.ResidLnIdeal.τ).loc Cert.ResidLnIdeal.main_arg1)
      ∧ m' ((c.tc : Thread Cert.ResidLnRefIdeal.nD Cert.ResidLnRefIdeal.τ).loc Cert.ResidLnRefIdeal.main_arg2) = m ((c.tc : Thread Cert.ResidLnIdeal.nD Cert.ResidLnIdeal.τ).loc Cert.ResidLnIdeal.main_arg2)
      ∧ m' ((c.tc : Thread Cert.ResidLnRefIdeal.nD Cert.ResidLnRefIdeal.τ).loc Cert.ResidLnRefIdeal.main_arg3) = m ((c.tc : Thread Cert.ResidLnIdeal.nD Cert.ResidLnIdeal.τ).loc Cert.ResidLnIdeal.main_arg3)
      ∧ m' ((c.tc : Thread Cert.ResidLnRefIdeal.nD Cert.ResidLnRefIdeal.τ).loc Cert.ResidLnRefIdeal.main_arg4) = m ((c.tc : Thread Cert.ResidLnIdeal.nD Cert.ResidLnIdeal.τ).loc Cert.ResidLnIdeal.main_arg4)
      ∧ m' ((c.tc : Thread Cert.ResidLnRefIdeal.nD Cert.ResidLnRefIdeal.τ).loc Cert.ResidLnRefIdeal.main_arg5) = m ((c.tc : Thread Cert.ResidLnIdeal.nD Cert.ResidLnIdeal.τ).loc Cert.ResidLnIdeal.main_arg5)) →
    ∃ (v0 : (c : Dev Cert.ResidLnIdeal.nD) → Buf (Elt Ideal) ((c.tc : Thread Cert.ResidLnIdeal.nD Cert.ResidLnIdeal.τ).loc Cert.ResidLnIdeal.main_v0_0)) (v1 : (c : Dev Cert.ResidLnIdeal.nD) → Buf (Elt Ideal) ((c.tc : Thread Cert.ResidLnIdeal.nD Cert.ResidLnIdeal.τ).loc Cert.ResidLnIdeal.main_v0_1)) (v2 : (c : Dev Cert.ResidLnIdeal.nD) → Buf (Elt Ideal) ((c.tc : Thread Cert.ResidLnIdeal.nD Cert.ResidLnIdeal.τ).loc Cert.ResidLnIdeal.main_v0_2)),
      θ_run (Cert.ResidLnIdeal.defs (F := Ideal)) (onTc (τ := Cert.ResidLnIdeal.τ) (Cert.ResidLnIdeal.main (F := Ideal))) ⟨m, fun _ => 0, g⟩ (fun r => ∀ c : Dev Cert.ResidLnIdeal.nD,
          r.2.mem ((c.tc : Thread Cert.ResidLnIdeal.nD Cert.ResidLnIdeal.τ).loc Cert.ResidLnIdeal.main_v0_0) = v0 c
          ∧ r.2.mem ((c.tc : Thread Cert.ResidLnIdeal.nD Cert.ResidLnIdeal.τ).loc Cert.ResidLnIdeal.main_v0_1) = v1 c
          ∧ r.2.mem ((c.tc : Thread Cert.ResidLnIdeal.nD Cert.ResidLnIdeal.τ).loc Cert.ResidLnIdeal.main_v0_2) = v2 c
          ∧ r.2.mem ((c.tc : Thread Cert.ResidLnIdeal.nD Cert.ResidLnIdeal.τ).loc Cert.ResidLnIdeal.main_arg0) = m ((c.tc : Thread Cert.ResidLnIdeal.nD Cert.ResidLnIdeal.τ).loc Cert.ResidLnIdeal.main_arg0)
          ∧ r.2.mem ((c.tc : Thread Cert.ResidLnIdeal.nD Cert.ResidLnIdeal.τ).loc Cert.ResidLnIdeal.main_arg1) = m ((c.tc : Thread Cert.ResidLnIdeal.nD Cert.ResidLnIdeal.τ).loc Cert.ResidLnIdeal.main_arg1)
          ∧ r.2.mem ((c.tc : Thread Cert.ResidLnIdeal.nD Cert.ResidLnIdeal.τ).loc Cert.ResidLnIdeal.main_arg2) = m ((c.tc : Thread Cert.ResidLnIdeal.nD Cert.ResidLnIdeal.τ).loc Cert.ResidLnIdeal.main_arg2)
          ∧ r.2.mem ((c.tc : Thread Cert.ResidLnIdeal.nD Cert.ResidLnIdeal.τ).loc Cert.ResidLnIdeal.main_arg3) = m ((c.tc : Thread Cert.ResidLnIdeal.nD Cert.ResidLnIdeal.τ).loc Cert.ResidLnIdeal.main_arg3)
          ∧ r.2.mem ((c.tc : Thread Cert.ResidLnIdeal.nD Cert.ResidLnIdeal.τ).loc Cert.ResidLnIdeal.main_arg4) = m ((c.tc : Thread Cert.ResidLnIdeal.nD Cert.ResidLnIdeal.τ).loc Cert.ResidLnIdeal.main_arg4)
          ∧ r.2.mem ((c.tc : Thread Cert.ResidLnIdeal.nD Cert.ResidLnIdeal.τ).loc Cert.ResidLnIdeal.main_arg5) = m ((c.tc : Thread Cert.ResidLnIdeal.nD Cert.ResidLnIdeal.τ).loc Cert.ResidLnIdeal.main_arg5))
      ∧ θ_run (Cert.ResidLnRefIdeal.defs (F := Ideal)) (onTc (τ := Cert.ResidLnRefIdeal.τ) (Cert.ResidLnRefIdeal.main (F := Ideal))) ⟨m', fun _ => 0, g'⟩ (fun r => ∀ c : Dev Cert.ResidLnRefIdeal.nD,
          r.2.mem ((c.tc : Thread Cert.ResidLnRefIdeal.nD Cert.ResidLnRefIdeal.τ).loc Cert.ResidLnRefIdeal.main_v4) = v0 c
          ∧ r.2.mem ((c.tc : Thread Cert.ResidLnRefIdeal.nD Cert.ResidLnRefIdeal.τ).loc Cert.ResidLnRefIdeal.main_v23) = v1 c
          ∧ r.2.mem ((c.tc : Thread Cert.ResidLnRefIdeal.nD Cert.ResidLnRefIdeal.τ).loc Cert.ResidLnRefIdeal.main_v25) = v2 c
          ∧ r.2.mem ((c.tc : Thread Cert.ResidLnRefIdeal.nD Cert.ResidLnRefIdeal.τ).loc Cert.ResidLnRefIdeal.main_arg0) = m' ((c.tc : Thread Cert.ResidLnRefIdeal.nD Cert.ResidLnRefIdeal.τ).loc Cert.ResidLnRefIdeal.main_arg0)
          ∧ r.2.mem ((c.tc : Thread Cert.ResidLnRefIdeal.nD Cert.ResidLnRefIdeal.τ).loc Cert.ResidLnRefIdeal.main_arg1) = m' ((c.tc : Thread Cert.ResidLnRefIdeal.nD Cert.ResidLnRefIdeal.τ).loc Cert.ResidLnRefIdeal.main_arg1)
          ∧ r.2.mem ((c.tc : Thread Cert.ResidLnRefIdeal.nD Cert.ResidLnRefIdeal.τ).loc Cert.ResidLnRefIdeal.main_arg2) = m' ((c.tc : Thread Cert.ResidLnRefIdeal.nD Cert.ResidLnRefIdeal.τ).loc Cert.ResidLnRefIdeal.main_arg2)
          ∧ r.2.mem ((c.tc : Thread Cert.ResidLnRefIdeal.nD Cert.ResidLnRefIdeal.τ).loc Cert.ResidLnRefIdeal.main_arg3) = m' ((c.tc : Thread Cert.ResidLnRefIdeal.nD Cert.ResidLnRefIdeal.τ).loc Cert.ResidLnRefIdeal.main_arg3)
          ∧ r.2.mem ((c.tc : Thread Cert.ResidLnRefIdeal.nD Cert.ResidLnRefIdeal.τ).loc Cert.ResidLnRefIdeal.main_arg4) = m' ((c.tc : Thread Cert.ResidLnRefIdeal.nD Cert.ResidLnRefIdeal.τ).loc Cert.ResidLnRefIdeal.main_arg4)
          ∧ r.2.mem ((c.tc : Thread Cert.ResidLnRefIdeal.nD Cert.ResidLnRefIdeal.τ).loc Cert.ResidLnRefIdeal.main_arg5) = m' ((c.tc : Thread Cert.ResidLnRefIdeal.nD Cert.ResidLnRefIdeal.τ).loc Cert.ResidLnRefIdeal.main_arg5))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)
      ∧ m' ((c.tc : Thread Cert.ConvFwdRefIdeal.nD Cert.ConvFwdRefIdeal.τ).loc Cert.ConvFwdRefIdeal.main_arg2) = m ((c.tc : Thread Cert.ConvFwdIdeal.nD Cert.ConvFwdIdeal.τ).loc Cert.ConvFwdIdeal.main_arg2)) →
    ∃ (v0 : (c : Dev Cert.ConvFwdIdeal.nD) → Buf (Elt Ideal) ((c.tc : Thread Cert.ConvFwdIdeal.nD Cert.ConvFwdIdeal.τ).loc Cert.ConvFwdIdeal.main_v0_0)) (v1 : (c : Dev Cert.ConvFwdIdeal.nD) → Buf (Elt Ideal) ((c.tc : Thread Cert.ConvFwdIdeal.nD Cert.ConvFwdIdeal.τ).loc Cert.ConvFwdIdeal.main_v0_1)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v0_0) = v0 c
          ∧ r.2.mem ((c.tc : Thread Cert.ConvFwdIdeal.nD Cert.ConvFwdIdeal.τ).loc Cert.ConvFwdIdeal.main_v0_1) = v1 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
          ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v34) = v0 c
          ∧ r.2.mem ((c.tc : Thread Cert.ConvFwdRefIdeal.nD Cert.ConvFwdRefIdeal.τ).loc Cert.ConvFwdRefIdeal.main_v36) = v1 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1)
          ∧ r.2.mem ((c.tc : Thread Cert.ConvFwdRefIdeal.nD Cert.ConvFwdRefIdeal.τ).loc Cert.ConvFwdRefIdeal.main_arg2) = m' ((c.tc : Thread Cert.ConvFwdRefIdeal.nD Cert.ConvFwdRefIdeal.τ).loc Cert.ConvFwdRefIdeal.main_arg2))

def Claim : Prop :=
  ∃ (hKernel : Cert.Kernel.Facts) (hKernelIdeal : Cert.KernelIdeal.Facts) (hReferenceIdeal : Cert.ReferenceIdeal.Facts) (hNormBwd : Cert.NormBwd.Facts) (hNormBwdIdeal : Cert.NormBwdIdeal.Facts) (hNormBwdRefIdeal : Cert.NormBwdRefIdeal.Facts) (hOutBwd : Cert.OutBwd.Facts) (hOutBwdIdeal : Cert.OutBwdIdeal.Facts) (hOutBwdRefIdeal : Cert.OutBwdRefIdeal.Facts) (hOutWgrad : Cert.OutWgrad.Facts) (hOutWgradIdeal : Cert.OutWgradIdeal.Facts) (hOutWgradRefIdeal : Cert.OutWgradRefIdeal.Facts) (hInWgrad : Cert.InWgrad.Facts) (hInWgradIdeal : Cert.InWgradIdeal.Facts) (hInWgradRefIdeal : Cert.InWgradRefIdeal.Facts) (hEvenWgrad : Cert.EvenWgrad.Facts) (hEvenWgradIdeal : Cert.EvenWgradIdeal.Facts) (hEvenWgradRefIdeal : Cert.EvenWgradRefIdeal.Facts) (hOutFwd : Cert.OutFwd.Facts) (hOutFwdIdeal : Cert.OutFwdIdeal.Facts) (hOutFwdRefIdeal : Cert.OutFwdRefIdeal.Facts) (hInFwd : Cert.InFwd.Facts) (hInFwdIdeal : Cert.InFwdIdeal.Facts) (hInFwdRefIdeal : Cert.InFwdRefIdeal.Facts) (hGateBwd : Cert.GateBwd.Facts) (hGateBwdIdeal : Cert.GateBwdIdeal.Facts) (hGateBwdRefIdeal : Cert.GateBwdRefIdeal.Facts) (hEvenBwd : Cert.EvenBwd.Facts) (hEvenBwdIdeal : Cert.EvenBwdIdeal.Facts) (hEvenBwdRefIdeal : Cert.EvenBwdRefIdeal.Facts) (hAdamInEven : Cert.AdamInEven.Facts) (hAdamInEvenIdeal : Cert.AdamInEvenIdeal.Facts) (hAdamInEvenRefIdeal : Cert.AdamInEvenRefIdeal.Facts) (hAdamOut : Cert.AdamOut.Facts) (hAdamOutIdeal : Cert.AdamOutIdeal.Facts) (hAdamOutRefIdeal : Cert.AdamOutRefIdeal.Facts) (hAdamInOdd : Cert.AdamInOdd.Facts) (hAdamInOddIdeal : Cert.AdamInOddIdeal.Facts) (hAdamInOddRefIdeal : Cert.AdamInOddRefIdeal.Facts) (hAdamPool : Cert.AdamPool.Facts) (hAdamPoolIdeal : Cert.AdamPoolIdeal.Facts) (hAdamPoolRefIdeal : Cert.AdamPoolRefIdeal.Facts) (hFinalLoss : Cert.FinalLoss.Facts) (hFinalLossIdeal : Cert.FinalLossIdeal.Facts) (hFinalLossRefIdeal : Cert.FinalLossRefIdeal.Facts) (hAdamSmall : Cert.AdamSmall.Facts) (hAdamSmallIdeal : Cert.AdamSmallIdeal.Facts) (hAdamSmallRefIdeal : Cert.AdamSmallRefIdeal.Facts) (hAdamTiny : Cert.AdamTiny.Facts) (hAdamTinyIdeal : Cert.AdamTinyIdeal.Facts) (hAdamTinyRefIdeal : Cert.AdamTinyRefIdeal.Facts) (hAdamAda : Cert.AdamAda.Facts) (hAdamAdaIdeal : Cert.AdamAdaIdeal.Facts) (hAdamAdaRefIdeal : Cert.AdamAdaRefIdeal.Facts) (hGateFwd : Cert.GateFwd.Facts) (hGateFwdIdeal : Cert.GateFwdIdeal.Facts) (hGateFwdRefIdeal : Cert.GateFwdRefIdeal.Facts) (hLnMod : Cert.LnMod.Facts) (hLnModIdeal : Cert.LnModIdeal.Facts) (hLnModRefIdeal : Cert.LnModRefIdeal.Facts) (hResidLn : Cert.ResidLn.Facts) (hResidLnIdeal : Cert.ResidLnIdeal.Facts) (hResidLnRefIdeal : Cert.ResidLnRefIdeal.Facts) (hConvFwd : Cert.ConvFwd.Facts) (hConvFwdIdeal : Cert.ConvFwdIdeal.Facts) (hConvFwdRefIdeal : Cert.ConvFwdRefIdeal.Facts) (hPre_finite : Cert.Pre_finite.Facts) (hPre_norm_bwd_finite : Cert.Pre_norm_bwd_finite.Facts) (hPre_gate_bwd_finite : Cert.Pre_gate_bwd_finite.Facts) (hPre_even_bwd_finite : Cert.Pre_even_bwd_finite.Facts) (hPre_final_loss_finite : Cert.Pre_final_loss_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_NormBwd (hNormBwd := hNormBwd)
    ∧ quiescent_NormBwdIdeal (hNormBwdIdeal := hNormBwdIdeal)
    ∧ quiescent_NormBwdIdeal_pre_norm_bwd_finite (hNormBwdIdeal := hNormBwdIdeal) (hPre_norm_bwd_finite := hPre_norm_bwd_finite)
    ∧ quiescent_NormBwdRefIdeal (hNormBwdRefIdeal := hNormBwdRefIdeal)
    ∧ quiescent_NormBwdRefIdeal_pre_norm_bwd_finite (hNormBwdRefIdeal := hNormBwdRefIdeal) (hPre_norm_bwd_finite := hPre_norm_bwd_finite)
    ∧ quiescent_OutBwd (hOutBwd := hOutBwd)
    ∧ quiescent_OutBwdIdeal (hOutBwdIdeal := hOutBwdIdeal)
    ∧ quiescent_OutBwdRefIdeal (hOutBwdRefIdeal := hOutBwdRefIdeal)
    ∧ quiescent_OutWgrad (hOutWgrad := hOutWgrad)
    ∧ quiescent_OutWgradIdeal (hOutWgradIdeal := hOutWgradIdeal)
    ∧ quiescent_OutWgradRefIdeal (hOutWgradRefIdeal := hOutWgradRefIdeal)
    ∧ quiescent_InWgrad (hInWgrad := hInWgrad)
    ∧ quiescent_InWgradIdeal (hInWgradIdeal := hInWgradIdeal)
    ∧ quiescent_InWgradRefIdeal (hInWgradRefIdeal := hInWgradRefIdeal)
    ∧ quiescent_EvenWgrad (hEvenWgrad := hEvenWgrad)
    ∧ quiescent_EvenWgradIdeal (hEvenWgradIdeal := hEvenWgradIdeal)
    ∧ quiescent_EvenWgradRefIdeal (hEvenWgradRefIdeal := hEvenWgradRefIdeal)
    ∧ quiescent_OutFwd (hOutFwd := hOutFwd)
    ∧ quiescent_OutFwdIdeal (hOutFwdIdeal := hOutFwdIdeal)
    ∧ quiescent_OutFwdRefIdeal (hOutFwdRefIdeal := hOutFwdRefIdeal)
    ∧ quiescent_InFwd (hInFwd := hInFwd)
    ∧ quiescent_InFwdIdeal (hInFwdIdeal := hInFwdIdeal)
    ∧ quiescent_InFwdRefIdeal (hInFwdRefIdeal := hInFwdRefIdeal)
    ∧ quiescent_GateBwd (hGateBwd := hGateBwd)
    ∧ quiescent_GateBwdIdeal (hGateBwdIdeal := hGateBwdIdeal)
    ∧ quiescent_GateBwdIdeal_pre_gate_bwd_finite (hGateBwdIdeal := hGateBwdIdeal) (hPre_gate_bwd_finite := hPre_gate_bwd_finite)
    ∧ quiescent_GateBwdRefIdeal (hGateBwdRefIdeal := hGateBwdRefIdeal)
    ∧ quiescent_GateBwdRefIdeal_pre_gate_bwd_finite (hGateBwdRefIdeal := hGateBwdRefIdeal) (hPre_gate_bwd_finite := hPre_gate_bwd_finite)
    ∧ quiescent_EvenBwd (hEvenBwd := hEvenBwd)
    ∧ quiescent_EvenBwdIdeal (hEvenBwdIdeal := hEvenBwdIdeal)
    ∧ quiescent_EvenBwdIdeal_pre_even_bwd_finite (hEvenBwdIdeal := hEvenBwdIdeal) (hPre_even_bwd_finite := hPre_even_bwd_finite)
    ∧ quiescent_EvenBwdRefIdeal (hEvenBwdRefIdeal := hEvenBwdRefIdeal)
    ∧ quiescent_EvenBwdRefIdeal_pre_even_bwd_finite (hEvenBwdRefIdeal := hEvenBwdRefIdeal) (hPre_even_bwd_finite := hPre_even_bwd_finite)
    ∧ quiescent_AdamInEven (hAdamInEven := hAdamInEven)
    ∧ quiescent_AdamInEvenIdeal (hAdamInEvenIdeal := hAdamInEvenIdeal)
    ∧ quiescent_AdamInEvenRefIdeal (hAdamInEvenRefIdeal := hAdamInEvenRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamInOdd (hAdamInOdd := hAdamInOdd)
    ∧ quiescent_AdamInOddIdeal (hAdamInOddIdeal := hAdamInOddIdeal)
    ∧ quiescent_AdamInOddRefIdeal (hAdamInOddRefIdeal := hAdamInOddRefIdeal)
    ∧ quiescent_AdamPool (hAdamPool := hAdamPool)
    ∧ quiescent_AdamPoolIdeal (hAdamPoolIdeal := hAdamPoolIdeal)
    ∧ quiescent_AdamPoolRefIdeal (hAdamPoolRefIdeal := hAdamPoolRefIdeal)
    ∧ quiescent_FinalLoss (hFinalLoss := hFinalLoss)
    ∧ quiescent_FinalLossIdeal (hFinalLossIdeal := hFinalLossIdeal)
    ∧ quiescent_FinalLossIdeal_pre_final_loss_finite (hFinalLossIdeal := hFinalLossIdeal) (hPre_final_loss_finite := hPre_final_loss_finite)
    ∧ quiescent_FinalLossRefIdeal (hFinalLossRefIdeal := hFinalLossRefIdeal)
    ∧ quiescent_FinalLossRefIdeal_pre_final_loss_finite (hFinalLossRefIdeal := hFinalLossRefIdeal) (hPre_final_loss_finite := hPre_final_loss_finite)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_AdamTiny (hAdamTiny := hAdamTiny)
    ∧ quiescent_AdamTinyIdeal (hAdamTinyIdeal := hAdamTinyIdeal)
    ∧ quiescent_AdamTinyRefIdeal (hAdamTinyRefIdeal := hAdamTinyRefIdeal)
    ∧ quiescent_AdamAda (hAdamAda := hAdamAda)
    ∧ quiescent_AdamAdaIdeal (hAdamAdaIdeal := hAdamAdaIdeal)
    ∧ quiescent_AdamAdaRefIdeal (hAdamAdaRefIdeal := hAdamAdaRefIdeal)
    ∧ quiescent_GateFwd (hGateFwd := hGateFwd)
    ∧ quiescent_GateFwdIdeal (hGateFwdIdeal := hGateFwdIdeal)
    ∧ quiescent_GateFwdRefIdeal (hGateFwdRefIdeal := hGateFwdRefIdeal)
    ∧ quiescent_LnMod (hLnMod := hLnMod)
    ∧ quiescent_LnModIdeal (hLnModIdeal := hLnModIdeal)
    ∧ quiescent_LnModRefIdeal (hLnModRefIdeal := hLnModRefIdeal)
    ∧ quiescent_ResidLn (hResidLn := hResidLn)
    ∧ quiescent_ResidLnIdeal (hResidLnIdeal := hResidLnIdeal)
    ∧ quiescent_ResidLnRefIdeal (hResidLnRefIdeal := hResidLnRefIdeal)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_NormBwd_NormBwdIdeal
    ∧ algebraic_NormBwdIdeal_NormBwdRefIdeal_pre_norm_bwd_finite (hNormBwdIdeal := hNormBwdIdeal) (hNormBwdRefIdeal := hNormBwdRefIdeal) (hPre_norm_bwd_finite := hPre_norm_bwd_finite)
    ∧ preserves_OutBwd_OutBwdIdeal
    ∧ algebraic_OutBwdIdeal_OutBwdRefIdeal (hOutBwdIdeal := hOutBwdIdeal) (hOutBwdRefIdeal := hOutBwdRefIdeal)
    ∧ preserves_OutWgrad_OutWgradIdeal
    ∧ algebraic_OutWgradIdeal_OutWgradRefIdeal (hOutWgradIdeal := hOutWgradIdeal) (hOutWgradRefIdeal := hOutWgradRefIdeal)
    ∧ preserves_InWgrad_InWgradIdeal
    ∧ algebraic_InWgradIdeal_InWgradRefIdeal (hInWgradIdeal := hInWgradIdeal) (hInWgradRefIdeal := hInWgradRefIdeal)
    ∧ preserves_EvenWgrad_EvenWgradIdeal
    ∧ algebraic_EvenWgradIdeal_EvenWgradRefIdeal (hEvenWgradIdeal := hEvenWgradIdeal) (hEvenWgradRefIdeal := hEvenWgradRefIdeal)
    ∧ preserves_OutFwd_OutFwdIdeal
    ∧ algebraic_OutFwdIdeal_OutFwdRefIdeal (hOutFwdIdeal := hOutFwdIdeal) (hOutFwdRefIdeal := hOutFwdRefIdeal)
    ∧ preserves_InFwd_InFwdIdeal
    ∧ algebraic_InFwdIdeal_InFwdRefIdeal (hInFwdIdeal := hInFwdIdeal) (hInFwdRefIdeal := hInFwdRefIdeal)
    ∧ preserves_GateBwd_GateBwdIdeal
    ∧ algebraic_GateBwdIdeal_GateBwdRefIdeal_pre_gate_bwd_finite (hGateBwdIdeal := hGateBwdIdeal) (hGateBwdRefIdeal := hGateBwdRefIdeal) (hPre_gate_bwd_finite := hPre_gate_bwd_finite)
    ∧ preserves_EvenBwd_EvenBwdIdeal
    ∧ algebraic_EvenBwdIdeal_EvenBwdRefIdeal_pre_even_bwd_finite (hEvenBwdIdeal := hEvenBwdIdeal) (hEvenBwdRefIdeal := hEvenBwdRefIdeal) (hPre_even_bwd_finite := hPre_even_bwd_finite)
    ∧ preserves_AdamInEven_AdamInEvenIdeal
    ∧ algebraic_AdamInEvenIdeal_AdamInEvenRefIdeal (hAdamInEvenIdeal := hAdamInEvenIdeal) (hAdamInEvenRefIdeal := hAdamInEvenRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamInOdd_AdamInOddIdeal
    ∧ algebraic_AdamInOddIdeal_AdamInOddRefIdeal (hAdamInOddIdeal := hAdamInOddIdeal) (hAdamInOddRefIdeal := hAdamInOddRefIdeal)
    ∧ preserves_AdamPool_AdamPoolIdeal
    ∧ algebraic_AdamPoolIdeal_AdamPoolRefIdeal (hAdamPoolIdeal := hAdamPoolIdeal) (hAdamPoolRefIdeal := hAdamPoolRefIdeal)
    ∧ preserves_FinalLoss_FinalLossIdeal
    ∧ algebraic_FinalLossIdeal_FinalLossRefIdeal_pre_final_loss_finite (hFinalLossIdeal := hFinalLossIdeal) (hFinalLossRefIdeal := hFinalLossRefIdeal) (hPre_final_loss_finite := hPre_final_loss_finite)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_AdamTiny_AdamTinyIdeal
    ∧ algebraic_AdamTinyIdeal_AdamTinyRefIdeal (hAdamTinyIdeal := hAdamTinyIdeal) (hAdamTinyRefIdeal := hAdamTinyRefIdeal)
    ∧ preserves_AdamAda_AdamAdaIdeal
    ∧ algebraic_AdamAdaIdeal_AdamAdaRefIdeal (hAdamAdaIdeal := hAdamAdaIdeal) (hAdamAdaRefIdeal := hAdamAdaRefIdeal)
    ∧ preserves_GateFwd_GateFwdIdeal
    ∧ algebraic_GateFwdIdeal_GateFwdRefIdeal (hGateFwdIdeal := hGateFwdIdeal) (hGateFwdRefIdeal := hGateFwdRefIdeal)
    ∧ preserves_LnMod_LnModIdeal
    ∧ algebraic_LnModIdeal_LnModRefIdeal (hLnModIdeal := hLnModIdeal) (hLnModRefIdeal := hLnModRefIdeal)
    ∧ preserves_ResidLn_ResidLnIdeal
    ∧ algebraic_ResidLnIdeal_ResidLnRefIdeal (hResidLnIdeal := hResidLnIdeal) (hResidLnRefIdeal := hResidLnRefIdeal)
    ∧ preserves_ConvFwd_ConvFwdIdeal
    ∧ algebraic_ConvFwdIdeal_ConvFwdRefIdeal (hConvFwdIdeal := hConvFwdIdeal) (hConvFwdRefIdeal := hConvFwdRefIdeal)
-- ==== Pre_even_bwd_finite.lean ====
abbrev S4096x1024 : Shape := ⟨2, ![4096, 1024]⟩
abbrev S4096x2048 : Shape := ⟨2, ![4096, 2048]⟩
abbrev S8x768x1024 : Shape := ⟨3, ![8, 768, 1024]⟩
abbrev S1x1024 : Shape := ⟨2, ![1, 1024]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S8x768x1024 : S_.BroadcastsInDim S8x768x1024 (![] : Fin 0 → Fin S8x768x1024.rank)
  reducesTo_S8x768x1024_S_d0_1_2 : S8x768x1024.ReducesTo [0, 1, 2] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_arg8 : FVec F S1x1024 .f32) (main_arg9 : FVec F S1x1024 .f32) (main_v34 : IVec S_ 1) (main_v35 : FVec F S4096x1024 .f32) : IVec S_ 1 :=
  let main_cst_10 : FVec F S_ .f32 := constant S_ .f32 0x7F800000#32
  let main_v36 : FVec F S4096x1024 .f32 := broadcastInDim S4096x1024 ![] bcast_S_S4096x1024 main_cst_10
  let main_v37 : IVec S4096x1024 1 := cmpf .olt main_v35 main_v36
  let main_c_11 : IVec S_ 1 := constantI S_ 1 1#1
  let main_v38 : IVec S_ 1 := (fun x v => Host.reduce IntOp.andi x v reducesTo_S4096x1024_S_d0_1 h_S_) main_v37 main_c_11
  let main_v39 : IVec S_ 1 := andi main_v34 main_v38
  let main_v40 : FVec F S1x1024 .f32 := Host.absf main_arg8
  let main_cst_12 : FVec F S_ .f32 := constant S_ .f32 0x7F800000#32
  let main_v41 : FVec F S1x1024 .f32 := broadcastInDim S1x1024 ![] bcast_S_S1x1024 main_cst_12
  let main_v42 : IVec S1x1024 1 := cmpf .olt main_v40 main_v41
  let main_c_13 : IVec S_ 1 := constantI S_ 1 1#1
  let main_v43 : IVec S_ 1 := (fun x v => Host.reduce IntOp.andi x v reducesTo_S1x1024_S_d0_1 h_S_) main_v42 main_c_13
  let main_v44 : IVec S_ 1 := andi main_v39 main_v43
  let main_v45 : FVec F S1x1024 .f32 := Host.absf main_arg9
  let main_cst_14 : FVec F S_ .f32 := constant S_ .f32 0x7F800000#32
  let main_v46 : FVec F S1x1024 .f32 := broadcastInDim S1x1024 ![] bcast_S_S1x1024 main_cst_14
  let main_v47 : IVec S1x1024 1 := cmpf .olt main_v45 main_v46
  let main_c_15 : IVec S_ 1 := constantI S_ 1 1#1
  let main_v48 : IVec S_ 1 := (fun x v => Host.reduce IntOp.andi x v reducesTo_S1x1024_S_d0_1 h_S_) main_v47 main_c_15
  let main_v49 : IVec S_ 1 := andi main_v44 main_v48
  main_v49

def fn_part1 {F : FTy → Type} [FloatOps F] (main_arg4 : FVec F S4096x2048 .bf16) (main_arg5 : FVec F S8x768x1024 .bf16) (main_arg6 : FVec F S4096x1024 .f32) (main_arg8 : FVec F S1x1024 .f32) (main_arg9 : FVec F S1x1024 .f32) (main_v16 : IVec S_ 1) (main_v17 : FVec F S4096x1024 .f32) : IVec S_ 1 :=
  let main_v18 : FVec F S4096x1024 .f32 := Host.absf main_v17
  let main_cst_4 : FVec F S_ .f32 := constant S_ .f32 0x7F800000#32
  let main_v19 : FVec F S4096x1024 .f32 := broadcastInDim S4096x1024 ![] bcast_S_S4096x1024 main_cst_4
  let main_v20 : IVec S4096x1024 1 := cmpf .olt main_v18 main_v19
  let main_c_5 : IVec S_ 1 := constantI S_ 1 1#1
  let main_v21 : IVec S_ 1 := (fun x v => Host.reduce IntOp.andi x v reducesTo_S4096x1024_S_d0_1 h_S_) main_v20 main_c_5
  let main_v22 : IVec S_ 1 := andi main_v16 main_v21
  let main_v23 : FVec F S4096x2048 .f32 := (extf .f32 · bitsLt_bf16_f32) main_arg4
  let main_v24 : FVec F S4096x2048 .f32 := Host.absf main_v23
  let main_cst_6 : FVec F S_ .f32 := constant S_ .f32 0x7F800000#32
  let main_v25 : FVec F S4096x2048 .f32 := broadcastInDim S4096x2048 ![] bcast_S_S4096x2048 main_cst_6
  let main_v26 : IVec S4096x2048 1 := cmpf .olt main_v24 main_v25
  let main_c_7 : IVec S_ 1 := constantI S_ 1 1#1
  let main_v27 : IVec S_ 1 := (fun x v => Host.reduce IntOp.andi x v reducesTo_S4096x2048_S_d0_1 h_S_) main_v26 main_c_7
  let main_v28 : IVec S_ 1 := andi main_v22 main_v27
  let main_v29 : FVec F S8x768x1024 .f32 := (extf .f32 · bitsLt_bf16_f32) main_arg5
  let main_v30 : FVec F S8x768x1024 .f32 := Host.absf main_v29
  let main_cst_8 : FVec F S_ .f32 := constant S_ .f32 0x7F800000#32
  let main_v31 : FVec F S8x768x1024 .f32 := broadcastInDim S8x768x1024 ![] bcast_S_S8x768x1024 main_cst_8
  let main_v32 : IVec S8x768x1024 1 := cmpf .olt main_v30 main_v31
  let main_c_9 : IVec S_ 1 := constantI S_ 1 1#1
  let main_v33 : IVec S_ 1 := (fun x v => Host.reduce IntOp.andi x v reducesTo_S8x768x1024_S_d0_1_2 h_S_) main_v32 main_c_9
  let main_v34 : IVec S_ 1 := andi main_v28 main_v33
  let main_v35 : FVec F S4096x1024 .f32 := Host.absf main_arg6
  fn_part2 (F := F) main_arg8 main_arg9 main_v34 main_v35

def fn {F : FTy → Type} [FloatOps F] (main_arg0 : FVec F S4096x1024 .bf16) (main_arg1 : FVec F S4096x1024 .bf16) (main_arg2 : FVec F S4096x1024 .bf16) (main_arg3 : FVec F S4096x1024 .bf16) (main_arg4 : FVec F S4096x2048 .bf16) (main_arg5 : FVec F S8x768x1024 .bf16) (main_arg6 : FVec F S4096x1024 .f32) (main_arg7 : FVec F S4096x1024 .f32) (main_arg8 : FVec F S1x1024 .f32) (main_arg9 : FVec F S1x1024 .f32) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S4096x1024 .f32 := (extf .f32 · bitsLt_bf16_f32) main_arg1
  let main_v6 : FVec F S4096x1024 .f32 := Host.absf main_v5
  let main_cst_0 : FVec F S_ .f32 := constant S_ .f32 0x7F800000#32
  let main_v7 : FVec F S4096x1024 .f32 := broadcastInDim S4096x1024 ![] bcast_S_S4096x1024 main_cst_0
  let main_v8 : IVec S4096x1024 1 := cmpf .olt main_v6 main_v7
  let main_c_1 : IVec S_ 1 := constantI S_ 1 1#1
  let main_v9 : IVec S_ 1 := (fun x v => Host.reduce IntOp.andi x v reducesTo_S4096x1024_S_d0_1 h_S_) main_v8 main_c_1
  let main_v10 : IVec S_ 1 := andi main_v4 main_v9
  let main_v11 : FVec F S4096x1024 .f32 := (extf .f32 · bitsLt_bf16_f32) main_arg2
  let main_v12 : FVec F S4096x1024 .f32 := Host.absf main_v11
  let main_cst_2 : FVec F S_ .f32 := constant S_ .f32 0x7F800000#32
  let main_v13 : FVec F S4096x1024 .f32 := broadcastInDim S4096x1024 ![] bcast_S_S4096x1024 main_cst_2
  let main_v14 : IVec S4096x1024 1 := cmpf .olt main_v12 main_v13
  let main_c_3 : IVec S_ 1 := constantI S_ 1 1#1
  let main_v15 : IVec S_ 1 := (fun x v => Host.reduce IntOp.andi x v reducesTo_S4096x1024_S_d0_1 h_S_) main_v14 main_c_3
  let main_v16 : IVec S_ 1 := andi main_v10 main_v15
  let main_v17 : FVec F S4096x1024 .f32 := (extf .f32 · bitsLt_bf16_f32) main_arg3
  fn_part1 (F := F) main_arg4 main_arg5 main_arg6 main_arg8 main_arg9 main_v16 main_v17
-- ==== Pre_final_loss_finite.lean ====
abbrev S4096x1024 : Shape := ⟨2, ![4096, 1024]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S4096x1024 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  main_v23

def fn {F : FTy → Type} [FloatOps F] (main_arg0 : FVec F S4096x1024 .f32) (main_arg1 : FVec F S4096x1024 .f32) (main_arg2 : FVec F S1x1024 .f32) (main_arg3 : FVec F S1x1024 .f32) (main_arg4 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_v13 main_v16
-- ==== Pre_finite.lean ====
abbrev S4096x2048 : Shape := ⟨2, ![4096, 2048]⟩
abbrev S4096x8192 : Shape := ⟨2, ![4096, 8192]⟩
abbrev S3x2048 : Shape := ⟨2, ![3, 2048]⟩
abbrev S1x2048 : Shape := ⟨2, ![1, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bitsLt_bf16_f32 : FTy.bits .bf16 < FTy.bits .f32
  bcast_S_S4096x8192 : S_.BroadcastsInDim S4096x8192 (![] : Fin 0 → Fin S4096x8192.rank)
  reducesTo_S4096x8192_S_d0_1 : S4096x8192.ReducesTo [0, 1] S_
  bcast_S_S3x2048 : S_.BroadcastsInDim S3x2048 (![] : Fin 0 → Fin S3x2048.rank)
  reducesTo_S3x2048_S_d0_1 : S3x2048.ReducesTo [0, 1] S_
  bcast_S_S1x2048 : S_.BroadcastsInDim S1x2048 (![] : Fin 0 → Fin S1x2048.rank)
  reducesTo_S1x2048_S_d0_1 : S1x2048.ReducesTo [0, 1] S_

variable [Facts]

def fn_part1 {F : FTy → Type} [FloatOps F] (main_v14 : IVec S_ 1) (main_v15 : FVec F S1x2048 .f32) (main_v16 : FVec F S1x2048 .f32) : IVec S_ 1 :=
  let main_v17 : IVec S1x2048 1 := cmpf .olt main_v15 main_v16
  let main_c_5 : IVec S_ 1 := constantI S_ 1 1#1
  let main_v18 : IVec S_ 1 := (fun x v => Host.reduce IntOp.andi x v reducesTo_S1x2048_S_d0_1 h_S_) main_v17 main_c_5
  let main_v19 : IVec S_ 1 := andi main_v14 main_v18
  main_v19

def fn {F : FTy → Type} [FloatOps F] (main_arg0 : FVec F S4096x2048 .f32) (main_arg1 : FVec F S4096x8192 .bf16) (main_arg2 : FVec F S3x2048 .f32) (main_arg3 : FVec F S1x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x8192 .f32 := (extf .f32 · bitsLt_bf16_f32) main_arg1
  let main_v5 : FVec F S4096x8192 .f32 := Host.absf main_v4
  let main_cst_0 : FVec F S_ .f32 := constant S_ .f32 0x7F800000#32
  let main_v6 : FVec F S4096x8192 .f32 := broadcastInDim S4096x8192 ![] bcast_S_S4096x8192 main_cst_0
  let main_v7 : IVec S4096x8192 1 := cmpf .olt main_v5 main_v6
  let main_c_1 : IVec S_ 1 := constantI S_ 1 1#1
  let main_v8 : IVec S_ 1 := (fun x v => Host.reduce IntOp.andi x v reducesTo_S4096x8192_S_d0_1 h_S_) main_v7 main_c_1
  let main_v9 : IVec S_ 1 := andi main_v3 main_v8
  let main_v10 : FVec F S3x2048 .f32 := Host.absf main_arg2
  let main_cst_2 : FVec F S_ .f32 := constant S_ .f32 0x7F800000#32
  let main_v11 : FVec F S3x2048 .f32 := broadcastInDim S3x2048 ![] bcast_S_S3x2048 main_cst_2
  let main_v12 : IVec S3x2048 1 := cmpf .olt main_v10 main_v11
  let main_c_3 : IVec S_ 1 := constantI S_ 1 1#1
  let main_v13 : IVec S_ 1 := (fun x v => Host.reduce IntOp.andi x v reducesTo_S3x2048_S_d0_1 h_S_) main_v12 main_c_3
  let main_v14 : IVec S_ 1 := andi main_v9 main_v13
  let main_v15 : FVec F S1x2048 .f32 := Host.absf main_arg3
  let main_cst_4 : FVec F S_ .f32 := constant S_ .f32 0x7F800000#32
  let main_v16 : FVec F S1x2048 .f32 := broadcastInDim S1x2048 ![] bcast_S_S1x2048 main_cst_4
  fn_part1 (F := F) main_v14 main_v15 main_v16
-- ==== Pre_gate_bwd_finite.lean ====
abbrev S4096x2048 : Shape := ⟨2, ![4096, 2048]⟩
abbrev S4096x1024 : Shape := ⟨2, ![4096, 1024]⟩
abbrev S4096x6144 : Shape := ⟨2, ![4096, 6144]⟩
abbrev S1x1024 : Shape := ⟨2, ![1, 1024]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  main_v18

def fn {F : FTy → Type} [FloatOps F] (main_arg0 : FVec F S4096x2048 .f32) (main_arg1 : FVec F S4096x1024 .f32) (main_arg2 : FVec F S4096x1024 .f32) (main_arg3 : FVec F S4096x6144 .bf16) (main_arg4 : FVec F S1x1024 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1x1024 .f32 := Host.absf main_arg4
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_v13 main_v16
-- ==== Pre_norm_bwd_finite.lean ====
abbrev S4096x8192 : Shape := ⟨2, ![4096, 8192]⟩
abbrev S8x1024x1024 : Shape := ⟨3, ![8, 1024, 1024]⟩
abbrev S4096x1024 : Shape := ⟨2, ![4096, 1024]⟩
abbrev S1x1024 : Shape := ⟨2, ![1, 1024]⟩
abbrev S_ : Shape := ⟨0, ![]⟩

class Facts : Prop where
  bitsLt_bf16_f32 : FTy.bits .bf16 < FTy.bits .f32
  bcast_S_S4096x8192 : S_.BroadcastsInDim S4096x8192 (![] : Fin 0 → Fin S4096x8192.rank)
  reducesTo_S4096x8192_S_d0_1 : S4096x8192.ReducesTo [0, 1] S_
  h_S_ : 0 < S_.numel
  bcast_S_S8x1024x1024 : S_.BroadcastsInDim S8x1024x1024 (![] : Fin 0 → Fin S8x1024x1024.rank)
  reducesTo_S8x1024x1024_S_d0_1_2 : S8x1024x1024.ReducesTo [0, 1, 2] S_
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg5 : FVec F S1x1024 .f32) (main_v15 : IVec S_ 1) (main_v16 : FVec F S1x1024 .f32) (main_cst_4 : FVec F S_ .f32) : IVec S_ 1 :=
  let main_v17 : FVec F S1x1024 .f32 := broadcastInDim S1x1024 ![] bcast_S_S1x1024 main_cst_4
  let main_v18 : IVec S1x1024 1 := cmpf .olt main_v16 main_v17
  let main_c_5 : IVec S_ 1 := constantI S_ 1 1#1
  let main_v19 : IVec S_ 1 := (fun x v => Host.reduce IntOp.andi x v reducesTo_S1x1024_S_d0_1 h_S_) main_v18 main_c_5
  let main_v20 : IVec S_ 1 := andi main_v15 main_v19
  let main_v21 : FVec F S1x1024 .f32 := Host.absf main_arg5
  let main_cst_6 : FVec F S_ .f32 := constant S_ .f32 0x7F800000#32
  let main_v22 : FVec F S1x1024 .f32 := broadcastInDim S1x1024 ![] bcast_S_S1x1024 main_cst_6
  let main_v23 : IVec S1x1024 1 := cmpf .olt main_v21 main_v22
  let main_c_7 : IVec S_ 1 := constantI S_ 1 1#1
  let main_v24 : IVec S_ 1 := (fun x v => Host.reduce IntOp.andi x v reducesTo_S1x1024_S_d0_1 h_S_) main_v23 main_c_7
  let main_v25 : IVec S_ 1 := andi main_v20 main_v24
  main_v25

def fn {F : FTy → Type} [FloatOps F] (main_arg0 : FVec F S4096x8192 .bf16) (main_arg1 : FVec F S8x1024x1024 .bf16) (main_arg2 : FVec F S4096x1024 .f32) (main_arg3 : FVec F S4096x1024 .f32) (main_arg4 : FVec F S1x1024 .f32) (main_arg5 : FVec F S1x1024 .f32) (main_arg6 : FVec F S4096x1024 .f32) (main_arg7 : FVec F S1x1024 .f32) : IVec S_ 1 :=
  let main_v0 : FVec F S4096x8192 .f32 := (extf .f32 · bitsLt_bf16_f32) main_arg0
  let main_v1 : FVec F S4096x8192 .f32 := Host.absf main_v0
  let main_cst : FVec F S_ .f32 := constant S_ .f32 0x7F800000#32
  let main_v2 : FVec F S4096x8192 .f32 := broadcastInDim S4096x8192 ![] bcast_S_S4096x8192 main_cst
  let main_v3 : IVec S4096x8192 1 := cmpf .olt main_v1 main_v2
  let main_c : IVec S_ 1 := constantI S_ 1 1#1
  let main_v4 : IVec S_ 1 := (fun x v => Host.reduce IntOp.andi x v reducesTo_S4096x8192_S_d0_1 h_S_) main_v3 main_c
  let main_v5 : FVec F S8x1024x1024 .f32 := (extf .f32 · bitsLt_bf16_f32) main_arg1
  let main_v6 : FVec F S8x1024x1024 .f32 := Host.absf main_v5
  let main_cst_0 : FVec F S_ .f32 := constant S_ .f32 0x7F800000#32
  let main_v7 : FVec F S8x1024x1024 .f32 := broadcastInDim S8x1024x1024 ![] bcast_S_S8x1024x1024 main_cst_0
  let main_v8 : IVec S8x1024x1024 1 := cmpf .olt main_v6 main_v7
  let main_c_1 : IVec S_ 1 := constantI S_ 1 1#1
  let main_v9 : IVec S_ 1 := (fun x v => Host.reduce IntOp.andi x v reducesTo_S8x1024x1024_S_d0_1_2 h_S_) main_v8 main_c_1
  let main_v10 : IVec S_ 1 := andi main_v4 main_v9
  let main_v11 : FVec F S4096x1024 .f32 := Host.absf main_arg2
  let main_cst_2 : FVec F S_ .f32 := constant S_ .f32 0x7F800000#32
  let main_v12 : FVec F S4096x1024 .f32 := broadcastInDim S4096x1024 ![] bcast_S_S4096x1024 main_cst_2
  let main_v13 : IVec S4096x1024 1 := cmpf .olt main_v11 main_v12
  let main_c_3 : IVec S_ 1 := constantI S_ 1 1#1
  let main_v14 : IVec S_ 1 := (fun x v => Host.reduce IntOp.andi x v reducesTo_S4096x1024_S_d0_1 h_S_) main_v13 main_c_3
  let main_v15 : IVec S_ 1 := andi main_v10 main_v14
  let main_v16 : FVec F S1x1024 .f32 := Host.absf main_arg4
  let main_cst_4 : FVec F S_ .f32 := constant S_ .f32 0x7F800000#32
  fn_part1 (F := F) main_arg5 main_v15 main_v16 main_cst_4
-- ==== Kernel.lean ====
abbrev S4096x2048 : Shape := ⟨2, ![4096, 2048]⟩
abbrev S4096x8192 : Shape := ⟨2, ![4096, 8192]⟩
abbrev S3x2048 : Shape := ⟨2, ![3, 2048]⟩
abbrev S1x2048 : Shape := ⟨2, ![1, 2048]⟩
abbrev S256x2048 : Shape := ⟨2, ![256, 2048]⟩
abbrev S16x2048 : Shape := ⟨2, ![16, 2048]⟩
abbrev S256x8192 : Shape := ⟨2, ![256, 8192]⟩
abbrev S272x2048 : Shape := ⟨2, ![272, 2048]⟩
abbrev S2048 : Shape := ⟨1, ![2048]⟩

abbrev nBuf : Space → Nat
  | .hbm => 7
  | .vmem => 26
  | .smem => 0
  | _ => 0

abbrev bufTy : (tb : Table) → Fin (tcTables nBuf tb) → BufTy
  | .hbm, ⟨0, _⟩ => ⟨S4096x2048, .f32⟩
  | .hbm, ⟨1, _⟩ => ⟨S4096x8192, .bf16⟩
  | .hbm, ⟨2, _⟩ => ⟨S3x2048, .f32⟩
  | .hbm, ⟨3, _⟩ => ⟨S1x2048, .f32⟩
  | .hbm, ⟨4, _⟩ => ⟨S4096x8192, .bf16⟩
  | .hbm, ⟨5, _⟩ => ⟨S3x2048, .f32⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S16x2048, .bf16⟩
  | .local _ .vmem, ⟨11, _⟩ => ⟨S16x2048, .bf16⟩
  | .local _ .vmem, ⟨12, _⟩ => ⟨S16x2048, .bf16⟩
  | .local _ .vmem, ⟨13, _⟩ => ⟨S16x2048, .bf16⟩
  | .local _ .vmem, ⟨14, _⟩ => ⟨S16x2048, .f32⟩
  | .local _ .vmem, ⟨15, _⟩ => ⟨S16x2048, .f32⟩
  | .local _ .vmem, ⟨16, _⟩ => ⟨S16x2048, .bf16⟩
  | .local _ .vmem, ⟨17, _⟩ => ⟨S16x2048, .bf16⟩
  | .local _ .vmem, ⟨18, _⟩ => ⟨S16x2048, .bf16⟩
  | .local _ .vmem, ⟨19, _⟩ => ⟨S16x2048, .bf16⟩
  | .local _ .vmem, ⟨20, _⟩ => ⟨S3x2048, .f32⟩
  | .local _ .vmem, ⟨21, _⟩ => ⟨S1x2048, .f32⟩
  | .local _ .vmem, ⟨22, _⟩ => ⟨S256x8192, .bf16⟩
  | .local _ .vmem, ⟨23, _⟩ => ⟨S256x8192, .bf16⟩
  | .local _ .vmem, ⟨24, _⟩ => ⟨S3x2048, .f32⟩
  | .local _ .vmem, ⟨25, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg14_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem12_1 : DmaSem sig := 23
abbrev cc0_sem13_0 : DmaSem sig := 24
abbrev cc0_sem14_0 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_6 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c3_i32 : BitVec 32 := 3#32
  let c0_i32 : BitVec 32 := 0#32
  ![v2.toNat, c3_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S3x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x8192 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S3x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ReferenceIdeal.lean ====
abbrev S4096x2048 : Shape := ⟨2, ![4096, 2048]⟩
abbrev S4096x8192 : Shape := ⟨2, ![4096, 8192]⟩
abbrev S3x2048 : Shape := ⟨2, ![3, 2048]⟩
abbrev S1x2048 : Shape := ⟨2, ![1, 2048]⟩
abbrev S2048 : Shape := ⟨1, ![2048]⟩
abbrev S_ : Shape := ⟨0, ![]⟩
abbrev S2x2048 : Shape := ⟨2, ![2, 2048]⟩
abbrev S4098x2048 : Shape := ⟨2, ![4098, 2048]⟩

abbrev nBuf : Space → Nat
  | .hbm => 120
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x8192, .bf16⟩
  | .hbm, ⟨2, _⟩ => ⟨S3x2048, .f32⟩
  | .hbm, ⟨3, _⟩ => ⟨S1x2048, .f32⟩
  | .hbm, ⟨4, _⟩ => ⟨S4096x8192, .f32⟩
  | .hbm, ⟨5, _⟩ => ⟨S2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S2x2048, .f32⟩
  | .hbm, ⟨13, _⟩ => ⟨S4098x2048, .f32⟩
  | .hbm, ⟨14, _⟩ => ⟨S_, .f32⟩
  | .hbm, ⟨15, _⟩ => ⟨S2x2048, .f32⟩
  | .hbm, ⟨16, _⟩ => ⟨S4096x2048, .f32⟩
  | .hbm, ⟨17, _⟩ => ⟨S1x2048, .f32⟩
  | .hbm, ⟨18, _⟩ => ⟨S2048, .f32⟩
  | .hbm, ⟨19, _⟩ => ⟨S1x2048, .f32⟩
  | .hbm, ⟨20, _⟩ => ⟨S4096x2048, .f32⟩
  | .hbm, ⟨21, _⟩ => ⟨S4096x2048, .f32⟩
  | .hbm, ⟨22, _⟩ => ⟨S_, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S1x2048, .f32⟩
  | .hbm, ⟨27, _⟩ => ⟨S2048, .f32⟩
  | .hbm, ⟨28, _⟩ => ⟨S1x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S1x2048, .f32⟩
  | .hbm, ⟨34, _⟩ => ⟨S2048, .f32⟩
  | .hbm, ⟨35, _⟩ => ⟨S1x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S1x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S_, .f32⟩
  | .hbm, ⟨46, _⟩ => ⟨S4096x2048, .f32⟩
  | .hbm, ⟨47, _⟩ => ⟨S4096x2048, .f32⟩
  | .hbm, ⟨48, _⟩ => ⟨S_, .f32⟩
  | .hbm, ⟨49, _⟩ => ⟨S4096x2048, .f32⟩
  | .hbm, ⟨50, _⟩ => ⟨S4096x2048, .f32⟩
  | .hbm, ⟨51, _⟩ => ⟨S_, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S4096x2048, .f32⟩
  | .hbm, ⟨56, _⟩ => ⟨S4096x2048, .f32⟩
  | .hbm, ⟨57, _⟩ => ⟨S4096x2048, .f32⟩
  | .hbm, ⟨58, _⟩ => ⟨S4096x2048, .f32⟩
  | .hbm, ⟨59, _⟩ => ⟨S4096x2048, .f32⟩
  | .hbm, ⟨60, _⟩ => ⟨S4096x2048, .f32⟩
  | .hbm, ⟨61, _⟩ => ⟨S4096x2048, .f32⟩
  | .hbm, ⟨62, _⟩ => ⟨S4096x2048, .f32⟩
  | .hbm, ⟨63, _⟩ => ⟨S4096x2048, .f32⟩
  | .hbm, ⟨64, _⟩ => ⟨S4096x2048, .f32⟩
  | .hbm, ⟨65, _⟩ => ⟨S_, .f32⟩
  | .hbm, ⟨66, _⟩ => ⟨S2048, .f32⟩
  | .hbm, ⟨67, _⟩ => ⟨S1x2048, .f32⟩
  | .hbm, ⟨68, _⟩ => ⟨S_, .f32⟩
  | .hbm, ⟨69, _⟩ => ⟨S2048, .f32⟩
  | .hbm, ⟨70, _⟩ => ⟨S4096x2048, .f32⟩
  | .hbm, ⟨71, _⟩ => ⟨S_, .f32⟩
  | .hbm, ⟨72, _⟩ => ⟨S2048, .f32⟩
  | .hbm, ⟨73, _⟩ => ⟨S1x2048, .f32⟩
  | .hbm, ⟨74, _⟩ => ⟨S4096x2048, .f32⟩
  | .hbm, ⟨75, _⟩ => ⟨S4096x2048, .f32⟩
  | .hbm, ⟨76, _⟩ => ⟨S_, .f32⟩
  | .hbm, ⟨77, _⟩ => ⟨S2048, .f32⟩
  | .hbm, ⟨78, _⟩ => ⟨S1x2048, .f32⟩
  | .hbm, ⟨79, _⟩ => ⟨S_, .f32⟩
  | .hbm, ⟨80, _⟩ => ⟨S3x2048, .f32⟩
  | .hbm, ⟨81, _⟩ => ⟨S_, .f32⟩
  | .hbm, ⟨82, _⟩ => ⟨S4098x2048, .f32⟩
  | .hbm, ⟨83, _⟩ => ⟨S4096x2048, .f32⟩
  | .hbm, ⟨84, _⟩ => ⟨S_, .f32⟩
  | .hbm, ⟨85, _⟩ => ⟨S2048, .f32⟩
  | .hbm, ⟨86, _⟩ => ⟨S1x2048, .f32⟩
  | .hbm, ⟨87, _⟩ => ⟨S4096x2048, .f32⟩
  | .hbm, ⟨88, _⟩ => ⟨S4096x2048, .f32⟩
  | .hbm, ⟨89, _⟩ => ⟨S_, .f32⟩
  | .hbm, ⟨90, _⟩ => ⟨S2048, .f32⟩
  | .hbm, ⟨91, _⟩ => ⟨S1x2048, .f32⟩
  | .hbm, ⟨92, _⟩ => ⟨S_, .f32⟩
  | .hbm, ⟨93, _⟩ => ⟨S3x2048, .f32⟩
  | .hbm, ⟨94, _⟩ => ⟨S3x2048, .f32⟩
  | .hbm, ⟨95, _⟩ => ⟨S_, .f32⟩
  | .hbm, ⟨96, _⟩ => ⟨S4098x2048, .f32⟩
  | .hbm, ⟨97, _⟩ => ⟨S4098x2048, .f32⟩
  | .hbm, ⟨98, _⟩ => ⟨S4096x2048, .f32⟩
  | .hbm, ⟨99, _⟩ => ⟨S_, .f32⟩
  | .hbm, ⟨100, _⟩ => ⟨S2048, .f32⟩
  | .hbm, ⟨101, _⟩ => ⟨S1x2048, .f32⟩
  | .hbm, ⟨102, _⟩ => ⟨S4096x2048, .f32⟩
  | .hbm, ⟨103, _⟩ => ⟨S4096x2048, .f32⟩
  | .hbm, ⟨104, _⟩ => ⟨S_, .f32⟩
  | .hbm, ⟨105, _⟩ => ⟨S2048, .f32⟩
  | .hbm, ⟨106, _⟩ => ⟨S1x2048, .f32⟩
  | .hbm, ⟨107, _⟩ => ⟨S_, .f32⟩
  | .hbm, ⟨108, _⟩ => ⟨S3x2048, .f32⟩
  | .hbm, ⟨109, _⟩ => ⟨S3x2048, .f32⟩
  | .hbm, ⟨110, _⟩ => ⟨S_, .f32⟩
  | .hbm, ⟨111, _⟩ => ⟨S4098x2048, .f32⟩
  | .hbm, ⟨112, _⟩ => ⟨S4098x2048, .f32⟩
  | .hbm, ⟨113, _⟩ => ⟨S2x2048, .f32⟩
  | .hbm, ⟨114, _⟩ => ⟨S4096x2048, .f32⟩
  | .hbm, ⟨115, _⟩ => ⟨S4096x2048, .f32⟩
  | .hbm, ⟨116, _⟩ => ⟨S4096x2048, .f32⟩
  | .hbm, ⟨117, _⟩ => ⟨S4096x8192, .f32⟩
  | .hbm, ⟨118, _⟩ => ⟨S4096x8192, .bf16⟩
  | .hbm, ⟨119, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_v36_2 : Ref sig .tc := ⟨.hbm, 50, rfl⟩
abbrev main_call0_cst_1 : Ref sig .tc := ⟨.hbm, 51, rfl⟩
abbrev main_call0_v6 : Ref sig .tc := ⟨.hbm, 52, rfl⟩
abbrev main_call0_v7 : Ref sig .tc := ⟨.hbm, 53, rfl⟩
abbrev main_v36_1 : Ref sig .tc := ⟨.hbm, 54, rfl⟩
abbrev main_v36_0 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_2 : Ref sig .tc := ⟨.hbm, 65, rfl⟩
abbrev main_v43 : Ref sig .tc := ⟨.hbm, 66, rfl⟩
abbrev main_v44 : Ref sig .tc := ⟨.hbm, 67, rfl⟩
abbrev main_cst_3 : Ref sig .tc := ⟨.hbm, 68, rfl⟩
abbrev main_v45 : Ref sig .tc := ⟨.hbm, 69, rfl⟩
abbrev main_v46 : Ref sig .tc := ⟨.hbm, 70, rfl⟩
abbrev main_cst_4 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_5 : Ref sig .tc := ⟨.hbm, 76, rfl⟩
abbrev main_v51 : Ref sig .tc := ⟨.hbm, 77, rfl⟩
abbrev main_v52 : Ref sig .tc := ⟨.hbm, 78, rfl⟩
abbrev main_cst_6 : Ref sig .tc := ⟨.hbm, 79, rfl⟩
abbrev main_v53 : Ref sig .tc := ⟨.hbm, 80, rfl⟩
abbrev main_cst_7 : Ref sig .tc := ⟨.hbm, 81, rfl⟩
abbrev main_v54 : Ref sig .tc := ⟨.hbm, 82, rfl⟩
abbrev main_v55 : Ref sig .tc := ⟨.hbm, 83, rfl⟩
abbrev main_cst_8 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_9 : Ref sig .tc := ⟨.hbm, 89, rfl⟩
abbrev main_v60 : Ref sig .tc := ⟨.hbm, 90, rfl⟩
abbrev main_v61 : Ref sig .tc := ⟨.hbm, 91, rfl⟩
abbrev main_cst_10 : Ref sig .tc := ⟨.hbm, 92, rfl⟩
abbrev main_v62 : Ref sig .tc := ⟨.hbm, 93, rfl⟩
abbrev main_v63 : Ref sig .tc := ⟨.hbm, 94, rfl⟩
abbrev main_cst_11 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_12 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_cst_13 : Ref sig .tc := ⟨.hbm, 104, rfl⟩
abbrev main_v71 : Ref sig .tc := ⟨.hbm, 105, rfl⟩
abbrev main_v72 : Ref sig .tc := ⟨.hbm, 106, rfl⟩
abbrev main_cst_14 : Ref sig .tc := ⟨.hbm, 107, rfl⟩
abbrev main_v73 : Ref sig .tc := ⟨.hbm, 108, rfl⟩
abbrev main_v74 : Ref sig .tc := ⟨.hbm, 109, rfl⟩
abbrev main_cst_15 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩

abbrev nD : Nat := 1
abbrev τ : Topo := Topo.v7x

variable {F : FTy → Type} [FloatOps F]
-- ==== NormBwd.lean ====
abbrev S4096x8192 : Shape := ⟨2, ![4096, 8192]⟩
abbrev S8x1024x1024 : Shape := ⟨3, ![8, 1024, 1024]⟩
abbrev S4096x1024 : Shape := ⟨2, ![4096, 1024]⟩
abbrev S1x1024 : Shape := ⟨2, ![1, 1024]⟩
abbrev S256x8192 : Shape := ⟨2, ![256, 8192]⟩
abbrev S256x1024 : Shape := ⟨2, ![256, 1024]⟩
abbrev S1x1024x1024 : Shape := ⟨3, ![1, 1024, 1024]⟩
abbrev S1024x1024 : Shape := ⟨2, ![1024, 1024]⟩
abbrev S256 : Shape := ⟨1, ![256]⟩
abbrev S256x1 : Shape := ⟨2, ![256, 1]⟩
abbrev S1024 : Shape := ⟨1, ![1024]⟩

abbrev nBuf : Space → Nat
  | .hbm => 14
  | .vmem => 20
  | .smem => 0
  | _ => 0

abbrev bufTy : (tb : Table) → Fin (tcTables nBuf tb) → BufTy
  | .hbm, ⟨0, _⟩ => ⟨S4096x8192, .bf16⟩
  | .hbm, ⟨1, _⟩ => ⟨S8x1024x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S1x1024, .f32⟩
  | .hbm, ⟨8, _⟩ => ⟨S4096x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S4096x1024, .bf16⟩
  | .hbm, ⟨13, _⟩ => ⟨S1x1024, .f32⟩
  | .local _ .vmem, ⟨0, _⟩ => ⟨S256x8192, .bf16⟩
  | .local _ .vmem, ⟨1, _⟩ => ⟨S256x8192, .bf16⟩
  | .local _ .vmem, ⟨2, _⟩ => ⟨S8x1024x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S256x1024, .bf16⟩
  | .local _ .vmem, ⟨18, _⟩ => ⟨S256x1024, .bf16⟩
  | .local _ .vmem, ⟨19, _⟩ => ⟨S1x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== NormBwdRefIdeal.lean ====
abbrev S4096x8192 : Shape := ⟨2, ![4096, 8192]⟩
abbrev S8x1024x1024 : Shape := ⟨3, ![8, 1024, 1024]⟩
abbrev S4096x1024 : Shape := ⟨2, ![4096, 1024]⟩
abbrev S1x1024 : Shape := ⟨2, ![1, 1024]⟩
abbrev S1024x8x1024 : Shape := ⟨3, ![1024, 8, 1024]⟩
abbrev S1024x8192 : Shape := ⟨2, ![1024, 8192]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 87
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8x1024x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S1x1024, .f32⟩
  | .hbm, ⟨8, _⟩ => ⟨S8x1024x1024, .f32⟩
  | .hbm, ⟨9, _⟩ => ⟨S1024x8x1024, .f32⟩
  | .hbm, ⟨10, _⟩ => ⟨S1024x8192, .f32⟩
  | .hbm, ⟨11, _⟩ => ⟨S_, .f32⟩
  | .hbm, ⟨12, _⟩ => ⟨S1x1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1x1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x8192, .f32⟩
  | .hbm, ⟨40, _⟩ => ⟨S4096x8192, .f32⟩
  | .hbm, ⟨41, _⟩ => ⟨S4096x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S4096, .f32⟩
  | .hbm, ⟨60, _⟩ => ⟨S4096x1, .f32⟩
  | .hbm, ⟨61, _⟩ => ⟨S4096x1024, .f32⟩
  | .hbm, ⟨62, _⟩ => ⟨S4096x1024, .f32⟩
  | .hbm, ⟨63, _⟩ => ⟨S4096x1, .f32⟩
  | .hbm, ⟨64, _⟩ => ⟨S_, .f32⟩
  | .hbm, ⟨65, _⟩ => ⟨S4096x1, .f32⟩
  | .hbm, ⟨66, _⟩ => ⟨S4096x1, .f32⟩
  | .hbm, ⟨67, _⟩ => ⟨S_, .f32⟩
  | .hbm, ⟨68, _⟩ => ⟨S4096, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S_, .f32⟩
  | .hbm, ⟨76, _⟩ => ⟨S1x1024, .f32⟩
  | .hbm, ⟨77, _⟩ => ⟨S1x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S_, .f32⟩
  | .hbm, ⟨84, _⟩ => ⟨S1024, .f32⟩
  | .hbm, ⟨85, _⟩ => ⟨S1x1024, .f32⟩
  | .hbm, ⟨86, _⟩ => ⟨S4096x1024, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_9 : Ref sig .tc := ⟨.hbm, 64, rfl⟩
abbrev main_v46 : Ref sig .tc := ⟨.hbm, 65, rfl⟩
abbrev main_v47 : Ref sig .tc := ⟨.hbm, 66, rfl⟩
abbrev main_cst_10 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_11 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_12 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩

abbrev nD : Nat := 1
abbrev τ : Topo := Topo.v7x

variable {F : FTy → Type} [FloatOps F]
-- ==== OutBwd.lean ====
abbrev S4096x1024 : Shape := ⟨2, ![4096, 1024]⟩
abbrev S2048x1024 : Shape := ⟨2, ![2048, 1024]⟩
abbrev S4096x2048 : Shape := ⟨2, ![4096, 2048]⟩
abbrev S512x1024 : Shape := ⟨2, ![512, 1024]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S4096x2048, .f32⟩
  | .local _ .vmem, ⟨0, _⟩ => ⟨S512x1024, .bf16⟩
  | .local _ .vmem, ⟨1, _⟩ => ⟨S512x1024, .bf16⟩
  | .local _ .vmem, ⟨2, _⟩ => ⟨S2048x1024, .bf16⟩
  | .local _ .vmem, ⟨3, _⟩ => ⟨S512x2048, .f32⟩
  | .local _ .vmem, ⟨4, _⟩ => ⟨S512x2048, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== OutBwdRefIdeal.lean ====
abbrev S4096x1024 : Shape := ⟨2, ![4096, 1024]⟩
abbrev S2048x1024 : Shape := ⟨2, ![2048, 1024]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S_, .f32⟩
  | .hbm, ⟨3, _⟩ => ⟨S4096x2048, .f32⟩
  | .hbm, ⟨4, _⟩ => ⟨S2048x1024, .f32⟩
  | .hbm, ⟨5, _⟩ => ⟨S4096x1024, .f32⟩
  | .hbm, ⟨6, _⟩ => ⟨S4096x1024, .f32⟩
  | .hbm, ⟨7, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutWgrad.lean ====
abbrev S2048x4096 : Shape := ⟨2, ![2048, 4096]⟩
abbrev S4096x1024 : Shape := ⟨2, ![4096, 1024]⟩
abbrev S2048x1024 : Shape := ⟨2, ![2048, 1024]⟩
abbrev S512x4096 : Shape := ⟨2, ![512, 4096]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x4096, .bf16⟩
  | .hbm, ⟨1, _⟩ => ⟨S4096x1024, .bf16⟩
  | .hbm, ⟨2, _⟩ => ⟨S2048x1024, .bf16⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== OutWgradRefIdeal.lean ====
abbrev S2048x4096 : Shape := ⟨2, ![2048, 4096]⟩
abbrev S4096x1024 : Shape := ⟨2, ![4096, 1024]⟩
abbrev S_ : Shape := ⟨0, ![]⟩
abbrev S2048x1024 : Shape := ⟨2, ![2048, 1024]⟩
abbrev S4096x2048 : Shape := ⟨2, ![4096, 2048]⟩
abbrev S1024x2048 : Shape := ⟨2, ![1024, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S4096x1024, .bf16⟩
  | .hbm, ⟨2, _⟩ => ⟨S_, .f32⟩
  | .hbm, ⟨3, _⟩ => ⟨S2048x1024, .f32⟩
  | .hbm, ⟨4, _⟩ => ⟨S4096x2048, .bf16⟩
  | .hbm, ⟨5, _⟩ => ⟨S4096x2048, .f32⟩
  | .hbm, ⟨6, _⟩ => ⟨S4096x1024, .f32⟩
  | .hbm, ⟨7, _⟩ => ⟨S4096x1024, .f32⟩
  | .hbm, ⟨8, _⟩ => ⟨S1024x2048, .f32⟩
  | .hbm, ⟨9, _⟩ => ⟨S2048x1024, .f32⟩
  | .hbm, ⟨10, _⟩ => ⟨S2048x1024, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== InWgrad.lean ====
abbrev S1024x4096 : Shape := ⟨2, ![1024, 4096]⟩
abbrev S4096x8192 : Shape := ⟨2, ![4096, 8192]⟩
abbrev S8x1024x1024 : Shape := ⟨3, ![8, 1024, 1024]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S1024x4096, .bf16⟩
  | .hbm, ⟨1, _⟩ => ⟨S4096x8192, .bf16⟩
  | .hbm, ⟨2, _⟩ => ⟨S8x1024x1024, .bf16⟩
  | .local _ .vmem, ⟨0, _⟩ => ⟨S1024x4096, .bf16⟩
  | .local _ .vmem, ⟨1, _⟩ => ⟨S4096x1024, .bf16⟩
  | .local _ .vmem, ⟨2, _⟩ => ⟨S4096x1024, .bf16⟩
  | .local _ .vmem, ⟨3, _⟩ => ⟨S1x1024x1024, .bf16⟩
  | .local _ .vmem, ⟨4, _⟩ => ⟨S1x1024x1024, .bf16⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c8_i32 : BitVec 32 := 8#32
  let v1 : BitVec 1 := Scalar.cmpi .slt arg0 c8_i32
  let v2 : BitVec 1 := Scalar.andi v0 v1
  let v3 : BitVec 32 := Scalar.extui v2
  let c0_i32_0 : BitVec 32 := 0#32
  let v4 : BitVec 1 := Scalar.cmpi .ne v3 c0_i32_0
  v4

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let c0_i32_2 : BitVec 32 := 0#32
  ![c0_i32_1.toNat, v2.toNat]

def cc0_transform_2 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== InWgradRefIdeal.lean ====
abbrev S1024x4096 : Shape := ⟨2, ![1024, 4096]⟩
abbrev S4096x8192 : Shape := ⟨2, ![4096, 8192]⟩
abbrev S_ : Shape := ⟨0, ![]⟩
abbrev S1024x8192 : Shape := ⟨2, ![1024, 8192]⟩
abbrev S4096x1024 : Shape := ⟨2, ![4096, 1024]⟩
abbrev S8192x1024 : Shape := ⟨2, ![8192, 1024]⟩
abbrev S1024x8x1024 : Shape := ⟨3, ![1024, 8, 1024]⟩
abbrev S8x1024x1024 : Shape := ⟨3, ![8, 1024, 1024]⟩

abbrev nBuf : Space → Nat
  | .hbm => 13
  | .vmem => 0
  | .smem => 0
  | _ => 0

abbrev bufTy : (tb : Table) → Fin (tcTables nBuf tb) → BufTy
  | .hbm, ⟨0, _⟩ => ⟨S1024x4096, .bf16⟩
  | .hbm, ⟨1, _⟩ => ⟨S4096x8192, .bf16⟩
  | .hbm, ⟨2, _⟩ => ⟨S_, .f32⟩
  | .hbm, ⟨3, _⟩ => ⟨S1024x8192, .f32⟩
  | .hbm, ⟨4, _⟩ => ⟨S4096x1024, .bf16⟩
  | .hbm, ⟨5, _⟩ => ⟨S4096x1024, .f32⟩
  | .hbm, ⟨6, _⟩ => ⟨S4096x8192, .f32⟩
  | .hbm, ⟨7, _⟩ => ⟨S4096x8192, .f32⟩
  | .hbm, ⟨8, _⟩ => ⟨S8192x1024, .f32⟩
  | .hbm, ⟨9, _⟩ => ⟨S1024x8192, .f32⟩
  | .hbm, ⟨10, _⟩ => ⟨S1024x8x1024, .f32⟩
  | .hbm, ⟨11, _⟩ => ⟨S8x1024x1024, .f32⟩
  | .hbm, ⟨12, _⟩ => ⟨S8x1024x1024, .bf16⟩
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== EvenWgrad.lean ====
abbrev S1024x4096 : Shape := ⟨2, ![1024, 4096]⟩
abbrev S4096x1024 : Shape := ⟨2, ![4096, 1024]⟩
abbrev S4096x2048 : Shape := ⟨2, ![4096, 2048]⟩
abbrev S8x1024x768 : Shape := ⟨3, ![8, 1024, 768]⟩
abbrev S4096x256 : Shape := ⟨2, ![4096, 256]⟩
abbrev S1x1024x256 : Shape := ⟨3, ![1, 1024, 256]⟩
abbrev S1024x256 : Shape := ⟨2, ![1024, 256]⟩

abbrev nBuf : Space → Nat
  | .hbm => 7
  | .vmem => 13
  | .smem => 0
  | _ => 0

abbrev bufTy : (tb : Table) → Fin (tcTables nBuf tb) → BufTy
  | .hbm, ⟨0, _⟩ => ⟨S1024x4096, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S4096x2048, .bf16⟩
  | .hbm, ⟨6, _⟩ => ⟨S8x1024x768, .bf16⟩
  | .local _ .vmem, ⟨0, _⟩ => ⟨S1024x4096, .bf16⟩
  | .local _ .vmem, ⟨1, _⟩ => ⟨S4096x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S4096x256, .bf16⟩
  | .local _ .vmem, ⟨7, _⟩ => ⟨S4096x256, .bf16⟩
  | .local _ .vmem, ⟨8, _⟩ => ⟨S4096x256, .bf16⟩
  | .local _ .vmem, ⟨9, _⟩ => ⟨S4096x256, .bf16⟩
  | .local _ .vmem, ⟨10, _⟩ => ⟨S4096x256, .bf16⟩
  | .local _ .vmem, ⟨11, _⟩ => ⟨S1x1024x256, .bf16⟩
  | .local _ .vmem, ⟨12, _⟩ => ⟨S1x1024x256, .bf16⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![24], ![false]⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c4_i32 : BitVec 32 := 4#32
  let v1 : BitVec 1 := Scalar.cmpi .slt arg0 c4_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond2 (i : grid0.Coords) : BitVec 1 :=
  let arg0 : BitVec 32 := BitVec.ofNat 32 (i 0).val
  let c4_i32_1 : BitVec 32 := 4#32
  let v5 : BitVec 1 := Scalar.cmpi .sge arg0 c4_i32_1
  let c8_i32 : BitVec 32 := 8#32
  let v6 : BitVec 1 := Scalar.cmpi .slt arg0 c8_i32
  let v7 : BitVec 1 := Scalar.andi v5 v6
  let v8 : BitVec 32 := Scalar.extui v7
  let c0_i32_2 : BitVec 32 := 0#32
  let v9 : BitVec 1 := Scalar.cmpi .ne v8 c0_i32_2
  v9

def k0_cond3 (i : grid0.Coords) : BitVec 1 :=
  let arg0 : BitVec 32 := BitVec.ofNat 32 (i 0).val
  let c8_i32_3 : BitVec 32 := 8#32
  let v10 : BitVec 1 := Scalar.cmpi .sge arg0 c8_i32_3
  let c12_i32 : BitVec 32 := 12#32
  let v11 : BitVec 1 := Scalar.cmpi .slt arg0 c12_i32
  let v12 : BitVec 1 := Scalar.andi v10 v11
  let v13 : BitVec 32 := Scalar.extui v12
  let c0_i32_4 : BitVec 32 := 0#32
  let v14 : BitVec 1 := Scalar.cmpi .ne v13 c0_i32_4
  v14

def k0_cond4 (i : grid0.Coords) : BitVec 1 :=
  let arg0 : BitVec 32 := BitVec.ofNat 32 (i 0).val
  let c12_i32_5 : BitVec 32 := 12#32
  let v15 : BitVec 1 := Scalar.cmpi .sge arg0 c12_i32_5
  let c16_i32 : BitVec 32 := 16#32
  let v16 : BitVec 1 := Scalar.cmpi .slt arg0 c16_i32
  let v17 : BitVec 1 := Scalar.andi v15 v16
  let v18 : BitVec 32 := Scalar.extui v17
  let c0_i32_6 : BitVec 32 := 0#32
  let v19 : BitVec 1 := Scalar.cmpi .ne v18 c0_i32_6
  v19

def k0_cond5 (i : grid0.Coords) : BitVec 1 :=
  let arg0 : BitVec 32 := BitVec.ofNat 32 (i 0).val
  let c16_i32_7 : BitVec 32 := 16#32
  let v20 : BitVec 1 := Scalar.cmpi .sge arg0 c16_i32_7
  let c24_i32 : BitVec 32 := 24#32
  let v21 : BitVec 1 := Scalar.cmpi .slt arg0 c24_i32
  let v22 : BitVec 1 := Scalar.andi v20 v21
  let v23 : BitVec 32 := Scalar.extui v22
  let c0_i32_8 : BitVec 32 := 0#32
  let v24 : BitVec 1 := Scalar.cmpi .ne v23 c0_i32_8
  v24

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let c0_i32_2 : BitVec 32 := 0#32
  ![c0_i32_1.toNat, v2.toNat]

def cc0_transform_2 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![c0_i32_0.toNat, v2.toNat]

def cc0_transform_3 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![c0_i32_0.toNat, v2.toNat]

def cc0_transform_4 (i : grid0.Coords) : Fin 2 → Nat :=
  let arg0 : BitVec 32 := BitVec.ofNat 32 (i 0).val
  let c12_i32 : BitVec 32 := 12#32
  let v0 : BitVec 32 := Scalar.subi arg0 c12_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![c0_i32_0.toNat, v2.toNat]

def cc0_transform_5 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  ![c0_i32_0.toNat, v2.toNat]

def cc0_transform_6 (i : grid0.Coords) : Fin 3 → Nat :=
  let arg0 : BitVec 32 := BitVec.ofNat 32 (i 0).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== EvenWgradRefIdeal.lean ====
abbrev S1024x4096 : Shape := ⟨2, ![1024, 4096]⟩
abbrev S4096x1024 : Shape := ⟨2, ![4096, 1024]⟩
abbrev S4096x2048 : Shape := ⟨2, ![4096, 2048]⟩
abbrev S4096x6144 : Shape := ⟨2, ![4096, 6144]⟩
abbrev S_ : Shape := ⟨0, ![]⟩
abbrev S1024x6144 : Shape := ⟨2, ![1024, 6144]⟩
abbrev S6144x1024 : Shape := ⟨2, ![6144, 1024]⟩
abbrev S1024x8x768 : Shape := ⟨3, ![1024, 8, 768]⟩
abbrev S8x1024x768 : Shape := ⟨3, ![8, 1024, 768]⟩

abbrev nBuf : Space → Nat
  | .hbm => 18
  | .vmem => 0
  | .smem => 0
  | _ => 0

abbrev bufTy : (tb : Table) → Fin (tcTables nBuf tb) → BufTy
  | .hbm, ⟨0, _⟩ => ⟨S1024x4096, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S4096x2048, .bf16⟩
  | .hbm, ⟨6, _⟩ => ⟨S4096x6144, .bf16⟩
  | .hbm, ⟨7, _⟩ => ⟨S4096x6144, .f32⟩
  | .hbm, ⟨8, _⟩ => ⟨S_, .f32⟩
  | .hbm, ⟨9, _⟩ => ⟨S1024x6144, .f32⟩
  | .hbm, ⟨10, _⟩ => ⟨S4096x1024, .bf16⟩
  | .hbm, ⟨11, _⟩ => ⟨S4096x1024, .f32⟩
  | .hbm, ⟨12, _⟩ => ⟨S4096x6144, .f32⟩
  | .hbm, ⟨13, _⟩ => ⟨S6144x1024, .f32⟩
  | .hbm, ⟨14, _⟩ => ⟨S1024x6144, .f32⟩
  | .hbm, ⟨15, _⟩ => ⟨S1024x8x768, .f32⟩
  | .hbm, ⟨16, _⟩ => ⟨S8x1024x768, .f32⟩
  | .hbm, ⟨17, _⟩ => ⟨S8x1024x768, .bf16⟩
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩

abbrev nD : Nat := 1
abbrev τ : Topo := Topo.v7x

variable {F : FTy → Type} [FloatOps F]
-- ==== OutFwd.lean ====
abbrev S4096x2048 : Shape := ⟨2, ![4096, 2048]⟩
abbrev S2048x1024 : Shape := ⟨2, ![2048, 1024]⟩
abbrev S4096x1024 : Shape := ⟨2, ![4096, 1024]⟩
abbrev S512x2048 : Shape := ⟨2, ![512, 2048]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== OutFwdRefIdeal.lean ====
abbrev S4096x2048 : Shape := ⟨2, ![4096, 2048]⟩
abbrev S2048x1024 : Shape := ⟨2, ![2048, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x2048, .f32⟩
  | .hbm, ⟨3, _⟩ => ⟨S2048x1024, .f32⟩
  | .hbm, ⟨4, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InFwd.lean ====
abbrev S4096x1024 : Shape := ⟨2, ![4096, 1024]⟩
abbrev S8x1024x1024 : Shape := ⟨3, ![8, 1024, 1024]⟩
abbrev S4096x8192 : Shape := ⟨2, ![4096, 8192]⟩
abbrev S256x1024 : Shape := ⟨2, ![256, 1024]⟩
abbrev S256x8192 : Shape := ⟨2, ![256, 8192]⟩
abbrev S1x1024x1024 : Shape := ⟨3, ![1, 1024, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S8x1024x1024, .bf16⟩
  | .hbm, ⟨2, _⟩ => ⟨S4096x8192, .bf16⟩
  | .local _ .vmem, ⟨0, _⟩ => ⟨S256x1024, .bf16⟩
  | .local _ .vmem, ⟨1, _⟩ => ⟨S256x1024, .bf16⟩
  | .local _ .vmem, ⟨2, _⟩ => ⟨S8x1024x1024, .bf16⟩
  | .local _ .vmem, ⟨3, _⟩ => ⟨S256x8192, .bf16⟩
  | .local _ .vmem, ⟨4, _⟩ => ⟨S256x8192, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== InFwdRefIdeal.lean ====
abbrev S4096x1024 : Shape := ⟨2, ![4096, 1024]⟩
abbrev S8x1024x1024 : Shape := ⟨3, ![8, 1024, 1024]⟩
abbrev S1024x8x1024 : Shape := ⟨3, ![1024, 8, 1024]⟩
abbrev S1024x8192 : Shape := ⟨2, ![1024, 8192]⟩
abbrev S4096x8192 : Shape := ⟨2, ![4096, 8192]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S8x1024x1024, .bf16⟩
  | .hbm, ⟨2, _⟩ => ⟨S8x1024x1024, .f32⟩
  | .hbm, ⟨3, _⟩ => ⟨S1024x8x1024, .f32⟩
  | .hbm, ⟨4, _⟩ => ⟨S1024x8192, .f32⟩
  | .hbm, ⟨5, _⟩ => ⟨S4096x1024, .f32⟩
  | .hbm, ⟨6, _⟩ => ⟨S4096x8192, .f32⟩
  | .hbm, ⟨7, _⟩ => ⟨S4096x8192, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== GateBwd.lean ====
abbrev S4096x2048 : Shape := ⟨2, ![4096, 2048]⟩
abbrev S4096x1024 : Shape := ⟨2, ![4096, 1024]⟩
abbrev S4096x6144 : Shape := ⟨2, ![4096, 6144]⟩
abbrev S1x1024 : Shape := ⟨2, ![1, 1024]⟩
abbrev S256x2048 : Shape := ⟨2, ![256, 2048]⟩
abbrev S256x1024 : Shape := ⟨2, ![256, 1024]⟩
abbrev S1024 : Shape := ⟨1, ![1024]⟩

abbrev nBuf : Space → Nat
  | .hbm => 9
  | .vmem => 16
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x1024, .f32⟩
  | .hbm, ⟨3, _⟩ => ⟨S4096x6144, .bf16⟩
  | .hbm, ⟨4, _⟩ => ⟨S1x1024, .f32⟩
  | .hbm, ⟨5, _⟩ => ⟨S4096x1024, .bf16⟩
  | .hbm, ⟨6, _⟩ => ⟨S4096x1024, .f32⟩
  | .hbm, ⟨7, _⟩ => ⟨S4096x2048, .bf16⟩
  | .hbm, ⟨8, _⟩ => ⟨S1x1024, .f32⟩
  | .local _ .vmem, ⟨0, _⟩ => ⟨S256x2048, .f32⟩
  | .local _ .vmem, ⟨1, _⟩ => ⟨S256x2048, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x2048, .bf16⟩
  | .local _ .vmem, ⟨7, _⟩ => ⟨S256x2048, .bf16⟩
  | .local _ .vmem, ⟨8, _⟩ => ⟨S1x1024, .f32⟩
  | .local _ .vmem, ⟨9, _⟩ => ⟨S256x1024, .bf16⟩
  | .local _ .vmem, ⟨10, _⟩ => ⟨S256x1024, .bf16⟩
  | .local _ .vmem, ⟨11, _⟩ => ⟨S256x1024, .f32⟩
  | .local _ .vmem, ⟨12, _⟩ => ⟨S256x1024, .f32⟩
  | .local _ .vmem, ⟨13, _⟩ => ⟨S256x2048, .bf16⟩
  | .local _ .vmem, ⟨14, _⟩ => ⟨S256x2048, .bf16⟩
  | .local _ .vmem, ⟨15, _⟩ => ⟨S1x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== GateBwdRefIdeal.lean ====
abbrev S4096x2048 : Shape := ⟨2, ![4096, 2048]⟩
abbrev S4096x1024 : Shape := ⟨2, ![4096, 1024]⟩
abbrev S4096x6144 : Shape := ⟨2, ![4096, 6144]⟩
abbrev S1x1024 : Shape := ⟨2, ![1, 1024]⟩
abbrev S1024 : Shape := ⟨1, ![1024]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x1024, .f32⟩
  | .hbm, ⟨3, _⟩ => ⟨S4096x6144, .bf16⟩
  | .hbm, ⟨4, _⟩ => ⟨S1x1024, .f32⟩
  | .hbm, ⟨5, _⟩ => ⟨S4096x2048, .bf16⟩
  | .hbm, ⟨6, _⟩ => ⟨S4096x2048, .f32⟩
  | .hbm, ⟨7, _⟩ => ⟨S1024, .f32⟩
  | .hbm, ⟨8, _⟩ => ⟨S1x1024, .f32⟩
  | .hbm, ⟨9, _⟩ => ⟨S4096x1024, .f32⟩
  | .hbm, ⟨10, _⟩ => ⟨S4096x1024, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S_, .f32⟩
  | .hbm, ⟨18, _⟩ => ⟨S4096x2048, .f32⟩
  | .hbm, ⟨19, _⟩ => ⟨S4096x2048, .f32⟩
  | .hbm, ⟨20, _⟩ => ⟨S_, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S1024, .f32⟩
  | .hbm, ⟨42, _⟩ => ⟨S4096x1024, .bf16⟩
  | .hbm, ⟨43, _⟩ => ⟨S4096x2048, .bf16⟩
  | .hbm, ⟨44, _⟩ => ⟨S1x1024, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_v7_2 : Ref sig .tc := ⟨.hbm, 19, rfl⟩
abbrev main_call0_cst_1 : Ref sig .tc := ⟨.hbm, 20, rfl⟩
abbrev main_call0_v6 : Ref sig .tc := ⟨.hbm, 21, rfl⟩
abbrev main_call0_v7 : Ref sig .tc := ⟨.hbm, 22, rfl⟩
abbrev main_v7_1 : Ref sig .tc := ⟨.hbm, 23, rfl⟩
abbrev main_v7_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_0 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩

abbrev nD : Nat := 1
abbrev τ : Topo := Topo.v7x

variable {F : FTy → Type} [FloatOps F]
-- ==== EvenBwd.lean ====
abbrev S4096x1024 : Shape := ⟨2, ![4096, 1024]⟩
abbrev S4096x2048 : Shape := ⟨2, ![4096, 2048]⟩
abbrev S8x768x1024 : Shape := ⟨3, ![8, 768, 1024]⟩
abbrev S1x1024 : Shape := ⟨2, ![1, 1024]⟩
abbrev S6144x1024 : Shape := ⟨2, ![6144, 1024]⟩
abbrev S256x1024 : Shape := ⟨2, ![256, 1024]⟩
abbrev S256x2048 : Shape := ⟨2, ![256, 2048]⟩
abbrev S1024x1024 : Shape := ⟨2, ![1024, 1024]⟩
abbrev S2048x1024 : Shape := ⟨2, ![2048, 1024]⟩
abbrev S256 : Shape := ⟨1, ![256]⟩
abbrev S256x1 : Shape := ⟨2, ![256, 1]⟩
abbrev S1024 : Shape := ⟨1, ![1024]⟩

abbrev nBuf : Space → Nat
  | .hbm => 15
  | .vmem => 22
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x2048, .bf16⟩
  | .hbm, ⟨5, _⟩ => ⟨S8x768x1024, .bf16⟩
  | .hbm, ⟨6, _⟩ => ⟨S4096x1024, .f32⟩
  | .hbm, ⟨7, _⟩ => ⟨S4096x1024, .f32⟩
  | .hbm, ⟨8, _⟩ => ⟨S1x1024, .f32⟩
  | .hbm, ⟨9, _⟩ => ⟨S1x1024, .f32⟩
  | .hbm, ⟨10, _⟩ => ⟨S6144x1024, .bf16⟩
  | .hbm, ⟨11, _⟩ => ⟨S4096x1024, .f32⟩
  | .hbm, ⟨12, _⟩ => ⟨S1x1024, .f32⟩
  | .hbm, ⟨13, _⟩ => ⟨S1x1024, .f32⟩
  | .hbm, ⟨14, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x2048, .bf16⟩
  | .local _ .vmem, ⟨9, _⟩ => ⟨S256x2048, .bf16⟩
  | .local _ .vmem, ⟨10, _⟩ => ⟨S6144x1024, .bf16⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S1x1024, .f32⟩
  | .local _ .vmem, ⟨16, _⟩ => ⟨S1x1024, .f32⟩
  | .local _ .vmem, ⟨17, _⟩ => ⟨S256x1024, .f32⟩
  | .local _ .vmem, ⟨18, _⟩ => ⟨S256x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v1_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem12_0 : DmaSem sig := 20
abbrev cc0_sem13_0 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S6144x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== EvenBwdRefIdeal.lean ====
abbrev S4096x1024 : Shape := ⟨2, ![4096, 1024]⟩
abbrev S4096x2048 : Shape := ⟨2, ![4096, 2048]⟩
abbrev S8x768x1024 : Shape := ⟨3, ![8, 768, 1024]⟩
abbrev S1x1024 : Shape := ⟨2, ![1, 1024]⟩
abbrev S6144x1024 : Shape := ⟨2, ![6144, 1024]⟩
abbrev S1024x6144 : Shape := ⟨2, ![1024, 6144]⟩
abbrev S4096x6144 : Shape := ⟨2, ![4096, 6144]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 78
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x2048, .bf16⟩
  | .hbm, ⟨5, _⟩ => ⟨S8x768x1024, .bf16⟩
  | .hbm, ⟨6, _⟩ => ⟨S4096x1024, .f32⟩
  | .hbm, ⟨7, _⟩ => ⟨S4096x1024, .f32⟩
  | .hbm, ⟨8, _⟩ => ⟨S1x1024, .f32⟩
  | .hbm, ⟨9, _⟩ => ⟨S1x1024, .f32⟩
  | .hbm, ⟨10, _⟩ => ⟨S8x768x1024, .f32⟩
  | .hbm, ⟨11, _⟩ => ⟨S6144x1024, .f32⟩
  | .hbm, ⟨12, _⟩ => ⟨S1024x6144, .f32⟩
  | .hbm, ⟨13, _⟩ => ⟨S4096x6144, .bf16⟩
  | .hbm, ⟨14, _⟩ => ⟨S4096x6144, .f32⟩
  | .hbm, ⟨15, _⟩ => ⟨S_, .f32⟩
  | .hbm, ⟨16, _⟩ => ⟨S1x1024, .f32⟩
  | .hbm, ⟨17, _⟩ => ⟨S4096x1024, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1x1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x6144, .f32⟩
  | .hbm, ⟨44, _⟩ => ⟨S4096x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S4096x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S4096, .f32⟩
  | .hbm, ⟨63, _⟩ => ⟨S4096x1, .f32⟩
  | .hbm, ⟨64, _⟩ => ⟨S4096x1024, .f32⟩
  | .hbm, ⟨65, _⟩ => ⟨S4096x1024, .f32⟩
  | .hbm, ⟨66, _⟩ => ⟨S4096x1, .f32⟩
  | .hbm, ⟨67, _⟩ => ⟨S_, .f32⟩
  | .hbm, ⟨68, _⟩ => ⟨S4096x1, .f32⟩
  | .hbm, ⟨69, _⟩ => ⟨S4096x1, .f32⟩
  | .hbm, ⟨70, _⟩ => ⟨S_, .f32⟩
  | .hbm, ⟨71, _⟩ => ⟨S4096, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_9 : Ref sig .tc := ⟨.hbm, 67, rfl⟩
abbrev main_v47 : Ref sig .tc := ⟨.hbm, 68, rfl⟩
abbrev main_v48 : Ref sig .tc := ⟨.hbm, 69, rfl⟩
abbrev main_cst_10 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩

abbrev nD : Nat := 1
abbrev τ : Topo := Topo.v7x

variable {F : FTy → Type} [FloatOps F]
-- ==== AdamInEven.lean ====
abbrev S4x1024x768 : Shape := ⟨3, ![4, 1024, 768]⟩
abbrev S1024x768 : Shape := ⟨2, ![1024, 768]⟩
abbrev S4x256x768 : Shape := ⟨3, ![4, 256, 768]⟩
abbrev S256x768 : Shape := ⟨2, ![256, 768]⟩
abbrev S1x256x768 : Shape := ⟨3, ![1, 256, 768]⟩

abbrev nBuf : Space → Nat
  | .hbm => 8
  | .vmem => 16
  | .smem => 0
  | _ => 0

abbrev bufTy : (tb : Table) → Fin (tcTables nBuf tb) → BufTy
  | .hbm, ⟨0, _⟩ => ⟨S4x1024x768, .bf16⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S1024x768, .f32⟩
  | .hbm, ⟨5, _⟩ => ⟨S1024x768, .f32⟩
  | .hbm, ⟨6, _⟩ => ⟨S1024x768, .f32⟩
  | .hbm, ⟨7, _⟩ => ⟨S1024x768, .f32⟩
  | .local _ .vmem, ⟨0, _⟩ => ⟨S4x256x768, .bf16⟩
  | .local _ .vmem, ⟨1, _⟩ => ⟨S4x256x768, .bf16⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | _, _ => ⟨S4x1024x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInEvenRefIdeal.lean ====
abbrev S4x1024x768 : Shape := ⟨3, ![4, 1024, 768]⟩
abbrev S1024x768 : Shape := ⟨2, ![1024, 768]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x768, .bf16⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S4x1024x768, .f32⟩
  | .hbm, ⟨5, _⟩ => ⟨S_, .f32⟩
  | .hbm, ⟨6, _⟩ => ⟨S1024x768, .f32⟩
  | .hbm, ⟨7, _⟩ => ⟨S_, .f32⟩
  | .hbm, ⟨8, _⟩ => ⟨S1024x768, .f32⟩
  | .hbm, ⟨9, _⟩ => ⟨S1024x768, .f32⟩
  | .hbm, ⟨10, _⟩ => ⟨S_, .f32⟩
  | .hbm, ⟨11, _⟩ => ⟨S1024x768, .f32⟩
  | .hbm, ⟨12, _⟩ => ⟨S1024x768, .f32⟩
  | .hbm, ⟨13, _⟩ => ⟨S1024x768, .f32⟩
  | .hbm, ⟨14, _⟩ => ⟨S_, .f32⟩
  | .hbm, ⟨15, _⟩ => ⟨S1024x768, .f32⟩
  | .hbm, ⟨16, _⟩ => ⟨S1024x768, .f32⟩
  | .hbm, ⟨17, _⟩ => ⟨S1024x768, .f32⟩
  | .hbm, ⟨18, _⟩ => ⟨S_, .f32⟩
  | .hbm, ⟨19, _⟩ => ⟨S1024x768, .f32⟩
  | .hbm, ⟨20, _⟩ => ⟨S1024x768, .f32⟩
  | .hbm, ⟨21, _⟩ => ⟨S1024x768, .f32⟩
  | .hbm, ⟨22, _⟩ => ⟨S_, .f32⟩
  | .hbm, ⟨23, _⟩ => ⟨S1024x768, .f32⟩
  | .hbm, ⟨24, _⟩ => ⟨S1024x768, .f32⟩
  | .hbm, ⟨25, _⟩ => ⟨S_, .f32⟩
  | .hbm, ⟨26, _⟩ => ⟨S1024x768, .f32⟩
  | .hbm, ⟨27, _⟩ => ⟨S1024x768, .f32⟩
  | .hbm, ⟨28, _⟩ => ⟨S1024x768, .f32⟩
  | .hbm, ⟨29, _⟩ => ⟨S_, .f32⟩
  | .hbm, ⟨30, _⟩ => ⟨S1024x768, .f32⟩
  | .hbm, ⟨31, _⟩ => ⟨S1024x768, .f32⟩
  | .hbm, ⟨32, _⟩ => ⟨S1024x768, .f32⟩
  | .hbm, ⟨33, _⟩ => ⟨S_, .f32⟩
  | .hbm, ⟨34, _⟩ => ⟨S1024x768, .f32⟩
  | .hbm, ⟨35, _⟩ => ⟨S1024x768, .f32⟩
  | .hbm, ⟨36, _⟩ => ⟨S1024x768, .f32⟩
  | .hbm, ⟨37, _⟩ => ⟨S_, .f32⟩
  | .hbm, ⟨38, _⟩ => ⟨S1024x768, .f32⟩
  | .hbm, ⟨39, _⟩ => ⟨S1024x768, .f32⟩
  | _, _ => ⟨S4x1024x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamOut.lean ====
abbrev S8x256x1024 : Shape := ⟨3, ![8, 256, 1024]⟩
abbrev S256x1024 : Shape := ⟨2, ![256, 1024]⟩
abbrev S1x256x1024 : Shape := ⟨3, ![1, 256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x256x1024, .bf16⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S8x256x1024, .bf16⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S8x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamOutRefIdeal.lean ====
abbrev S8x256x1024 : Shape := ⟨3, ![8, 256, 1024]⟩
abbrev S256x1024 : Shape := ⟨2, ![256, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x256x1024, .bf16⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S8x256x1024, .f32⟩
  | .hbm, ⟨5, _⟩ => ⟨S_, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S_, .f32⟩
  | .hbm, ⟨11, _⟩ => ⟨S256x1024, .f32⟩
  | .hbm, ⟨12, _⟩ => ⟨S256x1024, .f32⟩
  | .hbm, ⟨13, _⟩ => ⟨S256x1024, .f32⟩
  | .hbm, ⟨14, _⟩ => ⟨S_, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S_, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S_, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256x1024, .f32⟩
  | .hbm, ⟨31, _⟩ => ⟨S256x1024, .f32⟩
  | .hbm, ⟨32, _⟩ => ⟨S256x1024, .f32⟩
  | .hbm, ⟨33, _⟩ => ⟨S_, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S256x1024, .f32⟩
  | .hbm, ⟨39, _⟩ => ⟨S256x1024, .f32⟩
  | _, _ => ⟨S8x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamInOdd.lean ====
abbrev S8x1024x1024 : Shape := ⟨3, ![8, 1024, 1024]⟩
abbrev S1024x1024 : Shape := ⟨2, ![1024, 1024]⟩
abbrev S8x256x1024 : Shape := ⟨3, ![8, 256, 1024]⟩
abbrev S256x1024 : Shape := ⟨2, ![256, 1024]⟩
abbrev S1x256x1024 : Shape := ⟨3, ![1, 256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x1024, .bf16⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .local _ .vmem, ⟨0, _⟩ => ⟨S8x256x1024, .bf16⟩
  | .local _ .vmem, ⟨1, _⟩ => ⟨S8x256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S8x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInOddRefIdeal.lean ====
abbrev S8x1024x1024 : Shape := ⟨3, ![8, 1024, 1024]⟩
abbrev S1024x1024 : Shape := ⟨2, ![1024, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x1024, .bf16⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S8x1024x1024, .f32⟩
  | .hbm, ⟨5, _⟩ => ⟨S_, .f32⟩
  | .hbm, ⟨6, _⟩ => ⟨S1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S_, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S_, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S_, .f32⟩
  | .hbm, ⟨19, _⟩ => ⟨S1024x1024, .f32⟩
  | .hbm, ⟨20, _⟩ => ⟨S1024x1024, .f32⟩
  | .hbm, ⟨21, _⟩ => ⟨S1024x1024, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S_, .f32⟩
  | .hbm, ⟨26, _⟩ => ⟨S1024x1024, .f32⟩
  | .hbm, ⟨27, _⟩ => ⟨S1024x1024, .f32⟩
  | .hbm, ⟨28, _⟩ => ⟨S1024x1024, .f32⟩
  | .hbm, ⟨29, _⟩ => ⟨S_, .f32⟩
  | .hbm, ⟨30, _⟩ => ⟨S1024x1024, .f32⟩
  | .hbm, ⟨31, _⟩ => ⟨S1024x1024, .f32⟩
  | .hbm, ⟨32, _⟩ => ⟨S1024x1024, .f32⟩
  | .hbm, ⟨33, _⟩ => ⟨S_, .f32⟩
  | .hbm, ⟨34, _⟩ => ⟨S1024x1024, .f32⟩
  | .hbm, ⟨35, _⟩ => ⟨S1024x1024, .f32⟩
  | .hbm, ⟨36, _⟩ => ⟨S1024x1024, .f32⟩
  | .hbm, ⟨37, _⟩ => ⟨S_, .f32⟩
  | .hbm, ⟨38, _⟩ => ⟨S1024x1024, .f32⟩
  | .hbm, ⟨39, _⟩ => ⟨S1024x1024, .f32⟩
  | _, _ => ⟨S8x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamPool.lean ====
abbrev S8x128x256 : Shape := ⟨3, ![8, 128, 256]⟩
abbrev S128x256 : Shape := ⟨2, ![128, 256]⟩
abbrev S1x128x256 : Shape := ⟨3, ![1, 128, 256]⟩

abbrev nBuf : Space → Nat
  | .hbm => 8
  | .vmem => 8
  | .smem => 0
  | _ => 0

abbrev bufTy : (tb : Table) → Fin (tcTables nBuf tb) → BufTy
  | .hbm, ⟨0, _⟩ => ⟨S8x128x256, .bf16⟩
  | .hbm, ⟨1, _⟩ => ⟨S128x256, .f32⟩
  | .hbm, ⟨2, _⟩ => ⟨S128x256, .f32⟩
  | .hbm, ⟨3, _⟩ => ⟨S128x256, .f32⟩
  | .hbm, ⟨4, _⟩ => ⟨S128x256, .f32⟩
  | .hbm, ⟨5, _⟩ => ⟨S128x256, .f32⟩
  | .hbm, ⟨6, _⟩ => ⟨S128x256, .f32⟩
  | .hbm, ⟨7, _⟩ => ⟨S128x256, .f32⟩
  | .local _ .vmem, ⟨0, _⟩ => ⟨S8x128x256, .bf16⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | _, _ => ⟨S8x128x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamPoolRefIdeal.lean ====
abbrev S8x128x256 : Shape := ⟨3, ![8, 128, 256]⟩
abbrev S128x256 : Shape := ⟨2, ![128, 256]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x128x256, .bf16⟩
  | .hbm, ⟨1, _⟩ => ⟨S128x256, .f32⟩
  | .hbm, ⟨2, _⟩ => ⟨S128x256, .f32⟩
  | .hbm, ⟨3, _⟩ => ⟨S128x256, .f32⟩
  | .hbm, ⟨4, _⟩ => ⟨S8x128x256, .f32⟩
  | .hbm, ⟨5, _⟩ => ⟨S_, .f32⟩
  | .hbm, ⟨6, _⟩ => ⟨S128x256, .f32⟩
  | .hbm, ⟨7, _⟩ => ⟨S_, .f32⟩
  | .hbm, ⟨8, _⟩ => ⟨S128x256, .f32⟩
  | .hbm, ⟨9, _⟩ => ⟨S128x256, .f32⟩
  | .hbm, ⟨10, _⟩ => ⟨S_, .f32⟩
  | .hbm, ⟨11, _⟩ => ⟨S128x256, .f32⟩
  | .hbm, ⟨12, _⟩ => ⟨S128x256, .f32⟩
  | .hbm, ⟨13, _⟩ => ⟨S128x256, .f32⟩
  | .hbm, ⟨14, _⟩ => ⟨S_, .f32⟩
  | .hbm, ⟨15, _⟩ => ⟨S128x256, .f32⟩
  | .hbm, ⟨16, _⟩ => ⟨S128x256, .f32⟩
  | .hbm, ⟨17, _⟩ => ⟨S128x256, .f32⟩
  | .hbm, ⟨18, _⟩ => ⟨S_, .f32⟩
  | .hbm, ⟨19, _⟩ => ⟨S128x256, .f32⟩
  | .hbm, ⟨20, _⟩ => ⟨S128x256, .f32⟩
  | .hbm, ⟨21, _⟩ => ⟨S128x256, .f32⟩
  | .hbm, ⟨22, _⟩ => ⟨S_, .f32⟩
  | .hbm, ⟨23, _⟩ => ⟨S128x256, .f32⟩
  | .hbm, ⟨24, _⟩ => ⟨S128x256, .f32⟩
  | .hbm, ⟨25, _⟩ => ⟨S_, .f32⟩
  | .hbm, ⟨26, _⟩ => ⟨S128x256, .f32⟩
  | .hbm, ⟨27, _⟩ => ⟨S128x256, .f32⟩
  | .hbm, ⟨28, _⟩ => ⟨S128x256, .f32⟩
  | .hbm, ⟨29, _⟩ => ⟨S_, .f32⟩
  | .hbm, ⟨30, _⟩ => ⟨S128x256, .f32⟩
  | .hbm, ⟨31, _⟩ => ⟨S128x256, .f32⟩
  | .hbm, ⟨32, _⟩ => ⟨S128x256, .f32⟩
  | .hbm, ⟨33, _⟩ => ⟨S_, .f32⟩
  | .hbm, ⟨34, _⟩ => ⟨S128x256, .f32⟩
  | .hbm, ⟨35, _⟩ => ⟨S128x256, .f32⟩
  | .hbm, ⟨36, _⟩ => ⟨S128x256, .f32⟩
  | .hbm, ⟨37, _⟩ => ⟨S_, .f32⟩
  | .hbm, ⟨38, _⟩ => ⟨S128x256, .f32⟩
  | .hbm, ⟨39, _⟩ => ⟨S128x256, .f32⟩
  | _, _ => ⟨S8x128x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== FinalLoss.lean ====
abbrev S4096x1024 : Shape := ⟨2, ![4096, 1024]⟩
abbrev S1x1024 : Shape := ⟨2, ![1, 1024]⟩
abbrev S1x128 : Shape := ⟨2, ![1, 128]⟩
abbrev S256x1024 : Shape := ⟨2, ![256, 1024]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩
abbrev S1024 : Shape := ⟨1, ![1024]⟩

abbrev nBuf : Space → Nat
  | .hbm => 10
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S1x128, .f32⟩
  | .hbm, ⟨8, _⟩ => ⟨S1x1024, .f32⟩
  | .hbm, ⟨9, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S1x128, .f32⟩
  | .local _ .vmem, ⟨13, _⟩ => ⟨S1x1024, .f32⟩
  | .local _ .vmem, ⟨14, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== FinalLossRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1x128 : Shape := ⟨2, ![1, 128]⟩

abbrev nBuf : Space → Nat
  | .hbm => 84
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S_, .f32⟩
  | .hbm, ⟨6, _⟩ => ⟨S1x1024, .f32⟩
  | .hbm, ⟨7, _⟩ => ⟨S1x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S_, .f32⟩
  | .hbm, ⟨38, _⟩ => ⟨S4096, .f32⟩
  | .hbm, ⟨39, _⟩ => ⟨S4096, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S4096, .f32⟩
  | .hbm, ⟨48, _⟩ => ⟨S_, .f32⟩
  | .hbm, ⟨49, _⟩ => ⟨S4096, .f32⟩
  | .hbm, ⟨50, _⟩ => ⟨S4096, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S4096, .f32⟩
  | .hbm, ⟨62, _⟩ => ⟨S4096x1, .f32⟩
  | .hbm, ⟨63, _⟩ => ⟨S4096x1024, .f32⟩
  | .hbm, ⟨64, _⟩ => ⟨S4096x1024, .f32⟩
  | .hbm, ⟨65, _⟩ => ⟨S4096x1, .f32⟩
  | .hbm, ⟨66, _⟩ => ⟨S_, .f32⟩
  | .hbm, ⟨67, _⟩ => ⟨S4096x1, .f32⟩
  | .hbm, ⟨68, _⟩ => ⟨S4096x1, .f32⟩
  | .hbm, ⟨69, _⟩ => ⟨S_, .f32⟩
  | .hbm, ⟨70, _⟩ => ⟨S4096, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S_, .f32⟩
  | .hbm, ⟨80, _⟩ => ⟨S1024, .f32⟩
  | .hbm, ⟨81, _⟩ => ⟨S1x1024, .f32⟩
  | .hbm, ⟨82, _⟩ => ⟨S4096x1024, .bf16⟩
  | .hbm, ⟨83, _⟩ => ⟨S1x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_cst_9 : Ref sig .tc := ⟨.hbm, 44, rfl⟩
abbrev main_cst_10 : Ref sig .tc := ⟨.hbm, 45, rfl⟩
abbrev main_v29 : Ref sig .tc := ⟨.hbm, 46, rfl⟩
abbrev main_v30 : Ref sig .tc := ⟨.hbm, 47, rfl⟩
abbrev main_cst_11 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_12 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_13 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_14 : Ref sig .tc := ⟨.hbm, 66, rfl⟩
abbrev main_v46 : Ref sig .tc := ⟨.hbm, 67, rfl⟩
abbrev main_v47 : Ref sig .tc := ⟨.hbm, 68, rfl⟩
abbrev main_cst_15 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_16 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩

abbrev nD : Nat := 1
abbrev τ : Topo := Topo.v7x

variable {F : FTy → Type} [FloatOps F]
-- ==== AdamSmall.lean ====
abbrev S2x1024 : Shape := ⟨2, ![2, 1024]⟩
abbrev S2x3072 : Shape := ⟨2, ![2, 3072]⟩
abbrev S1x1024 : Shape := ⟨2, ![1, 1024]⟩

abbrev nBuf : Space → Nat
  | .hbm => 21
  | .vmem => 21
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x3072, .f32⟩
  | .hbm, ⟨5, _⟩ => ⟨S2x3072, .f32⟩
  | .hbm, ⟨6, _⟩ => ⟨S2x3072, .f32⟩
  | .hbm, ⟨7, _⟩ => ⟨S2x3072, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S2x3072, .f32⟩
  | .hbm, ⟨16, _⟩ => ⟨S2x3072, .f32⟩
  | .hbm, ⟨17, _⟩ => ⟨S2x3072, .f32⟩
  | .hbm, ⟨18, _⟩ => ⟨S1x1024, .f32⟩
  | .hbm, ⟨19, _⟩ => ⟨S1x1024, .f32⟩
  | .hbm, ⟨20, _⟩ => ⟨S1x1024, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x3072, .f32⟩
  | .local _ .vmem, ⟨5, _⟩ => ⟨S2x3072, .f32⟩
  | .local _ .vmem, ⟨6, _⟩ => ⟨S2x3072, .f32⟩
  | .local _ .vmem, ⟨7, _⟩ => ⟨S2x3072, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S2x1024, .f32⟩
  | .local _ .vmem, ⟨13, _⟩ => ⟨S2x1024, .f32⟩
  | .local _ .vmem, ⟨14, _⟩ => ⟨S2x1024, .f32⟩
  | .local _ .vmem, ⟨15, _⟩ => ⟨S2x3072, .f32⟩
  | .local _ .vmem, ⟨16, _⟩ => ⟨S2x3072, .f32⟩
  | .local _ .vmem, ⟨17, _⟩ => ⟨S2x3072, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2x3072 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2x3072 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S2x3072 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== AdamSmallIdeal.lean ====
abbrev S2x1024 : Shape := ⟨2, ![2, 1024]⟩
abbrev S2x3072 : Shape := ⟨2, ![2, 3072]⟩
abbrev S1x1024 : Shape := ⟨2, ![1, 1024]⟩

abbrev nBuf : Space → Nat
  | .hbm => 21
  | .vmem => 21
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x3072, .f32⟩
  | .hbm, ⟨5, _⟩ => ⟨S2x3072, .f32⟩
  | .hbm, ⟨6, _⟩ => ⟨S2x3072, .f32⟩
  | .hbm, ⟨7, _⟩ => ⟨S2x3072, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S2x3072, .f32⟩
  | .hbm, ⟨16, _⟩ => ⟨S2x3072, .f32⟩
  | .hbm, ⟨17, _⟩ => ⟨S2x3072, .f32⟩
  | .hbm, ⟨18, _⟩ => ⟨S1x1024, .f32⟩
  | .hbm, ⟨19, _⟩ => ⟨S1x1024, .f32⟩
  | .hbm, ⟨20, _⟩ => ⟨S1x1024, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x3072, .f32⟩
  | .local _ .vmem, ⟨5, _⟩ => ⟨S2x3072, .f32⟩
  | .local _ .vmem, ⟨6, _⟩ => ⟨S2x3072, .f32⟩
  | .local _ .vmem, ⟨7, _⟩ => ⟨S2x3072, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S2x1024, .f32⟩
  | .local _ .vmem, ⟨13, _⟩ => ⟨S2x1024, .f32⟩
  | .local _ .vmem, ⟨14, _⟩ => ⟨S2x1024, .f32⟩
  | .local _ .vmem, ⟨15, _⟩ => ⟨S2x3072, .f32⟩
  | .local _ .vmem, ⟨16, _⟩ => ⟨S2x3072, .f32⟩
  | .local _ .vmem, ⟨17, _⟩ => ⟨S2x3072, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2x3072 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2x3072 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S2x3072 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== AdamSmallRefIdeal.lean ====
abbrev S2x1024 : Shape := ⟨2, ![2, 1024]⟩
abbrev S2x3072 : Shape := ⟨2, ![2, 3072]⟩
abbrev S1x1024 : Shape := ⟨2, ![1, 1024]⟩
abbrev S_ : Shape := ⟨0, ![]⟩

abbrev nBuf : Space → Nat
  | .hbm => 111
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x3072, .f32⟩
  | .hbm, ⟨5, _⟩ => ⟨S2x3072, .f32⟩
  | .hbm, ⟨6, _⟩ => ⟨S2x3072, .f32⟩
  | .hbm, ⟨7, _⟩ => ⟨S2x3072, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S_, .f32⟩
  | .hbm, ⟨13, _⟩ => ⟨S2x1024, .f32⟩
  | .hbm, ⟨14, _⟩ => ⟨S2x1024, .f32⟩
  | .hbm, ⟨15, _⟩ => ⟨S_, .f32⟩
  | .hbm, ⟨16, _⟩ => ⟨S2x1024, .f32⟩
  | .hbm, ⟨17, _⟩ => ⟨S2x1024, .f32⟩
  | .hbm, ⟨18, _⟩ => ⟨S2x1024, .f32⟩
  | .hbm, ⟨19, _⟩ => ⟨S_, .f32⟩
  | .hbm, ⟨20, _⟩ => ⟨S2x1024, .f32⟩
  | .hbm, ⟨21, _⟩ => ⟨S2x1024, .f32⟩
  | .hbm, ⟨22, _⟩ => ⟨S2x1024, .f32⟩
  | .hbm, ⟨23, _⟩ => ⟨S_, .f32⟩
  | .hbm, ⟨24, _⟩ => ⟨S2x1024, .f32⟩
  | .hbm, ⟨25, _⟩ => ⟨S2x1024, .f32⟩
  | .hbm, ⟨26, _⟩ => ⟨S2x1024, .f32⟩
  | .hbm, ⟨27, _⟩ => ⟨S_, .f32⟩
  | .hbm, ⟨28, _⟩ => ⟨S2x1024, .f32⟩
  | .hbm, ⟨29, _⟩ => ⟨S2x1024, .f32⟩
  | .hbm, ⟨30, _⟩ => ⟨S_, .f32⟩
  | .hbm, ⟨31, _⟩ => ⟨S2x1024, .f32⟩
  | .hbm, ⟨32, _⟩ => ⟨S2x1024, .f32⟩
  | .hbm, ⟨33, _⟩ => ⟨S2x1024, .f32⟩
  | .hbm, ⟨34, _⟩ => ⟨S_, .f32⟩
  | .hbm, ⟨35, _⟩ => ⟨S2x1024, .f32⟩
  | .hbm, ⟨36, _⟩ => ⟨S2x1024, .f32⟩
  | .hbm, ⟨37, _⟩ => ⟨S2x1024, .f32⟩
  | .hbm, ⟨38, _⟩ => ⟨S_, .f32⟩
  | .hbm, ⟨39, _⟩ => ⟨S2x1024, .f32⟩
  | .hbm, ⟨40, _⟩ => ⟨S2x1024, .f32⟩
  | .hbm, ⟨41, _⟩ => ⟨S2x1024, .f32⟩
  | .hbm, ⟨42, _⟩ => ⟨S_, .f32⟩
  | .hbm, ⟨43, _⟩ => ⟨S2x1024, .f32⟩
  | .hbm, ⟨44, _⟩ => ⟨S2x1024, .f32⟩
  | .hbm, ⟨45, _⟩ => ⟨S_, .f32⟩
  | .hbm, ⟨46, _⟩ => ⟨S2x3072, .f32⟩
  | .hbm, ⟨47, _⟩ => ⟨S2x3072, .f32⟩
  | .hbm, ⟨48, _⟩ => ⟨S_, .f32⟩
  | .hbm, ⟨49, _⟩ => ⟨S2x3072, .f32⟩
  | .hbm, ⟨50, _⟩ => ⟨S2x3072, .f32⟩
  | .hbm, ⟨51, _⟩ => ⟨S2x3072, .f32⟩
  | .hbm, ⟨52, _⟩ => ⟨S_, .f32⟩
  | .hbm, ⟨53, _⟩ => ⟨S2x3072, .f32⟩
  | .hbm, ⟨54, _⟩ => ⟨S2x3072, .f32⟩
  | .hbm, ⟨55, _⟩ => ⟨S2x3072, .f32⟩
  | .hbm, ⟨56, _⟩ => ⟨S_, .f32⟩
  | .hbm, ⟨57, _⟩ => ⟨S2x3072, .f32⟩
  | .hbm, ⟨58, _⟩ => ⟨S2x3072, .f32⟩
  | .hbm, ⟨59, _⟩ => ⟨S2x3072, .f32⟩
  | .hbm, ⟨60, _⟩ => ⟨S_, .f32⟩
  | .hbm, ⟨61, _⟩ => ⟨S2x3072, .f32⟩
  | .hbm, ⟨62, _⟩ => ⟨S2x3072, .f32⟩
  | .hbm, ⟨63, _⟩ => ⟨S_, .f32⟩
  | .hbm, ⟨64, _⟩ => ⟨S2x3072, .f32⟩
  | .hbm, ⟨65, _⟩ => ⟨S2x3072, .f32⟩
  | .hbm, ⟨66, _⟩ => ⟨S2x3072, .f32⟩
  | .hbm, ⟨67, _⟩ => ⟨S_, .f32⟩
  | .hbm, ⟨68, _⟩ => ⟨S2x3072, .f32⟩
  | .hbm, ⟨69, _⟩ => ⟨S2x3072, .f32⟩
  | .hbm, ⟨70, _⟩ => ⟨S2x3072, .f32⟩
  | .hbm, ⟨71, _⟩ => ⟨S_, .f32⟩
  | .hbm, ⟨72, _⟩ => ⟨S2x3072, .f32⟩
  | .hbm, ⟨73, _⟩ => ⟨S2x3072, .f32⟩
  | .hbm, ⟨74, _⟩ => ⟨S2x3072, .f32⟩
  | .hbm, ⟨75, _⟩ => ⟨S_, .f32⟩
  | .hbm, ⟨76, _⟩ => ⟨S2x3072, .f32⟩
  | .hbm, ⟨77, _⟩ => ⟨S2x3072, .f32⟩
  | .hbm, ⟨78, _⟩ => ⟨S_, .f32⟩
  | .hbm, ⟨79, _⟩ => ⟨S1x1024, .f32⟩
  | .hbm, ⟨80, _⟩ => ⟨S1x1024, .f32⟩
  | .hbm, ⟨81, _⟩ => ⟨S_, .f32⟩
  | .hbm, ⟨82, _⟩ => ⟨S1x1024, .f32⟩
  | .hbm, ⟨83, _⟩ => ⟨S1x1024, .f32⟩
  | .hbm, ⟨84, _⟩ => ⟨S1x1024, .f32⟩
  | .hbm, ⟨85, _⟩ => ⟨S_, .f32⟩
  | .hbm, ⟨86, _⟩ => ⟨S1x1024, .f32⟩
  | .hbm, ⟨87, _⟩ => ⟨S1x1024, .f32⟩
  | .hbm, ⟨88, _⟩ => ⟨S1x1024, .f32⟩
  | .hbm, ⟨89, _⟩ => ⟨S_, .f32⟩
  | .hbm, ⟨90, _⟩ => ⟨S1x1024, .f32⟩
  | .hbm, ⟨91, _⟩ => ⟨S1x1024, .f32⟩
  | .hbm, ⟨92, _⟩ => ⟨S1x1024, .f32⟩
  | .hbm, ⟨93, _⟩ => ⟨S_, .f32⟩
  | .hbm, ⟨94, _⟩ => ⟨S1x1024, .f32⟩
  | .hbm, ⟨95, _⟩ => ⟨S1x1024, .f32⟩
  | .hbm, ⟨96, _⟩ => ⟨S_, .f32⟩
  | .hbm, ⟨97, _⟩ => ⟨S1x1024, .f32⟩
  | .hbm, ⟨98, _⟩ => ⟨S1x1024, .f32⟩
  | .hbm, ⟨99, _⟩ => ⟨S1x1024, .f32⟩
  | .hbm, ⟨100, _⟩ => ⟨S_, .f32⟩
  | .hbm, ⟨101, _⟩ => ⟨S1x1024, .f32⟩
  | .hbm, ⟨102, _⟩ => ⟨S1x1024, .f32⟩
  | .hbm, ⟨103, _⟩ => ⟨S1x1024, .f32⟩
  | .hbm, ⟨104, _⟩ => ⟨S_, .f32⟩
  | .hbm, ⟨105, _⟩ => ⟨S1x1024, .f32⟩
  | .hbm, ⟨106, _⟩ => ⟨S1x1024, .f32⟩
  | .hbm, ⟨107, _⟩ => ⟨S1x1024, .f32⟩
  | .hbm, ⟨108, _⟩ => ⟨S_, .f32⟩
  | .hbm, ⟨109, _⟩ => ⟨S1x1024, .f32⟩
  | .hbm, ⟨110, _⟩ => ⟨S1x1024, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩

abbrev nD : Nat := 1
abbrev τ : Topo := Topo.v7x

variable {F : FTy → Type} [FloatOps F]
-- ==== AdamTiny.lean ====
abbrev S3x256 : Shape := ⟨2, ![3, 256]⟩
abbrev S1x256 : Shape := ⟨2, ![1, 256]⟩
abbrev S1x1024 : Shape := ⟨2, ![1, 1024]⟩

abbrev nBuf : Space → Nat
  | .hbm => 21
  | .vmem => 21
  | .smem => 0
  | _ => 0

abbrev bufTy : (tb : Table) → Fin (tcTables nBuf tb) → BufTy
  | .hbm, ⟨0, _⟩ => ⟨S3x256, .f32⟩
  | .hbm, ⟨1, _⟩ => ⟨S3x256, .f32⟩
  | .hbm, ⟨2, _⟩ => ⟨S3x256, .f32⟩
  | .hbm, ⟨3, _⟩ => ⟨S3x256, .f32⟩
  | .hbm, ⟨4, _⟩ => ⟨S1x256, .f32⟩
  | .hbm, ⟨5, _⟩ => ⟨S1x256, .f32⟩
  | .hbm, ⟨6, _⟩ => ⟨S1x256, .f32⟩
  | .hbm, ⟨7, _⟩ => ⟨S1x256, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S3x256, .f32⟩
  | .hbm, ⟨13, _⟩ => ⟨S3x256, .f32⟩
  | .hbm, ⟨14, _⟩ => ⟨S3x256, .f32⟩
  | .hbm, ⟨15, _⟩ => ⟨S1x256, .f32⟩
  | .hbm, ⟨16, _⟩ => ⟨S1x256, .f32⟩
  | .hbm, ⟨17, _⟩ => ⟨S1x256, .f32⟩
  | .hbm, ⟨18, _⟩ => ⟨S1x1024, .f32⟩
  | .hbm, ⟨19, _⟩ => ⟨S1x1024, .f32⟩
  | .hbm, ⟨20, _⟩ => ⟨S1x1024, .f32⟩
  | .local _ .vmem, ⟨0, _⟩ => ⟨S3x256, .f32⟩
  | .local _ .vmem, ⟨1, _⟩ => ⟨S3x256, .f32⟩
  | .local _ .vmem, ⟨2, _⟩ => ⟨S3x256, .f32⟩
  | .local _ .vmem, ⟨3, _⟩ => ⟨S3x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S3x256, .f32⟩
  | .local _ .vmem, ⟨13, _⟩ => ⟨S3x256, .f32⟩
  | .local _ .vmem, ⟨14, _⟩ => ⟨S3x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | _, _ => ⟨S3x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S3x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S3x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S3x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S3x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== AdamTinyRefIdeal.lean ====
abbrev S3x256 : Shape := ⟨2, ![3, 256]⟩
abbrev S1x256 : Shape := ⟨2, ![1, 256]⟩
abbrev S1x1024 : Shape := ⟨2, ![1, 1024]⟩
abbrev S_ : Shape := ⟨0, ![]⟩

abbrev nBuf : Space → Nat
  | .hbm => 111
  | .vmem => 0
  | .smem => 0
  | _ => 0

abbrev bufTy : (tb : Table) → Fin (tcTables nBuf tb) → BufTy
  | .hbm, ⟨0, _⟩ => ⟨S3x256, .f32⟩
  | .hbm, ⟨1, _⟩ => ⟨S3x256, .f32⟩
  | .hbm, ⟨2, _⟩ => ⟨S3x256, .f32⟩
  | .hbm, ⟨3, _⟩ => ⟨S3x256, .f32⟩
  | .hbm, ⟨4, _⟩ => ⟨S1x256, .f32⟩
  | .hbm, ⟨5, _⟩ => ⟨S1x256, .f32⟩
  | .hbm, ⟨6, _⟩ => ⟨S1x256, .f32⟩
  | .hbm, ⟨7, _⟩ => ⟨S1x256, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S_, .f32⟩
  | .hbm, ⟨13, _⟩ => ⟨S3x256, .f32⟩
  | .hbm, ⟨14, _⟩ => ⟨S3x256, .f32⟩
  | .hbm, ⟨15, _⟩ => ⟨S_, .f32⟩
  | .hbm, ⟨16, _⟩ => ⟨S3x256, .f32⟩
  | .hbm, ⟨17, _⟩ => ⟨S3x256, .f32⟩
  | .hbm, ⟨18, _⟩ => ⟨S3x256, .f32⟩
  | .hbm, ⟨19, _⟩ => ⟨S_, .f32⟩
  | .hbm, ⟨20, _⟩ => ⟨S3x256, .f32⟩
  | .hbm, ⟨21, _⟩ => ⟨S3x256, .f32⟩
  | .hbm, ⟨22, _⟩ => ⟨S3x256, .f32⟩
  | .hbm, ⟨23, _⟩ => ⟨S_, .f32⟩
  | .hbm, ⟨24, _⟩ => ⟨S3x256, .f32⟩
  | .hbm, ⟨25, _⟩ => ⟨S3x256, .f32⟩
  | .hbm, ⟨26, _⟩ => ⟨S3x256, .f32⟩
  | .hbm, ⟨27, _⟩ => ⟨S_, .f32⟩
  | .hbm, ⟨28, _⟩ => ⟨S3x256, .f32⟩
  | .hbm, ⟨29, _⟩ => ⟨S3x256, .f32⟩
  | .hbm, ⟨30, _⟩ => ⟨S_, .f32⟩
  | .hbm, ⟨31, _⟩ => ⟨S3x256, .f32⟩
  | .hbm, ⟨32, _⟩ => ⟨S3x256, .f32⟩
  | .hbm, ⟨33, _⟩ => ⟨S3x256, .f32⟩
  | .hbm, ⟨34, _⟩ => ⟨S_, .f32⟩
  | .hbm, ⟨35, _⟩ => ⟨S3x256, .f32⟩
  | .hbm, ⟨36, _⟩ => ⟨S3x256, .f32⟩
  | .hbm, ⟨37, _⟩ => ⟨S3x256, .f32⟩
  | .hbm, ⟨38, _⟩ => ⟨S_, .f32⟩
  | .hbm, ⟨39, _⟩ => ⟨S3x256, .f32⟩
  | .hbm, ⟨40, _⟩ => ⟨S3x256, .f32⟩
  | .hbm, ⟨41, _⟩ => ⟨S3x256, .f32⟩
  | .hbm, ⟨42, _⟩ => ⟨S_, .f32⟩
  | .hbm, ⟨43, _⟩ => ⟨S3x256, .f32⟩
  | .hbm, ⟨44, _⟩ => ⟨S3x256, .f32⟩
  | .hbm, ⟨45, _⟩ => ⟨S_, .f32⟩
  | .hbm, ⟨46, _⟩ => ⟨S1x256, .f32⟩
  | .hbm, ⟨47, _⟩ => ⟨S1x256, .f32⟩
  | .hbm, ⟨48, _⟩ => ⟨S_, .f32⟩
  | .hbm, ⟨49, _⟩ => ⟨S1x256, .f32⟩
  | .hbm, ⟨50, _⟩ => ⟨S1x256, .f32⟩
  | .hbm, ⟨51, _⟩ => ⟨S1x256, .f32⟩
  | .hbm, ⟨52, _⟩ => ⟨S_, .f32⟩
  | .hbm, ⟨53, _⟩ => ⟨S1x256, .f32⟩
  | .hbm, ⟨54, _⟩ => ⟨S1x256, .f32⟩
  | .hbm, ⟨55, _⟩ => ⟨S1x256, .f32⟩
  | .hbm, ⟨56, _⟩ => ⟨S_, .f32⟩
  | .hbm, ⟨57, _⟩ => ⟨S1x256, .f32⟩
  | .hbm, ⟨58, _⟩ => ⟨S1x256, .f32⟩
  | .hbm, ⟨59, _⟩ => ⟨S1x256, .f32⟩
  | .hbm, ⟨60, _⟩ => ⟨S_, .f32⟩
  | .hbm, ⟨61, _⟩ => ⟨S1x256, .f32⟩
  | .hbm, ⟨62, _⟩ => ⟨S1x256, .f32⟩
  | .hbm, ⟨63, _⟩ => ⟨S_, .f32⟩
  | .hbm, ⟨64, _⟩ => ⟨S1x256, .f32⟩
  | .hbm, ⟨65, _⟩ => ⟨S1x256, .f32⟩
  | .hbm, ⟨66, _⟩ => ⟨S1x256, .f32⟩
  | .hbm, ⟨67, _⟩ => ⟨S_, .f32⟩
  | .hbm, ⟨68, _⟩ => ⟨S1x256, .f32⟩
  | .hbm, ⟨69, _⟩ => ⟨S1x256, .f32⟩
  | .hbm, ⟨70, _⟩ => ⟨S1x256, .f32⟩
  | .hbm, ⟨71, _⟩ => ⟨S_, .f32⟩
  | .hbm, ⟨72, _⟩ => ⟨S1x256, .f32⟩
  | .hbm, ⟨73, _⟩ => ⟨S1x256, .f32⟩
  | .hbm, ⟨74, _⟩ => ⟨S1x256, .f32⟩
  | .hbm, ⟨75, _⟩ => ⟨S_, .f32⟩
  | .hbm, ⟨76, _⟩ => ⟨S1x256, .f32⟩
  | .hbm, ⟨77, _⟩ => ⟨S1x256, .f32⟩
  | .hbm, ⟨78, _⟩ => ⟨S_, .f32⟩
  | .hbm, ⟨79, _⟩ => ⟨S1x1024, .f32⟩
  | .hbm, ⟨80, _⟩ => ⟨S1x1024, .f32⟩
  | .hbm, ⟨81, _⟩ => ⟨S_, .f32⟩
  | .hbm, ⟨82, _⟩ => ⟨S1x1024, .f32⟩
  | .hbm, ⟨83, _⟩ => ⟨S1x1024, .f32⟩
  | .hbm, ⟨84, _⟩ => ⟨S1x1024, .f32⟩
  | .hbm, ⟨85, _⟩ => ⟨S_, .f32⟩
  | .hbm, ⟨86, _⟩ => ⟨S1x1024, .f32⟩
  | .hbm, ⟨87, _⟩ => ⟨S1x1024, .f32⟩
  | .hbm, ⟨88, _⟩ => ⟨S1x1024, .f32⟩
  | .hbm, ⟨89, _⟩ => ⟨S_, .f32⟩
  | .hbm, ⟨90, _⟩ => ⟨S1x1024, .f32⟩
  | .hbm, ⟨91, _⟩ => ⟨S1x1024, .f32⟩
  | .hbm, ⟨92, _⟩ => ⟨S1x1024, .f32⟩
  | .hbm, ⟨93, _⟩ => ⟨S_, .f32⟩
  | .hbm, ⟨94, _⟩ => ⟨S1x1024, .f32⟩
  | .hbm, ⟨95, _⟩ => ⟨S1x1024, .f32⟩
  | .hbm, ⟨96, _⟩ => ⟨S_, .f32⟩
  | .hbm, ⟨97, _⟩ => ⟨S1x1024, .f32⟩
  | .hbm, ⟨98, _⟩ => ⟨S1x1024, .f32⟩
  | .hbm, ⟨99, _⟩ => ⟨S1x1024, .f32⟩
  | .hbm, ⟨100, _⟩ => ⟨S_, .f32⟩
  | .hbm, ⟨101, _⟩ => ⟨S1x1024, .f32⟩
  | .hbm, ⟨102, _⟩ => ⟨S1x1024, .f32⟩
  | .hbm, ⟨103, _⟩ => ⟨S1x1024, .f32⟩
  | .hbm, ⟨104, _⟩ => ⟨S_, .f32⟩
  | .hbm, ⟨105, _⟩ => ⟨S1x1024, .f32⟩
  | .hbm, ⟨106, _⟩ => ⟨S1x1024, .f32⟩
  | .hbm, ⟨107, _⟩ => ⟨S1x1024, .f32⟩
  | .hbm, ⟨108, _⟩ => ⟨S_, .f32⟩
  | .hbm, ⟨109, _⟩ => ⟨S1x1024, .f32⟩
  | .hbm, ⟨110, _⟩ => ⟨S1x1024, .f32⟩
  | _, _ => ⟨S3x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩

abbrev nD : Nat := 1
abbrev τ : Topo := Topo.v7x

variable {F : FTy → Type} [FloatOps F]
-- ==== AdamAda.lean ====
abbrev S8x1024 : Shape := ⟨2, ![8, 1024]⟩
abbrev S2x8x384 : Shape := ⟨3, ![2, 8, 384]⟩
abbrev S2x1024x384 : Shape := ⟨3, ![2, 1024, 384]⟩
abbrev S1024x8 : Shape := ⟨2, ![1024, 8]⟩
abbrev S1x8x384 : Shape := ⟨3, ![1, 8, 384]⟩
abbrev S1x1024x384 : Shape := ⟨3, ![1, 1024, 384]⟩
abbrev S8x384 : Shape := ⟨2, ![8, 384]⟩
abbrev S1024x1 : Shape := ⟨2, ![1024, 1]⟩
abbrev S1x384 : Shape := ⟨2, ![1, 384]⟩
abbrev S1024x384 : Shape := ⟨2, ![1024, 384]⟩

abbrev nBuf : Space → Nat
  | .hbm => 10
  | .vmem => 17
  | .smem => 0
  | _ => 0

abbrev bufTy : (tb : Table) → Fin (tcTables nBuf tb) → BufTy
  | .hbm, ⟨0, _⟩ => ⟨S8x1024, .f32⟩
  | .hbm, ⟨1, _⟩ => ⟨S2x8x384, .f32⟩
  | .hbm, ⟨2, _⟩ => ⟨S2x1024x384, .f32⟩
  | .hbm, ⟨3, _⟩ => ⟨S2x1024x384, .f32⟩
  | .hbm, ⟨4, _⟩ => ⟨S2x1024x384, .f32⟩
  | .hbm, ⟨5, _⟩ => ⟨S1024x8, .f32⟩
  | .hbm, ⟨6, _⟩ => ⟨S2x1024x384, .f32⟩
  | .hbm, ⟨7, _⟩ => ⟨S2x1024x384, .f32⟩
  | .hbm, ⟨8, _⟩ => ⟨S2x1024x384, .f32⟩
  | .hbm, ⟨9, _⟩ => ⟨S2x1024x384, .f32⟩
  | .local _ .vmem, ⟨0, _⟩ => ⟨S1024x8, .f32⟩
  | .local _ .vmem, ⟨1, _⟩ => ⟨S1x8x384, .f32⟩
  | .local _ .vmem, ⟨2, _⟩ => ⟨S1x8x384, .f32⟩
  | .local _ .vmem, ⟨3, _⟩ => ⟨S1x1024x384, .f32⟩
  | .local _ .vmem, ⟨4, _⟩ => ⟨S1x1024x384, .f32⟩
  | .local _ .vmem, ⟨5, _⟩ => ⟨S1x1024x384, .f32⟩
  | .local _ .vmem, ⟨6, _⟩ => ⟨S1x1024x384, .f32⟩
  | .local _ .vmem, ⟨7, _⟩ => ⟨S1x1024x384, .f32⟩
  | .local _ .vmem, ⟨8, _⟩ => ⟨S1x1024x384, .f32⟩
  | .local _ .vmem, ⟨9, _⟩ => ⟨S1x1024x384, .f32⟩
  | .local _ .vmem, ⟨10, _⟩ => ⟨S1x1024x384, .f32⟩
  | .local _ .vmem, ⟨11, _⟩ => ⟨S1x1024x384, .f32⟩
  | .local _ .vmem, ⟨12, _⟩ => ⟨S1x1024x384, .f32⟩
  | .local _ .vmem, ⟨13, _⟩ => ⟨S1x1024x384, .f32⟩
  | .local _ .vmem, ⟨14, _⟩ => ⟨S1x1024x384, .f32⟩
  | .local _ .vmem, ⟨15, _⟩ => ⟨S1x1024x384, .f32⟩
  | .local _ .vmem, ⟨16, _⟩ => ⟨S1x1024x384, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1024x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x8x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1024x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1024x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1024x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamAdaRefIdeal.lean ====
abbrev S8x1024 : Shape := ⟨2, ![8, 1024]⟩
abbrev S2x8x384 : Shape := ⟨3, ![2, 8, 384]⟩
abbrev S2x1024x384 : Shape := ⟨3, ![2, 1024, 384]⟩
abbrev S2x384x8 : Shape := ⟨3, ![2, 384, 8]⟩
abbrev S2x384x1024 : Shape := ⟨3, ![2, 384, 1024]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x8x384, .f32⟩
  | .hbm, ⟨2, _⟩ => ⟨S2x1024x384, .f32⟩
  | .hbm, ⟨3, _⟩ => ⟨S2x1024x384, .f32⟩
  | .hbm, ⟨4, _⟩ => ⟨S2x1024x384, .f32⟩
  | .hbm, ⟨5, _⟩ => ⟨S2x384x8, .f32⟩
  | .hbm, ⟨6, _⟩ => ⟨S2x8x384, .f32⟩
  | .hbm, ⟨7, _⟩ => ⟨S2x384x8, .f32⟩
  | .hbm, ⟨8, _⟩ => ⟨S2x384x1024, .f32⟩
  | .hbm, ⟨9, _⟩ => ⟨S2x1024x384, .f32⟩
  | .hbm, ⟨10, _⟩ => ⟨S_, .f32⟩
  | .hbm, ⟨11, _⟩ => ⟨S2x1024x384, .f32⟩
  | .hbm, ⟨12, _⟩ => ⟨S2x1024x384, .f32⟩
  | .hbm, ⟨13, _⟩ => ⟨S_, .f32⟩
  | .hbm, ⟨14, _⟩ => ⟨S2x1024x384, .f32⟩
  | .hbm, ⟨15, _⟩ => ⟨S2x1024x384, .f32⟩
  | .hbm, ⟨16, _⟩ => ⟨S2x1024x384, .f32⟩
  | .hbm, ⟨17, _⟩ => ⟨S_, .f32⟩
  | .hbm, ⟨18, _⟩ => ⟨S2x1024x384, .f32⟩
  | .hbm, ⟨19, _⟩ => ⟨S2x1024x384, .f32⟩
  | .hbm, ⟨20, _⟩ => ⟨S2x1024x384, .f32⟩
  | .hbm, ⟨21, _⟩ => ⟨S_, .f32⟩
  | .hbm, ⟨22, _⟩ => ⟨S2x1024x384, .f32⟩
  | .hbm, ⟨23, _⟩ => ⟨S2x1024x384, .f32⟩
  | .hbm, ⟨24, _⟩ => ⟨S2x1024x384, .f32⟩
  | .hbm, ⟨25, _⟩ => ⟨S_, .f32⟩
  | .hbm, ⟨26, _⟩ => ⟨S2x1024x384, .f32⟩
  | .hbm, ⟨27, _⟩ => ⟨S2x1024x384, .f32⟩
  | .hbm, ⟨28, _⟩ => ⟨S_, .f32⟩
  | .hbm, ⟨29, _⟩ => ⟨S2x1024x384, .f32⟩
  | .hbm, ⟨30, _⟩ => ⟨S2x1024x384, .f32⟩
  | .hbm, ⟨31, _⟩ => ⟨S2x1024x384, .f32⟩
  | .hbm, ⟨32, _⟩ => ⟨S_, .f32⟩
  | .hbm, ⟨33, _⟩ => ⟨S2x1024x384, .f32⟩
  | .hbm, ⟨34, _⟩ => ⟨S2x1024x384, .f32⟩
  | .hbm, ⟨35, _⟩ => ⟨S2x1024x384, .f32⟩
  | .hbm, ⟨36, _⟩ => ⟨S_, .f32⟩
  | .hbm, ⟨37, _⟩ => ⟨S2x1024x384, .f32⟩
  | .hbm, ⟨38, _⟩ => ⟨S2x1024x384, .f32⟩
  | .hbm, ⟨39, _⟩ => ⟨S2x1024x384, .f32⟩
  | .hbm, ⟨40, _⟩ => ⟨S_, .f32⟩
  | .hbm, ⟨41, _⟩ => ⟨S2x1024x384, .f32⟩
  | .hbm, ⟨42, _⟩ => ⟨S2x1024x384, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== GateFwd.lean ====
abbrev S4096x1024 : Shape := ⟨2, ![4096, 1024]⟩
abbrev S4096x6144 : Shape := ⟨2, ![4096, 6144]⟩
abbrev S1x1024 : Shape := ⟨2, ![1, 1024]⟩
abbrev S4096x2048 : Shape := ⟨2, ![4096, 2048]⟩
abbrev S2048x4096 : Shape := ⟨2, ![2048, 4096]⟩
abbrev S256x1024 : Shape := ⟨2, ![256, 1024]⟩
abbrev S256x2048 : Shape := ⟨2, ![256, 2048]⟩
abbrev S2048x256 : Shape := ⟨2, ![2048, 256]⟩
abbrev S1024x256 : Shape := ⟨2, ![1024, 256]⟩

abbrev nBuf : Space → Nat
  | .hbm => 6
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x6144, .bf16⟩
  | .hbm, ⟨3, _⟩ => ⟨S1x1024, .f32⟩
  | .hbm, ⟨4, _⟩ => ⟨S4096x2048, .bf16⟩
  | .hbm, ⟨5, _⟩ => ⟨S2048x4096, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2048, .bf16⟩
  | .local _ .vmem, ⟨5, _⟩ => ⟨S256x2048, .bf16⟩
  | .local _ .vmem, ⟨6, _⟩ => ⟨S1x1024, .f32⟩
  | .local _ .vmem, ⟨7, _⟩ => ⟨S256x2048, .bf16⟩
  | .local _ .vmem, ⟨8, _⟩ => ⟨S256x2048, .bf16⟩
  | .local _ .vmem, ⟨9, _⟩ => ⟨S2048x256, .bf16⟩
  | .local _ .vmem, ⟨10, _⟩ => ⟨S2048x256, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GateFwdRefIdeal.lean ====
abbrev S4096x1024 : Shape := ⟨2, ![4096, 1024]⟩
abbrev S4096x6144 : Shape := ⟨2, ![4096, 6144]⟩
abbrev S1x1024 : Shape := ⟨2, ![1, 1024]⟩
abbrev S4096x2048 : Shape := ⟨2, ![4096, 2048]⟩
abbrev S_ : Shape := ⟨0, ![]⟩
abbrev S2048x4096 : Shape := ⟨2, ![2048, 4096]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x6144, .bf16⟩
  | .hbm, ⟨3, _⟩ => ⟨S1x1024, .f32⟩
  | .hbm, ⟨4, _⟩ => ⟨S4096x2048, .bf16⟩
  | .hbm, ⟨5, _⟩ => ⟨S4096x2048, .f32⟩
  | .hbm, ⟨6, _⟩ => ⟨S4096x1024, .f32⟩
  | .hbm, ⟨7, _⟩ => ⟨S4096x1024, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .bf16⟩
  | .hbm, ⟨20, _⟩ => ⟨S2048x4096, .f32⟩
  | .hbm, ⟨21, _⟩ => ⟨S2048x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩

abbrev nD : Nat := 1
abbrev τ : Topo := Topo.v7x

variable {F : FTy → Type} [FloatOps F]
-- ==== LnMod.lean ====
abbrev S4096x1024 : Shape := ⟨2, ![4096, 1024]⟩
abbrev S1x1024 : Shape := ⟨2, ![1, 1024]⟩
abbrev S1024x4096 : Shape := ⟨2, ![1024, 4096]⟩
abbrev S256x1024 : Shape := ⟨2, ![256, 1024]⟩
abbrev S1024x256 : Shape := ⟨2, ![1024, 256]⟩
abbrev S256 : Shape := ⟨1, ![256]⟩
abbrev S256x1 : Shape := ⟨2, ![256, 1]⟩

abbrev nBuf : Space → Nat
  | .hbm => 6
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4096x1024, .bf16⟩
  | .hbm, ⟨5, _⟩ => ⟨S1024x4096, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S256x1024, .bf16⟩
  | .local _ .vmem, ⟨6, _⟩ => ⟨S256x1024, .bf16⟩
  | .local _ .vmem, ⟨7, _⟩ => ⟨S1024x256, .bf16⟩
  | .local _ .vmem, ⟨8, _⟩ => ⟨S1024x256, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== LnModRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024x4096 : Shape := ⟨2, ![1024, 4096]⟩

abbrev nBuf : Space → Nat
  | .hbm => 29
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .bf16⟩
  | .hbm, ⟨27, _⟩ => ⟨S1024x4096, .f32⟩
  | .hbm, ⟨28, _⟩ => ⟨S1024x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== ResidLn.lean ====
abbrev S4096x1024 : Shape := ⟨2, ![4096, 1024]⟩
abbrev S1x1024 : Shape := ⟨2, ![1, 1024]⟩
abbrev S1024x4096 : Shape := ⟨2, ![1024, 4096]⟩
abbrev S256x1024 : Shape := ⟨2, ![256, 1024]⟩
abbrev S1024x256 : Shape := ⟨2, ![1024, 256]⟩
abbrev S256 : Shape := ⟨1, ![256]⟩
abbrev S256x1 : Shape := ⟨2, ![256, 1]⟩

abbrev nBuf : Space → Nat
  | .hbm => 9
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S4096x1024, .bf16⟩
  | .hbm, ⟨8, _⟩ => ⟨S1024x4096, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S1024x256, .bf16⟩
  | .local _ .vmem, ⟨13, _⟩ => ⟨S1024x256, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ResidLnRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024x4096 : Shape := ⟨2, ![1024, 4096]⟩

abbrev nBuf : Space → Nat
  | .hbm => 37
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S_, .f32⟩
  | .hbm, ⟨7, _⟩ => ⟨S1x1024, .f32⟩
  | .hbm, ⟨8, _⟩ => ⟨S1x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .bf16⟩
  | .hbm, ⟨35, _⟩ => ⟨S1024x4096, .f32⟩
  | .hbm, ⟨36, _⟩ => ⟨S1024x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== ConvFwd.lean ====
abbrev S4096x8192 : Shape := ⟨2, ![4096, 8192]⟩
abbrev S3x2048 : Shape := ⟨2, ![3, 2048]⟩
abbrev S1x2048 : Shape := ⟨2, ![1, 2048]⟩
abbrev S4096x2048 : Shape := ⟨2, ![4096, 2048]⟩
abbrev S2048x4096 : Shape := ⟨2, ![2048, 4096]⟩
abbrev S256x2048 : Shape := ⟨2, ![256, 2048]⟩
abbrev S16x2048 : Shape := ⟨2, ![16, 2048]⟩
abbrev S2048x256 : Shape := ⟨2, ![2048, 256]⟩
abbrev S272x2048 : Shape := ⟨2, ![272, 2048]⟩

abbrev nBuf : Space → Nat
  | .hbm => 5
  | .vmem => 18
  | .smem => 0
  | _ => 0

abbrev bufTy : (tb : Table) → Fin (tcTables nBuf tb) → BufTy
  | .hbm, ⟨0, _⟩ => ⟨S4096x8192, .bf16⟩
  | .hbm, ⟨1, _⟩ => ⟨S3x2048, .f32⟩
  | .hbm, ⟨2, _⟩ => ⟨S1x2048, .f32⟩
  | .hbm, ⟨3, _⟩ => ⟨S4096x2048, .bf16⟩
  | .hbm, ⟨4, _⟩ => ⟨S2048x4096, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S16x2048, .bf16⟩
  | .local _ .vmem, ⟨9, _⟩ => ⟨S16x2048, .bf16⟩
  | .local _ .vmem, ⟨10, _⟩ => ⟨S16x2048, .bf16⟩
  | .local _ .vmem, ⟨11, _⟩ => ⟨S16x2048, .bf16⟩
  | .local _ .vmem, ⟨12, _⟩ => ⟨S3x2048, .f32⟩
  | .local _ .vmem, ⟨13, _⟩ => ⟨S1x2048, .f32⟩
  | .local _ .vmem, ⟨14, _⟩ => ⟨S256x2048, .bf16⟩
  | .local _ .vmem, ⟨15, _⟩ => ⟨S256x2048, .bf16⟩
  | .local _ .vmem, ⟨16, _⟩ => ⟨S2048x256, .bf16⟩
  | .local _ .vmem, ⟨17, _⟩ => ⟨S2048x256, .bf16⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_5 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ConvFwdRefIdeal.lean ====
abbrev S4096x8192 : Shape := ⟨2, ![4096, 8192]⟩
abbrev S3x2048 : Shape := ⟨2, ![3, 2048]⟩
abbrev S1x2048 : Shape := ⟨2, ![1, 2048]⟩
abbrev S4096x2048 : Shape := ⟨2, ![4096, 2048]⟩
abbrev S_ : Shape := ⟨0, ![]⟩
abbrev S4098x2048 : Shape := ⟨2, ![4098, 2048]⟩
abbrev S2048 : Shape := ⟨1, ![2048]⟩
abbrev S2048x4096 : Shape := ⟨2, ![2048, 4096]⟩

abbrev nBuf : Space → Nat
  | .hbm => 51
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S3x2048, .f32⟩
  | .hbm, ⟨2, _⟩ => ⟨S1x2048, .f32⟩
  | .hbm, ⟨3, _⟩ => ⟨S4096x8192, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S_, .i32⟩
  | .hbm, ⟨10, _⟩ => ⟨S_, .f32⟩
  | .hbm, ⟨11, _⟩ => ⟨S4098x2048, .f32⟩
  | .hbm, ⟨12, _⟩ => ⟨S4096x2048, .f32⟩
  | .hbm, ⟨13, _⟩ => ⟨S1x2048, .f32⟩
  | .hbm, ⟨14, _⟩ => ⟨S2048, .f32⟩
  | .hbm, ⟨15, _⟩ => ⟨S1x2048, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S1x2048, .f32⟩
  | .hbm, ⟨23, _⟩ => ⟨S2048, .f32⟩
  | .hbm, ⟨24, _⟩ => ⟨S1x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S1x2048, .f32⟩
  | .hbm, ⟨30, _⟩ => ⟨S2048, .f32⟩
  | .hbm, ⟨31, _⟩ => ⟨S1x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S_, .f32⟩
  | .hbm, ⟨41, _⟩ => ⟨S4096x2048, .f32⟩
  | .hbm, ⟨42, _⟩ => ⟨S4096x2048, .f32⟩
  | .hbm, ⟨43, _⟩ => ⟨S_, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .bf16⟩
  | .hbm, ⟨49, _⟩ => ⟨S2048x4096, .f32⟩
  | .hbm, ⟨50, _⟩ => ⟨S2048x4096, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_call1_v0 : Ref sig .tc := ⟨.hbm, 38, rfl⟩
abbrev main_call1_v1 : Ref sig .tc := ⟨.hbm, 39, rfl⟩
abbrev main_call1_cst : Ref sig .tc := ⟨.hbm, 40, rfl⟩
abbrev main_call1_v2 : Ref sig .tc := ⟨.hbm, 41, rfl⟩
abbrev main_call1_v3 : Ref sig .tc := ⟨.hbm, 42, rfl⟩
abbrev main_call1_cst_0 : Ref sig .tc := ⟨.hbm, 43, rfl⟩
abbrev main_call1_v4 : Ref sig .tc := ⟨.hbm, 44, rfl⟩
abbrev main_call1_v5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩

abbrev nD : Nat := 1
abbrev τ : Topo := Topo.v7x

variable {F : FTy → Type} [FloatOps F]
-- ==== Proof.ConvSpec.lean ====
/-
  The gradient of the gated short convolution, as plain functions of the argument arrays on the extended reals.
  Nothing here names a program: the kernel's results and the reference's are both shown equal to these functions.

  `X` is the cotangent of the mixer's output, `P` the projected activations in four column groups of width 2048
  (the gate `gb`, the two factors `gc` and `u` of the convolved signal, the output gate `gt`), `W` the three taps and
  `B` the bias.
-/
module

public import Idealize.ShloMosaic.PureOps
public import Idealize.ShloMosaic.Lib.Pointwise

@[expose] public section

noncomputable section

namespace Cert.Conv

open Idealize.ShloMosaic

abbrev Arr (r c : ℕ) : Type := (⟨2, ![r, c]⟩ : Shape).Idx → EReal

/-- The logistic function, spelt with a quotient. -/
def sgm (x : EReal) : EReal := Ideal.div 1 (1 + Ideal.exp (0 - x))

variable (X : Arr 4096 2048) (P : Arr 4096 8192) (W : Arr 3 2048) (B : Arr 1 2048)

/-- Column `c` of the `k`-th group of the projected activations. -/
def col (k : ℕ) (hk : k < 4) (c : Fin 2048) : Fin 8192 := ⟨k * 2048 + c.val, by omega⟩

/-- The signal the convolution reads, with two rows of zeros put before it: row `e` is the signal's row `e - 2`. -/
def ucE (e : ℕ) (c : Fin 2048) : EReal :=
  if h : 2 ≤ e ∧ e < 4098 then
    P (ix2 ⟨e - 2, by omega⟩ (col 1 (by decide) c)) * P (ix2 ⟨e - 2, by omega⟩ (col 2 (by decide) c))
  else 0

/-- The cotangent of the convolution's output, with zero rows after its last. -/
def dcE (r : ℕ) (c : Fin 2048) : EReal :=
  if h : r < 4096 then
    X (ix2 ⟨r, h⟩ c) * P (ix2 ⟨r, h⟩ (col 0 (by decide) c))
      * (P (ix2 ⟨r, h⟩ (col 3 (by decide) c)) * sgm (P (ix2 ⟨r, h⟩ (col 3 (by decide) c))))
  else 0

/-- The convolution's output. -/
def cv (r : ℕ) (c : Fin 2048) : EReal :=
  B (ix2 0 c) + W (ix2 0 c) * ucE P r c + W (ix2 1 c) * ucE P (r + 1) c + W (ix2 2 c) * ucE P (r + 2) c

/-- The cotangent of the convolved signal: the taps in the opposite order. -/
def du (r : ℕ) (c : Fin 2048) : EReal :=
  W (ix2 2 c) * dcE X P r c + W (ix2 1 c) * dcE X P (r + 1) c + W (ix2 0 c) * dcE X P (r + 2) c

/-- The cotangent of group `k` of the projected activations. -/
def dP (k : Fin 4) (r : Fin 4096) (c : Fin 2048) : EReal :=
  let g : EReal := P (ix2 r (col 3 (by decide) c))
  match k with
  | 0 => X (ix2 r c) * cv P W B r c * (g * sgm g)
  | 1 => du X P W r c * P (ix2 r (col 2 (by decide) c))
  | 2 => du X P W r c * P (ix2 r (col 1 (by decide) c))
  | 3 => X (ix2 r c) * P (ix2 r (col 0 (by decide) c)) * cv P W B r c * (sgm g + g * sgm g * (1 - sgm g))

/-- The cotangent of the projected activations. -/
def G0 : Arr 4096 8192 := fun i =>
  dP X P W B ⟨(i 1).val / 2048, by have : (i 1).val < 8192 := (i 1).isLt; omega⟩ (i 0) ⟨(i 1).val % 2048, by omega⟩

theorem G0_col (k : Fin 4) (r : Fin 4096) (c : Fin 2048) : G0 X P W B (ix2 r (col k.val k.isLt c)) = dP X P W B k r c := by
  have h1 : (⟨(col k.val k.isLt c).val / 2048, by unfold col; simp only; omega⟩ : Fin 4) = k :=
    Fin.ext (by unfold col; simp only; omega)
  have h2 : (⟨(col k.val k.isLt c).val % 2048, by omega⟩ : Fin 2048) = c :=
    Fin.ext (by unfold col; simp only; omega)
  show dP X P W B ⟨(col k.val k.isLt c).val / 2048, _⟩ r ⟨(col k.val k.isLt c).val % 2048, _⟩ = _
  rw [h1, h2]

/-- The cotangent of the taps: tap `k` meets the signal two rows less `k` back. -/
def G1 : Arr 3 2048 := fun i => ∑ r : Fin 4096, dcE X P r (i 1) * ucE P (r + (i 0).val) (i 1)

/-- The cotangent of the bias. -/
def G2 : Arr 1 2048 := fun i => ∑ r : Fin 4096, dcE X P r (i 1)

end Cert.Conv

end
-- ==== Proof.ConvPoint.lean ====
/-
  What one grid point of the convolution's gradient kernel computes from its blocks, at an index, in the vocabulary of
  `Proof.ConvSpec`. A point works on 256 rows; the rows before and after them that the taps reach come from two small
  blocks of 16 rows.
-/
module

public import proofs.«01_k».proof.Proof.ConvSpec
public import proofs.«01_k».proof.Proof.Gen.KernelIdeal.Skeleton
public import Idealize.ShloMosaic.Lib.Pipeline.ValueKit.Point

@[expose] public section

noncomputable section

namespace Cert.Conv

open Cert.KernelIdeal Cert.KernelIdeal.Gen Idealize.ShloMosaic

/-- The rows a grid point's blocks hold: `x0 … x4` the 256 rows from `256 t` on of the cotangent and of the four
    column groups, `x5 x6` the 16 rows before them, `x7 x8 x9` the 16 rows after them, `x10 x11` the taps and the bias. -/
structure Blocks (X : Arr 4096 2048) (P : Arr 4096 8192) (W : Arr 3 2048) (B : Arr 1 2048) (t : Fin 16)
    (x0 : Vec Ideal S256x2048 .f32) (x1 x2 x3 x4 : Vec Ideal S256x2048 .bf16) (x5 x6 : Vec Ideal S16x2048 .bf16)
    (x7 : Vec Ideal S16x2048 .f32) (x8 x9 : Vec Ideal S16x2048 .bf16) (x10 : Vec Ideal S3x2048 .f32)
    (x11 : Vec Ideal S1x2048 .f32) : Prop where
  dy : ∀ (a : Fin 256) (c : Fin 2048) (r : Fin 4096), r.val = 256 * t.val + a.val → x0 (ix2 a c) = X (ix2 r c)
  gb : ∀ (a : Fin 256) (c : Fin 2048) (r : Fin 4096), r.val = 256 * t.val + a.val →
    x1 (ix2 a c) = P (ix2 r (col 0 (by decide) c))
  gc : ∀ (a : Fin 256) (c : Fin 2048) (r : Fin 4096), r.val = 256 * t.val + a.val →
    x2 (ix2 a c) = P (ix2 r (col 1 (by decide) c))
  u : ∀ (a : Fin 256) (c : Fin 2048) (r : Fin 4096), r.val = 256 * t.val + a.val →
    x3 (ix2 a c) = P (ix2 r (col 2 (by decide) c))
  gt : ∀ (a : Fin 256) (c : Fin 2048) (r : Fin 4096), r.val = 256 * t.val + a.val →
    x4 (ix2 a c) = P (ix2 r (col 3 (by decide) c))
  gch : ∀ (a : Fin 16) (c : Fin 2048) (r : Fin 4096), r.val + 16 = 256 * t.val + a.val →
    x5 (ix2 a c) = P (ix2 r (col 1 (by decide) c))
  uh : ∀ (a : Fin 16) (c : Fin 2048) (r : Fin 4096), r.val + 16 = 256 * t.val + a.val →
    x6 (ix2 a c) = P (ix2 r (col 2 (by decide) c))
  dyn : ∀ (a : Fin 16) (c : Fin 2048) (r : Fin 4096), r.val = 256 * t.val + 256 + a.val → x7 (ix2 a c) = X (ix2 r c)
  gbn : ∀ (a : Fin 16) (c : Fin 2048) (r : Fin 4096), r.val = 256 * t.val + 256 + a.val →
    x8 (ix2 a c) = P (ix2 r (col 0 (by decide) c))
  gtn : ∀ (a : Fin 16) (c : Fin 2048) (r : Fin 4096), r.val = 256 * t.val + 256 + a.val →
    x9 (ix2 a c) = P (ix2 r (col 3 (by decide) c))
  cw : ∀ (a : Fin 3) (c : Fin 2048), x10 (ix2 a c) = W (ix2 a c)
  cb : ∀ (c : Fin 2048), x11 (ix2 0 c) = B (ix2 0 c)

/-- A choice on "this is point `k`" of a grid of 16. -/
theorem select_point {α : Type} (t k : Fin 16) (x y : α) :
    Scalar.select (Scalar.cmpi CmpIPredicate.eq (BitVec.ofNat 32 t.val) (BitVec.ofNat 32 k.val)) x y
      = if t = k then x else y := by
  have h : ∀ t k : Fin 16, Scalar.cmpi CmpIPredicate.eq (BitVec.ofNat 32 t.val) (BitVec.ofNat 32 k.val)
      = if t = k then 1#1 else 0#1 := by decide
  rw [h]; by_cases e : t = k <;> simp [e, Scalar.select]

section
variable {X : Arr 4096 2048} {P : Arr 4096 8192} {W : Arr 3 2048} {B : Arr 1 2048} {t : Fin 16}
    {x0 : Vec Ideal S256x2048 .f32} {x1 x2 x3 x4 : Vec Ideal S256x2048 .bf16} {x5 x6 : Vec Ideal S16x2048 .bf16}
    {x7 : Vec Ideal S16x2048 .f32} {x8 x9 : Vec Ideal S16x2048 .bf16} {x10 : Vec Ideal S3x2048 .f32}
    {x11 : Vec Ideal S1x2048 .f32} (H : Blocks X P W B t x0 x1 x2 x3 x4 x5 x6 x7 x8 x9 x10 x11)
    {i : grid0.Coords} (hi : (i 0).val = t.val)
include H

/-- The signal at the point's own rows. -/
theorem uc_point (a : Fin 256) (c : Fin 2048) :
    k0_pay9 (F := Ideal) x2 x3 (ix2 a c) = ucE P (256 * t.val + a.val + 2) c := by
  pointwise [k0_pay9, k0_pay5, k0_pay6]
  have hr : 256 * t.val + a.val < 4096 := by omega
  unfold ucE
  rw [dif_pos (by omega), H.gc a c ⟨256 * t.val + a.val + 2 - 2, by omega⟩ (by simp),
    H.u a c ⟨256 * t.val + a.val + 2 - 2, by omega⟩ (by simp)]

include hi

/-- The signal with the sixteen rows before it, from row 14 of the sixteen on. -/
theorem ext_point (e : Fin 272) (he : 14 ≤ e.val) (c : Fin 2048) :
    k0_pay10 (F := Ideal) i x2 x3 x5 x6 (ix2 e c) = ucE P (256 * t.val + e.val - 14) c := by
  pointwise [k0_pay10]
  rw [hi]
  have hs := select_point (α := EReal) t 0
  split
  · rename_i h
    erw [hs]
    split
    · rename_i h0
      subst h0
      unfold ucE
      rw [dif_neg (by simp; omega)]
    · rename_i h0
      have : t.val ≠ 0 := fun h => h0 (Fin.ext h)
      unfold ucE
      rw [dif_pos (by omega), H.gch _ c ⟨256 * t.val + e.val - 14 - 2, by omega⟩ (by simp; omega),
        H.uh _ c ⟨256 * t.val + e.val - 14 - 2, by omega⟩ (by simp; omega)]
  · rename_i h
    rw [uc_point H]
    congr 1
    simp; omega

/-- The signal one row back. -/
theorem uc1_point (a : Fin 256) (c : Fin 2048) :
    k0_pay11 (F := Ideal) i x2 x3 x5 x6 (ix2 a c) = ucE P (256 * t.val + a.val + 1) c := by
  pointwise [k0_pay11]
  rw [ext_point H hi _ (by simp; omega)]
  congr 1
  simp; omega

/-- The signal two rows back. -/
theorem uc2_point (a : Fin 256) (c : Fin 2048) :
    k0_pay12 (F := Ideal) i x2 x3 x5 x6 (ix2 a c) = ucE P (256 * t.val + a.val) c := by
  pointwise [k0_pay12]
  rw [ext_point H hi _ (by simp; omega)]
  congr 1
  simp; omega

/-- The convolution's output at the point's rows. -/
theorem cv_point (a : Fin 256) (c : Fin 2048) :
    k0_pay18 (F := Ideal) (k0_pay9 x2 x3) (k0_pay11 i x2 x3 x5 x6) (k0_pay14 x10) (k0_pay15 x10)
      (k0_pay16 i x2 x3 x5 x6 x10) (k0_pay17 x11) (ix2 a c) = cv P W B (256 * t.val + a.val) c := by
  pointwise [k0_pay18, k0_pay17, k0_pay16, k0_pay15, k0_pay14, k0_pay13]
  rw [uc_point H, uc1_point H hi, uc2_point H hi, H.cw, H.cw, H.cw, H.cb]
  rfl

omit hi

/-- The logistic function of a block. -/
theorem sgm_point (x : Vec Ideal S256x2048 .f32) (a : Fin 256) (c : Fin 2048) :
    k0_pay19 (F := Ideal) x (ix2 a c) = sgm (x (ix2 a c)) := by
  pointwise [k0_pay19]; rfl

/-- The cotangent of the convolution's output at the point's rows. -/
theorem dc_point (a : Fin 256) (c : Fin 2048) :
    k0_pay21 (F := Ideal) (k0_pay7 x1) (k0_pay8 x4) x0 (ix2 a c) = dcE X P (256 * t.val + a.val) c := by
  have hr : 256 * t.val + a.val < 4096 := by omega
  pointwise [k0_pay21, k0_pay20, k0_pay7]
  rw [sgm_point H]
  unfold dcE
  have e4 : k0_pay8 (F := Ideal) x4 (ix2 a c) = x4 (ix2 a c) := rfl
  rw [dif_pos hr, e4, H.dy a c ⟨_, hr⟩ rfl, H.gb a c ⟨_, hr⟩ rfl, H.gt a c ⟨_, hr⟩ rfl]

/-- … followed by the sixteen rows after them. -/
theorem dext_point (e : Fin 272) (c : Fin 2048) :
    k0_pay22 (F := Ideal) (BitVec.ofNat 32 t.val) (k0_pay7 x1) (k0_pay8 x4) x0 x9 x7 x8 (ix2 e c)
      = dcE X P (256 * t.val + e.val) c := by
  pointwise [k0_pay22]
  have hs := select_point (α := EReal) t 15
  split
  · rw [dc_point H]
  · rename_i h
    erw [hs]
    unfold dcE
    split
    · rename_i h0
      subst h0
      rw [dif_neg (by simp; omega)]
    · rename_i h0
      have : t.val ≠ 15 := fun h => h0 (Fin.ext h)
      have hr : 256 * t.val + e.val < 4096 := by omega
      rw [dif_pos hr, H.dyn _ c ⟨_, hr⟩ (by simp; omega), H.gbn _ c ⟨_, hr⟩ (by simp; omega),
        H.gtn _ c ⟨_, hr⟩ (by simp; omega)]
      rfl

/-- The cotangent of the convolved signal at the point's rows. -/
theorem du_point (a : Fin 256) (c : Fin 2048) :
    k0_pay26 (F := Ideal) (k0_pay13 x10)
      (k0_pay23 (BitVec.ofNat 32 t.val) (k0_pay7 x1) (k0_pay8 x4) x0 x9 x7 x8)
      (k0_pay24 (k0_pay7 x1) (k0_pay8 x4) x0 (k0_pay15 x10))
      (k0_pay25 (BitVec.ofNat 32 t.val) (k0_pay7 x1) (k0_pay8 x4) x0 (k0_pay14 x10) x9 x7 x8) (ix2 a c)
      = du X P W (256 * t.val + a.val) c := by
  pointwise [k0_pay26, k0_pay25, k0_pay24, k0_pay23, k0_pay15, k0_pay14, k0_pay13]
  rw [dc_point H, dext_point H, dext_point H, H.cw, H.cw, H.cw]
  unfold du
  refine congrArg₂ (· + ·) (congrArg₂ (· + ·) rfl (congrArg (_ * ·) (congrArg (dcE X P · c) ?_)))
    (congrArg (_ * ·) (congrArg (dcE X P · c) ?_)) <;> (simp; omega)

include hi

/-- The first group's cotangent at the point's rows. -/
theorem out0_point (a : Fin 256) (c : Fin 2048) (r : Fin 4096) (hr : r.val = 256 * t.val + a.val) :
    k0_pay27 (F := Ideal) x0
      (k0_pay18 (k0_pay9 x2 x3) (k0_pay11 i x2 x3 x5 x6) (k0_pay14 x10) (k0_pay15 x10)
        (k0_pay16 i x2 x3 x5 x6 x10) (k0_pay17 x11)) (k0_pay20 (k0_pay8 x4)) (ix2 a c) = dP X P W B 0 r c := by
  pointwise [k0_pay27, k0_pay20]
  rw [cv_point H hi, sgm_point H]
  have e4 : k0_pay8 (F := Ideal) x4 (ix2 a c) = x4 (ix2 a c) := rfl
  rw [e4, H.dy a c r hr, H.gt a c r hr, ← hr]
  rfl

/-- The fourth group's. -/
theorem out3_point (a : Fin 256) (c : Fin 2048) (r : Fin 4096) (hr : r.val = 256 * t.val + a.val) :
    k0_pay30 (F := Ideal) (k0_pay7 x1) x0
      (k0_pay18 (k0_pay9 x2 x3) (k0_pay11 i x2 x3 x5 x6) (k0_pay14 x10) (k0_pay15 x10)
        (k0_pay16 i x2 x3 x5 x6 x10) (k0_pay17 x11)) (k0_pay19 (k0_pay8 x4)) (k0_pay20 (k0_pay8 x4)) (ix2 a c)
      = dP X P W B 3 r c := by
  pointwise [k0_pay30, k0_pay20, k0_pay7]
  rw [cv_point H hi, sgm_point H]
  have e4 : k0_pay8 (F := Ideal) x4 (ix2 a c) = x4 (ix2 a c) := rfl
  rw [e4, H.dy a c r hr, H.gb a c r hr, H.gt a c r hr, ← hr]
  rfl

omit hi

/-- The second group's. -/
theorem out1_point (a : Fin 256) (c : Fin 2048) (r : Fin 4096) (hr : r.val = 256 * t.val + a.val) :
    k0_pay28 (F := Ideal) (k0_pay6 x3) (k0_pay13 x10)
      (k0_pay23 (BitVec.ofNat 32 t.val) (k0_pay7 x1) (k0_pay8 x4) x0 x9 x7 x8)
      (k0_pay24 (k0_pay7 x1) (k0_pay8 x4) x0 (k0_pay15 x10))
      (k0_pay25 (BitVec.ofNat 32 t.val) (k0_pay7 x1) (k0_pay8 x4) x0 (k0_pay14 x10) x9 x7 x8) (ix2 a c)
      = dP X P W B 1 r c := by
  pointwise [k0_pay28, k0_pay6]
  rw [du_point H, H.u a c r hr, ← hr]
  rfl

/-- The third group's. -/
theorem out2_point (a : Fin 256) (c : Fin 2048) (r : Fin 4096) (hr : r.val = 256 * t.val + a.val) :
    k0_pay29 (F := Ideal) (k0_pay5 x2) (k0_pay13 x10)
      (k0_pay23 (BitVec.ofNat 32 t.val) (k0_pay7 x1) (k0_pay8 x4) x0 x9 x7 x8)
      (k0_pay24 (k0_pay7 x1) (k0_pay8 x4) x0 (k0_pay15 x10))
      (k0_pay25 (BitVec.ofNat 32 t.val) (k0_pay7 x1) (k0_pay8 x4) x0 (k0_pay14 x10) x9 x7 x8) (ix2 a c)
      = dP X P W B 2 r c := by
  pointwise [k0_pay29, k0_pay5]
  rw [du_point H, H.gc a c r hr, ← hr]
  rfl

/-- The point's share of tap 2's cotangent, added to what was there. -/
theorem tap2_point (acc : Vec Ideal S1x2048 .f32) (c : Fin 2048) :
    k0_pay1 (F := Ideal) (k0_pay9 x2 x3) (k0_pay21 (k0_pay7 x1) (k0_pay8 x4) x0) acc (ix2 0 c)
      = acc (ix2 0 c) + ∑ x : Fin 256, dcE X P (256 * t.val + x.val) c * ucE P (256 * t.val + x.val + 2) c := by
  pointwise [k0_pay1]
  simp only [dc_point H, uc_point H]

/-- The point's share of the bias's. -/
theorem bias_point (acc : Vec Ideal S1x2048 .f32) (a : Fin 1) (c : Fin 2048) :
    k0_pay2 (F := Ideal) (k0_pay21 (k0_pay7 x1) (k0_pay8 x4) x0) acc (ix2 a c)
      = acc (ix2 a c) + ∑ x : Fin 256, dcE X P (256 * t.val + x.val) c := by
  pointwise [k0_pay2]
  simp only [dc_point H]

include hi

/-- The point's share of tap 1's. -/
theorem tap1_point (acc : Vec Ideal S1x2048 .f32) (c : Fin 2048) :
    k0_pay32 (F := Ideal) (k0_pay11 i x2 x3 x5 x6) (k0_pay21 (k0_pay7 x1) (k0_pay8 x4) x0) acc (ix2 0 c)
      = acc (ix2 0 c) + ∑ x : Fin 256, dcE X P (256 * t.val + x.val) c * ucE P (256 * t.val + x.val + 1) c := by
  pointwise [k0_pay32]
  simp only [dc_point H, uc1_point H hi]

/-- The point's share of tap 0's. -/
theorem tap0_point (acc : Vec Ideal S1x2048 .f32) (c : Fin 2048) :
    k0_pay31 (F := Ideal) (k0_pay12 i x2 x3 x5 x6) (k0_pay21 (k0_pay7 x1) (k0_pay8 x4) x0) acc (ix2 0 c)
      = acc (ix2 0 c) + ∑ x : Fin 256, dcE X P (256 * t.val + x.val) c * ucE P (256 * t.val + x.val) c := by
  pointwise [k0_pay31]
  simp only [dc_point H, uc2_point H hi]

end

end Cert.Conv

end
-- ==== Proof.Rows.lean ====
/-
  A rank-two block written one row at a time, and read back one row at a time: at coordinates.
-/
module

public import Idealize.ShloMosaic.PureOps
public import Idealize.ShloMosaic.Lib.Pointwise
public import Idealize.ShloMosaic.Lib.Pipeline.ValueKit.Point

@[expose] public section

noncomputable section

namespace Cert.Rows

open Idealize.ShloMosaic

variable {Val : EltTy → Type} [∀ e, Nonempty (Val e)] {e : EltTy} {n w : ℕ}

/-- The newest row written wins at its own row; every other row is as the older writes left it. -/
theorem canon_row (k : ℕ) (hk : k < n) (inb) (v : (Rect.unit (s := ⟨2, ![n, w]⟩) ![k, 0] ![1, w] inb).shape.Idx → Val e)
    (L : List (View.Piece Val ⟨2, ![n, w]⟩ e)) (a : Fin n) (c : Fin w) :
    View.canon (⟨Rect.unit (s := ⟨2, ![n, w]⟩) ![k, 0] ![1, w] inb, v⟩ :: L) (ix2 a c)
      = if a.val = k then v (ix2 (n0 := 1) (n1 := w) 0 c) else View.canon L (ix2 a c) := by
  split
  · rename_i h
    have : ix2 a c = (Rect.unit (s := ⟨2, ![n, w]⟩) ![k, 0] ![1, w] inb).emb (ix2 (n0 := 1) (n1 := w) 0 c) := by
      funext b
      match b with
      | ⟨0, _⟩ => exact Fin.ext (by show a.val = k + 1 * 0; omega)
      | ⟨1, _⟩ => exact Fin.ext (by show c.val = 0 + 1 * c.val; omega)
    rw [this, View.canon_cons_emb]
  · rename_i h
    refine View.canon_cons_of_not_mem _ _ fun hm => ?_
    have := (Rect.mem_set_unit (s := ⟨2, ![n, w]⟩) (inb := inb)).mp hm 0
    have h1 : k ≤ a.val ∧ a.val < k + 1 := this
    omega

/-- The newest band of columns written wins at its own columns; every other column is as the older writes left it. -/
theorem canon_band (o b : ℕ) (hb : o + b ≤ w) (inb)
    (v : (Rect.unit (s := ⟨2, ![n, w]⟩) ![0, o] ![n, b] inb).shape.Idx → Val e)
    (L : List (View.Piece Val ⟨2, ![n, w]⟩ e)) (a : Fin n) (c : Fin w) :
    View.canon (⟨Rect.unit (s := ⟨2, ![n, w]⟩) ![0, o] ![n, b] inb, v⟩ :: L) (ix2 a c)
      = if h : o ≤ c.val ∧ c.val < o + b then v (ix2 (n0 := n) (n1 := b) a ⟨c.val - o, by omega⟩)
        else View.canon L (ix2 a c) := by
  split
  · rename_i h
    have : ix2 a c = (Rect.unit (s := ⟨2, ![n, w]⟩) ![0, o] ![n, b] inb).emb
        (ix2 (n0 := n) (n1 := b) a ⟨c.val - o, by omega⟩) := by
      funext d
      match d with
      | ⟨0, _⟩ => exact Fin.ext (by show a.val = 0 + 1 * a.val; omega)
      | ⟨1, _⟩ => exact Fin.ext (by show c.val = o + 1 * (c.val - o); omega)
    rw [this, View.canon_cons_emb]
  · rename_i h
    refine View.canon_cons_of_not_mem _ _ fun hm => ?_
    have := (Rect.mem_set_unit (s := ⟨2, ![n, w]⟩) (inb := inb)).mp hm 1
    exact h this

/-- One row read. -/
theorem ld_row (k : ℕ) (hk : k < n) (inb) (X : (⟨2, ![n, w]⟩ : Shape).Idx → Val e) (c : Fin w) :
    View.ld X (Rect.unit (s := ⟨2, ![n, w]⟩) ![k, 0] ![1, w] inb) (ix2 (n0 := 1) (n1 := w) 0 c) = X (ix2 ⟨k, hk⟩ c) := by
  show X _ = X _
  congr 1
  funext b
  match b with
  | ⟨0, _⟩ => exact Fin.ext (by show k + 1 * 0 = k; omega)
  | ⟨1, _⟩ => exact Fin.ext (by show 0 + 1 * c.val = c.val; omega)

/-- One row read of what a list of writes left. -/
theorem readCov_row {sig : RefSig} {κ : Kind} {sp : Space} (v : View sig κ sp ⟨2, ![n, w]⟩ e)
    (L : List (View.Piece Val ⟨2, ![n, w]⟩ e)) (k : ℕ) (hk : k < n) (inb) (c : Fin w) :
    v.readCov L (Rect.unit (s := ⟨2, ![n, w]⟩) ![k, 0] ![1, w] inb).toLoadRect (ix2 (n0 := 1) (n1 := w) 0 c)
      = View.canon L (ix2 ⟨k, hk⟩ c) := by
  rw [View.readCov_eq_canon']
  exact ld_row k hk inb (View.canon L) c

/-- A write of the whole block hides every older one. -/
theorem canon_whole (inb) (v : (Rect.unit (s := ⟨2, ![n, w]⟩) ![0, 0] ![n, w] inb).shape.Idx → Val e)
    (L : List (View.Piece Val ⟨2, ![n, w]⟩ e)) (a : Fin n) (c : Fin w) :
    View.canon (⟨Rect.unit (s := ⟨2, ![n, w]⟩) ![0, 0] ![n, w] inb, v⟩ :: L) (ix2 a c)
      = v (ix2 (n0 := n) (n1 := w) a c) := by
  rw [canon_band 0 w (by omega), dif_pos (by omega)]
  rfl

/-- The whole block read. -/
theorem ld_whole (inb) (X : (⟨2, ![n, w]⟩ : Shape).Idx → Val e) (a : Fin n) (c : Fin w) :
    View.ld X (Rect.unit (s := ⟨2, ![n, w]⟩) ![0, 0] ![n, w] inb) (ix2 (n0 := n) (n1 := w) a c) = X (ix2 a c) := by
  show X _ = X _
  congr 1
  funext b
  match b with
  | ⟨0, _⟩ => exact Fin.ext (by show 0 + 1 * a.val = a.val; omega)
  | ⟨1, _⟩ => exact Fin.ext (by show 0 + 1 * c.val = c.val; omega)

/-- A write of the whole of a rank-three block hides every older one. -/
theorem canon_whole3 {q : ℕ} (inb)
    (v : (Rect.unit (s := ⟨3, ![q, n, w]⟩) ![0, 0, 0] ![q, n, w] inb).shape.Idx → Val e)
    (L : List (View.Piece Val ⟨3, ![q, n, w]⟩ e)) (z : Fin q) (a : Fin n) (c : Fin w) :
    View.canon (⟨Rect.unit (s := ⟨3, ![q, n, w]⟩) ![0, 0, 0] ![q, n, w] inb, v⟩ :: L) (ix3 z a c)
      = v (ix3 (n0 := q) (n1 := n) (n2 := w) z a c) := by
  have : ix3 z a c = (Rect.unit (s := ⟨3, ![q, n, w]⟩) ![0, 0, 0] ![q, n, w] inb).emb
      (ix3 (n0 := q) (n1 := n) (n2 := w) z a c) := by
    funext d
    match d with
    | ⟨0, _⟩ => exact Fin.ext (by show z.val = 0 + 1 * z.val; omega)
    | ⟨1, _⟩ => exact Fin.ext (by show a.val = 0 + 1 * a.val; omega)
    | ⟨2, _⟩ => exact Fin.ext (by show c.val = 0 + 1 * c.val; omega)
  conv_lhs => rw [this]
  exact View.canon_cons_emb _ _ _ _

/-- One leading slice of a rank-three block read. -/
theorem ld_slice {q : ℕ} (k : ℕ) (hk : k < q) (inb) (X : (⟨3, ![q, n, w]⟩ : Shape).Idx → Val e)
    (z : Fin 1) (a : Fin n) (c : Fin w) :
    View.ld X (Rect.unit (s := ⟨3, ![q, n, w]⟩) ![k, 0, 0] ![1, n, w] inb) (ix3 (n0 := 1) (n1 := n) (n2 := w) z a c)
      = X (ix3 ⟨k, hk⟩ a c) := by
  show X _ = X _
  congr 1
  funext b
  match b with
  | ⟨0, _⟩ => exact Fin.ext (by have := z.isLt; show k + 1 * z.val = k; omega)
  | ⟨1, _⟩ => exact Fin.ext (by show 0 + 1 * a.val = a.val; omega)
  | ⟨2, _⟩ => exact Fin.ext (by show 0 + 1 * c.val = c.val; omega)

end Cert.Rows

end
-- ==== Proof.ConvArray.lean ====
/-
  The three result arrays of the convolution's gradient kernel, after its run of 16 grid points, are the functions of
  `Proof.ConvSpec` of the argument arrays.
-/
module

public import proofs.«01_k».proof.Proof.ConvPoint
public import proofs.«01_k».proof.Proof.Rows
public import proofs.«01_k».proof.Proof.Gen.KernelIdeal.Value

@[expose] public section

noncomputable section

namespace Cert.Conv

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (c : Dev nD)

abbrev XX : Arr 4096 2048 := m ((c : Thread nD τ).loc main_arg0)
abbrev PP : Arr 4096 8192 := m ((c : Thread nD τ).loc main_arg1)
abbrev WW : Arr 3 2048 := m ((c : Thread nD τ).loc main_arg2)
abbrev BB : Arr 1 2048 := m ((c : Thread nD τ).loc main_arg3)

theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![t.val, 1] := by decide +kernel
theorem idx3 : ∀ t : Fin grid0.N, win0_3.index t = ![t.val, 2] := by decide +kernel
theorem idx4 : ∀ t : Fin grid0.N, win0_4.index t = ![t.val, 3] := by decide +kernel
theorem idx5 : ∀ t : Fin grid0.N, win0_5.index t = ![16 * t.val - 1, 1] := by decide +kernel
theorem idx6 : ∀ t : Fin grid0.N, win0_6.index t = ![16 * t.val - 1, 2] := by decide +kernel
theorem idx7 : ∀ t : Fin grid0.N, win0_7.index t = ![min (16 * t.val + 16) 255, 0] := by decide +kernel
theorem idx8 : ∀ t : Fin grid0.N, win0_8.index t = ![min (16 * t.val + 16) 255, 0] := by decide +kernel
theorem idx9 : ∀ t : Fin grid0.N, win0_9.index t = ![min (16 * t.val + 16) 255, 3] := by decide +kernel
theorem idx10 : ∀ t : Fin grid0.N, win0_10.index t = ![0, 0] := by decide +kernel
theorem idx11 : ∀ t : Fin grid0.N, win0_11.index t = ![0, 0] := by decide +kernel
theorem idx12 : ∀ t : Fin grid0.N, win0_12.index t = ![t.val, 0] := by decide +kernel

/-- A grid point, as a number below 16. -/
abbrev pt (t : Fin cfg0.N) : Fin 16 := ⟨t.val, t.isLt⟩

/-- The blocks staged at a grid point hold the rows the point lemmas ask for. -/
theorem blocks (t : Fin cfg0.N) : Blocks (XX m c) (PP m c) (WW m c) (BB m c) (pt t)
    (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) where
  dy a e r h := by have : r.val = 256 * t.val + a.val := h; blk_ext [iblk, V, idx0 t]
  gb a e r h := by have : r.val = 256 * t.val + a.val := h; blk_ext [iblk, V, idx1 t, col]
  gc a e r h := by have : r.val = 256 * t.val + a.val := h; blk_ext [iblk, V, idx2 t, col]
  u a e r h := by have : r.val = 256 * t.val + a.val := h; blk_ext [iblk, V, idx3 t, col]
  gt a e r h := by have : r.val = 256 * t.val + a.val := h; blk_ext [iblk, V, idx4 t, col]
  gch a e r h := by have : r.val + 16 = 256 * t.val + a.val := h; blk_ext [iblk, V, idx5 t, col]
  uh a e r h := by have : r.val + 16 = 256 * t.val + a.val := h; blk_ext [iblk, V, idx6 t, col]
  dyn a e r h := by have : r.val = 256 * t.val + 256 + a.val := h; blk_ext [iblk, V, idx7 t, col]
  gbn a e r h := by have : r.val = 256 * t.val + 256 + a.val := h; blk_ext [iblk, V, idx8 t, col]
  gtn a e r h := by have : r.val = 256 * t.val + 256 + a.val := h; blk_ext [iblk, V, idx9 t, col]
  cw a e := by blk_ext [iblk, V, idx10 t]
  cb e := by blk_ext [iblk, V, idx11 t]

/-- A grid point's only coordinate is its number. -/
theorem coord : ∀ t : Fin cfg0.N, ((grid0.coords t) 0).val = t.val := (by decide +kernel : ∀ t : Fin grid0.N, ((grid0.coords t) 0).val = t.val)

/-- What a grid point leaves in its block of the first result, band by band. -/
theorem bands (t : Fin cfg0.N) (a : Fin 256) (e : Fin 8192) (r : Fin 4096) (hr : r.val = 256 * t.val + a.val)
    (L : List (View.Piece (Elt Ideal) S256x8192 .bf16)) :
    View.canon
      (⟨Rect.unit ![0, 6144] ![256, 2048] inb_S256x8192_S256x2048_0_6144,
          k0_pay30 (k0_pay7 (iblk m c 1 t)) (iblk m c 0 t)
            (k0_pay18 (k0_pay9 (iblk m c 2 t) (iblk m c 3 t))
              (k0_pay11 (grid0.coords t) (iblk m c 2 t) (iblk m c 3 t) (iblk m c 5 t) (iblk m c 6 t))
              (k0_pay14 (iblk m c 10 t)) (k0_pay15 (iblk m c 10 t))
              (k0_pay16 (grid0.coords t) (iblk m c 2 t) (iblk m c 3 t) (iblk m c 5 t) (iblk m c 6 t) (iblk m c 10 t))
              (k0_pay17 (iblk m c 11 t)))
            (k0_pay19 (k0_pay8 (iblk m c 4 t))) (k0_pay20 (k0_pay8 (iblk m c 4 t)))⟩ ::
        ⟨Rect.unit ![0, 4096] ![256, 2048] inb_S256x8192_S256x2048_0_4096,
          k0_pay29 (k0_pay5 (iblk m c 2 t)) (k0_pay13 (iblk m c 10 t))
            (k0_pay23 (BitVec.ofNat 32 ↑(grid0.coords t 0)) (k0_pay7 (iblk m c 1 t)) (k0_pay8 (iblk m c 4 t))
              (iblk m c 0 t) (iblk m c 9 t) (iblk m c 7 t) (iblk m c 8 t))
            (k0_pay24 (k0_pay7 (iblk m c 1 t)) (k0_pay8 (iblk m c 4 t)) (iblk m c 0 t) (k0_pay15 (iblk m c 10 t)))
            (k0_pay25 (BitVec.ofNat 32 ↑(grid0.coords t 0)) (k0_pay7 (iblk m c 1 t)) (k0_pay8 (iblk m c 4 t))
              (iblk m c 0 t) (k0_pay14 (iblk m c 10 t)) (iblk m c 9 t) (iblk m c 7 t) (iblk m c 8 t))⟩ ::
        ⟨Rect.unit ![0, 2048] ![256, 2048] inb_S256x8192_S256x2048_0_2048,
          k0_pay28 (k0_pay6 (iblk m c 3 t)) (k0_pay13 (iblk m c 10 t))
            (k0_pay23 (BitVec.ofNat 32 ↑(grid0.coords t 0)) (k0_pay7 (iblk m c 1 t)) (k0_pay8 (iblk m c 4 t))
              (iblk m c 0 t) (iblk m c 9 t) (iblk m c 7 t) (iblk m c 8 t))
            (k0_pay24 (k0_pay7 (iblk m c 1 t)) (k0_pay8 (iblk m c 4 t)) (iblk m c 0 t) (k0_pay15 (iblk m c 10 t)))
            (k0_pay25 (BitVec.ofNat 32 ↑(grid0.coords t 0)) (k0_pay7 (iblk m c 1 t)) (k0_pay8 (iblk m c 4 t))
              (iblk m c 0 t) (k0_pay14 (iblk m c 10 t)) (iblk m c 9 t) (iblk m c 7 t) (iblk m c 8 t))⟩ ::
        ⟨Rect.unit ![0, 0] ![256, 2048] inb_S256x8192_S256x2048_0_0,
          k0_pay27 (iblk m c 0 t)
            (k0_pay18 (k0_pay9 (iblk m c 2 t) (iblk m c 3 t))
              (k0_pay11 (grid0.coords t) (iblk m c 2 t) (iblk m c 3 t) (iblk m c 5 t) (iblk m c 6 t))
              (k0_pay14 (iblk m c 10 t)) (k0_pay15 (iblk m c 10 t))
              (k0_pay16 (grid0.coords t) (iblk m c 2 t) (iblk m c 3 t) (iblk m c 5 t) (iblk m c 6 t) (iblk m c 10 t))
              (k0_pay17 (iblk m c 11 t)))
            (k0_pay20 (k0_pay8 (iblk m c 4 t)))⟩ :: L)
      (ix2 a e) = G0 (XX m c) (PP m c) (WW m c) (BB m c) (ix2 r e) := by
  have H := blocks m c t
  have hi := coord t
  rw [hi]
  have key : ∀ (k : Fin 4) (e' : Fin 2048), e.val = k.val * 2048 + e'.val →
      G0 (XX m c) (PP m c) (WW m c) (BB m c) (ix2 r e) = dP (XX m c) (PP m c) (WW m c) (BB m c) k r e' := by
    intro k e' h
    rw [← G0_col]
    exact congrArg (fun q => G0 (XX m c) (PP m c) (WW m c) (BB m c) (ix2 r q)) (Fin.ext h)
  rw [Rows.canon_band 6144 2048 (by decide)]
  split
  · rename_i h
    rw [key 3 ⟨e.val - 6144, by omega⟩ (by simp; omega)]
    exact out3_point H hi a _ r hr
  rename_i h3
  rw [Rows.canon_band 4096 2048 (by decide)]
  split
  · rename_i h
    rw [key 2 ⟨e.val - 4096, by omega⟩ (by simp; omega)]
    exact out2_point H a _ r hr
  rename_i h2
  rw [Rows.canon_band 2048 2048 (by decide)]
  split
  · rename_i h
    rw [key 1 ⟨e.val - 2048, by omega⟩ (by simp; omega)]
    exact out1_point H a _ r hr
  rename_i h1
  rw [Rows.canon_band 0 2048 (by decide), dif_pos (by omega), key 0 ⟨e.val - 0, by omega⟩ (by simp)]
  exact out0_point H hi a _ r hr

/-- The first result, from the blocks of its sixteen points. -/
theorem arr12 : (dats m 0 c).arrAt 12 cfg0.N = G0 (XX m c) (PP m c) (WW m c) (BB m c) := by
  refine (dats m 0 c).arrAt_eq_of_covers 12 _ (by decide +kernel) fun t hf y => ?_
  blk_simp
  rw [after0_12]
  have ey : y = ix2 (n0 := 256) (n1 := 8192) (y 0) (y 1) := eq_ix2 y
  have ht : t.val < 16 := t.isLt
  have h256 : (y 0).val < 256 := (y 0).isLt
  have eG : (((View.whole main_v0_0).slice (win0_12.rect t)).emb y)
      = ix2 (n0 := 4096) (n1 := 8192) ⟨256 * t.val + (y 0).val, by omega⟩ (y 1) := by
    blk_ext [idx12 t]
  have hA : t.val % 16 = 0 ∨ ¬ t.val % 16 = 0 := em _
  rw [eG]
  rcases hA with h | h
  · rw [outsAt0_A m c t h]
    frame_out
    exact (congrArg (View.canon _) ey).trans (bands m c t (y 0) (y 1) _ rfl [])
  · rw [outsAt0_B m c t h]
    frame_out
    exact (congrArg (View.canon _) ey).trans (bands m c t (y 0) (y 1) _ rfl [])

/-- A grid point's share of the taps' cotangent. -/
def part1 (t : Fin cfg0.N) : Arr 3 2048 := fun j =>
  ∑ x : Fin 256, dcE (XX m c) (PP m c) (256 * t.val + x.val) (j 1)
    * ucE (PP m c) (256 * t.val + x.val + (j 0).val) (j 1)

/-- A grid point's share of the bias's cotangent. -/
def part2 (t : Fin cfg0.N) : Arr 1 2048 := fun j =>
  ∑ x : Fin 256, dcE (XX m c) (PP m c) (256 * t.val + x.val) (j 1)

theorem part1_at (t : Fin cfg0.N) (a : Fin 3) (e : Fin 2048) (k : ℕ) (h : a.val = k) :
    part1 m c t (ix2 a e) = ∑ x : Fin 256, dcE (XX m c) (PP m c) (256 * t.val + x.val) e
      * ucE (PP m c) (256 * t.val + x.val + k) e := by subst h; rfl

/-- Every point after the first adds its share to the taps' cotangent. -/
theorem step13B (t : Fin cfg0.N) (h : ¬ t.val % 16 = 0) (j : S3x2048.Idx) :
    (outsAt0 m c t.val t.isLt).2.1 j
      = (outsAt0 m c (t.val - 1) (Nat.lt_of_le_of_lt (Nat.sub_le _ _) t.isLt)).2.1 j + part1 m c t j := by
  obtain ⟨a, e, rfl⟩ : ∃ (a : Fin 3) (e : Fin 2048), j = ix2 a e := ⟨j 0, j 1, eq_ix2 j⟩
  have H := blocks m c t
  have hi := coord t
  rw [outsAt0_B m c t h]
  frame_out
  rw [Rows.canon_row 2 (by decide), Rows.canon_row 1 (by decide), Rows.canon_row 0 (by decide)]
  have ha : a.val < 3 := a.isLt
  split
  · rename_i h2
    rw [tap2_point H, Rows.ld_row 2 (by decide), part1_at m c t a e 2 h2, show a = ⟨2, by decide⟩ from Fin.ext h2]
  split
  · rename_i h1
    rw [tap1_point H hi, Rows.ld_row 1 (by decide), part1_at m c t a e 1 h1, show a = ⟨1, by decide⟩ from Fin.ext h1]
  · rename_i h2 h1
    have h0 : a.val = 0 := by omega
    rw [if_pos h0, tap0_point H hi, Rows.ld_row 0 (by decide), part1_at m c t a e 0 h0,
      show a = ⟨0, by decide⟩ from Fin.ext h0]
    rfl

/-- The first point leaves its own share. -/
theorem step13A (t : Fin cfg0.N) (h : t.val % 16 = 0) (j : S3x2048.Idx) :
    (outsAt0 m c t.val t.isLt).2.1 j = (fun _ => (0 : EReal)) j + part1 m c t j := by
  obtain ⟨a, e, rfl⟩ : ∃ (a : Fin 3) (e : Fin 2048), j = ix2 a e := ⟨j 0, j 1, eq_ix2 j⟩
  have H := blocks m c t
  have hi := coord t
  have hz : ∀ (a : Fin 3) (e : Fin 2048), k0_pay3 (F := Ideal) (ix2 a e) = 0 := by
    intro a e
    pointwise [k0_pay3]
  rw [outsAt0_A m c t h]
  frame_out
  rw [Rows.canon_row 2 (by decide), Rows.canon_row 1 (by decide), Rows.canon_row 0 (by decide)]
  have ha : a.val < 3 := a.isLt
  split
  · rename_i h2
    rw [tap2_point H, Rows.readCov_row _ _ 2 (by decide), Rows.canon_row 1 (by decide), if_neg (by decide),
      Rows.canon_row 0 (by decide), if_neg (by decide), Rows.canon_whole, hz, part1_at m c t a e 2 h2]
  split
  · rename_i h1
    rw [tap1_point H hi, Rows.readCov_row _ _ 1 (by decide), Rows.canon_row 0 (by decide), if_neg (by decide),
      Rows.canon_whole, hz, part1_at m c t a e 1 h1]
  · rename_i h2 h1
    have h0 : a.val = 0 := by omega
    rw [if_pos h0, tap0_point H hi, Rows.readCov_row _ _ 0 (by decide), Rows.canon_whole, hz,
      part1_at m c t a e 0 h0]
    rfl

/-- Every point after the first adds its share to the bias's cotangent. -/
theorem step14B (t : Fin cfg0.N) (h : ¬ t.val % 16 = 0) (j : S1x2048.Idx) :
    (outsAt0 m c t.val t.isLt).2.2 j
      = (outsAt0 m c (t.val - 1) (Nat.lt_of_le_of_lt (Nat.sub_le _ _) t.isLt)).2.2 j + part2 m c t j := by
  obtain ⟨a, e, rfl⟩ : ∃ (a : Fin 1) (e : Fin 2048), j = ix2 a e := ⟨j 0, j 1, eq_ix2 j⟩
  rw [outsAt0_B m c t h]
  frame_out
  rw [bias_point (blocks m c t)]
  rfl

/-- The first point leaves its own share. -/
theorem step14A (t : Fin cfg0.N) (h : t.val % 16 = 0) (j : S1x2048.Idx) :
    (outsAt0 m c t.val t.isLt).2.2 j = (fun _ => (0 : EReal)) j + part2 m c t j := by
  obtain ⟨a, e, rfl⟩ : ∃ (a : Fin 1) (e : Fin 2048), j = ix2 a e := ⟨j 0, j 1, eq_ix2 j⟩
  rw [outsAt0_A m c t h]
  frame_out
  rw [bias_point (blocks m c t)]
  pointwise [k0_pay4]
  rfl

/-- The sixteen shares of 256 rows are all 4096 rows. -/
theorem sum_rows (f : ℕ → EReal) :
    ∑ p : Fin cfg0.N, ∑ x : Fin 256, f (256 * p.val + x.val) = ∑ r : Fin 4096, f r.val := by
  exact Fin.sum_mul_add_congr (S := 16) (n := 256) (L := 4096) (f := fun r : Fin 4096 => f r.val)
    fun s k _ => congrArg f (by show 256 * s.val + k.val = s.val * 256 + k.val; omega)

/-- The last grid point. -/
abbrev last : Fin cfg0.N := ⟨15, by decide⟩

/-- The taps' cotangent: the sum of the sixteen shares. -/
theorem arr13 : (dats m 0 c).arrAt 13 cfg0.N = G1 (XX m c) (PP m c) := by
  refine (dats m 0 c).arrAt_eq_of_after_last 13 last (by decide +kernel) _ fun j => ?_
  have e := Pipeline.eq_sum_fin_of_reset_step_apply_last (fun n h => (outsAt0 m c n h).2.1) 16 (fun _ => (0 : EReal))
    (part1 m c) (step13A m c) (step13B m c) (by decide) last rfl j
  have h2 := congrFun (after0_13 m c last) j
  refine Eq.trans ?_ ((h2.trans e).trans ?_)
  · blk_simp
  · have hs := sum_rows fun r => dcE (XX m c) (PP m c) r (j 1) * ucE (PP m c) (r + (j 0).val) (j 1)
    exact (zero_add _).trans hs

/-- The bias's. -/
theorem arr14 : (dats m 0 c).arrAt 14 cfg0.N = G2 (XX m c) (PP m c) := by
  refine (dats m 0 c).arrAt_eq_of_after_last 14 last (by decide +kernel) _ fun j => ?_
  have e := Pipeline.eq_sum_fin_of_reset_step_apply_last (fun n h => (outsAt0 m c n h).2.2) 16 (fun _ => (0 : EReal))
    (part2 m c) (step14A m c) (step14B m c) (by decide) last rfl j
  have h2 := congrFun (after0_14 m c last) j
  refine Eq.trans ?_ ((h2.trans e).trans ?_)
  · blk_simp
  · have hs := sum_rows fun r => dcE (XX m c) (PP m c) r (j 1)
    exact (zero_add _).trans hs

end Cert.Conv

end
-- ==== Proof.Reals.lean ====
/-
  Extended reals that are real numbers: what sums, products and the logistic function of them are.
-/
module

public import Idealize.ShloMosaic.PureOps
public import Idealize.ShloMosaic.PureOps.Ideal.Laws

@[expose] public section

noncomputable section

namespace Cert.Reals

open Idealize.ShloMosaic

/-- An extended real that is a real number. -/
def IsReal (x : EReal) : Prop := ∃ a : ℝ, x = (a : EReal)

theorem IsReal.zero : IsReal 0 := ⟨0, rfl⟩
theorem IsReal.one : IsReal 1 := ⟨1, rfl⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.sub {x y : EReal} (hx : IsReal x) (hy : IsReal y) : IsReal (x - y) := by
  obtain ⟨a, rfl⟩ := hx; obtain ⟨b, rfl⟩ := hy
  exact ⟨a - b, (EReal.coe_sub a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.sum {ι : Type*} (s : Finset ι) (f : ι → EReal) (h : ∀ i ∈ s, IsReal (f i)) : IsReal (∑ i ∈ s, f i) := by
  classical
  induction s using Finset.induction_on with
  | empty => exact .zero
  | insert a s ha ih =>
    rw [Finset.sum_insert ha]
    exact (h a (Finset.mem_insert_self a s)).add (ih fun i hi => h i (Finset.mem_insert_of_mem hi))

/-- The logistic quotient of a real number is one. -/
theorem IsReal.logistic {x : EReal} (hx : IsReal x) : IsReal (Ideal.div 1 (1 + Ideal.exp (-x))) := by
  obtain ⟨a, rfl⟩ := hx
  have hp : (1 + Real.exp (-a)) ≠ 0 := by positivity
  have e : (1 : EReal) + Ideal.exp (-(a : EReal)) = ((1 + Real.exp (-a) : ℝ) : EReal) := by
    rw [← EReal.coe_neg, Ideal.exp_coe, EReal.coe_add, EReal.coe_one]
  rw [e, Ideal.div_coe hp]
  exact IsReal.one.mul ⟨_, rfl⟩

/-- Multiplication by a real number is distributive over the sum of two real numbers. -/
theorem mul_add {x y z : EReal} (hx : IsReal x) (hy : IsReal y) (hz : IsReal z) : x * (y + z) = x * y + x * z := by
  obtain ⟨a, rfl⟩ := hx; obtain ⟨b, rfl⟩ := hy; obtain ⟨c, rfl⟩ := hz
  norm_cast
  ring

/-- A number whose absolute value is below `⊤` is real. -/
theorem isReal_of_abs_lt {x : EReal} (h : max x (-x) < ⊤) : IsReal x := by
  induction x with
  | bot => simp at h
  | top => simp at h
  | coe a => exact ⟨a, rfl⟩

end Cert.Reals

end
-- ==== Proof.ConvRef.lean ====
/-
  The reference's results are the functions of `Proof.ConvSpec` of its arguments.
-/
module

public import proofs.«01_k».proof.Proof.ConvSpec
public import proofs.«01_k».proof.Proof.Reals
public import proofs.«01_k».proof.Proof.Gen.ReferenceIdeal.Read

@[expose] public section

noncomputable section

namespace Cert.Conv.Ref

open Cert.ReferenceIdeal Cert.ReferenceIdeal.Gen Cert.ReferenceIdeal.Read Idealize.ShloMosaic
open Cert.Reals (IsReal)
open Cert.Conv (G0_col Arr sgm col ucE dcE cv du dP G0 G1 G2)

variable (x0 : (⟨S4096x2048, .f32⟩ : BufTy).Contents (Elt Ideal)) (x1 : (⟨S4096x8192, .bf16⟩ : BufTy).Contents (Elt Ideal))
  (x2 : (⟨S3x2048, .f32⟩ : BufTy).Contents (Elt Ideal)) (x3 : (⟨S1x2048, .f32⟩ : BufTy).Contents (Elt Ideal))

/-- The padded signal. -/
theorem v8 (e : Fin 4098) (c : Fin 2048) : val_main_v8 (F := Ideal) x1 (ix2 e c) = ucE x1 e.val c := by
  pointwise [val_main_v8, val_main_v7, val_main_v6, val_main_cst, val_main_v3, val_main_v4, val_main_v0]
  unfold ucE
  have he : e.val < 4098 := e.isLt
  by_cases h : e.val < 2
  · rw [dif_pos h, dif_neg (by omega)]
  · rw [dif_neg h, dif_pos (by omega)]
    rfl

/-- The convolution's output. -/
theorem v34 (r : Fin 4096) (c : Fin 2048) : val_main_v34 (F := Ideal) x1 x2 x3 (ix2 r c) = cv x1 x2 x3 r.val c := by
  pointwise [val_main_v34, val_main_v33, val_main_v32, val_main_v31, val_main_v30, val_main_v29, val_main_v28, val_main_v27, val_main_v26, val_main_v25,val_main_v24, val_main_v23, val_main_v22, val_main_v21, val_main_v20, val_main_v19, val_main_v18,val_main_v17,val_main_v16,val_main_v15,val_main_v14,val_main_v13,val_main_v12,val_main_v11,val_main_v10, val_main_cst_1, val_main_v1]
  rw [v8, v8, v8]
  unfold cv
  simp only [mul_comm (ucE x1 _ c), add_assoc, Nat.add_comm 1, Nat.add_comm 2]

/-- The cotangent of the convolution's output. -/
theorem v41 (r : Fin 4096) (c : Fin 2048) : val_main_v41 (F := Ideal) x0 x1 (ix2 r c) = dcE x0 x1 r.val c := by
  pointwise [val_main_v41, val_main_v39, val_main_v36_0, val_main_v36_2, val_main_call0_v0, val_main_call0_v1, val_main_call0_v2, val_main_call0_v3, val_main_call0_v4, val_main_call0_cst, val_main_call0_cst_0, val_main_v5, val_main_v2, val_main_v0]
  unfold dcE sgm
  rw [dif_pos r.isLt, zero_sub, mul_comm (x0 _) (x1 (ix2 _ (col 0 _ c))), mul_assoc (x1 _) (x0 _)]
  have e0 : (⟨c.val, by omega⟩ : Fin 8192) = col 0 (by decide) c := Fin.ext (by simp [col])
  have e3 : (⟨6144 + c.val, by omega⟩ : Fin 8192) = col 3 (by decide) c := Fin.ext (by simp [col])
  rw [e0, e3]

/-- The bias's cotangent. -/
theorem v83 (a : Fin 1) (c : Fin 2048) : val_main_v83 (F := Ideal) x0 x1 (ix2 a c) = G2 x0 x1 (ix2 a c) := by
  pointwise [val_main_v83, val_main_v45, val_main_v44, val_main_v43, val_main_cst_2, val_main_cst_3]
  simp only [Finset.univ_unique, Finset.sum_const, Finset.card_singleton, one_smul, v41]
  rfl

/-- The taps' cotangent. -/
theorem v74 (a : Fin 3) (c : Fin 2048) : val_main_v74 (F := Ideal) x0 x1 (ix2 a c) = G1 x0 x1 (ix2 a c) := by
  pointwise [val_main_v74, val_main_v73, val_main_v72,val_main_v71,val_main_cst_13,val_main_cst_14,val_main_v68,val_main_v67,val_main_v66,val_main_cst_12, val_main_v63,val_main_v62,val_main_v61,val_main_v60,val_main_v57, val_main_v56,val_main_v55,val_main_v53,val_main_v52,val_main_v51,val_main_v48,val_main_v47,val_main_v46,val_main_cst_4,val_main_cst_5,val_main_cst_6,val_main_cst_8,val_main_cst_9,val_main_cst_10]
  simp only [Finset.univ_unique, Finset.sum_const, Finset.card_singleton, one_smul, v41]
  have ha : a.val < 3 := a.isLt
  show _ = ∑ r : Fin 4096, dcE x0 x1 r.val c * ucE x1 (r.val + a.val) c
  have h10 : ∀ r : Fin 4096, val_main_v10 (F := Ideal) x1 (ix2 r c) = ucE x1 (r.val + 0) c := by
    intro r; pointwise [val_main_v10]; exact v8 x1 _ c
  have h18 : ∀ r : Fin 4096, val_main_v18 (F := Ideal) x1 (ix2 r c) = ucE x1 (r.val + 1) c := by
    intro r; pointwise [val_main_v18]; exact (v8 x1 _ c).trans (congrArg (ucE x1 · c) (Nat.add_comm 1 r.val))
  have h25 : ∀ r : Fin 4096, val_main_v25 (F := Ideal) x1 (ix2 r c) = ucE x1 (r.val + 2) c := by
    intro r; pointwise [val_main_v25]; exact (v8 x1 _ c).trans (congrArg (ucE x1 · c) (Nat.add_comm 2 r.val))
  obtain h | h | h : a.val = 0 ∨ a.val = 1 ∨ a.val = 2 := by omega
  · rw [dif_neg (by omega), dif_neg (by omega), dif_pos (by omega), h]
    simp only [h10, zero_add, mul_comm]
  · rw [dif_neg (by omega), dif_pos (by omega), dif_neg (by omega), h]
    simp only [h18, zero_add, add_zero, mul_comm]
  · rw [dif_pos (by omega), dif_neg (by omega), dif_neg (by omega), h]
    simp only [h25, add_zero, mul_comm]

/-- The cotangent of the convolved signal. -/
theorem v78 (r : Fin 4096) (c : Fin 2048) : val_main_v78 (F := Ideal) x0 x1 x2 (ix2 r c) = du x0 x1 x2 r.val c := by
  pointwise [val_main_v78, val_main_v76, val_main_v75, val_main_v70, val_main_v69, val_main_cst_15, val_main_v65, val_main_v64, val_main_v59, val_main_v58,val_main_cst_11,val_main_v54,val_main_v50,val_main_v49,val_main_cst_7, val_main_v28, val_main_v27, val_main_v26,  val_main_v21, val_main_v20, val_main_v19, val_main_v13,val_main_v12,val_main_v11]
  simp only [v41]
  have hr : r.val < 4096 := r.isLt
  unfold du
  have e1 : (if h : 1 ≤ 2 + r.val ∧ 2 + r.val - 1 < 4096 then dcE x0 x1 (2 + r.val - 1) c * x2 (ix2 1 c) else 0)
      = x2 (ix2 1 c) * dcE x0 x1 (r.val + 1) c := by
    split
    · rw [mul_comm, show 2 + r.val - 1 = r.val + 1 by omega]
    · unfold dcE
      rw [dif_neg (by omega), mul_zero]
  have e2 : (if h : 2 + r.val < 4096 then dcE x0 x1 (2 + r.val) c * x2 (ix2 0 c) else 0)
      = x2 (ix2 0 c) * dcE x0 x1 (r.val + 2) c := by
    split
    · rw [mul_comm, Nat.add_comm]
    · unfold dcE
      rw [dif_neg (by omega), mul_zero]
  rw [e1, e2, mul_comm (dcE x0 x1 r.val c)]

section
variable {x0 x1 x2 x3}
variable (h0 : ∀ i, IsReal (x0 i)) (h1 : ∀ i, IsReal (x1 i)) (h2 : ∀ i, IsReal (x2 i)) (h3 : ∀ i, IsReal (x3 i))
include h1

theorem ucE_real (e : ℕ) (c : Fin 2048) : IsReal (ucE x1 e c) := by
  unfold ucE
  split
  · exact (h1 _).mul (h1 _)
  · exact .zero

include h2 h3

theorem cv_real (r : ℕ) (c : Fin 2048) : IsReal (cv x1 x2 x3 r c) :=
  (((h3 _).add ((h2 _).mul (ucE_real h1 _ c))).add ((h2 _).mul (ucE_real h1 _ c))).add ((h2 _).mul (ucE_real h1 _ c))

include h0

/-- The projected activations' cotangent, all four groups. The last group is where the numbers must be real: the
    reference adds two products, the kernel multiplies by a sum. -/
theorem v82 (r : Fin 4096) (c : Fin 8192) : val_main_v82 (F := Ideal) x0 x1 x2 x3 (ix2 r c) = G0 x0 x1 x2 x3 (ix2 r c) := by
  pointwise [val_main_v82, val_main_v81, val_main_v80, val_main_v79, val_main_v42, val_main_v40, val_main_call1_v0,
    val_main_call1_v1, val_main_call1_v2, val_main_v38, val_main_v37, val_main_v35, val_main_v39, val_main_v36_0,
    val_main_v36_1, val_main_v36_2, val_main_call0_v0, val_main_call0_v1, val_main_call0_v2, val_main_call0_v3,
    val_main_call0_v4, val_main_call0_v6, val_main_call0_v7, val_main_call0_cst, val_main_call0_cst_0,
    val_main_call0_cst_1, val_main_v5, val_main_v2, val_main_v0, val_main_v3, val_main_v4]
  have hc : c.val < 8192 := c.isLt
  have key : ∀ (k : Fin 4) (e' : Fin 2048), c.val = k.val * 2048 + e'.val →
      G0 x0 x1 x2 x3 (ix2 r c) = dP x0 x1 x2 x3 k r e' := by
    intro k e' h
    rw [← G0_col]
    exact congrArg (fun q => G0 x0 x1 x2 x3 (ix2 r q)) (Fin.ext h)
  have c0 : ∀ (e : Fin 2048) (q : Fin 8192), q.val = e.val → q = col 0 (by decide) e :=
    fun e q h => Fin.ext (by simp only [col]; omega)
  have c1 : ∀ (e : Fin 2048) (q : Fin 8192), q.val = 2048 + e.val → q = col 1 (by decide) e :=
    fun e q h => Fin.ext (by simp only [col]; omega)
  have c2 : ∀ (e : Fin 2048) (q : Fin 8192), q.val = 4096 + e.val → q = col 2 (by decide) e :=
    fun e q h => Fin.ext (by simp only [col]; omega)
  have c3 : ∀ (e : Fin 2048) (q : Fin 8192), q.val = 6144 + e.val → q = col 3 (by decide) e :=
    fun e q h => Fin.ext (by simp only [col]; omega)
  have es : ∀ g : EReal, Ideal.div 1 (1 + Ideal.exp (-g)) = sgm g := fun g => by unfold sgm; rw [zero_sub]
  have hs : ∀ g : EReal, IsReal g → IsReal (sgm g) := fun g h => es g ▸ h.logistic
  split
  · rename_i h
    rw [key 0 ⟨c.val, h⟩ (by simp), c3 ⟨c.val, h⟩ ⟨6144 + c.val, by omega⟩ rfl, v34, es]
    exact mul_right_comm _ _ _
  rename_i n0
  split
  · rename_i h
    rw [key 1 ⟨c.val - 2048, h⟩ (by simp; omega), c2 ⟨c.val - 2048, h⟩ ⟨4096 + (c.val - 2048), by omega⟩ rfl, v78]
    rfl
  rename_i n1
  split
  · rename_i h
    rw [key 2 ⟨c.val - 2048 - 2048, h⟩ (by simp; omega), c1 ⟨c.val - 2048 - 2048, h⟩ ⟨2048 + (c.val - 2048 - 2048), by omega⟩ rfl, v78]
    exact mul_comm _ _
  rename_i n2
  have h : c.val - 2048 - 2048 - 2048 < 2048 := by omega
  rw [key 3 ⟨c.val - 2048 - 2048 - 2048, h⟩ (by simp; omega), c0 ⟨c.val - 2048 - 2048 - 2048, h⟩ ⟨c.val - 2048 - 2048 - 2048, by omega⟩ rfl,
    c3 ⟨c.val - 2048 - 2048 - 2048, h⟩ ⟨6144 + (c.val - 2048 - 2048 - 2048), by omega⟩ rfl, v34, es]
  generalize (⟨c.val - 2048 - 2048 - 2048, h⟩ : Fin 2048) = e
  show _ = x0 (ix2 r e) * x1 (ix2 r (col 0 (by decide) e)) * cv x1 x2 x3 r e
    * (sgm (x1 (ix2 r (col 3 (by decide) e))) + x1 (ix2 r (col 3 (by decide) e)) * sgm (x1 (ix2 r (col 3 (by decide) e)))
      * (1 - sgm (x1 (ix2 r (col 3 (by decide) e)))))
  have hg := h1 (ix2 r (col 3 (by decide) e))
  have hb := h1 (ix2 r (col 0 (by decide) e))
  have hv := cv_real h1 h2 h3 r.val e
  have hx := h0 (ix2 r e)
  have hsg := hs _ hg
  generalize x1 (ix2 r (col 3 (by decide) e)) = g at *
  generalize x1 (ix2 r (col 0 (by decide) e)) = b at *
  generalize cv x1 x2 x3 r.val e = v at *
  generalize x0 (ix2 r e) = x at *
  generalize sgm g = s at *
  rw [Reals.mul_add ((hx.mul hb).mul hv) hsg ((hg.mul hsg).mul (IsReal.one.sub hsg))]
  ac_rfl

end

end Cert.Conv.Ref

end
-- ==== Proof.ConvClaim.lean ====
/-
  The convolution's gradient: the kernel and the reference leave equal results where every argument entry is a
  finite number.
-/
module

public import proofs.«01_k».proof.Defs
public import proofs.«01_k».proof.Proof.ConvArray
public import proofs.«01_k».proof.Proof.ConvRef
public import proofs.«01_k».proof.Proof.Gen.Pre_finite
public import proofs.«01_k».proof.Proof.Gen.KernelIdeal
public import proofs.«01_k».proof.Proof.Gen.ReferenceIdeal
public import Idealize.ShloMosaic.Lib.ReduceAll

@[expose] public section

noncomputable section

namespace Cert.Conv

open Idealize.ShloMosaic Idealize.SL.Sem
open Cert.Reals (IsReal isReal_of_abs_lt)

/-- One comparison of the printed condition: an absolute value below the largest extended real is a real number's. -/
theorem real_of_cmp (x : EReal)
    (h : Ideal.cmp .olt (max x (-x)) (Ideal.ofBits .f32 0x7F800000#32) = 1#1) : IsReal x := by
  have ht : Ideal.ofBits .f32 0x7F800000#32 = ⊤ := by simp [Ideal.ofBits, Ideal.ieee]
  rw [ht] at h
  refine isReal_of_abs_lt ?_
  by_contra hn
  simp [Ideal.cmp, hn] at h

/-- The printed condition, read at every index of every argument. -/
theorem real_of_pre (x0 : Arr 4096 2048) (x1 : Arr 4096 8192) (x2 : Arr 3 2048) (x3 : Arr 1 2048)
    (h : Cert.Pre_finite.fn (F := Ideal) x0 x1 x2 x3 = fun _ => 1#1) :
    (∀ i, IsReal (x0 i)) ∧ (∀ i, IsReal (x1 i)) ∧ (∀ i, IsReal (x2 i)) ∧ ∀ i, IsReal (x3 i) := by
  have h := congrFun h ix0
  dsimp only [Cert.Pre_finite.fn, Cert.Pre_finite.fn_part1] at h
  obtain ⟨h, h3⟩ := IntOp.andi_eq_one.1 h
  obtain ⟨h, h2⟩ := IntOp.andi_eq_one.1 h
  obtain ⟨h0, h1⟩ := IntOp.andi_eq_one.1 h
  exact ⟨fun i => real_of_cmp _ (Host.reduce_andi_all _ _ _ _ _ h0 i),
    fun i => real_of_cmp _ (Host.reduce_andi_all _ _ _ _ _ h1 i),
    fun i => real_of_cmp _ (Host.reduce_andi_all _ _ _ _ _ h2 i),
    fun i => real_of_cmp _ (Host.reduce_andi_all _ _ _ _ _ h3 i)⟩

/-- The reference's frame: its run leaves its arguments alone, and it has no counter. -/
theorem ref_frame : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- Equal results. -/
theorem algebraic : Cert.algebraic_KernelIdeal_ReferenceIdeal_pre_finite := by
  intro m g m' g' hpre hag
  refine ⟨fun c => G0 (XX m c) (PP m c) (WW m c) (BB m c), fun c => G1 (XX m c) (PP m c),
    fun c => G2 (XX m c) (PP m c), ?_, ?_⟩
  · refine (θ_run Cert.KernelIdeal.defs _ _).mono (fun r h c => ?_) (Cert.KernelIdeal.Value.run_blocks (F := Ideal) m g)
    obtain ⟨r0, r1, r2, ra⟩ := h c
    exact ⟨r0.trans (arr12 m c), r1.trans (arr13 m c), r2.trans (arr14 m c), ra⟩
  · refine (θ_run Cert.ReferenceIdeal.defs _ _).mono (fun r h c => ?_) (Cert.ReferenceIdeal.Value.run (F := Ideal) m' g')
    obtain ⟨r0, r1, r2, ra⟩ := h c
    obtain ⟨p0, p1, p2, p3⟩ := real_of_pre _ _ _ _ (hpre c)
    obtain ⟨e0, e1, e2, e3⟩ := hag c
    refine ⟨(r0.trans (Cert.ReferenceIdeal.Read.val_main_v82_eq m' c)).trans ?_,
      (r1.trans (Cert.ReferenceIdeal.Read.val_main_v74_eq m' c)).trans ?_,
      (r2.trans (Cert.ReferenceIdeal.Read.val_main_v83_eq _ _)).trans ?_, ra⟩
    · rw [e0, e1, e2, e3]
      funext i
      obtain ⟨a, b, rfl⟩ : ∃ (a : Fin 4096) (b : Fin 8192), i = ix2 a b := ⟨i 0, i 1, eq_ix2 i⟩
      exact Ref.v82 p0 p1 p2 p3 a b
    · rw [e0, e1]
      funext i
      obtain ⟨a, b, rfl⟩ : ∃ (a : Fin 3) (b : Fin 2048), i = ix2 a b := ⟨i 0, i 1, eq_ix2 i⟩
      exact Ref.v74 _ _ a b
    · rw [e0, e1]
      funext i
      obtain ⟨a, b, rfl⟩ : ∃ (a : Fin 1) (b : Fin 2048), i = ix2 a b := ⟨i 0, i 1, eq_ix2 i⟩
      exact Ref.v83 _ _ a b

end Cert.Conv

end
-- ==== Proof.NormSpec.lean ====
/-
  The gradient of the second layer's input (projection, modulated norm, residual and gate) as functions of the argument
  arrays: what the kernel and the reference both leave.
-/
module

public import Idealize.ShloMosaic.PureOps
public import Idealize.ShloMosaic.Lib.Pointwise
public import Idealize.ShloMosaic.Lib.Pipeline.ValueKit.Point

@[expose] public section

noncomputable section

namespace Cert.Norm

open Idealize.ShloMosaic

abbrev A2 (n w : ℕ) : Type := (⟨2, ![n, w]⟩ : Shape).Idx → EReal
abbrev A3 (q n w : ℕ) : Type := (⟨3, ![q, n, w]⟩ : Shape).Idx → EReal

/-- The number 1024 and the norm's small constant, as the programs print them. -/
abbrev k1024 : EReal := Ideal.ofBits FTy.f32 1149239296#32
abbrev keps : EReal := Ideal.ofBits FTy.f32 897988541#32

/-- The cotangent of the projection's operand: row `r` of the cotangent with row `a` of the weight, the weight's columns
    lying in eight shards of 1024. -/
def dh (P : A2 4096 8192) (W : A3 8 1024 1024) (r : Fin 4096) (a : Fin 1024) : EReal :=
  ∑ e : Fin 8192, P (ix2 r e) * W (ix3 ⟨e.val / 1024, by omega⟩ a ⟨e.val % 1024, Nat.mod_lt _ (by decide)⟩)

/-- The reciprocal root of a row's mean square. -/
def rs (X : A2 4096 1024) (r : Fin 4096) : EReal :=
  Ideal.rsqrt (Ideal.div (∑ a : Fin 1024, X (ix2 r a) * X (ix2 r a)) k1024 + keps)

/-- The normed row. -/
def xn (X : A2 4096 1024) (r : Fin 4096) (a : Fin 1024) : EReal := X (ix2 r a) * rs X r

/-- The cotangent of the norm's input, added to the one that comes down the residual. -/
def dx (P : A2 4096 8192) (W : A3 8 1024 1024) (X Y : A2 4096 1024) (g s : A2 1 1024) (r : Fin 4096) (a : Fin 1024) : EReal :=
  Y (ix2 r a) + rs X r * (dh P W r a * (1 + s (ix2 0 a)) * g (ix2 0 a)
    - xn X r a * Ideal.div (∑ b : Fin 1024, dh P W r b * (1 + s (ix2 0 b)) * g (ix2 0 b) * xn X r b) k1024)

/-- The six results. -/
def G8 (P : A2 4096 8192) (W : A3 8 1024 1024) (X Y : A2 4096 1024) (g s : A2 1 1024) : A2 4096 1024 :=
  fun i => dx P W X Y g s (i 0) (i 1)
def G9 (P : A2 4096 8192) (W : A3 8 1024 1024) : A2 1 1024 := fun i => ∑ r : Fin 4096, dh P W r (i 1)
def G10 (P : A2 4096 8192) (W : A3 8 1024 1024) (X : A2 4096 1024) (g : A2 1 1024) : A2 1 1024 :=
  fun i => ∑ r : Fin 4096, dh P W r (i 1) * (xn X r (i 1) * g (ix2 0 (i 1)))
def G11 (P : A2 4096 8192) (W : A3 8 1024 1024) (X : A2 4096 1024) (s : A2 1 1024) : A2 1 1024 :=
  fun i => ∑ r : Fin 4096, dh P W r (i 1) * (1 + s (ix2 0 (i 1))) * xn X r (i 1)
def G12 (P : A2 4096 8192) (W : A3 8 1024 1024) (X Y : A2 4096 1024) (g s q : A2 1 1024) : A2 4096 1024 :=
  fun i => dx P W X Y g s (i 0) (i 1) * (1 + q (ix2 0 (i 1)))
def G13 (P : A2 4096 8192) (W : A3 8 1024 1024) (X Y : A2 4096 1024) (g s : A2 1 1024) (o : A2 4096 1024) : A2 1 1024 :=
  fun i => ∑ r : Fin 4096, dx P W X Y g s r (i 1) * o (ix2 r (i 1))

/-- The eight shards' products, added in the order of the shards, are the whole product. -/
theorem dh_shards (P : A2 4096 8192) (W : A3 8 1024 1024) (r : Fin 4096) (a : Fin 1024) (p : Fin 8 → EReal)
    (hp : ∀ s : Fin 8, p s = ∑ k : Fin 1024, P (ix2 r ⟨1024 * s.val + k.val, by omega⟩) * W (ix3 s a k)) :
    p 0 + p 1 + p 2 + p 3 + p 4 + p 5 + p 6 + p 7 = dh P W r a := by
  rw [← Fin.sum_univ_eight]
  simp only [hp]
  refine Fin.sum_mul_add_congr (S := 8) (n := 1024) (L := 8192)
    (f := fun e : Fin 8192 => P (ix2 r e) * W (ix3 ⟨e.val / 1024, by omega⟩ a ⟨e.val % 1024, Nat.mod_lt _ (by decide)⟩))
    fun s k h => ?_
  have hk : k.val < 1024 := k.isLt
  have h0 : (⟨1024 * s.val + k.val, by omega⟩ : Fin 8192) = ⟨s.val * 1024 + k.val, h⟩ := Fin.ext (by show 1024 * s.val + k.val = s.val * 1024 + k.val; omega)
  have h1 : (⟨(s.val * 1024 + k.val) / 1024, by omega⟩ : Fin 8) = s := Fin.ext (by show (s.val * 1024 + k.val) / 1024 = s.val; omega)
  have h2 : (⟨(s.val * 1024 + k.val) % 1024, Nat.mod_lt _ (by decide)⟩ : Fin 1024) = k := Fin.ext (by show (s.val * 1024 + k.val) % 1024 = k.val; omega)
  exact congrArg₂ (· * ·) (congrArg P (congrArg (ix2 r) h0)) (by rw [h1, h2])

end Cert.Norm

end
-- ==== Proof.NormArray.lean ====
/-
  The six result arrays of the kernel, after its run of 16 grid points, are the functions of `Proof.NormSpec` of the
  argument arrays.
-/
module

public import proofs.«01_k».proof.Proof.NormSpec
public import proofs.«01_k».proof.Proof.Rows
public import proofs.«01_k».proof.Proof.Gen.NormBwdIdeal.Value

@[expose] public section

noncomputable section

namespace Cert.Norm

open Cert.NormBwdIdeal Cert.NormBwdIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The arguments: the cotangent of the projection, the weight's shards, the norm's input, the cotangent that comes down
    the residual, the norm's gain, its scale, the gated output and the gate. -/
abbrev PP : A2 4096 8192 := m ((c : Thread nD τ).loc main_arg0)
abbrev WW : A3 8 1024 1024 := m ((c : Thread nD τ).loc main_arg1)
abbrev XX : A2 4096 1024 := m ((c : Thread nD τ).loc main_arg2)
abbrev YY : A2 4096 1024 := m ((c : Thread nD τ).loc main_arg3)
abbrev gg : A2 1 1024 := m ((c : Thread nD τ).loc main_arg4)
abbrev ss : A2 1 1024 := m ((c : Thread nD τ).loc main_arg5)
abbrev OO : A2 4096 1024 := m ((c : Thread nD τ).loc main_arg6)
abbrev qq : A2 1 1024 := m ((c : Thread nD τ).loc main_arg7)

theorem idx0 : ∀ t : Fin grid0.N, win0_0.index t = ![t.val, 0] := by decide +kernel
theorem idx1 : ∀ t : Fin grid0.N, win0_1.index t = ![0, 0, 0] := by decide +kernel
theorem idx2 : ∀ t : Fin grid0.N, win0_2.index t = ![t.val, 0] := by decide +kernel
theorem idx3 : ∀ t : Fin grid0.N, win0_3.index t = ![t.val, 0] := by decide +kernel
theorem idx4 : ∀ t : Fin grid0.N, win0_4.index t = ![0, 0] := by decide +kernel
theorem idx5 : ∀ t : Fin grid0.N, win0_5.index t = ![0, 0] := by decide +kernel
theorem idx6 : ∀ t : Fin grid0.N, win0_6.index t = ![t.val, 0] := by decide +kernel
theorem idx7 : ∀ t : Fin grid0.N, win0_7.index t = ![0, 0] := by decide +kernel
theorem idx8 : ∀ t : Fin grid0.N, win0_8.index t = ![t.val, 0] := by decide +kernel
theorem idx12 : ∀ t : Fin grid0.N, win0_12.index t = ![t.val, 0] := by decide +kernel

/-- Row `a` of the block of grid point `t`. -/
abbrev row (t : Fin cfg0.N) (a : Fin 256) : Fin 4096 := ⟨256 * t.val + a.val, by
  have ht : t.val < 16 := t.isLt
  omega⟩

theorem b0 (t : Fin cfg0.N) (a : Fin 256) (e : Fin 8192) : iblk m c 0 t (ix2 a e) = PP m c (ix2 (row t a) e) := by
  blk_ext [iblk, V, idx0 t]
theorem b1 (t : Fin cfg0.N) (s : Fin 8) (a k : Fin 1024) : iblk m c 1 t (ix3 s a k) = WW m c (ix3 s a k) := by
  blk_ext [iblk, V, idx1 t]
theorem b2 (t : Fin cfg0.N) (a : Fin 256) (e : Fin 1024) : iblk m c 2 t (ix2 a e) = XX m c (ix2 (row t a) e) := by
  blk_ext [iblk, V, idx2 t]
theorem b3 (t : Fin cfg0.N) (a : Fin 256) (e : Fin 1024) : iblk m c 3 t (ix2 a e) = YY m c (ix2 (row t a) e) := by
  blk_ext [iblk, V, idx3 t]
theorem b4 (t : Fin cfg0.N) (z : Fin 1) (e : Fin 1024) : iblk m c 4 t (ix2 z e) = gg m c (ix2 z e) := by
  blk_ext [iblk, V, idx4 t]
theorem b5 (t : Fin cfg0.N) (z : Fin 1) (e : Fin 1024) : iblk m c 5 t (ix2 z e) = ss m c (ix2 z e) := by
  blk_ext [iblk, V, idx5 t]
theorem b6 (t : Fin cfg0.N) (a : Fin 256) (e : Fin 1024) : iblk m c 6 t (ix2 a e) = OO m c (ix2 (row t a) e) := by
  blk_ext [iblk, V, idx6 t]
theorem b7 (t : Fin cfg0.N) (z : Fin 1) (e : Fin 1024) : iblk m c 7 t (ix2 z e) = qq m c (ix2 z e) := by
  blk_ext [iblk, V, idx7 t]

/-- One band of columns of the first block. -/
theorem band (t : Fin cfg0.N) (s : ℕ) (hs : s < 8) (o : ℕ) (ho : o = 1024 * s) (inb) (a : Fin 256) (k : Fin 1024) :
    View.ld (iblk m c 0 t) (Rect.unit (s := S256x8192) ![0, o] ![256, 1024] inb) (ix2 (n0 := 256) (n1 := 1024) a k)
      = PP m c (ix2 (row t a) ⟨1024 * s + k.val, by omega⟩) := by
  subst ho
  refine Eq.trans ?_ (b0 m c t a ⟨1024 * s + k.val, by omega⟩)
  show iblk m c 0 t _ = iblk m c 0 t _
  congr 1
  funext d
  match d with
  | ⟨0, _⟩ => exact Fin.ext (by show 0 + 1 * a.val = a.val; omega)
  | ⟨1, _⟩ => exact Fin.ext (by show 1024 * s + 1 * k.val = 1024 * s + k.val; omega)

/-- One shard of the weight. -/
theorem shard (t : Fin cfg0.N) (s : ℕ) (hs : s < 8) (inb) (z : Fin 1) (a k : Fin 1024) :
    View.ld (iblk m c 1 t) (Rect.unit (s := S8x1024x1024) ![s, 0, 0] ![1, 1024, 1024] inb) (ix3 (n0 := 1) (n1 := 1024) (n2 := 1024) z a k)
      = WW m c (ix3 ⟨s, hs⟩ a k) :=
  (Rows.ld_slice s hs inb _ z a k).trans (b1 m c t _ _ _)

/-- The kernel's cotangent of the projection's operand, as its text nests it. -/
abbrev VD (t : Fin cfg0.N) : S256x1024.Idx → EReal :=
  k0_pay9 (F := Ideal)
    (k0_pay7 (View.ld (iblk m c 0 t) (Rect.unit ![0, 0] ![256, 1024] inb_S256x8192_S256x1024_0_0))
      (View.ld (iblk m c 1 t) (Rect.unit ![0, 0, 0] ![1, 1024, 1024] inb_S8x1024x1024_S1x1024x1024_0_0_0))
      (View.ld (iblk m c 0 t) (Rect.unit ![0, 1024] ![256, 1024] inb_S256x8192_S256x1024_0_1024))
      (View.ld (iblk m c 1 t) (Rect.unit ![1, 0, 0] ![1, 1024, 1024] inb_S8x1024x1024_S1x1024x1024_1_0_0))
      (View.ld (iblk m c 0 t) (Rect.unit ![0, 2048] ![256, 1024] inb_S256x8192_S256x1024_0_2048))
      (View.ld (iblk m c 1 t) (Rect.unit ![2, 0, 0] ![1, 1024, 1024] inb_S8x1024x1024_S1x1024x1024_2_0_0))
      (View.ld (iblk m c 0 t) (Rect.unit ![0, 3072] ![256, 1024] inb_S256x8192_S256x1024_0_3072))
      (View.ld (iblk m c 1 t) (Rect.unit ![3, 0, 0] ![1, 1024, 1024] inb_S8x1024x1024_S1x1024x1024_3_0_0)))
    (k0_pay8 (View.ld (iblk m c 0 t) (Rect.unit ![0, 4096] ![256, 1024] inb_S256x8192_S256x1024_0_4096))
      (View.ld (iblk m c 1 t) (Rect.unit ![4, 0, 0] ![1, 1024, 1024] inb_S8x1024x1024_S1x1024x1024_4_0_0)))
    (View.ld (iblk m c 0 t) (Rect.unit ![0, 5120] ![256, 1024] inb_S256x8192_S256x1024_0_5120))
    (View.ld (iblk m c 1 t) (Rect.unit ![5, 0, 0] ![1, 1024, 1024] inb_S8x1024x1024_S1x1024x1024_5_0_0))
    (View.ld (iblk m c 0 t) (Rect.unit ![0, 6144] ![256, 1024] inb_S256x8192_S256x1024_0_6144))
    (View.ld (iblk m c 1 t) (Rect.unit ![6, 0, 0] ![1, 1024, 1024] inb_S8x1024x1024_S1x1024x1024_6_0_0))
    (View.ld (iblk m c 0 t) (Rect.unit ![0, 7168] ![256, 1024] inb_S256x8192_S256x1024_0_7168))
    (View.ld (iblk m c 1 t) (Rect.unit ![7, 0, 0] ![1, 1024, 1024] inb_S8x1024x1024_S1x1024x1024_7_0_0))

theorem vd_nest (p0 p1 p2 p3 p4 p5 p6 p7 : S256x1024.Idx → EReal) (w0 w1 w2 w3 w4 w5 w6 w7 : S1x1024x1024.Idx → EReal)
    (a : Fin 256) (b : Fin 1024) :
    k0_pay9 (F := Ideal) (k0_pay7 p0 w0 p1 w1 p2 w2 p3 w3) (k0_pay8 p4 w4) p5 w5 p6 w6 p7 w7 (ix2 a b)
      = ∑ k, p0 (ix2 a k) * w0 (ix3 0 b k) + ∑ k, p1 (ix2 a k) * w1 (ix3 0 b k) + ∑ k, p2 (ix2 a k) * w2 (ix3 0 b k)
        + ∑ k, p3 (ix2 a k) * w3 (ix3 0 b k) + ∑ k, p4 (ix2 a k) * w4 (ix3 0 b k) + ∑ k, p5 (ix2 a k) * w5 (ix3 0 b k)
        + ∑ k, p6 (ix2 a k) * w6 (ix3 0 b k) + ∑ k, p7 (ix2 a k) * w7 (ix3 0 b k) := by
  pointwise [k0_pay9, k0_pay7, k0_pay8]

/-- One shard's product. -/
def shardProd (P : A2 4096 8192) (W : A3 8 1024 1024) (r : Fin 4096) (a : Fin 1024) (s : Fin 8) : EReal :=
  ∑ k : Fin 1024, P (ix2 r ⟨1024 * s.val + k.val, by omega⟩) * W (ix3 s a k)

theorem add8 {a0 a1 a2 a3 a4 a5 a6 a7 b0 b1 b2 b3 b4 b5 b6 b7 : EReal} (h0 : a0 = b0) (h1 : a1 = b1) (h2 : a2 = b2) (h3 : a3 = b3)
    (h4 : a4 = b4) (h5 : a5 = b5) (h6 : a6 = b6) (h7 : a7 = b7) :
    a0 + a1 + a2 + a3 + a4 + a5 + a6 + a7 = b0 + b1 + b2 + b3 + b4 + b5 + b6 + b7 := by
  subst h0 h1 h2 h3 h4 h5 h6 h7
  rfl

theorem shard_of {P : A2 4096 8192} {W : A3 8 1024 1024} {r : Fin 4096} {b : Fin 1024} (s : Fin 8) {f g : Fin 1024 → EReal}
    (hf : ∀ k : Fin 1024, f k = P (ix2 r ⟨1024 * s.val + k.val, by omega⟩)) (hg : ∀ k : Fin 1024, g k = W (ix3 s b k)) :
    ∑ k, f k * g k = shardProd P W r b s :=
  Finset.sum_congr rfl fun k _ => congrArg₂ (fun u v : EReal => u * v) (hf k) (hg k)

theorem vd_of {P : A2 4096 8192} {W : A3 8 1024 1024} {r : Fin 4096} {a : Fin 256} {b : Fin 1024}
    {p0 p1 p2 p3 p4 p5 p6 p7 : S256x1024.Idx → EReal} {w0 w1 w2 w3 w4 w5 w6 w7 : S1x1024x1024.Idx → EReal}
    (hp0 : ∀ k : Fin 1024, p0 (ix2 a k) = P (ix2 r ⟨1024 * 0 + k.val, by omega⟩)) (hw0 : ∀ k : Fin 1024, w0 (ix3 0 b k) = W (ix3 0 b k))
    (hp1 : ∀ k : Fin 1024, p1 (ix2 a k) = P (ix2 r ⟨1024 * 1 + k.val, by omega⟩)) (hw1 : ∀ k : Fin 1024, w1 (ix3 0 b k) = W (ix3 1 b k))
    (hp2 : ∀ k : Fin 1024, p2 (ix2 a k) = P (ix2 r ⟨1024 * 2 + k.val, by omega⟩)) (hw2 : ∀ k : Fin 1024, w2 (ix3 0 b k) = W (ix3 2 b k))
    (hp3 : ∀ k : Fin 1024, p3 (ix2 a k) = P (ix2 r ⟨1024 * 3 + k.val, by omega⟩)) (hw3 : ∀ k : Fin 1024, w3 (ix3 0 b k) = W (ix3 3 b k))
    (hp4 : ∀ k : Fin 1024, p4 (ix2 a k) = P (ix2 r ⟨1024 * 4 + k.val, by omega⟩)) (hw4 : ∀ k : Fin 1024, w4 (ix3 0 b k) = W (ix3 4 b k))
    (hp5 : ∀ k : Fin 1024, p5 (ix2 a k) = P (ix2 r ⟨1024 * 5 + k.val, by omega⟩)) (hw5 : ∀ k : Fin 1024, w5 (ix3 0 b k) = W (ix3 5 b k))
    (hp6 : ∀ k : Fin 1024, p6 (ix2 a k) = P (ix2 r ⟨1024 * 6 + k.val, by omega⟩)) (hw6 : ∀ k : Fin 1024, w6 (ix3 0 b k) = W (ix3 6 b k))
    (hp7 : ∀ k : Fin 1024, p7 (ix2 a k) = P (ix2 r ⟨1024 * 7 + k.val, by omega⟩)) (hw7 : ∀ k : Fin 1024, w7 (ix3 0 b k) = W (ix3 7 b k)) :
    k0_pay9 (F := Ideal) (k0_pay7 p0 w0 p1 w1 p2 w2 p3 w3) (k0_pay8 p4 w4) p5 w5 p6 w6 p7 w7 (ix2 a b) = dh P W r b :=
  (vd_nest _ _ _ _ _ _ _ _ _ _ _ _ _ _ _ _ a b).trans
    ((add8 (shard_of 0 hp0 hw0) (shard_of 1 hp1 hw1) (shard_of 2 hp2 hw2) (shard_of 3 hp3 hw3) (shard_of 4 hp4 hw4) (shard_of 5 hp5 hw5) (shard_of 6 hp6 hw6) (shard_of 7 hp7 hw7)).trans
      (dh_shards P W r b (shardProd P W r b) fun _ => rfl))

theorem vd_at (t : Fin cfg0.N) (a : Fin 256) (b : Fin 1024) : VD m c t (ix2 a b) = dh (PP m c) (WW m c) (row t a) b :=
  vd_of
    (fun k => band m c t 0 (by decide) 0 rfl _ a k) (fun k => shard m c t 0 (by decide) _ 0 b k)
    (fun k => band m c t 1 (by decide) 1024 rfl _ a k) (fun k => shard m c t 1 (by decide) _ 0 b k)
    (fun k => band m c t 2 (by decide) 2048 rfl _ a k) (fun k => shard m c t 2 (by decide) _ 0 b k)
    (fun k => band m c t 3 (by decide) 3072 rfl _ a k) (fun k => shard m c t 3 (by decide) _ 0 b k)
    (fun k => band m c t 4 (by decide) 4096 rfl _ a k) (fun k => shard m c t 4 (by decide) _ 0 b k)
    (fun k => band m c t 5 (by decide) 5120 rfl _ a k) (fun k => shard m c t 5 (by decide) _ 0 b k)
    (fun k => band m c t 6 (by decide) 6144 rfl _ a k) (fun k => shard m c t 6 (by decide) _ 0 b k)
    (fun k => band m c t 7 (by decide) 7168 rfl _ a k) (fun k => shard m c t 7 (by decide) _ 0 b k)

/-- The reciprocal root of a row, and the normed row. -/
theorem rs_at (t : Fin cfg0.N) (a : Fin 256) (z : Fin 1) : k0_pay10 (F := Ideal) (iblk m c 2 t) (ix2 a z) = rs (XX m c) (row t a) := by
  have e : ∀ x : S256x1024.Idx → EReal, k0_pay10 (F := Ideal) x (ix2 a z)
      = Ideal.rsqrt (Ideal.div (∑ b : Fin 1024, x (ix2 a b) * x (ix2 a b)) k1024 + keps) := by
    intro x
    pointwise [k0_pay10]
  rw [e]
  unfold rs
  simp only [b2]

theorem xn_at (t : Fin cfg0.N) (a : Fin 256) (b : Fin 1024) : k0_pay11 (F := Ideal) (iblk m c 2 t) (ix2 a b) = xn (XX m c) (row t a) b := by
  have e : ∀ x : S256x1024.Idx → EReal, k0_pay11 (F := Ideal) x (ix2 a b) = x (ix2 a b) * k0_pay10 (F := Ideal) x (ix2 a 0) := by
    intro x
    pointwise [k0_pay11]
  rw [e, rs_at, b2]
  rfl

/-- The cotangent of the norm's input. -/
abbrev VX (t : Fin cfg0.N) : S256x1024.Idx → EReal :=
  k0_pay18 (F := Ideal) (VD m c t) (iblk m c 4 t) (k0_pay10 (iblk m c 2 t)) (k0_pay11 (iblk m c 2 t)) (iblk m c 5 t) (iblk m c 3 t)

theorem vx_at (t : Fin cfg0.N) (a : Fin 256) (b : Fin 1024) :
    VX m c t (ix2 a b) = dx (PP m c) (WW m c) (XX m c) (YY m c) (gg m c) (ss m c) (row t a) b := by
  have e : ∀ (d n y : S256x1024.Idx → EReal) (g s : S1x1024.Idx → EReal) (r : S256x1.Idx → EReal),
      k0_pay18 (F := Ideal) d g r n s y (ix2 a b)
        = y (ix2 a b) + r (ix2 a 0) * (d (ix2 a b) * (1 + s (ix2 0 b)) * g (ix2 0 b)
          - n (ix2 a b) * Ideal.div (∑ x, d (ix2 a x) * (1 + s (ix2 0 x)) * g (ix2 0 x) * n (ix2 a x)) k1024) := by
    intro d n y g s r
    pointwise [k0_pay18, k0_pay16]
  refine (e _ _ _ _ _ _).trans ?_
  unfold dx
  simp only [vd_at, rs_at, xn_at, b3, b4, b5]

/-- The sixteen shares of 256 rows are all 4096 rows. -/
theorem sum_rows (f : Fin 4096 → EReal) : ∑ p : Fin cfg0.N, ∑ x : Fin 256, f (row p x) = ∑ r : Fin 4096, f r :=
  Fin.sum_mul_add_congr (S := 16) (n := 256) (L := 4096) (f := f)
    fun s k _ => congrArg f (Fin.ext (by show 256 * s.val + k.val = s.val * 256 + k.val; omega))

/-- The last grid point. -/
abbrev last : Fin cfg0.N := ⟨15, by decide⟩

/-- The gated output's cotangent in a block. -/
theorem vy_at (t : Fin cfg0.N) (a : Fin 256) (b : Fin 1024) :
    k0_pay1 (F := Ideal) (VX m c t) (iblk m c 7 t) (ix2 a b)
      = dx (PP m c) (WW m c) (XX m c) (YY m c) (gg m c) (ss m c) (row t a) b * (1 + qq m c (ix2 0 b)) := by
  have e : ∀ (d : S256x1024.Idx → EReal) (q : S1x1024.Idx → EReal),
      k0_pay1 (F := Ideal) d q (ix2 a b) = d (ix2 a b) * (1 + q (ix2 0 b)) := by
    intro d q
    pointwise [k0_pay1]
  rw [e, vx_at, b7]

theorem arr8 : (dats m 0 c).arrAt 8 cfg0.N = G8 (PP m c) (WW m c) (XX m c) (YY m c) (gg m c) (ss m c) := by
  refine (dats m 0 c).arrAt_eq_of_covers 8 _ (by decide +kernel) fun t hf y => ?_
  blk_simp
  rw [after0_8]
  have ey : y = ix2 (n0 := 256) (n1 := 1024) (y 0) (y 1) := eq_ix2 y
  have ht : t.val < 16 := t.isLt
  have h256 : (y 0).val < 256 := (y 0).isLt
  have eG : (((View.whole main_v0_0).slice (win0_8.rect t)).emb y)
      = ix2 (n0 := 4096) (n1 := 1024) (row t (y 0)) (y 1) := by
    blk_ext [idx8 t]
  have hA : t.val % 16 = 0 ∨ ¬ t.val % 16 = 0 := em _
  rw [eG]
  rcases hA with h | h
  · rw [outsAt0_A m c t h]
    frame_out
    exact (congrArg (VX m c t) ey).trans (vx_at m c t (y 0) (y 1))
  · rw [outsAt0_B m c t h]
    frame_out
    exact (congrArg (VX m c t) ey).trans (vx_at m c t (y 0) (y 1))

theorem arr12 : (dats m 0 c).arrAt 12 cfg0.N = G12 (PP m c) (WW m c) (XX m c) (YY m c) (gg m c) (ss m c) (qq m c) := by
  refine (dats m 0 c).arrAt_eq_of_covers 12 _ (by decide +kernel) fun t hf y => ?_
  blk_simp
  rw [after0_12]
  have ey : y = ix2 (n0 := 256) (n1 := 1024) (y 0) (y 1) := eq_ix2 y
  have ht : t.val < 16 := t.isLt
  have h256 : (y 0).val < 256 := (y 0).isLt
  have eG : (((View.whole main_v0_4).slice (win0_12.rect t)).emb y)
      = ix2 (n0 := 4096) (n1 := 1024) (row t (y 0)) (y 1) := by
    blk_ext [idx12 t]
  have hA : t.val % 16 = 0 ∨ ¬ t.val % 16 = 0 := em _
  rw [eG]
  rcases hA with h | h
  · rw [outsAt0_A m c t h]
    frame_out
    exact (congrArg (k0_pay1 (F := Ideal) (VX m c t) (iblk m c 7 t)) ey).trans (vy_at m c t (y 0) (y 1))
  · rw [outsAt0_B m c t h]
    frame_out
    exact (congrArg (k0_pay1 (F := Ideal) (VX m c t) (iblk m c 7 t)) ey).trans (vy_at m c t (y 0) (y 1))

/-- One point's share of the four sums over rows, added to what the block holds. -/
theorem p9 (v21 v25 p5 p6 p7 : S256x1024.Idx → EReal) (w5 w6 w7 : S1x1024x1024.Idx → EReal) (z : S1x1024.Idx → EReal)
    (a : Fin 1) (b : Fin 1024) :
    k0_pay14 (F := Ideal) (k0_pay12 z) (k0_pay13 v21 v25 p5 w5 p6 w6 p7 w7) (ix2 a b)
      = z (ix2 a b) + ∑ x : Fin 256, k0_pay9 (F := Ideal) v21 v25 p5 w5 p6 w6 p7 w7 (ix2 x b) := by
  pointwise [k0_pay14, k0_pay12, k0_pay13]

/-- A grid point's share. -/
def part9 (t : Fin cfg0.N) : A2 1 1024 := fun j => ∑ x : Fin 256, dh (PP m c) (WW m c) (row t x) (j 1)

theorem step9B (t : Fin cfg0.N) (h : ¬ t.val % 16 = 0) (j : S1x1024.Idx) :
    (outsAt0 m c t.val t.isLt).2.1 j
      = (outsAt0 m c (t.val - 1) (Nat.lt_of_le_of_lt (Nat.sub_le _ _) t.isLt)).2.1 j + part9 m c t j := by
  obtain ⟨a, b, rfl⟩ : ∃ (a : Fin 1) (b : Fin 1024), j = ix2 a b := ⟨j 0, j 1, eq_ix2 j⟩
  rw [outsAt0_B m c t h]
  frame_out
  refine (p9 _ _ _ _ _ _ _ _ _ _ _).trans (congrArg (_ + ·) (Finset.sum_congr rfl fun x _ => ?_))
  exact vd_at m c t x b

theorem step9A (t : Fin cfg0.N) (h : t.val % 16 = 0) (j : S1x1024.Idx) :
    (outsAt0 m c t.val t.isLt).2.1 j = (fun _ => (0 : EReal)) j + part9 m c t j := by
  obtain ⟨a, b, rfl⟩ : ∃ (a : Fin 1) (b : Fin 1024), j = ix2 a b := ⟨j 0, j 1, eq_ix2 j⟩
  have hz : k0_pay3 (F := Ideal) (ix2 a b) = 0 := by pointwise [k0_pay3]
  rw [outsAt0_A m c t h]
  frame_out
  refine (p9 _ _ _ _ _ _ _ _ _ _ _).trans (congrArg₂ (· + ·) hz (Finset.sum_congr rfl fun x _ => ?_))
  exact vd_at m c t x b

theorem arr9 : (dats m 0 c).arrAt 9 cfg0.N = G9 (PP m c) (WW m c) := by
  refine (dats m 0 c).arrAt_eq_of_after_last 9 last (by decide +kernel) _ fun j => ?_
  have e := Pipeline.eq_sum_fin_of_reset_step_apply_last (fun n h => (outsAt0 m c n h).2.1) 16 (fun _ => (0 : EReal))
    (part9 m c) (step9A m c) (step9B m c) (by decide) last rfl j
  have h2 := congrFun (after0_9 m c last) j
  refine Eq.trans ?_ ((h2.trans e).trans ?_)
  · blk_simp
  · have hs := sum_rows fun r => dh (PP m c) (WW m c) r (j 1)
    exact (zero_add (M := EReal) _).trans hs

theorem p10 (d n : S256x1024.Idx → EReal) (g z : S1x1024.Idx → EReal) (a : Fin 1) (b : Fin 1024) :
    k0_pay15 (F := Ideal) d g n z (ix2 a b)
      = z (ix2 a b) + ∑ x : Fin 256, d (ix2 x b) * (n (ix2 x b) * g (ix2 0 b)) := by
  pointwise [k0_pay15]

/-- A grid point's share. -/
def part10 (t : Fin cfg0.N) : A2 1 1024 := fun j => ∑ x : Fin 256, dh (PP m c) (WW m c) (row t x) (j 1) * (xn (XX m c) (row t x) (j 1) * gg m c (ix2 0 (j 1)))

theorem step10B (t : Fin cfg0.N) (h : ¬ t.val % 16 = 0) (j : S1x1024.Idx) :
    (outsAt0 m c t.val t.isLt).2.2.1 j
      = (outsAt0 m c (t.val - 1) (Nat.lt_of_le_of_lt (Nat.sub_le _ _) t.isLt)).2.2.1 j + part10 m c t j := by
  obtain ⟨a, b, rfl⟩ : ∃ (a : Fin 1) (b : Fin 1024), j = ix2 a b := ⟨j 0, j 1, eq_ix2 j⟩
  rw [outsAt0_B m c t h]
  frame_out
  refine (p10 _ _ _ _ _ _).trans (congrArg (_ + ·) (Finset.sum_congr rfl fun x _ => ?_))
  exact congrArg₂ (· * ·) (vd_at m c t x b) (congrArg₂ (· * ·) (xn_at m c t x b) (b4 m c t 0 b))

theorem step10A (t : Fin cfg0.N) (h : t.val % 16 = 0) (j : S1x1024.Idx) :
    (outsAt0 m c t.val t.isLt).2.2.1 j = (fun _ => (0 : EReal)) j + part10 m c t j := by
  obtain ⟨a, b, rfl⟩ : ∃ (a : Fin 1) (b : Fin 1024), j = ix2 a b := ⟨j 0, j 1, eq_ix2 j⟩
  have hz : k0_pay4 (F := Ideal) (ix2 a b) = 0 := by pointwise [k0_pay4]
  rw [outsAt0_A m c t h]
  frame_out
  refine (p10 _ _ _ _ _ _).trans (congrArg₂ (· + ·) hz (Finset.sum_congr rfl fun x _ => ?_))
  exact congrArg₂ (· * ·) (vd_at m c t x b) (congrArg₂ (· * ·) (xn_at m c t x b) (b4 m c t 0 b))

theorem arr10 : (dats m 0 c).arrAt 10 cfg0.N = G10 (PP m c) (WW m c) (XX m c) (gg m c) := by
  refine (dats m 0 c).arrAt_eq_of_after_last 10 last (by decide +kernel) _ fun j => ?_
  have e := Pipeline.eq_sum_fin_of_reset_step_apply_last (fun n h => (outsAt0 m c n h).2.2.1) 16 (fun _ => (0 : EReal))
    (part10 m c) (step10A m c) (step10B m c) (by decide) last rfl j
  have h2 := congrFun (after0_10 m c last) j
  refine Eq.trans ?_ ((h2.trans e).trans ?_)
  · blk_simp
  · have hs := sum_rows fun r => dh (PP m c) (WW m c) r (j 1) * (xn (XX m c) r (j 1) * gg m c (ix2 0 (j 1)))
    exact (zero_add (M := EReal) _).trans hs

theorem p11 (d n : S256x1024.Idx → EReal) (s z : S1x1024.Idx → EReal) (a : Fin 1) (b : Fin 1024) :
    k0_pay17 (F := Ideal) d n s z (ix2 a b)
      = z (ix2 a b) + ∑ x : Fin 256, d (ix2 x b) * (1 + s (ix2 0 b)) * n (ix2 x b) := by
  pointwise [k0_pay17, k0_pay16]

/-- A grid point's share. -/
def part11 (t : Fin cfg0.N) : A2 1 1024 := fun j => ∑ x : Fin 256, dh (PP m c) (WW m c) (row t x) (j 1) * (1 + ss m c (ix2 0 (j 1))) * xn (XX m c) (row t x) (j 1)

theorem step11B (t : Fin cfg0.N) (h : ¬ t.val % 16 = 0) (j : S1x1024.Idx) :
    (outsAt0 m c t.val t.isLt).2.2.2.1 j
      = (outsAt0 m c (t.val - 1) (Nat.lt_of_le_of_lt (Nat.sub_le _ _) t.isLt)).2.2.2.1 j + part11 m c t j := by
  obtain ⟨a, b, rfl⟩ : ∃ (a : Fin 1) (b : Fin 1024), j = ix2 a b := ⟨j 0, j 1, eq_ix2 j⟩
  rw [outsAt0_B m c t h]
  frame_out
  refine (p11 _ _ _ _ _ _).trans (congrArg (_ + ·) (Finset.sum_congr rfl fun x _ => ?_))
  exact congrArg₂ (· * ·) (congrArg₂ (· * ·) (vd_at m c t x b) (congrArg (1 + ·) (b5 m c t 0 b))) (xn_at m c t x b)

theorem step11A (t : Fin cfg0.N) (h : t.val % 16 = 0) (j : S1x1024.Idx) :
    (outsAt0 m c t.val t.isLt).2.2.2.1 j = (fun _ => (0 : EReal)) j + part11 m c t j := by
  obtain ⟨a, b, rfl⟩ : ∃ (a : Fin 1) (b : Fin 1024), j = ix2 a b := ⟨j 0, j 1, eq_ix2 j⟩
  have hz : k0_pay5 (F := Ideal) (ix2 a b) = 0 := by pointwise [k0_pay5]
  rw [outsAt0_A m c t h]
  frame_out
  refine (p11 _ _ _ _ _ _).trans (congrArg₂ (· + ·) hz (Finset.sum_congr rfl fun x _ => ?_))
  exact congrArg₂ (· * ·) (congrArg₂ (· * ·) (vd_at m c t x b) (congrArg (1 + ·) (b5 m c t 0 b))) (xn_at m c t x b)

theorem arr11 : (dats m 0 c).arrAt 11 cfg0.N = G11 (PP m c) (WW m c) (XX m c) (ss m c) := by
  refine (dats m 0 c).arrAt_eq_of_after_last 11 last (by decide +kernel) _ fun j => ?_
  have e := Pipeline.eq_sum_fin_of_reset_step_apply_last (fun n h => (outsAt0 m c n h).2.2.2.1) 16 (fun _ => (0 : EReal))
    (part11 m c) (step11A m c) (step11B m c) (by decide) last rfl j
  have h2 := congrFun (after0_11 m c last) j
  refine Eq.trans ?_ ((h2.trans e).trans ?_)
  · blk_simp
  · have hs := sum_rows fun r => dh (PP m c) (WW m c) r (j 1) * (1 + ss m c (ix2 0 (j 1))) * xn (XX m c) r (j 1)
    exact (zero_add (M := EReal) _).trans hs

theorem p13 (d o : S256x1024.Idx → EReal) (z : S1x1024.Idx → EReal) (a : Fin 1) (b : Fin 1024) :
    k0_pay2 (F := Ideal) d z o (ix2 a b) = z (ix2 a b) + ∑ x : Fin 256, d (ix2 x b) * o (ix2 x b) := by
  pointwise [k0_pay2]

/-- A grid point's share. -/
def part13 (t : Fin cfg0.N) : A2 1 1024 := fun j => ∑ x : Fin 256, dx (PP m c) (WW m c) (XX m c) (YY m c) (gg m c) (ss m c) (row t x) (j 1) * OO m c (ix2 (row t x) (j 1))

theorem step13B (t : Fin cfg0.N) (h : ¬ t.val % 16 = 0) (j : S1x1024.Idx) :
    (outsAt0 m c t.val t.isLt).2.2.2.2.2 j
      = (outsAt0 m c (t.val - 1) (Nat.lt_of_le_of_lt (Nat.sub_le _ _) t.isLt)).2.2.2.2.2 j + part13 m c t j := by
  obtain ⟨a, b, rfl⟩ : ∃ (a : Fin 1) (b : Fin 1024), j = ix2 a b := ⟨j 0, j 1, eq_ix2 j⟩
  rw [outsAt0_B m c t h]
  frame_out
  refine (p13 _ _ _ _ _).trans (congrArg (_ + ·) (Finset.sum_congr rfl fun x _ => ?_))
  exact congrArg₂ (· * ·) (vx_at m c t x b) (b6 m c t x b)

theorem step13A (t : Fin cfg0.N) (h : t.val % 16 = 0) (j : S1x1024.Idx) :
    (outsAt0 m c t.val t.isLt).2.2.2.2.2 j = (fun _ => (0 : EReal)) j + part13 m c t j := by
  obtain ⟨a, b, rfl⟩ : ∃ (a : Fin 1) (b : Fin 1024), j = ix2 a b := ⟨j 0, j 1, eq_ix2 j⟩
  have hz : k0_pay6 (F := Ideal) (ix2 a b) = 0 := by pointwise [k0_pay6]
  rw [outsAt0_A m c t h]
  frame_out
  refine (p13 _ _ _ _ _).trans (congrArg₂ (· + ·) hz (Finset.sum_congr rfl fun x _ => ?_))
  exact congrArg₂ (· * ·) (vx_at m c t x b) (b6 m c t x b)

theorem arr13 : (dats m 0 c).arrAt 13 cfg0.N = G13 (PP m c) (WW m c) (XX m c) (YY m c) (gg m c) (ss m c) (OO m c) := by
  refine (dats m 0 c).arrAt_eq_of_after_last 13 last (by decide +kernel) _ fun j => ?_
  have e := Pipeline.eq_sum_fin_of_reset_step_apply_last (fun n h => (outsAt0 m c n h).2.2.2.2.2) 16 (fun _ => (0 : EReal))
    (part13 m c) (step13A m c) (step13B m c) (by decide) last rfl j
  have h2 := congrFun (after0_13 m c last) j
  refine Eq.trans ?_ ((h2.trans e).trans ?_)
  · blk_simp
  · have hs := sum_rows fun r => dx (PP m c) (WW m c) (XX m c) (YY m c) (gg m c) (ss m c) r (j 1) * OO m c (ix2 r (j 1))
    exact (zero_add (M := EReal) _).trans hs

end Cert.Norm

end
-- ==== Proof.NormRef.lean ====
/-
  The reference's results of the second layer's input gradient are the functions of `Proof.NormSpec` of its arguments.
-/
module

public import proofs.«01_k».proof.Proof.NormSpec
public import proofs.«01_k».proof.Proof.Reals
public import proofs.«01_k».proof.Proof.Gen.NormBwdRefIdeal.Read

@[expose] public section

noncomputable section

namespace Cert.Norm.Ref

open Cert.NormBwdRefIdeal Cert.NormBwdRefIdeal.Gen Cert.NormBwdRefIdeal.Read Idealize.ShloMosaic
open Cert.Reals (IsReal)
open Cert.Norm (A2 A3 dh rs xn dx G8 G9 G10 G11 G12 G13 k1024 keps)

/-- The norm's own algebra, over the real numbers: the chain rule through the reciprocal root, term by term, is the
    projection that takes the row's own direction out of its cotangent. -/
theorem chain (x f : Fin 1024 → ℝ) (e : ℝ) (he : 0 < e) (a : Fin 1024) :
    f a * (√((∑ b, x b * x b) * (1 / 1024) + e))⁻¹
        + x a * (((∑ b, x b * f b) * (-(1 / 2) * ((√((∑ b, x b * x b) * (1 / 1024) + e))⁻¹ * (1 / ((∑ b, x b * x b) * (1 / 1024) + e))))) * (1 / 1024))
        + ((∑ b, x b * f b) * (-(1 / 2) * ((√((∑ b, x b * x b) * (1 / 1024) + e))⁻¹ * (1 / ((∑ b, x b * x b) * (1 / 1024) + e))))) * (1 / 1024) * x a
      = (√((∑ b, x b * x b) * (1 / 1024) + e))⁻¹ * (f a - x a * (√((∑ b, x b * x b) * (1 / 1024) + e))⁻¹
          * ((∑ b, f b * (x b * (√((∑ b, x b * x b) * (1 / 1024) + e))⁻¹)) * (1 / 1024))) := by
  have hs : 0 ≤ ∑ b, x b * x b := Finset.sum_nonneg fun b _ => mul_self_nonneg (x b)
  have hu : 0 < (∑ b, x b * x b) * (1 / 1024) + e := by positivity
  generalize (∑ b, x b * x b) * (1 / 1024) + e = u at hu ⊢
  have hr : (√u)⁻¹ * (√u)⁻¹ = 1 / u := by
    rw [← mul_inv, Real.mul_self_sqrt hu.le, one_div]
  have hsum : ∑ b, f b * (x b * (√u)⁻¹) = (∑ b, x b * f b) * (√u)⁻¹ := by
    rw [Finset.sum_mul]
    exact Finset.sum_congr rfl fun b _ => by ring
  rw [hsum, ← hr]
  ring

theorem k1024_eq : k1024 = ((1024 : ℝ) : EReal) := by
  simp [Ideal.ofBits, Ideal.ieee, -EReal.coe_mul]; norm_num

theorem keps_pos : ∃ e : ℝ, 0 < e ∧ keps = (e : EReal) := by
  refine ⟨_, ?_, by simp only [Ideal.ofBits, Ideal.ieee]; simp [-EReal.coe_mul]; rfl⟩
  positivity

theorem mhalf_eq : Ideal.ofBits FTy.f32 0xBF000000#32 = ((-(1 / 2) : ℝ) : EReal) := by
  simp [Ideal.ofBits, Ideal.ieee, -EReal.coe_mul]; norm_num

theorem rsqrt_pos (u : ℝ) (hu : 0 < u) : Ideal.rsqrt (u : EReal) = (((√u)⁻¹ : ℝ) : EReal) := by
  show (if u < 0 then ⊥ else if u = 0 then ⊤ else (((√u)⁻¹ : ℝ) : EReal)) = _
  rw [if_neg (not_lt.2 hu.le), if_neg hu.ne']

theorem coe_sum {n : ℕ} (f : Fin n → ℝ) : ∑ b, ((f b : ℝ) : EReal) = ((∑ b, f b : ℝ) : EReal) := by
  induction n with
  | zero => simp
  | succ n ih => rw [Fin.sum_univ_succ, Fin.sum_univ_succ, ih, EReal.coe_add]

/-- The same of extended reals that are real numbers. -/
theorem chainE (X f : Fin 1024 → EReal) (hX : ∀ b, IsReal (X b)) (hf : ∀ b, IsReal (f b)) (a : Fin 1024) (u r m : EReal)
    (hu : u = Ideal.div (∑ b, X b * X b) k1024 + keps) (hr : r = Ideal.rsqrt u)
    (hm : m = Ideal.div ((∑ b, X b * f b) * (Ideal.ofBits FTy.f32 0xBF000000#32 * Ideal.div r u)) k1024) :
    f a * r + X a * m + m * X a = r * (f a - X a * r * Ideal.div (∑ b, f b * (X b * r)) k1024) := by
  obtain ⟨e, he, hk⟩ := keps_pos
  choose x hx using hX
  choose y hy using hf
  obtain rfl : X = fun b => (x b : EReal) := funext hx
  obtain rfl : f = fun b => (y b : EReal) := funext hy
  have hs : 0 ≤ ∑ b, x b * x b := Finset.sum_nonneg fun b _ => mul_self_nonneg (x b)
  have hup : 0 < (∑ b, x b * x b) * (1 / 1024) + e := by positivity
  have hn : (1024 : ℝ) ≠ 0 := by norm_num
  have hu' : u = (((∑ b, x b * x b) * (1 / 1024) + e : ℝ) : EReal) := by
    rw [hu, hk, k1024_eq, Ideal.div_coe hn]
    simp only [← EReal.coe_mul, coe_sum, ← EReal.coe_add]
  have hr' : r = (((√((∑ b, x b * x b) * (1 / 1024) + e))⁻¹ : ℝ) : EReal) := by
    rw [hr, hu', rsqrt_pos _ hup]
  rw [k1024_eq, mhalf_eq, hr', hu', Ideal.div_coe hn, Ideal.div_coe hup.ne'] at hm
  rw [k1024_eq, hm, hr', Ideal.div_coe hn]
  simp only [← EReal.coe_mul, coe_sum, ← EReal.coe_add, ← EReal.coe_sub]
  exact congrArg _ (chain x y e he a)

variable (x0 : A2 4096 8192) (x1 : A3 8 1024 1024) (x2 x3 x6 : A2 4096 1024) (x4 x5 x7 : A2 1 1024)

theorem v27 (r : Fin 4096) (a : Fin 1024) : val_main_v27 (F := Ideal) x0 x1 (ix2 r a) = dh x0 x1 r a := by
  pointwise [val_main_v27, val_main_v26, val_main_v2, val_main_v1, val_main_v0]
  rfl

theorem v10 (r : Fin 4096) (z : Fin 1) : val_main_v10 (F := Ideal) x2 (ix2 r z)
    = Ideal.div (∑ b : Fin 1024, x2 (ix2 r b) * x2 (ix2 r b)) k1024 + keps := by
  pointwise [val_main_v10, val_main_v9, val_main_cst_2, val_main_v8, val_main_v7, val_main_cst_1, val_main_v6, val_main_v5,
    val_main_cst_0, val_main_v4]

theorem v11 (r : Fin 4096) (z : Fin 1) : val_main_v11 (F := Ideal) x2 (ix2 r z) = rs x2 r :=
  congrArg Ideal.rsqrt (v10 x2 r z)

theorem v16 (r : Fin 4096) (a : Fin 1024) : val_main_v16 (F := Ideal) x2 (ix2 r a) = xn x2 r a := by
  pointwise [val_main_v16, val_main_v15]
  exact congrArg (x2 (ix2 r a) * ·) (v11 x2 r _)

theorem v34 (r : Fin 4096) (a : Fin 1024) : val_main_v34 (F := Ideal) x0 x1 x5 (ix2 r a)
    = dh x0 x1 r a * (1 + x5 (ix2 0 a)) := by
  pointwise [val_main_v34, val_main_v33, val_main_v20, val_main_v19, val_main_cst_4]
  rw [v27]

theorem v39 (r : Fin 4096) (a : Fin 1024) : val_main_v39 (F := Ideal) x0 x1 x4 x5 (ix2 r a)
    = dh x0 x1 r a * (1 + x5 (ix2 0 a)) * x4 (ix2 0 a) := by
  pointwise [val_main_v39, val_main_v38]
  rw [v34]

/-- What the reciprocal root's cotangent leaves of a row. -/
def mm (r : Fin 4096) : EReal :=
  Ideal.div ((∑ b : Fin 1024, x2 (ix2 r b) * (dh x0 x1 r b * (1 + x5 (ix2 0 b)) * x4 (ix2 0 b)))
    * (Ideal.ofBits FTy.f32 0xBF000000#32 * Ideal.div (rs x2 r) (Ideal.div (∑ b : Fin 1024, x2 (ix2 r b) * x2 (ix2 r b)) k1024 + keps))) k1024

theorem v42 (r : Fin 4096) (z : Fin 1) : val_main_v42 (F := Ideal) x0 x1 x2 x4 x5 (ix2 r z)
    = ∑ b : Fin 1024, x2 (ix2 r b) * (dh x0 x1 r b * (1 + x5 (ix2 0 b)) * x4 (ix2 0 b)) := by
  pointwise [val_main_v42, val_main_v41, val_main_cst_8, val_main_v40]
  simp only [v39]

theorem v14 (r : Fin 4096) (z : Fin 1) : val_main_v14 (F := Ideal) x2 (ix2 r z)
    = Ideal.ofBits FTy.f32 0xBF000000#32 * Ideal.div (rs x2 r) (Ideal.div (∑ b : Fin 1024, x2 (ix2 r b) * x2 (ix2 r b)) k1024 + keps) := by
  pointwise [val_main_v14, val_main_v13, val_main_cst_3, val_main_v12]
  rw [v11, v10]

theorem v47 (r : Fin 4096) (z : Fin 1) : val_main_v47 (F := Ideal) x0 x1 x2 x4 x5 (ix2 r z) = mm x0 x1 x2 x4 x5 r := by
  pointwise [val_main_v47, val_main_v46, val_main_cst_9, val_main_v45]
  rw [v42, v14]
  rfl

theorem v49 (r : Fin 4096) (a : Fin 1024) : val_main_v49 (F := Ideal) x0 x1 x2 x4 x5 (ix2 r a) = mm x0 x1 x2 x4 x5 r := by
  pointwise [val_main_v49, val_main_v48, val_main_cst_10]
  simp only [Finset.univ_unique, Finset.sum_const, Finset.card_singleton, one_smul, v47]

theorem v29 (z : Fin 1) (a : Fin 1024) : val_main_v29 (F := Ideal) x0 x1 (ix2 z a) = G9 x0 x1 (ix2 z a) := by
  pointwise [val_main_v29, val_main_v28, val_main_cst_5]
  simp only [v27]
  rfl

theorem v32 (z : Fin 1) (a : Fin 1024) : val_main_v32 (F := Ideal) x0 x1 x2 x4 (ix2 z a) = G10 x0 x1 x2 x4 (ix2 z a) := by
  pointwise [val_main_v32, val_main_v31, val_main_cst_6, val_main_v30, val_main_v18, val_main_v17]
  simp only [v27, v16]
  exact Finset.sum_congr rfl fun r _ => mul_comm (xn x2 r a * x4 (ix2 0 a)) (dh x0 x1 r a)

theorem v37 (z : Fin 1) (a : Fin 1024) : val_main_v37 (F := Ideal) x0 x1 x2 x5 (ix2 z a) = G11 x0 x1 x2 x5 (ix2 z a) := by
  pointwise [val_main_v37, val_main_v36, val_main_cst_7, val_main_v35]
  simp only [v34, v16]
  exact Finset.sum_congr rfl fun r _ => mul_comm (xn x2 r a) (dh x0 x1 r a * (1 + x5 (ix2 0 a)))

section
variable {x0 x1 x2 x4 x5}
variable (h0 : ∀ i, IsReal (x0 i)) (h1 : ∀ i, IsReal (x1 i)) (h2 : ∀ i, IsReal (x2 i)) (h4 : ∀ i, IsReal (x4 i))
  (h5 : ∀ i, IsReal (x5 i))
include h0 h1 h2 h4 h5

theorem v54 (r : Fin 4096) (a : Fin 1024) : val_main_v54 (F := Ideal) x0 x1 x2 x3 x4 x5 (ix2 r a)
    = dx x0 x1 x2 x3 x4 x5 r a := by
  pointwise [val_main_v54, val_main_v53, val_main_v52, val_main_v51, val_main_v50, val_main_v44, val_main_v43]
  simp only [v39, v11, v49]
  unfold dx
  refine congrArg (x3 (ix2 r a) + ·) ?_
  exact chainE (fun b => x2 (ix2 r b)) (fun b => dh x0 x1 r b * (1 + x5 (ix2 0 b)) * x4 (ix2 0 b)) (fun b => h2 _)
    (fun b => (IsReal.mul (IsReal.sum _ _ fun e _ => (h0 _).mul (h1 _)) (IsReal.one.add (h5 _))).mul (h4 _)) a _ _ _ rfl rfl rfl

theorem v64 (r : Fin 4096) (a : Fin 1024) : val_main_v64 (F := Ideal) x0 x1 x2 x3 x4 x5 x7 (ix2 r a)
    = G12 x0 x1 x2 x3 x4 x5 x7 (ix2 r a) := by
  pointwise [val_main_v64, val_main_v60, val_main_v59, val_main_v56, val_main_v55, val_main_cst_11]
  rw [v54 x3 h0 h1 h2 h4 h5]
  first | rfl | exact mul_comm _ _

theorem v63 (z : Fin 1) (a : Fin 1024) : val_main_v63 (F := Ideal) x0 x1 x2 x3 x4 x5 x6 (ix2 z a)
    = G13 x0 x1 x2 x3 x4 x5 x6 (ix2 z a) := by
  pointwise [val_main_v63, val_main_v62, val_main_cst_12, val_main_v61]
  simp only [v54 x3 h0 h1 h2 h4 h5]
  first | rfl | exact Finset.sum_congr rfl fun r _ => mul_comm _ _

end

end Cert.Norm.Ref

end
-- ==== Proof.NormClaim.lean ====
/-
  The second layer's input gradient: the kernel and the reference leave equal results where every entry of the arrays
  the norm's cotangent is made of is a finite number.
-/
module

public import proofs.«01_k».proof.Defs
public import proofs.«01_k».proof.Proof.NormArray
public import proofs.«01_k».proof.Proof.NormRef
public import proofs.«01_k».proof.Proof.ConvClaim
public import proofs.«01_k».proof.Proof.Gen.Pre_norm_bwd_finite
public import proofs.«01_k».proof.Proof.Gen.NormBwdIdeal
public import proofs.«01_k».proof.Proof.Gen.NormBwdRefIdeal
public import Idealize.ShloMosaic.Lib.ReduceAll

@[expose] public section

noncomputable section

namespace Cert.Norm

open Idealize.ShloMosaic Idealize.SL.Sem
open Cert.Reals (IsReal)
open Cert.Conv (real_of_cmp)

/-- The printed condition, read at every index of the five arrays it is about. -/
theorem real_of_pre (x0 : A2 4096 8192) (x1 : A3 8 1024 1024) (x2 x3 : A2 4096 1024) (x4 x5 : A2 1 1024)
    (x6 : A2 4096 1024) (x7 : A2 1 1024)
    (h : Cert.Pre_norm_bwd_finite.fn (F := Ideal) x0 x1 x2 x3 x4 x5 x6 x7 = fun _ => 1#1) :
    (∀ i, IsReal (x0 i)) ∧ (∀ i, IsReal (x1 i)) ∧ (∀ i, IsReal (x2 i)) ∧ (∀ i, IsReal (x4 i)) ∧ ∀ i, IsReal (x5 i) := by
  have h := congrFun h ix0
  dsimp only [Cert.Pre_norm_bwd_finite.fn, Cert.Pre_norm_bwd_finite.fn_part1] at h
  obtain ⟨h, h5⟩ := IntOp.andi_eq_one.1 h
  obtain ⟨h, h4⟩ := IntOp.andi_eq_one.1 h
  obtain ⟨h, h2⟩ := IntOp.andi_eq_one.1 h
  obtain ⟨h0, h1⟩ := IntOp.andi_eq_one.1 h
  exact ⟨fun i => real_of_cmp _ (Host.reduce_andi_all _ _ _ _ _ h0 i),
    fun i => real_of_cmp _ (Host.reduce_andi_all _ _ _ _ _ h1 i),
    fun i => real_of_cmp _ (Host.reduce_andi_all _ _ _ _ _ h2 i),
    fun i => real_of_cmp _ (Host.reduce_andi_all _ _ _ _ _ h4 i),
    fun i => real_of_cmp _ (Host.reduce_andi_all _ _ _ _ _ h5 i)⟩

/-- The reference's frame: its run leaves its arguments alone, and it has no counter. -/
theorem ref_frame : Cert.quiescent_NormBwdRefIdeal := fun m ρ _ =>
  (θ_run Cert.NormBwdRefIdeal.defs _ _).mono (fun r h => ⟨fun c => (h c).2.2.2.2.2.2,
      Idealize.ShloMosaic.sem_eq_zero_of_no_sems (by decide) r.2⟩)
    (Cert.NormBwdRefIdeal.Value.run (F := Ideal) m ρ)

/-- Equal results. -/
theorem algebraic : Cert.algebraic_NormBwdIdeal_NormBwdRefIdeal_pre_norm_bwd_finite := by
  intro m g m' g' hpre hag
  refine ⟨fun c => G8 (PP m c) (WW m c) (XX m c) (YY m c) (gg m c) (ss m c), fun c => G9 (PP m c) (WW m c),
    fun c => G10 (PP m c) (WW m c) (XX m c) (gg m c), fun c => G11 (PP m c) (WW m c) (XX m c) (ss m c),
    fun c => G12 (PP m c) (WW m c) (XX m c) (YY m c) (gg m c) (ss m c) (qq m c),
    fun c => G13 (PP m c) (WW m c) (XX m c) (YY m c) (gg m c) (ss m c) (OO m c), ?_, ?_⟩
  · refine (θ_run Cert.NormBwdIdeal.defs _ _).mono (fun r h c => ?_) (Cert.NormBwdIdeal.Value.run_blocks (F := Ideal) m g)
    obtain ⟨r0, r1, r2, r3, r4, r5, ra⟩ := h c
    exact ⟨r0.trans (arr8 m c), r1.trans (arr9 m c), r2.trans (arr10 m c), r3.trans (arr11 m c), r4.trans (arr12 m c),
      r5.trans (arr13 m c), ra⟩
  · refine (θ_run Cert.NormBwdRefIdeal.defs _ _).mono (fun r h c => ?_) (Cert.NormBwdRefIdeal.Value.run (F := Ideal) m' g')
    obtain ⟨r0, r1, r2, r3, r4, r5, ra⟩ := h c
    obtain ⟨p0, p1, p2, p4, p5⟩ := real_of_pre _ _ _ _ _ _ _ _ (hpre c)
    obtain ⟨e0, e1, e2, e3, e4, e5, e6, e7⟩ := hag c
    refine ⟨(r0.trans (Cert.NormBwdRefIdeal.Read.val_main_v54_eq m' c)).trans ?_,
      (r1.trans (Cert.NormBwdRefIdeal.Read.val_main_v29_eq _ _)).trans ?_,
      (r2.trans (Cert.NormBwdRefIdeal.Read.val_main_v32_eq _ _ _ _)).trans ?_,
      (r3.trans (Cert.NormBwdRefIdeal.Read.val_main_v37_eq _ _ _ _)).trans ?_,
      (r4.trans (Cert.NormBwdRefIdeal.Read.val_main_v64_eq m' c)).trans ?_,
      (r5.trans (Cert.NormBwdRefIdeal.Read.val_main_v63_eq m' c)).trans ?_, ra⟩
    · rw [e0, e1, e2, e3, e4, e5]
      funext i
      obtain ⟨a, b, rfl⟩ : ∃ (a : Fin 4096) (b : Fin 1024), i = ix2 a b := ⟨i 0, i 1, eq_ix2 i⟩
      exact Ref.v54 _ p0 p1 p2 p4 p5 a b
    · rw [e0, e1]
      funext i
      obtain ⟨a, b, rfl⟩ : ∃ (a : Fin 1) (b : Fin 1024), i = ix2 a b := ⟨i 0, i 1, eq_ix2 i⟩
      exact Ref.v29 _ _ a b
    · rw [e0, e1, e2, e4]
      funext i
      obtain ⟨a, b, rfl⟩ : ∃ (a : Fin 1) (b : Fin 1024), i = ix2 a b := ⟨i 0, i 1, eq_ix2 i⟩
      exact Ref.v32 _ _ _ _ a b
    · rw [e0, e1, e2, e5]
      funext i
      obtain ⟨a, b, rfl⟩ : ∃ (a : Fin 1) (b : Fin 1024), i = ix2 a b := ⟨i 0, i 1, eq_ix2 i⟩
      exact Ref.v37 _ _ _ _ a b
    · rw [e0, e1, e2, e3, e4, e5, e7]
      funext i
      obtain ⟨a, b, rfl⟩ : ∃ (a : Fin 4096) (b : Fin 1024), i = ix2 a b := ⟨i 0, i 1, eq_ix2 i⟩
      exact Ref.v64 _ _ p0 p1 p2 p4 p5 a b
    · rw [e0, e1, e2, e3, e4, e5, e6]
      funext i
      obtain ⟨a, b, rfl⟩ : ∃ (a : Fin 1) (b : Fin 1024), i = ix2 a b := ⟨i 0, i 1, eq_ix2 i⟩
      exact Ref.v63 _ _ p0 p1 p2 p4 p5 a b

end Cert.Norm

end
-- ==== Proof.OutBwdClaim.lean ====
/-
  The cotangent of the output product's left operand, `dy · wᵀ`: the kernel's eight blocks of 512 rows and the reference's
  product leave equal results.
-/
module

public import proofs.«01_k».proof.Defs
public import proofs.«01_k».proof.Proof.Rows
public import proofs.«01_k».proof.Proof.Gen.OutBwdIdeal.Value
public import proofs.«01_k».proof.Proof.Gen.OutBwdRefIdeal.Run
public import proofs.«01_k».proof.Proof.Gen.OutBwdRefIdeal.Read
public import proofs.«01_k».proof.Proof.Gen.OutBwdIdeal
public import proofs.«01_k».proof.Proof.Gen.OutBwdRefIdeal

@[expose] public section

noncomputable section

namespace Cert.OutB

open Idealize.ShloMosaic Idealize.ShloMosaic.TcCoe Idealize.SL.Sem
open Idealize.ShloMosaic.Pipeline (Dat)

/-- The product: row `i 0` of `x` with row `i 1` of `w`. -/
def G (x : (⟨2, ![4096, 1024]⟩ : Shape).Idx → EReal) (w : (⟨2, ![2048, 1024]⟩ : Shape).Idx → EReal) :
    (⟨2, ![4096, 2048]⟩ : Shape).Idx → EReal :=
  fun i => ∑ k : Fin 1024, x (ix2 (i 0) k) * w (ix2 (i 1) k)

section Kernel

open Cert.OutBwdIdeal Cert.OutBwdIdeal.Gen

variable (m : (ℓ : Loc nD τ sig) → Buf (Elt Ideal) ℓ) (c : Dev nD)

/-- The two arguments. -/
abbrev A0 : S4096x1024.Idx → EReal := m ((c : Thread nD τ).loc main_arg0)
abbrev A1 : S2048x1024.Idx → EReal := m ((c : Thread nD τ).loc main_arg1)

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![t.val, 0] := by decide +kernel

/-- One block's product, at an index. -/
theorem point (x : S512x1024.Idx → EReal) (w : S2048x1024.Idx → EReal) (a : Fin 512) (b : Fin 2048) :
    k0_pay1 (F := Ideal) x w (ix2 a b) = ∑ k : Fin 1024, x (ix2 a k) * w (ix2 b k) := by
  pointwise [k0_pay1]

/-- The left operand's block, at an index. -/
theorem blk0 (t : Fin cfg0.N) (a : Fin 512) (k : Fin 1024) (r : Fin 4096) (h : r.val = 512 * t.val + a.val) :
    iblk m c 0 t (ix2 a k) = A0 m c (ix2 r k) := by
  blk_ext [iblk, V, idx0 t]

/-- The right operand's block is the whole of it. -/
theorem blk1 (t : Fin cfg0.N) (a : Fin 2048) (k : Fin 1024) :
    iblk m c 1 t (ix2 a k) = A1 m c (ix2 a k) := by
  blk_ext [iblk, V, idx1 t]

/-- The result array after the run. -/
theorem arr : (dats m 0 c).arrAt 2 cfg0.N
    = G (A0 m c) (A1 m c) := by
  refine (dats m 0 c).arrAt_eq_of_covers 2 _ (by decide +kernel) fun t hf y => ?_
  blk_simp
  rw [after0_2]
  have ht : t.val < 8 := t.isLt
  have hy : (y 0).val < 512 := (y 0).isLt
  have ey : y = ix2 (n0 := 512) (n1 := 2048) (y 0) (y 1) := eq_ix2 y
  have eG : (((View.whole main_v0).slice (win0_2.rect t)).emb y)
      = ix2 (n0 := 4096) (n1 := 2048) ⟨512 * t.val + (y 0).val, by omega⟩ (y 1) := by
    blk_ext [idx2 t]
  rw [eG]
  refine (congrArg (out0_2 (F := Ideal) _ _) ey).trans ((Rows.canon_whole _ _ _ _ _).trans ((point _ _ _ _).trans ?_))
  refine Finset.sum_congr rfl fun k _ => congrArg₂ (· * ·) ?_ ?_
  · exact (Rows.ld_whole _ _ _ _).trans (blk0 m c t _ _ _ rfl)
  · exact (Rows.ld_whole _ _ _ _).trans (blk1 m c t _ _)

end Kernel

/-- The reference's product, at an index. -/
theorem ref (x : (⟨2, ![4096, 1024]⟩ : Shape).Idx → EReal) (w : (⟨2, ![2048, 1024]⟩ : Shape).Idx → EReal) :
    Cert.OutBwdRefIdeal.Read.val_main_v4 (F := Ideal) x w = G x w := by
  funext i
  obtain ⟨a, b, rfl⟩ : ∃ (a : Fin 4096) (b : Fin 2048), i = ix2 a b := ⟨i 0, i 1, eq_ix2 i⟩
  pointwise [Cert.OutBwdRefIdeal.Read.val_main_v4, Cert.OutBwdRefIdeal.Read.val_main_v3,
    Cert.OutBwdRefIdeal.Read.val_main_v1]
  rfl

/-- The reference's frame. -/
theorem ref_frame : Cert.quiescent_OutBwdRefIdeal := fun m ρ _ =>
  (θ_run Cert.OutBwdRefIdeal.defs _ _).mono (fun r h => ⟨fun c => (h c).2,
      Idealize.ShloMosaic.sem_eq_zero_of_no_sems (by decide) r.2⟩)
    (Cert.OutBwdRefIdeal.Value.run (F := Ideal) m ρ)

/-- Equal results. -/
theorem algebraic : Cert.algebraic_OutBwdIdeal_OutBwdRefIdeal := by
  intro m g m' g' _ hag
  refine ⟨fun c => G (A0 m c) (A1 m c), ?_, ?_⟩
  · refine (θ_run Cert.OutBwdIdeal.defs _ _).mono (fun r h c => ?_) (Cert.OutBwdIdeal.Value.run_blocks (F := Ideal) m g)
    obtain ⟨r0, ra⟩ := h c
    exact ⟨r0.trans (arr m c), ra⟩
  · refine (θ_run Cert.OutBwdRefIdeal.defs _ _).mono (fun r h c => ?_) (Cert.OutBwdRefIdeal.Value.run (F := Ideal) m' g')
    obtain ⟨r0, ra⟩ := h c
    obtain ⟨e0, e1⟩ := hag c
    refine ⟨r0.trans ((Cert.OutBwdRefIdeal.Read.val_main_v4_eq _ _).trans ?_), ra⟩
    rw [e0, e1]
    exact ref _ _

end Cert.OutB

end
-- ==== Proof.OutWgradClaim.lean ====
/-
  The cotangent of the output product's weight, `yᵀ · dy`: the kernel's four blocks of 512 rows and the reference's
  product leave equal results.
-/
module

public import proofs.«01_k».proof.Defs
public import proofs.«01_k».proof.Proof.Rows
public import proofs.«01_k».proof.Proof.Gen.OutWgradIdeal.Value
public import proofs.«01_k».proof.Proof.Gen.OutWgradRefIdeal.Run
public import proofs.«01_k».proof.Proof.Gen.OutWgradRefIdeal.Read
public import proofs.«01_k».proof.Proof.Gen.OutWgradIdeal
public import proofs.«01_k».proof.Proof.Gen.OutWgradRefIdeal

@[expose] public section

noncomputable section

namespace Cert.OutW

open Idealize.ShloMosaic Idealize.ShloMosaic.TcCoe Idealize.SL.Sem
open Idealize.ShloMosaic.Pipeline (Dat)

/-- The product: row `i 0` of `x` with column `i 1` of `w`. -/
def G (x : (⟨2, ![2048, 4096]⟩ : Shape).Idx → EReal) (w : (⟨2, ![4096, 1024]⟩ : Shape).Idx → EReal) :
    (⟨2, ![2048, 1024]⟩ : Shape).Idx → EReal :=
  fun i => ∑ k : Fin 4096, x (ix2 (i 0) k) * w (ix2 k (i 1))

section Kernel

open Cert.OutWgradIdeal Cert.OutWgradIdeal.Gen

variable (m : (ℓ : Loc nD τ sig) → Buf (Elt Ideal) ℓ) (c : Dev nD)

/-- The two arguments. -/
abbrev A0 : S2048x4096.Idx → EReal := m ((c : Thread nD τ).loc main_arg0)
abbrev A1 : S4096x1024.Idx → EReal := m ((c : Thread nD τ).loc main_arg1)

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![t.val, 0] := by decide +kernel

/-- One block's product, at an index. -/
theorem point (x : S512x4096.Idx → EReal) (w : S4096x1024.Idx → EReal) (a : Fin 512) (b : Fin 1024) :
    k0_pay1 (F := Ideal) x w (ix2 a b) = ∑ k : Fin 4096, x (ix2 a k) * w (ix2 k b) := by
  pointwise [k0_pay1]

/-- The left operand's block, at an index. -/
theorem blk0 (t : Fin cfg0.N) (a : Fin 512) (k : Fin 4096) (r : Fin 2048) (h : r.val = 512 * t.val + a.val) :
    iblk m c 0 t (ix2 a k) = A0 m c (ix2 r k) := by
  blk_ext [iblk, V, idx0 t]

/-- The right operand's block is the whole of it. -/
theorem blk1 (t : Fin cfg0.N) (a : Fin 4096) (k : Fin 1024) :
    iblk m c 1 t (ix2 a k) = A1 m c (ix2 a k) := by
  blk_ext [iblk, V, idx1 t]

/-- The result array after the run. -/
theorem arr : (dats m 0 c).arrAt 2 cfg0.N
    = G (A0 m c) (A1 m c) := by
  refine (dats m 0 c).arrAt_eq_of_covers 2 _ (by decide +kernel) fun t hf y => ?_
  blk_simp
  rw [after0_2]
  have ht : t.val < 4 := t.isLt
  have hy : (y 0).val < 512 := (y 0).isLt
  have ey : y = ix2 (n0 := 512) (n1 := 1024) (y 0) (y 1) := eq_ix2 y
  have eG : (((View.whole main_v0).slice (win0_2.rect t)).emb y)
      = ix2 (n0 := 2048) (n1 := 1024) ⟨512 * t.val + (y 0).val, by omega⟩ (y 1) := by
    blk_ext [idx2 t]
  rw [eG]
  refine (congrArg (out0_2 (F := Ideal) _ _) ey).trans ((Rows.canon_whole _ _ _ _ _).trans ((point _ _ _ _).trans ?_))
  refine Finset.sum_congr rfl fun k _ => congrArg₂ (· * ·) ?_ ?_
  · exact (Rows.ld_whole _ _ _ _).trans (blk0 m c t _ _ _ rfl)
  · exact (Rows.ld_whole _ _ _ _).trans (blk1 m c t _ _)

end Kernel

/-- The reference's product, at an index. -/
theorem ref (x : (⟨2, ![2048, 4096]⟩ : Shape).Idx → EReal) (w : (⟨2, ![4096, 1024]⟩ : Shape).Idx → EReal) :
    Cert.OutWgradRefIdeal.Read.val_main_v7 (F := Ideal) x w = G x w := by
  funext i
  obtain ⟨a, b, rfl⟩ : ∃ (a : Fin 2048) (b : Fin 1024), i = ix2 a b := ⟨i 0, i 1, eq_ix2 i⟩
  pointwise [Cert.OutWgradRefIdeal.Read.val_main_v7, Cert.OutWgradRefIdeal.Read.val_main_v6, Cert.OutWgradRefIdeal.Read.val_main_v5,
    Cert.OutWgradRefIdeal.Read.val_main_v4, Cert.OutWgradRefIdeal.Read.val_main_v2,
    Cert.OutWgradRefIdeal.Read.val_main_v1]
  exact Finset.sum_congr rfl fun k _ => mul_comm _ _

/-- The reference's frame. -/
theorem ref_frame : Cert.quiescent_OutWgradRefIdeal := fun m ρ _ =>
  (θ_run Cert.OutWgradRefIdeal.defs _ _).mono (fun r h => ⟨fun c => (h c).2,
      Idealize.ShloMosaic.sem_eq_zero_of_no_sems (by decide) r.2⟩)
    (Cert.OutWgradRefIdeal.Value.run (F := Ideal) m ρ)

/-- Equal results. -/
theorem algebraic : Cert.algebraic_OutWgradIdeal_OutWgradRefIdeal := by
  intro m g m' g' _ hag
  refine ⟨fun c => G (A0 m c) (A1 m c), ?_, ?_⟩
  · refine (θ_run Cert.OutWgradIdeal.defs _ _).mono (fun r h c => ?_) (Cert.OutWgradIdeal.Value.run_blocks (F := Ideal) m g)
    obtain ⟨r0, ra⟩ := h c
    exact ⟨r0.trans (arr m c), ra⟩
  · refine (θ_run Cert.OutWgradRefIdeal.defs _ _).mono (fun r h c => ?_) (Cert.OutWgradRefIdeal.Value.run (F := Ideal) m' g')
    obtain ⟨r0, ra⟩ := h c
    obtain ⟨e0, e1⟩ := hag c
    refine ⟨r0.trans ((Cert.OutWgradRefIdeal.Read.val_main_v7_eq _ _).trans ?_), ra⟩
    rw [e0, e1]
    exact ref _ _

end Cert.OutW

end
-- ==== Proof.InWgradClaim.lean ====
/-
  The cotangent of the second layer's input weight, `hᵀ · dp`: the kernel's eight blocks of 1024 columns and the reference's
  product, its columns dealt out to eight shards, leave equal results.
-/
module

public import proofs.«01_k».proof.Defs
public import proofs.«01_k».proof.Proof.Rows
public import proofs.«01_k».proof.Proof.Gen.InWgradIdeal.Value
public import proofs.«01_k».proof.Proof.Gen.InWgradRefIdeal.Run
public import proofs.«01_k».proof.Proof.Gen.InWgradRefIdeal.Read
public import proofs.«01_k».proof.Proof.Gen.InWgradIdeal
public import proofs.«01_k».proof.Proof.Gen.InWgradRefIdeal

@[expose] public section

noncomputable section

namespace Cert.InW

open Idealize.ShloMosaic Idealize.ShloMosaic.TcCoe Idealize.SL.Sem
open Idealize.ShloMosaic.Pipeline (Dat)

/-- The product `hᵀ · dp`, its columns dealt out to eight shards of 1024. -/
def G (x : (⟨2, ![1024, 4096]⟩ : Shape).Idx → EReal) (w : (⟨2, ![4096, 8192]⟩ : Shape).Idx → EReal) :
    (⟨3, ![8, 1024, 1024]⟩ : Shape).Idx → EReal :=
  fun i => ∑ k : Fin 4096, x (ix2 (i 1) k) * w (ix2 k ⟨1024 * (i 0).val + (i 2).val, by
    have h0 : (i 0).val < 8 := (i 0).isLt; have h1 : (i 2).val < 1024 := (i 2).isLt; omega⟩)

section Kernel

open Cert.InWgradIdeal Cert.InWgradIdeal.Gen

variable (m : (ℓ : Loc nD τ sig) → Buf (Elt Ideal) ℓ) (c : Dev nD)

/-- The two arguments. -/
abbrev A0 : S1024x4096.Idx → EReal := m ((c : Thread nD τ).loc main_arg0)
abbrev A1 : S4096x8192.Idx → EReal := m ((c : Thread nD τ).loc main_arg1)

theorem idx0 : ∀ t : Fin grid0.N, win0_0.index t = ![0, 0] := by decide +kernel
theorem idx1 : ∀ t : Fin grid0.N, win0_1.index t = ![0, t.val] := by decide +kernel
theorem idx2 : ∀ t : Fin grid0.N, win0_2.index t = ![t.val, 0, 0] := by decide +kernel

/-- One block's product, at an index. -/
theorem point (x : S1024x4096.Idx → EReal) (w : S4096x1024.Idx → EReal) (z : Fin 1) (a : Fin 1024) (b : Fin 1024) :
    k0_pay1 (F := Ideal) x w (ix3 z a b) = ∑ k : Fin 4096, x (ix2 a k) * w (ix2 k b) := by
  pointwise [k0_pay1]

/-- The left operand is staged whole. -/
theorem blk0 (t : Fin cfg0.N) (a : Fin 1024) (k : Fin 4096) : iblk m c 0 t (ix2 a k) = A0 m c (ix2 a k) := by
  blk_ext [iblk, V, idx0 t]

/-- The right operand's block, at an index. -/
theorem blk1 (t : Fin cfg0.N) (a : Fin 4096) (k : Fin 1024) (r : Fin 8192) (h : r.val = 1024 * t.val + k.val) :
    iblk m c 1 t (ix2 a k) = A1 m c (ix2 a r) := by
  blk_ext [iblk, V, idx1 t]

/-- The result array after the run. -/
theorem arr : (dats m 0 c).arrAt 2 cfg0.N
    = G (A0 m c) (A1 m c) := by
  refine (dats m 0 c).arrAt_eq_of_covers 2 _ (by decide +kernel) fun t hf y => ?_
  blk_simp
  rw [after0_2]
  have ht : t.val < 8 := t.isLt
  have ey : y = ix3 (n0 := 1) (n1 := 1024) (n2 := 1024) (y 0) (y 1) (y 2) := eq_ix3 y
  have hy : (y 0).val < 1 := (y 0).isLt
  have eG : (((View.whole main_v0).slice (win0_2.rect t)).emb y)
      = ix3 (n0 := 8) (n1 := 1024) (n2 := 1024) ⟨t.val, ht⟩ (y 1) (y 2) := by
    blk_ext [idx2 t]
  rw [eG]
  unfold outsAt0
  frame_out
  refine (congrArg (k0_pay1 (F := Ideal) _ _) ey).trans ?_
  refine (point _ _ _ _ _).trans ?_
  refine Finset.sum_congr rfl fun k _ => congrArg₂ (· * ·) ?_ ?_
  · exact blk0 m c t _ _
  · exact blk1 m c t _ _ _ rfl

end Kernel

/-- The reference's product, at an index. -/
theorem ref (x : (⟨2, ![1024, 4096]⟩ : Shape).Idx → EReal) (w : (⟨2, ![4096, 8192]⟩ : Shape).Idx → EReal) :
    Cert.InWgradRefIdeal.Read.val_main_v9 (F := Ideal) x w = G x w := by
  funext i
  obtain ⟨s, a, b, rfl⟩ : ∃ (s : Fin 8) (a : Fin 1024) (b : Fin 1024), i = ix3 s a b := ⟨i 0, i 1, i 2, eq_ix3 i⟩
  pointwise [Cert.InWgradRefIdeal.Read.val_main_v9, Cert.InWgradRefIdeal.Read.val_main_v8,
    Cert.InWgradRefIdeal.Read.val_main_v7, Cert.InWgradRefIdeal.Read.val_main_v6, Cert.InWgradRefIdeal.Read.val_main_v5,
    Cert.InWgradRefIdeal.Read.val_main_v4, Cert.InWgradRefIdeal.Read.val_main_v2, Cert.InWgradRefIdeal.Read.val_main_v1]
  refine Finset.sum_congr rfl fun k _ => (mul_comm _ _).trans (congrArg (x (ix2 a k) * ·) (congrArg w (congrArg (ix2 k) (Fin.ext ?_))))
  show s.val * 1024 + b.val = 1024 * s.val + b.val
  omega

/-- The reference's frame. -/
theorem ref_frame : Cert.quiescent_InWgradRefIdeal := fun m ρ _ =>
  (θ_run Cert.InWgradRefIdeal.defs _ _).mono (fun r h => ⟨fun c => (h c).2,
      Idealize.ShloMosaic.sem_eq_zero_of_no_sems (by decide) r.2⟩)
    (Cert.InWgradRefIdeal.Value.run (F := Ideal) m ρ)

/-- Equal results. -/
theorem algebraic : Cert.algebraic_InWgradIdeal_InWgradRefIdeal := by
  intro m g m' g' _ hag
  refine ⟨fun c => G (A0 m c) (A1 m c), ?_, ?_⟩
  · refine (θ_run Cert.InWgradIdeal.defs _ _).mono (fun r h c => ?_) (Cert.InWgradIdeal.Value.run_blocks (F := Ideal) m g)
    obtain ⟨r0, ra⟩ := h c
    exact ⟨r0.trans (arr m c), ra⟩
  · refine (θ_run Cert.InWgradRefIdeal.defs _ _).mono (fun r h c => ?_) (Cert.InWgradRefIdeal.Value.run (F := Ideal) m' g')
    obtain ⟨r0, ra⟩ := h c
    obtain ⟨e0, e1⟩ := hag c
    refine ⟨r0.trans ((Cert.InWgradRefIdeal.Read.val_main_v9_eq _ _).trans ?_), ra⟩
    rw [e0, e1]
    exact ref _ _

end Cert.InW

end
-- ==== Proof.EvenWgradClaim.lean ====
/-
  The cotangent of the first layer's input weight, `hᵀ · dp`, the columns of `dp` lying in five arrays: the kernel's
  twenty-four blocks of 256 columns and the reference's product, its columns dealt out to eight shards of 768, leave
  equal results.
-/
module

public import proofs.«01_k».proof.Defs
public import proofs.«01_k».proof.Proof.Rows
public import proofs.«01_k».proof.Proof.Gen.EvenWgradIdeal.Value
public import proofs.«01_k».proof.Proof.Gen.EvenWgradRefIdeal.Run
public import proofs.«01_k».proof.Proof.Gen.EvenWgradRefIdeal.Read
public import proofs.«01_k».proof.Proof.Gen.EvenWgradIdeal
public import proofs.«01_k».proof.Proof.Gen.EvenWgradRefIdeal

@[expose] public section

noncomputable section

namespace Cert.EvenW

open Idealize.ShloMosaic Idealize.ShloMosaic.TcCoe Idealize.SL.Sem
open Idealize.ShloMosaic.Pipeline (Dat)

/-- The five arrays side by side: columns 0 to 1023, 1024 to 2047, 2048 to 3071, 3072 to 4095, and 4096 to 6143. -/
def cat (u q k v : (⟨2, ![4096, 1024]⟩ : Shape).Idx → EReal) (g : (⟨2, ![4096, 2048]⟩ : Shape).Idx → EReal)
    (r : Fin 4096) (e : Fin 6144) : EReal :=
  if h : e.val < 1024 then u (ix2 r ⟨e.val, h⟩)
  else if h : e.val < 2048 then q (ix2 r ⟨e.val - 1024, by omega⟩)
  else if h : e.val < 3072 then k (ix2 r ⟨e.val - 2048, by omega⟩)
  else if h : e.val < 4096 then v (ix2 r ⟨e.val - 3072, by omega⟩)
  else g (ix2 r ⟨e.val - 4096, by omega⟩)

/-- The product `hᵀ · dp`, its columns dealt out to eight shards of 768. -/
def G (x : (⟨2, ![1024, 4096]⟩ : Shape).Idx → EReal) (dp : Fin 4096 → Fin 6144 → EReal) :
    (⟨3, ![8, 1024, 768]⟩ : Shape).Idx → EReal :=
  fun i => ∑ k : Fin 4096, x (ix2 (i 1) k) * dp k ⟨768 * (i 0).val + (i 2).val, by
    have h0 : (i 0).val < 8 := (i 0).isLt; have h1 : (i 2).val < 768 := (i 2).isLt; omega⟩

section Kernel

open Cert.EvenWgradIdeal Cert.EvenWgradIdeal.Gen

variable (m : (ℓ : Loc nD τ sig) → Buf (Elt Ideal) ℓ) (c : Dev nD)

/-- The six arguments. -/
abbrev A0 : S1024x4096.Idx → EReal := m ((c : Thread nD τ).loc main_arg0)
abbrev A1 : S4096x1024.Idx → EReal := m ((c : Thread nD τ).loc main_arg1)
abbrev A2 : S4096x1024.Idx → EReal := m ((c : Thread nD τ).loc main_arg2)
abbrev A3 : S4096x1024.Idx → EReal := m ((c : Thread nD τ).loc main_arg3)
abbrev A4 : S4096x1024.Idx → EReal := m ((c : Thread nD τ).loc main_arg4)
abbrev A5 : S4096x2048.Idx → EReal := m ((c : Thread nD τ).loc main_arg5)

theorem idx0 : ∀ t : Fin grid0.N, win0_0.index t = ![0, 0] := by decide +kernel
theorem idx1 : ∀ t : Fin grid0.N, win0_1.index t = ![0, min (t.val - 0) 3] := by decide +kernel
theorem idx2 : ∀ t : Fin grid0.N, win0_2.index t = ![0, min (t.val - 4) 3] := by decide +kernel
theorem idx3 : ∀ t : Fin grid0.N, win0_3.index t = ![0, min (t.val - 8) 3] := by decide +kernel
theorem idx4 : ∀ t : Fin grid0.N, win0_4.index t = ![0, min (t.val - 12) 3] := by decide +kernel
theorem idx5 : ∀ t : Fin grid0.N, win0_5.index t = ![0, min (t.val - 16) 7] := by decide +kernel
theorem idx6 : ∀ t : Fin grid0.N, win0_6.index t = ![t.val / 3, 0, t.val % 3] := by decide +kernel

/-! One block's product, at an index: five texts of the same operations, one for each of the five arrays. -/

theorem point1 (x : S1024x4096.Idx → EReal) (w : S4096x256.Idx → EReal) (z : Fin 1) (a : Fin 1024) (b : Fin 256) :
    k0_pay1 (F := Ideal) x w (ix3 z a b) = ∑ k : Fin 4096, x (ix2 a k) * w (ix2 k b) := by
  pointwise [k0_pay1]
theorem point2 (x : S1024x4096.Idx → EReal) (w : S4096x256.Idx → EReal) (z : Fin 1) (a : Fin 1024) (b : Fin 256) :
    k0_pay2 (F := Ideal) x w (ix3 z a b) = ∑ k : Fin 4096, x (ix2 a k) * w (ix2 k b) := by
  pointwise [k0_pay2]
theorem point3 (x : S1024x4096.Idx → EReal) (w : S4096x256.Idx → EReal) (z : Fin 1) (a : Fin 1024) (b : Fin 256) :
    k0_pay3 (F := Ideal) x w (ix3 z a b) = ∑ k : Fin 4096, x (ix2 a k) * w (ix2 k b) := by
  pointwise [k0_pay3]
theorem point4 (x : S1024x4096.Idx → EReal) (w : S4096x256.Idx → EReal) (z : Fin 1) (a : Fin 1024) (b : Fin 256) :
    k0_pay4 (F := Ideal) x w (ix3 z a b) = ∑ k : Fin 4096, x (ix2 a k) * w (ix2 k b) := by
  pointwise [k0_pay4]
theorem point5 (x : S1024x4096.Idx → EReal) (w : S4096x256.Idx → EReal) (z : Fin 1) (a : Fin 1024) (b : Fin 256) :
    k0_pay5 (F := Ideal) x w (ix3 z a b) = ∑ k : Fin 4096, x (ix2 a k) * w (ix2 k b) := by
  pointwise [k0_pay5]

/-- The left operand is staged whole. -/
theorem blk0 (t : Fin cfg0.N) (a : Fin 1024) (k : Fin 4096) : iblk m c 0 t (ix2 a k) = A0 m c (ix2 a k) := by
  blk_ext [iblk, V, idx0 t]

/-! The block of the array a grid point works on, at an index. -/

theorem blk1 (t : Fin cfg0.N) (h0 : 0 ≤ t.val) (h1 : t.val < 4) (a : Fin 4096) (k : Fin 256) (r : Fin 1024)
    (h : r.val + 0 = 256 * t.val + k.val) : iblk m c 1 t (ix2 a k) = A1 m c (ix2 a r) := by
  have e := idx1 t
  rw [show min (t.val - 0) 3 = t.val - 0 by omega] at e
  blk_ext [iblk, V, e]
theorem blk2 (t : Fin cfg0.N) (h0 : 4 ≤ t.val) (h1 : t.val < 8) (a : Fin 4096) (k : Fin 256) (r : Fin 1024)
    (h : r.val + 1024 = 256 * t.val + k.val) : iblk m c 2 t (ix2 a k) = A2 m c (ix2 a r) := by
  have e := idx2 t
  rw [show min (t.val - 4) 3 = t.val - 4 by omega] at e
  blk_ext [iblk, V, e]
theorem blk3 (t : Fin cfg0.N) (h0 : 8 ≤ t.val) (h1 : t.val < 12) (a : Fin 4096) (k : Fin 256) (r : Fin 1024)
    (h : r.val + 2048 = 256 * t.val + k.val) : iblk m c 3 t (ix2 a k) = A3 m c (ix2 a r) := by
  have e := idx3 t
  rw [show min (t.val - 8) 3 = t.val - 8 by omega] at e
  blk_ext [iblk, V, e]
theorem blk4 (t : Fin cfg0.N) (h0 : 12 ≤ t.val) (h1 : t.val < 16) (a : Fin 4096) (k : Fin 256) (r : Fin 1024)
    (h : r.val + 3072 = 256 * t.val + k.val) : iblk m c 4 t (ix2 a k) = A4 m c (ix2 a r) := by
  have e := idx4 t
  rw [show min (t.val - 12) 3 = t.val - 12 by omega] at e
  blk_ext [iblk, V, e]
theorem blk5 (t : Fin cfg0.N) (h0 : 16 ≤ t.val) (h1 : t.val < 24) (a : Fin 4096) (k : Fin 256) (r : Fin 2048)
    (h : r.val + 4096 = 256 * t.val + k.val) : iblk m c 5 t (ix2 a k) = A5 m c (ix2 a r) := by
  have e := idx5 t
  rw [show min (t.val - 16) 7 = t.val - 16 by omega] at e
  blk_ext [iblk, V, e]

/-- The result array after the run. -/
theorem arr : (dats m 0 c).arrAt 6 cfg0.N
    = G (A0 m c) (cat (A1 m c) (A2 m c) (A3 m c) (A4 m c) (A5 m c)) := by
  refine (dats m 0 c).arrAt_eq_of_covers 6 _ (by decide +kernel) fun t hf y => ?_
  blk_simp
  rw [after0_6]
  have ht : t.val < 24 := t.isLt
  have ey : y = ix3 (n0 := 1) (n1 := 1024) (n2 := 256) (y 0) (y 1) (y 2) := eq_ix3 y
  have hy : (y 0).val < 1 := (y 0).isLt
  have hy2 : (y 2).val < 256 := (y 2).isLt
  have eG : (((View.whole main_v0).slice (win0_6.rect t)).emb y)
      = ix3 (n0 := 8) (n1 := 1024) (n2 := 768) ⟨t.val / 3, by omega⟩ (y 1) ⟨256 * (t.val % 3) + (y 2).val, by omega⟩ := by
    blk_ext [idx6 t]
  rw [eG]
  have hc : t.val < 4 ∨ (4 ≤ t.val ∧ t.val < 8) ∨ (8 ≤ t.val ∧ t.val < 12) ∨ (12 ≤ t.val ∧ t.val < 16) ∨ 16 ≤ t.val := by omega
  rcases hc with h | h | h | h | h
  · rw [outsAt0_A m c t (by omega) (by omega) (by omega) (by omega) (by omega)]
    frame_out
    refine (congrArg (k0_pay1 (F := Ideal) _ _) ey).trans ?_
    refine (point1 _ _ _ _ _).trans ?_
    refine Finset.sum_congr rfl fun k _ => congrArg₂ (· * ·) (blk0 m c t _ _) ?_
    refine (blk1 m c t (by omega) (by omega) _ _ ⟨256 * t.val + (y 2).val - 0, by omega⟩ (by show 256 * t.val + (y 2).val - 0 + 0 = _; omega)).trans ?_
    have e1 : 768 * (t.val / 3) + (256 * (t.val % 3) + (y 2).val) = 256 * t.val + (y 2).val := by omega
    refine Eq.trans ?_ (congrArg (cat (A1 m c) (A2 m c) (A3 m c) (A4 m c) (A5 m c) k) (Fin.ext e1.symm : (⟨256 * t.val + (y 2).val, by omega⟩ : Fin 6144) = _))
    unfold cat
    rw [dif_pos (show 256 * t.val + (y 2).val < 1024 by omega)]
    rfl
  · rw [outsAt0_B m c t (by omega) (by omega) (by omega) (by omega) (by omega)]
    frame_out
    refine (congrArg (k0_pay2 (F := Ideal) _ _) ey).trans ?_
    refine (point2 _ _ _ _ _).trans ?_
    refine Finset.sum_congr rfl fun k _ => congrArg₂ (· * ·) (blk0 m c t _ _) ?_
    refine (blk2 m c t (by omega) (by omega) _ _ ⟨256 * t.val + (y 2).val - 1024, by omega⟩ (by show 256 * t.val + (y 2).val - 1024 + 1024 = _; omega)).trans ?_
    have e1 : 768 * (t.val / 3) + (256 * (t.val % 3) + (y 2).val) = 256 * t.val + (y 2).val := by omega
    refine Eq.trans ?_ (congrArg (cat (A1 m c) (A2 m c) (A3 m c) (A4 m c) (A5 m c) k) (Fin.ext e1.symm : (⟨256 * t.val + (y 2).val, by omega⟩ : Fin 6144) = _))
    unfold cat
    rw [dif_neg (show ¬ 256 * t.val + (y 2).val < 1024 by omega)]
    rw [dif_pos (show 256 * t.val + (y 2).val < 2048 by omega)]
  · rw [outsAt0_C m c t (by omega) (by omega) (by omega) (by omega) (by omega)]
    frame_out
    refine (congrArg (k0_pay3 (F := Ideal) _ _) ey).trans ?_
    refine (point3 _ _ _ _ _).trans ?_
    refine Finset.sum_congr rfl fun k _ => congrArg₂ (· * ·) (blk0 m c t _ _) ?_
    refine (blk3 m c t (by omega) (by omega) _ _ ⟨256 * t.val + (y 2).val - 2048, by omega⟩ (by show 256 * t.val + (y 2).val - 2048 + 2048 = _; omega)).trans ?_
    have e1 : 768 * (t.val / 3) + (256 * (t.val % 3) + (y 2).val) = 256 * t.val + (y 2).val := by omega
    refine Eq.trans ?_ (congrArg (cat (A1 m c) (A2 m c) (A3 m c) (A4 m c) (A5 m c) k) (Fin.ext e1.symm : (⟨256 * t.val + (y 2).val, by omega⟩ : Fin 6144) = _))
    unfold cat
    rw [dif_neg (show ¬ 256 * t.val + (y 2).val < 1024 by omega)]
    rw [dif_neg (show ¬ 256 * t.val + (y 2).val < 2048 by omega)]
    rw [dif_pos (show 256 * t.val + (y 2).val < 3072 by omega)]
  · rw [outsAt0_D m c t (by omega) (by omega) (by omega) (by omega) (by omega)]
    frame_out
    refine (congrArg (k0_pay4 (F := Ideal) _ _) ey).trans ?_
    refine (point4 _ _ _ _ _).trans ?_
    refine Finset.sum_congr rfl fun k _ => congrArg₂ (· * ·) (blk0 m c t _ _) ?_
    refine (blk4 m c t (by omega) (by omega) _ _ ⟨256 * t.val + (y 2).val - 3072, by omega⟩ (by show 256 * t.val + (y 2).val - 3072 + 3072 = _; omega)).trans ?_
    have e1 : 768 * (t.val / 3) + (256 * (t.val % 3) + (y 2).val) = 256 * t.val + (y 2).val := by omega
    refine Eq.trans ?_ (congrArg (cat (A1 m c) (A2 m c) (A3 m c) (A4 m c) (A5 m c) k) (Fin.ext e1.symm : (⟨256 * t.val + (y 2).val, by omega⟩ : Fin 6144) = _))
    unfold cat
    rw [dif_neg (show ¬ 256 * t.val + (y 2).val < 1024 by omega)]
    rw [dif_neg (show ¬ 256 * t.val + (y 2).val < 2048 by omega)]
    rw [dif_neg (show ¬ 256 * t.val + (y 2).val < 3072 by omega)]
    rw [dif_pos (show 256 * t.val + (y 2).val < 4096 by omega)]
  · rw [outsAt0_E m c t (by omega) (by omega) (by omega) (by omega) (by omega)]
    frame_out
    refine (congrArg (k0_pay5 (F := Ideal) _ _) ey).trans ?_
    refine (point5 _ _ _ _ _).trans ?_
    refine Finset.sum_congr rfl fun k _ => congrArg₂ (· * ·) (blk0 m c t _ _) ?_
    refine (blk5 m c t (by omega) (by omega) _ _ ⟨256 * t.val + (y 2).val - 4096, by omega⟩ (by show 256 * t.val + (y 2).val - 4096 + 4096 = _; omega)).trans ?_
    have e1 : 768 * (t.val / 3) + (256 * (t.val % 3) + (y 2).val) = 256 * t.val + (y 2).val := by omega
    refine Eq.trans ?_ (congrArg (cat (A1 m c) (A2 m c) (A3 m c) (A4 m c) (A5 m c) k) (Fin.ext e1.symm : (⟨256 * t.val + (y 2).val, by omega⟩ : Fin 6144) = _))
    unfold cat
    rw [dif_neg (show ¬ 256 * t.val + (y 2).val < 1024 by omega)]
    rw [dif_neg (show ¬ 256 * t.val + (y 2).val < 2048 by omega)]
    rw [dif_neg (show ¬ 256 * t.val + (y 2).val < 3072 by omega)]
    rw [dif_neg (show ¬ 256 * t.val + (y 2).val < 4096 by omega)]

end Kernel

/-- The reference's product, at an index. -/
theorem ref (x : (⟨2, ![1024, 4096]⟩ : Shape).Idx → EReal) (u q k' v : (⟨2, ![4096, 1024]⟩ : Shape).Idx → EReal)
    (g : (⟨2, ![4096, 2048]⟩ : Shape).Idx → EReal) :
    Cert.EvenWgradRefIdeal.Read.val_main_v10 (F := Ideal) x u q k' v g = G x (cat u q k' v g) := by
  funext i
  obtain ⟨s, a, b, rfl⟩ : ∃ (s : Fin 8) (a : Fin 1024) (b : Fin 768), i = ix3 s a b := ⟨i 0, i 1, i 2, eq_ix3 i⟩
  pointwise [Cert.EvenWgradRefIdeal.Read.val_main_v10, Cert.EvenWgradRefIdeal.Read.val_main_v9,
    Cert.EvenWgradRefIdeal.Read.val_main_v8, Cert.EvenWgradRefIdeal.Read.val_main_v7, Cert.EvenWgradRefIdeal.Read.val_main_v6,
    Cert.EvenWgradRefIdeal.Read.val_main_v4, Cert.EvenWgradRefIdeal.Read.val_main_v3, Cert.EvenWgradRefIdeal.Read.val_main_v1,
    Cert.EvenWgradRefIdeal.Read.val_main_v0]
  refine Finset.sum_congr rfl fun k _ => (mul_comm _ _).trans (congrArg (x (ix2 a k) * ·) ?_)
  have hs : s.val < 8 := s.isLt
  have hb : b.val < 768 := b.isLt
  have e1 : (⟨768 * s.val + b.val, by omega⟩ : Fin 6144) = ⟨s.val * 768 + b.val, by omega⟩ :=
    Fin.ext (by show 768 * s.val + b.val = s.val * 768 + b.val; omega)
  refine Eq.trans ?_ (congrArg (cat u q k' v g k) e1.symm)
  unfold cat
  by_cases h1 : s.val * 768 + b.val < 1024
  · rw [dif_pos h1, dif_pos h1]
  rw [dif_neg h1, dif_neg h1]
  by_cases h2 : s.val * 768 + b.val < 2048
  · rw [dif_pos (by omega), dif_pos h2]
  rw [dif_neg (by omega), dif_neg h2]
  by_cases h3 : s.val * 768 + b.val < 3072
  · rw [dif_pos (by omega), dif_pos h3]
    exact congrArg k' (congrArg (ix2 k) (Fin.ext (by show s.val * 768 + b.val - 1024 - 1024 = s.val * 768 + b.val - 2048; omega)))
  rw [dif_neg (by omega), dif_neg h3]
  by_cases h4 : s.val * 768 + b.val < 4096
  · rw [dif_pos (by omega), dif_pos h4]
    exact congrArg v (congrArg (ix2 k) (Fin.ext (by show s.val * 768 + b.val - 1024 - 1024 - 1024 = s.val * 768 + b.val - 3072; omega)))
  rw [dif_neg (by omega), dif_neg h4]
  exact congrArg g (congrArg (ix2 k) (Fin.ext (by show s.val * 768 + b.val - 1024 - 1024 - 1024 - 1024 = s.val * 768 + b.val - 4096; omega)))

/-- The reference's frame. -/
theorem ref_frame : Cert.quiescent_EvenWgradRefIdeal := fun m ρ _ =>
  (θ_run Cert.EvenWgradRefIdeal.defs _ _).mono (fun r h => ⟨fun c => (h c).2,
      Idealize.ShloMosaic.sem_eq_zero_of_no_sems (by decide) r.2⟩)
    (Cert.EvenWgradRefIdeal.Value.run (F := Ideal) m ρ)

/-- Equal results. -/
theorem algebraic : Cert.algebraic_EvenWgradIdeal_EvenWgradRefIdeal := by
  intro m g m' g' _ hag
  refine ⟨fun c => G (A0 m c) (cat (A1 m c) (A2 m c) (A3 m c) (A4 m c) (A5 m c)), ?_, ?_⟩
  · refine (θ_run Cert.EvenWgradIdeal.defs _ _).mono (fun r h c => ?_) (Cert.EvenWgradIdeal.Value.run_blocks (F := Ideal) m g)
    obtain ⟨r0, ra⟩ := h c
    exact ⟨r0.trans (arr m c), ra⟩
  · refine (θ_run Cert.EvenWgradRefIdeal.defs _ _).mono (fun r h c => ?_) (Cert.EvenWgradRefIdeal.Value.run (F := Ideal) m' g')
    obtain ⟨r0, ra⟩ := h c
    obtain ⟨e0, e1, e2, e3, e4, e5⟩ := hag c
    refine ⟨r0.trans ((Cert.EvenWgradRefIdeal.Read.val_main_v10_eq _ _ _ _ _ _).trans ?_), ra⟩
    rw [e0, e1, e2, e3, e4, e5]
    exact ref _ _ _ _ _ _

end Cert.EvenW

end
-- ==== Proof.OutFwdClaim.lean ====
/-
  The output product `y · w`: the kernel's eight blocks of 512 rows and the reference's
  product leave equal results.
-/
module

public import proofs.«01_k».proof.Defs
public import proofs.«01_k».proof.Proof.Rows
public import proofs.«01_k».proof.Proof.Gen.OutFwdIdeal.Value
public import proofs.«01_k».proof.Proof.Gen.OutFwdRefIdeal.Run
public import proofs.«01_k».proof.Proof.Gen.OutFwdRefIdeal.Read
public import proofs.«01_k».proof.Proof.Gen.OutFwdIdeal
public import proofs.«01_k».proof.Proof.Gen.OutFwdRefIdeal

@[expose] public section

noncomputable section

namespace Cert.OutF

open Idealize.ShloMosaic Idealize.ShloMosaic.TcCoe Idealize.SL.Sem
open Idealize.ShloMosaic.Pipeline (Dat)

/-- The product: row `i 0` of `x` with column `i 1` of `w`. -/
def G (x : (⟨2, ![4096, 2048]⟩ : Shape).Idx → EReal) (w : (⟨2, ![2048, 1024]⟩ : Shape).Idx → EReal) :
    (⟨2, ![4096, 1024]⟩ : Shape).Idx → EReal :=
  fun i => ∑ k : Fin 2048, x (ix2 (i 0) k) * w (ix2 k (i 1))

section Kernel

open Cert.OutFwdIdeal Cert.OutFwdIdeal.Gen

variable (m : (ℓ : Loc nD τ sig) → Buf (Elt Ideal) ℓ) (c : Dev nD)

/-- The two arguments. -/
abbrev A0 : S4096x2048.Idx → EReal := m ((c : Thread nD τ).loc main_arg0)
abbrev A1 : S2048x1024.Idx → EReal := m ((c : Thread nD τ).loc main_arg1)

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![t.val, 0] := by decide +kernel

/-- One block's product, at an index. -/
theorem point (x : S512x2048.Idx → EReal) (w : S2048x1024.Idx → EReal) (a : Fin 512) (b : Fin 1024) :
    k0_pay1 (F := Ideal) x w (ix2 a b) = ∑ k : Fin 2048, x (ix2 a k) * w (ix2 k b) := by
  pointwise [k0_pay1]

/-- The left operand's block, at an index. -/
theorem blk0 (t : Fin cfg0.N) (a : Fin 512) (k : Fin 2048) (r : Fin 4096) (h : r.val = 512 * t.val + a.val) :
    iblk m c 0 t (ix2 a k) = A0 m c (ix2 r k) := by
  blk_ext [iblk, V, idx0 t]

/-- The right operand's block is the whole of it. -/
theorem blk1 (t : Fin cfg0.N) (a : Fin 2048) (k : Fin 1024) :
    iblk m c 1 t (ix2 a k) = A1 m c (ix2 a k) := by
  blk_ext [iblk, V, idx1 t]

/-- The result array after the run. -/
theorem arr : (dats m 0 c).arrAt 2 cfg0.N
    = G (A0 m c) (A1 m c) := by
  refine (dats m 0 c).arrAt_eq_of_covers 2 _ (by decide +kernel) fun t hf y => ?_
  blk_simp
  rw [after0_2]
  have ht : t.val < 8 := t.isLt
  have hy : (y 0).val < 512 := (y 0).isLt
  have ey : y = ix2 (n0 := 512) (n1 := 1024) (y 0) (y 1) := eq_ix2 y
  have eG : (((View.whole main_v0).slice (win0_2.rect t)).emb y)
      = ix2 (n0 := 4096) (n1 := 1024) ⟨512 * t.val + (y 0).val, by omega⟩ (y 1) := by
    blk_ext [idx2 t]
  rw [eG]
  refine (congrArg (out0_2 (F := Ideal) _ _) ey).trans ((Rows.canon_whole _ _ _ _ _).trans ((point _ _ _ _).trans ?_))
  refine Finset.sum_congr rfl fun k _ => congrArg₂ (· * ·) ?_ ?_
  · exact (Rows.ld_whole _ _ _ _).trans (blk0 m c t _ _ _ rfl)
  · exact (Rows.ld_whole _ _ _ _).trans (blk1 m c t _ _)

end Kernel

/-- The reference's product, at an index. -/
theorem ref (x : (⟨2, ![4096, 2048]⟩ : Shape).Idx → EReal) (w : (⟨2, ![2048, 1024]⟩ : Shape).Idx → EReal) :
    Cert.OutFwdRefIdeal.Read.val_main_v2 (F := Ideal) x w = G x w := by
  funext i
  obtain ⟨a, b, rfl⟩ : ∃ (a : Fin 4096) (b : Fin 1024), i = ix2 a b := ⟨i 0, i 1, eq_ix2 i⟩
  pointwise [Cert.OutFwdRefIdeal.Read.val_main_v2, Cert.OutFwdRefIdeal.Read.val_main_v0,
    Cert.OutFwdRefIdeal.Read.val_main_v1]
  rfl

/-- The reference's frame. -/
theorem ref_frame : Cert.quiescent_OutFwdRefIdeal := fun m ρ _ =>
  (θ_run Cert.OutFwdRefIdeal.defs _ _).mono (fun r h => ⟨fun c => (h c).2,
      Idealize.ShloMosaic.sem_eq_zero_of_no_sems (by decide) r.2⟩)
    (Cert.OutFwdRefIdeal.Value.run (F := Ideal) m ρ)

/-- Equal results. -/
theorem algebraic : Cert.algebraic_OutFwdIdeal_OutFwdRefIdeal := by
  intro m g m' g' _ hag
  refine ⟨fun c => G (A0 m c) (A1 m c), ?_, ?_⟩
  · refine (θ_run Cert.OutFwdIdeal.defs _ _).mono (fun r h c => ?_) (Cert.OutFwdIdeal.Value.run_blocks (F := Ideal) m g)
    obtain ⟨r0, ra⟩ := h c
    exact ⟨r0.trans (arr m c), ra⟩
  · refine (θ_run Cert.OutFwdRefIdeal.defs _ _).mono (fun r h c => ?_) (Cert.OutFwdRefIdeal.Value.run (F := Ideal) m' g')
    obtain ⟨r0, ra⟩ := h c
    obtain ⟨e0, e1⟩ := hag c
    refine ⟨r0.trans ((Cert.OutFwdRefIdeal.Read.val_main_v2_eq _ _).trans ?_), ra⟩
    rw [e0, e1]
    exact ref _ _

end Cert.OutF

end
-- ==== Proof.InFwdClaim.lean ====
/-
  The second layer's input product `h · w`, the weight lying in eight shards of 1024 columns: the kernel's sixteen blocks of
  256 rows and the reference's product leave equal results.
-/
module

public import proofs.«01_k».proof.Defs
public import proofs.«01_k».proof.Proof.Rows
public import proofs.«01_k».proof.Proof.Gen.InFwdIdeal.Value
public import proofs.«01_k».proof.Proof.Gen.InFwdRefIdeal.Run
public import proofs.«01_k».proof.Proof.Gen.InFwdRefIdeal.Read
public import proofs.«01_k».proof.Proof.Gen.InFwdIdeal
public import proofs.«01_k».proof.Proof.Gen.InFwdRefIdeal

@[expose] public section

noncomputable section

namespace Cert.InF

open Idealize.ShloMosaic Idealize.ShloMosaic.TcCoe Idealize.SL.Sem
open Idealize.ShloMosaic.Pipeline (Dat)

/-- Entry `(r, e)` of the product: row `r` of `h` with column `e % 1024` of shard `e / 1024`. -/
def G (x : (⟨2, ![4096, 1024]⟩ : Shape).Idx → EReal) (w : (⟨3, ![8, 1024, 1024]⟩ : Shape).Idx → EReal) :
    (⟨2, ![4096, 8192]⟩ : Shape).Idx → EReal :=
  fun i => ∑ k : Fin 1024, x (ix2 (i 0) k) * w (ix3 ⟨(i 1).val / 1024, by
    have h0 : (i 1).val < 8192 := (i 1).isLt; omega⟩ k ⟨(i 1).val % 1024, Nat.mod_lt _ (by decide)⟩)

section Kernel

open Cert.InFwdIdeal Cert.InFwdIdeal.Gen

variable (m : (ℓ : Loc nD τ sig) → Buf (Elt Ideal) ℓ) (c : Dev nD)

/-- The two arguments. -/
abbrev A0 : S4096x1024.Idx → EReal := m ((c : Thread nD τ).loc main_arg0)
abbrev A1 : S8x1024x1024.Idx → EReal := m ((c : Thread nD τ).loc main_arg1)

theorem idx0 : ∀ t : Fin grid0.N, win0_0.index t = ![t.val, 0] := by decide +kernel
theorem idx1 : ∀ t : Fin grid0.N, win0_1.index t = ![0, 0, 0] := by decide +kernel
theorem idx2 : ∀ t : Fin grid0.N, win0_2.index t = ![t.val, 0] := by decide +kernel

/-! One shard's product, at an index: eight texts of the same operations, one for each shard. -/

theorem point1 (x : S256x1024.Idx → EReal) (w : S1x1024x1024.Idx → EReal) (a : Fin 256) (b : Fin 1024) :
    k0_pay1 (F := Ideal) x w (ix2 a b) = ∑ k : Fin 1024, x (ix2 a k) * w (ix3 (0 : Fin 1) k b) := by
  pointwise [k0_pay1]
theorem point2 (x : S256x1024.Idx → EReal) (w : S1x1024x1024.Idx → EReal) (a : Fin 256) (b : Fin 1024) :
    k0_pay2 (F := Ideal) x w (ix2 a b) = ∑ k : Fin 1024, x (ix2 a k) * w (ix3 (0 : Fin 1) k b) := by
  pointwise [k0_pay2]
theorem point3 (x : S256x1024.Idx → EReal) (w : S1x1024x1024.Idx → EReal) (a : Fin 256) (b : Fin 1024) :
    k0_pay3 (F := Ideal) x w (ix2 a b) = ∑ k : Fin 1024, x (ix2 a k) * w (ix3 (0 : Fin 1) k b) := by
  pointwise [k0_pay3]
theorem point4 (x : S256x1024.Idx → EReal) (w : S1x1024x1024.Idx → EReal) (a : Fin 256) (b : Fin 1024) :
    k0_pay4 (F := Ideal) x w (ix2 a b) = ∑ k : Fin 1024, x (ix2 a k) * w (ix3 (0 : Fin 1) k b) := by
  pointwise [k0_pay4]
theorem point5 (x : S256x1024.Idx → EReal) (w : S1x1024x1024.Idx → EReal) (a : Fin 256) (b : Fin 1024) :
    k0_pay5 (F := Ideal) x w (ix2 a b) = ∑ k : Fin 1024, x (ix2 a k) * w (ix3 (0 : Fin 1) k b) := by
  pointwise [k0_pay5]
theorem point6 (x : S256x1024.Idx → EReal) (w : S1x1024x1024.Idx → EReal) (a : Fin 256) (b : Fin 1024) :
    k0_pay6 (F := Ideal) x w (ix2 a b) = ∑ k : Fin 1024, x (ix2 a k) * w (ix3 (0 : Fin 1) k b) := by
  pointwise [k0_pay6]
theorem point7 (x : S256x1024.Idx → EReal) (w : S1x1024x1024.Idx → EReal) (a : Fin 256) (b : Fin 1024) :
    k0_pay7 (F := Ideal) x w (ix2 a b) = ∑ k : Fin 1024, x (ix2 a k) * w (ix3 (0 : Fin 1) k b) := by
  pointwise [k0_pay7]
theorem point8 (x : S256x1024.Idx → EReal) (w : S1x1024x1024.Idx → EReal) (a : Fin 256) (b : Fin 1024) :
    k0_pay8 (F := Ideal) x w (ix2 a b) = ∑ k : Fin 1024, x (ix2 a k) * w (ix3 (0 : Fin 1) k b) := by
  pointwise [k0_pay8]

/-- The left operand's block, at an index. -/
theorem blk0 (t : Fin cfg0.N) (a : Fin 256) (k : Fin 1024) (r : Fin 4096) (h : r.val = 256 * t.val + a.val) :
    iblk m c 0 t (ix2 a k) = A0 m c (ix2 r k) := by
  blk_ext [iblk, V, idx0 t]

/-- The weight is staged whole. -/
theorem blk1 (t : Fin cfg0.N) (s : Fin 8) (a : Fin 1024) (k : Fin 1024) :
    iblk m c 1 t (ix3 s a k) = A1 m c (ix3 s a k) := by
  blk_ext [iblk, V, idx1 t]

/-- Column `b` of shard `s` is column `1024 s + b`. -/
theorem shard (s : ℕ) (hs : s < 8) (q : Fin 1024) (e : Fin 8192) (b : Fin 1024) (h : e.val = s * 1024 + b.val) :
    A1 m c (ix3 ⟨s, hs⟩ q b)
      = A1 m c (ix3 ⟨e.val / 1024, by omega⟩ q ⟨e.val % 1024, Nat.mod_lt _ (by decide)⟩) := by
  have hb : b.val < 1024 := b.isLt
  have h1 : (⟨e.val / 1024, by omega⟩ : Fin 8) = ⟨s, hs⟩ := Fin.ext (by show e.val / 1024 = s; omega)
  have h2 : (⟨e.val % 1024, Nat.mod_lt _ (by decide)⟩ : Fin 1024) = b := Fin.ext (by show e.val % 1024 = b.val; omega)
  rw [h1, h2]

/-- What a grid point leaves in its block, shard by shard. -/
theorem bands (t : Fin cfg0.N) (a : Fin 256) (e : Fin 8192) (hr : 256 * t.val + a.val < 4096) :
    out0_2 (F := Ideal) (iblk m c 0 t) (iblk m c 1 t) (ix2 a e)
      = G (A0 m c) (A1 m c) (ix2 ⟨256 * t.val + a.val, hr⟩ e) := by
  have he : e.val < 8192 := e.isLt
  unfold out0_2
  rw [Rows.canon_band 7168 1024 (by decide)]
  split
  · rename_i h
    refine (point3 _ _ _ _).trans (Finset.sum_congr rfl fun q _ => congrArg₂ (· * ·) ?_ ?_)
    · exact (Rows.ld_whole _ _ _ _).trans (blk0 m c t _ _ _ rfl)
    · refine (Rows.ld_slice 7 (by decide) _ _ _ _ _).trans ((blk1 m c t _ _ _).trans ?_)
      exact shard m c 7 (by decide) q e _ (by show e.val = 7 * 1024 + (e.val - 7168); omega)
  rename_i h7
  rw [Rows.canon_band 6144 1024 (by decide)]
  split
  · rename_i h
    refine (point2 _ _ _ _).trans (Finset.sum_congr rfl fun q _ => congrArg₂ (· * ·) ?_ ?_)
    · exact (Rows.ld_whole _ _ _ _).trans (blk0 m c t _ _ _ rfl)
    · refine (Rows.ld_slice 6 (by decide) _ _ _ _ _).trans ((blk1 m c t _ _ _).trans ?_)
      exact shard m c 6 (by decide) q e _ (by show e.val = 6 * 1024 + (e.val - 6144); omega)
  rename_i h6
  rw [Rows.canon_band 5120 1024 (by decide)]
  split
  · rename_i h
    refine (point1 _ _ _ _).trans (Finset.sum_congr rfl fun q _ => congrArg₂ (· * ·) ?_ ?_)
    · exact (Rows.ld_whole _ _ _ _).trans (blk0 m c t _ _ _ rfl)
    · refine (Rows.ld_slice 5 (by decide) _ _ _ _ _).trans ((blk1 m c t _ _ _).trans ?_)
      exact shard m c 5 (by decide) q e _ (by show e.val = 5 * 1024 + (e.val - 5120); omega)
  rename_i h5
  rw [Rows.canon_band 4096 1024 (by decide)]
  split
  · rename_i h
    refine (point8 _ _ _ _).trans (Finset.sum_congr rfl fun q _ => congrArg₂ (· * ·) ?_ ?_)
    · exact (Rows.ld_whole _ _ _ _).trans (blk0 m c t _ _ _ rfl)
    · refine (Rows.ld_slice 4 (by decide) _ _ _ _ _).trans ((blk1 m c t _ _ _).trans ?_)
      exact shard m c 4 (by decide) q e _ (by show e.val = 4 * 1024 + (e.val - 4096); omega)
  rename_i h4
  rw [Rows.canon_band 3072 1024 (by decide)]
  split
  · rename_i h
    refine (point7 _ _ _ _).trans (Finset.sum_congr rfl fun q _ => congrArg₂ (· * ·) ?_ ?_)
    · exact (Rows.ld_whole _ _ _ _).trans (blk0 m c t _ _ _ rfl)
    · refine (Rows.ld_slice 3 (by decide) _ _ _ _ _).trans ((blk1 m c t _ _ _).trans ?_)
      exact shard m c 3 (by decide) q e _ (by show e.val = 3 * 1024 + (e.val - 3072); omega)
  rename_i h3
  rw [Rows.canon_band 2048 1024 (by decide)]
  split
  · rename_i h
    refine (point6 _ _ _ _).trans (Finset.sum_congr rfl fun q _ => congrArg₂ (· * ·) ?_ ?_)
    · exact (Rows.ld_whole _ _ _ _).trans (blk0 m c t _ _ _ rfl)
    · refine (Rows.ld_slice 2 (by decide) _ _ _ _ _).trans ((blk1 m c t _ _ _).trans ?_)
      exact shard m c 2 (by decide) q e _ (by show e.val = 2 * 1024 + (e.val - 2048); omega)
  rename_i h2
  rw [Rows.canon_band 1024 1024 (by decide)]
  split
  · rename_i h
    refine (point5 _ _ _ _).trans (Finset.sum_congr rfl fun q _ => congrArg₂ (· * ·) ?_ ?_)
    · exact (Rows.ld_whole _ _ _ _).trans (blk0 m c t _ _ _ rfl)
    · refine (Rows.ld_slice 1 (by decide) _ _ _ _ _).trans ((blk1 m c t _ _ _).trans ?_)
      exact shard m c 1 (by decide) q e _ (by show e.val = 1 * 1024 + (e.val - 1024); omega)
  rename_i h1
  rw [Rows.canon_band 0 1024 (by decide)]
  rw [dif_pos (by omega)]
  refine (point4 _ _ _ _).trans (Finset.sum_congr rfl fun q _ => congrArg₂ (· * ·) ?_ ?_)
  · exact (Rows.ld_whole _ _ _ _).trans (blk0 m c t _ _ _ rfl)
  · refine (Rows.ld_slice 0 (by decide) _ _ _ _ _).trans ((blk1 m c t _ _ _).trans ?_)
    exact shard m c 0 (by decide) q e _ (by show e.val = 0 * 1024 + (e.val - 0); omega)

/-- The result array after the run. -/
theorem arr : (dats m 0 c).arrAt 2 cfg0.N
    = G (A0 m c) (A1 m c) := by
  refine (dats m 0 c).arrAt_eq_of_covers 2 _ (by decide +kernel) fun t hf y => ?_
  blk_simp
  rw [after0_2]
  have ht : t.val < 16 := t.isLt
  have hy : (y 0).val < 256 := (y 0).isLt
  have ey : y = ix2 (n0 := 256) (n1 := 8192) (y 0) (y 1) := eq_ix2 y
  have eG : (((View.whole main_v0).slice (win0_2.rect t)).emb y)
      = ix2 (n0 := 4096) (n1 := 8192) ⟨256 * t.val + (y 0).val, by omega⟩ (y 1) := by
    blk_ext [idx2 t]
  rw [eG]
  exact (congrArg (out0_2 (F := Ideal) _ _) ey).trans (bands m c t _ _ _)

end Kernel

/-- The reference's product, at an index. -/
theorem ref (x : (⟨2, ![4096, 1024]⟩ : Shape).Idx → EReal) (w : (⟨3, ![8, 1024, 1024]⟩ : Shape).Idx → EReal) :
    Cert.InFwdRefIdeal.Read.val_main_v5 (F := Ideal) x w = G x w := by
  funext i
  obtain ⟨a, b, rfl⟩ : ∃ (a : Fin 4096) (b : Fin 8192), i = ix2 a b := ⟨i 0, i 1, eq_ix2 i⟩
  pointwise [Cert.InFwdRefIdeal.Read.val_main_v5, Cert.InFwdRefIdeal.Read.val_main_v4,
    Cert.InFwdRefIdeal.Read.val_main_v3, Cert.InFwdRefIdeal.Read.val_main_v2, Cert.InFwdRefIdeal.Read.val_main_v1,
    Cert.InFwdRefIdeal.Read.val_main_v0]
  rfl

/-- The reference's frame. -/
theorem ref_frame : Cert.quiescent_InFwdRefIdeal := fun m ρ _ =>
  (θ_run Cert.InFwdRefIdeal.defs _ _).mono (fun r h => ⟨fun c => (h c).2,
      Idealize.ShloMosaic.sem_eq_zero_of_no_sems (by decide) r.2⟩)
    (Cert.InFwdRefIdeal.Value.run (F := Ideal) m ρ)

/-- Equal results. -/
theorem algebraic : Cert.algebraic_InFwdIdeal_InFwdRefIdeal := by
  intro m g m' g' _ hag
  refine ⟨fun c => G (A0 m c) (A1 m c), ?_, ?_⟩
  · refine (θ_run Cert.InFwdIdeal.defs _ _).mono (fun r h c => ?_) (Cert.InFwdIdeal.Value.run_blocks (F := Ideal) m g)
    obtain ⟨r0, ra⟩ := h c
    exact ⟨r0.trans (arr m c), ra⟩
  · refine (θ_run Cert.InFwdRefIdeal.defs _ _).mono (fun r h c => ?_) (Cert.InFwdRefIdeal.Value.run (F := Ideal) m' g')
    obtain ⟨r0, ra⟩ := h c
    obtain ⟨e0, e1⟩ := hag c
    refine ⟨r0.trans ((Cert.InFwdRefIdeal.Read.val_main_v5_eq _ _).trans ?_), ra⟩
    rw [e0, e1]
    exact ref _ _

end Cert.InF

end
-- ==== Proof.GateArray.lean ====
/-
  The first layer's gate: what the kernel's sixteen grid points leave of the gate's gradient is the product rule's term
  over all rows.
-/
module

public import proofs.«01_k».proof.Proof.Rows
public import proofs.«01_k».proof.Proof.ConvSpec
public import proofs.«01_k».proof.Proof.NormSpec
public import proofs.«01_k».proof.Proof.Gen.GateBwdIdeal.Value

@[expose] public section

noncomputable section

namespace Cert.GateB

open Idealize.ShloMosaic Idealize.ShloMosaic.TcCoe Idealize.SL.Sem
open Idealize.ShloMosaic.Pipeline (Dat)
open Cert.Conv (sgm)
open Cert.Norm (A2)

/-- The gate is the last third of the projection's columns. -/
def gt (P : A2 4096 6144) (r : Fin 4096) (e : Fin 2048) : EReal := P (ix2 r ⟨4096 + e.val, by omega⟩)

/-- The cotangent of the gated product's left factor. -/
def dc (D : A2 4096 2048) (P : A2 4096 6144) (r : Fin 4096) (e : Fin 2048) : EReal :=
  D (ix2 r e) * (gt P r e * sgm (gt P r e))

/-- The left half of a row's columns, and the right half. -/
def lo (b : Fin 1024) : Fin 2048 := ⟨b.val, by omega⟩
def hi (b : Fin 1024) : Fin 2048 := ⟨1024 + b.val, by omega⟩

/-- The gated product's left factor. -/
def cat (Y O : A2 4096 1024) (S : A2 1 1024) (r : Fin 4096) (e : Fin 2048) : EReal :=
  if h : e.val < 1024 then Y (ix2 r ⟨e.val, h⟩) * S (ix2 0 ⟨e.val, h⟩) else O (ix2 r ⟨e.val - 1024, by omega⟩)

/-- The derivative of `x · logistic x`. -/
def ds (g : EReal) : EReal := sgm g * (1 + g * (1 - sgm g))

def G0 (D : A2 4096 2048) (P : A2 4096 6144) (S : A2 1 1024) : A2 4096 1024 := fun i => dc D P (i 0) (lo (i 1)) * S (ix2 0 (i 1))
def G1 (D : A2 4096 2048) (P : A2 4096 6144) : A2 4096 1024 := fun i => dc D P (i 0) (hi (i 1))
def G2 (D : A2 4096 2048) (Y O : A2 4096 1024) (P : A2 4096 6144) (S : A2 1 1024) : A2 4096 2048 :=
  fun i => D (ix2 (i 0) (i 1)) * cat Y O S (i 0) (i 1) * ds (gt P (i 0) (i 1))
def G3 (D : A2 4096 2048) (Y : A2 4096 1024) (P : A2 4096 6144) : A2 1 1024 :=
  fun i => ∑ r : Fin 4096, dc D P r (lo (i 1)) * Y (ix2 r (i 1))

section Kernel

open Cert.GateBwdIdeal Cert.GateBwdIdeal.Gen

variable (m : (ℓ : Loc nD τ sig) → Buf (Elt Ideal) ℓ) (c : Dev nD)

/-- The five arguments. -/
abbrev DD : A2 4096 2048 := m ((c : Thread nD τ).loc main_arg0)
abbrev YY : A2 4096 1024 := m ((c : Thread nD τ).loc main_arg1)
abbrev OO : A2 4096 1024 := m ((c : Thread nD τ).loc main_arg2)
abbrev PP : A2 4096 6144 := m ((c : Thread nD τ).loc main_arg3)
abbrev SS : A2 1 1024 := m ((c : Thread nD τ).loc main_arg4)

theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![t.val, 0] := by decide +kernel
theorem idx3 : ∀ t : Fin grid0.N, win0_3.index t = ![t.val, 2] := by decide +kernel
theorem idx4 : ∀ t : Fin grid0.N, win0_4.index t = ![0, 0] := by decide +kernel
theorem idx5 : ∀ t : Fin grid0.N, win0_5.index t = ![t.val, 0] := by decide +kernel
theorem idx6 : ∀ t : Fin grid0.N, win0_6.index t = ![t.val, 0] := by decide +kernel
theorem idx7 : ∀ t : Fin grid0.N, win0_7.index t = ![t.val, 0] := by decide +kernel

/-- The row of all 4096 that is row `a` of a grid point's block. -/
abbrev row (t : Fin cfg0.N) (a : Fin 256) : Fin 4096 := ⟨256 * t.val + a.val, by
  have h : t.val < 16 := t.isLt
  omega⟩

theorem b0 (t : Fin cfg0.N) (a : Fin 256) (e : Fin 2048) : iblk m c 0 t (ix2 a e) = DD m c (ix2 (row t a) e) := by
  blk_ext [iblk, V, idx0 t]
theorem b1 (t : Fin cfg0.N) (a : Fin 256) (e : Fin 1024) : iblk m c 1 t (ix2 a e) = YY m c (ix2 (row t a) e) := by
  blk_ext [iblk, V, idx1 t]
theorem b2 (t : Fin cfg0.N) (a : Fin 256) (e : Fin 1024) : iblk m c 2 t (ix2 a e) = OO m c (ix2 (row t a) e) := by
  blk_ext [iblk, V, idx2 t]
theorem b3 (t : Fin cfg0.N) (a : Fin 256) (e : Fin 2048) : iblk m c 3 t (ix2 a e) = gt (PP m c) (row t a) e := by
  unfold gt
  blk_ext [iblk, V, idx3 t]
theorem b4 (t : Fin cfg0.N) (z : Fin 1) (e : Fin 1024) : iblk m c 4 t (ix2 z e) = SS m c (ix2 0 e) := by
  have hz : z.val = 0 := by omega
  blk_ext [iblk, V, idx4 t]

/-- One block's cotangent of the gated product's left factor, and the derivative beside it. -/
theorem p7 (g d : S256x2048.Idx → EReal) (a : Fin 256) (e : Fin 2048) :
    k0_pay7 (F := Ideal) g d (ix2 a e) = d (ix2 a e) * (g (ix2 a e) * sgm (g (ix2 a e))) := by
  pointwise [k0_pay7, k0_pay5]
  rfl
theorem p6 (g : S256x2048.Idx → EReal) (a : Fin 256) (e : Fin 2048) : k0_pay6 (F := Ideal) g (ix2 a e) = ds (g (ix2 a e)) := by
  pointwise [k0_pay6, k0_pay5]
  rfl

theorem k7 (t : Fin cfg0.N) (a : Fin 256) (e : Fin 2048) :
    k0_pay7 (F := Ideal) (iblk m c 3 t) (iblk m c 0 t) (ix2 a e) = dc (DD m c) (PP m c) (row t a) e := by
  rw [p7]
  unfold dc
  exact congrArg₂ (fun u v : EReal => u * (v * sgm v)) (b0 m c t a e) (b3 m c t a e)

theorem p8 (g d : S256x2048.Idx → EReal) (s : S1x1024.Idx → EReal) (a : Fin 256) (b : Fin 1024) :
    k0_pay8 (F := Ideal) g d s (ix2 a b) = k0_pay7 (F := Ideal) g d (ix2 a (lo b)) * s (ix2 0 b) := by
  pointwise [k0_pay8]
  rfl
theorem p9 (g d : S256x2048.Idx → EReal) (a : Fin 256) (b : Fin 1024) :
    k0_pay9 (F := Ideal) g d (ix2 a b) = k0_pay7 (F := Ideal) g d (ix2 a (hi b)) := by
  pointwise [k0_pay9]
  rfl
theorem p2 (d s : S256x2048.Idx → EReal) (y : S256x1024.Idx → EReal) (p : S1x1024.Idx → EReal) (a : Fin 256) (b : Fin 1024) :
    k0_pay2 (F := Ideal) d s y p (ix2 a b) = d (ix2 a (lo b)) * (y (ix2 a b) * p (ix2 0 b)) * s (ix2 a (lo b)) := by
  pointwise [k0_pay2]
  rfl
theorem p3 (d s : S256x2048.Idx → EReal) (o : S256x1024.Idx → EReal) (a : Fin 256) (b : Fin 1024) :
    k0_pay3 (F := Ideal) d s o (ix2 a b) = d (ix2 a (hi b)) * o (ix2 a b) * s (ix2 a (hi b)) := by
  pointwise [k0_pay3]
  rfl
theorem p1 (k : S256x2048.Idx → EReal) (y : S256x1024.Idx → EReal) (z : S1x1024.Idx → EReal) (a : Fin 1) (b : Fin 1024) :
    k0_pay1 (F := Ideal) k y z (ix2 a b) = z (ix2 a b) + ∑ x : Fin 256, k (ix2 x (lo b)) * y (ix2 x b) := by
  pointwise [k0_pay1]
  rfl

theorem arr5 : (dats m 0 c).arrAt 5 cfg0.N = G0 (DD m c) (PP m c) (SS m c) := by
  refine (dats m 0 c).arrAt_eq_of_covers 5 _ (by decide +kernel) fun t hf y => ?_
  blk_simp
  rw [after0_5]
  have ey : y = ix2 (n0 := 256) (n1 := 1024) (y 0) (y 1) := eq_ix2 y
  have ht : t.val < 16 := t.isLt
  have h256 : (y 0).val < 256 := (y 0).isLt
  have eG : (((View.whole main_v0_0).slice (win0_5.rect t)).emb y) = ix2 (n0 := 4096) (n1 := 1024) (row t (y 0)) (y 1) := by
    blk_ext [idx5 t]
  have key : ∀ a b, k0_pay8 (F := Ideal) (iblk m c 3 t) (iblk m c 0 t) (iblk m c 4 t) (ix2 a b)
      = G0 (DD m c) (PP m c) (SS m c) (ix2 (n0 := 4096) (n1 := 1024) (row t a) b) := fun a b =>
    (p8 _ _ _ _ _).trans (congrArg₂ (fun u v : EReal => u * v) (k7 m c t a _) (b4 m c t 0 b))
  rw [eG]
  rcases em (t.val % 16 = 0) with h | h
  · rw [outsAt0_A m c t h]
    frame_out
    exact (congrArg (k0_pay8 (F := Ideal) (iblk m c 3 t) (iblk m c 0 t) (iblk m c 4 t)) ey).trans (key _ _)
  · rw [outsAt0_B m c t h]
    frame_out
    exact (congrArg (k0_pay8 (F := Ideal) (iblk m c 3 t) (iblk m c 0 t) (iblk m c 4 t)) ey).trans (key _ _)

theorem arr6 : (dats m 0 c).arrAt 6 cfg0.N = G1 (DD m c) (PP m c) := by
  refine (dats m 0 c).arrAt_eq_of_covers 6 _ (by decide +kernel) fun t hf y => ?_
  blk_simp
  rw [after0_6]
  have ey : y = ix2 (n0 := 256) (n1 := 1024) (y 0) (y 1) := eq_ix2 y
  have ht : t.val < 16 := t.isLt
  have h256 : (y 0).val < 256 := (y 0).isLt
  have eG : (((View.whole main_v0_1).slice (win0_6.rect t)).emb y) = ix2 (n0 := 4096) (n1 := 1024) (row t (y 0)) (y 1) := by
    blk_ext [idx6 t]
  have key : ∀ a b, k0_pay9 (F := Ideal) (iblk m c 3 t) (iblk m c 0 t) (ix2 a b)
      = G1 (DD m c) (PP m c) (ix2 (n0 := 4096) (n1 := 1024) (row t a) b) := fun a b => (p9 _ _ _ _).trans (k7 m c t a _)
  rw [eG]
  rcases em (t.val % 16 = 0) with h | h
  · rw [outsAt0_A m c t h]
    frame_out
    exact (congrArg (k0_pay9 (F := Ideal) (iblk m c 3 t) (iblk m c 0 t)) ey).trans (key _ _)
  · rw [outsAt0_B m c t h]
    frame_out
    exact (congrArg (k0_pay9 (F := Ideal) (iblk m c 3 t) (iblk m c 0 t)) ey).trans (key _ _)

/-- The two halves of the gate's gradient side by side. -/
theorem bands (t : Fin cfg0.N) (i1) (i2) (y : S256x2048.Idx) (ey : y = ix2 (n0 := 256) (n1 := 2048) (y 0) (y 1)) :
    View.canon (Val := Elt Ideal) (s := S256x2048) (e := EltTy.bf16)
      [⟨Rect.unit (s := S256x2048) ![0, 1024] ![256, 1024] i1,
          k0_pay3 (F := Ideal) (iblk m c 0 t) (k0_pay6 (F := Ideal) (iblk m c 3 t)) (iblk m c 2 t)⟩,
        ⟨Rect.unit (s := S256x2048) ![0, 0] ![256, 1024] i2,
          k0_pay2 (F := Ideal) (iblk m c 0 t) (k0_pay6 (F := Ideal) (iblk m c 3 t)) (iblk m c 1 t) (iblk m c 4 t)⟩] y
      = G2 (DD m c) (YY m c) (OO m c) (PP m c) (SS m c) (ix2 (n0 := 4096) (n1 := 2048) (row t (y 0)) (y 1)) := by
  obtain ⟨a, e, rfl⟩ : ∃ (a : Fin 256) (e : Fin 2048), y = ix2 a e := ⟨y 0, y 1, ey⟩
  have he : e.val < 2048 := e.isLt
  show _ = DD m c (ix2 (row t a) e) * cat (YY m c) (OO m c) (SS m c) (row t a) e * ds (gt (PP m c) (row t a) e)
  unfold cat
  refine (Rows.canon_band 1024 1024 (by decide) _ _ _ _ _).trans ?_
  split
  · rename_i h
    have hh : hi ⟨e.val - 1024, by omega⟩ = e := Fin.ext (by show 1024 + (e.val - 1024) = e.val; omega)
    rw [dif_neg (by omega), p3, hh, p6]
    exact congrArg₂ (fun u v : EReal => u * v) (congrArg₂ (fun u v : EReal => u * v) (b0 m c t a e) (b2 m c t a _))
      (congrArg ds (b3 m c t a e))
  · rename_i h
    have hl : e.val < 1024 := by omega
    refine (Rows.canon_band 0 1024 (by decide) _ _ _ _ _).trans ?_
    have hh : lo ⟨e.val - 0, by omega⟩ = e := Fin.ext rfl
    rw [dif_pos (by omega), dif_pos hl, p2, hh, p6]
    exact congrArg₂ (fun u v : EReal => u * v) (congrArg₂ (fun u v : EReal => u * v) (b0 m c t a e)
      (congrArg₂ (fun u v : EReal => u * v) (b1 m c t a _) (b4 m c t 0 _))) (congrArg ds (b3 m c t a e))

theorem arr7 : (dats m 0 c).arrAt 7 cfg0.N = G2 (DD m c) (YY m c) (OO m c) (PP m c) (SS m c) := by
  refine (dats m 0 c).arrAt_eq_of_covers 7 _ (by decide +kernel) fun t hf y => ?_
  blk_simp
  rw [after0_7]
  have ey : y = ix2 (n0 := 256) (n1 := 2048) (y 0) (y 1) := eq_ix2 y
  have ht : t.val < 16 := t.isLt
  have h256 : (y 0).val < 256 := (y 0).isLt
  have eG : (((View.whole main_v0_2).slice (win0_7.rect t)).emb y) = ix2 (n0 := 4096) (n1 := 2048) (row t (y 0)) (y 1) := by
    blk_ext [idx7 t]
  rw [eG]
  rcases em (t.val % 16 = 0) with h | h
  · rw [outsAt0_A m c t h]
    frame_out
    exact bands m c t _ _ _ ey
  · rw [outsAt0_B m c t h]
    frame_out
    exact bands m c t _ _ _ ey

/-- The sixteen shares of 256 rows are all 4096 rows. -/
theorem sum_rows (f : Fin 4096 → EReal) : ∑ p : Fin cfg0.N, ∑ x : Fin 256, f (row p x) = ∑ r : Fin 4096, f r :=
  Fin.sum_mul_add_congr (S := 16) (n := 256) (L := 4096) (f := f)
    fun s k _ => congrArg f (Fin.ext (by show 256 * s.val + k.val = s.val * 256 + k.val; omega))

/-- The last grid point. -/
abbrev last : Fin cfg0.N := ⟨15, by decide⟩

/-- A grid point's share of the scale's gradient. -/
def part (t : Fin cfg0.N) : A2 1 1024 :=
  fun j => ∑ x : Fin 256, dc (DD m c) (PP m c) (row t x) (lo (j 1)) * YY m c (ix2 (row t x) (j 1))

theorem stepB (t : Fin cfg0.N) (h : ¬ t.val % 16 = 0) (j : S1x1024.Idx) :
    (outsAt0 m c t.val t.isLt).2.2.2 j
      = (outsAt0 m c (t.val - 1) (Nat.lt_of_le_of_lt (Nat.sub_le _ _) t.isLt)).2.2.2 j + part m c t j := by
  obtain ⟨a, b, rfl⟩ : ∃ (a : Fin 1) (b : Fin 1024), j = ix2 a b := ⟨j 0, j 1, eq_ix2 j⟩
  rw [outsAt0_B m c t h]
  frame_out
  refine (p1 _ _ _ _ _).trans (congrArg (_ + ·) (Finset.sum_congr rfl fun x _ => ?_))
  exact congrArg₂ (fun u v : EReal => u * v) (k7 m c t x _) (b1 m c t x b)

theorem stepA (t : Fin cfg0.N) (h : t.val % 16 = 0) (j : S1x1024.Idx) :
    (outsAt0 m c t.val t.isLt).2.2.2 j = (fun _ => (0 : EReal)) j + part m c t j := by
  obtain ⟨a, b, rfl⟩ : ∃ (a : Fin 1) (b : Fin 1024), j = ix2 a b := ⟨j 0, j 1, eq_ix2 j⟩
  have hz : k0_pay4 (F := Ideal) (ix2 a b) = 0 := by pointwise [k0_pay4]
  rw [outsAt0_A m c t h]
  frame_out
  refine (p1 _ _ _ _ _).trans (congrArg₂ (· + ·) hz (Finset.sum_congr rfl fun x _ => ?_))
  exact congrArg₂ (fun u v : EReal => u * v) (k7 m c t x _) (b1 m c t x b)

theorem arr8 : (dats m 0 c).arrAt 8 cfg0.N = G3 (DD m c) (YY m c) (PP m c) := by
  refine (dats m 0 c).arrAt_eq_of_after_last 8 last (by decide +kernel) _ fun j => ?_
  have e := Pipeline.eq_sum_fin_of_reset_step_apply_last (fun n h => (outsAt0 m c n h).2.2.2) 16 (fun _ => (0 : EReal))
    (part m c) (stepA m c) (stepB m c) (by decide) last rfl j
  have h2 := congrFun (after0_8 m c last) j
  refine Eq.trans ?_ ((h2.trans e).trans ?_)
  · blk_simp
  · have hs := sum_rows fun r => dc (DD m c) (PP m c) r (lo (j 1)) * YY m c (ix2 r (j 1))
    exact (zero_add (M := EReal) _).trans hs

end Kernel

end Cert.GateB

end
-- ==== Proof.GateBwdClaim.lean ====
/-
  The first layer's gate: the kernel and the reference leave equal gradients where every entry of the arrays the gate's
  cotangent is a product of is a finite number.
-/
module

public import proofs.«01_k».proof.Defs
public import proofs.«01_k».proof.Proof.Reals
public import proofs.«01_k».proof.Proof.GateArray
public import proofs.«01_k».proof.Proof.ConvClaim
public import proofs.«01_k».proof.Proof.Gen.Pre_gate_bwd_finite
public import proofs.«01_k».proof.Proof.Gen.GateBwdIdeal
public import proofs.«01_k».proof.Proof.Gen.GateBwdRefIdeal
public import proofs.«01_k».proof.Proof.Gen.GateBwdRefIdeal.Read
public import Idealize.ShloMosaic.Lib.ReduceAll

@[expose] public section

noncomputable section

namespace Cert.GateB

open Idealize.ShloMosaic Idealize.SL.Sem
open Cert.Reals (IsReal)
open Cert.Conv (sgm real_of_cmp)
open Cert.Norm (A2)

/-! ## The derivative of `x · logistic x`, spelt two ways -/

theorem sgm_neg (g : EReal) : Ideal.div 1 (1 + Ideal.exp (-g)) = sgm g := by unfold sgm; rw [zero_sub]

theorem sgm_top : sgm ⊤ = 1 := by
  have e : Ideal.exp ⊥ = 0 := rfl
  rw [← sgm_neg, EReal.neg_top, e]
  simp [Ideal.div]

theorem sgm_bot : sgm ⊥ = 0 := by
  have e : Ideal.exp ⊤ = ⊤ := rfl
  have e1 : (1 : EReal) + ⊤ = ⊤ := EReal.coe_add_top 1
  rw [← sgm_neg, EReal.neg_bot, e, e1]
  simp [Ideal.div]

/-- The product rule's two terms are one product, at every gate. -/
theorem silu_vjp {M : EReal} (hM : IsReal M) (g : EReal) :
    M * sgm g + g * M * (sgm g * (1 - sgm g)) = M * ds g := by
  unfold ds
  have t1 : (1 : EReal) - 1 = 0 := by
    rw [← EReal.coe_one, ← EReal.coe_sub, sub_self, EReal.coe_zero]
  induction g using EReal.rec with
  | bot => rw [sgm_bot, zero_mul, zero_mul, mul_zero, mul_zero, zero_add]
  | top => rw [sgm_top, t1, mul_zero, mul_zero, mul_zero, add_zero, add_zero, mul_one, mul_one, mul_one]
  | coe x =>
    have hs : IsReal (sgm (x : EReal)) := sgm_neg _ ▸ IsReal.logistic ⟨x, rfl⟩
    obtain ⟨s, hs⟩ := hs
    obtain ⟨k, rfl⟩ := hM
    rw [hs, ← EReal.coe_one]
    simp only [← EReal.coe_mul, ← EReal.coe_add, ← EReal.coe_sub]
    exact congrArg _ (by ring)

/-! ## The reference -/

namespace Ref

open Cert.GateBwdRefIdeal Cert.GateBwdRefIdeal.Gen Cert.GateBwdRefIdeal.Read

variable (x0 : A2 4096 2048) (x1 x2 : A2 4096 1024) (x3 : A2 4096 6144) (x4 : A2 1 1024)

theorem v1 (r : Fin 4096) (e : Fin 2048) : val_main_v1 (F := Ideal) x3 (ix2 r e) = gt x3 r e := by
  pointwise [val_main_v1, val_main_v0]
  rfl

theorem v72 (r : Fin 4096) (e : Fin 2048) : val_main_v7_2 (F := Ideal) x3 (ix2 r e) = sgm (gt x3 r e) := by
  pointwise [val_main_v7_2, val_main_call0_v4, val_main_call0_cst_0, val_main_call0_v3, val_main_call0_v2, val_main_call0_cst,
    val_main_call0_v1, val_main_call0_v0]
  rw [v1]
  exact sgm_neg _

theorem v10 (r : Fin 4096) (e : Fin 2048) : val_main_v10 (F := Ideal) x0 x3 (ix2 r e) = dc x0 x3 r e := by
  pointwise [val_main_v10, val_main_v7_0]
  rw [v1, v72]
  rfl

theorem v4 (r : Fin 4096) (b : Fin 1024) : val_main_v4 (F := Ideal) x4 (ix2 r b) = x4 (ix2 0 b) := by
  pointwise [val_main_v4, val_main_v3, val_main_v2]

theorem v17 (r : Fin 4096) (b : Fin 1024) : val_main_v17 (F := Ideal) x4 (ix2 r b) = x4 (ix2 0 b) := by
  pointwise [val_main_v17, val_main_v3, val_main_v2]

theorem v12 (r : Fin 4096) (b : Fin 1024) : val_main_v12 (F := Ideal) x0 x3 (ix2 r b) = dc x0 x3 r (lo b) := by
  pointwise [val_main_v12]
  exact v10 x0 x3 r (lo b)

theorem v13 (r : Fin 4096) (b : Fin 1024) : val_main_v13 (F := Ideal) x0 x3 (ix2 r b) = G1 x0 x3 (ix2 r b) := by
  pointwise [val_main_v13]
  exact v10 x0 x3 r (hi b)

theorem v20 (r : Fin 4096) (b : Fin 1024) : val_main_v20 (F := Ideal) x0 x3 x4 (ix2 r b) = G0 x0 x3 x4 (ix2 r b) := by
  pointwise [val_main_v20, val_main_v18]
  rw [v12, v17]
  rfl

theorem v22 (z : Fin 1) (b : Fin 1024) : val_main_v22 (F := Ideal) x0 x1 x3 (ix2 z b) = G3 x0 x1 x3 (ix2 z b) := by
  pointwise [val_main_v22, val_main_v19, val_main_cst_0, val_main_v16, val_main_v15, val_main_cst, val_main_v14]
  simp only [Finset.univ_unique, Finset.sum_const, Finset.card_singleton, one_smul, v12]
  exact Finset.sum_congr rfl fun r _ => mul_comm (x1 (ix2 r b)) (dc x0 x3 r (lo b))

theorem v6 (r : Fin 4096) (e : Fin 2048) : val_main_v6 (F := Ideal) x1 x2 x4 (ix2 r e) = cat x1 x2 x4 r e := by
  pointwise [val_main_v6, val_main_v5]
  simp only [v4]
  rfl

variable {x0 x1 x2 x4}

theorem v21 (h0 : ∀ i, IsReal (x0 i)) (h1 : ∀ i, IsReal (x1 i)) (h2 : ∀ i, IsReal (x2 i)) (h4 : ∀ i, IsReal (x4 i))
    (r : Fin 4096) (e : Fin 2048) : val_main_v21 (F := Ideal) x0 x1 x2 x3 x4 (ix2 r e) = G2 x0 x1 x2 x3 x4 (ix2 r e) := by
  have hc : IsReal (cat x1 x2 x4 r e) := by
    unfold cat
    split
    · exact (h1 _).mul (h4 _)
    · exact h2 _
  pointwise [val_main_v21, val_main_v11, val_main_call1_v2, val_main_call1_v1, val_main_call1_v0, val_main_v9, val_main_v7_1,
    val_main_call0_v7, val_main_call0_v6, val_main_call0_cst_1]
  rw [v1, v72, v6]
  refine (silu_vjp (hc.mul (h0 _)) (gt x3 r e)).trans ?_
  exact congrArg (· * ds (gt x3 r e)) (mul_comm (cat x1 x2 x4 r e) (x0 (ix2 r e)))

end Ref

/-- The printed condition, read at every index of the four arrays it is about. -/
theorem real_of_pre (x0 : A2 4096 2048) (x1 x2 : A2 4096 1024) (x3 : A2 4096 6144) (x4 : A2 1 1024)
    (h : Cert.Pre_gate_bwd_finite.fn (F := Ideal) x0 x1 x2 x3 x4 = fun _ => 1#1) :
    (∀ i, IsReal (x0 i)) ∧ (∀ i, IsReal (x1 i)) ∧ (∀ i, IsReal (x2 i)) ∧ ∀ i, IsReal (x4 i) := by
  have h := congrFun h ix0
  dsimp only [Cert.Pre_gate_bwd_finite.fn, Cert.Pre_gate_bwd_finite.fn_part1] at h
  obtain ⟨h, h4⟩ := IntOp.andi_eq_one.1 h
  obtain ⟨h, h2⟩ := IntOp.andi_eq_one.1 h
  obtain ⟨h0, h1⟩ := IntOp.andi_eq_one.1 h
  exact ⟨fun i => real_of_cmp _ (Host.reduce_andi_all _ _ _ _ _ h0 i),
    fun i => real_of_cmp _ (Host.reduce_andi_all _ _ _ _ _ h1 i),
    fun i => real_of_cmp _ (Host.reduce_andi_all _ _ _ _ _ h2 i),
    fun i => real_of_cmp _ (Host.reduce_andi_all _ _ _ _ _ h4 i)⟩

/-- The reference's frame: its run leaves its arguments alone, and it has no counter. -/
theorem ref_frame : Cert.quiescent_GateBwdRefIdeal := fun m ρ _ =>
  (θ_run Cert.GateBwdRefIdeal.defs _ _).mono (fun r h => ⟨fun c => (h c).2.2.2.2,
      Idealize.ShloMosaic.sem_eq_zero_of_no_sems (by decide) r.2⟩)
    (Cert.GateBwdRefIdeal.Value.run (F := Ideal) m ρ)

/-- Equal results. -/
theorem algebraic : Cert.algebraic_GateBwdIdeal_GateBwdRefIdeal_pre_gate_bwd_finite := by
  intro m g m' g' hpre hag
  refine ⟨fun c => G0 (DD m c) (PP m c) (SS m c), fun c => G1 (DD m c) (PP m c),
    fun c => G2 (DD m c) (YY m c) (OO m c) (PP m c) (SS m c), fun c => G3 (DD m c) (YY m c) (PP m c), ?_, ?_⟩
  · refine (θ_run Cert.GateBwdIdeal.defs _ _).mono (fun r h c => ?_) (Cert.GateBwdIdeal.Value.run_blocks (F := Ideal) m g)
    obtain ⟨r0, r1, r2, r3, ra⟩ := h c
    exact ⟨r0.trans (arr5 m c), r1.trans (arr6 m c), r2.trans (arr7 m c), r3.trans (arr8 m c), ra⟩
  · refine (θ_run Cert.GateBwdRefIdeal.defs _ _).mono (fun r h c => ?_) (Cert.GateBwdRefIdeal.Value.run (F := Ideal) m' g')
    obtain ⟨r0, r1, r2, r3, ra⟩ := h c
    obtain ⟨p0, p1, p2, p4⟩ := real_of_pre _ _ _ _ _ (hpre c)
    obtain ⟨e0, e1, e2, e3, e4⟩ := hag c
    refine ⟨(r0.trans (Cert.GateBwdRefIdeal.Read.val_main_v20_eq _ _ _)).trans ?_,
      (r1.trans (Cert.GateBwdRefIdeal.Read.val_main_v13_eq _ _)).trans ?_,
      (r2.trans (Cert.GateBwdRefIdeal.Read.val_main_v21_eq _ _ _ _ _)).trans ?_,
      (r3.trans (Cert.GateBwdRefIdeal.Read.val_main_v22_eq _ _ _)).trans ?_, ra⟩
    · rw [e0, e3, e4]
      funext i
      obtain ⟨a, b, rfl⟩ : ∃ (a : Fin 4096) (b : Fin 1024), i = ix2 a b := ⟨i 0, i 1, eq_ix2 i⟩
      exact Ref.v20 _ _ _ a b
    · rw [e0, e3]
      funext i
      obtain ⟨a, b, rfl⟩ : ∃ (a : Fin 4096) (b : Fin 1024), i = ix2 a b := ⟨i 0, i 1, eq_ix2 i⟩
      exact Ref.v13 _ _ a b
    · rw [e0, e1, e2, e3, e4]
      funext i
      obtain ⟨a, b, rfl⟩ : ∃ (a : Fin 4096) (b : Fin 2048), i = ix2 a b := ⟨i 0, i 1, eq_ix2 i⟩
      exact Ref.v21 _ p0 p1 p2 p4 a b
    · rw [e0, e1, e3]
      funext i
      obtain ⟨a, b, rfl⟩ : ∃ (a : Fin 1) (b : Fin 1024), i = ix2 a b := ⟨i 0, i 1, eq_ix2 i⟩
      exact Ref.v22 _ _ _ a b

end Cert.GateB

end
-- ==== Proof.EvenSpec.lean ====
/-
  The first layer's input gradient as functions of its arguments: the cotangent of the projection's operand, five
  products over the five parts of the projection's columns, then the norm's own cotangent.
-/
module

public import proofs.«01_k».proof.Proof.NormSpec

@[expose] public section

noncomputable section

namespace Cert.EvenB

open Idealize.ShloMosaic
open Cert.Norm (A2 A3 k1024 keps rs xn)

/-- Row `e` of the weight, whose 6144 rows lie in eight shards of 768. -/
def wr (W : A3 8 768 1024) (e : Fin 6144) (a : Fin 1024) : EReal :=
  W (ix3 ⟨e.val / 768, by omega⟩ ⟨e.val % 768, Nat.mod_lt _ (by decide)⟩ a)

/-- The product of a row of one of the first four parts, whose columns start at column `o` of the projection. -/
def prod (P : A2 4096 1024) (W : A3 8 768 1024) (o : ℕ) (ho : o + 1024 ≤ 6144) (r : Fin 4096) (a : Fin 1024) : EReal :=
  ∑ j : Fin 1024, P (ix2 r j) * wr W ⟨o + j.val, by omega⟩ a

/-- The product of a row of the fifth part. -/
def prod5 (P : A2 4096 2048) (W : A3 8 768 1024) (r : Fin 4096) (a : Fin 1024) : EReal :=
  ∑ j : Fin 2048, P (ix2 r j) * wr W ⟨4096 + j.val, by omega⟩ a

/-- The cotangent of the projection's operand. -/
def dh (P0 P1 P2 P3 : A2 4096 1024) (P4 : A2 4096 2048) (W : A3 8 768 1024) (r : Fin 4096) (a : Fin 1024) : EReal :=
  prod P0 W 0 (by decide) r a + prod P1 W 1024 (by decide) r a + prod P2 W 2048 (by decide) r a
    + prod P3 W 3072 (by decide) r a + prod5 P4 W r a

/-- The cotangent of the norm's input from the cotangent `D` of its output, added to the one that comes down the residual. -/
def dx (D : Fin 4096 → Fin 1024 → EReal) (X Y : A2 4096 1024) (g s : A2 1 1024) (r : Fin 4096) (a : Fin 1024) : EReal :=
  Y (ix2 r a) + rs X r * (D r a * (1 + s (ix2 0 a)) * g (ix2 0 a)
    - xn X r a * Ideal.div (∑ b : Fin 1024, D r b * (1 + s (ix2 0 b)) * g (ix2 0 b) * xn X r b) k1024)

/-- The four results. -/
def G0 (D : Fin 4096 → Fin 1024 → EReal) (X Y : A2 4096 1024) (g s : A2 1 1024) : A2 4096 1024 :=
  fun i => dx D X Y g s (i 0) (i 1)
def G1 (D : Fin 4096 → Fin 1024 → EReal) : A2 1 1024 := fun i => ∑ r : Fin 4096, D r (i 1)
def G2 (D : Fin 4096 → Fin 1024 → EReal) (X : A2 4096 1024) (g : A2 1 1024) : A2 1 1024 :=
  fun i => ∑ r : Fin 4096, D r (i 1) * (xn X r (i 1) * g (ix2 0 (i 1)))
def G3 (D : Fin 4096 → Fin 1024 → EReal) (X : A2 4096 1024) (s : A2 1 1024) : A2 1 1024 :=
  fun i => ∑ r : Fin 4096, D r (i 1) * (1 + s (ix2 0 (i 1))) * xn X r (i 1)

/-- A sum over the projection's 6144 columns, part by part. -/
theorem sum_parts (f : Fin 6144 → EReal) :
    ∑ e, f e = ∑ j : Fin 1024, f ⟨0 + j.val, by omega⟩ + ∑ j : Fin 1024, f ⟨1024 + j.val, by omega⟩
      + ∑ j : Fin 1024, f ⟨2048 + j.val, by omega⟩ + ∑ j : Fin 1024, f ⟨3072 + j.val, by omega⟩
      + ∑ j : Fin 2048, f ⟨4096 + j.val, by omega⟩ := by
  have h4 : ∑ e, f e = ∑ j : Fin 4096, f ⟨j.val, by omega⟩ + ∑ j : Fin 2048, f ⟨4096 + j.val, by omega⟩ :=
    Fin.sum_univ_add (a := 4096) (b := 2048) f
  have h3 : ∑ j : Fin 4096, f ⟨j.val, by omega⟩
      = ∑ j : Fin 3072, f ⟨j.val, by omega⟩ + ∑ j : Fin 1024, f ⟨3072 + j.val, by omega⟩ :=
    Fin.sum_univ_add (a := 3072) (b := 1024) fun j : Fin 4096 => f ⟨j.val, by omega⟩
  have h2 : ∑ j : Fin 3072, f ⟨j.val, by omega⟩
      = ∑ j : Fin 2048, f ⟨j.val, by omega⟩ + ∑ j : Fin 1024, f ⟨2048 + j.val, by omega⟩ :=
    Fin.sum_univ_add (a := 2048) (b := 1024) fun j : Fin 3072 => f ⟨j.val, by omega⟩
  have h1 : ∑ j : Fin 2048, f ⟨j.val, by omega⟩
      = ∑ j : Fin 1024, f ⟨j.val, by omega⟩ + ∑ j : Fin 1024, f ⟨1024 + j.val, by omega⟩ :=
    Fin.sum_univ_add (a := 1024) (b := 1024) fun j : Fin 2048 => f ⟨j.val, by omega⟩
  have h0 : ∑ j : Fin 1024, f ⟨j.val, by omega⟩ = ∑ j : Fin 1024, f ⟨0 + j.val, by omega⟩ :=
    Finset.sum_congr rfl fun j _ => congrArg f (Fin.ext (Nat.zero_add _).symm)
  rw [h4, h3, h2, h1, h0]

end Cert.EvenB

end
-- ==== Proof.EvenArray.lean ====
/-
  What the kernel of the first layer's input gradient leaves in its four result arrays.
-/
module

public import proofs.«01_k».proof.Proof.EvenSpec
public import proofs.«01_k».proof.Proof.Rows
public import proofs.«01_k».proof.Proof.Gen.EvenBwdIdeal.Value

@[expose] public section

noncomputable section

namespace Cert.EvenB

open Idealize.ShloMosaic Idealize.ShloMosaic.TcCoe Idealize.SL.Sem
open Cert.EvenBwdIdeal Cert.EvenBwdIdeal.Gen
open Cert.Norm (A2 A3 k1024 keps rs xn)
open Idealize.ShloMosaic.Pipeline (Dat)

variable (m : (ℓ : Loc nD τ sig) → Buf (Elt Ideal) ℓ) (c : Dev nD)

/-- The arguments: the five parts of the projection's cotangent, the weight's shards, the norm's input, the cotangent
    that comes down the residual, the norm's gain and its scale. -/
abbrev Q0 : A2 4096 1024 := m ((c : Thread nD τ).loc main_arg0)
abbrev Q1 : A2 4096 1024 := m ((c : Thread nD τ).loc main_arg1)
abbrev Q2 : A2 4096 1024 := m ((c : Thread nD τ).loc main_arg2)
abbrev Q3 : A2 4096 1024 := m ((c : Thread nD τ).loc main_arg3)
abbrev Q4 : A2 4096 2048 := m ((c : Thread nD τ).loc main_arg4)
abbrev WW : A3 8 768 1024 := m ((c : Thread nD τ).loc main_arg5)
abbrev XX : A2 4096 1024 := m ((c : Thread nD τ).loc main_arg6)
abbrev YY : A2 4096 1024 := m ((c : Thread nD τ).loc main_arg7)
abbrev gg : A2 1 1024 := m ((c : Thread nD τ).loc main_arg8)
abbrev ss : A2 1 1024 := m ((c : Thread nD τ).loc main_arg9)
/-- The cotangent of the projection's operand. -/
abbrev DD : Fin 4096 → Fin 1024 → EReal := dh (Q0 m c) (Q1 m c) (Q2 m c) (Q3 m c) (Q4 m c) (WW m c)

theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![t.val, 0] := by decide +kernel
theorem idx3 : ∀ t : Fin grid0.N, win0_3.index t = ![t.val, 0] := by decide +kernel
theorem idx4 : ∀ t : Fin grid0.N, win0_4.index t = ![t.val, 0] := by decide +kernel
theorem idx5 : ∀ t : Fin grid0.N, win0_5.index t = ![0, 0] := by decide +kernel
theorem idx6 : ∀ t : Fin grid0.N, win0_6.index t = ![t.val, 0] := by decide +kernel
theorem idx7 : ∀ t : Fin grid0.N, win0_7.index t = ![t.val, 0] := by decide +kernel
theorem idx8 : ∀ t : Fin grid0.N, win0_8.index t = ![0, 0] := by decide +kernel
theorem idx9 : ∀ t : Fin grid0.N, win0_9.index t = ![0, 0] := by decide +kernel
theorem idx10 : ∀ t : Fin grid0.N, win0_10.index t = ![t.val, 0] := by decide +kernel

/-- Row `a` of the block of grid point `t`. -/
abbrev row (t : Fin cfg0.N) (a : Fin 256) : Fin 4096 := ⟨256 * t.val + a.val, by
  have ht : t.val < 16 := t.isLt
  omega⟩

theorem b0 (t : Fin cfg0.N) (a : Fin 256) (e : Fin 1024) : iblk m c 0 t (ix2 a e) = Q0 m c (ix2 (row t a) e) :=
  (show iblk m c 0 t (ix2 a e) = V m c main_arg0 (ix2 (row t a) e) by blk_ext [iblk, idx0 t]).trans
    (congrFun (V_main_arg0 m c) _)
theorem b1 (t : Fin cfg0.N) (a : Fin 256) (e : Fin 1024) : iblk m c 1 t (ix2 a e) = Q1 m c (ix2 (row t a) e) :=
  (show iblk m c 1 t (ix2 a e) = V m c main_arg1 (ix2 (row t a) e) by blk_ext [iblk, idx1 t]).trans
    (congrFun (V_main_arg1 m c) _)
theorem b2 (t : Fin cfg0.N) (a : Fin 256) (e : Fin 1024) : iblk m c 2 t (ix2 a e) = Q2 m c (ix2 (row t a) e) :=
  (show iblk m c 2 t (ix2 a e) = V m c main_arg2 (ix2 (row t a) e) by blk_ext [iblk, idx2 t]).trans
    (congrFun (V_main_arg2 m c) _)
theorem b3 (t : Fin cfg0.N) (a : Fin 256) (e : Fin 1024) : iblk m c 3 t (ix2 a e) = Q3 m c (ix2 (row t a) e) :=
  (show iblk m c 3 t (ix2 a e) = V m c main_arg3 (ix2 (row t a) e) by blk_ext [iblk, idx3 t]).trans
    (congrFun (V_main_arg3 m c) _)
theorem b4 (t : Fin cfg0.N) (a : Fin 256) (e : Fin 2048) : iblk m c 4 t (ix2 a e) = Q4 m c (ix2 (row t a) e) :=
  (show iblk m c 4 t (ix2 a e) = V m c main_arg4 (ix2 (row t a) e) by blk_ext [iblk, idx4 t]).trans
    (congrFun (V_main_arg4 m c) _)
theorem b6 (t : Fin cfg0.N) (a : Fin 256) (e : Fin 1024) : iblk m c 6 t (ix2 a e) = XX m c (ix2 (row t a) e) :=
  (show iblk m c 6 t (ix2 a e) = V m c main_arg6 (ix2 (row t a) e) by blk_ext [iblk, idx6 t]).trans
    (congrFun (V_main_arg6 m c) _)
theorem b7 (t : Fin cfg0.N) (a : Fin 256) (e : Fin 1024) : iblk m c 7 t (ix2 a e) = YY m c (ix2 (row t a) e) :=
  (show iblk m c 7 t (ix2 a e) = V m c main_arg7 (ix2 (row t a) e) by blk_ext [iblk, idx7 t]).trans
    (congrFun (V_main_arg7 m c) _)
theorem b8 (t : Fin cfg0.N) (z : Fin 1) (e : Fin 1024) : iblk m c 8 t (ix2 z e) = gg m c (ix2 z e) :=
  (show iblk m c 8 t (ix2 z e) = V m c main_arg8 (ix2 z e) by blk_ext [iblk, idx8 t]).trans
    (congrFun (V_main_arg8 m c) _)
theorem b9 (t : Fin cfg0.N) (z : Fin 1) (e : Fin 1024) : iblk m c 9 t (ix2 z e) = ss m c (ix2 z e) :=
  (show iblk m c 9 t (ix2 z e) = V m c main_arg9 (ix2 z e) by blk_ext [iblk, idx9 t]).trans
    (congrFun (V_main_arg9 m c) _)

/-- The weight as the host lays it out for the kernel: row `e` of 6144. -/
theorem v0_at (e : Fin 6144) (a : Fin 1024) : (V m c main_v0 : A2 6144 1024) (ix2 e a) = wr (WW m c) e a := by
  have h : V m c main_v0 = shapeCast S6144x1024 (WW m c) shapeCasts_S8x768x1024_S6144x1024 := rfl
  rw [h]
  pointwise []
  rfl

theorem b5 (t : Fin cfg0.N) (e : Fin 6144) (a : Fin 1024) : iblk m c 5 t (ix2 e a) = wr (WW m c) e a :=
  (show iblk m c 5 t (ix2 e a) = V m c main_v0 (ix2 e a) by blk_ext [iblk, idx5 t]).trans (v0_at m c e a)

/-- One band of rows of the weight. -/
theorem band (t : Fin cfg0.N) (o n : ℕ) (ho : o + n ≤ 6144) (inb) (j : Fin n) (a : Fin 1024) :
    View.ld (iblk m c 5 t) (Rect.unit (s := S6144x1024) ![o, 0] ![n, 1024] inb) (ix2 (n0 := n) (n1 := 1024) j a)
      = wr (WW m c) ⟨o + j.val, by omega⟩ a := by
  refine Eq.trans ?_ (b5 m c t ⟨o + j.val, by omega⟩ a)
  show iblk m c 5 t _ = iblk m c 5 t _
  congr 1
  funext d
  match d with
  | ⟨0, _⟩ => exact Fin.ext (by show o + 1 * j.val = o + j.val; omega)
  | ⟨1, _⟩ => exact Fin.ext (by show 0 + 1 * a.val = a.val; omega)

theorem vd_nest (p0 p1 p2 p3 : S256x1024.Idx → EReal) (p4 : S256x2048.Idx → EReal) (w0 w1 w2 w3 : S1024x1024.Idx → EReal)
    (w4 : S2048x1024.Idx → EReal) (a : Fin 256) (b : Fin 1024) :
    k0_pay5 (F := Ideal) p0 w0 p1 w1 p2 w2 p3 w3 p4 w4 (ix2 a b)
      = ∑ k, p0 (ix2 a k) * w0 (ix2 k b) + ∑ k, p1 (ix2 a k) * w1 (ix2 k b) + ∑ k, p2 (ix2 a k) * w2 (ix2 k b)
        + ∑ k, p3 (ix2 a k) * w3 (ix2 k b) + ∑ k, p4 (ix2 a k) * w4 (ix2 k b) := by
  pointwise [k0_pay5]

theorem add5 {a0 a1 a2 a3 a4 b0 b1 b2 b3 b4 : EReal} (h0 : a0 = b0) (h1 : a1 = b1) (h2 : a2 = b2) (h3 : a3 = b3) (h4 : a4 = b4) :
    a0 + a1 + a2 + a3 + a4 = b0 + b1 + b2 + b3 + b4 := by
  subst h0 h1 h2 h3 h4
  rfl

theorem prod_of {P : A2 4096 1024} {W : A3 8 768 1024} {r : Fin 4096} {b : Fin 1024} (o : ℕ) (ho : o + 1024 ≤ 6144)
    {f g : Fin 1024 → EReal} (hf : ∀ k, f k = P (ix2 r k)) (hg : ∀ k : Fin 1024, g k = wr W ⟨o + k.val, by omega⟩ b) :
    ∑ k, f k * g k = prod P W o ho r b :=
  Finset.sum_congr rfl fun k _ => congrArg₂ (fun u v : EReal => u * v) (hf k) (hg k)

theorem prod5_of {P : A2 4096 2048} {W : A3 8 768 1024} {r : Fin 4096} {b : Fin 1024}
    {f g : Fin 2048 → EReal} (hf : ∀ k, f k = P (ix2 r k)) (hg : ∀ k : Fin 2048, g k = wr W ⟨4096 + k.val, by omega⟩ b) :
    ∑ k, f k * g k = prod5 P W r b :=
  Finset.sum_congr rfl fun k _ => congrArg₂ (fun u v : EReal => u * v) (hf k) (hg k)

/-- The kernel's cotangent of the projection's operand. -/
abbrev VD (t : Fin cfg0.N) : S256x1024.Idx → EReal :=
  k0_pay5 (F := Ideal) (iblk m c 0 t) (View.ld (iblk m c 5 t) (Rect.unit ![0, 0] ![1024, 1024] inb_S6144x1024_S1024x1024_0_0))
    (iblk m c 1 t) (View.ld (iblk m c 5 t) (Rect.unit ![1024, 0] ![1024, 1024] inb_S6144x1024_S1024x1024_1024_0))
    (iblk m c 2 t) (View.ld (iblk m c 5 t) (Rect.unit ![2048, 0] ![1024, 1024] inb_S6144x1024_S1024x1024_2048_0))
    (iblk m c 3 t) (View.ld (iblk m c 5 t) (Rect.unit ![3072, 0] ![1024, 1024] inb_S6144x1024_S1024x1024_3072_0))
    (iblk m c 4 t) (View.ld (iblk m c 5 t) (Rect.unit ![4096, 0] ![2048, 1024] inb_S6144x1024_S2048x1024_4096_0))

theorem vd_of {P0 P1 P2 P3 : A2 4096 1024} {P4 : A2 4096 2048} {W : A3 8 768 1024} {r : Fin 4096} {a : Fin 256} {b : Fin 1024}
    {p0 p1 p2 p3 : S256x1024.Idx → EReal} {p4 : S256x2048.Idx → EReal} {w0 w1 w2 w3 : S1024x1024.Idx → EReal}
    {w4 : S2048x1024.Idx → EReal}
    (hp0 : ∀ k, p0 (ix2 a k) = P0 (ix2 r k)) (hw0 : ∀ k : Fin 1024, w0 (ix2 k b) = wr W ⟨0 + k.val, by omega⟩ b)
    (hp1 : ∀ k, p1 (ix2 a k) = P1 (ix2 r k)) (hw1 : ∀ k : Fin 1024, w1 (ix2 k b) = wr W ⟨1024 + k.val, by omega⟩ b)
    (hp2 : ∀ k, p2 (ix2 a k) = P2 (ix2 r k)) (hw2 : ∀ k : Fin 1024, w2 (ix2 k b) = wr W ⟨2048 + k.val, by omega⟩ b)
    (hp3 : ∀ k, p3 (ix2 a k) = P3 (ix2 r k)) (hw3 : ∀ k : Fin 1024, w3 (ix2 k b) = wr W ⟨3072 + k.val, by omega⟩ b)
    (hp4 : ∀ k, p4 (ix2 a k) = P4 (ix2 r k)) (hw4 : ∀ k : Fin 2048, w4 (ix2 k b) = wr W ⟨4096 + k.val, by omega⟩ b) :
    k0_pay5 (F := Ideal) p0 w0 p1 w1 p2 w2 p3 w3 p4 w4 (ix2 a b) = dh P0 P1 P2 P3 P4 W r b :=
  (vd_nest _ _ _ _ _ _ _ _ _ _ a b).trans
    (add5 (prod_of 0 _ hp0 hw0) (prod_of 1024 _ hp1 hw1) (prod_of 2048 _ hp2 hw2) (prod_of 3072 _ hp3 hw3) (prod5_of hp4 hw4))

theorem vd_at (t : Fin cfg0.N) (a : Fin 256) (b : Fin 1024) : VD m c t (ix2 a b) = DD m c (row t a) b :=
  vd_of
    (fun k => b0 m c t a k) (fun k => band m c t 0 1024 (by decide) _ k b)
    (fun k => b1 m c t a k) (fun k => band m c t 1024 1024 (by decide) _ k b)
    (fun k => b2 m c t a k) (fun k => band m c t 2048 1024 (by decide) _ k b)
    (fun k => b3 m c t a k) (fun k => band m c t 3072 1024 (by decide) _ k b)
    (fun k => b4 m c t a k) (fun k => band m c t 4096 2048 (by decide) _ k b)

/-- The reciprocal root of a row, and the normed row. -/
theorem rs_at (t : Fin cfg0.N) (a : Fin 256) (z : Fin 1) : k0_pay6 (F := Ideal) (iblk m c 6 t) (ix2 a z) = rs (XX m c) (row t a) := by
  have e : ∀ x : S256x1024.Idx → EReal, k0_pay6 (F := Ideal) x (ix2 a z)
      = Ideal.rsqrt (Ideal.div (∑ b : Fin 1024, x (ix2 a b) * x (ix2 a b)) k1024 + keps) := by
    intro x
    pointwise [k0_pay6]
  rw [e]
  unfold rs
  simp only [b6]

theorem xn_at (t : Fin cfg0.N) (a : Fin 256) (b : Fin 1024) : k0_pay7 (F := Ideal) (iblk m c 6 t) (ix2 a b) = xn (XX m c) (row t a) b := by
  have e : ∀ x : S256x1024.Idx → EReal, k0_pay7 (F := Ideal) x (ix2 a b) = x (ix2 a b) * k0_pay6 (F := Ideal) x (ix2 a 0) := by
    intro x
    pointwise [k0_pay7]
  rw [e, rs_at, b6]
  rfl

/-- The cotangent of the norm's input. -/
abbrev VX (t : Fin cfg0.N) : S256x1024.Idx → EReal :=
  k0_pay1 (F := Ideal) (iblk m c 8 t) (k0_pay6 (iblk m c 6 t)) (k0_pay7 (iblk m c 6 t)) (k0_pay10 (VD m c t) (iblk m c 9 t)) (iblk m c 7 t)

theorem vx_at (t : Fin cfg0.N) (a : Fin 256) (b : Fin 1024) :
    VX m c t (ix2 a b) = dx (DD m c) (XX m c) (YY m c) (gg m c) (ss m c) (row t a) b := by
  have e : ∀ (d n y : S256x1024.Idx → EReal) (g s : S1x1024.Idx → EReal) (r : S256x1.Idx → EReal),
      k0_pay1 (F := Ideal) g r n (k0_pay10 d s) y (ix2 a b)
        = y (ix2 a b) + r (ix2 a 0) * (d (ix2 a b) * (1 + s (ix2 0 b)) * g (ix2 0 b)
          - n (ix2 a b) * Ideal.div (∑ x, d (ix2 a x) * (1 + s (ix2 0 x)) * g (ix2 0 x) * n (ix2 a x)) k1024) := by
    intro d n y g s r
    pointwise [k0_pay1, k0_pay10]
  refine (e _ _ _ _ _ _).trans ?_
  unfold dx
  simp only [vd_at, rs_at, xn_at, b7, b8, b9]

/-- The sixteen shares of 256 rows are all 4096 rows. -/
theorem sum_rows (f : Fin 4096 → EReal) : ∑ p : Fin cfg0.N, ∑ x : Fin 256, f (row p x) = ∑ r : Fin 4096, f r :=
  Fin.sum_mul_add_congr (S := 16) (n := 256) (L := 4096) (f := f)
    fun s k _ => congrArg f (Fin.ext (by show 256 * s.val + k.val = s.val * 256 + k.val; omega))

/-- The last grid point. -/
abbrev last : Fin cfg0.N := ⟨15, by decide⟩

theorem arr0 : (dats m 0 c).arrAt 10 cfg0.N = G0 (DD m c) (XX m c) (YY m c) (gg m c) (ss m c) := by
  refine (dats m 0 c).arrAt_eq_of_covers 10 _ (by decide +kernel) fun t hf y => ?_
  blk_simp
  rw [after0_10]
  have ey : y = ix2 (n0 := 256) (n1 := 1024) (y 0) (y 1) := eq_ix2 y
  have ht : t.val < 16 := t.isLt
  have h256 : (y 0).val < 256 := (y 0).isLt
  have eG : (((View.whole main_v1_0).slice (win0_10.rect t)).emb y)
      = ix2 (n0 := 4096) (n1 := 1024) (row t (y 0)) (y 1) := by
    blk_ext [idx10 t]
  have hA : t.val % 16 = 0 ∨ ¬ t.val % 16 = 0 := em _
  rw [eG]
  rcases hA with h | h
  · rw [outsAt0_A m c t h]
    frame_out
    exact (congrArg (VX m c t) ey).trans (vx_at m c t (y 0) (y 1))
  · rw [outsAt0_B m c t h]
    frame_out
    exact (congrArg (VX m c t) ey).trans (vx_at m c t (y 0) (y 1))

theorem p1 (d : S256x1024.Idx → EReal) (z : S1x1024.Idx → EReal) (a : Fin 1) (b : Fin 1024) :
    k0_pay8 (F := Ideal) d z (ix2 a b) = z (ix2 a b) + ∑ x : Fin 256, d (ix2 x b) := by
  pointwise [k0_pay8]

/-- A grid point's share. -/
def part1 (t : Fin cfg0.N) : A2 1 1024 := fun j => ∑ x : Fin 256, DD m c (row t x) (j 1)

theorem step1B (t : Fin cfg0.N) (h : ¬ t.val % 16 = 0) (j : S1x1024.Idx) :
    (outsAt0 m c t.val t.isLt).2.1 j
      = (outsAt0 m c (t.val - 1) (Nat.lt_of_le_of_lt (Nat.sub_le _ _) t.isLt)).2.1 j + part1 m c t j := by
  obtain ⟨a, b, rfl⟩ : ∃ (a : Fin 1) (b : Fin 1024), j = ix2 a b := ⟨j 0, j 1, eq_ix2 j⟩
  rw [outsAt0_B m c t h]
  frame_out
  refine (p1 _ _ _ _).trans (congrArg (_ + ·) (Finset.sum_congr rfl fun x _ => ?_))
  exact vd_at m c t x b

theorem step1A (t : Fin cfg0.N) (h : t.val % 16 = 0) (j : S1x1024.Idx) :
    (outsAt0 m c t.val t.isLt).2.1 j = (fun _ => (0 : EReal)) j + part1 m c t j := by
  obtain ⟨a, b, rfl⟩ : ∃ (a : Fin 1) (b : Fin 1024), j = ix2 a b := ⟨j 0, j 1, eq_ix2 j⟩
  have hz : k0_pay2 (F := Ideal) (ix2 a b) = 0 := by pointwise [k0_pay2]
  rw [outsAt0_A m c t h]
  frame_out
  refine (p1 _ _ _ _).trans (congrArg₂ (· + ·) hz (Finset.sum_congr rfl fun x _ => ?_))
  exact vd_at m c t x b

theorem arr1 : (dats m 0 c).arrAt 11 cfg0.N = G1 (DD m c) := by
  refine (dats m 0 c).arrAt_eq_of_after_last 11 last (by decide +kernel) _ fun j => ?_
  have e := Pipeline.eq_sum_fin_of_reset_step_apply_last (fun n h => (outsAt0 m c n h).2.1) 16 (fun _ => (0 : EReal))
    (part1 m c) (step1A m c) (step1B m c) (by decide) last rfl j
  have h2 := congrFun (after0_11 m c last) j
  refine Eq.trans ?_ ((h2.trans e).trans ?_)
  · blk_simp
  · have hs := sum_rows fun r => DD m c r (j 1)
    exact (zero_add (M := EReal) _).trans hs

theorem p2 (d n : S256x1024.Idx → EReal) (g z : S1x1024.Idx → EReal) (a : Fin 1) (b : Fin 1024) :
    k0_pay9 (F := Ideal) d n g z (ix2 a b)
      = z (ix2 a b) + ∑ x : Fin 256, d (ix2 x b) * (k0_pay7 (F := Ideal) n (ix2 x b) * g (ix2 0 b)) := by
  pointwise [k0_pay9]

/-- A grid point's share. -/
def part2 (t : Fin cfg0.N) : A2 1 1024 := fun j => ∑ x : Fin 256, DD m c (row t x) (j 1) * (xn (XX m c) (row t x) (j 1) * gg m c (ix2 0 (j 1)))

theorem step2B (t : Fin cfg0.N) (h : ¬ t.val % 16 = 0) (j : S1x1024.Idx) :
    (outsAt0 m c t.val t.isLt).2.2.1 j
      = (outsAt0 m c (t.val - 1) (Nat.lt_of_le_of_lt (Nat.sub_le _ _) t.isLt)).2.2.1 j + part2 m c t j := by
  obtain ⟨a, b, rfl⟩ : ∃ (a : Fin 1) (b : Fin 1024), j = ix2 a b := ⟨j 0, j 1, eq_ix2 j⟩
  rw [outsAt0_B m c t h]
  frame_out
  refine (p2 _ _ _ _ _ _).trans (congrArg (_ + ·) (Finset.sum_congr rfl fun x _ => ?_))
  exact congrArg₂ (· * ·) (vd_at m c t x b) (congrArg₂ (· * ·) (xn_at m c t x b) (b8 m c t 0 b))

theorem step2A (t : Fin cfg0.N) (h : t.val % 16 = 0) (j : S1x1024.Idx) :
    (outsAt0 m c t.val t.isLt).2.2.1 j = (fun _ => (0 : EReal)) j + part2 m c t j := by
  obtain ⟨a, b, rfl⟩ : ∃ (a : Fin 1) (b : Fin 1024), j = ix2 a b := ⟨j 0, j 1, eq_ix2 j⟩
  have hz : k0_pay3 (F := Ideal) (ix2 a b) = 0 := by pointwise [k0_pay3]
  rw [outsAt0_A m c t h]
  frame_out
  refine (p2 _ _ _ _ _ _).trans (congrArg₂ (· + ·) hz (Finset.sum_congr rfl fun x _ => ?_))
  exact congrArg₂ (· * ·) (vd_at m c t x b) (congrArg₂ (· * ·) (xn_at m c t x b) (b8 m c t 0 b))

theorem arr2 : (dats m 0 c).arrAt 12 cfg0.N = G2 (DD m c) (XX m c) (gg m c) := by
  refine (dats m 0 c).arrAt_eq_of_after_last 12 last (by decide +kernel) _ fun j => ?_
  have e := Pipeline.eq_sum_fin_of_reset_step_apply_last (fun n h => (outsAt0 m c n h).2.2.1) 16 (fun _ => (0 : EReal))
    (part2 m c) (step2A m c) (step2B m c) (by decide) last rfl j
  have h2 := congrFun (after0_12 m c last) j
  refine Eq.trans ?_ ((h2.trans e).trans ?_)
  · blk_simp
  · have hs := sum_rows fun r => DD m c r (j 1) * (xn (XX m c) r (j 1) * gg m c (ix2 0 (j 1)))
    exact (zero_add (M := EReal) _).trans hs

theorem p3 (d n : S256x1024.Idx → EReal) (s z : S1x1024.Idx → EReal) (a : Fin 1) (b : Fin 1024) :
    k0_pay11 (F := Ideal) d n s z (ix2 a b)
      = z (ix2 a b) + ∑ x : Fin 256, d (ix2 x b) * (1 + s (ix2 0 b)) * k0_pay7 (F := Ideal) n (ix2 x b) := by
  pointwise [k0_pay11, k0_pay10]

/-- A grid point's share. -/
def part3 (t : Fin cfg0.N) : A2 1 1024 := fun j => ∑ x : Fin 256, DD m c (row t x) (j 1) * (1 + ss m c (ix2 0 (j 1))) * xn (XX m c) (row t x) (j 1)

theorem step3B (t : Fin cfg0.N) (h : ¬ t.val % 16 = 0) (j : S1x1024.Idx) :
    (outsAt0 m c t.val t.isLt).2.2.2 j
      = (outsAt0 m c (t.val - 1) (Nat.lt_of_le_of_lt (Nat.sub_le _ _) t.isLt)).2.2.2 j + part3 m c t j := by
  obtain ⟨a, b, rfl⟩ : ∃ (a : Fin 1) (b : Fin 1024), j = ix2 a b := ⟨j 0, j 1, eq_ix2 j⟩
  rw [outsAt0_B m c t h]
  frame_out
  refine (p3 _ _ _ _ _ _).trans (congrArg (_ + ·) (Finset.sum_congr rfl fun x _ => ?_))
  exact congrArg₂ (· * ·) (congrArg₂ (· * ·) (vd_at m c t x b) (congrArg (1 + ·) (b9 m c t 0 b))) (xn_at m c t x b)

theorem step3A (t : Fin cfg0.N) (h : t.val % 16 = 0) (j : S1x1024.Idx) :
    (outsAt0 m c t.val t.isLt).2.2.2 j = (fun _ => (0 : EReal)) j + part3 m c t j := by
  obtain ⟨a, b, rfl⟩ : ∃ (a : Fin 1) (b : Fin 1024), j = ix2 a b := ⟨j 0, j 1, eq_ix2 j⟩
  have hz : k0_pay4 (F := Ideal) (ix2 a b) = 0 := by pointwise [k0_pay4]
  rw [outsAt0_A m c t h]
  frame_out
  refine (p3 _ _ _ _ _ _).trans (congrArg₂ (· + ·) hz (Finset.sum_congr rfl fun x _ => ?_))
  exact congrArg₂ (· * ·) (congrArg₂ (· * ·) (vd_at m c t x b) (congrArg (1 + ·) (b9 m c t 0 b))) (xn_at m c t x b)

theorem arr3 : (dats m 0 c).arrAt 13 cfg0.N = G3 (DD m c) (XX m c) (ss m c) := by
  refine (dats m 0 c).arrAt_eq_of_after_last 13 last (by decide +kernel) _ fun j => ?_
  have e := Pipeline.eq_sum_fin_of_reset_step_apply_last (fun n h => (outsAt0 m c n h).2.2.2) 16 (fun _ => (0 : EReal))
    (part3 m c) (step3A m c) (step3B m c) (by decide) last rfl j
  have h2 := congrFun (after0_13 m c last) j
  refine Eq.trans ?_ ((h2.trans e).trans ?_)
  · blk_simp
  · have hs := sum_rows fun r => DD m c r (j 1) * (1 + ss m c (ix2 0 (j 1))) * xn (XX m c) r (j 1)
    exact (zero_add (M := EReal) _).trans hs

end Cert.EvenB

end
-- ==== Proof.EvenRef.lean ====
/-
  The reference's results of the first layer's input gradient are the functions of `Proof.EvenSpec` of its arguments.
-/
module

public import proofs.«01_k».proof.Proof.EvenSpec
public import proofs.«01_k».proof.Proof.NormRef
public import proofs.«01_k».proof.Proof.Gen.EvenBwdRefIdeal.Read

@[expose] public section

noncomputable section

namespace Cert.EvenB.Ref

open Cert.EvenBwdRefIdeal Cert.EvenBwdRefIdeal.Gen Cert.EvenBwdRefIdeal.Read Idealize.ShloMosaic
open Cert.Reals (IsReal)
open Cert.Norm (A2 A3 k1024 keps rs xn)
open Cert.Norm.Ref (chainE)

variable (x0 x1 x2 x3 : A2 4096 1024) (x4 : A2 4096 2048) (x5 : A3 8 768 1024) (x6 x7 : A2 4096 1024) (x8 x9 : A2 1 1024)

/-- The cotangent of the projection's operand. -/
abbrev D : Fin 4096 → Fin 1024 → EReal := dh x0 x1 x2 x3 x4 x5

/-- Column `e` of the five parts side by side. -/
theorem v4 (r : Fin 4096) (e : Fin 6144) (k : Fin 1024) (k5 : Fin 2048) :
    (e.val = 0 + k.val → val_main_v4 (F := Ideal) x0 x1 x2 x3 x4 (ix2 r e) = x0 (ix2 r k))
      ∧ (e.val = 1024 + k.val → val_main_v4 (F := Ideal) x0 x1 x2 x3 x4 (ix2 r e) = x1 (ix2 r k))
      ∧ (e.val = 2048 + k.val → val_main_v4 (F := Ideal) x0 x1 x2 x3 x4 (ix2 r e) = x2 (ix2 r k))
      ∧ (e.val = 3072 + k.val → val_main_v4 (F := Ideal) x0 x1 x2 x3 x4 (ix2 r e) = x3 (ix2 r k))
      ∧ (e.val = 4096 + k5.val → val_main_v4 (F := Ideal) x0 x1 x2 x3 x4 (ix2 r e) = x4 (ix2 r k5)) := by
  pointwise [val_main_v4, val_main_v3]
  have hk := k.isLt
  refine ⟨fun h => ?_, fun h => ?_, fun h => ?_, fun h => ?_, fun h => ?_⟩
  · rw [dif_pos (by omega)]
    exact congrArg (fun u => x0 (ix2 r u)) (Fin.ext (show e.val = k.val by omega))
  · rw [dif_neg (by omega), dif_pos (by omega)]
    exact congrArg (fun u => x1 (ix2 r u)) (Fin.ext (show e.val - 1024 = k.val by omega))
  · rw [dif_neg (by omega), dif_neg (by omega), dif_pos (by omega)]
    exact congrArg (fun u => x2 (ix2 r u)) (Fin.ext (show e.val - 1024 - 1024 = k.val by omega))
  · rw [dif_neg (by omega), dif_neg (by omega), dif_neg (by omega), dif_pos (by omega)]
    exact congrArg (fun u => x3 (ix2 r u)) (Fin.ext (show e.val - 1024 - 1024 - 1024 = k.val by omega))
  · rw [dif_neg (by omega), dif_neg (by omega), dif_neg (by omega), dif_neg (by omega)]
    exact congrArg (fun u => x4 (ix2 r u)) (Fin.ext (show e.val - 1024 - 1024 - 1024 - 1024 = k5.val by omega))

theorem v2 (a : Fin 1024) (e : Fin 6144) : val_main_v2 (F := Ideal) x5 (ix2 a e) = wr x5 e a := by
  pointwise [val_main_v2, val_main_v1, val_main_v0]
  rfl

theorem v28 (r : Fin 4096) (a : Fin 1024) : val_main_v28 (F := Ideal) x0 x1 x2 x3 x4 x5 (ix2 r a) = D x0 x1 x2 x3 x4 x5 r a := by
  have h : val_main_v28 (F := Ideal) x0 x1 x2 x3 x4 x5 (ix2 r a)
      = ∑ e : Fin 6144, (fun u v : EReal => u * v) (val_main_v4 (F := Ideal) x0 x1 x2 x3 x4 (ix2 r e)) (val_main_v2 (F := Ideal) x5 (ix2 a e)) := by
    pointwise [val_main_v28]
  rw [h, sum_parts]
  refine congrArg₂ (· + ·) (congrArg₂ (· + ·) (congrArg₂ (· + ·) (congrArg₂ (· + ·) ?_ ?_) ?_) ?_) ?_
  · exact Finset.sum_congr rfl fun k _ => congrArg₂ (fun u v : EReal => u * v) ((v4 x0 x1 x2 x3 x4 r _ k 0).1 rfl) (v2 x5 a _)
  · exact Finset.sum_congr rfl fun k _ => congrArg₂ (fun u v : EReal => u * v) ((v4 x0 x1 x2 x3 x4 r _ k 0).2.1 rfl) (v2 x5 a _)
  · exact Finset.sum_congr rfl fun k _ => congrArg₂ (fun u v : EReal => u * v) ((v4 x0 x1 x2 x3 x4 r _ k 0).2.2.1 rfl) (v2 x5 a _)
  · exact Finset.sum_congr rfl fun k _ => congrArg₂ (fun u v : EReal => u * v) ((v4 x0 x1 x2 x3 x4 r _ k 0).2.2.2.1 rfl) (v2 x5 a _)
  · exact Finset.sum_congr rfl fun k _ => congrArg₂ (fun u v : EReal => u * v) ((v4 x0 x1 x2 x3 x4 r _ 0 k).2.2.2.2 rfl) (v2 x5 a _)

theorem v12 (r : Fin 4096) (z : Fin 1) : val_main_v12 (F := Ideal) x6 (ix2 r z)
    = Ideal.div (∑ b : Fin 1024, x6 (ix2 r b) * x6 (ix2 r b)) k1024 + keps := by
  pointwise [val_main_v12, val_main_v11, val_main_cst_2, val_main_v10, val_main_v9, val_main_cst_1, val_main_v8, val_main_v7,
    val_main_cst_0, val_main_v6]

theorem v13 (r : Fin 4096) (z : Fin 1) : val_main_v13 (F := Ideal) x6 (ix2 r z) = rs x6 r :=
  congrArg Ideal.rsqrt (v12 x6 r z)

theorem v18 (r : Fin 4096) (a : Fin 1024) : val_main_v18 (F := Ideal) x6 (ix2 r a) = xn x6 r a := by
  pointwise [val_main_v18, val_main_v17]
  exact congrArg (x6 (ix2 r a) * ·) (v13 x6 r _)

theorem v35 (r : Fin 4096) (a : Fin 1024) : val_main_v35 (F := Ideal) x0 x1 x2 x3 x4 x5 x9 (ix2 r a)
    = D x0 x1 x2 x3 x4 x5 r a * (1 + x9 (ix2 0 a)) := by
  pointwise [val_main_v35, val_main_v34, val_main_v22, val_main_v21, val_main_cst_4]
  rw [v28]

theorem v40 (r : Fin 4096) (a : Fin 1024) : val_main_v40 (F := Ideal) x0 x1 x2 x3 x4 x5 x8 x9 (ix2 r a)
    = D x0 x1 x2 x3 x4 x5 r a * (1 + x9 (ix2 0 a)) * x8 (ix2 0 a) := by
  pointwise [val_main_v40, val_main_v39]
  rw [v35]

/-- What the reciprocal root's cotangent leaves of a row. -/
def mm (r : Fin 4096) : EReal :=
  Ideal.div ((∑ b : Fin 1024, x6 (ix2 r b) * (D x0 x1 x2 x3 x4 x5 r b * (1 + x9 (ix2 0 b)) * x8 (ix2 0 b)))
    * (Ideal.ofBits FTy.f32 0xBF000000#32 * Ideal.div (rs x6 r) (Ideal.div (∑ b : Fin 1024, x6 (ix2 r b) * x6 (ix2 r b)) k1024 + keps))) k1024

theorem v43 (r : Fin 4096) (z : Fin 1) : val_main_v43 (F := Ideal) x0 x1 x2 x3 x4 x5 x6 x8 x9 (ix2 r z)
    = ∑ b : Fin 1024, x6 (ix2 r b) * (D x0 x1 x2 x3 x4 x5 r b * (1 + x9 (ix2 0 b)) * x8 (ix2 0 b)) := by
  pointwise [val_main_v43, val_main_v42, val_main_cst_8, val_main_v41]
  simp only [v40]

theorem v16 (r : Fin 4096) (z : Fin 1) : val_main_v16 (F := Ideal) x6 (ix2 r z)
    = Ideal.ofBits FTy.f32 0xBF000000#32 * Ideal.div (rs x6 r) (Ideal.div (∑ b : Fin 1024, x6 (ix2 r b) * x6 (ix2 r b)) k1024 + keps) := by
  pointwise [val_main_v16, val_main_v15, val_main_cst_3, val_main_v14]
  rw [v13, v12]

theorem v48 (r : Fin 4096) (z : Fin 1) : val_main_v48 (F := Ideal) x0 x1 x2 x3 x4 x5 x6 x8 x9 (ix2 r z) = mm x0 x1 x2 x3 x4 x5 x6 x8 x9 r := by
  pointwise [val_main_v48, val_main_v47, val_main_cst_9, val_main_v46]
  rw [v43, v16]
  rfl

theorem v50 (r : Fin 4096) (a : Fin 1024) : val_main_v50 (F := Ideal) x0 x1 x2 x3 x4 x5 x6 x8 x9 (ix2 r a) = mm x0 x1 x2 x3 x4 x5 x6 x8 x9 r := by
  pointwise [val_main_v50, val_main_v49, val_main_cst_10]
  simp only [Finset.univ_unique, Finset.sum_const, Finset.card_singleton, one_smul, v48]

theorem v30 (z : Fin 1) (a : Fin 1024) : val_main_v30 (F := Ideal) x0 x1 x2 x3 x4 x5 (ix2 z a) = G1 (D x0 x1 x2 x3 x4 x5) (ix2 z a) := by
  pointwise [val_main_v30, val_main_v29, val_main_cst_5]
  simp only [v28]
  rfl

theorem v33 (z : Fin 1) (a : Fin 1024) : val_main_v33 (F := Ideal) x0 x1 x2 x3 x4 x5 x6 x8 (ix2 z a) = G2 (D x0 x1 x2 x3 x4 x5) x6 x8 (ix2 z a) := by
  pointwise [val_main_v33, val_main_v32, val_main_cst_6, val_main_v31, val_main_v20, val_main_v19]
  simp only [v28, v18]
  exact Finset.sum_congr rfl fun r _ => mul_comm (xn x6 r a * x8 (ix2 0 a)) (D x0 x1 x2 x3 x4 x5 r a)

theorem v38 (z : Fin 1) (a : Fin 1024) : val_main_v38 (F := Ideal) x0 x1 x2 x3 x4 x5 x6 x9 (ix2 z a) = G3 (D x0 x1 x2 x3 x4 x5) x6 x9 (ix2 z a) := by
  pointwise [val_main_v38, val_main_v37, val_main_cst_7, val_main_v36]
  simp only [v35, v18]
  exact Finset.sum_congr rfl fun r _ => mul_comm (xn x6 r a) (D x0 x1 x2 x3 x4 x5 r a * (1 + x9 (ix2 0 a)))

section
variable {x0 x1 x2 x3 x4 x5 x6 x8 x9}
variable (h0 : ∀ i, IsReal (x0 i)) (h1 : ∀ i, IsReal (x1 i)) (h2 : ∀ i, IsReal (x2 i)) (h3 : ∀ i, IsReal (x3 i))
  (h4 : ∀ i, IsReal (x4 i)) (h5 : ∀ i, IsReal (x5 i)) (h6 : ∀ i, IsReal (x6 i)) (h8 : ∀ i, IsReal (x8 i)) (h9 : ∀ i, IsReal (x9 i))
include h0 h1 h2 h3 h4 h5

/-- The cotangent of the projection's operand is a real number where its arguments are. -/
theorem real_dh (r : Fin 4096) (a : Fin 1024) : IsReal (D x0 x1 x2 x3 x4 x5 r a) :=
  ((((IsReal.sum _ _ fun _ _ => (h0 _).mul (h5 _)).add (IsReal.sum _ _ fun _ _ => (h1 _).mul (h5 _))).add
    (IsReal.sum _ _ fun _ _ => (h2 _).mul (h5 _))).add (IsReal.sum _ _ fun _ _ => (h3 _).mul (h5 _))).add
    (IsReal.sum _ _ fun _ _ => (h4 _).mul (h5 _))

include h6 h8 h9
theorem v55 (r : Fin 4096) (a : Fin 1024) : val_main_v55 (F := Ideal) x0 x1 x2 x3 x4 x5 x6 x7 x8 x9 (ix2 r a)
    = G0 (D x0 x1 x2 x3 x4 x5) x6 x7 x8 x9 (ix2 r a) := by
  pointwise [val_main_v55, val_main_v54, val_main_v53, val_main_v52, val_main_v51, val_main_v45, val_main_v44]
  simp only [v40, v13, v50]
  refine congrArg (x7 (ix2 r a) + ·) ?_
  exact chainE (fun b => x6 (ix2 r b)) (fun b => D x0 x1 x2 x3 x4 x5 r b * (1 + x9 (ix2 0 b)) * x8 (ix2 0 b)) (fun b => h6 _)
    (fun b => (IsReal.mul (real_dh h0 h1 h2 h3 h4 h5 r b) (IsReal.one.add (h9 _))).mul (h8 _)) a _ _ _ rfl rfl rfl

end

end Cert.EvenB.Ref

end
-- ==== Proof.EvenBwdClaim.lean ====
/-
  The first layer's input gradient: the kernel and the reference leave equal results where every entry of the arrays
  the norm's cotangent is made of is a finite number.
-/
module

public import proofs.«01_k».proof.Defs
public import proofs.«01_k».proof.Proof.EvenArray
public import proofs.«01_k».proof.Proof.EvenRef
public import proofs.«01_k».proof.Proof.ConvClaim
public import proofs.«01_k».proof.Proof.Gen.Pre_even_bwd_finite
public import proofs.«01_k».proof.Proof.Gen.EvenBwdIdeal
public import proofs.«01_k».proof.Proof.Gen.EvenBwdRefIdeal
public import Idealize.ShloMosaic.Lib.ReduceAll

@[expose] public section

noncomputable section

namespace Cert.EvenB

open Idealize.ShloMosaic Idealize.SL.Sem
open Cert.Reals (IsReal)
open Cert.Norm (A2 A3)
open Cert.Conv (real_of_cmp)

/-- The printed condition, read at every index of the nine arrays it is about. -/
theorem real_of_pre (x0 x1 x2 x3 : A2 4096 1024) (x4 : A2 4096 2048) (x5 : A3 8 768 1024) (x6 x7 : A2 4096 1024) (x8 x9 : A2 1 1024)
    (h : Cert.Pre_even_bwd_finite.fn (F := Ideal) x0 x1 x2 x3 x4 x5 x6 x7 x8 x9 = fun _ => 1#1) :
    (∀ i, IsReal (x0 i)) ∧ (∀ i, IsReal (x1 i)) ∧ (∀ i, IsReal (x2 i)) ∧ (∀ i, IsReal (x3 i)) ∧ (∀ i, IsReal (x4 i))
      ∧ (∀ i, IsReal (x5 i)) ∧ (∀ i, IsReal (x6 i)) ∧ (∀ i, IsReal (x8 i)) ∧ ∀ i, IsReal (x9 i) := by
  have h := congrFun h ix0
  dsimp only [Cert.Pre_even_bwd_finite.fn, Cert.Pre_even_bwd_finite.fn_part1, Cert.Pre_even_bwd_finite.fn_part2] at h
  obtain ⟨h, h9⟩ := IntOp.andi_eq_one.1 h
  obtain ⟨h, h8⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨fun i => real_of_cmp _ (Host.reduce_andi_all _ _ _ _ _ h0 i),
    fun i => real_of_cmp _ (Host.reduce_andi_all _ _ _ _ _ h1 i),
    fun i => real_of_cmp _ (Host.reduce_andi_all _ _ _ _ _ h2 i),
    fun i => real_of_cmp _ (Host.reduce_andi_all _ _ _ _ _ h3 i),
    fun i => real_of_cmp _ (Host.reduce_andi_all _ _ _ _ _ h4 i),
    fun i => real_of_cmp _ (Host.reduce_andi_all _ _ _ _ _ h5 i),
    fun i => real_of_cmp _ (Host.reduce_andi_all _ _ _ _ _ h6 i),
    fun i => real_of_cmp _ (Host.reduce_andi_all _ _ _ _ _ h8 i),
    fun i => real_of_cmp _ (Host.reduce_andi_all _ _ _ _ _ h9 i)⟩

/-- The reference's frame: its run leaves its arguments alone, and it has no counter. -/
theorem ref_frame : Cert.quiescent_EvenBwdRefIdeal := fun m ρ _ =>
  (θ_run Cert.EvenBwdRefIdeal.defs _ _).mono (fun r h => ⟨fun c => (h c).2.2.2.2,
      Idealize.ShloMosaic.sem_eq_zero_of_no_sems (by decide) r.2⟩)
    (Cert.EvenBwdRefIdeal.Value.run (F := Ideal) m ρ)

/-- Equal results. -/
theorem algebraic : Cert.algebraic_EvenBwdIdeal_EvenBwdRefIdeal_pre_even_bwd_finite := by
  intro m g m' g' hpre hag
  refine ⟨fun c => G0 (DD m c) (XX m c) (YY m c) (gg m c) (ss m c), fun c => G1 (DD m c),
    fun c => G2 (DD m c) (XX m c) (gg m c), fun c => G3 (DD m c) (XX m c) (ss m c), ?_, ?_⟩
  · refine (θ_run Cert.EvenBwdIdeal.defs _ _).mono (fun r h c => ?_) (Cert.EvenBwdIdeal.Value.run_blocks (F := Ideal) m g)
    obtain ⟨r0, r1, r2, r3, ra⟩ := h c
    exact ⟨r0.trans (arr0 m c), r1.trans (arr1 m c), r2.trans (arr2 m c), r3.trans (arr3 m c), ra⟩
  · refine (θ_run Cert.EvenBwdRefIdeal.defs _ _).mono (fun r h c => ?_) (Cert.EvenBwdRefIdeal.Value.run (F := Ideal) m' g')
    obtain ⟨r0, r1, r2, r3, ra⟩ := h c
    obtain ⟨p0, p1, p2, p3, p4, p5, p6, p8, p9⟩ := real_of_pre _ _ _ _ _ _ _ _ _ _ (hpre c)
    obtain ⟨e0, e1, e2, e3, e4, e5, e6, e7, e8, e9⟩ := hag c
    refine ⟨(r0.trans (Cert.EvenBwdRefIdeal.Read.val_main_v55_eq m' c)).trans ?_,
      (r1.trans (Cert.EvenBwdRefIdeal.Read.val_main_v30_eq _ _ _ _ _ _)).trans ?_,
      (r2.trans (Cert.EvenBwdRefIdeal.Read.val_main_v33_eq _ _ _ _ _ _ _ _)).trans ?_,
      (r3.trans (Cert.EvenBwdRefIdeal.Read.val_main_v38_eq _ _ _ _ _ _ _ _)).trans ?_, ra⟩
    · rw [e0, e1, e2, e3, e4, e5, e6, e7, e8, e9]
      funext i
      obtain ⟨a, b, rfl⟩ : ∃ (a : Fin 4096) (b : Fin 1024), i = ix2 a b := ⟨i 0, i 1, eq_ix2 i⟩
      exact Ref.v55 _ p0 p1 p2 p3 p4 p5 p6 p8 p9 a b
    · rw [e0, e1, e2, e3, e4, e5]
      funext i
      obtain ⟨a, b, rfl⟩ : ∃ (a : Fin 1) (b : Fin 1024), i = ix2 a b := ⟨i 0, i 1, eq_ix2 i⟩
      exact Ref.v30 _ _ _ _ _ _ a b
    · rw [e0, e1, e2, e3, e4, e5, e6, e8]
      funext i
      obtain ⟨a, b, rfl⟩ : ∃ (a : Fin 1) (b : Fin 1024), i = ix2 a b := ⟨i 0, i 1, eq_ix2 i⟩
      exact Ref.v33 _ _ _ _ _ _ _ _ a b
    · rw [e0, e1, e2, e3, e4, e5, e6, e9]
      funext i
      obtain ⟨a, b, rfl⟩ : ∃ (a : Fin 1) (b : Fin 1024), i = ix2 a b := ⟨i 0, i 1, eq_ix2 i⟩
      exact Ref.v38 _ _ _ _ _ _ _ _ a b

end Cert.EvenB

end
-- ==== Proof.AdamSpec.lean ====
/-
  One entry of the AdamW step, over the extended reals: what the kernel's payloads and the
  reference's lines both compute, and a sum of partial gradients.
-/
module

public import Idealize.ShloMosaic.PureOps
public import Idealize.ShloMosaic.Lib.Pointwise

@[expose] public section

noncomputable section

namespace Cert.Adam

open Idealize.ShloMosaic

/-- A constant of the step, read as an extended real. -/
abbrev k (b : BitVec 32) : EReal := Ideal.ofBits .f32 b

/-- The new first moment, from the gradient and the old moment. -/
def mom1 (g m : EReal) : EReal := k 0x3F666666#32 * m + k 0x3DCCCCCD#32 * g

/-- The new second moment, from the gradient and the old moment. -/
def mom2 (g v : EReal) : EReal := k 0x3F7FBE77#32 * v + k 0x3A83126F#32 * (g * g)

/-- The change of the weight. -/
def delta (g w m v : EReal) : EReal :=
  k 0xBA83126F#32 * (Ideal.div (Ideal.div (mom1 g m) (k 0x3F26BD02#32))
    (Ideal.sqrt (Ideal.div (mom2 g v) (k 0x3C231ACC#32)) + k 0x322BCC77#32) + k 0x3C23D70A#32 * w)

/-- Four terms added one after another are the sum over the slots. -/
theorem sum4 (f : Fin 4 → EReal) (g0 g1 g2 g3 : EReal)
    (h0 : g0 = f 0) (h1 : g1 = f 1) (h2 : g2 = f 2) (h3 : g3 = f 3) :
    g0 + g1 + g2 + g3 = ∑ d, f d := by
  rw [Fin.sum_univ_four, h0, h1, h2, h3]

/-- Eight terms added one after another are the sum over the slots. -/
theorem sum8 (f : Fin 8 → EReal) (g0 g1 g2 g3 g4 g5 g6 g7 : EReal)
    (h0 : g0 = f 0) (h1 : g1 = f 1) (h2 : g2 = f 2) (h3 : g3 = f 3) (h4 : g4 = f 4) (h5 : g5 = f 5) (h6 : g6 = f 6) (h7 : g7 = f 7) :
    g0 + g1 + g2 + g3 + g4 + g5 + g6 + g7 = ∑ d, f d := by
  rw [Fin.sum_univ_eight, h0, h1, h2, h3, h4, h5, h6, h7]

/-- Equal entries give an equal change. -/
theorem delta_congr {g g' w w' m m' v v' : EReal} (hg : g = g') (hw : w = w') (hm : m = m') (hv : v = v') :
    delta g w m v = delta g' w' m' v' := by
  rw [hg, hw, hm, hv]

end Cert.Adam

end
-- ==== Proof.AdamInEvenClaim.lean ====
/-
  The AdamW step of the input projection of the even layer: the sum of the four partial gradients received, and from it
  the step. The kernel's 4 block(s) of 256 rows and the reference leave equal results.
-/
module

public import proofs.«01_k».proof.Defs
public import proofs.«01_k».proof.Proof.Rows
public import proofs.«01_k».proof.Proof.AdamSpec
public import proofs.«01_k».proof.Proof.Gen.AdamInEvenIdeal.Value
public import proofs.«01_k».proof.Proof.Gen.AdamInEvenRefIdeal.Run
public import proofs.«01_k».proof.Proof.Gen.AdamInEvenRefIdeal.Read
public import proofs.«01_k».proof.Proof.Gen.AdamInEvenIdeal
public import proofs.«01_k».proof.Proof.Gen.AdamInEvenRefIdeal

@[expose] public section

noncomputable section

namespace Cert.AdamIE

open Idealize.ShloMosaic Idealize.ShloMosaic.TcCoe Idealize.SL.Sem
open Idealize.ShloMosaic.Pipeline (Dat)

/-- The received partial gradients, and an array of the weight's shape. -/
abbrev Recv := (⟨3, ![4, 1024, 768]⟩ : Shape).Idx → EReal
abbrev Wt := (⟨2, ![1024, 768]⟩ : Shape).Idx → EReal

/-- The gradient: the sum of the partial gradients. -/
def G0 (x : Recv) : Wt := fun i => ∑ d : Fin 4, x (ix3 d (i 0) (i 1))
/-- The change of the weight and the two new moments. -/
def G1 (x : Recv) (w m v : Wt) : Wt := fun i => Adam.delta (G0 x i) (w i) (m i) (v i)
def G2 (x : Recv) (m : Wt) : Wt := fun i => Adam.mom1 (G0 x i) (m i)
def G3 (x : Recv) (v : Wt) : Wt := fun i => Adam.mom2 (G0 x i) (v i)

section Kernel

open Cert.AdamInEvenIdeal Cert.AdamInEvenIdeal.Gen

variable (m : (ℓ : Loc nD τ sig) → Buf (Elt Ideal) ℓ) (c : Dev nD)

/-- The four arguments. -/
abbrev A0 : Recv := m ((c : Thread nD τ).loc main_arg0)
abbrev A1 : Wt := m ((c : Thread nD τ).loc main_arg1)
abbrev A2 : Wt := m ((c : Thread nD τ).loc main_arg2)
abbrev A3 : Wt := m ((c : Thread nD τ).loc main_arg3)

theorem idx0 : ∀ t : Fin grid0.N, win0_0.index t = ![0, t.val, 0] := by decide +kernel
theorem idx1 : ∀ t : Fin grid0.N, win0_1.index t = ![t.val, 0] := by decide +kernel
theorem idx2 : ∀ t : Fin grid0.N, win0_2.index t = ![t.val, 0] := by decide +kernel
theorem idx3 : ∀ t : Fin grid0.N, win0_3.index t = ![t.val, 0] := by decide +kernel
theorem idx4 : ∀ t : Fin grid0.N, win0_4.index t = ![t.val, 0] := by decide +kernel
theorem idx5 : ∀ t : Fin grid0.N, win0_5.index t = ![t.val, 0] := by decide +kernel
theorem idx6 : ∀ t : Fin grid0.N, win0_6.index t = ![t.val, 0] := by decide +kernel
theorem idx7 : ∀ t : Fin grid0.N, win0_7.index t = ![t.val, 0] := by decide +kernel

/-- One block's sum, at an index. -/
theorem point4 (x0 : (⟨3, ![1, 256, 768]⟩ : Shape).Idx → EReal) (x1 : (⟨3, ![1, 256, 768]⟩ : Shape).Idx → EReal) (x2 : (⟨3, ![1, 256, 768]⟩ : Shape).Idx → EReal) (x3 : (⟨3, ![1, 256, 768]⟩ : Shape).Idx → EReal) (a : Fin 256) (b : Fin 768) :
    k0_pay2 (F := Ideal) x0 x1 x2 x3 (ix2 a b) = x0 (ix3 (n0 := 1) 0 a b) + x1 (ix3 (n0 := 1) 0 a b) + x2 (ix3 (n0 := 1) 0 a b) + x3 (ix3 (n0 := 1) 0 a b) := by
  pointwise [k0_pay2]

theorem point1 (x0 x1 x2 x3 : (⟨3, ![1, 256, 768]⟩ : Shape).Idx → EReal) (x : (⟨2, ![256, 768]⟩ : Shape).Idx → EReal) (i : (⟨2, ![256, 768]⟩ : Shape).Idx) :
    k0_pay3 (F := Ideal) x0 x1 x2 x3 x i = Adam.mom1 (k0_pay2 (F := Ideal) x0 x1 x2 x3 i) (x i) := rfl
theorem point2 (x0 x1 x2 x3 : (⟨3, ![1, 256, 768]⟩ : Shape).Idx → EReal) (x : (⟨2, ![256, 768]⟩ : Shape).Idx → EReal) (i : (⟨2, ![256, 768]⟩ : Shape).Idx) :
    k0_pay4 (F := Ideal) x0 x1 x2 x3 x i = Adam.mom2 (k0_pay2 (F := Ideal) x0 x1 x2 x3 i) (x i) := rfl
theorem point3 (x0 x1 x2 x3 : (⟨3, ![1, 256, 768]⟩ : Shape).Idx → EReal) (x y z : (⟨2, ![256, 768]⟩ : Shape).Idx → EReal) (i : (⟨2, ![256, 768]⟩ : Shape).Idx) :
    k0_pay1 (F := Ideal) x (k0_pay4 (F := Ideal) x0 x1 x2 x3 z) (k0_pay5 (F := Ideal) x0 x1 x2 x3 y)
      (Scalar.ofBits .f32 0x3C231ACC#32) i
      = Adam.delta (k0_pay2 (F := Ideal) x0 x1 x2 x3 i) (x i) (y i) (z i) := rfl

/-- The arguments' blocks, at an index. -/
theorem blk0 (t : Fin cfg0.N) (d : Fin 4) (a : Fin 256) (k : Fin 768) (r : Fin 1024) (h : r.val = 256 * t.val + a.val) :
    iblk m c 0 t (ix3 d a k) = A0 m c (ix3 d r k) := by
  blk_ext [iblk, V, idx0 t]
theorem blk1 (t : Fin cfg0.N) (a : Fin 256) (k : Fin 768) (r : Fin 1024) (h : r.val = 256 * t.val + a.val) :
    iblk m c 1 t (ix2 a k) = A1 m c (ix2 r k) := by
  blk_ext [iblk, V, idx1 t]
theorem blk2 (t : Fin cfg0.N) (a : Fin 256) (k : Fin 768) (r : Fin 1024) (h : r.val = 256 * t.val + a.val) :
    iblk m c 2 t (ix2 a k) = A2 m c (ix2 r k) := by
  blk_ext [iblk, V, idx2 t]
theorem blk3 (t : Fin cfg0.N) (a : Fin 256) (k : Fin 768) (r : Fin 1024) (h : r.val = 256 * t.val + a.val) :
    iblk m c 3 t (ix2 a k) = A3 m c (ix2 r k) := by
  blk_ext [iblk, V, idx3 t]

/-- The block's gradient, at an index. -/
theorem grad_at (t : Fin cfg0.N) (a : Fin 256) (b : Fin 768) (r : Fin 1024) (h : r.val = 256 * t.val + a.val) :
    k0_pay2 (F := Ideal) (View.ld (iblk m c 0 t) r0_0) (View.ld (iblk m c 0 t) r0_1) (View.ld (iblk m c 0 t) r0_2)
      (View.ld (iblk m c 0 t) r0_3) (ix2 a b) = G0 (A0 m c) (ix2 r b) := by
  refine (point4 _ _ _ _ a b).trans (Adam.sum4 _ _ _ _ _ ?_ ?_ ?_ ?_)
  · exact (Rows.ld_slice 0 (by decide) _ _ _ _ _).trans (blk0 m c t _ _ _ _ h)
  · exact (Rows.ld_slice 1 (by decide) _ _ _ _ _).trans (blk0 m c t _ _ _ _ h)
  · exact (Rows.ld_slice 2 (by decide) _ _ _ _ _).trans (blk0 m c t _ _ _ _ h)
  · exact (Rows.ld_slice 3 (by decide) _ _ _ _ _).trans (blk0 m c t _ _ _ _ h)

/-- The gradient after the run. -/
theorem arr0 : (dats m 0 c).arrAt 4 cfg0.N = G0 (A0 m c) := by
  refine (dats m 0 c).arrAt_eq_of_covers 4 _ (by decide +kernel) fun t hf y => ?_
  blk_simp
  rw [after0_4]
  have ht : t.val < 4 := t.isLt
  have hy : (y 0).val < 256 := (y 0).isLt
  have ey : y = ix2 (n0 := 256) (n1 := 768) (y 0) (y 1) := eq_ix2 y
  have eG : (((View.whole main_v0_0).slice (win0_4.rect t)).emb y)
      = ix2 (n0 := 1024) (n1 := 768) ⟨256 * t.val + (y 0).val, by omega⟩ (y 1) := by
    blk_ext [idx4 t]
  rw [eG]
  refine (congrArg (out0_4 (F := Ideal) _ _ _ _) ey).trans ((Rows.canon_whole _ _ _ _ _).trans ?_)
  exact grad_at m c t _ _ _ rfl

/-- The weight's change after the run. -/
theorem arr1 : (dats m 0 c).arrAt 5 cfg0.N = G1 (A0 m c) (A1 m c) (A2 m c) (A3 m c) := by
  refine (dats m 0 c).arrAt_eq_of_covers 5 _ (by decide +kernel) fun t hf y => ?_
  blk_simp
  rw [after0_5]
  have ht : t.val < 4 := t.isLt
  have hy : (y 0).val < 256 := (y 0).isLt
  have ey : y = ix2 (n0 := 256) (n1 := 768) (y 0) (y 1) := eq_ix2 y
  have eG : (((View.whole main_v0_1).slice (win0_5.rect t)).emb y)
      = ix2 (n0 := 1024) (n1 := 768) ⟨256 * t.val + (y 0).val, by omega⟩ (y 1) := by
    blk_ext [idx5 t]
  rw [eG]
  refine (congrArg (out0_5 (F := Ideal) _ _ _ _) ey).trans ((Rows.canon_whole _ _ _ _ _).trans ((point3 _ _ _ _ _ _ _ _).trans ?_))
  refine Adam.delta_congr (grad_at m c t _ _ _ rfl) ?_ ?_ ?_
  · exact (Rows.ld_whole _ _ _ _).trans (blk1 m c t _ _ _ rfl)
  · exact (Rows.ld_whole _ _ _ _).trans (blk2 m c t _ _ _ rfl)
  · exact (Rows.ld_whole _ _ _ _).trans (blk3 m c t _ _ _ rfl)

/-- The first moment after the run. -/
theorem arr2 : (dats m 0 c).arrAt 6 cfg0.N = G2 (A0 m c) (A2 m c) := by
  refine (dats m 0 c).arrAt_eq_of_covers 6 _ (by decide +kernel) fun t hf y => ?_
  blk_simp
  rw [after0_6]
  have ht : t.val < 4 := t.isLt
  have hy : (y 0).val < 256 := (y 0).isLt
  have ey : y = ix2 (n0 := 256) (n1 := 768) (y 0) (y 1) := eq_ix2 y
  have eG : (((View.whole main_v0_2).slice (win0_6.rect t)).emb y)
      = ix2 (n0 := 1024) (n1 := 768) ⟨256 * t.val + (y 0).val, by omega⟩ (y 1) := by
    blk_ext [idx6 t]
  rw [eG]
  refine (congrArg (out0_6 (F := Ideal) _ _ _ _) ey).trans ((Rows.canon_whole _ _ _ _ _).trans ((point1 _ _ _ _ _ _).trans ?_))
  refine congrArg₂ Adam.mom1 (grad_at m c t _ _ _ rfl) ?_
  exact (Rows.ld_whole _ _ _ _).trans (blk2 m c t _ _ _ rfl)

/-- The second moment after the run. -/
theorem arr3 : (dats m 0 c).arrAt 7 cfg0.N = G3 (A0 m c) (A3 m c) := by
  refine (dats m 0 c).arrAt_eq_of_covers 7 _ (by decide +kernel) fun t hf y => ?_
  blk_simp
  rw [after0_7]
  have ht : t.val < 4 := t.isLt
  have hy : (y 0).val < 256 := (y 0).isLt
  have ey : y = ix2 (n0 := 256) (n1 := 768) (y 0) (y 1) := eq_ix2 y
  have eG : (((View.whole main_v0_3).slice (win0_7.rect t)).emb y)
      = ix2 (n0 := 1024) (n1 := 768) ⟨256 * t.val + (y 0).val, by omega⟩ (y 1) := by
    blk_ext [idx7 t]
  rw [eG]
  refine (congrArg (out0_7 (F := Ideal) _ _ _ _) ey).trans ((Rows.canon_whole _ _ _ _ _).trans ((point2 _ _ _ _ _ _).trans ?_))
  refine congrArg₂ Adam.mom2 (grad_at m c t _ _ _ rfl) ?_
  exact (Rows.ld_whole _ _ _ _).trans (blk3 m c t _ _ _ rfl)

end Kernel

section Reference

open Cert.AdamInEvenRefIdeal.Read

/-- The reference's sum. -/
theorem ref0 (x : Recv) : val_main_v1 (F := Ideal) x = G0 x := by
  funext i
  obtain ⟨a, b, rfl⟩ : ∃ (a : Fin 1024) (b : Fin 768), i = ix2 a b := ⟨i 0, i 1, eq_ix2 i⟩
  pointwise [val_main_v1, val_main_v0, val_main_cst]
  rfl

/-- The reference's step, at an index, from its sum. -/
theorem ref2 (x : Recv) (m : Wt) : val_main_v6 (F := Ideal) x m = G2 x m := by
  funext i
  rw [G2, ← ref0]
  rfl
theorem ref3 (x : Recv) (v : Wt) : val_main_v12 (F := Ideal) x v = G3 x v := by
  funext i
  rw [G3, ← ref0]
  rfl
theorem ref1 (x : Recv) (w m v : Wt) : val_main_v25 (F := Ideal) x w m v = G1 x w m v := by
  funext i
  rw [G1, ← ref0]
  rfl

end Reference

/-- The reference's frame. -/
theorem ref_frame : Cert.quiescent_AdamInEvenRefIdeal := fun m ρ _ =>
  (θ_run Cert.AdamInEvenRefIdeal.defs _ _).mono (fun r h => ⟨fun c => (h c).2.2.2.2,
      Idealize.ShloMosaic.sem_eq_zero_of_no_sems (by decide) r.2⟩)
    (Cert.AdamInEvenRefIdeal.Value.run (F := Ideal) m ρ)

/-- Equal results. -/
theorem algebraic : Cert.algebraic_AdamInEvenIdeal_AdamInEvenRefIdeal := by
  intro m g m' g' _ hag
  refine ⟨fun c => G0 (A0 m c), fun c => G1 (A0 m c) (A1 m c) (A2 m c) (A3 m c),
    fun c => G2 (A0 m c) (A2 m c), fun c => G3 (A0 m c) (A3 m c), ?_, ?_⟩
  · refine (θ_run Cert.AdamInEvenIdeal.defs _ _).mono (fun r h c => ?_) (Cert.AdamInEvenIdeal.Value.run_blocks (F := Ideal) m g)
    obtain ⟨r0, r1, r2, r3, ra⟩ := h c
    exact ⟨r0.trans (arr0 m c), r1.trans (arr1 m c), r2.trans (arr2 m c), r3.trans (arr3 m c), ra⟩
  · refine (θ_run Cert.AdamInEvenRefIdeal.defs _ _).mono (fun r h c => ?_) (Cert.AdamInEvenRefIdeal.Value.run (F := Ideal) m' g')
    obtain ⟨r0, r1, r2, r3, ra⟩ := h c
    obtain ⟨e0, e1, e2, e3⟩ := hag c
    refine ⟨r0.trans ((Cert.AdamInEvenRefIdeal.Read.val_main_v1_eq _).trans ?_),
      r1.trans ((Cert.AdamInEvenRefIdeal.Read.val_main_v25_eq _ _ _ _).trans ?_),
      r2.trans ((Cert.AdamInEvenRefIdeal.Read.val_main_v6_eq _ _).trans ?_),
      r3.trans ((Cert.AdamInEvenRefIdeal.Read.val_main_v12_eq _ _).trans ?_), ra⟩
    · rw [e0]; exact ref0 _
    · rw [e0, e1, e2, e3]; exact ref1 _ _ _ _
    · rw [e0, e2]; exact ref2 _ _
    · rw [e0, e3]; exact ref3 _ _

end Cert.AdamIE

end
-- ==== Proof.AdamOutClaim.lean ====
/-
  The AdamW step of an output projection, of either layer: the sum of the eight partial gradients received, and from it
  the step. The kernel's 1 block(s) of 256 rows and the reference leave equal results.
-/
module

public import proofs.«01_k».proof.Defs
public import proofs.«01_k».proof.Proof.Rows
public import proofs.«01_k».proof.Proof.AdamSpec
public import proofs.«01_k».proof.Proof.Gen.AdamOutIdeal.Value
public import proofs.«01_k».proof.Proof.Gen.AdamOutRefIdeal.Run
public import proofs.«01_k».proof.Proof.Gen.AdamOutRefIdeal.Read
public import proofs.«01_k».proof.Proof.Gen.AdamOutIdeal
public import proofs.«01_k».proof.Proof.Gen.AdamOutRefIdeal

@[expose] public section

noncomputable section

namespace Cert.AdamO

open Idealize.ShloMosaic Idealize.ShloMosaic.TcCoe Idealize.SL.Sem
open Idealize.ShloMosaic.Pipeline (Dat)

/-- The received partial gradients, and an array of the weight's shape. -/
abbrev Recv := (⟨3, ![8, 256, 1024]⟩ : Shape).Idx → EReal
abbrev Wt := (⟨2, ![256, 1024]⟩ : Shape).Idx → EReal

/-- The gradient: the sum of the partial gradients. -/
def G0 (x : Recv) : Wt := fun i => ∑ d : Fin 8, x (ix3 d (i 0) (i 1))
/-- The change of the weight and the two new moments. -/
def G1 (x : Recv) (w m v : Wt) : Wt := fun i => Adam.delta (G0 x i) (w i) (m i) (v i)
def G2 (x : Recv) (m : Wt) : Wt := fun i => Adam.mom1 (G0 x i) (m i)
def G3 (x : Recv) (v : Wt) : Wt := fun i => Adam.mom2 (G0 x i) (v i)

section Kernel

open Cert.AdamOutIdeal Cert.AdamOutIdeal.Gen

variable (m : (ℓ : Loc nD τ sig) → Buf (Elt Ideal) ℓ) (c : Dev nD)

/-- The four arguments. -/
abbrev A0 : Recv := m ((c : Thread nD τ).loc main_arg0)
abbrev A1 : Wt := m ((c : Thread nD τ).loc main_arg1)
abbrev A2 : Wt := m ((c : Thread nD τ).loc main_arg2)
abbrev A3 : Wt := m ((c : Thread nD τ).loc main_arg3)

theorem idx0 : ∀ t : Fin grid0.N, win0_0.index t = ![0, t.val, 0] := by decide +kernel
theorem idx1 : ∀ t : Fin grid0.N, win0_1.index t = ![t.val, 0] := by decide +kernel
theorem idx2 : ∀ t : Fin grid0.N, win0_2.index t = ![t.val, 0] := by decide +kernel
theorem idx3 : ∀ t : Fin grid0.N, win0_3.index t = ![t.val, 0] := by decide +kernel
theorem idx4 : ∀ t : Fin grid0.N, win0_4.index t = ![t.val, 0] := by decide +kernel
theorem idx5 : ∀ t : Fin grid0.N, win0_5.index t = ![t.val, 0] := by decide +kernel
theorem idx6 : ∀ t : Fin grid0.N, win0_6.index t = ![t.val, 0] := by decide +kernel
theorem idx7 : ∀ t : Fin grid0.N, win0_7.index t = ![t.val, 0] := by decide +kernel

/-- One block's sum, at an index. -/
theorem point4 (x0 : (⟨3, ![1, 256, 1024]⟩ : Shape).Idx → EReal) (x1 : (⟨3, ![1, 256, 1024]⟩ : Shape).Idx → EReal) (x2 : (⟨3, ![1, 256, 1024]⟩ : Shape).Idx → EReal) (x3 : (⟨3, ![1, 256, 1024]⟩ : Shape).Idx → EReal) (x4 : (⟨3, ![1, 256, 1024]⟩ : Shape).Idx → EReal) (x5 : (⟨3, ![1, 256, 1024]⟩ : Shape).Idx → EReal) (x6 : (⟨3, ![1, 256, 1024]⟩ : Shape).Idx → EReal) (x7 : (⟨3, ![1, 256, 1024]⟩ : Shape).Idx → EReal) (a : Fin 256) (b : Fin 1024) :
    k0_pay4 (F := Ideal) x0 x1 x2 x3 x4 x5 x6 x7 (ix2 a b) = x0 (ix3 (n0 := 1) 0 a b) + x1 (ix3 (n0 := 1) 0 a b) + x2 (ix3 (n0 := 1) 0 a b) + x3 (ix3 (n0 := 1) 0 a b) + x4 (ix3 (n0 := 1) 0 a b) + x5 (ix3 (n0 := 1) 0 a b) + x6 (ix3 (n0 := 1) 0 a b) + x7 (ix3 (n0 := 1) 0 a b) := by
  pointwise [k0_pay4]

theorem point1 (g x : (⟨2, ![256, 1024]⟩ : Shape).Idx → EReal) (i : (⟨2, ![256, 1024]⟩ : Shape).Idx) :
    k0_pay1 (F := Ideal) g x i = Adam.mom1 (g i) (x i) := rfl
theorem point2 (g x : (⟨2, ![256, 1024]⟩ : Shape).Idx → EReal) (i : (⟨2, ![256, 1024]⟩ : Shape).Idx) :
    k0_pay2 (F := Ideal) g x i = Adam.mom2 (g i) (x i) := rfl
theorem point3 (g x y z : (⟨2, ![256, 1024]⟩ : Shape).Idx → EReal) (i : (⟨2, ![256, 1024]⟩ : Shape).Idx) :
    k0_pay3 (F := Ideal) g x y z i = Adam.delta (g i) (x i) (y i) (z i) := rfl

/-- The arguments' blocks, at an index. -/
theorem blk0 (t : Fin cfg0.N) (d : Fin 8) (a : Fin 256) (k : Fin 1024) (r : Fin 256) (h : r.val = 256 * t.val + a.val) :
    iblk m c 0 t (ix3 d a k) = A0 m c (ix3 d r k) := by
  blk_ext [iblk, V, idx0 t]
theorem blk1 (t : Fin cfg0.N) (a : Fin 256) (k : Fin 1024) (r : Fin 256) (h : r.val = 256 * t.val + a.val) :
    iblk m c 1 t (ix2 a k) = A1 m c (ix2 r k) := by
  blk_ext [iblk, V, idx1 t]
theorem blk2 (t : Fin cfg0.N) (a : Fin 256) (k : Fin 1024) (r : Fin 256) (h : r.val = 256 * t.val + a.val) :
    iblk m c 2 t (ix2 a k) = A2 m c (ix2 r k) := by
  blk_ext [iblk, V, idx2 t]
theorem blk3 (t : Fin cfg0.N) (a : Fin 256) (k : Fin 1024) (r : Fin 256) (h : r.val = 256 * t.val + a.val) :
    iblk m c 3 t (ix2 a k) = A3 m c (ix2 r k) := by
  blk_ext [iblk, V, idx3 t]

/-- The block's gradient, at an index. -/
theorem grad_at (t : Fin cfg0.N) (a : Fin 256) (b : Fin 1024) (r : Fin 256) (h : r.val = 256 * t.val + a.val) :
    k0_pay5 (F := Ideal) (iblk m c 0 t) (iblk m c 1 t) (iblk m c 2 t) (iblk m c 3 t) (ix2 a b) = G0 (A0 m c) (ix2 r b) := by
  refine (point4 _ _ _ _ _ _ _ _ a b).trans (Adam.sum8 _ _ _ _ _ _ _ _ _ ?_ ?_ ?_ ?_ ?_ ?_ ?_ ?_)
  · exact (Rows.ld_slice 0 (by decide) _ _ _ _ _).trans (blk0 m c t _ _ _ _ h)
  · exact (Rows.ld_slice 1 (by decide) _ _ _ _ _).trans (blk0 m c t _ _ _ _ h)
  · exact (Rows.ld_slice 2 (by decide) _ _ _ _ _).trans (blk0 m c t _ _ _ _ h)
  · exact (Rows.ld_slice 3 (by decide) _ _ _ _ _).trans (blk0 m c t _ _ _ _ h)
  · exact (Rows.ld_slice 4 (by decide) _ _ _ _ _).trans (blk0 m c t _ _ _ _ h)
  · exact (Rows.ld_slice 5 (by decide) _ _ _ _ _).trans (blk0 m c t _ _ _ _ h)
  · exact (Rows.ld_slice 6 (by decide) _ _ _ _ _).trans (blk0 m c t _ _ _ _ h)
  · exact (Rows.ld_slice 7 (by decide) _ _ _ _ _).trans (blk0 m c t _ _ _ _ h)

/-- The gradient after the run. -/
theorem arr0 : (dats m 0 c).arrAt 4 cfg0.N = G0 (A0 m c) := by
  refine (dats m 0 c).arrAt_eq_of_covers 4 _ (by decide +kernel) fun t hf y => ?_
  blk_simp
  rw [after0_4]
  have ht : t.val < 1 := t.isLt
  have hy : (y 0).val < 256 := (y 0).isLt
  have ey : y = ix2 (n0 := 256) (n1 := 1024) (y 0) (y 1) := eq_ix2 y
  have eG : (((View.whole main_v0_0).slice (win0_4.rect t)).emb y)
      = ix2 (n0 := 256) (n1 := 1024) ⟨256 * t.val + (y 0).val, by omega⟩ (y 1) := by
    blk_ext [idx4 t]
  rw [eG]
  refine (congrArg (out0_4 (F := Ideal) _ _ _ _) ey).trans ((Rows.canon_whole _ _ _ _ _).trans ?_)
  exact grad_at m c t _ _ _ rfl

/-- The weight's change after the run. -/
theorem arr1 : (dats m 0 c).arrAt 5 cfg0.N = G1 (A0 m c) (A1 m c) (A2 m c) (A3 m c) := by
  refine (dats m 0 c).arrAt_eq_of_covers 5 _ (by decide +kernel) fun t hf y => ?_
  blk_simp
  rw [after0_5]
  have ht : t.val < 1 := t.isLt
  have hy : (y 0).val < 256 := (y 0).isLt
  have ey : y = ix2 (n0 := 256) (n1 := 1024) (y 0) (y 1) := eq_ix2 y
  have eG : (((View.whole main_v0_1).slice (win0_5.rect t)).emb y)
      = ix2 (n0 := 256) (n1 := 1024) ⟨256 * t.val + (y 0).val, by omega⟩ (y 1) := by
    blk_ext [idx5 t]
  rw [eG]
  refine (congrArg (out0_5 (F := Ideal) _ _ _ _) ey).trans ((Rows.canon_whole _ _ _ _ _).trans ((point3 _ _ _ _ _).trans ?_))
  refine Adam.delta_congr (grad_at m c t _ _ _ rfl) ?_ ?_ ?_
  · exact (Rows.ld_whole _ _ _ _).trans (blk1 m c t _ _ _ rfl)
  · exact (Rows.ld_whole _ _ _ _).trans (blk2 m c t _ _ _ rfl)
  · exact (Rows.ld_whole _ _ _ _).trans (blk3 m c t _ _ _ rfl)

/-- The first moment after the run. -/
theorem arr2 : (dats m 0 c).arrAt 6 cfg0.N = G2 (A0 m c) (A2 m c) := by
  refine (dats m 0 c).arrAt_eq_of_covers 6 _ (by decide +kernel) fun t hf y => ?_
  blk_simp
  rw [after0_6]
  have ht : t.val < 1 := t.isLt
  have hy : (y 0).val < 256 := (y 0).isLt
  have ey : y = ix2 (n0 := 256) (n1 := 1024) (y 0) (y 1) := eq_ix2 y
  have eG : (((View.whole main_v0_2).slice (win0_6.rect t)).emb y)
      = ix2 (n0 := 256) (n1 := 1024) ⟨256 * t.val + (y 0).val, by omega⟩ (y 1) := by
    blk_ext [idx6 t]
  rw [eG]
  refine (congrArg (out0_6 (F := Ideal) _ _ _ _) ey).trans ((Rows.canon_whole _ _ _ _ _).trans ((point1 _ _ _).trans ?_))
  refine congrArg₂ Adam.mom1 (grad_at m c t _ _ _ rfl) ?_
  exact (Rows.ld_whole _ _ _ _).trans (blk2 m c t _ _ _ rfl)

/-- The second moment after the run. -/
theorem arr3 : (dats m 0 c).arrAt 7 cfg0.N = G3 (A0 m c) (A3 m c) := by
  refine (dats m 0 c).arrAt_eq_of_covers 7 _ (by decide +kernel) fun t hf y => ?_
  blk_simp
  rw [after0_7]
  have ht : t.val < 1 := t.isLt
  have hy : (y 0).val < 256 := (y 0).isLt
  have ey : y = ix2 (n0 := 256) (n1 := 1024) (y 0) (y 1) := eq_ix2 y
  have eG : (((View.whole main_v0_3).slice (win0_7.rect t)).emb y)
      = ix2 (n0 := 256) (n1 := 1024) ⟨256 * t.val + (y 0).val, by omega⟩ (y 1) := by
    blk_ext [idx7 t]
  rw [eG]
  refine (congrArg (out0_7 (F := Ideal) _ _ _ _) ey).trans ((Rows.canon_whole _ _ _ _ _).trans ((point2 _ _ _).trans ?_))
  refine congrArg₂ Adam.mom2 (grad_at m c t _ _ _ rfl) ?_
  exact (Rows.ld_whole _ _ _ _).trans (blk3 m c t _ _ _ rfl)

end Kernel

section Reference

open Cert.AdamOutRefIdeal.Read

/-- The reference's sum. -/
theorem ref0 (x : Recv) : val_main_v1 (F := Ideal) x = G0 x := by
  funext i
  obtain ⟨a, b, rfl⟩ : ∃ (a : Fin 256) (b : Fin 1024), i = ix2 a b := ⟨i 0, i 1, eq_ix2 i⟩
  pointwise [val_main_v1, val_main_v0, val_main_cst]
  rfl

/-- The reference's step, at an index, from its sum. -/
theorem ref2 (x : Recv) (m : Wt) : val_main_v6 (F := Ideal) x m = G2 x m := by
  funext i
  rw [G2, ← ref0]
  rfl
theorem ref3 (x : Recv) (v : Wt) : val_main_v12 (F := Ideal) x v = G3 x v := by
  funext i
  rw [G3, ← ref0]
  rfl
theorem ref1 (x : Recv) (w m v : Wt) : val_main_v25 (F := Ideal) x w m v = G1 x w m v := by
  funext i
  rw [G1, ← ref0]
  rfl

end Reference

/-- The reference's frame. -/
theorem ref_frame : Cert.quiescent_AdamOutRefIdeal := fun m ρ _ =>
  (θ_run Cert.AdamOutRefIdeal.defs _ _).mono (fun r h => ⟨fun c => (h c).2.2.2.2,
      Idealize.ShloMosaic.sem_eq_zero_of_no_sems (by decide) r.2⟩)
    (Cert.AdamOutRefIdeal.Value.run (F := Ideal) m ρ)

/-- Equal results. -/
theorem algebraic : Cert.algebraic_AdamOutIdeal_AdamOutRefIdeal := by
  intro m g m' g' _ hag
  refine ⟨fun c => G0 (A0 m c), fun c => G1 (A0 m c) (A1 m c) (A2 m c) (A3 m c),
    fun c => G2 (A0 m c) (A2 m c), fun c => G3 (A0 m c) (A3 m c), ?_, ?_⟩
  · refine (θ_run Cert.AdamOutIdeal.defs _ _).mono (fun r h c => ?_) (Cert.AdamOutIdeal.Value.run_blocks (F := Ideal) m g)
    obtain ⟨r0, r1, r2, r3, ra⟩ := h c
    exact ⟨r0.trans (arr0 m c), r1.trans (arr1 m c), r2.trans (arr2 m c), r3.trans (arr3 m c), ra⟩
  · refine (θ_run Cert.AdamOutRefIdeal.defs _ _).mono (fun r h c => ?_) (Cert.AdamOutRefIdeal.Value.run (F := Ideal) m' g')
    obtain ⟨r0, r1, r2, r3, ra⟩ := h c
    obtain ⟨e0, e1, e2, e3⟩ := hag c
    refine ⟨r0.trans ((Cert.AdamOutRefIdeal.Read.val_main_v1_eq _).trans ?_),
      r1.trans ((Cert.AdamOutRefIdeal.Read.val_main_v25_eq _ _ _ _).trans ?_),
      r2.trans ((Cert.AdamOutRefIdeal.Read.val_main_v6_eq _ _).trans ?_),
      r3.trans ((Cert.AdamOutRefIdeal.Read.val_main_v12_eq _ _).trans ?_), ra⟩
    · rw [e0]; exact ref0 _
    · rw [e0, e1, e2, e3]; exact ref1 _ _ _ _
    · rw [e0, e2]; exact ref2 _ _
    · rw [e0, e3]; exact ref3 _ _

end Cert.AdamO

end
-- ==== Proof.AdamInOddClaim.lean ====
/-
  The AdamW step of the input projection of the odd layer: the sum of the eight partial gradients received, and from it
  the step. The kernel's 4 block(s) of 256 rows and the reference leave equal results.
-/
module

public import proofs.«01_k».proof.Defs
public import proofs.«01_k».proof.Proof.Rows
public import proofs.«01_k».proof.Proof.AdamSpec
public import proofs.«01_k».proof.Proof.Gen.AdamInOddIdeal.Value
public import proofs.«01_k».proof.Proof.Gen.AdamInOddRefIdeal.Run
public import proofs.«01_k».proof.Proof.Gen.AdamInOddRefIdeal.Read
public import proofs.«01_k».proof.Proof.Gen.AdamInOddIdeal
public import proofs.«01_k».proof.Proof.Gen.AdamInOddRefIdeal

@[expose] public section

noncomputable section

namespace Cert.AdamIO

open Idealize.ShloMosaic Idealize.ShloMosaic.TcCoe Idealize.SL.Sem
open Idealize.ShloMosaic.Pipeline (Dat)

/-- The received partial gradients, and an array of the weight's shape. -/
abbrev Recv := (⟨3, ![8, 1024, 1024]⟩ : Shape).Idx → EReal
abbrev Wt := (⟨2, ![1024, 1024]⟩ : Shape).Idx → EReal

/-- The gradient: the sum of the partial gradients. -/
def G0 (x : Recv) : Wt := fun i => ∑ d : Fin 8, x (ix3 d (i 0) (i 1))
/-- The change of the weight and the two new moments. -/
def G1 (x : Recv) (w m v : Wt) : Wt := fun i => Adam.delta (G0 x i) (w i) (m i) (v i)
def G2 (x : Recv) (m : Wt) : Wt := fun i => Adam.mom1 (G0 x i) (m i)
def G3 (x : Recv) (v : Wt) : Wt := fun i => Adam.mom2 (G0 x i) (v i)

section Kernel

open Cert.AdamInOddIdeal Cert.AdamInOddIdeal.Gen

variable (m : (ℓ : Loc nD τ sig) → Buf (Elt Ideal) ℓ) (c : Dev nD)

/-- The four arguments. -/
abbrev A0 : Recv := m ((c : Thread nD τ).loc main_arg0)
abbrev A1 : Wt := m ((c : Thread nD τ).loc main_arg1)
abbrev A2 : Wt := m ((c : Thread nD τ).loc main_arg2)
abbrev A3 : Wt := m ((c : Thread nD τ).loc main_arg3)

theorem idx0 : ∀ t : Fin grid0.N, win0_0.index t = ![0, t.val, 0] := by decide +kernel
theorem idx1 : ∀ t : Fin grid0.N, win0_1.index t = ![t.val, 0] := by decide +kernel
theorem idx2 : ∀ t : Fin grid0.N, win0_2.index t = ![t.val, 0] := by decide +kernel
theorem idx3 : ∀ t : Fin grid0.N, win0_3.index t = ![t.val, 0] := by decide +kernel
theorem idx4 : ∀ t : Fin grid0.N, win0_4.index t = ![t.val, 0] := by decide +kernel
theorem idx5 : ∀ t : Fin grid0.N, win0_5.index t = ![t.val, 0] := by decide +kernel
theorem idx6 : ∀ t : Fin grid0.N, win0_6.index t = ![t.val, 0] := by decide +kernel
theorem idx7 : ∀ t : Fin grid0.N, win0_7.index t = ![t.val, 0] := by decide +kernel

/-- One block's sum, at an index. -/
theorem point4 (x0 : (⟨3, ![1, 256, 1024]⟩ : Shape).Idx → EReal) (x1 : (⟨3, ![1, 256, 1024]⟩ : Shape).Idx → EReal) (x2 : (⟨3, ![1, 256, 1024]⟩ : Shape).Idx → EReal) (x3 : (⟨3, ![1, 256, 1024]⟩ : Shape).Idx → EReal) (x4 : (⟨3, ![1, 256, 1024]⟩ : Shape).Idx → EReal) (x5 : (⟨3, ![1, 256, 1024]⟩ : Shape).Idx → EReal) (x6 : (⟨3, ![1, 256, 1024]⟩ : Shape).Idx → EReal) (x7 : (⟨3, ![1, 256, 1024]⟩ : Shape).Idx → EReal) (a : Fin 256) (b : Fin 1024) :
    k0_pay4 (F := Ideal) x0 x1 x2 x3 x4 x5 x6 x7 (ix2 a b) = x0 (ix3 (n0 := 1) 0 a b) + x1 (ix3 (n0 := 1) 0 a b) + x2 (ix3 (n0 := 1) 0 a b) + x3 (ix3 (n0 := 1) 0 a b) + x4 (ix3 (n0 := 1) 0 a b) + x5 (ix3 (n0 := 1) 0 a b) + x6 (ix3 (n0 := 1) 0 a b) + x7 (ix3 (n0 := 1) 0 a b) := by
  pointwise [k0_pay4]

theorem point1 (g x : (⟨2, ![256, 1024]⟩ : Shape).Idx → EReal) (i : (⟨2, ![256, 1024]⟩ : Shape).Idx) :
    k0_pay1 (F := Ideal) g x i = Adam.mom1 (g i) (x i) := rfl
theorem point2 (g x : (⟨2, ![256, 1024]⟩ : Shape).Idx → EReal) (i : (⟨2, ![256, 1024]⟩ : Shape).Idx) :
    k0_pay2 (F := Ideal) g x i = Adam.mom2 (g i) (x i) := rfl
theorem point3 (g x y z : (⟨2, ![256, 1024]⟩ : Shape).Idx → EReal) (i : (⟨2, ![256, 1024]⟩ : Shape).Idx) :
    k0_pay3 (F := Ideal) g x y z i = Adam.delta (g i) (x i) (y i) (z i) := rfl

/-- The arguments' blocks, at an index. -/
theorem blk0 (t : Fin cfg0.N) (d : Fin 8) (a : Fin 256) (k : Fin 1024) (r : Fin 1024) (h : r.val = 256 * t.val + a.val) :
    iblk m c 0 t (ix3 d a k) = A0 m c (ix3 d r k) := by
  blk_ext [iblk, V, idx0 t]
theorem blk1 (t : Fin cfg0.N) (a : Fin 256) (k : Fin 1024) (r : Fin 1024) (h : r.val = 256 * t.val + a.val) :
    iblk m c 1 t (ix2 a k) = A1 m c (ix2 r k) := by
  blk_ext [iblk, V, idx1 t]
theorem blk2 (t : Fin cfg0.N) (a : Fin 256) (k : Fin 1024) (r : Fin 1024) (h : r.val = 256 * t.val + a.val) :
    iblk m c 2 t (ix2 a k) = A2 m c (ix2 r k) := by
  blk_ext [iblk, V, idx2 t]
theorem blk3 (t : Fin cfg0.N) (a : Fin 256) (k : Fin 1024) (r : Fin 1024) (h : r.val = 256 * t.val + a.val) :
    iblk m c 3 t (ix2 a k) = A3 m c (ix2 r k) := by
  blk_ext [iblk, V, idx3 t]

/-- The block's gradient, at an index. -/
theorem grad_at (t : Fin cfg0.N) (a : Fin 256) (b : Fin 1024) (r : Fin 1024) (h : r.val = 256 * t.val + a.val) :
    k0_pay5 (F := Ideal) (iblk m c 0 t) (iblk m c 1 t) (iblk m c 2 t) (iblk m c 3 t) (ix2 a b) = G0 (A0 m c) (ix2 r b) := by
  refine (point4 _ _ _ _ _ _ _ _ a b).trans (Adam.sum8 _ _ _ _ _ _ _ _ _ ?_ ?_ ?_ ?_ ?_ ?_ ?_ ?_)
  · exact (Rows.ld_slice 0 (by decide) _ _ _ _ _).trans (blk0 m c t _ _ _ _ h)
  · exact (Rows.ld_slice 1 (by decide) _ _ _ _ _).trans (blk0 m c t _ _ _ _ h)
  · exact (Rows.ld_slice 2 (by decide) _ _ _ _ _).trans (blk0 m c t _ _ _ _ h)
  · exact (Rows.ld_slice 3 (by decide) _ _ _ _ _).trans (blk0 m c t _ _ _ _ h)
  · exact (Rows.ld_slice 4 (by decide) _ _ _ _ _).trans (blk0 m c t _ _ _ _ h)
  · exact (Rows.ld_slice 5 (by decide) _ _ _ _ _).trans (blk0 m c t _ _ _ _ h)
  · exact (Rows.ld_slice 6 (by decide) _ _ _ _ _).trans (blk0 m c t _ _ _ _ h)
  · exact (Rows.ld_slice 7 (by decide) _ _ _ _ _).trans (blk0 m c t _ _ _ _ h)

/-- The gradient after the run. -/
theorem arr0 : (dats m 0 c).arrAt 4 cfg0.N = G0 (A0 m c) := by
  refine (dats m 0 c).arrAt_eq_of_covers 4 _ (by decide +kernel) fun t hf y => ?_
  blk_simp
  rw [after0_4]
  have ht : t.val < 4 := t.isLt
  have hy : (y 0).val < 256 := (y 0).isLt
  have ey : y = ix2 (n0 := 256) (n1 := 1024) (y 0) (y 1) := eq_ix2 y
  have eG : (((View.whole main_v0_0).slice (win0_4.rect t)).emb y)
      = ix2 (n0 := 1024) (n1 := 1024) ⟨256 * t.val + (y 0).val, by omega⟩ (y 1) := by
    blk_ext [idx4 t]
  rw [eG]
  refine (congrArg (out0_4 (F := Ideal) _ _ _ _) ey).trans ((Rows.canon_whole _ _ _ _ _).trans ?_)
  exact grad_at m c t _ _ _ rfl

/-- The weight's change after the run. -/
theorem arr1 : (dats m 0 c).arrAt 5 cfg0.N = G1 (A0 m c) (A1 m c) (A2 m c) (A3 m c) := by
  refine (dats m 0 c).arrAt_eq_of_covers 5 _ (by decide +kernel) fun t hf y => ?_
  blk_simp
  rw [after0_5]
  have ht : t.val < 4 := t.isLt
  have hy : (y 0).val < 256 := (y 0).isLt
  have ey : y = ix2 (n0 := 256) (n1 := 1024) (y 0) (y 1) := eq_ix2 y
  have eG : (((View.whole main_v0_1).slice (win0_5.rect t)).emb y)
      = ix2 (n0 := 1024) (n1 := 1024) ⟨256 * t.val + (y 0).val, by omega⟩ (y 1) := by
    blk_ext [idx5 t]
  rw [eG]
  refine (congrArg (out0_5 (F := Ideal) _ _ _ _) ey).trans ((Rows.canon_whole _ _ _ _ _).trans ((point3 _ _ _ _ _).trans ?_))
  refine Adam.delta_congr (grad_at m c t _ _ _ rfl) ?_ ?_ ?_
  · exact (Rows.ld_whole _ _ _ _).trans (blk1 m c t _ _ _ rfl)
  · exact (Rows.ld_whole _ _ _ _).trans (blk2 m c t _ _ _ rfl)
  · exact (Rows.ld_whole _ _ _ _).trans (blk3 m c t _ _ _ rfl)

/-- The first moment after the run. -/
theorem arr2 : (dats m 0 c).arrAt 6 cfg0.N = G2 (A0 m c) (A2 m c) := by
  refine (dats m 0 c).arrAt_eq_of_covers 6 _ (by decide +kernel) fun t hf y => ?_
  blk_simp
  rw [after0_6]
  have ht : t.val < 4 := t.isLt
  have hy : (y 0).val < 256 := (y 0).isLt
  have ey : y = ix2 (n0 := 256) (n1 := 1024) (y 0) (y 1) := eq_ix2 y
  have eG : (((View.whole main_v0_2).slice (win0_6.rect t)).emb y)
      = ix2 (n0 := 1024) (n1 := 1024) ⟨256 * t.val + (y 0).val, by omega⟩ (y 1) := by
    blk_ext [idx6 t]
  rw [eG]
  refine (congrArg (out0_6 (F := Ideal) _ _ _ _) ey).trans ((Rows.canon_whole _ _ _ _ _).trans ((point1 _ _ _).trans ?_))
  refine congrArg₂ Adam.mom1 (grad_at m c t _ _ _ rfl) ?_
  exact (Rows.ld_whole _ _ _ _).trans (blk2 m c t _ _ _ rfl)

/-- The second moment after the run. -/
theorem arr3 : (dats m 0 c).arrAt 7 cfg0.N = G3 (A0 m c) (A3 m c) := by
  refine (dats m 0 c).arrAt_eq_of_covers 7 _ (by decide +kernel) fun t hf y => ?_
  blk_simp
  rw [after0_7]
  have ht : t.val < 4 := t.isLt
  have hy : (y 0).val < 256 := (y 0).isLt
  have ey : y = ix2 (n0 := 256) (n1 := 1024) (y 0) (y 1) := eq_ix2 y
  have eG : (((View.whole main_v0_3).slice (win0_7.rect t)).emb y)
      = ix2 (n0 := 1024) (n1 := 1024) ⟨256 * t.val + (y 0).val, by omega⟩ (y 1) := by
    blk_ext [idx7 t]
  rw [eG]
  refine (congrArg (out0_7 (F := Ideal) _ _ _ _) ey).trans ((Rows.canon_whole _ _ _ _ _).trans ((point2 _ _ _).trans ?_))
  refine congrArg₂ Adam.mom2 (grad_at m c t _ _ _ rfl) ?_
  exact (Rows.ld_whole _ _ _ _).trans (blk3 m c t _ _ _ rfl)

end Kernel

section Reference

open Cert.AdamInOddRefIdeal.Read

/-- The reference's sum. -/
theorem ref0 (x : Recv) : val_main_v1 (F := Ideal) x = G0 x := by
  funext i
  obtain ⟨a, b, rfl⟩ : ∃ (a : Fin 1024) (b : Fin 1024), i = ix2 a b := ⟨i 0, i 1, eq_ix2 i⟩
  pointwise [val_main_v1, val_main_v0, val_main_cst]
  rfl

/-- The reference's step, at an index, from its sum. -/
theorem ref2 (x : Recv) (m : Wt) : val_main_v6 (F := Ideal) x m = G2 x m := by
  funext i
  rw [G2, ← ref0]
  rfl
theorem ref3 (x : Recv) (v : Wt) : val_main_v12 (F := Ideal) x v = G3 x v := by
  funext i
  rw [G3, ← ref0]
  rfl
theorem ref1 (x : Recv) (w m v : Wt) : val_main_v25 (F := Ideal) x w m v = G1 x w m v := by
  funext i
  rw [G1, ← ref0]
  rfl

end Reference

/-- The reference's frame. -/
theorem ref_frame : Cert.quiescent_AdamInOddRefIdeal := fun m ρ _ =>
  (θ_run Cert.AdamInOddRefIdeal.defs _ _).mono (fun r h => ⟨fun c => (h c).2.2.2.2,
      Idealize.ShloMosaic.sem_eq_zero_of_no_sems (by decide) r.2⟩)
    (Cert.AdamInOddRefIdeal.Value.run (F := Ideal) m ρ)

/-- Equal results. -/
theorem algebraic : Cert.algebraic_AdamInOddIdeal_AdamInOddRefIdeal := by
  intro m g m' g' _ hag
  refine ⟨fun c => G0 (A0 m c), fun c => G1 (A0 m c) (A1 m c) (A2 m c) (A3 m c),
    fun c => G2 (A0 m c) (A2 m c), fun c => G3 (A0 m c) (A3 m c), ?_, ?_⟩
  · refine (θ_run Cert.AdamInOddIdeal.defs _ _).mono (fun r h c => ?_) (Cert.AdamInOddIdeal.Value.run_blocks (F := Ideal) m g)
    obtain ⟨r0, r1, r2, r3, ra⟩ := h c
    exact ⟨r0.trans (arr0 m c), r1.trans (arr1 m c), r2.trans (arr2 m c), r3.trans (arr3 m c), ra⟩
  · refine (θ_run Cert.AdamInOddRefIdeal.defs _ _).mono (fun r h c => ?_) (Cert.AdamInOddRefIdeal.Value.run (F := Ideal) m' g')
    obtain ⟨r0, r1, r2, r3, ra⟩ := h c
    obtain ⟨e0, e1, e2, e3⟩ := hag c
    refine ⟨r0.trans ((Cert.AdamInOddRefIdeal.Read.val_main_v1_eq _).trans ?_),
      r1.trans ((Cert.AdamInOddRefIdeal.Read.val_main_v25_eq _ _ _ _).trans ?_),
      r2.trans ((Cert.AdamInOddRefIdeal.Read.val_main_v6_eq _ _).trans ?_),
      r3.trans ((Cert.AdamInOddRefIdeal.Read.val_main_v12_eq _ _).trans ?_), ra⟩
    · rw [e0]; exact ref0 _
    · rw [e0, e1, e2, e3]; exact ref1 _ _ _ _
    · rw [e0, e2]; exact ref2 _ _
    · rw [e0, e3]; exact ref3 _ _

end Cert.AdamIO

end
-- ==== Proof.AdamPoolClaim.lean ====
/-
  The AdamW step of the pool's map: the sum of the eight partial gradients received, and from it
  the step. The kernel's 1 block(s) of 128 rows and the reference leave equal results.
-/
module

public import proofs.«01_k».proof.Defs
public import proofs.«01_k».proof.Proof.Rows
public import proofs.«01_k».proof.Proof.AdamSpec
public import proofs.«01_k».proof.Proof.Gen.AdamPoolIdeal.Value
public import proofs.«01_k».proof.Proof.Gen.AdamPoolRefIdeal.Run
public import proofs.«01_k».proof.Proof.Gen.AdamPoolRefIdeal.Read
public import proofs.«01_k».proof.Proof.Gen.AdamPoolIdeal
public import proofs.«01_k».proof.Proof.Gen.AdamPoolRefIdeal

@[expose] public section

noncomputable section

namespace Cert.AdamP

open Idealize.ShloMosaic Idealize.ShloMosaic.TcCoe Idealize.SL.Sem
open Idealize.ShloMosaic.Pipeline (Dat)

/-- The received partial gradients, and an array of the weight's shape. -/
abbrev Recv := (⟨3, ![8, 128, 256]⟩ : Shape).Idx → EReal
abbrev Wt := (⟨2, ![128, 256]⟩ : Shape).Idx → EReal

/-- The gradient: the sum of the partial gradients. -/
def G0 (x : Recv) : Wt := fun i => ∑ d : Fin 8, x (ix3 d (i 0) (i 1))
/-- The change of the weight and the two new moments. -/
def G1 (x : Recv) (w m v : Wt) : Wt := fun i => Adam.delta (G0 x i) (w i) (m i) (v i)
def G2 (x : Recv) (m : Wt) : Wt := fun i => Adam.mom1 (G0 x i) (m i)
def G3 (x : Recv) (v : Wt) : Wt := fun i => Adam.mom2 (G0 x i) (v i)

section Kernel

open Cert.AdamPoolIdeal Cert.AdamPoolIdeal.Gen

variable (m : (ℓ : Loc nD τ sig) → Buf (Elt Ideal) ℓ) (c : Dev nD)

/-- The four arguments. -/
abbrev A0 : Recv := m ((c : Thread nD τ).loc main_arg0)
abbrev A1 : Wt := m ((c : Thread nD τ).loc main_arg1)
abbrev A2 : Wt := m ((c : Thread nD τ).loc main_arg2)
abbrev A3 : Wt := m ((c : Thread nD τ).loc main_arg3)

theorem idx0 : ∀ t : Fin grid0.N, win0_0.index t = ![0, t.val, 0] := by decide +kernel
theorem idx1 : ∀ t : Fin grid0.N, win0_1.index t = ![t.val, 0] := by decide +kernel
theorem idx2 : ∀ t : Fin grid0.N, win0_2.index t = ![t.val, 0] := by decide +kernel
theorem idx3 : ∀ t : Fin grid0.N, win0_3.index t = ![t.val, 0] := by decide +kernel
theorem idx4 : ∀ t : Fin grid0.N, win0_4.index t = ![t.val, 0] := by decide +kernel
theorem idx5 : ∀ t : Fin grid0.N, win0_5.index t = ![t.val, 0] := by decide +kernel
theorem idx6 : ∀ t : Fin grid0.N, win0_6.index t = ![t.val, 0] := by decide +kernel
theorem idx7 : ∀ t : Fin grid0.N, win0_7.index t = ![t.val, 0] := by decide +kernel

/-- One block's sum, at an index. -/
theorem point4 (x0 : (⟨3, ![1, 128, 256]⟩ : Shape).Idx → EReal) (x1 : (⟨3, ![1, 128, 256]⟩ : Shape).Idx → EReal) (x2 : (⟨3, ![1, 128, 256]⟩ : Shape).Idx → EReal) (x3 : (⟨3, ![1, 128, 256]⟩ : Shape).Idx → EReal) (x4 : (⟨3, ![1, 128, 256]⟩ : Shape).Idx → EReal) (x5 : (⟨3, ![1, 128, 256]⟩ : Shape).Idx → EReal) (x6 : (⟨3, ![1, 128, 256]⟩ : Shape).Idx → EReal) (x7 : (⟨3, ![1, 128, 256]⟩ : Shape).Idx → EReal) (a : Fin 128) (b : Fin 256) :
    k0_pay4 (F := Ideal) x0 x1 x2 x3 x4 x5 x6 x7 (ix2 a b) = x0 (ix3 (n0 := 1) 0 a b) + x1 (ix3 (n0 := 1) 0 a b) + x2 (ix3 (n0 := 1) 0 a b) + x3 (ix3 (n0 := 1) 0 a b) + x4 (ix3 (n0 := 1) 0 a b) + x5 (ix3 (n0 := 1) 0 a b) + x6 (ix3 (n0 := 1) 0 a b) + x7 (ix3 (n0 := 1) 0 a b) := by
  pointwise [k0_pay4]

theorem point1 (g x : (⟨2, ![128, 256]⟩ : Shape).Idx → EReal) (i : (⟨2, ![128, 256]⟩ : Shape).Idx) :
    k0_pay1 (F := Ideal) g x i = Adam.mom1 (g i) (x i) := rfl
theorem point2 (g x : (⟨2, ![128, 256]⟩ : Shape).Idx → EReal) (i : (⟨2, ![128, 256]⟩ : Shape).Idx) :
    k0_pay2 (F := Ideal) g x i = Adam.mom2 (g i) (x i) := rfl
theorem point3 (g x y z : (⟨2, ![128, 256]⟩ : Shape).Idx → EReal) (i : (⟨2, ![128, 256]⟩ : Shape).Idx) :
    k0_pay3 (F := Ideal) g x y z i = Adam.delta (g i) (x i) (y i) (z i) := rfl

/-- The arguments' blocks, at an index. -/
theorem blk0 (t : Fin cfg0.N) (d : Fin 8) (a : Fin 128) (k : Fin 256) (r : Fin 128) (h : r.val = 128 * t.val + a.val) :
    iblk m c 0 t (ix3 d a k) = A0 m c (ix3 d r k) := by
  blk_ext [iblk, V, idx0 t]
theorem blk1 (t : Fin cfg0.N) (a : Fin 128) (k : Fin 256) (r : Fin 128) (h : r.val = 128 * t.val + a.val) :
    iblk m c 1 t (ix2 a k) = A1 m c (ix2 r k) := by
  blk_ext [iblk, V, idx1 t]
theorem blk2 (t : Fin cfg0.N) (a : Fin 128) (k : Fin 256) (r : Fin 128) (h : r.val = 128 * t.val + a.val) :
    iblk m c 2 t (ix2 a k) = A2 m c (ix2 r k) := by
  blk_ext [iblk, V, idx2 t]
theorem blk3 (t : Fin cfg0.N) (a : Fin 128) (k : Fin 256) (r : Fin 128) (h : r.val = 128 * t.val + a.val) :
    iblk m c 3 t (ix2 a k) = A3 m c (ix2 r k) := by
  blk_ext [iblk, V, idx3 t]

/-- The block's gradient, at an index. -/
theorem grad_at (t : Fin cfg0.N) (a : Fin 128) (b : Fin 256) (r : Fin 128) (h : r.val = 128 * t.val + a.val) :
    k0_pay5 (F := Ideal) (iblk m c 0 t) (iblk m c 1 t) (iblk m c 2 t) (iblk m c 3 t) (ix2 a b) = G0 (A0 m c) (ix2 r b) := by
  refine (point4 _ _ _ _ _ _ _ _ a b).trans (Adam.sum8 _ _ _ _ _ _ _ _ _ ?_ ?_ ?_ ?_ ?_ ?_ ?_ ?_)
  · exact (Rows.ld_slice 0 (by decide) _ _ _ _ _).trans (blk0 m c t _ _ _ _ h)
  · exact (Rows.ld_slice 1 (by decide) _ _ _ _ _).trans (blk0 m c t _ _ _ _ h)
  · exact (Rows.ld_slice 2 (by decide) _ _ _ _ _).trans (blk0 m c t _ _ _ _ h)
  · exact (Rows.ld_slice 3 (by decide) _ _ _ _ _).trans (blk0 m c t _ _ _ _ h)
  · exact (Rows.ld_slice 4 (by decide) _ _ _ _ _).trans (blk0 m c t _ _ _ _ h)
  · exact (Rows.ld_slice 5 (by decide) _ _ _ _ _).trans (blk0 m c t _ _ _ _ h)
  · exact (Rows.ld_slice 6 (by decide) _ _ _ _ _).trans (blk0 m c t _ _ _ _ h)
  · exact (Rows.ld_slice 7 (by decide) _ _ _ _ _).trans (blk0 m c t _ _ _ _ h)

/-- The gradient after the run. -/
theorem arr0 : (dats m 0 c).arrAt 4 cfg0.N = G0 (A0 m c) := by
  refine (dats m 0 c).arrAt_eq_of_covers 4 _ (by decide +kernel) fun t hf y => ?_
  blk_simp
  rw [after0_4]
  have ht : t.val < 1 := t.isLt
  have hy : (y 0).val < 128 := (y 0).isLt
  have ey : y = ix2 (n0 := 128) (n1 := 256) (y 0) (y 1) := eq_ix2 y
  have eG : (((View.whole main_v0_0).slice (win0_4.rect t)).emb y)
      = ix2 (n0 := 128) (n1 := 256) ⟨128 * t.val + (y 0).val, by omega⟩ (y 1) := by
    blk_ext [idx4 t]
  rw [eG]
  refine (congrArg (out0_4 (F := Ideal) _ _ _ _) ey).trans ((Rows.canon_whole _ _ _ _ _).trans ?_)
  exact grad_at m c t _ _ _ rfl

/-- The weight's change after the run. -/
theorem arr1 : (dats m 0 c).arrAt 5 cfg0.N = G1 (A0 m c) (A1 m c) (A2 m c) (A3 m c) := by
  refine (dats m 0 c).arrAt_eq_of_covers 5 _ (by decide +kernel) fun t hf y => ?_
  blk_simp
  rw [after0_5]
  have ht : t.val < 1 := t.isLt
  have hy : (y 0).val < 128 := (y 0).isLt
  have ey : y = ix2 (n0 := 128) (n1 := 256) (y 0) (y 1) := eq_ix2 y
  have eG : (((View.whole main_v0_1).slice (win0_5.rect t)).emb y)
      = ix2 (n0 := 128) (n1 := 256) ⟨128 * t.val + (y 0).val, by omega⟩ (y 1) := by
    blk_ext [idx5 t]
  rw [eG]
  refine (congrArg (out0_5 (F := Ideal) _ _ _ _) ey).trans ((Rows.canon_whole _ _ _ _ _).trans ((point3 _ _ _ _ _).trans ?_))
  refine Adam.delta_congr (grad_at m c t _ _ _ rfl) ?_ ?_ ?_
  · exact (Rows.ld_whole _ _ _ _).trans (blk1 m c t _ _ _ rfl)
  · exact (Rows.ld_whole _ _ _ _).trans (blk2 m c t _ _ _ rfl)
  · exact (Rows.ld_whole _ _ _ _).trans (blk3 m c t _ _ _ rfl)

/-- The first moment after the run. -/
theorem arr2 : (dats m 0 c).arrAt 6 cfg0.N = G2 (A0 m c) (A2 m c) := by
  refine (dats m 0 c).arrAt_eq_of_covers 6 _ (by decide +kernel) fun t hf y => ?_
  blk_simp
  rw [after0_6]
  have ht : t.val < 1 := t.isLt
  have hy : (y 0).val < 128 := (y 0).isLt
  have ey : y = ix2 (n0 := 128) (n1 := 256) (y 0) (y 1) := eq_ix2 y
  have eG : (((View.whole main_v0_2).slice (win0_6.rect t)).emb y)
      = ix2 (n0 := 128) (n1 := 256) ⟨128 * t.val + (y 0).val, by omega⟩ (y 1) := by
    blk_ext [idx6 t]
  rw [eG]
  refine (congrArg (out0_6 (F := Ideal) _ _ _ _) ey).trans ((Rows.canon_whole _ _ _ _ _).trans ((point1 _ _ _).trans ?_))
  refine congrArg₂ Adam.mom1 (grad_at m c t _ _ _ rfl) ?_
  exact (Rows.ld_whole _ _ _ _).trans (blk2 m c t _ _ _ rfl)

/-- The second moment after the run. -/
theorem arr3 : (dats m 0 c).arrAt 7 cfg0.N = G3 (A0 m c) (A3 m c) := by
  refine (dats m 0 c).arrAt_eq_of_covers 7 _ (by decide +kernel) fun t hf y => ?_
  blk_simp
  rw [after0_7]
  have ht : t.val < 1 := t.isLt
  have hy : (y 0).val < 128 := (y 0).isLt
  have ey : y = ix2 (n0 := 128) (n1 := 256) (y 0) (y 1) := eq_ix2 y
  have eG : (((View.whole main_v0_3).slice (win0_7.rect t)).emb y)
      = ix2 (n0 := 128) (n1 := 256) ⟨128 * t.val + (y 0).val, by omega⟩ (y 1) := by
    blk_ext [idx7 t]
  rw [eG]
  refine (congrArg (out0_7 (F := Ideal) _ _ _ _) ey).trans ((Rows.canon_whole _ _ _ _ _).trans ((point2 _ _ _).trans ?_))
  refine congrArg₂ Adam.mom2 (grad_at m c t _ _ _ rfl) ?_
  exact (Rows.ld_whole _ _ _ _).trans (blk3 m c t _ _ _ rfl)

end Kernel

section Reference

open Cert.AdamPoolRefIdeal.Read

/-- The reference's sum. -/
theorem ref0 (x : Recv) : val_main_v1 (F := Ideal) x = G0 x := by
  funext i
  obtain ⟨a, b, rfl⟩ : ∃ (a : Fin 128) (b : Fin 256), i = ix2 a b := ⟨i 0, i 1, eq_ix2 i⟩
  pointwise [val_main_v1, val_main_v0, val_main_cst]
  rfl

/-- The reference's step, at an index, from its sum. -/
theorem ref2 (x : Recv) (m : Wt) : val_main_v6 (F := Ideal) x m = G2 x m := by
  funext i
  rw [G2, ← ref0]
  rfl
theorem ref3 (x : Recv) (v : Wt) : val_main_v12 (F := Ideal) x v = G3 x v := by
  funext i
  rw [G3, ← ref0]
  rfl
theorem ref1 (x : Recv) (w m v : Wt) : val_main_v25 (F := Ideal) x w m v = G1 x w m v := by
  funext i
  rw [G1, ← ref0]
  rfl

end Reference

/-- The reference's frame. -/
theorem ref_frame : Cert.quiescent_AdamPoolRefIdeal := fun m ρ _ =>
  (θ_run Cert.AdamPoolRefIdeal.defs _ _).mono (fun r h => ⟨fun c => (h c).2.2.2.2,
      Idealize.ShloMosaic.sem_eq_zero_of_no_sems (by decide) r.2⟩)
    (Cert.AdamPoolRefIdeal.Value.run (F := Ideal) m ρ)

/-- Equal results. -/
theorem algebraic : Cert.algebraic_AdamPoolIdeal_AdamPoolRefIdeal := by
  intro m g m' g' _ hag
  refine ⟨fun c => G0 (A0 m c), fun c => G1 (A0 m c) (A1 m c) (A2 m c) (A3 m c),
    fun c => G2 (A0 m c) (A2 m c), fun c => G3 (A0 m c) (A3 m c), ?_, ?_⟩
  · refine (θ_run Cert.AdamPoolIdeal.defs _ _).mono (fun r h c => ?_) (Cert.AdamPoolIdeal.Value.run_blocks (F := Ideal) m g)
    obtain ⟨r0, r1, r2, r3, ra⟩ := h c
    exact ⟨r0.trans (arr0 m c), r1.trans (arr1 m c), r2.trans (arr2 m c), r3.trans (arr3 m c), ra⟩
  · refine (θ_run Cert.AdamPoolRefIdeal.defs _ _).mono (fun r h c => ?_) (Cert.AdamPoolRefIdeal.Value.run (F := Ideal) m' g')
    obtain ⟨r0, r1, r2, r3, ra⟩ := h c
    obtain ⟨e0, e1, e2, e3⟩ := hag c
    refine ⟨r0.trans ((Cert.AdamPoolRefIdeal.Read.val_main_v1_eq _).trans ?_),
      r1.trans ((Cert.AdamPoolRefIdeal.Read.val_main_v25_eq _ _ _ _).trans ?_),
      r2.trans ((Cert.AdamPoolRefIdeal.Read.val_main_v6_eq _ _).trans ?_),
      r3.trans ((Cert.AdamPoolRefIdeal.Read.val_main_v12_eq _ _).trans ?_), ra⟩
    · rw [e0]; exact ref0 _
    · rw [e0, e1, e2, e3]; exact ref1 _ _ _ _
    · rw [e0, e2]; exact ref2 _ _
    · rw [e0, e3]; exact ref3 _ _

end Cert.AdamP

end
-- ==== Proof.FinalLossClaim.lean ====
/-
  The loss and the gradient of everything behind it up to the last layer's gated output: sixteen blocks of 256 rows. The
  kernel's five results are the reference's, where every entry of the five arguments is a finite number.
-/
module

public import proofs.«01_k».proof.Defs
public import proofs.«01_k».proof.Proof.Rows
public import proofs.«01_k».proof.Proof.NormSpec
public import proofs.«01_k».proof.Proof.NormRef
public import proofs.«01_k».proof.Proof.Reals
public import proofs.«01_k».proof.Proof.ConvClaim
public import proofs.«01_k».proof.Proof.Gen.Pre_final_loss_finite
public import proofs.«01_k».proof.Proof.Gen.FinalLossIdeal.Value
public import proofs.«01_k».proof.Proof.Gen.FinalLossRefIdeal.Run
public import proofs.«01_k».proof.Proof.Gen.FinalLossRefIdeal.Read
public import proofs.«01_k».proof.Proof.Gen.FinalLossIdeal
public import proofs.«01_k».proof.Proof.Gen.FinalLossRefIdeal
public import Idealize.ShloMosaic.Lib.ReduceAll

@[expose] public section

noncomputable section

namespace Cert.Loss

open Idealize.ShloMosaic Idealize.ShloMosaic.TcCoe Idealize.SL.Sem
open Idealize.ShloMosaic.Pipeline (Dat)
open Cert.Reals (IsReal)
open Cert.Conv (real_of_cmp)
open Cert.Norm (A2 rs xn k1024 keps)

/-- One half, two, and one part in 1024, as the programs print them. -/
abbrev khalf : EReal := Ideal.ofBits FTy.f32 1056964608#32
abbrev k2 : EReal := Ideal.ofBits FTy.f32 1073741824#32
abbrev kinv : EReal := Ideal.ofBits FTy.f32 981467136#32

/-- The sum of the residual stream and the layer's gated output. -/
def X2 (X Y : A2 4096 1024) (q : A2 1 1024) : A2 4096 1024 := fun i => X i + (1 + q (ix2 0 (i 1))) * Y i

/-- The prediction's error: the normed array, with its gain, less the target. -/
def er (X : A2 4096 1024) (g : A2 1 1024) (T : A2 4096 1024) (r : Fin 4096) (a : Fin 1024) : EReal :=
  xn X r a * g (ix2 0 a) - T (ix2 r a)

/-- The prediction's cotangent. -/
def dp (X : A2 4096 1024) (g : A2 1 1024) (T : A2 4096 1024) (r : Fin 4096) (a : Fin 1024) : EReal := er X g T r a * kinv

/-- The cotangent of the norm's input. -/
def dx (X : A2 4096 1024) (g : A2 1 1024) (T : A2 4096 1024) (r : Fin 4096) (a : Fin 1024) : EReal :=
  rs X r * (dp X g T r a * g (ix2 0 a)
    - xn X r a * Ideal.div (∑ b : Fin 1024, dp X g T r b * g (ix2 0 b) * xn X r b) k1024)

/-- A row's mean squared error. -/
def mse (X : A2 4096 1024) (g : A2 1 1024) (T : A2 4096 1024) (r : Fin 4096) : EReal :=
  Ideal.div (∑ b : Fin 1024, er X g T r b * er X g T r b) k1024

/-- The five results. -/
def G5 (X : A2 4096 1024) (g : A2 1 1024) (T : A2 4096 1024) : A2 4096 1024 := fun i => dx X g T (i 0) (i 1)
def G6 (X : A2 4096 1024) (g : A2 1 1024) (T : A2 4096 1024) (q : A2 1 1024) : A2 4096 1024 :=
  fun i => dx X g T (i 0) (i 1) * (1 + q (ix2 0 (i 1)))
def G7 (X : A2 4096 1024) (g : A2 1 1024) (T : A2 4096 1024) : A2 1 128 := fun _ => khalf * ∑ r : Fin 4096, mse X g T r
def G8 (X : A2 4096 1024) (g : A2 1 1024) (T : A2 4096 1024) : A2 1 1024 :=
  fun i => ∑ r : Fin 4096, dp X g T r (i 1) * xn X r (i 1)
def G9 (X : A2 4096 1024) (g : A2 1 1024) (T Y : A2 4096 1024) : A2 1 1024 :=
  fun i => ∑ r : Fin 4096, dx X g T r (i 1) * Y (ix2 r (i 1))

theorem khalf_eq : khalf = ((1 / 2 : ℝ) : EReal) := by
  simp [Ideal.ofBits, Ideal.ieee, -EReal.coe_mul]; norm_num
theorem k2_eq : k2 = ((2 : ℝ) : EReal) := by
  simp [Ideal.ofBits, Ideal.ieee, -EReal.coe_mul]; norm_num
theorem kinv_eq : kinv = ((1 / 1024 : ℝ) : EReal) := by
  simp [Ideal.ofBits, Ideal.ieee, -EReal.coe_mul]; norm_num

/-- Half of a sum is the sum of the halves. -/
theorem half_sum {n : ℕ} (f : Fin n → EReal) : khalf * ∑ i, f i = ∑ i, khalf * f i := by
  rw [khalf_eq]
  induction n with
  | zero => simp
  | succ n ih => rw [Fin.sum_univ_succ, Fin.sum_univ_succ, EReal.left_distrib_of_nonneg_of_ne_top (EReal.coe_nonneg.mpr (by norm_num)) (EReal.coe_ne_top _), ih]

/-- The reference's coefficient of the error is one part in 1024. -/
theorem coef (e : EReal) : Ideal.div khalf k1024 * (k2 * e) = e * kinv := by
  rw [khalf_eq, Cert.Norm.Ref.k1024_eq, k2_eq, kinv_eq, Ideal.div_coe (by norm_num), ← EReal.coe_mul, ← mul_assoc,
    ← EReal.coe_mul, mul_comm]
  norm_num

/-- The reciprocal root of a row of real numbers is real. -/
theorem rs_real {X : A2 4096 1024} (hX : ∀ i, IsReal (X i)) (r : Fin 4096) : IsReal (rs X r) := by
  obtain ⟨e, he, hk⟩ := Cert.Norm.Ref.keps_pos
  choose x hx using hX
  obtain rfl : X = fun i => (x i : EReal) := funext hx
  have hs : 0 ≤ ∑ b : Fin 1024, x (ix2 r b) * x (ix2 r b) := Finset.sum_nonneg fun b _ => mul_self_nonneg _
  have hup : 0 < (∑ b : Fin 1024, x (ix2 r b) * x (ix2 r b)) * (1 / 1024) + e := by positivity
  have hu : Ideal.div (∑ b : Fin 1024, ((x (ix2 r b) : ℝ) : EReal) * ((x (ix2 r b) : ℝ) : EReal)) k1024 + keps
      = (((∑ b : Fin 1024, x (ix2 r b) * x (ix2 r b)) * (1 / 1024) + e : ℝ) : EReal) := by
    rw [hk, Cert.Norm.Ref.k1024_eq, Ideal.div_coe (by norm_num)]
    simp only [← EReal.coe_mul, Cert.Norm.Ref.coe_sum, ← EReal.coe_add]
  exact ⟨_, (congrArg Ideal.rsqrt hu).trans (Cert.Norm.Ref.rsqrt_pos _ hup)⟩

theorem dp_real {X : A2 4096 1024} {g : A2 1 1024} {T : A2 4096 1024} (hX : ∀ i, IsReal (X i)) (hg : ∀ i, IsReal (g i))
    (hT : ∀ i, IsReal (T i)) (r : Fin 4096) (a : Fin 1024) : IsReal (dp X g T r a) :=
  ((((hX _).mul (rs_real hX r)).mul (hg _)).sub (hT _)).mul ⟨_, kinv_eq⟩

section Kernel

open Cert.FinalLossIdeal Cert.FinalLossIdeal.Gen

variable (m : (ℓ : Loc nD τ sig) → Buf (Elt Ideal) ℓ) (c : Dev nD)

/-- The residual stream, the last layer's gated output, its gate, the norm's gain and the target. -/
abbrev B0 : A2 4096 1024 := m ((c : Thread nD τ).loc main_arg0)
abbrev B1 : A2 4096 1024 := m ((c : Thread nD τ).loc main_arg1)
abbrev B2 : A2 1 1024 := m ((c : Thread nD τ).loc main_arg2)
abbrev B3 : A2 1 1024 := m ((c : Thread nD τ).loc main_arg3)
abbrev B4 : A2 4096 1024 := m ((c : Thread nD τ).loc main_arg4)

/-- The norm's input. -/
abbrev X (m : (ℓ : Loc nD τ sig) → Buf (Elt Ideal) ℓ) (c : Dev nD) : A2 4096 1024 := X2 (B0 m c) (B1 m c) (B2 m c)

theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![0, 0] := by decide +kernel
theorem idx3 : ∀ t : Fin grid0.N, win0_3.index t = ![0, 0] := by decide +kernel
theorem idx4 : ∀ t : Fin grid0.N, win0_4.index t = ![t.val, 0] := by decide +kernel
theorem idx5 : ∀ t : Fin grid0.N, win0_5.index t = ![t.val, 0] := by decide +kernel
theorem idx6 : ∀ t : Fin grid0.N, win0_6.index t = ![t.val, 0] := by decide +kernel

/-- Row `a` of the block of grid point `t`. -/
abbrev row (t : Fin cfg0.N) (a : Fin 256) : Fin 4096 := ⟨256 * t.val + a.val, by
  have ht : t.val < 16 := t.isLt
  omega⟩

theorem b0 (t : Fin cfg0.N) (a : Fin 256) (e : Fin 1024) : iblk m c 0 t (ix2 a e) = B0 m c (ix2 (row t a) e) := by
  blk_ext [iblk, V, idx0 t]
theorem b1 (t : Fin cfg0.N) (a : Fin 256) (e : Fin 1024) : iblk m c 1 t (ix2 a e) = B1 m c (ix2 (row t a) e) := by
  blk_ext [iblk, V, idx1 t]
theorem b2 (t : Fin cfg0.N) (z : Fin 1) (e : Fin 1024) : iblk m c 2 t (ix2 z e) = B2 m c (ix2 z e) := by
  blk_ext [iblk, V, idx2 t]
theorem b3 (t : Fin cfg0.N) (z : Fin 1) (e : Fin 1024) : iblk m c 3 t (ix2 z e) = B3 m c (ix2 z e) := by
  blk_ext [iblk, V, idx3 t]
theorem b4 (t : Fin cfg0.N) (a : Fin 256) (e : Fin 1024) : iblk m c 4 t (ix2 a e) = B4 m c (ix2 (row t a) e) := by
  blk_ext [iblk, V, idx4 t]

/-- The norm's input in a block, the reciprocal roots of its rows, the normed rows, and the error. -/
theorem x_at (t : Fin cfg0.N) (a : Fin 256) (b : Fin 1024) :
    k0_pay5 (F := Ideal) (iblk m c 1 t) (iblk m c 2 t) (iblk m c 0 t) (ix2 a b) = X m c (ix2 (row t a) b) := by
  have e : ∀ (y x : S256x1024.Idx → EReal) (q : S1x1024.Idx → EReal),
      k0_pay5 (F := Ideal) y q x (ix2 a b) = x (ix2 a b) + (1 + q (ix2 0 b)) * y (ix2 a b) := by
    intro y x q
    pointwise [k0_pay5, k0_pay4]
  rw [e, b0, b1, b2]
  rfl

/-- The kernel's values of a block, as its text nests them. -/
abbrev VR (t : Fin cfg0.N) : S256x1.Idx → EReal := k0_pay6 (F := Ideal) (iblk m c 1 t) (iblk m c 2 t) (iblk m c 0 t)
abbrev VN (t : Fin cfg0.N) : S256x1024.Idx → EReal := k0_pay7 (F := Ideal) (iblk m c 1 t) (iblk m c 2 t) (iblk m c 0 t)
abbrev VE (t : Fin cfg0.N) : S256x1024.Idx → EReal :=
  k0_pay8 (F := Ideal) (iblk m c 1 t) (iblk m c 2 t) (iblk m c 0 t) (iblk m c 3 t) (iblk m c 4 t)
abbrev VX (t : Fin cfg0.N) : S256x1024.Idx → EReal := k0_pay14 (F := Ideal) (VR m c t) (VN m c t) (iblk m c 3 t) (VE m c t)

theorem r_at (t : Fin cfg0.N) (a : Fin 256) (z : Fin 1) : VR m c t (ix2 a z) = rs (X m c) (row t a) := by
  have e : ∀ (y x : S256x1024.Idx → EReal) (q : S1x1024.Idx → EReal), k0_pay6 (F := Ideal) y q x (ix2 a z)
      = Ideal.rsqrt (Ideal.div (∑ b : Fin 1024, k0_pay5 (F := Ideal) y q x (ix2 a b) * k0_pay5 (F := Ideal) y q x (ix2 a b)) k1024 + keps) := by
    intro y x q
    pointwise [k0_pay6]
  refine (e _ _ _).trans ?_
  unfold rs
  simp only [x_at]

theorem n_at (t : Fin cfg0.N) (a : Fin 256) (b : Fin 1024) : VN m c t (ix2 a b) = xn (X m c) (row t a) b := by
  have e : ∀ (y x : S256x1024.Idx → EReal) (q : S1x1024.Idx → EReal), k0_pay7 (F := Ideal) y q x (ix2 a b)
      = k0_pay5 (F := Ideal) y q x (ix2 a b) * k0_pay6 (F := Ideal) y q x (ix2 a 0) := by
    intro y x q
    pointwise [k0_pay7]
  exact (e _ _ _).trans (congrArg₂ (fun u v : EReal => u * v) (x_at m c t a b) (r_at m c t a 0))

theorem e_at (t : Fin cfg0.N) (a : Fin 256) (b : Fin 1024) : VE m c t (ix2 a b) = er (X m c) (B3 m c) (B4 m c) (row t a) b := by
  have e : ∀ (y x T : S256x1024.Idx → EReal) (q g : S1x1024.Idx → EReal), k0_pay8 (F := Ideal) y q x g T (ix2 a b)
      = k0_pay7 (F := Ideal) y q x (ix2 a b) * g (ix2 0 b) - T (ix2 a b) := by
    intro y x T q g
    pointwise [k0_pay8]
  exact (e _ _ _ _ _).trans (congrArg₂ (fun u v : EReal => u - v)
    (congrArg₂ (fun u v : EReal => u * v) (n_at m c t a b) (b3 m c t 0 b)) (b4 m c t a b))

/-- The cotangent of the norm's input in a block. -/
theorem vx_at (t : Fin cfg0.N) (a : Fin 256) (b : Fin 1024) :
    VX m c t (ix2 a b) = dx (X m c) (B3 m c) (B4 m c) (row t a) b := by
  have e : ∀ (n d : S256x1024.Idx → EReal) (g : S1x1024.Idx → EReal) (r : S256x1.Idx → EReal),
      k0_pay14 (F := Ideal) r n g d (ix2 a b)
        = r (ix2 a 0) * (d (ix2 a b) * kinv * g (ix2 0 b)
          - n (ix2 a b) * Ideal.div (∑ x, d (ix2 a x) * kinv * g (ix2 0 x) * n (ix2 a x)) k1024) := by
    intro n d g r
    pointwise [k0_pay14, k0_pay12]
  refine (e _ _ _ _).trans ?_
  unfold dx dp
  simp only [r_at, n_at, e_at, b3]

theorem vy_at (t : Fin cfg0.N) (a : Fin 256) (b : Fin 1024) :
    k0_pay15 (F := Ideal) (k0_pay4 (iblk m c 2 t)) (VR m c t) (VN m c t) (iblk m c 3 t) (VE m c t) (ix2 a b)
      = dx (X m c) (B3 m c) (B4 m c) (row t a) b * (1 + B2 m c (ix2 0 b)) := by
  have e : ∀ (n d : S256x1024.Idx → EReal) (q g : S1x1024.Idx → EReal) (r : S256x1.Idx → EReal),
      k0_pay15 (F := Ideal) (k0_pay4 q) r n g d (ix2 a b)
        = k0_pay14 (F := Ideal) r n g d (ix2 a b) * (1 + q (ix2 0 b)) := by
    intro n d q g r
    pointwise [k0_pay15, k0_pay4]
  exact (e _ _ _ _ _).trans (congrArg₂ (fun u v : EReal => u * (1 + v)) (vx_at m c t a b) (b2 m c t 0 b))

/-- The sixteen shares of 256 rows are all 4096 rows. -/
theorem sum_rows (f : Fin 4096 → EReal) : ∑ p : Fin cfg0.N, ∑ x : Fin 256, f (row p x) = ∑ r : Fin 4096, f r :=
  Fin.sum_mul_add_congr (S := 16) (n := 256) (L := 4096) (f := f)
    fun s k _ => congrArg f (Fin.ext (by show 256 * s.val + k.val = s.val * 256 + k.val; omega))

/-- The last grid point. -/
abbrev last : Fin cfg0.N := ⟨15, by decide⟩

theorem arr5 : (dats m 0 c).arrAt 5 cfg0.N = G5 (X m c) (B3 m c) (B4 m c) := by
  refine (dats m 0 c).arrAt_eq_of_covers 5 _ (by decide +kernel) fun t hf y => ?_
  blk_simp
  rw [after0_5]
  have ey : y = ix2 (n0 := 256) (n1 := 1024) (y 0) (y 1) := eq_ix2 y
  have ht : t.val < 16 := t.isLt
  have h256 : (y 0).val < 256 := (y 0).isLt
  have eG : (((View.whole main_v0_0).slice (win0_5.rect t)).emb y)
      = ix2 (n0 := 4096) (n1 := 1024) (row t (y 0)) (y 1) := by
    blk_ext [idx5 t]
  have hA : t.val % 16 = 0 ∨ ¬ t.val % 16 = 0 := em _
  rw [eG]
  rcases hA with h | h
  · rw [outsAt0_A m c t h]
    frame_out
    exact (congrArg (VX m c t) ey).trans (vx_at m c t (y 0) (y 1))
  · rw [outsAt0_B m c t h]
    frame_out
    exact (congrArg (VX m c t) ey).trans (vx_at m c t (y 0) (y 1))

theorem arr6 : (dats m 0 c).arrAt 6 cfg0.N = G6 (X m c) (B3 m c) (B4 m c) (B2 m c) := by
  refine (dats m 0 c).arrAt_eq_of_covers 6 _ (by decide +kernel) fun t hf y => ?_
  blk_simp
  rw [after0_6]
  have ey : y = ix2 (n0 := 256) (n1 := 1024) (y 0) (y 1) := eq_ix2 y
  have ht : t.val < 16 := t.isLt
  have h256 : (y 0).val < 256 := (y 0).isLt
  have eG : (((View.whole main_v0_1).slice (win0_6.rect t)).emb y)
      = ix2 (n0 := 4096) (n1 := 1024) (row t (y 0)) (y 1) := by
    blk_ext [idx6 t]
  have hA : t.val % 16 = 0 ∨ ¬ t.val % 16 = 0 := em _
  rw [eG]
  rcases hA with h | h
  · rw [outsAt0_A m c t h]
    frame_out
    exact (congrArg (k0_pay15 (F := Ideal) (k0_pay4 (iblk m c 2 t)) (VR m c t) (VN m c t) (iblk m c 3 t) (VE m c t)) ey).trans
      (vy_at m c t (y 0) (y 1))
  · rw [outsAt0_B m c t h]
    frame_out
    exact (congrArg (k0_pay15 (F := Ideal) (k0_pay4 (iblk m c 2 t)) (VR m c t) (VN m c t) (iblk m c 3 t) (VE m c t)) ey).trans
      (vy_at m c t (y 0) (y 1))

/-- One point's share of the loss, added to what the block holds. -/
theorem p7 (y x T : S256x1024.Idx → EReal) (q g : S1x1024.Idx → EReal) (z : S1x128.Idx → EReal) (a : Fin 1) (b : Fin 128) :
    k0_pay11 (F := Ideal) (k0_pay9 z) (k0_pay10 y q x g T) (ix2 a b)
      = z (ix2 a b) + khalf * ∑ s : Fin 256, Ideal.div
        (∑ k : Fin 1024, k0_pay8 (F := Ideal) y q x g T (ix2 s k) * k0_pay8 (F := Ideal) y q x g T (ix2 s k)) k1024 := by
  pointwise [k0_pay11, k0_pay9, k0_pay10]
  simp only [Finset.univ_unique, Finset.sum_const, Finset.card_singleton, one_smul]

/-- A grid point's share. -/
def part7 (t : Fin cfg0.N) : A2 1 128 := fun _ => ∑ x : Fin 256, khalf * mse (X m c) (B3 m c) (B4 m c) (row t x)

/-- A row's mean squared error in a block. -/
theorem mse_at (t : Fin cfg0.N) (s : Fin 256) :
    Ideal.div (∑ k : Fin 1024, VE m c t (ix2 s k) * VE m c t (ix2 s k)) k1024 = mse (X m c) (B3 m c) (B4 m c) (row t s) := by
  simp only [e_at]
  rfl

theorem share7 (t : Fin cfg0.N) (j : S1x128.Idx) :
    khalf * ∑ s : Fin 256, Ideal.div (∑ k : Fin 1024, VE m c t (ix2 s k) * VE m c t (ix2 s k)) k1024 = part7 m c t j :=
  (half_sum _).trans (Finset.sum_congr rfl fun s _ => congrArg (khalf * ·) (mse_at m c t s))

theorem step7B (t : Fin cfg0.N) (h : ¬ t.val % 16 = 0) (j : S1x128.Idx) :
    (outsAt0 m c t.val t.isLt).2.2.1 j
      = (outsAt0 m c (t.val - 1) (Nat.lt_of_le_of_lt (Nat.sub_le _ _) t.isLt)).2.2.1 j + part7 m c t j := by
  obtain ⟨a, b, rfl⟩ : ∃ (a : Fin 1) (b : Fin 128), j = ix2 a b := ⟨j 0, j 1, eq_ix2 j⟩
  rw [outsAt0_B m c t h]
  frame_out
  exact (p7 _ _ _ _ _ _ _ _).trans (congrArg (_ + ·) (share7 m c t _))

theorem step7A (t : Fin cfg0.N) (h : t.val % 16 = 0) (j : S1x128.Idx) :
    (outsAt0 m c t.val t.isLt).2.2.1 j = (fun _ => (0 : EReal)) j + part7 m c t j := by
  obtain ⟨a, b, rfl⟩ : ∃ (a : Fin 1) (b : Fin 128), j = ix2 a b := ⟨j 0, j 1, eq_ix2 j⟩
  have hz : k0_pay1 (F := Ideal) (ix2 a b) = 0 := by pointwise [k0_pay1]
  rw [outsAt0_A m c t h]
  frame_out
  exact (p7 _ _ _ _ _ _ _ _).trans (congrArg₂ (· + ·) hz (share7 m c t _))

theorem arr7 : (dats m 0 c).arrAt 7 cfg0.N = G7 (X m c) (B3 m c) (B4 m c) := by
  refine (dats m 0 c).arrAt_eq_of_after_last 7 last (by decide +kernel) _ fun j => ?_
  have e := Pipeline.eq_sum_fin_of_reset_step_apply_last (fun n h => (outsAt0 m c n h).2.2.1) 16 (fun _ => (0 : EReal))
    (part7 m c) (step7A m c) (step7B m c) (by decide) last rfl j
  have h2 := congrFun (after0_7 m c last) j
  refine Eq.trans ?_ ((h2.trans e).trans ?_)
  · blk_simp
  · have hs := sum_rows fun r => khalf * mse (X m c) (B3 m c) (B4 m c) r
    exact (zero_add (M := EReal) _).trans (hs.trans (half_sum _).symm)

theorem p8 (n d : S256x1024.Idx → EReal) (z : S1x1024.Idx → EReal) (a : Fin 1) (b : Fin 1024) :
    k0_pay13 (F := Ideal) n d z (ix2 a b) = z (ix2 a b) + ∑ x : Fin 256, d (ix2 x b) * kinv * n (ix2 x b) := by
  pointwise [k0_pay13, k0_pay12]

/-- A grid point's share. -/
def part8 (t : Fin cfg0.N) : A2 1 1024 :=
  fun j => ∑ x : Fin 256, dp (X m c) (B3 m c) (B4 m c) (row t x) (j 1) * xn (X m c) (row t x) (j 1)

theorem step8B (t : Fin cfg0.N) (h : ¬ t.val % 16 = 0) (j : S1x1024.Idx) :
    (outsAt0 m c t.val t.isLt).2.2.2.1 j
      = (outsAt0 m c (t.val - 1) (Nat.lt_of_le_of_lt (Nat.sub_le _ _) t.isLt)).2.2.2.1 j + part8 m c t j := by
  obtain ⟨a, b, rfl⟩ : ∃ (a : Fin 1) (b : Fin 1024), j = ix2 a b := ⟨j 0, j 1, eq_ix2 j⟩
  rw [outsAt0_B m c t h]
  frame_out
  refine (p8 _ _ _ _ _).trans (congrArg (_ + ·) (Finset.sum_congr rfl fun x _ => ?_))
  exact congrArg₂ (· * ·) (congrArg (· * kinv) (e_at m c t x b)) (n_at m c t x b)

theorem step8A (t : Fin cfg0.N) (h : t.val % 16 = 0) (j : S1x1024.Idx) :
    (outsAt0 m c t.val t.isLt).2.2.2.1 j = (fun _ => (0 : EReal)) j + part8 m c t j := by
  obtain ⟨a, b, rfl⟩ : ∃ (a : Fin 1) (b : Fin 1024), j = ix2 a b := ⟨j 0, j 1, eq_ix2 j⟩
  have hz : k0_pay2 (F := Ideal) (ix2 a b) = 0 := by pointwise [k0_pay2]
  rw [outsAt0_A m c t h]
  frame_out
  refine (p8 _ _ _ _ _).trans (congrArg₂ (· + ·) hz (Finset.sum_congr rfl fun x _ => ?_))
  exact congrArg₂ (· * ·) (congrArg (· * kinv) (e_at m c t x b)) (n_at m c t x b)

theorem arr8 : (dats m 0 c).arrAt 8 cfg0.N = G8 (X m c) (B3 m c) (B4 m c) := by
  refine (dats m 0 c).arrAt_eq_of_after_last 8 last (by decide +kernel) _ fun j => ?_
  have e := Pipeline.eq_sum_fin_of_reset_step_apply_last (fun n h => (outsAt0 m c n h).2.2.2.1) 16 (fun _ => (0 : EReal))
    (part8 m c) (step8A m c) (step8B m c) (by decide) last rfl j
  have h2 := congrFun (after0_8 m c last) j
  refine Eq.trans ?_ ((h2.trans e).trans ?_)
  · blk_simp
  · have hs := sum_rows fun r => dp (X m c) (B3 m c) (B4 m c) r (j 1) * xn (X m c) r (j 1)
    exact (zero_add (M := EReal) _).trans hs

theorem p9 (y n d : S256x1024.Idx → EReal) (g z : S1x1024.Idx → EReal) (r : S256x1.Idx → EReal) (a : Fin 1) (b : Fin 1024) :
    k0_pay16 (F := Ideal) y r n g d z (ix2 a b)
      = z (ix2 a b) + ∑ x : Fin 256, k0_pay14 (F := Ideal) r n g d (ix2 x b) * y (ix2 x b) := by
  pointwise [k0_pay16]

/-- A grid point's share. -/
def part9 (t : Fin cfg0.N) : A2 1 1024 :=
  fun j => ∑ x : Fin 256, dx (X m c) (B3 m c) (B4 m c) (row t x) (j 1) * B1 m c (ix2 (row t x) (j 1))

theorem step9B (t : Fin cfg0.N) (h : ¬ t.val % 16 = 0) (j : S1x1024.Idx) :
    (outsAt0 m c t.val t.isLt).2.2.2.2 j
      = (outsAt0 m c (t.val - 1) (Nat.lt_of_le_of_lt (Nat.sub_le _ _) t.isLt)).2.2.2.2 j + part9 m c t j := by
  obtain ⟨a, b, rfl⟩ : ∃ (a : Fin 1) (b : Fin 1024), j = ix2 a b := ⟨j 0, j 1, eq_ix2 j⟩
  rw [outsAt0_B m c t h]
  frame_out
  refine (p9 _ _ _ _ _ _ _ _).trans (congrArg (_ + ·) (Finset.sum_congr rfl fun x _ => ?_))
  exact congrArg₂ (· * ·) (vx_at m c t x b) (b1 m c t x b)

theorem step9A (t : Fin cfg0.N) (h : t.val % 16 = 0) (j : S1x1024.Idx) :
    (outsAt0 m c t.val t.isLt).2.2.2.2 j = (fun _ => (0 : EReal)) j + part9 m c t j := by
  obtain ⟨a, b, rfl⟩ : ∃ (a : Fin 1) (b : Fin 1024), j = ix2 a b := ⟨j 0, j 1, eq_ix2 j⟩
  have hz : k0_pay3 (F := Ideal) (ix2 a b) = 0 := by pointwise [k0_pay3]
  rw [outsAt0_A m c t h]
  frame_out
  refine (p9 _ _ _ _ _ _ _ _).trans (congrArg₂ (· + ·) hz (Finset.sum_congr rfl fun x _ => ?_))
  exact congrArg₂ (· * ·) (vx_at m c t x b) (b1 m c t x b)

theorem arr9 : (dats m 0 c).arrAt 9 cfg0.N = G9 (X m c) (B3 m c) (B4 m c) (B1 m c) := by
  refine (dats m 0 c).arrAt_eq_of_after_last 9 last (by decide +kernel) _ fun j => ?_
  have e := Pipeline.eq_sum_fin_of_reset_step_apply_last (fun n h => (outsAt0 m c n h).2.2.2.2) 16 (fun _ => (0 : EReal))
    (part9 m c) (step9A m c) (step9B m c) (by decide) last rfl j
  have h2 := congrFun (after0_9 m c last) j
  refine Eq.trans ?_ ((h2.trans e).trans ?_)
  · blk_simp
  · have hs := sum_rows fun r => dx (X m c) (B3 m c) (B4 m c) r (j 1) * B1 m c (ix2 r (j 1))
    exact (zero_add (M := EReal) _).trans hs

end Kernel

section Reference

open Cert.FinalLossRefIdeal.Read

variable (x0 x1 : A2 4096 1024) (x2 x3 : A2 1 1024) (x4 : A2 4096 1024)

theorem v4 (r : Fin 4096) (a : Fin 1024) : val_main_v4 (F := Ideal) x0 x1 x2 (ix2 r a) = X2 x0 x1 x2 (ix2 r a) := by
  pointwise [val_main_v4, val_main_v3, val_main_v2, val_main_v1, val_main_v0, val_main_cst]
  rfl

theorem v11 (r : Fin 4096) (z : Fin 1) : val_main_v11 (F := Ideal) x0 x1 x2 (ix2 r z)
    = Ideal.div (∑ b : Fin 1024, X2 x0 x1 x2 (ix2 r b) * X2 x0 x1 x2 (ix2 r b)) k1024 + keps := by
  pointwise [val_main_v11, val_main_v10, val_main_cst_2, val_main_v9, val_main_v8, val_main_cst_1, val_main_v7, val_main_v6,
    val_main_cst_0, val_main_v5]
  simp only [v4]

theorem v12 (r : Fin 4096) (z : Fin 1) : val_main_v12 (F := Ideal) x0 x1 x2 (ix2 r z) = rs (X2 x0 x1 x2) r :=
  congrArg Ideal.rsqrt (v11 x0 x1 x2 r z)

theorem v17 (r : Fin 4096) (a : Fin 1024) : val_main_v17 (F := Ideal) x0 x1 x2 (ix2 r a) = xn (X2 x0 x1 x2) r a := by
  pointwise [val_main_v17, val_main_v16]
  rw [v4, v12]
  rfl

theorem v20 (r : Fin 4096) (a : Fin 1024) :
    val_main_v20 (F := Ideal) x0 x1 x2 x3 x4 (ix2 r a) = er (X2 x0 x1 x2) x3 x4 r a := by
  pointwise [val_main_v20, val_main_v19, val_main_v18]
  rw [v17]
  rfl

theorem v60 (z : Fin 1) (b : Fin 128) :
    val_main_v60 (F := Ideal) x0 x1 x2 x3 x4 (ix2 z b) = G7 (X2 x0 x1 x2) x3 x4 (ix2 z b) := by
  pointwise [val_main_v60, val_main_v28, val_main_cst_8, val_main_v27, val_main_cst_7, val_main_v26, val_main_v25, val_main_cst_6,
    val_main_v24, val_main_cst_5, val_main_v21]
  simp only [v20]
  rfl

theorem v34 (r : Fin 4096) (a : Fin 1024) :
    val_main_v34 (F := Ideal) x0 x1 x2 x3 x4 (ix2 r a) = dp (X2 x0 x1 x2) x3 x4 r a := by
  pointwise [val_main_v34, val_main_v33, val_main_v32, val_main_v31, val_main_cst_11, val_main_v30, val_main_v29, val_main_cst_9,
    val_main_cst_10, val_main_v23, val_main_v22, val_main_cst_4]
  rw [v20]
  exact coef _

theorem v37 (z : Fin 1) (a : Fin 1024) :
    val_main_v37 (F := Ideal) x0 x1 x2 x3 x4 (ix2 z a) = G8 (X2 x0 x1 x2) x3 x4 (ix2 z a) := by
  pointwise [val_main_v37, val_main_v36, val_main_cst_12, val_main_v35]
  simp only [v34, v17]
  exact Finset.sum_congr rfl fun r _ => mul_comm _ _

theorem v39 (r : Fin 4096) (a : Fin 1024) :
    val_main_v39 (F := Ideal) x0 x1 x2 x3 x4 (ix2 r a) = dp (X2 x0 x1 x2) x3 x4 r a * x3 (ix2 0 a) := by
  pointwise [val_main_v39, val_main_v38]
  rw [v34]

theorem v42 (r : Fin 4096) (z : Fin 1) : val_main_v42 (F := Ideal) x0 x1 x2 x3 x4 (ix2 r z)
    = ∑ b : Fin 1024, X2 x0 x1 x2 (ix2 r b) * (dp (X2 x0 x1 x2) x3 x4 r b * x3 (ix2 0 b)) := by
  pointwise [val_main_v42, val_main_v41, val_main_cst_13, val_main_v40]
  simp only [v39, v4]

theorem v15 (r : Fin 4096) (z : Fin 1) : val_main_v15 (F := Ideal) x0 x1 x2 (ix2 r z)
    = Ideal.ofBits FTy.f32 0xBF000000#32 * Ideal.div (rs (X2 x0 x1 x2) r)
      (Ideal.div (∑ b : Fin 1024, X2 x0 x1 x2 (ix2 r b) * X2 x0 x1 x2 (ix2 r b)) k1024 + keps) := by
  pointwise [val_main_v15, val_main_v14, val_main_cst_3, val_main_v13]
  rw [v12, v11]

/-- What the reciprocal root's cotangent leaves of a row. -/
def mm (X : A2 4096 1024) (g : A2 1 1024) (T : A2 4096 1024) (r : Fin 4096) : EReal :=
  Ideal.div ((∑ b : Fin 1024, X (ix2 r b) * (dp X g T r b * g (ix2 0 b)))
    * (Ideal.ofBits FTy.f32 0xBF000000#32 * Ideal.div (rs X r) (Ideal.div (∑ b : Fin 1024, X (ix2 r b) * X (ix2 r b)) k1024 + keps))) k1024

theorem v47 (r : Fin 4096) (z : Fin 1) : val_main_v47 (F := Ideal) x0 x1 x2 x3 x4 (ix2 r z) = mm (X2 x0 x1 x2) x3 x4 r := by
  pointwise [val_main_v47, val_main_v46, val_main_cst_14, val_main_v45]
  rw [v42, v15]
  rfl

theorem v49 (r : Fin 4096) (a : Fin 1024) : val_main_v49 (F := Ideal) x0 x1 x2 x3 x4 (ix2 r a) = mm (X2 x0 x1 x2) x3 x4 r := by
  pointwise [val_main_v49, val_main_v48, val_main_cst_15]
  simp only [Finset.univ_unique, Finset.sum_const, Finset.card_singleton, one_smul, v47]

section
variable {x0 x1 x2 x3 x4}
variable (h0 : ∀ i, IsReal (x0 i)) (h1 : ∀ i, IsReal (x1 i)) (h2 : ∀ i, IsReal (x2 i)) (h3 : ∀ i, IsReal (x3 i))
  (h4 : ∀ i, IsReal (x4 i))
include h0 h1 h2 h3 h4

theorem v53 (r : Fin 4096) (a : Fin 1024) :
    val_main_v53 (F := Ideal) x0 x1 x2 x3 x4 (ix2 r a) = dx (X2 x0 x1 x2) x3 x4 r a := by
  have hX : ∀ i, IsReal (X2 x0 x1 x2 i) := fun i => (h0 i).add ((IsReal.one.add (h2 _)).mul (h1 i))
  pointwise [val_main_v53, val_main_v52, val_main_v51, val_main_v50, val_main_v44, val_main_v43]
  simp only [v39, v12, v49, v4]
  unfold dx
  exact Cert.Norm.Ref.chainE (fun b => X2 x0 x1 x2 (ix2 r b)) (fun b => dp (X2 x0 x1 x2) x3 x4 r b * x3 (ix2 0 b)) (fun b => hX _)
    (fun b => (dp_real hX h3 h4 r b).mul (h3 _)) a _ _ _ rfl rfl rfl

theorem v59 (r : Fin 4096) (a : Fin 1024) :
    val_main_v59 (F := Ideal) x0 x1 x2 x3 x4 (ix2 r a) = G6 (X2 x0 x1 x2) x3 x4 x2 (ix2 r a) := by
  pointwise [val_main_v59, val_main_v55, val_main_v54, val_main_v1, val_main_v0, val_main_cst]
  rw [v53 h0 h1 h2 h3 h4]
  first | rfl | exact mul_comm _ _

theorem v58 (z : Fin 1) (a : Fin 1024) :
    val_main_v58 (F := Ideal) x0 x1 x2 x3 x4 (ix2 z a) = G9 (X2 x0 x1 x2) x3 x4 x1 (ix2 z a) := by
  pointwise [val_main_v58, val_main_v57, val_main_cst_16, val_main_v56]
  simp only [v53 h0 h1 h2 h3 h4]
  first | rfl | exact Finset.sum_congr rfl fun r _ => mul_comm _ _

end

end Reference

/-- The printed condition, read at every index of the five arguments. -/
theorem real_of_pre (x0 x1 : A2 4096 1024) (x2 x3 : A2 1 1024) (x4 : A2 4096 1024)
    (h : Cert.Pre_final_loss_finite.fn (F := Ideal) x0 x1 x2 x3 x4 = fun _ => 1#1) :
    (∀ i, IsReal (x0 i)) ∧ (∀ i, IsReal (x1 i)) ∧ (∀ i, IsReal (x2 i)) ∧ (∀ i, IsReal (x3 i)) ∧ ∀ i, IsReal (x4 i) := by
  have h := congrFun h ix0
  dsimp only [Cert.Pre_final_loss_finite.fn, Cert.Pre_final_loss_finite.fn_part1] at h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨fun i => real_of_cmp _ (Host.reduce_andi_all _ _ _ _ _ h0 i),
    fun i => real_of_cmp _ (Host.reduce_andi_all _ _ _ _ _ h1 i),
    fun i => real_of_cmp _ (Host.reduce_andi_all _ _ _ _ _ h2 i),
    fun i => real_of_cmp _ (Host.reduce_andi_all _ _ _ _ _ h3 i),
    fun i => real_of_cmp _ (Host.reduce_andi_all _ _ _ _ _ h4 i)⟩

/-- The reference's frame. -/
theorem ref_frame : Cert.quiescent_FinalLossRefIdeal := fun m ρ _ =>
  (θ_run Cert.FinalLossRefIdeal.defs _ _).mono (fun r h => ⟨fun c => (h c).2.2.2.2.2,
      Idealize.ShloMosaic.sem_eq_zero_of_no_sems (by decide) r.2⟩)
    (Cert.FinalLossRefIdeal.Value.run (F := Ideal) m ρ)

/-- Equal results. -/
theorem algebraic : Cert.algebraic_FinalLossIdeal_FinalLossRefIdeal_pre_final_loss_finite := by
  intro m g m' g' hpre hag
  refine ⟨fun c => G5 (X m c) (B3 m c) (B4 m c), fun c => G6 (X m c) (B3 m c) (B4 m c) (B2 m c),
    fun c => G7 (X m c) (B3 m c) (B4 m c), fun c => G8 (X m c) (B3 m c) (B4 m c),
    fun c => G9 (X m c) (B3 m c) (B4 m c) (B1 m c), ?_, ?_⟩
  · refine (θ_run Cert.FinalLossIdeal.defs _ _).mono (fun r h c => ?_) (Cert.FinalLossIdeal.Value.run_blocks (F := Ideal) m g)
    obtain ⟨r0, r1, r2, r3, r4, ra⟩ := h c
    exact ⟨r0.trans (arr5 m c), r1.trans (arr6 m c), r2.trans (arr7 m c), r3.trans (arr8 m c), r4.trans (arr9 m c), ra⟩
  · refine (θ_run Cert.FinalLossRefIdeal.defs _ _).mono (fun r h c => ?_) (Cert.FinalLossRefIdeal.Value.run (F := Ideal) m' g')
    obtain ⟨r0, r1, r2, r3, r4, ra⟩ := h c
    obtain ⟨e0, e1, e2, e3, e4⟩ := hag c
    obtain ⟨p0, p1, p2, p3, p4⟩ := real_of_pre _ _ _ _ _ (hpre c)
    refine ⟨r0.trans ((Cert.FinalLossRefIdeal.Read.val_main_v53_eq m' c).trans ?_),
      r1.trans ((Cert.FinalLossRefIdeal.Read.val_main_v59_eq m' c).trans ?_),
      r2.trans ((Cert.FinalLossRefIdeal.Read.val_main_v60_eq _ _ _ _ _).trans ?_),
      r3.trans ((Cert.FinalLossRefIdeal.Read.val_main_v37_eq _ _ _ _ _).trans ?_),
      r4.trans ((Cert.FinalLossRefIdeal.Read.val_main_v58_eq m' c).trans ?_), ra⟩
    · rw [e0, e1, e2, e3, e4]
      funext i
      obtain ⟨a, b, rfl⟩ : ∃ (a : Fin 4096) (b : Fin 1024), i = ix2 a b := ⟨i 0, i 1, eq_ix2 i⟩
      exact v53 p0 p1 p2 p3 p4 a b
    · rw [e0, e1, e2, e3, e4]
      funext i
      obtain ⟨a, b, rfl⟩ : ∃ (a : Fin 4096) (b : Fin 1024), i = ix2 a b := ⟨i 0, i 1, eq_ix2 i⟩
      exact v59 p0 p1 p2 p3 p4 a b
    · rw [e0, e1, e2, e3, e4]
      funext i
      obtain ⟨a, b, rfl⟩ : ∃ (a : Fin 1) (b : Fin 128), i = ix2 a b := ⟨i 0, i 1, eq_ix2 i⟩
      exact v60 _ _ _ _ _ a b
    · rw [e0, e1, e2, e3, e4]
      funext i
      obtain ⟨a, b, rfl⟩ : ∃ (a : Fin 1) (b : Fin 1024), i = ix2 a b := ⟨i 0, i 1, eq_ix2 i⟩
      exact v37 _ _ _ _ _ a b
    · rw [e0, e1, e2, e3, e4]
      funext i
      obtain ⟨a, b, rfl⟩ : ∃ (a : Fin 1) (b : Fin 1024), i = ix2 a b := ⟨i 0, i 1, eq_ix2 i⟩
      exact v58 p0 p1 p2 p3 p4 a b

end Cert.Loss

end
-- ==== Proof.AdamSmallClaim.lean ====
/-
  The AdamW step of three of the six small weights: the norms' gains, the conditioning projections' biases and the pooling's channel scale.
  The kernel and the reference leave equal results.
-/
module

public import proofs.«01_k».proof.Defs
public import proofs.«01_k».proof.Proof.Rows
public import proofs.«01_k».proof.Proof.AdamSpec
public import proofs.«01_k».proof.Proof.Gen.AdamSmallIdeal.Value
public import proofs.«01_k».proof.Proof.Gen.AdamSmallRefIdeal.Run
public import proofs.«01_k».proof.Proof.Gen.AdamSmallRefIdeal.Read
public import proofs.«01_k».proof.Proof.Gen.AdamSmallIdeal
public import proofs.«01_k».proof.Proof.Gen.AdamSmallRefIdeal

@[expose] public section

noncomputable section

namespace Cert.AdamS

open Idealize.ShloMosaic Idealize.ShloMosaic.TcCoe Idealize.SL.Sem
open Idealize.ShloMosaic.Pipeline (Dat)

/-- An array of a weight's shape. -/
abbrev Wt (n w : ℕ) := (⟨2, ![n, w]⟩ : Shape).Idx → EReal

/-- The change of the weight and the two new moments, entry by entry. -/
def D {n w : ℕ} (x g m v : Wt n w) : Wt n w := fun i => Adam.delta (g i) (x i) (m i) (v i)
def M {n w : ℕ} (g m : Wt n w) : Wt n w := fun i => Adam.mom1 (g i) (m i)
def U {n w : ℕ} (g v : Wt n w) : Wt n w := fun i => Adam.mom2 (g i) (v i)

theorem congrD {n w : ℕ} {x x' g g' m m' v v' : Wt n w} (hx : x = x') (hg : g = g') (hm : m = m') (hv : v = v') :
    D x g m v = D x' g' m' v' := by
  rw [hx, hg, hm, hv]

section Kernel

open Cert.AdamSmallIdeal Cert.AdamSmallIdeal.Gen

variable (m : (ℓ : Loc nD τ sig) → Buf (Elt Ideal) ℓ) (c : Dev nD)

abbrev A0 : Wt 2 1024 := m ((c : Thread nD τ).loc main_arg0)
abbrev A1 : Wt 2 1024 := m ((c : Thread nD τ).loc main_arg1)
abbrev A2 : Wt 2 1024 := m ((c : Thread nD τ).loc main_arg2)
abbrev A3 : Wt 2 1024 := m ((c : Thread nD τ).loc main_arg3)
abbrev A4 : Wt 2 3072 := m ((c : Thread nD τ).loc main_arg4)
abbrev A5 : Wt 2 3072 := m ((c : Thread nD τ).loc main_arg5)
abbrev A6 : Wt 2 3072 := m ((c : Thread nD τ).loc main_arg6)
abbrev A7 : Wt 2 3072 := m ((c : Thread nD τ).loc main_arg7)
abbrev A8 : Wt 1 1024 := m ((c : Thread nD τ).loc main_arg8)
abbrev A9 : Wt 1 1024 := m ((c : Thread nD τ).loc main_arg9)
abbrev A10 : Wt 1 1024 := m ((c : Thread nD τ).loc main_arg10)
abbrev A11 : Wt 1 1024 := m ((c : Thread nD τ).loc main_arg11)

theorem idx0 : ∀ t : Fin grid0.N, win0_0.index t = ![0, 0] := by decide +kernel
theorem idx1 : ∀ t : Fin grid0.N, win0_1.index t = ![0, 0] := by decide +kernel
theorem idx2 : ∀ t : Fin grid0.N, win0_2.index t = ![0, 0] := by decide +kernel
theorem idx3 : ∀ t : Fin grid0.N, win0_3.index t = ![0, 0] := by decide +kernel
theorem idx4 : ∀ t : Fin grid0.N, win0_4.index t = ![0, 0] := by decide +kernel
theorem idx5 : ∀ t : Fin grid0.N, win0_5.index t = ![0, 0] := by decide +kernel
theorem idx6 : ∀ t : Fin grid0.N, win0_6.index t = ![0, 0] := by decide +kernel
theorem idx7 : ∀ t : Fin grid0.N, win0_7.index t = ![0, 0] := by decide +kernel
theorem idx8 : ∀ t : Fin grid0.N, win0_8.index t = ![0, 0] := by decide +kernel
theorem idx9 : ∀ t : Fin grid0.N, win0_9.index t = ![0, 0] := by decide +kernel
theorem idx10 : ∀ t : Fin grid0.N, win0_10.index t = ![0, 0] := by decide +kernel
theorem idx11 : ∀ t : Fin grid0.N, win0_11.index t = ![0, 0] := by decide +kernel
theorem idx12 : ∀ t : Fin grid0.N, win0_12.index t = ![0, 0] := by decide +kernel
theorem idx13 : ∀ t : Fin grid0.N, win0_13.index t = ![0, 0] := by decide +kernel
theorem idx14 : ∀ t : Fin grid0.N, win0_14.index t = ![0, 0] := by decide +kernel
theorem idx15 : ∀ t : Fin grid0.N, win0_15.index t = ![0, 0] := by decide +kernel
theorem idx16 : ∀ t : Fin grid0.N, win0_16.index t = ![0, 0] := by decide +kernel
theorem idx17 : ∀ t : Fin grid0.N, win0_17.index t = ![0, 0] := by decide +kernel
theorem idx18 : ∀ t : Fin grid0.N, win0_18.index t = ![0, 0] := by decide +kernel
theorem idx19 : ∀ t : Fin grid0.N, win0_19.index t = ![0, 0] := by decide +kernel
theorem idx20 : ∀ t : Fin grid0.N, win0_20.index t = ![0, 0] := by decide +kernel

/-- Each argument is one block. -/
theorem blk0 (t : Fin cfg0.N) (a : Fin 2) (k : Fin 1024) : iblk m c 0 t (ix2 a k) = A0 m c (ix2 a k) := by
  blk_ext [iblk, V, idx0 t]
theorem blk1 (t : Fin cfg0.N) (a : Fin 2) (k : Fin 1024) : iblk m c 1 t (ix2 a k) = A1 m c (ix2 a k) := by
  blk_ext [iblk, V, idx1 t]
theorem blk2 (t : Fin cfg0.N) (a : Fin 2) (k : Fin 1024) : iblk m c 2 t (ix2 a k) = A2 m c (ix2 a k) := by
  blk_ext [iblk, V, idx2 t]
theorem blk3 (t : Fin cfg0.N) (a : Fin 2) (k : Fin 1024) : iblk m c 3 t (ix2 a k) = A3 m c (ix2 a k) := by
  blk_ext [iblk, V, idx3 t]
theorem blk4 (t : Fin cfg0.N) (a : Fin 2) (k : Fin 3072) : iblk m c 4 t (ix2 a k) = A4 m c (ix2 a k) := by
  blk_ext [iblk, V, idx4 t]
theorem blk5 (t : Fin cfg0.N) (a : Fin 2) (k : Fin 3072) : iblk m c 5 t (ix2 a k) = A5 m c (ix2 a k) := by
  blk_ext [iblk, V, idx5 t]
theorem blk6 (t : Fin cfg0.N) (a : Fin 2) (k : Fin 3072) : iblk m c 6 t (ix2 a k) = A6 m c (ix2 a k) := by
  blk_ext [iblk, V, idx6 t]
theorem blk7 (t : Fin cfg0.N) (a : Fin 2) (k : Fin 3072) : iblk m c 7 t (ix2 a k) = A7 m c (ix2 a k) := by
  blk_ext [iblk, V, idx7 t]
theorem blk8 (t : Fin cfg0.N) (a : Fin 1) (k : Fin 1024) : iblk m c 8 t (ix2 a k) = A8 m c (ix2 a k) := by
  have ha : a.val = 0 := by omega
  blk_ext [iblk, V, idx8 t]
theorem blk9 (t : Fin cfg0.N) (a : Fin 1) (k : Fin 1024) : iblk m c 9 t (ix2 a k) = A9 m c (ix2 a k) := by
  have ha : a.val = 0 := by omega
  blk_ext [iblk, V, idx9 t]
theorem blk10 (t : Fin cfg0.N) (a : Fin 1) (k : Fin 1024) : iblk m c 10 t (ix2 a k) = A10 m c (ix2 a k) := by
  have ha : a.val = 0 := by omega
  blk_ext [iblk, V, idx10 t]
theorem blk11 (t : Fin cfg0.N) (a : Fin 1) (k : Fin 1024) : iblk m c 11 t (ix2 a k) = A11 m c (ix2 a k) := by
  have ha : a.val = 0 := by omega
  blk_ext [iblk, V, idx11 t]

/-! The norms' gains. -/

theorem pointD0 (x g y z : (⟨2, ![2, 1024]⟩ : Shape).Idx → EReal) (i : (⟨2, ![2, 1024]⟩ : Shape).Idx) :
    k0_pay6 (F := Ideal) x g y z i = Adam.delta (g i) (x i) (y i) (z i) := rfl
theorem pointM0 (g y : (⟨2, ![2, 1024]⟩ : Shape).Idx → EReal) (i : (⟨2, ![2, 1024]⟩ : Shape).Idx) : k0_pay4 (F := Ideal) g y i = Adam.mom1 (g i) (y i) := rfl
theorem pointU0 (g z : (⟨2, ![2, 1024]⟩ : Shape).Idx → EReal) (i : (⟨2, ![2, 1024]⟩ : Shape).Idx) : k0_pay5 (F := Ideal) g z i = Adam.mom2 (g i) (z i) := rfl

theorem arr0 : (dats m 0 c).arrAt 12 cfg0.N = D (A0 m c) (A1 m c) (A2 m c) (A3 m c) := by
  refine (dats m 0 c).arrAt_eq_of_covers 12 _ (by decide +kernel) fun t hf y => ?_
  blk_simp
  rw [after0_12]
  have hy : (y 0).val < 2 := (y 0).isLt
  have ey : y = ix2 (n0 := 2) (n1 := 1024) (y 0) (y 1) := eq_ix2 y
  have eG : (((View.whole main_v0_0).slice (win0_12.rect t)).emb y) = ix2 (n0 := 2) (n1 := 1024) (y 0) (y 1) := by
    blk_ext [idx12 t]
  rw [eG]
  refine (congrArg (out0_12 (F := Ideal) _ _ _ _ _ _ _ _ _ _ _ _) ey).trans ((Rows.canon_whole _ _ _ _ _).trans ((pointD0 _ _ _ _ _).trans ?_))
  refine Adam.delta_congr ?_ ?_ ?_ ?_
  · exact (Rows.ld_whole _ _ _ _).trans (blk1 m c t _ _)
  · exact (Rows.ld_whole _ _ _ _).trans (blk0 m c t _ _)
  · exact (Rows.ld_whole _ _ _ _).trans (blk2 m c t _ _)
  · exact (Rows.ld_whole _ _ _ _).trans (blk3 m c t _ _)

theorem arr1 : (dats m 0 c).arrAt 13 cfg0.N = M (A1 m c) (A2 m c) := by
  refine (dats m 0 c).arrAt_eq_of_covers 13 _ (by decide +kernel) fun t hf y => ?_
  blk_simp
  rw [after0_13]
  have hy : (y 0).val < 2 := (y 0).isLt
  have ey : y = ix2 (n0 := 2) (n1 := 1024) (y 0) (y 1) := eq_ix2 y
  have eG : (((View.whole main_v0_1).slice (win0_13.rect t)).emb y) = ix2 (n0 := 2) (n1 := 1024) (y 0) (y 1) := by
    blk_ext [idx13 t]
  rw [eG]
  refine (congrArg (out0_13 (F := Ideal) _ _ _ _ _ _ _ _ _ _ _ _) ey).trans ((Rows.canon_whole _ _ _ _ _).trans ((pointM0 _ _ _).trans ?_))
  refine congrArg₂ Adam.mom1 ?_ ?_
  · exact (Rows.ld_whole _ _ _ _).trans (blk1 m c t _ _)
  · exact (Rows.ld_whole _ _ _ _).trans (blk2 m c t _ _)

theorem arr2 : (dats m 0 c).arrAt 14 cfg0.N = U (A1 m c) (A3 m c) := by
  refine (dats m 0 c).arrAt_eq_of_covers 14 _ (by decide +kernel) fun t hf y => ?_
  blk_simp
  rw [after0_14]
  have hy : (y 0).val < 2 := (y 0).isLt
  have ey : y = ix2 (n0 := 2) (n1 := 1024) (y 0) (y 1) := eq_ix2 y
  have eG : (((View.whole main_v0_2).slice (win0_14.rect t)).emb y) = ix2 (n0 := 2) (n1 := 1024) (y 0) (y 1) := by
    blk_ext [idx14 t]
  rw [eG]
  refine (congrArg (out0_14 (F := Ideal) _ _ _ _ _ _ _ _ _ _ _ _) ey).trans ((Rows.canon_whole _ _ _ _ _).trans ((pointU0 _ _ _).trans ?_))
  refine congrArg₂ Adam.mom2 ?_ ?_
  · exact (Rows.ld_whole _ _ _ _).trans (blk1 m c t _ _)
  · exact (Rows.ld_whole _ _ _ _).trans (blk3 m c t _ _)

/-! The conditioning projections' biases. -/

theorem pointD1 (x g y z : (⟨2, ![2, 3072]⟩ : Shape).Idx → EReal) (i : (⟨2, ![2, 3072]⟩ : Shape).Idx) :
    k0_pay9 (F := Ideal) x g y z i = Adam.delta (g i) (x i) (y i) (z i) := rfl
theorem pointM1 (g y : (⟨2, ![2, 3072]⟩ : Shape).Idx → EReal) (i : (⟨2, ![2, 3072]⟩ : Shape).Idx) : k0_pay7 (F := Ideal) g y i = Adam.mom1 (g i) (y i) := rfl
theorem pointU1 (g z : (⟨2, ![2, 3072]⟩ : Shape).Idx → EReal) (i : (⟨2, ![2, 3072]⟩ : Shape).Idx) : k0_pay8 (F := Ideal) g z i = Adam.mom2 (g i) (z i) := rfl

theorem arr3 : (dats m 0 c).arrAt 15 cfg0.N = D (A4 m c) (A5 m c) (A6 m c) (A7 m c) := by
  refine (dats m 0 c).arrAt_eq_of_covers 15 _ (by decide +kernel) fun t hf y => ?_
  blk_simp
  rw [after0_15]
  have hy : (y 0).val < 2 := (y 0).isLt
  have ey : y = ix2 (n0 := 2) (n1 := 3072) (y 0) (y 1) := eq_ix2 y
  have eG : (((View.whole main_v0_3).slice (win0_15.rect t)).emb y) = ix2 (n0 := 2) (n1 := 3072) (y 0) (y 1) := by
    blk_ext [idx15 t]
  rw [eG]
  refine (congrArg (out0_15 (F := Ideal) _ _ _ _ _ _ _ _ _ _ _ _) ey).trans ((Rows.canon_whole _ _ _ _ _).trans ((pointD1 _ _ _ _ _).trans ?_))
  refine Adam.delta_congr ?_ ?_ ?_ ?_
  · exact (Rows.ld_whole _ _ _ _).trans (blk5 m c t _ _)
  · exact (Rows.ld_whole _ _ _ _).trans (blk4 m c t _ _)
  · exact (Rows.ld_whole _ _ _ _).trans (blk6 m c t _ _)
  · exact (Rows.ld_whole _ _ _ _).trans (blk7 m c t _ _)

theorem arr4 : (dats m 0 c).arrAt 16 cfg0.N = M (A5 m c) (A6 m c) := by
  refine (dats m 0 c).arrAt_eq_of_covers 16 _ (by decide +kernel) fun t hf y => ?_
  blk_simp
  rw [after0_16]
  have hy : (y 0).val < 2 := (y 0).isLt
  have ey : y = ix2 (n0 := 2) (n1 := 3072) (y 0) (y 1) := eq_ix2 y
  have eG : (((View.whole main_v0_4).slice (win0_16.rect t)).emb y) = ix2 (n0 := 2) (n1 := 3072) (y 0) (y 1) := by
    blk_ext [idx16 t]
  rw [eG]
  refine (congrArg (out0_16 (F := Ideal) _ _ _ _ _ _ _ _ _ _ _ _) ey).trans ((Rows.canon_whole _ _ _ _ _).trans ((pointM1 _ _ _).trans ?_))
  refine congrArg₂ Adam.mom1 ?_ ?_
  · exact (Rows.ld_whole _ _ _ _).trans (blk5 m c t _ _)
  · exact (Rows.ld_whole _ _ _ _).trans (blk6 m c t _ _)

theorem arr5 : (dats m 0 c).arrAt 17 cfg0.N = U (A5 m c) (A7 m c) := by
  refine (dats m 0 c).arrAt_eq_of_covers 17 _ (by decide +kernel) fun t hf y => ?_
  blk_simp
  rw [after0_17]
  have hy : (y 0).val < 2 := (y 0).isLt
  have ey : y = ix2 (n0 := 2) (n1 := 3072) (y 0) (y 1) := eq_ix2 y
  have eG : (((View.whole main_v0_5).slice (win0_17.rect t)).emb y) = ix2 (n0 := 2) (n1 := 3072) (y 0) (y 1) := by
    blk_ext [idx17 t]
  rw [eG]
  refine (congrArg (out0_17 (F := Ideal) _ _ _ _ _ _ _ _ _ _ _ _) ey).trans ((Rows.canon_whole _ _ _ _ _).trans ((pointU1 _ _ _).trans ?_))
  refine congrArg₂ Adam.mom2 ?_ ?_
  · exact (Rows.ld_whole _ _ _ _).trans (blk5 m c t _ _)
  · exact (Rows.ld_whole _ _ _ _).trans (blk7 m c t _ _)

/-! The pooling's channel scale. -/

theorem pointD2 (x g y z : (⟨2, ![1, 1024]⟩ : Shape).Idx → EReal) (i : (⟨2, ![1, 1024]⟩ : Shape).Idx) :
    k0_pay3 (F := Ideal) x g y z i = Adam.delta (g i) (x i) (y i) (z i) := rfl
theorem pointM2 (g y : (⟨2, ![1, 1024]⟩ : Shape).Idx → EReal) (i : (⟨2, ![1, 1024]⟩ : Shape).Idx) : k0_pay1 (F := Ideal) g y i = Adam.mom1 (g i) (y i) := rfl
theorem pointU2 (g z : (⟨2, ![1, 1024]⟩ : Shape).Idx → EReal) (i : (⟨2, ![1, 1024]⟩ : Shape).Idx) : k0_pay2 (F := Ideal) g z i = Adam.mom2 (g i) (z i) := rfl

theorem arr6 : (dats m 0 c).arrAt 18 cfg0.N = D (A8 m c) (A9 m c) (A10 m c) (A11 m c) := by
  refine (dats m 0 c).arrAt_eq_of_covers 18 _ (by decide +kernel) fun t hf y => ?_
  blk_simp
  rw [after0_18]
  have hy : (y 0).val < 1 := (y 0).isLt
  have ey : y = ix2 (n0 := 1) (n1 := 1024) (y 0) (y 1) := eq_ix2 y
  have eG : (((View.whole main_v0_6).slice (win0_18.rect t)).emb y) = ix2 (n0 := 1) (n1 := 1024) (y 0) (y 1) := by
    blk_ext [idx18 t]
  rw [eG]
  refine (congrArg (out0_18 (F := Ideal) _ _ _ _ _ _ _ _ _ _ _ _) ey).trans ((Rows.canon_whole _ _ _ _ _).trans ((pointD2 _ _ _ _ _).trans ?_))
  refine Adam.delta_congr ?_ ?_ ?_ ?_
  · exact (Rows.ld_whole _ _ _ _).trans (blk9 m c t _ _)
  · exact (Rows.ld_whole _ _ _ _).trans (blk8 m c t _ _)
  · exact (Rows.ld_whole _ _ _ _).trans (blk10 m c t _ _)
  · exact (Rows.ld_whole _ _ _ _).trans (blk11 m c t _ _)

theorem arr7 : (dats m 0 c).arrAt 19 cfg0.N = M (A9 m c) (A10 m c) := by
  refine (dats m 0 c).arrAt_eq_of_covers 19 _ (by decide +kernel) fun t hf y => ?_
  blk_simp
  rw [after0_19]
  have hy : (y 0).val < 1 := (y 0).isLt
  have ey : y = ix2 (n0 := 1) (n1 := 1024) (y 0) (y 1) := eq_ix2 y
  have eG : (((View.whole main_v0_7).slice (win0_19.rect t)).emb y) = ix2 (n0 := 1) (n1 := 1024) (y 0) (y 1) := by
    blk_ext [idx19 t]
  rw [eG]
  refine (congrArg (out0_19 (F := Ideal) _ _ _ _ _ _ _ _ _ _ _ _) ey).trans ((Rows.canon_whole _ _ _ _ _).trans ((pointM2 _ _ _).trans ?_))
  refine congrArg₂ Adam.mom1 ?_ ?_
  · exact (Rows.ld_whole _ _ _ _).trans (blk9 m c t _ _)
  · exact (Rows.ld_whole _ _ _ _).trans (blk10 m c t _ _)

theorem arr8 : (dats m 0 c).arrAt 20 cfg0.N = U (A9 m c) (A11 m c) := by
  refine (dats m 0 c).arrAt_eq_of_covers 20 _ (by decide +kernel) fun t hf y => ?_
  blk_simp
  rw [after0_20]
  have hy : (y 0).val < 1 := (y 0).isLt
  have ey : y = ix2 (n0 := 1) (n1 := 1024) (y 0) (y 1) := eq_ix2 y
  have eG : (((View.whole main_v0_8).slice (win0_20.rect t)).emb y) = ix2 (n0 := 1) (n1 := 1024) (y 0) (y 1) := by
    blk_ext [idx20 t]
  rw [eG]
  refine (congrArg (out0_20 (F := Ideal) _ _ _ _ _ _ _ _ _ _ _ _) ey).trans ((Rows.canon_whole _ _ _ _ _).trans ((pointU2 _ _ _).trans ?_))
  refine congrArg₂ Adam.mom2 ?_ ?_
  · exact (Rows.ld_whole _ _ _ _).trans (blk9 m c t _ _)
  · exact (Rows.ld_whole _ _ _ _).trans (blk11 m c t _ _)

end Kernel

section Reference

open Cert.AdamSmallRefIdeal.Read

/-! The reference's step, entry by entry. -/

theorem refD0 (x g y z : Wt 2 1024) : val_main_v23 (F := Ideal) x g y z = D x g y z := rfl
theorem refM0 (g y : Wt 2 1024) : val_main_v4 (F := Ideal) g y = M g y := rfl
theorem refU0 (g z : Wt 2 1024) : val_main_v10 (F := Ideal) g z = U g z := rfl
theorem refD1 (x g y z : Wt 2 3072) : val_main_v47 (F := Ideal) x g y z = D x g y z := rfl
theorem refM1 (g y : Wt 2 3072) : val_main_v28 (F := Ideal) g y = M g y := rfl
theorem refU1 (g z : Wt 2 3072) : val_main_v34 (F := Ideal) g z = U g z := rfl
theorem refD2 (x g y z : Wt 1 1024) : val_main_v71 (F := Ideal) x g y z = D x g y z := rfl
theorem refM2 (g y : Wt 1 1024) : val_main_v52 (F := Ideal) g y = M g y := rfl
theorem refU2 (g z : Wt 1 1024) : val_main_v58 (F := Ideal) g z = U g z := rfl

end Reference

/-- The reference's frame. -/
theorem ref_frame : Cert.quiescent_AdamSmallRefIdeal := fun m ρ _ =>
  (θ_run Cert.AdamSmallRefIdeal.defs _ _).mono (fun r h => ⟨fun c => (h c).2.2.2.2.2.2.2.2.2,
      Idealize.ShloMosaic.sem_eq_zero_of_no_sems (by decide) r.2⟩)
    (Cert.AdamSmallRefIdeal.Value.run (F := Ideal) m ρ)

/-- Equal results. -/
theorem algebraic : Cert.algebraic_AdamSmallIdeal_AdamSmallRefIdeal := by
  intro m g m' g' _ hag
  refine ⟨fun c => D (A0 m c) (A1 m c) (A2 m c) (A3 m c),
    fun c => M (A1 m c) (A2 m c),
    fun c => U (A1 m c) (A3 m c),
    fun c => D (A4 m c) (A5 m c) (A6 m c) (A7 m c),
    fun c => M (A5 m c) (A6 m c),
    fun c => U (A5 m c) (A7 m c),
    fun c => D (A8 m c) (A9 m c) (A10 m c) (A11 m c),
    fun c => M (A9 m c) (A10 m c),
    fun c => U (A9 m c) (A11 m c), ?_, ?_⟩
  · refine (θ_run Cert.AdamSmallIdeal.defs _ _).mono (fun r h c => ?_) (Cert.AdamSmallIdeal.Value.run_blocks (F := Ideal) m g)
    obtain ⟨r0, r1, r2, r3, r4, r5, r6, r7, r8, ra⟩ := h c
    exact ⟨r0.trans (arr0 m c), r1.trans (arr1 m c), r2.trans (arr2 m c), r3.trans (arr3 m c), r4.trans (arr4 m c), r5.trans (arr5 m c), r6.trans (arr6 m c), r7.trans (arr7 m c), r8.trans (arr8 m c), ra⟩
  · refine (θ_run Cert.AdamSmallRefIdeal.defs _ _).mono (fun r h c => ?_) (Cert.AdamSmallRefIdeal.Value.run (F := Ideal) m' g')
    obtain ⟨r0, r1, r2, r3, r4, r5, r6, r7, r8, ra⟩ := h c
    obtain ⟨e0, e1, e2, e3, e4, e5, e6, e7, e8, e9, e10, e11⟩ := hag c
    refine ⟨r0.trans ((Cert.AdamSmallRefIdeal.Read.val_main_v23_eq _ _ _ _).trans ?_),
      r1.trans ((Cert.AdamSmallRefIdeal.Read.val_main_v4_eq _ _).trans ?_),
      r2.trans ((Cert.AdamSmallRefIdeal.Read.val_main_v10_eq _ _).trans ?_),
      r3.trans ((Cert.AdamSmallRefIdeal.Read.val_main_v47_eq _ _ _ _).trans ?_),
      r4.trans ((Cert.AdamSmallRefIdeal.Read.val_main_v28_eq _ _).trans ?_),
      r5.trans ((Cert.AdamSmallRefIdeal.Read.val_main_v34_eq _ _).trans ?_),
      r6.trans ((Cert.AdamSmallRefIdeal.Read.val_main_v71_eq _ _ _ _).trans ?_),
      r7.trans ((Cert.AdamSmallRefIdeal.Read.val_main_v52_eq _ _).trans ?_),
      r8.trans ((Cert.AdamSmallRefIdeal.Read.val_main_v58_eq _ _).trans ?_), ra⟩
    · exact (refD0 _ _ _ _).trans (congrD e0 e1 e2 e3)
    · exact (refM0 _ _).trans (congrArg₂ M e1 e2)
    · exact (refU0 _ _).trans (congrArg₂ U e1 e3)
    · exact (refD1 _ _ _ _).trans (congrD e4 e5 e6 e7)
    · exact (refM1 _ _).trans (congrArg₂ M e5 e6)
    · exact (refU1 _ _).trans (congrArg₂ U e5 e7)
    · exact (refD2 _ _ _ _).trans (congrD e8 e9 e10 e11)
    · exact (refM2 _ _).trans (congrArg₂ M e9 e10)
    · exact (refU2 _ _).trans (congrArg₂ U e9 e11)

end Cert.AdamS

end
-- ==== Proof.AdamAdaClaim.lean ====
/-
  The conditioning projections' weight: its gradient from the conditioning vectors and the modulation's gradients of the
  eight devices, and its AdamW step. The kernel and the reference leave equal results.
-/
module

public import proofs.«01_k».proof.Defs
public import proofs.«01_k».proof.Proof.Rows
public import proofs.«01_k».proof.Proof.AdamSpec
public import proofs.«01_k».proof.Proof.Gen.AdamAdaIdeal.Frame
public import Idealize.ShloMosaic.Lib.Pipeline.Value
public import proofs.«01_k».proof.Proof.Gen.AdamAdaRefIdeal.Run
public import proofs.«01_k».proof.Proof.Gen.AdamAdaRefIdeal.Read
public import proofs.«01_k».proof.Proof.Gen.AdamAdaIdeal
public import proofs.«01_k».proof.Proof.Gen.AdamAdaRefIdeal

@[expose] public section

noncomputable section

namespace Cert.AdamA

open Idealize.ShloMosaic Idealize.ShloMosaic.TcCoe Idealize.SL.Sem
open Idealize.ShloMosaic.Pipeline (Dat)

/-- The conditioning vectors, the modulation's gradients, and an array of the weight's shape. -/
abbrev Cs := (⟨2, ![8, 1024]⟩ : Shape).Idx → EReal
abbrev Dm := (⟨3, ![2, 8, 384]⟩ : Shape).Idx → EReal
abbrev Wt := (⟨3, ![2, 1024, 384]⟩ : Shape).Idx → EReal

/-- The gradient: the sum over the devices of the outer products. -/
def G0 (x : Cs) (y : Dm) : Wt := fun i => ∑ d : Fin 8, x (ix2 d (i 1)) * y (ix3 (i 0) d (i 2))
/-- The change of the weight and the two new moments. -/
def G1 (x : Cs) (y : Dm) (w m v : Wt) : Wt := fun i => Adam.delta (G0 x y i) (w i) (m i) (v i)
def G2 (x : Cs) (y : Dm) (m : Wt) : Wt := fun i => Adam.mom1 (G0 x y i) (m i)
def G3 (x : Cs) (y : Dm) (v : Wt) : Wt := fun i => Adam.mom2 (G0 x y i) (v i)

section Kernel

open Cert.AdamAdaIdeal Cert.AdamAdaIdeal.Gen

variable (m : (ℓ : Loc nD τ sig) → Buf (Elt Ideal) ℓ) (c : Dev nD)

/-- The five arguments. -/
abbrev A0 : Cs := m ((c : Thread nD τ).loc main_arg0)
abbrev A1 : Dm := m ((c : Thread nD τ).loc main_arg1)
abbrev A2 : Wt := m ((c : Thread nD τ).loc main_arg2)
abbrev A3 : Wt := m ((c : Thread nD τ).loc main_arg3)
abbrev A4 : Wt := m ((c : Thread nD τ).loc main_arg4)

theorem idx0 : ∀ t : Fin grid0.N, win0_0.index t = ![0, 0] := by decide +kernel
theorem idx1 : ∀ t : Fin grid0.N, win0_1.index t = ![t.val, 0, 0] := by decide +kernel
theorem idx2 : ∀ t : Fin grid0.N, win0_2.index t = ![t.val, 0, 0] := by decide +kernel
theorem idx3 : ∀ t : Fin grid0.N, win0_3.index t = ![t.val, 0, 0] := by decide +kernel
theorem idx4 : ∀ t : Fin grid0.N, win0_4.index t = ![t.val, 0, 0] := by decide +kernel
theorem idx5 : ∀ t : Fin grid0.N, win0_5.index t = ![t.val, 0, 0] := by decide +kernel
theorem idx6 : ∀ t : Fin grid0.N, win0_6.index t = ![t.val, 0, 0] := by decide +kernel
theorem idx7 : ∀ t : Fin grid0.N, win0_7.index t = ![t.val, 0, 0] := by decide +kernel
theorem idx8 : ∀ t : Fin grid0.N, win0_8.index t = ![t.val, 0, 0] := by decide +kernel

/-- The conditioning vectors reach the kernel transposed. -/
theorem cols : V m c main_v0 = (transpose S1024x8 [1, 0] (m ((c : Thread nD τ).loc main_arg0)) transposes_S8x1024_S1024x8_1_0 :
    (⟨S1024x8, .f32⟩ : BufTy).Contents (Elt Ideal)) := by
  show StableHlo.after hostOps0 (fun b => m (c, b)) main_v0 = _
  after_results_simp

/-- The arguments' blocks, at an index. -/
theorem blk0' (t : Fin cfg0.N) (a : Fin 1024) (d : Fin 8) :
    iblk m c 0 t (ix2 a d) = (V m c main_v0 : (⟨2, ![1024, 8]⟩ : Shape).Idx → EReal) (ix2 a d) := by
  blk_ext [iblk, idx0 t]
theorem blk0 (t : Fin cfg0.N) (a : Fin 1024) (d : Fin 8) : iblk m c 0 t (ix2 a d) = A0 m c (ix2 d a) := by
  refine (blk0' m c t a d).trans ?_
  rw [cols]
  pointwise []
theorem blk1 (t : Fin cfg0.N) (z : Fin 1) (d : Fin 8) (j : Fin 384) (l : Fin 2) (h : l.val = t.val) :
    iblk m c 1 t (ix3 z d j) = A1 m c (ix3 l d j) := by
  have hz : z.val = 0 := by omega
  refine Eq.trans ?_ (congrFun (V_main_arg1 m c) (ix3 l d j))
  blk_ext [iblk, idx1 t]

theorem blk2 (t : Fin cfg0.N) (z : Fin 1) (d : Fin 1024) (j : Fin 384) (l : Fin 2) (h : l.val = t.val) :
    iblk m c 2 t (ix3 z d j) = A2 m c (ix3 l d j) := by
  have hz : z.val = 0 := by omega
  refine Eq.trans ?_ (congrFun (V_main_arg2 m c) (ix3 l d j))
  blk_ext [iblk, idx2 t]
theorem blk3 (t : Fin cfg0.N) (z : Fin 1) (d : Fin 1024) (j : Fin 384) (l : Fin 2) (h : l.val = t.val) :
    iblk m c 3 t (ix3 z d j) = A3 m c (ix3 l d j) := by
  have hz : z.val = 0 := by omega
  refine Eq.trans ?_ (congrFun (V_main_arg3 m c) (ix3 l d j))
  blk_ext [iblk, idx3 t]
theorem blk4 (t : Fin cfg0.N) (z : Fin 1) (d : Fin 1024) (j : Fin 384) (l : Fin 2) (h : l.val = t.val) :
    iblk m c 4 t (ix3 z d j) = A4 m c (ix3 l d j) := by
  have hz : z.val = 0 := by omega
  refine Eq.trans ?_ (congrFun (V_main_arg4 m c) (ix3 l d j))
  blk_ext [iblk, idx4 t]

/-- One block's gradient, at an index. -/
theorem point3 (x : (⟨2, ![1024, 8]⟩ : Shape).Idx → EReal) (y : (⟨3, ![1, 8, 384]⟩ : Shape).Idx → EReal) (a : Fin 1024) (b : Fin 384) :
    k0_pay3 (F := Ideal) x y (ix2 a b)
      = x (ix2 a 0) * y (ix3 0 0 b) + x (ix2 a 1) * y (ix3 0 1 b) + x (ix2 a 2) * y (ix3 0 2 b) + x (ix2 a 3) * y (ix3 0 3 b) + x (ix2 a 4) * y (ix3 0 4 b) + x (ix2 a 5) * y (ix3 0 5 b) + x (ix2 a 6) * y (ix3 0 6 b) + x (ix2 a 7) * y (ix3 0 7 b) := by
  pointwise [k0_pay3]

/-- One block's results, at an index. -/
theorem point4 (g : (⟨2, ![1024, 384]⟩ : Shape).Idx → EReal) (z : Fin 1) (a : Fin 1024) (b : Fin 384) :
    k0_pay4 (F := Ideal) g (ix3 z a b) = g (ix2 a b) := by
  pointwise [k0_pay4]
theorem point7 (g : (⟨2, ![1024, 384]⟩ : Shape).Idx → EReal) (x y u : (⟨3, ![1, 1024, 384]⟩ : Shape).Idx → EReal)
    (z : Fin 1) (a : Fin 1024) (b : Fin 384) :
    k0_pay7 (F := Ideal) g x y u (ix3 z a b)
      = Adam.delta (g (ix2 a b)) (x (ix3 (n0 := 1) 0 a b)) (y (ix3 (n0 := 1) 0 a b)) (u (ix3 (n0 := 1) 0 a b)) := by
  pointwise [k0_pay7, k0_pay5, k0_pay6]
  rfl
theorem point1 (g : (⟨2, ![1024, 384]⟩ : Shape).Idx → EReal) (y : (⟨3, ![1, 1024, 384]⟩ : Shape).Idx → EReal)
    (z : Fin 1) (a : Fin 1024) (b : Fin 384) :
    k0_pay1 (F := Ideal) (k0_pay5 (F := Ideal) g y) (ix3 z a b) = Adam.mom1 (g (ix2 a b)) (y (ix3 (n0 := 1) 0 a b)) := by
  pointwise [k0_pay1, k0_pay5]
  rfl
theorem point2 (g : (⟨2, ![1024, 384]⟩ : Shape).Idx → EReal) (y : (⟨3, ![1, 1024, 384]⟩ : Shape).Idx → EReal)
    (z : Fin 1) (a : Fin 1024) (b : Fin 384) :
    k0_pay2 (F := Ideal) (k0_pay6 (F := Ideal) g y) (ix3 z a b) = Adam.mom2 (g (ix2 a b)) (y (ix3 (n0 := 1) 0 a b)) := by
  pointwise [k0_pay2, k0_pay6]
  rfl

/-- The block's gradient, at an index. -/
theorem grad_at (t : Fin cfg0.N) (a : Fin 1024) (b : Fin 384) (l : Fin 2) (h : l.val = t.val) :
    k0_pay8 (F := Ideal) (iblk m c 0 t) (iblk m c 1 t) (iblk m c 2 t) (iblk m c 3 t) (iblk m c 4 t) (ix2 a b)
      = G0 (A0 m c) (A1 m c) (ix3 l a b) := by
  refine (point3 _ _ a b).trans (Adam.sum8 _ _ _ _ _ _ _ _ _ ?_ ?_ ?_ ?_ ?_ ?_ ?_ ?_)
  · exact congrArg₂ (fun u v : EReal => u * v) ((Rows.ld_whole _ _ _ _).trans (blk0 m c t _ _))
      ((Rows.ld_slice 0 (by decide) _ _ _ _ _).trans (blk1 m c t _ _ _ _ h))
  · exact congrArg₂ (fun u v : EReal => u * v) ((Rows.ld_whole _ _ _ _).trans (blk0 m c t _ _))
      ((Rows.ld_slice 0 (by decide) _ _ _ _ _).trans (blk1 m c t _ _ _ _ h))
  · exact congrArg₂ (fun u v : EReal => u * v) ((Rows.ld_whole _ _ _ _).trans (blk0 m c t _ _))
      ((Rows.ld_slice 0 (by decide) _ _ _ _ _).trans (blk1 m c t _ _ _ _ h))
  · exact congrArg₂ (fun u v : EReal => u * v) ((Rows.ld_whole _ _ _ _).trans (blk0 m c t _ _))
      ((Rows.ld_slice 0 (by decide) _ _ _ _ _).trans (blk1 m c t _ _ _ _ h))
  · exact congrArg₂ (fun u v : EReal => u * v) ((Rows.ld_whole _ _ _ _).trans (blk0 m c t _ _))
      ((Rows.ld_slice 0 (by decide) _ _ _ _ _).trans (blk1 m c t _ _ _ _ h))
  · exact congrArg₂ (fun u v : EReal => u * v) ((Rows.ld_whole _ _ _ _).trans (blk0 m c t _ _))
      ((Rows.ld_slice 0 (by decide) _ _ _ _ _).trans (blk1 m c t _ _ _ _ h))
  · exact congrArg₂ (fun u v : EReal => u * v) ((Rows.ld_whole _ _ _ _).trans (blk0 m c t _ _))
      ((Rows.ld_slice 0 (by decide) _ _ _ _ _).trans (blk1 m c t _ _ _ _ h))
  · exact congrArg₂ (fun u v : EReal => u * v) ((Rows.ld_whole _ _ _ _).trans (blk0 m c t _ _))
      ((Rows.ld_slice 0 (by decide) _ _ _ _ _).trans (blk1 m c t _ _ _ _ h))

theorem arr5 : (dats m 0 c).arrAt 5 cfg0.N = G0 (A0 m c) (A1 m c) := by
  refine (dats m 0 c).arrAt_eq_of_covers 5 _ (by decide +kernel) fun t hf y => ?_
  blk_simp
  rw [after0_5]
  have ht : t.val < 2 := t.isLt
  have hy : (y 0).val < 1 := (y 0).isLt
  have ey : y = ix3 (n0 := 1) (n1 := 1024) (n2 := 384) (y 0) (y 1) (y 2) := eq_ix3 y
  have eG : (((View.whole main_v1_0).slice (win0_5.rect t)).emb y)
      = ix3 (n0 := 2) (n1 := 1024) (n2 := 384) ⟨t.val, ht⟩ (y 1) (y 2) := by
    blk_ext [idx5 t]
  rw [eG]
  refine (congrArg (out0_5 (F := Ideal) _ _ _ _ _) ey).trans ((Rows.canon_whole3 _ _ _ _ _ _).trans ((point4 _ _ _ _).trans (grad_at m c t _ _ _ rfl)))

theorem arr6 : (dats m 0 c).arrAt 6 cfg0.N = G1 (A0 m c) (A1 m c) (A2 m c) (A3 m c) (A4 m c) := by
  refine (dats m 0 c).arrAt_eq_of_covers 6 _ (by decide +kernel) fun t hf y => ?_
  blk_simp
  rw [after0_6]
  have ht : t.val < 2 := t.isLt
  have hy : (y 0).val < 1 := (y 0).isLt
  have ey : y = ix3 (n0 := 1) (n1 := 1024) (n2 := 384) (y 0) (y 1) (y 2) := eq_ix3 y
  have eG : (((View.whole main_v1_1).slice (win0_6.rect t)).emb y)
      = ix3 (n0 := 2) (n1 := 1024) (n2 := 384) ⟨t.val, ht⟩ (y 1) (y 2) := by
    blk_ext [idx6 t]
  rw [eG]
  refine (congrArg (out0_6 (F := Ideal) _ _ _ _ _) ey).trans ((Rows.canon_whole3 _ _ _ _ _ _).trans ((point7 _ _ _ _ _ _ _).trans (Adam.delta_congr (grad_at m c t _ _ _ rfl) ?_ ?_ ?_)))
  · exact (Rows.ld_slice 0 (by decide) _ _ _ _ _).trans (blk2 m c t _ _ _ _ rfl)
  · exact (Rows.ld_slice 0 (by decide) _ _ _ _ _).trans (blk3 m c t _ _ _ _ rfl)
  · exact (Rows.ld_slice 0 (by decide) _ _ _ _ _).trans (blk4 m c t _ _ _ _ rfl)

theorem arr7 : (dats m 0 c).arrAt 7 cfg0.N = G2 (A0 m c) (A1 m c) (A3 m c) := by
  refine (dats m 0 c).arrAt_eq_of_covers 7 _ (by decide +kernel) fun t hf y => ?_
  blk_simp
  rw [after0_7]
  have ht : t.val < 2 := t.isLt
  have hy : (y 0).val < 1 := (y 0).isLt
  have ey : y = ix3 (n0 := 1) (n1 := 1024) (n2 := 384) (y 0) (y 1) (y 2) := eq_ix3 y
  have eG : (((View.whole main_v1_2).slice (win0_7.rect t)).emb y)
      = ix3 (n0 := 2) (n1 := 1024) (n2 := 384) ⟨t.val, ht⟩ (y 1) (y 2) := by
    blk_ext [idx7 t]
  rw [eG]
  refine (congrArg (out0_7 (F := Ideal) _ _ _ _ _) ey).trans ((Rows.canon_whole3 _ _ _ _ _ _).trans ((point1 _ _ _ _ _).trans (congrArg₂ Adam.mom1 (grad_at m c t _ _ _ rfl) ?_)))
  · exact (Rows.ld_slice 0 (by decide) _ _ _ _ _).trans (blk3 m c t _ _ _ _ rfl)

theorem arr8 : (dats m 0 c).arrAt 8 cfg0.N = G3 (A0 m c) (A1 m c) (A4 m c) := by
  refine (dats m 0 c).arrAt_eq_of_covers 8 _ (by decide +kernel) fun t hf y => ?_
  blk_simp
  rw [after0_8]
  have ht : t.val < 2 := t.isLt
  have hy : (y 0).val < 1 := (y 0).isLt
  have ey : y = ix3 (n0 := 1) (n1 := 1024) (n2 := 384) (y 0) (y 1) (y 2) := eq_ix3 y
  have eG : (((View.whole main_v1_3).slice (win0_8.rect t)).emb y)
      = ix3 (n0 := 2) (n1 := 1024) (n2 := 384) ⟨t.val, ht⟩ (y 1) (y 2) := by
    blk_ext [idx8 t]
  rw [eG]
  refine (congrArg (out0_8 (F := Ideal) _ _ _ _ _) ey).trans ((Rows.canon_whole3 _ _ _ _ _ _).trans ((point2 _ _ _ _ _).trans (congrArg₂ Adam.mom2 (grad_at m c t _ _ _ rfl) ?_)))
  · exact (Rows.ld_slice 0 (by decide) _ _ _ _ _).trans (blk4 m c t _ _ _ _ rfl)

/-- The kernel's run: each output window's array is what the run of the grid leaves, and no argument changes. -/
theorem run (ρ : Dev nD → PrngReg) : θ_run defs (onTc (τ := τ) (main (F := Ideal))) ⟨m, fun _ => 0, ρ⟩ fun r => ∀ d : Dev nD,
      r.2.mem ((d : Thread nD τ).loc main_v1_0) = (dats m 0 d).arrAt 5 cfg0.N
      ∧ r.2.mem ((d : Thread nD τ).loc main_v1_1) = (dats m 0 d).arrAt 6 cfg0.N
      ∧ r.2.mem ((d : Thread nD τ).loc main_v1_2) = (dats m 0 d).arrAt 7 cfg0.N
      ∧ r.2.mem ((d : Thread nD τ).loc main_v1_3) = (dats m 0 d).arrAt 8 cfg0.N
      ∧ r.2.mem ((d : Thread nD τ).loc main_arg0) = m ((d : Thread nD τ).loc main_arg0)
      ∧ r.2.mem ((d : Thread nD τ).loc main_arg1) = m ((d : Thread nD τ).loc main_arg1)
      ∧ r.2.mem ((d : Thread nD τ).loc main_arg2) = m ((d : Thread nD τ).loc main_arg2)
      ∧ r.2.mem ((d : Thread nD τ).loc main_arg3) = m ((d : Thread nD τ).loc main_arg3)
      ∧ r.2.mem ((d : Thread nD τ).loc main_arg4) = m ((d : Thread nD τ).loc main_arg4) := by
  refine (θ_run defs _ _).mono (fun r h d => ?_) (run_main (F := Ideal) m ρ)
  obtain ⟨hw, hr⟩ := h d
  refine ⟨hw 5, hw 6, hw 7, hw 8, ?_, ?_, ?_, ?_, ?_⟩
  · exact (hr main_arg0 (Pipeline.mem_restRefs_of main_arg0 (by decide) (by decide))).trans (V_main_arg0 m d)
  · exact (hw 1).trans (((dats m 0 d).arrAt_in 1 rfl _).trans ((A_eq m d 1).trans (V_main_arg1 m d)))
  · exact (hw 2).trans (((dats m 0 d).arrAt_in 2 rfl _).trans ((A_eq m d 2).trans (V_main_arg2 m d)))
  · exact (hw 3).trans (((dats m 0 d).arrAt_in 3 rfl _).trans ((A_eq m d 3).trans (V_main_arg3 m d)))
  · exact (hw 4).trans (((dats m 0 d).arrAt_in 4 rfl _).trans ((A_eq m d 4).trans (V_main_arg4 m d)))

end Kernel

section Reference

open Cert.AdamAdaRefIdeal.Read

variable (x0 : Cs) (x1 : Dm) (x2 x3 x4 : Wt)

theorem ref0 : val_main_v4 (F := Ideal) x0 x1 = G0 x0 x1 := by
  funext i
  obtain ⟨l, k, j, rfl⟩ : ∃ (l : Fin 2) (k : Fin 1024) (j : Fin 384), i = ix3 l k j := ⟨i 0, i 1, i 2, eq_ix3 i⟩
  pointwise [val_main_v4, val_main_v3, val_main_v2]
  exact Finset.sum_congr rfl fun d _ => mul_comm (G := EReal) _ _
theorem ref1 : val_main_v28 (F := Ideal) x0 x1 x2 x3 x4 = G1 x0 x1 x2 x3 x4 := by
  unfold G1
  rw [← ref0]
  rfl
theorem ref2 : val_main_v9 (F := Ideal) x0 x1 x3 = G2 x0 x1 x3 := by
  unfold G2
  rw [← ref0]
  rfl
theorem ref3 : val_main_v15 (F := Ideal) x0 x1 x4 = G3 x0 x1 x4 := by
  unfold G3
  rw [← ref0]
  rfl

end Reference

/-- The reference's frame. -/
theorem ref_frame : Cert.quiescent_AdamAdaRefIdeal := fun m ρ _ =>
  (θ_run Cert.AdamAdaRefIdeal.defs _ _).mono (fun r h => ⟨fun c => (h c).2.2.2.2,
      Idealize.ShloMosaic.sem_eq_zero_of_no_sems (by decide) r.2⟩)
    (Cert.AdamAdaRefIdeal.Value.run (F := Ideal) m ρ)

/-- Equal results. -/
theorem algebraic : Cert.algebraic_AdamAdaIdeal_AdamAdaRefIdeal := by
  intro m g m' g' _ hag
  refine ⟨fun c => G0 (A0 m c) (A1 m c), fun c => G1 (A0 m c) (A1 m c) (A2 m c) (A3 m c) (A4 m c),
    fun c => G2 (A0 m c) (A1 m c) (A3 m c), fun c => G3 (A0 m c) (A1 m c) (A4 m c), ?_, ?_⟩
  · refine (θ_run Cert.AdamAdaIdeal.defs _ _).mono (fun r h c => ?_) (run m g)
    obtain ⟨r0, r1, r2, r3, ra⟩ := h c
    exact ⟨r0.trans (arr5 m c), r1.trans (arr6 m c), r2.trans (arr7 m c), r3.trans (arr8 m c), ra⟩
  · refine (θ_run Cert.AdamAdaRefIdeal.defs _ _).mono (fun r h c => ?_) (Cert.AdamAdaRefIdeal.Value.run (F := Ideal) m' g')
    obtain ⟨r0, r1, r2, r3, ra⟩ := h c
    obtain ⟨e0, e1, e2, e3, e4⟩ := hag c
    refine ⟨r0.trans ((Cert.AdamAdaRefIdeal.Read.val_main_v4_eq _ _).trans ?_),
      r1.trans ((Cert.AdamAdaRefIdeal.Read.val_main_v28_eq _ _ _ _ _).trans ?_),
      r2.trans ((Cert.AdamAdaRefIdeal.Read.val_main_v9_eq _ _ _).trans ?_),
      r3.trans ((Cert.AdamAdaRefIdeal.Read.val_main_v15_eq _ _ _).trans ?_), ra⟩
    · rw [e0, e1]; exact ref0 _ _
    · rw [e0, e1, e2, e3, e4]; exact ref1 _ _ _ _ _
    · rw [e0, e1, e3]; exact ref2 _ _ _
    · rw [e0, e1, e4]; exact ref3 _ _ _

end Cert.AdamA

end
-- ==== Proof.GateFwdClaim.lean ====
/-
  The first layer's gate: the pooling's output and the attention's, side by side, times the gate's `x · logistic x`. The
  kernel's two results, the gated array and its transpose, are the reference's.
-/
module

public import proofs.«01_k».proof.Defs
public import proofs.«01_k».proof.Proof.Rows
public import proofs.«01_k».proof.Proof.GateArray
public import proofs.«01_k».proof.Proof.GateBwdClaim
public import proofs.«01_k».proof.Proof.Gen.GateFwdIdeal.Value
public import proofs.«01_k».proof.Proof.Gen.GateFwdRefIdeal.Run
public import proofs.«01_k».proof.Proof.Gen.GateFwdRefIdeal.Read
public import proofs.«01_k».proof.Proof.Gen.GateFwdIdeal
public import proofs.«01_k».proof.Proof.Gen.GateFwdRefIdeal

@[expose] public section

noncomputable section

namespace Cert.GateF

open Idealize.ShloMosaic Idealize.ShloMosaic.TcCoe Idealize.SL.Sem
open Idealize.ShloMosaic.Pipeline (Dat)
open Cert.Conv (sgm)
open Cert.Norm (A2)
open Cert.GateB (gt lo hi cat sgm_neg)

/-- The gated product. -/
def yy (Y O : A2 4096 1024) (P : A2 4096 6144) (S : A2 1 1024) (r : Fin 4096) (e : Fin 2048) : EReal :=
  cat Y O S r e * (gt P r e * sgm (gt P r e))

/-- The two results. -/
def G4 (Y O : A2 4096 1024) (P : A2 4096 6144) (S : A2 1 1024) : A2 4096 2048 := fun i => yy Y O P S (i 0) (i 1)
def G5 (Y O : A2 4096 1024) (P : A2 4096 6144) (S : A2 1 1024) : A2 2048 4096 := fun i => yy Y O P S (i 1) (i 0)

/-- The newest band of rows written wins at its own rows; every other row is as the older writes left it. -/
theorem canon_rows {Val : EltTy → Type} {e : EltTy} [∀ e, Nonempty (Val e)] {n w : ℕ} (o b : ℕ) (hb : o + b ≤ n) (inb)
    (v : (Rect.unit (s := ⟨2, ![n, w]⟩) ![o, 0] ![b, w] inb).shape.Idx → Val e)
    (L : List (View.Piece Val ⟨2, ![n, w]⟩ e)) (a : Fin n) (c : Fin w) :
    View.canon (⟨Rect.unit (s := ⟨2, ![n, w]⟩) ![o, 0] ![b, w] inb, v⟩ :: L) (ix2 a c)
      = if h : o ≤ a.val ∧ a.val < o + b then v (ix2 (n0 := b) (n1 := w) ⟨a.val - o, by omega⟩ c)
        else View.canon L (ix2 a c) := by
  split
  · rename_i h
    have : ix2 a c = (Rect.unit (s := ⟨2, ![n, w]⟩) ![o, 0] ![b, w] inb).emb
        (ix2 (n0 := b) (n1 := w) ⟨a.val - o, by omega⟩ c) := by
      funext d
      match d with
      | ⟨0, _⟩ => exact Fin.ext (by show a.val = o + 1 * (a.val - o); omega)
      | ⟨1, _⟩ => exact Fin.ext (by show c.val = 0 + 1 * c.val; omega)
    rw [this, View.canon_cons_emb]
  · rename_i h
    refine View.canon_cons_of_not_mem _ _ fun hm => ?_
    have := (Rect.mem_set_unit (s := ⟨2, ![n, w]⟩) (inb := inb)).mp hm 0
    exact h this

section Kernel

open Cert.GateFwdIdeal Cert.GateFwdIdeal.Gen

variable (m : (ℓ : Loc nD τ sig) → Buf (Elt Ideal) ℓ) (c : Dev nD)

/-- The four arguments. -/
abbrev YY : A2 4096 1024 := m ((c : Thread nD τ).loc main_arg0)
abbrev OO : A2 4096 1024 := m ((c : Thread nD τ).loc main_arg1)
abbrev PP : A2 4096 6144 := m ((c : Thread nD τ).loc main_arg2)
abbrev SS : A2 1 1024 := m ((c : Thread nD τ).loc main_arg3)

theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![t.val, 2] := by decide +kernel
theorem idx3 : ∀ t : Fin grid0.N, win0_3.index t = ![0, 0] := by decide +kernel
theorem idx4 : ∀ t : Fin grid0.N, win0_4.index t = ![t.val, 0] := by decide +kernel
theorem idx5 : ∀ t : Fin grid0.N, win0_5.index t = ![0, t.val] := by decide +kernel

/-- Row `a` of the block of grid point `t`. -/
abbrev row (t : Fin cfg0.N) (a : Fin 256) : Fin 4096 := ⟨256 * t.val + a.val, by
  have ht : t.val < 16 := t.isLt
  omega⟩

theorem b0 (t : Fin cfg0.N) (a : Fin 256) (e : Fin 1024) : iblk m c 0 t (ix2 a e) = YY m c (ix2 (row t a) e) := by
  blk_ext [iblk, V, idx0 t]
theorem b1 (t : Fin cfg0.N) (a : Fin 256) (e : Fin 1024) : iblk m c 1 t (ix2 a e) = OO m c (ix2 (row t a) e) := by
  blk_ext [iblk, V, idx1 t]
theorem b2 (t : Fin cfg0.N) (a : Fin 256) (e : Fin 2048) : iblk m c 2 t (ix2 a e) = gt (PP m c) (row t a) e := by
  unfold gt
  blk_ext [iblk, V, idx2 t]
theorem b3 (t : Fin cfg0.N) (z : Fin 1) (e : Fin 1024) : iblk m c 3 t (ix2 z e) = SS m c (ix2 0 e) := by
  have hz : z.val = 0 := by omega
  blk_ext [iblk, V, idx3 t]

/-- One block's gate, and the two halves of its product. -/
theorem p1 (g : S256x2048.Idx → EReal) (a : Fin 256) (e : Fin 2048) :
    k0_pay1 (F := Ideal) g (ix2 a e) = g (ix2 a e) * sgm (g (ix2 a e)) := by
  pointwise [k0_pay1]
  rfl
theorem p2 (g : S256x2048.Idx → EReal) (y : S256x1024.Idx → EReal) (p : S1x1024.Idx → EReal) (a : Fin 256) (b : Fin 1024) :
    k0_pay2 (F := Ideal) g y p (ix2 a b) = y (ix2 a b) * p (ix2 0 b) * k0_pay1 (F := Ideal) g (ix2 a (lo b)) := by
  pointwise [k0_pay2]
  rfl
theorem p3 (g : S256x2048.Idx → EReal) (o : S256x1024.Idx → EReal) (a : Fin 256) (b : Fin 1024) :
    k0_pay3 (F := Ideal) g o (ix2 a b) = o (ix2 a b) * k0_pay1 (F := Ideal) g (ix2 a (hi b)) := by
  pointwise [k0_pay3]
  rfl
theorem p4 (g : S256x2048.Idx → EReal) (y : S256x1024.Idx → EReal) (p : S1x1024.Idx → EReal) (b : Fin 1024) (a : Fin 256) :
    k0_pay4 (F := Ideal) g y p (ix2 b a) = k0_pay2 (F := Ideal) g y p (ix2 a b) := by
  pointwise [k0_pay4]
theorem p5 (g : S256x2048.Idx → EReal) (o : S256x1024.Idx → EReal) (b : Fin 1024) (a : Fin 256) :
    k0_pay5 (F := Ideal) g o (ix2 b a) = k0_pay3 (F := Ideal) g o (ix2 a b) := by
  pointwise [k0_pay5]

/-- The left half of a block is the product's, and so is the right half. -/
theorem left (t : Fin cfg0.N) (a : Fin 256) (b : Fin 1024) (e : Fin 2048) (he : e.val = b.val) (i0 i1 i2) :
    k0_pay2 (F := Ideal) (View.ld (iblk m c 2 t) (Rect.unit ![0, 0] ![256, 2048] i0)) (View.ld (iblk m c 0 t) (Rect.unit ![0, 0] ![256, 1024] i1))
      (View.ld (iblk m c 3 t) (Rect.unit ![0, 0] ![1, 1024] i2)) (ix2 a b) = yy (YY m c) (OO m c) (PP m c) (SS m c) (row t a) e := by
  obtain rfl : e = lo b := Fin.ext he
  have hc : cat (YY m c) (OO m c) (SS m c) (row t a) (lo b) = YY m c (ix2 (row t a) b) * SS m c (ix2 0 b) :=
    dif_pos b.isLt
  unfold yy
  rw [hc]
  refine (p2 _ _ _ _ _).trans (congrArg₂ (fun u v : EReal => u * v)
    (congrArg₂ (fun u v : EReal => u * v) ((Rows.ld_whole _ _ _ _).trans (b0 m c t a b)) ((Rows.ld_whole _ _ _ _).trans (b3 m c t 0 b))) ?_)
  exact (p1 _ _ _).trans (congrArg (fun u => u * sgm u) ((Rows.ld_whole _ _ _ _).trans (b2 m c t a (lo b))))

theorem right (t : Fin cfg0.N) (a : Fin 256) (b : Fin 1024) (e : Fin 2048) (he : e.val = 1024 + b.val) (i0 i1) :
    k0_pay3 (F := Ideal) (View.ld (iblk m c 2 t) (Rect.unit ![0, 0] ![256, 2048] i0)) (View.ld (iblk m c 1 t) (Rect.unit ![0, 0] ![256, 1024] i1))
      (ix2 a b) = yy (YY m c) (OO m c) (PP m c) (SS m c) (row t a) e := by
  obtain rfl : e = hi b := Fin.ext he
  have hc : cat (YY m c) (OO m c) (SS m c) (row t a) (hi b) = OO m c (ix2 (row t a) b) :=
    (dif_neg (by show ¬ 1024 + b.val < 1024; omega)).trans
      (congrArg (fun u => OO m c (ix2 (row t a) u)) (Fin.ext (by show 1024 + b.val - 1024 = b.val; omega)))
  unfold yy
  rw [hc]
  refine (p3 _ _ _ _).trans (congrArg₂ (fun u v : EReal => u * v) ((Rows.ld_whole _ _ _ _).trans (b1 m c t a b)) ?_)
  exact (p1 _ _ _).trans (congrArg (fun u => u * sgm u) ((Rows.ld_whole _ _ _ _).trans (b2 m c t a (hi b))))

theorem arr4 : (dats m 0 c).arrAt 4 cfg0.N = G4 (YY m c) (OO m c) (PP m c) (SS m c) := by
  refine (dats m 0 c).arrAt_eq_of_covers 4 _ (by decide +kernel) fun t hf y => ?_
  blk_simp
  rw [after0_4]
  have ht : t.val < 16 := t.isLt
  have hy : (y 0).val < 256 := (y 0).isLt
  have hy1 : (y 1).val < 2048 := (y 1).isLt
  have ey : y = ix2 (n0 := 256) (n1 := 2048) (y 0) (y 1) := eq_ix2 y
  have eG : (((View.whole main_v0_0).slice (win0_4.rect t)).emb y) = ix2 (n0 := 4096) (n1 := 2048) (row t (y 0)) (y 1) := by
    blk_ext [idx4 t]
  rw [eG]
  refine (congrArg (out0_4 (F := Ideal) _ _ _ _) ey).trans ((Rows.canon_band 1024 1024 (by decide) _ _ _ _ _).trans ?_)
  split
  · rename_i h
    exact right m c t _ _ _ (by show (y 1).val = 1024 + ((y 1).val - 1024); omega) _ _
  · rename_i h
    refine (Rows.canon_band 0 1024 (by decide) _ _ _ _ _).trans ((dif_pos (by omega)).trans ?_)
    exact left m c t _ _ _ (by show (y 1).val = (y 1).val - 0; omega) _ _ _

theorem arr5 : (dats m 0 c).arrAt 5 cfg0.N = G5 (YY m c) (OO m c) (PP m c) (SS m c) := by
  refine (dats m 0 c).arrAt_eq_of_covers 5 _ (by decide +kernel) fun t hf y => ?_
  blk_simp
  rw [after0_5]
  have ht : t.val < 16 := t.isLt
  have hy : (y 1).val < 256 := (y 1).isLt
  have hy0 : (y 0).val < 2048 := (y 0).isLt
  have ey : y = ix2 (n0 := 2048) (n1 := 256) (y 0) (y 1) := eq_ix2 y
  have eG : (((View.whole main_v0_1).slice (win0_5.rect t)).emb y) = ix2 (n0 := 2048) (n1 := 4096) (y 0) (row t (y 1)) := by
    blk_ext [idx5 t]
  rw [eG]
  refine (congrArg (out0_5 (F := Ideal) _ _ _ _) ey).trans ((canon_rows 1024 1024 (by decide) _ _ _ _ _).trans ?_)
  split
  · rename_i h
    exact (p5 _ _ _ _).trans (right m c t _ _ _ (by show (y 0).val = 1024 + ((y 0).val - 1024); omega) _ _)
  · rename_i h
    refine (canon_rows 0 1024 (by decide) _ _ _ _ _).trans ((dif_pos (by omega)).trans ?_)
    exact (p4 _ _ _ _ _).trans (left m c t _ _ _ (by show (y 0).val = (y 0).val - 0; omega) _ _ _)

end Kernel

section Reference

open Cert.GateFwdRefIdeal.Read

variable (x0 x1 : A2 4096 1024) (x2 : A2 4096 6144) (x3 : A2 1 1024)

theorem v1 (r : Fin 4096) (e : Fin 2048) : val_main_v1 (F := Ideal) x2 (ix2 r e) = gt x2 r e := by
  pointwise [val_main_v1, val_main_v0]
  rfl

theorem v5 (r : Fin 4096) (e : Fin 2048) : val_main_v5 (F := Ideal) x2 (ix2 r e) = gt x2 r e * sgm (gt x2 r e) := by
  pointwise [val_main_v5, val_main_call0_v5, val_main_call0_v4, val_main_call0_cst_0, val_main_call0_v3, val_main_call0_v2,
    val_main_call0_cst, val_main_call0_v1, val_main_call0_v0]
  rw [v1]
  exact congrArg (fun u : EReal => gt x2 r e * u) (sgm_neg _)

theorem v3 (r : Fin 4096) (b : Fin 1024) : val_main_v3 (F := Ideal) x0 x3 (ix2 r b) = x0 (ix2 r b) * x3 (ix2 0 b) := by
  pointwise [val_main_v3, val_main_v2]

theorem v4 (r : Fin 4096) (e : Fin 2048) : val_main_v4 (F := Ideal) x0 x1 x3 (ix2 r e) = cat x0 x1 x3 r e := by
  pointwise [val_main_v4, val_main_v3, val_main_v2]
  rfl

theorem v6 (r : Fin 4096) (e : Fin 2048) : val_main_v6 (F := Ideal) x0 x1 x2 x3 (ix2 r e) = yy x0 x1 x2 x3 r e := by
  pointwise [val_main_v6]
  rw [v4, v5]
  rfl

/-- The reference's two results. -/
theorem ref4 : val_main_v7 (F := Ideal) x0 x1 x2 x3 = G4 x0 x1 x2 x3 := by
  funext i
  obtain ⟨a, b, rfl⟩ : ∃ (a : Fin 4096) (b : Fin 2048), i = ix2 a b := ⟨i 0, i 1, eq_ix2 i⟩
  exact v6 x0 x1 x2 x3 a b
theorem ref5 : val_main_v9 (F := Ideal) x0 x1 x2 x3 = G5 x0 x1 x2 x3 := by
  funext i
  obtain ⟨a, b, rfl⟩ : ∃ (a : Fin 2048) (b : Fin 4096), i = ix2 a b := ⟨i 0, i 1, eq_ix2 i⟩
  pointwise [val_main_v9, val_main_v8]
  exact v6 x0 x1 x2 x3 b a

end Reference

/-- The reference's frame. -/
theorem ref_frame : Cert.quiescent_GateFwdRefIdeal := fun m ρ _ =>
  (θ_run Cert.GateFwdRefIdeal.defs _ _).mono (fun r h => ⟨fun c => (h c).2.2,
      Idealize.ShloMosaic.sem_eq_zero_of_no_sems (by decide) r.2⟩)
    (Cert.GateFwdRefIdeal.Value.run (F := Ideal) m ρ)

/-- Equal results. -/
theorem algebraic : Cert.algebraic_GateFwdIdeal_GateFwdRefIdeal := by
  intro m g m' g' _ hag
  refine ⟨fun c => G4 (YY m c) (OO m c) (PP m c) (SS m c), fun c => G5 (YY m c) (OO m c) (PP m c) (SS m c), ?_, ?_⟩
  · refine (θ_run Cert.GateFwdIdeal.defs _ _).mono (fun r h c => ?_) (Cert.GateFwdIdeal.Value.run_blocks (F := Ideal) m g)
    obtain ⟨r0, r1, ra⟩ := h c
    exact ⟨r0.trans (arr4 m c), r1.trans (arr5 m c), ra⟩
  · refine (θ_run Cert.GateFwdRefIdeal.defs _ _).mono (fun r h c => ?_) (Cert.GateFwdRefIdeal.Value.run (F := Ideal) m' g')
    obtain ⟨r0, r1, ra⟩ := h c
    obtain ⟨e0, e1, e2, e3⟩ := hag c
    refine ⟨r0.trans ((Cert.GateFwdRefIdeal.Read.val_main_v7_eq _ _ _ _).trans ?_),
      r1.trans ((Cert.GateFwdRefIdeal.Read.val_main_v9_eq _ _ _ _).trans ?_), ra⟩
    · rw [e0, e1, e2, e3]; exact ref4 _ _ _ _
    · rw [e0, e1, e2, e3]; exact ref5 _ _ _ _

end Cert.GateF

end
-- ==== Proof.LnModClaim.lean ====
/-
  The modulated norm of the step's input: sixteen blocks of 256 rows. The kernel's two results, the normed array and its
  transpose, are the reference's.
-/
module

public import proofs.«01_k».proof.Defs
public import proofs.«01_k».proof.Proof.Rows
public import proofs.«01_k».proof.Proof.NormSpec
public import proofs.«01_k».proof.Proof.Gen.LnModIdeal.Value
public import proofs.«01_k».proof.Proof.Gen.LnModRefIdeal.Run
public import proofs.«01_k».proof.Proof.Gen.LnModRefIdeal.Read
public import proofs.«01_k».proof.Proof.Gen.LnModIdeal
public import proofs.«01_k».proof.Proof.Gen.LnModRefIdeal

@[expose] public section

noncomputable section

namespace Cert.LnM

open Idealize.ShloMosaic Idealize.ShloMosaic.TcCoe Idealize.SL.Sem
open Idealize.ShloMosaic.Pipeline (Dat)
open Cert.Norm (A2 rs xn k1024 keps)

/-- The normed and modulated array. -/
def hh (X : A2 4096 1024) (g s b : A2 1 1024) (r : Fin 4096) (a : Fin 1024) : EReal :=
  xn X r a * g (ix2 0 a) * (1 + s (ix2 0 a)) + b (ix2 0 a)

/-- The two results. -/
def G4 (X : A2 4096 1024) (g s b : A2 1 1024) : A2 4096 1024 := fun i => hh X g s b (i 0) (i 1)
def G5 (X : A2 4096 1024) (g s b : A2 1 1024) : A2 1024 4096 := fun i => hh X g s b (i 1) (i 0)

section Kernel

open Cert.LnModIdeal Cert.LnModIdeal.Gen

variable (m : (ℓ : Loc nD τ sig) → Buf (Elt Ideal) ℓ) (c : Dev nD)

/-- The input, the norm's gain, its scale and its shift. -/
abbrev B0 : A2 4096 1024 := m ((c : Thread nD τ).loc main_arg0)
abbrev B1 : A2 1 1024 := m ((c : Thread nD τ).loc main_arg1)
abbrev B2 : A2 1 1024 := m ((c : Thread nD τ).loc main_arg2)
abbrev B3 : A2 1 1024 := m ((c : Thread nD τ).loc main_arg3)

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![0, 0] := by decide +kernel
theorem idx3 : ∀ t : Fin grid0.N, win0_3.index t = ![0, 0] := by decide +kernel
theorem idx4 : ∀ t : Fin grid0.N, win0_4.index t = ![t.val, 0] := by decide +kernel
theorem idx5 : ∀ t : Fin grid0.N, win0_5.index t = ![0, t.val] := by decide +kernel

/-- Row `a` of the block of grid point `t`. -/
abbrev row (t : Fin cfg0.N) (a : Fin 256) : Fin 4096 := ⟨256 * t.val + a.val, by
  have ht : t.val < 16 := t.isLt
  omega⟩

theorem blk0 (t : Fin cfg0.N) (a : Fin 256) (e : Fin 1024) : iblk m c 0 t (ix2 a e) = B0 m c (ix2 (row t a) e) := by
  blk_ext [iblk, V, idx0 t]
theorem blk1 (t : Fin cfg0.N) (e : Fin 1024) : iblk m c 1 t (ix2 (0 : Fin 1) e) = B1 m c (ix2 0 e) := by
  blk_ext [iblk, V, idx1 t]
theorem blk2 (t : Fin cfg0.N) (e : Fin 1024) : iblk m c 2 t (ix2 (0 : Fin 1) e) = B2 m c (ix2 0 e) := by
  blk_ext [iblk, V, idx2 t]
theorem blk3 (t : Fin cfg0.N) (e : Fin 1024) : iblk m c 3 t (ix2 (0 : Fin 1) e) = B3 m c (ix2 0 e) := by
  blk_ext [iblk, V, idx3 t]

/-- One block's result, at an index. -/
theorem point1 (x : (⟨2, ![256, 1024]⟩ : Shape).Idx → EReal) (g s b : (⟨2, ![1, 1024]⟩ : Shape).Idx → EReal)
    (a : Fin 256) (e : Fin 1024) :
    k0_pay1 (F := Ideal) x g s b (ix2 a e)
      = x (ix2 a e) * Ideal.rsqrt (Ideal.div (∑ k : Fin 1024, x (ix2 a k) * x (ix2 a k)) k1024 + keps) * g (ix2 0 e)
        * (1 + s (ix2 0 e)) + b (ix2 0 e) := by
  pointwise [k0_pay1]

/-- The norm, of a block that is rows of the array. -/
theorem norm_of {X : A2 4096 1024} {g s b : A2 1 1024} {r : Fin 4096} {e : Fin 1024} (f : Fin 1024 → EReal) (u v w : EReal)
    (hf : ∀ k, f k = X (ix2 r k)) (hu : u = g (ix2 0 e)) (hv : v = s (ix2 0 e)) (hw : w = b (ix2 0 e)) :
    f e * Ideal.rsqrt (Ideal.div (∑ k : Fin 1024, f k * f k) k1024 + keps) * u * (1 + v) + w = hh X g s b r e := by
  obtain rfl : f = fun k => X (ix2 r k) := funext hf
  rw [hu, hv, hw]
  rfl

theorem at1 (t : Fin cfg0.N) (a : Fin 256) (e : Fin 1024) (i0 i1 i2 i3) :
    k0_pay1 (F := Ideal) (View.ld (iblk m c 0 t) (Rect.unit ![0, 0] ![256, 1024] i0)) (View.ld (iblk m c 1 t) (Rect.unit ![0, 0] ![1, 1024] i1))
      (View.ld (iblk m c 2 t) (Rect.unit ![0, 0] ![1, 1024] i2)) (View.ld (iblk m c 3 t) (Rect.unit ![0, 0] ![1, 1024] i3)) (ix2 a e)
      = hh (B0 m c) (B1 m c) (B2 m c) (B3 m c) (row t a) e :=
  (point1 _ _ _ _ a e).trans (norm_of
    (fun k => View.ld (iblk m c 0 t) (Rect.unit (s := S256x1024) ![0, 0] ![256, 1024] i0) (ix2 (n0 := 256) (n1 := 1024) a k)) _ _ _
    (fun k => (Rows.ld_whole _ _ _ _).trans (blk0 m c t a k)) ((Rows.ld_whole _ _ _ _).trans (blk1 m c t e))
    ((Rows.ld_whole _ _ _ _).trans (blk2 m c t e)) ((Rows.ld_whole _ _ _ _).trans (blk3 m c t e)))

theorem point2 (x : (⟨2, ![256, 1024]⟩ : Shape).Idx → EReal) (g s b : (⟨2, ![1, 1024]⟩ : Shape).Idx → EReal)
    (e : Fin 1024) (a : Fin 256) : k0_pay2 (F := Ideal) x g s b (ix2 e a) = k0_pay1 (F := Ideal) x g s b (ix2 a e) := by
  pointwise [k0_pay2]

theorem arr4 : (dats m 0 c).arrAt 4 cfg0.N = G4 (B0 m c) (B1 m c) (B2 m c) (B3 m c) := by
  refine (dats m 0 c).arrAt_eq_of_covers 4 _ (by decide +kernel) fun t hf y => ?_
  blk_simp
  rw [after0_4]
  have ht : t.val < 16 := t.isLt
  have hy : (y 0).val < 256 := (y 0).isLt
  have ey : y = ix2 (n0 := 256) (n1 := 1024) (y 0) (y 1) := eq_ix2 y
  have eG : (((View.whole main_v0_0).slice (win0_4.rect t)).emb y) = ix2 (n0 := 4096) (n1 := 1024) (row t (y 0)) (y 1) := by
    blk_ext [idx4 t]
  rw [eG]
  exact (congrArg (out0_4 (F := Ideal) _ _ _ _) ey).trans ((Rows.canon_whole _ _ _ _ _).trans (at1 m c t _ _ _ _ _ _))

theorem arr5 : (dats m 0 c).arrAt 5 cfg0.N = G5 (B0 m c) (B1 m c) (B2 m c) (B3 m c) := by
  refine (dats m 0 c).arrAt_eq_of_covers 5 _ (by decide +kernel) fun t hf y => ?_
  blk_simp
  rw [after0_5]
  have ht : t.val < 16 := t.isLt
  have hy : (y 1).val < 256 := (y 1).isLt
  have ey : y = ix2 (n0 := 1024) (n1 := 256) (y 0) (y 1) := eq_ix2 y
  have eG : (((View.whole main_v0_1).slice (win0_5.rect t)).emb y) = ix2 (n0 := 1024) (n1 := 4096) (y 0) (row t (y 1)) := by
    blk_ext [idx5 t]
  rw [eG]
  exact (congrArg (out0_5 (F := Ideal) _ _ _ _) ey).trans ((Rows.canon_whole _ _ _ _ _).trans
    ((point2 _ _ _ _ _ _).trans (at1 m c t _ _ _ _ _ _)))

end Kernel

section Reference

open Cert.LnModRefIdeal.Read

variable (x0 : A2 4096 1024) (x1 x2 x3 : A2 1 1024)

theorem v17 (r : Fin 4096) (a : Fin 1024) : val_main_v17 (F := Ideal) x0 x1 x2 x3 (ix2 r a) = hh x0 x1 x2 x3 r a := by
  have e7 : ∀ z : Fin 1, val_main_v7 (F := Ideal) x0 (ix2 r z) = rs x0 r := by
    intro z
    refine congrArg Ideal.rsqrt ?_
    pointwise [val_main_v6, val_main_v5, val_main_cst_1, val_main_v4, val_main_v3, val_main_cst_0, val_main_v2, val_main_v1,
      val_main_cst, val_main_v0]
  pointwise [val_main_v17, val_main_v16, val_main_v15, val_main_v14, val_main_v13, val_main_v12, val_main_cst_2, val_main_v11,
    val_main_v10, val_main_v9, val_main_v8]
  rw [e7]
  rfl

/-- The reference's two results. -/
theorem ref4 : val_main_v18 (F := Ideal) x0 x1 x2 x3 = G4 x0 x1 x2 x3 := by
  funext i
  obtain ⟨a, b, rfl⟩ : ∃ (a : Fin 4096) (b : Fin 1024), i = ix2 a b := ⟨i 0, i 1, eq_ix2 i⟩
  exact v17 x0 x1 x2 x3 a b
theorem ref5 : val_main_v20 (F := Ideal) x0 x1 x2 x3 = G5 x0 x1 x2 x3 := by
  funext i
  obtain ⟨a, b, rfl⟩ : ∃ (a : Fin 1024) (b : Fin 4096), i = ix2 a b := ⟨i 0, i 1, eq_ix2 i⟩
  pointwise [val_main_v20, val_main_v19]
  exact v17 x0 x1 x2 x3 b a

end Reference

/-- The reference's frame. -/
theorem ref_frame : Cert.quiescent_LnModRefIdeal := fun m ρ _ =>
  (θ_run Cert.LnModRefIdeal.defs _ _).mono (fun r h => ⟨fun c => (h c).2.2,
      Idealize.ShloMosaic.sem_eq_zero_of_no_sems (by decide) r.2⟩)
    (Cert.LnModRefIdeal.Value.run (F := Ideal) m ρ)

/-- Equal results. -/
theorem algebraic : Cert.algebraic_LnModIdeal_LnModRefIdeal := by
  intro m g m' g' _ hag
  refine ⟨fun c => G4 (B0 m c) (B1 m c) (B2 m c) (B3 m c), fun c => G5 (B0 m c) (B1 m c) (B2 m c) (B3 m c), ?_, ?_⟩
  · refine (θ_run Cert.LnModIdeal.defs _ _).mono (fun r h c => ?_) (Cert.LnModIdeal.Value.run_blocks (F := Ideal) m g)
    obtain ⟨r0, r1, ra⟩ := h c
    exact ⟨r0.trans (arr4 m c), r1.trans (arr5 m c), ra⟩
  · refine (θ_run Cert.LnModRefIdeal.defs _ _).mono (fun r h c => ?_) (Cert.LnModRefIdeal.Value.run (F := Ideal) m' g')
    obtain ⟨r0, r1, ra⟩ := h c
    obtain ⟨e0, e1, e2, e3⟩ := hag c
    refine ⟨r0.trans ((Cert.LnModRefIdeal.Read.val_main_v18_eq _ _ _ _).trans ?_),
      r1.trans ((Cert.LnModRefIdeal.Read.val_main_v20_eq _ _ _ _).trans ?_), ra⟩
    · rw [e0, e1, e2, e3]; exact ref4 _ _ _ _
    · rw [e0, e1, e2, e3]; exact ref5 _ _ _ _

end Cert.LnM

end
-- ==== Proof.ResidLnClaim.lean ====
/-
  The first layer's output added to its input, and the second layer's modulated norm of the sum: sixteen blocks of 256 rows.
  The kernel's three results, the sum, the normed array and its transpose, are the reference's.
-/
module

public import proofs.«01_k».proof.Defs
public import proofs.«01_k».proof.Proof.Rows
public import proofs.«01_k».proof.Proof.NormSpec
public import proofs.«01_k».proof.Proof.Gen.ResidLnIdeal.Value
public import proofs.«01_k».proof.Proof.Gen.ResidLnRefIdeal.Run
public import proofs.«01_k».proof.Proof.Gen.ResidLnRefIdeal.Read
public import proofs.«01_k».proof.Proof.Gen.ResidLnIdeal
public import proofs.«01_k».proof.Proof.Gen.ResidLnRefIdeal

@[expose] public section

noncomputable section

namespace Cert.ResidL

open Idealize.ShloMosaic Idealize.ShloMosaic.TcCoe Idealize.SL.Sem
open Idealize.ShloMosaic.Pipeline (Dat)
open Cert.Norm (A2 rs xn k1024 keps)

/-- The sum of the residual stream and the layer's gated output. -/
def X1 (X Y : A2 4096 1024) (q : A2 1 1024) : A2 4096 1024 := fun i => X i + (1 + q (ix2 0 (i 1))) * Y i

/-- The normed and modulated array. -/
def hh (X : A2 4096 1024) (g s b : A2 1 1024) (r : Fin 4096) (a : Fin 1024) : EReal :=
  xn X r a * g (ix2 0 a) * (1 + s (ix2 0 a)) + b (ix2 0 a)

/-- The two results. -/
def G4 (X : A2 4096 1024) (g s b : A2 1 1024) : A2 4096 1024 := fun i => hh X g s b (i 0) (i 1)
def G5 (X : A2 4096 1024) (g s b : A2 1 1024) : A2 1024 4096 := fun i => hh X g s b (i 1) (i 0)

section Kernel

open Cert.ResidLnIdeal Cert.ResidLnIdeal.Gen

variable (m : (ℓ : Loc nD τ sig) → Buf (Elt Ideal) ℓ) (c : Dev nD)

/-- The residual stream, the layer's output, its gate, the norm's gain, its scale and its shift. -/
abbrev B0 : A2 4096 1024 := m ((c : Thread nD τ).loc main_arg0)
abbrev B1 : A2 4096 1024 := m ((c : Thread nD τ).loc main_arg1)
abbrev B2 : A2 1 1024 := m ((c : Thread nD τ).loc main_arg2)
abbrev B3 : A2 1 1024 := m ((c : Thread nD τ).loc main_arg3)
abbrev B4 : A2 1 1024 := m ((c : Thread nD τ).loc main_arg4)
abbrev B5 : A2 1 1024 := m ((c : Thread nD τ).loc main_arg5)

/-- The sum. -/
abbrev X (m : (ℓ : Loc nD τ sig) → Buf (Elt Ideal) ℓ) (c : Dev nD) : A2 4096 1024 := X1 (B0 m c) (B1 m c) (B2 m c)

theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![0, 0] := by decide +kernel
theorem idx3 : ∀ t : Fin grid0.N, win0_3.index t = ![0, 0] := by decide +kernel
theorem idx4 : ∀ t : Fin grid0.N, win0_4.index t = ![0, 0] := by decide +kernel
theorem idx5 : ∀ t : Fin grid0.N, win0_5.index t = ![0, 0] := by decide +kernel
theorem idx6 : ∀ t : Fin grid0.N, win0_6.index t = ![t.val, 0] := by decide +kernel
theorem idx7 : ∀ t : Fin grid0.N, win0_7.index t = ![t.val, 0] := by decide +kernel
theorem idx8 : ∀ t : Fin grid0.N, win0_8.index t = ![0, t.val] := by decide +kernel

/-- Row `a` of the block of grid point `t`. -/
abbrev row (t : Fin cfg0.N) (a : Fin 256) : Fin 4096 := ⟨256 * t.val + a.val, by
  have ht : t.val < 16 := t.isLt
  omega⟩

theorem blk0 (t : Fin cfg0.N) (a : Fin 256) (e : Fin 1024) : iblk m c 0 t (ix2 a e) = B0 m c (ix2 (row t a) e) := by
  blk_ext [iblk, V, idx0 t]
theorem blk1 (t : Fin cfg0.N) (a : Fin 256) (e : Fin 1024) : iblk m c 1 t (ix2 a e) = B1 m c (ix2 (row t a) e) := by
  blk_ext [iblk, V, idx1 t]
theorem blk2 (t : Fin cfg0.N) (e : Fin 1024) : iblk m c 2 t (ix2 (0 : Fin 1) e) = B2 m c (ix2 0 e) := by
  blk_ext [iblk, V, idx2 t]
theorem blk3 (t : Fin cfg0.N) (e : Fin 1024) : iblk m c 3 t (ix2 (0 : Fin 1) e) = B3 m c (ix2 0 e) := by
  blk_ext [iblk, V, idx3 t]
theorem blk4 (t : Fin cfg0.N) (e : Fin 1024) : iblk m c 4 t (ix2 (0 : Fin 1) e) = B4 m c (ix2 0 e) := by
  blk_ext [iblk, V, idx4 t]
theorem blk5 (t : Fin cfg0.N) (e : Fin 1024) : iblk m c 5 t (ix2 (0 : Fin 1) e) = B5 m c (ix2 0 e) := by
  blk_ext [iblk, V, idx5 t]

/-- One block's sum, at an index. -/
theorem point1 (x : (⟨2, ![256, 1024]⟩ : Shape).Idx → EReal) (q : (⟨2, ![1, 1024]⟩ : Shape).Idx → EReal)
    (y : (⟨2, ![256, 1024]⟩ : Shape).Idx → EReal) (a : Fin 256) (e : Fin 1024) :
    k0_pay1 (F := Ideal) x q y (ix2 a e) = x (ix2 a e) + (1 + q (ix2 0 e)) * y (ix2 a e) := by
  pointwise [k0_pay1]

/-- One block's norm, at an index. -/
theorem point2 (x : (⟨2, ![256, 1024]⟩ : Shape).Idx → EReal) (q : (⟨2, ![1, 1024]⟩ : Shape).Idx → EReal)
    (y : (⟨2, ![256, 1024]⟩ : Shape).Idx → EReal) (g s b : (⟨2, ![1, 1024]⟩ : Shape).Idx → EReal) (a : Fin 256) (e : Fin 1024) :
    k0_pay2 (F := Ideal) x q y g s b (ix2 a e)
      = k0_pay1 (F := Ideal) x q y (ix2 a e)
        * Ideal.rsqrt (Ideal.div (∑ k : Fin 1024, k0_pay1 (F := Ideal) x q y (ix2 a k) * k0_pay1 (F := Ideal) x q y (ix2 a k)) k1024 + keps)
        * g (ix2 0 e) * (1 + s (ix2 0 e)) + b (ix2 0 e) := by
  pointwise [k0_pay2]

theorem point3 (x : (⟨2, ![256, 1024]⟩ : Shape).Idx → EReal) (q : (⟨2, ![1, 1024]⟩ : Shape).Idx → EReal)
    (y : (⟨2, ![256, 1024]⟩ : Shape).Idx → EReal) (g s b : (⟨2, ![1, 1024]⟩ : Shape).Idx → EReal) (e : Fin 1024) (a : Fin 256) :
    k0_pay3 (F := Ideal) x q y g s b (ix2 e a) = k0_pay2 (F := Ideal) x q y g s b (ix2 a e) := by
  pointwise [k0_pay3]

/-- The norm, of a block that is rows of the array. -/
theorem norm_of {X : A2 4096 1024} {g s b : A2 1 1024} {r : Fin 4096} {e : Fin 1024} (f : Fin 1024 → EReal) (u v w : EReal)
    (hf : ∀ k, f k = X (ix2 r k)) (hu : u = g (ix2 0 e)) (hv : v = s (ix2 0 e)) (hw : w = b (ix2 0 e)) :
    f e * Ideal.rsqrt (Ideal.div (∑ k : Fin 1024, f k * f k) k1024 + keps) * u * (1 + v) + w = hh X g s b r e := by
  obtain rfl : f = fun k => X (ix2 r k) := funext hf
  rw [hu, hv, hw]
  rfl

theorem sum_of {x q y x' q' y' : EReal} (hx : x = x') (hq : q = q') (hy : y = y') : x + (1 + q) * y = x' + (1 + q') * y' := by
  rw [hx, hq, hy]

theorem at1 (t : Fin cfg0.N) (a : Fin 256) (e : Fin 1024) (i0 i1 i2) :
    k0_pay1 (F := Ideal) (View.ld (iblk m c 0 t) (Rect.unit ![0, 0] ![256, 1024] i0)) (View.ld (iblk m c 2 t) (Rect.unit ![0, 0] ![1, 1024] i1))
      (View.ld (iblk m c 1 t) (Rect.unit ![0, 0] ![256, 1024] i2)) (ix2 a e) = X m c (ix2 (row t a) e) :=
  (point1 _ _ _ a e).trans (sum_of ((Rows.ld_whole _ _ _ _).trans (blk0 m c t a e)) ((Rows.ld_whole _ _ _ _).trans (blk2 m c t e))
    ((Rows.ld_whole _ _ _ _).trans (blk1 m c t a e)))

theorem at2 (t : Fin cfg0.N) (a : Fin 256) (e : Fin 1024) (i0 i1 i2 i3 i4 i5) :
    k0_pay2 (F := Ideal) (View.ld (iblk m c 0 t) (Rect.unit ![0, 0] ![256, 1024] i0)) (View.ld (iblk m c 2 t) (Rect.unit ![0, 0] ![1, 1024] i1))
      (View.ld (iblk m c 1 t) (Rect.unit ![0, 0] ![256, 1024] i2)) (View.ld (iblk m c 3 t) (Rect.unit ![0, 0] ![1, 1024] i3))
      (View.ld (iblk m c 4 t) (Rect.unit ![0, 0] ![1, 1024] i4)) (View.ld (iblk m c 5 t) (Rect.unit ![0, 0] ![1, 1024] i5)) (ix2 a e)
      = hh (X m c) (B3 m c) (B4 m c) (B5 m c) (row t a) e :=
  (point2 _ _ _ _ _ _ a e).trans (norm_of
    (fun k => k0_pay1 (F := Ideal) (View.ld (iblk m c 0 t) (Rect.unit (s := S256x1024) ![0, 0] ![256, 1024] i0))
      (View.ld (iblk m c 2 t) (Rect.unit (s := S1x1024) ![0, 0] ![1, 1024] i1))
      (View.ld (iblk m c 1 t) (Rect.unit (s := S256x1024) ![0, 0] ![256, 1024] i2)) (ix2 (n0 := 256) (n1 := 1024) a k)) _ _ _
    (fun k => at1 m c t a k _ _ _) ((Rows.ld_whole _ _ _ _).trans (blk3 m c t e))
    ((Rows.ld_whole _ _ _ _).trans (blk4 m c t e)) ((Rows.ld_whole _ _ _ _).trans (blk5 m c t e)))

theorem arr6 : (dats m 0 c).arrAt 6 cfg0.N = X m c := by
  refine (dats m 0 c).arrAt_eq_of_covers 6 _ (by decide +kernel) fun t hf y => ?_
  blk_simp
  rw [after0_6]
  have ht : t.val < 16 := t.isLt
  have hy : (y 0).val < 256 := (y 0).isLt
  have ey : y = ix2 (n0 := 256) (n1 := 1024) (y 0) (y 1) := eq_ix2 y
  have eG : (((View.whole main_v0_0).slice (win0_6.rect t)).emb y) = ix2 (n0 := 4096) (n1 := 1024) (row t (y 0)) (y 1) := by
    blk_ext [idx6 t]
  rw [eG]
  exact (congrArg (out0_6 (F := Ideal) _ _ _ _ _ _) ey).trans ((Rows.canon_whole _ _ _ _ _).trans (at1 m c t _ _ _ _ _))

theorem arr7 : (dats m 0 c).arrAt 7 cfg0.N = G4 (X m c) (B3 m c) (B4 m c) (B5 m c) := by
  refine (dats m 0 c).arrAt_eq_of_covers 7 _ (by decide +kernel) fun t hf y => ?_
  blk_simp
  rw [after0_7]
  have ht : t.val < 16 := t.isLt
  have hy : (y 0).val < 256 := (y 0).isLt
  have ey : y = ix2 (n0 := 256) (n1 := 1024) (y 0) (y 1) := eq_ix2 y
  have eG : (((View.whole main_v0_1).slice (win0_7.rect t)).emb y) = ix2 (n0 := 4096) (n1 := 1024) (row t (y 0)) (y 1) := by
    blk_ext [idx7 t]
  rw [eG]
  exact (congrArg (out0_7 (F := Ideal) _ _ _ _ _ _) ey).trans ((Rows.canon_whole _ _ _ _ _).trans (at2 m c t _ _ _ _ _ _ _ _))

theorem arr8 : (dats m 0 c).arrAt 8 cfg0.N = G5 (X m c) (B3 m c) (B4 m c) (B5 m c) := by
  refine (dats m 0 c).arrAt_eq_of_covers 8 _ (by decide +kernel) fun t hf y => ?_
  blk_simp
  rw [after0_8]
  have ht : t.val < 16 := t.isLt
  have hy : (y 1).val < 256 := (y 1).isLt
  have ey : y = ix2 (n0 := 1024) (n1 := 256) (y 0) (y 1) := eq_ix2 y
  have eG : (((View.whole main_v0_2).slice (win0_8.rect t)).emb y) = ix2 (n0 := 1024) (n1 := 4096) (y 0) (row t (y 1)) := by
    blk_ext [idx8 t]
  rw [eG]
  exact (congrArg (out0_8 (F := Ideal) _ _ _ _ _ _) ey).trans ((Rows.canon_whole _ _ _ _ _).trans ((point3 _ _ _ _ _ _ _ _).trans (at2 m c t _ _ _ _ _ _ _ _)))

end Kernel

section Reference

open Cert.ResidLnRefIdeal.Read

variable (x0 x1 : A2 4096 1024) (x2 x3 x4 x5 : A2 1 1024)

theorem v4 (r : Fin 4096) (a : Fin 1024) : val_main_v4 (F := Ideal) x0 x1 x2 (ix2 r a) = X1 x0 x1 x2 (ix2 r a) := by
  pointwise [val_main_v4, val_main_v3, val_main_v2, val_main_v1, val_main_v0, val_main_cst]
  rfl

theorem v22 (r : Fin 4096) (a : Fin 1024) :
    val_main_v22 (F := Ideal) x0 x1 x2 x3 x4 x5 (ix2 r a) = hh (X1 x0 x1 x2) x3 x4 x5 r a := by
  have e12 : ∀ z : Fin 1, val_main_v12 (F := Ideal) x0 x1 x2 (ix2 r z) = rs (X1 x0 x1 x2) r := by
    intro z
    refine congrArg Ideal.rsqrt ?_
    pointwise [val_main_v11, val_main_v10, val_main_cst_2, val_main_v9, val_main_v8, val_main_cst_1, val_main_v7, val_main_v6,
      val_main_cst_0, val_main_v5]
    simp only [v4]
  pointwise [val_main_v22, val_main_v21, val_main_v20, val_main_v19, val_main_v18, val_main_v17, val_main_cst_3, val_main_v16,
    val_main_v15, val_main_v14, val_main_v13]
  rw [e12, v4]
  rfl

/-- The reference's three results. -/
theorem ref6 : val_main_v4 (F := Ideal) x0 x1 x2 = X1 x0 x1 x2 := by
  funext i
  obtain ⟨a, b, rfl⟩ : ∃ (a : Fin 4096) (b : Fin 1024), i = ix2 a b := ⟨i 0, i 1, eq_ix2 i⟩
  exact v4 x0 x1 x2 a b
theorem ref7 : val_main_v23 (F := Ideal) x0 x1 x2 x3 x4 x5 = G4 (X1 x0 x1 x2) x3 x4 x5 := by
  funext i
  obtain ⟨a, b, rfl⟩ : ∃ (a : Fin 4096) (b : Fin 1024), i = ix2 a b := ⟨i 0, i 1, eq_ix2 i⟩
  exact v22 x0 x1 x2 x3 x4 x5 a b
theorem ref8 : val_main_v25 (F := Ideal) x0 x1 x2 x3 x4 x5 = G5 (X1 x0 x1 x2) x3 x4 x5 := by
  funext i
  obtain ⟨a, b, rfl⟩ : ∃ (a : Fin 1024) (b : Fin 4096), i = ix2 a b := ⟨i 0, i 1, eq_ix2 i⟩
  pointwise [val_main_v25, val_main_v24]
  exact v22 x0 x1 x2 x3 x4 x5 b a

end Reference

/-- The reference's frame. -/
theorem ref_frame : Cert.quiescent_ResidLnRefIdeal := fun m ρ _ =>
  (θ_run Cert.ResidLnRefIdeal.defs _ _).mono (fun r h => ⟨fun c => (h c).2.2.2,
      Idealize.ShloMosaic.sem_eq_zero_of_no_sems (by decide) r.2⟩)
    (Cert.ResidLnRefIdeal.Value.run (F := Ideal) m ρ)

/-- Equal results. -/
theorem algebraic : Cert.algebraic_ResidLnIdeal_ResidLnRefIdeal := by
  intro m g m' g' _ hag
  refine ⟨fun c => X m c, fun c => G4 (X m c) (B3 m c) (B4 m c) (B5 m c), fun c => G5 (X m c) (B3 m c) (B4 m c) (B5 m c), ?_, ?_⟩
  · refine (θ_run Cert.ResidLnIdeal.defs _ _).mono (fun r h c => ?_) (Cert.ResidLnIdeal.Value.run_blocks (F := Ideal) m g)
    obtain ⟨r0, r1, r2, ra⟩ := h c
    exact ⟨r0.trans (arr6 m c), r1.trans (arr7 m c), r2.trans (arr8 m c), ra⟩
  · refine (θ_run Cert.ResidLnRefIdeal.defs _ _).mono (fun r h c => ?_) (Cert.ResidLnRefIdeal.Value.run (F := Ideal) m' g')
    obtain ⟨r0, r1, r2, ra⟩ := h c
    obtain ⟨e0, e1, e2, e3, e4, e5⟩ := hag c
    refine ⟨r0.trans ((Cert.ResidLnRefIdeal.Read.val_main_v4_eq _ _ _).trans ?_),
      r1.trans ((Cert.ResidLnRefIdeal.Read.val_main_v23_eq _ _ _ _ _ _).trans ?_),
      r2.trans ((Cert.ResidLnRefIdeal.Read.val_main_v25_eq _ _ _ _ _ _).trans ?_), ra⟩
    · rw [e0, e1, e2]; exact ref6 _ _ _
    · rw [e0, e1, e2, e3, e4, e5]; exact ref7 _ _ _ _ _ _
    · rw [e0, e1, e2, e3, e4, e5]; exact ref8 _ _ _ _ _ _

end Cert.ResidL

end
-- ==== Proof.ConvFwdClaim.lean ====
/-
  The gated short convolution forward: sixteen blocks of 256 rows, each with the sixteen rows before it. The kernel's two
  results, the gated output and its transpose, are the reference's.
-/
module

public import proofs.«01_k».proof.Defs
public import proofs.«01_k».proof.Proof.Rows
public import proofs.«01_k».proof.Proof.ConvPoint
public import proofs.«01_k».proof.Proof.Gen.ConvFwdIdeal.Value
public import proofs.«01_k».proof.Proof.Gen.ConvFwdRefIdeal.Run
public import proofs.«01_k».proof.Proof.Gen.ConvFwdRefIdeal.Read
public import proofs.«01_k».proof.Proof.Gen.ConvFwdIdeal
public import proofs.«01_k».proof.Proof.Gen.ConvFwdRefIdeal

@[expose] public section

noncomputable section

namespace Cert.ConvF

open Idealize.ShloMosaic Idealize.ShloMosaic.TcCoe Idealize.SL.Sem
open Idealize.ShloMosaic.Pipeline (Dat)
open Cert.Conv (Arr sgm col ucE cv select_point)

/-- The gated output. -/
def yy (P : Arr 4096 8192) (W : Arr 3 2048) (B : Arr 1 2048) (r : Fin 4096) (c : Fin 2048) : EReal :=
  P (ix2 r (col 0 (by decide) c)) * cv P W B r.val c
    * (P (ix2 r (col 3 (by decide) c)) * sgm (P (ix2 r (col 3 (by decide) c))))

/-- The two results. -/
def G8 (P : Arr 4096 8192) (W : Arr 3 2048) (B : Arr 1 2048) : Arr 4096 2048 := fun i => yy P W B (i 0) (i 1)
def G9 (P : Arr 4096 8192) (W : Arr 3 2048) (B : Arr 1 2048) : Arr 2048 4096 := fun i => yy P W B (i 1) (i 0)

section Kernel

open Cert.ConvFwdIdeal Cert.ConvFwdIdeal.Gen

variable (m : (ℓ : Loc nD τ sig) → Buf (Elt Ideal) ℓ) (c : Dev nD)

/-- The projected activations, the taps and the bias. -/
abbrev PP : Arr 4096 8192 := m ((c : Thread nD τ).loc main_arg0)
abbrev WW : Arr 3 2048 := m ((c : Thread nD τ).loc main_arg1)
abbrev BB : Arr 1 2048 := m ((c : Thread nD τ).loc main_arg2)

theorem idx0 : ∀ t : Fin grid0.N, win0_0.index t = ![t.val, 0] := by decide +kernel
theorem idx1 : ∀ t : Fin grid0.N, win0_1.index t = ![t.val, 1] := by decide +kernel
theorem idx2 : ∀ t : Fin grid0.N, win0_2.index t = ![t.val, 2] := by decide +kernel
theorem idx3 : ∀ t : Fin grid0.N, win0_3.index t = ![t.val, 3] := by decide +kernel
theorem idx4 : ∀ t : Fin grid0.N, win0_4.index t = ![16 * t.val - 1, 1] := by decide +kernel
theorem idx5 : ∀ t : Fin grid0.N, win0_5.index t = ![16 * t.val - 1, 2] := by decide +kernel
theorem idx6 : ∀ t : Fin grid0.N, win0_6.index t = ![0, 0] := by decide +kernel
theorem idx7 : ∀ t : Fin grid0.N, win0_7.index t = ![0, 0] := by decide +kernel
theorem idx8 : ∀ t : Fin grid0.N, win0_8.index t = ![t.val, 0] := by decide +kernel
theorem idx9 : ∀ t : Fin grid0.N, win0_9.index t = ![0, t.val] := by decide +kernel

/-- A grid point's only coordinate is its number. -/
theorem coord : ∀ t : Fin cfg0.N, ((grid0.coords t) 0).val = t.val := (by decide +kernel : ∀ t : Fin grid0.N, ((grid0.coords t) 0).val = t.val)

/-- A grid point, as a number below 16. -/
abbrev pt (t : Fin cfg0.N) : Fin 16 := ⟨t.val, t.isLt⟩

/-- Row `a` of the block of grid point `t`. -/
abbrev row (t : Fin 16) (a : Fin 256) : Fin 4096 := ⟨256 * t.val + a.val, by omega⟩

/-- The rows a grid point's blocks hold: `x0 … x3` the 256 rows from `256 t` on of the four column groups, `x4 x5` the 16
    rows before them, `x6 x7` the taps and the bias. -/
structure Blocks (P : Arr 4096 8192) (W : Arr 3 2048) (B : Arr 1 2048) (t : Fin 16)
    (x0 x1 x2 x3 : Vec Ideal S256x2048 .bf16) (x4 x5 : Vec Ideal S16x2048 .bf16) (x6 : Vec Ideal S3x2048 .f32)
    (x7 : Vec Ideal S1x2048 .f32) : Prop where
  gb : ∀ (a : Fin 256) (c : Fin 2048), x0 (ix2 a c) = P (ix2 (row t a) (col 0 (by decide) c))
  gc : ∀ (a : Fin 256) (c : Fin 2048) (r : Fin 4096), r.val = 256 * t.val + a.val →
    x1 (ix2 a c) = P (ix2 r (col 1 (by decide) c))
  u : ∀ (a : Fin 256) (c : Fin 2048) (r : Fin 4096), r.val = 256 * t.val + a.val →
    x2 (ix2 a c) = P (ix2 r (col 2 (by decide) c))
  gt : ∀ (a : Fin 256) (c : Fin 2048), x3 (ix2 a c) = P (ix2 (row t a) (col 3 (by decide) c))
  gch : ∀ (a : Fin 16) (c : Fin 2048) (r : Fin 4096), r.val + 16 = 256 * t.val + a.val →
    x4 (ix2 a c) = P (ix2 r (col 1 (by decide) c))
  uh : ∀ (a : Fin 16) (c : Fin 2048) (r : Fin 4096), r.val + 16 = 256 * t.val + a.val →
    x5 (ix2 a c) = P (ix2 r (col 2 (by decide) c))
  cw : ∀ (a : Fin 3) (c : Fin 2048), x6 (ix2 a c) = W (ix2 a c)
  cb : ∀ (c : Fin 2048), x7 (ix2 0 c) = B (ix2 0 c)

theorem blocks (t : Fin cfg0.N) {i0 i1 i2 i3 i4 i5 i6 i7} : Blocks (PP m c) (WW m c) (BB m c) (pt t)
    (View.ld (iblk m c 0 t) (Rect.unit ![0, 0] ![256, 2048] i0)) (View.ld (iblk m c 1 t) (Rect.unit ![0, 0] ![256, 2048] i1))
    (View.ld (iblk m c 2 t) (Rect.unit ![0, 0] ![256, 2048] i2)) (View.ld (iblk m c 3 t) (Rect.unit ![0, 0] ![256, 2048] i3))
    (View.ld (iblk m c 4 t) (Rect.unit ![0, 0] ![16, 2048] i4)) (View.ld (iblk m c 5 t) (Rect.unit ![0, 0] ![16, 2048] i5))
    (View.ld (iblk m c 6 t) (Rect.unit ![0, 0] ![3, 2048] i6)) (View.ld (iblk m c 7 t) (Rect.unit ![0, 0] ![1, 2048] i7)) where
  gb a e := by refine (Rows.ld_whole _ _ _ _).trans ?_; blk_ext [iblk, V, idx0 t, col]
  gc a e r h := by
    have : r.val = 256 * t.val + a.val := h
    refine (Rows.ld_whole _ _ _ _).trans ?_; blk_ext [iblk, V, idx1 t, col]
  u a e r h := by
    have : r.val = 256 * t.val + a.val := h
    refine (Rows.ld_whole _ _ _ _).trans ?_; blk_ext [iblk, V, idx2 t, col]
  gt a e := by refine (Rows.ld_whole _ _ _ _).trans ?_; blk_ext [iblk, V, idx3 t, col]
  gch a e r h := by
    have : r.val + 16 = 256 * t.val + a.val := h
    refine (Rows.ld_whole _ _ _ _).trans ?_; blk_ext [iblk, V, idx4 t, col]
  uh a e r h := by
    have : r.val + 16 = 256 * t.val + a.val := h
    refine (Rows.ld_whole _ _ _ _).trans ?_; blk_ext [iblk, V, idx5 t, col]
  cw a e := by refine (Rows.ld_whole _ _ _ _).trans ?_; blk_ext [iblk, V, idx6 t]
  cb e := by refine (Rows.ld_whole _ _ _ _).trans ?_; blk_ext [iblk, V, idx7 t]

/-- The gated output of a block, at an index. -/
theorem point1 (v w : Vec Ideal S256x2048 .f32) (a : Fin 256) (c : Fin 2048) :
    k0_pay1 (F := Ideal) v w (Scalar.ofBits (F := Ideal) .f32 0x00000000#32) (ix2 a c)
      = w (ix2 a c) * (v (ix2 a c) * sgm (v (ix2 a c))) := by
  pointwise [k0_pay1]
  rfl

theorem point2 (v w : Vec Ideal S256x2048 .f32) (z : Ideal .f32) (c : Fin 2048) (a : Fin 256) :
    k0_pay2 (F := Ideal) v w z (ix2 c a) = k0_pay1 (F := Ideal) v w z (ix2 a c) := by
  pointwise [k0_pay2]

section Point

variable {P : Arr 4096 8192} {W : Arr 3 2048} {B : Arr 1 2048} {t : Fin 16}
    {x0 x1 x2 x3 : Vec Ideal S256x2048 .bf16} {x4 x5 : Vec Ideal S16x2048 .bf16} {x6 : Vec Ideal S3x2048 .f32}
    {x7 : Vec Ideal S1x2048 .f32} (H : Blocks P W B t x0 x1 x2 x3 x4 x5 x6 x7)
    {i : grid0.Coords} (hi : (i 0).val = t.val)
include H

/-- The signal in a block's own rows. -/
theorem uc_of (a : Fin 256) (c : Fin 2048) (n : ℕ) (hn : n = 256 * t.val + a.val + 2) :
    x1 (ix2 a c) * x2 (ix2 a c) = ucE P n c := by
  subst hn
  unfold ucE
  rw [dif_pos (by omega), H.gc a c ⟨256 * t.val + a.val + 2 - 2, by omega⟩ (by simp),
    H.u a c ⟨256 * t.val + a.val + 2 - 2, by omega⟩ (by simp)]

/-- The signal in the two rows before a block, which are zeros before the first block. -/
theorem before_of (a : Fin 16) (ha : 14 ≤ a.val) (c : Fin 2048) (n : ℕ) (hn : n + 14 = 256 * t.val + a.val) :
    (if t = 0 then (0 : EReal) else x4 (ix2 a c) * x5 (ix2 a c)) = ucE P n c := by
  unfold ucE
  split
  · rename_i h0
    subst h0
    rw [dif_neg (by simp at hn; omega)]
  · rename_i h0
    have : t.val ≠ 0 := fun h => h0 (Fin.ext h)
    rw [dif_pos (by omega), H.gch a c ⟨n - 2, by omega⟩ (by simp; omega),
      H.uh a c ⟨n - 2, by omega⟩ (by simp; omega)]

include hi

/-- The convolution's output in a block, times the first gate. -/
theorem conv_at (a : Fin 256) (c : Fin 2048) :
    k0_pay4 (F := Ideal) i x1 x2 x4 x5 x6 x7 x0 (ix2 a c)
      = P (ix2 (row t a) (col 0 (by decide) c)) * cv P W B (256 * t.val + a.val) c := by
  pointwise [k0_pay4]
  rw [hi]
  have hs := select_point (α := EReal) t 0
  rw [H.gb, H.cb, H.cw, H.cw, H.cw, uc_of H a c (256 * t.val + a.val + 2) rfl]
  unfold cv
  refine congrArg (_ * ·) (congrArg₂ (· + ·) (congrArg₂ (· + ·) (congrArg₂ (· + ·) rfl (congrArg (_ * ·) ?_))
    (congrArg (_ * ·) ?_)) rfl)
  all_goals
    split
    · erw [hs]
      exact before_of H _ (by simp; omega) c _ (by simp; omega)
    · exact uc_of H _ c _ (by simp; omega)

omit hi

theorem point3 (a : Fin 256) (c : Fin 2048) :
    k0_pay3 (F := Ideal) x3 (ix2 a c) = P (ix2 (row t a) (col 3 (by decide) c)) := by
  pointwise [k0_pay3]
  exact H.gt a c

include hi

theorem y_at (a : Fin 256) (c : Fin 2048) :
    k0_pay1 (F := Ideal) (k0_pay3 x3) (k0_pay4 i x1 x2 x4 x5 x6 x7 x0) (Scalar.ofBits (F := Ideal) .f32 0x00000000#32)
      (ix2 a c) = yy P W B (row t a) c := by
  rw [point1, point3 H, conv_at H hi]
  rfl

end Point

theorem arr8 : (dats m 0 c).arrAt 8 cfg0.N = G8 (PP m c) (WW m c) (BB m c) := by
  refine (dats m 0 c).arrAt_eq_of_covers 8 _ (by decide +kernel) fun t hf y => ?_
  blk_simp
  rw [after0_8]
  have hy : (y 0).val < 256 := (y 0).isLt
  have ey : y = ix2 (n0 := 256) (n1 := 2048) (y 0) (y 1) := eq_ix2 y
  have eG : (((View.whole main_v0_0).slice (win0_8.rect t)).emb y) = ix2 (n0 := 4096) (n1 := 2048) (row (pt t) (y 0)) (y 1) := by
    blk_ext [idx8 t]
  rw [eG]
  exact (congrArg (out0_8 (F := Ideal) _ _ _ _ _ _ _ _ _) ey).trans ((Rows.canon_whole _ _ _ _ _).trans
    (y_at (blocks m c t) (coord t) _ _))

theorem arr9 : (dats m 0 c).arrAt 9 cfg0.N = G9 (PP m c) (WW m c) (BB m c) := by
  refine (dats m 0 c).arrAt_eq_of_covers 9 _ (by decide +kernel) fun t hf y => ?_
  blk_simp
  rw [after0_9]
  have hy : (y 1).val < 256 := (y 1).isLt
  have ey : y = ix2 (n0 := 2048) (n1 := 256) (y 0) (y 1) := eq_ix2 y
  have eG : (((View.whole main_v0_1).slice (win0_9.rect t)).emb y) = ix2 (n0 := 2048) (n1 := 4096) (y 0) (row (pt t) (y 1)) := by
    blk_ext [idx9 t]
  rw [eG]
  exact (congrArg (out0_9 (F := Ideal) _ _ _ _ _ _ _ _ _) ey).trans ((Rows.canon_whole _ _ _ _ _).trans
    ((point2 _ _ _ _ _).trans (y_at (blocks m c t) (coord t) _ _)))

end Kernel

section Reference

open Cert.ConvFwdRefIdeal.Read

variable (x0 : Arr 4096 8192) (x1 : Arr 3 2048) (x2 : Arr 1 2048)

/-- The padded signal. -/
theorem v6 (e : Fin 4098) (c : Fin 2048) : val_main_v6 (F := Ideal) x0 (ix2 e c) = ucE x0 e.val c := by
  pointwise [val_main_v6, val_main_v5, val_main_v3, val_main_v2, val_main_v0, val_main_call0_v0, val_main_c]
  unfold ucE
  have he : e.val < 4098 := e.isLt
  by_cases h : e.val < 2
  · rw [dif_neg (by omega), dif_neg (by omega)]
    simp [FloatOps.sitofp]
  · rw [dif_pos (by omega), dif_pos (by omega)]
    rfl

/-- The gated output, in the middle format. -/
theorem v33 (r : Fin 4096) (c : Fin 2048) : val_main_v33 (F := Ideal) x0 x1 x2 (ix2 r c) = yy x0 x1 x2 r c := by
  pointwise [val_main_v33, val_main_v32, val_main_v31, val_main_v30, val_main_v29, val_main_v28, val_main_v27, val_main_v26,
    val_main_v25, val_main_v24, val_main_v23, val_main_v22, val_main_v21, val_main_v20, val_main_v19, val_main_v18,
    val_main_v17, val_main_v16, val_main_v15, val_main_v14, val_main_v13, val_main_cst, val_main_v12, val_main_v11,
    val_main_v10, val_main_v9, val_main_v8, val_main_v7, val_main_v4, val_main_v1, val_main_v0, val_main_call1_v0,
    val_main_call1_v1, val_main_call1_v2, val_main_call1_v3, val_main_call1_v4, val_main_call1_v5, val_main_call1_cst,
    val_main_call1_cst_0]
  rw [v6, v6, v6]
  unfold yy cv sgm
  have e0 : (⟨c.val, by omega⟩ : Fin 8192) = col 0 (by decide) c := Fin.ext (by simp [col])
  have e3 : (⟨6144 + c.val, by omega⟩ : Fin 8192) = col 3 (by decide) c := Fin.ext (by simp [col])
  rw [e0, e3]
  simp only [mul_comm (ucE x0 _ c), zero_sub, zero_add, add_assoc, Nat.add_comm 1, Nat.add_comm 2]

/-- The reference's two results. -/
theorem ref8 : val_main_v34 (F := Ideal) x0 x1 x2 = G8 x0 x1 x2 := by
  funext i
  obtain ⟨a, b, rfl⟩ : ∃ (a : Fin 4096) (b : Fin 2048), i = ix2 a b := ⟨i 0, i 1, eq_ix2 i⟩
  exact v33 x0 x1 x2 a b
theorem ref9 : val_main_v36 (F := Ideal) x0 x1 x2 = G9 x0 x1 x2 := by
  funext i
  obtain ⟨a, b, rfl⟩ : ∃ (a : Fin 2048) (b : Fin 4096), i = ix2 a b := ⟨i 0, i 1, eq_ix2 i⟩
  pointwise [val_main_v36, val_main_v35]
  exact v33 x0 x1 x2 b a

end Reference

/-- The reference's frame. -/
theorem ref_frame : Cert.quiescent_ConvFwdRefIdeal := fun m ρ _ =>
  (θ_run Cert.ConvFwdRefIdeal.defs _ _).mono (fun r h => ⟨fun c => (h c).2.2,
      Idealize.ShloMosaic.sem_eq_zero_of_no_sems (by decide) r.2⟩)
    (Cert.ConvFwdRefIdeal.Value.run (F := Ideal) m ρ)

/-- Equal results. -/
theorem algebraic : Cert.algebraic_ConvFwdIdeal_ConvFwdRefIdeal := by
  intro m g m' g' _ hag
  refine ⟨fun c => G8 (PP m c) (WW m c) (BB m c), fun c => G9 (PP m c) (WW m c) (BB m c), ?_, ?_⟩
  · refine (θ_run Cert.ConvFwdIdeal.defs _ _).mono (fun r h c => ?_) (Cert.ConvFwdIdeal.Value.run_blocks (F := Ideal) m g)
    obtain ⟨r0, r1, ra⟩ := h c
    exact ⟨r0.trans (arr8 m c), r1.trans (arr9 m c), ra⟩
  · refine (θ_run Cert.ConvFwdRefIdeal.defs _ _).mono (fun r h c => ?_) (Cert.ConvFwdRefIdeal.Value.run (F := Ideal) m' g')
    obtain ⟨r0, r1, ra⟩ := h c
    obtain ⟨e0, e1, e2⟩ := hag c
    refine ⟨r0.trans ((Cert.ConvFwdRefIdeal.Read.val_main_v34_eq _ _ _).trans ?_),
      r1.trans ((Cert.ConvFwdRefIdeal.Read.val_main_v36_eq _ _ _).trans ?_), ra⟩
    · rw [e0, e1, e2]; exact ref8 _ _ _
    · rw [e0, e1, e2]; exact ref9 _ _ _

end Cert.ConvF

end
-- ==== Proof.AdamTinyClaim.lean ====
/-
  The AdamW step of three of the six small weights: the convolution's taps, the convolution's bias and the final norm's gain.
  The kernel and the reference leave equal results.
-/
module

public import proofs.«01_k».proof.Defs
public import proofs.«01_k».proof.Proof.Rows
public import proofs.«01_k».proof.Proof.AdamSpec
public import proofs.«01_k».proof.Proof.Gen.AdamTinyIdeal.Value
public import proofs.«01_k».proof.Proof.Gen.AdamTinyRefIdeal.Run
public import proofs.«01_k».proof.Proof.Gen.AdamTinyRefIdeal.Read
public import proofs.«01_k».proof.Proof.Gen.AdamTinyIdeal
public import proofs.«01_k».proof.Proof.Gen.AdamTinyRefIdeal

@[expose] public section

noncomputable section

namespace Cert.AdamT

open Idealize.ShloMosaic Idealize.ShloMosaic.TcCoe Idealize.SL.Sem
open Idealize.ShloMosaic.Pipeline (Dat)

/-- An array of a weight's shape. -/
abbrev Wt (n w : ℕ) := (⟨2, ![n, w]⟩ : Shape).Idx → EReal

/-- The change of the weight and the two new moments, entry by entry. -/
def D {n w : ℕ} (x g m v : Wt n w) : Wt n w := fun i => Adam.delta (g i) (x i) (m i) (v i)
def M {n w : ℕ} (g m : Wt n w) : Wt n w := fun i => Adam.mom1 (g i) (m i)
def U {n w : ℕ} (g v : Wt n w) : Wt n w := fun i => Adam.mom2 (g i) (v i)

theorem congrD {n w : ℕ} {x x' g g' m m' v v' : Wt n w} (hx : x = x') (hg : g = g') (hm : m = m') (hv : v = v') :
    D x g m v = D x' g' m' v' := by
  rw [hx, hg, hm, hv]

section Kernel

open Cert.AdamTinyIdeal Cert.AdamTinyIdeal.Gen

variable (m : (ℓ : Loc nD τ sig) → Buf (Elt Ideal) ℓ) (c : Dev nD)

abbrev A0 : Wt 3 256 := m ((c : Thread nD τ).loc main_arg0)
abbrev A1 : Wt 3 256 := m ((c : Thread nD τ).loc main_arg1)
abbrev A2 : Wt 3 256 := m ((c : Thread nD τ).loc main_arg2)
abbrev A3 : Wt 3 256 := m ((c : Thread nD τ).loc main_arg3)
abbrev A4 : Wt 1 256 := m ((c : Thread nD τ).loc main_arg4)
abbrev A5 : Wt 1 256 := m ((c : Thread nD τ).loc main_arg5)
abbrev A6 : Wt 1 256 := m ((c : Thread nD τ).loc main_arg6)
abbrev A7 : Wt 1 256 := m ((c : Thread nD τ).loc main_arg7)
abbrev A8 : Wt 1 1024 := m ((c : Thread nD τ).loc main_arg8)
abbrev A9 : Wt 1 1024 := m ((c : Thread nD τ).loc main_arg9)
abbrev A10 : Wt 1 1024 := m ((c : Thread nD τ).loc main_arg10)
abbrev A11 : Wt 1 1024 := m ((c : Thread nD τ).loc main_arg11)

theorem idx0 : ∀ t : Fin grid0.N, win0_0.index t = ![0, 0] := by decide +kernel
theorem idx1 : ∀ t : Fin grid0.N, win0_1.index t = ![0, 0] := by decide +kernel
theorem idx2 : ∀ t : Fin grid0.N, win0_2.index t = ![0, 0] := by decide +kernel
theorem idx3 : ∀ t : Fin grid0.N, win0_3.index t = ![0, 0] := by decide +kernel
theorem idx4 : ∀ t : Fin grid0.N, win0_4.index t = ![0, 0] := by decide +kernel
theorem idx5 : ∀ t : Fin grid0.N, win0_5.index t = ![0, 0] := by decide +kernel
theorem idx6 : ∀ t : Fin grid0.N, win0_6.index t = ![0, 0] := by decide +kernel
theorem idx7 : ∀ t : Fin grid0.N, win0_7.index t = ![0, 0] := by decide +kernel
theorem idx8 : ∀ t : Fin grid0.N, win0_8.index t = ![0, 0] := by decide +kernel
theorem idx9 : ∀ t : Fin grid0.N, win0_9.index t = ![0, 0] := by decide +kernel
theorem idx10 : ∀ t : Fin grid0.N, win0_10.index t = ![0, 0] := by decide +kernel
theorem idx11 : ∀ t : Fin grid0.N, win0_11.index t = ![0, 0] := by decide +kernel
theorem idx12 : ∀ t : Fin grid0.N, win0_12.index t = ![0, 0] := by decide +kernel
theorem idx13 : ∀ t : Fin grid0.N, win0_13.index t = ![0, 0] := by decide +kernel
theorem idx14 : ∀ t : Fin grid0.N, win0_14.index t = ![0, 0] := by decide +kernel
theorem idx15 : ∀ t : Fin grid0.N, win0_15.index t = ![0, 0] := by decide +kernel
theorem idx16 : ∀ t : Fin grid0.N, win0_16.index t = ![0, 0] := by decide +kernel
theorem idx17 : ∀ t : Fin grid0.N, win0_17.index t = ![0, 0] := by decide +kernel
theorem idx18 : ∀ t : Fin grid0.N, win0_18.index t = ![0, 0] := by decide +kernel
theorem idx19 : ∀ t : Fin grid0.N, win0_19.index t = ![0, 0] := by decide +kernel
theorem idx20 : ∀ t : Fin grid0.N, win0_20.index t = ![0, 0] := by decide +kernel

/-- Each argument is one block. -/
theorem blk0 (t : Fin cfg0.N) (a : Fin 3) (k : Fin 256) : iblk m c 0 t (ix2 a k) = A0 m c (ix2 a k) := by
  blk_ext [iblk, V, idx0 t]
theorem blk1 (t : Fin cfg0.N) (a : Fin 3) (k : Fin 256) : iblk m c 1 t (ix2 a k) = A1 m c (ix2 a k) := by
  blk_ext [iblk, V, idx1 t]
theorem blk2 (t : Fin cfg0.N) (a : Fin 3) (k : Fin 256) : iblk m c 2 t (ix2 a k) = A2 m c (ix2 a k) := by
  blk_ext [iblk, V, idx2 t]
theorem blk3 (t : Fin cfg0.N) (a : Fin 3) (k : Fin 256) : iblk m c 3 t (ix2 a k) = A3 m c (ix2 a k) := by
  blk_ext [iblk, V, idx3 t]
theorem blk4 (t : Fin cfg0.N) (a : Fin 1) (k : Fin 256) : iblk m c 4 t (ix2 a k) = A4 m c (ix2 a k) := by
  have ha : a.val = 0 := by omega
  blk_ext [iblk, V, idx4 t]
theorem blk5 (t : Fin cfg0.N) (a : Fin 1) (k : Fin 256) : iblk m c 5 t (ix2 a k) = A5 m c (ix2 a k) := by
  have ha : a.val = 0 := by omega
  blk_ext [iblk, V, idx5 t]
theorem blk6 (t : Fin cfg0.N) (a : Fin 1) (k : Fin 256) : iblk m c 6 t (ix2 a k) = A6 m c (ix2 a k) := by
  have ha : a.val = 0 := by omega
  blk_ext [iblk, V, idx6 t]
theorem blk7 (t : Fin cfg0.N) (a : Fin 1) (k : Fin 256) : iblk m c 7 t (ix2 a k) = A7 m c (ix2 a k) := by
  have ha : a.val = 0 := by omega
  blk_ext [iblk, V, idx7 t]
theorem blk8 (t : Fin cfg0.N) (a : Fin 1) (k : Fin 1024) : iblk m c 8 t (ix2 a k) = A8 m c (ix2 a k) := by
  have ha : a.val = 0 := by omega
  blk_ext [iblk, V, idx8 t]
theorem blk9 (t : Fin cfg0.N) (a : Fin 1) (k : Fin 1024) : iblk m c 9 t (ix2 a k) = A9 m c (ix2 a k) := by
  have ha : a.val = 0 := by omega
  blk_ext [iblk, V, idx9 t]
theorem blk10 (t : Fin cfg0.N) (a : Fin 1) (k : Fin 1024) : iblk m c 10 t (ix2 a k) = A10 m c (ix2 a k) := by
  have ha : a.val = 0 := by omega
  blk_ext [iblk, V, idx10 t]
theorem blk11 (t : Fin cfg0.N) (a : Fin 1) (k : Fin 1024) : iblk m c 11 t (ix2 a k) = A11 m c (ix2 a k) := by
  have ha : a.val = 0 := by omega
  blk_ext [iblk, V, idx11 t]

/-! The convolution's taps. -/

theorem pointD0 (x g y z : (⟨2, ![3, 256]⟩ : Shape).Idx → EReal) (i : (⟨2, ![3, 256]⟩ : Shape).Idx) :
    k0_pay6 (F := Ideal) x g y z i = Adam.delta (g i) (x i) (y i) (z i) := rfl
theorem pointM0 (g y : (⟨2, ![3, 256]⟩ : Shape).Idx → EReal) (i : (⟨2, ![3, 256]⟩ : Shape).Idx) : k0_pay4 (F := Ideal) g y i = Adam.mom1 (g i) (y i) := rfl
theorem pointU0 (g z : (⟨2, ![3, 256]⟩ : Shape).Idx → EReal) (i : (⟨2, ![3, 256]⟩ : Shape).Idx) : k0_pay5 (F := Ideal) g z i = Adam.mom2 (g i) (z i) := rfl

theorem arr0 : (dats m 0 c).arrAt 12 cfg0.N = D (A0 m c) (A1 m c) (A2 m c) (A3 m c) := by
  refine (dats m 0 c).arrAt_eq_of_covers 12 _ (by decide +kernel) fun t hf y => ?_
  blk_simp
  rw [after0_12]
  have hy : (y 0).val < 3 := (y 0).isLt
  have ey : y = ix2 (n0 := 3) (n1 := 256) (y 0) (y 1) := eq_ix2 y
  have eG : (((View.whole main_v0_0).slice (win0_12.rect t)).emb y) = ix2 (n0 := 3) (n1 := 256) (y 0) (y 1) := by
    blk_ext [idx12 t]
  rw [eG]
  refine (congrArg (out0_12 (F := Ideal) _ _ _ _ _ _ _ _ _ _ _ _) ey).trans ((Rows.canon_whole _ _ _ _ _).trans ((pointD0 _ _ _ _ _).trans ?_))
  refine Adam.delta_congr ?_ ?_ ?_ ?_
  · exact (Rows.ld_whole _ _ _ _).trans (blk1 m c t _ _)
  · exact (Rows.ld_whole _ _ _ _).trans (blk0 m c t _ _)
  · exact (Rows.ld_whole _ _ _ _).trans (blk2 m c t _ _)
  · exact (Rows.ld_whole _ _ _ _).trans (blk3 m c t _ _)

theorem arr1 : (dats m 0 c).arrAt 13 cfg0.N = M (A1 m c) (A2 m c) := by
  refine (dats m 0 c).arrAt_eq_of_covers 13 _ (by decide +kernel) fun t hf y => ?_
  blk_simp
  rw [after0_13]
  have hy : (y 0).val < 3 := (y 0).isLt
  have ey : y = ix2 (n0 := 3) (n1 := 256) (y 0) (y 1) := eq_ix2 y
  have eG : (((View.whole main_v0_1).slice (win0_13.rect t)).emb y) = ix2 (n0 := 3) (n1 := 256) (y 0) (y 1) := by
    blk_ext [idx13 t]
  rw [eG]
  refine (congrArg (out0_13 (F := Ideal) _ _ _ _ _ _ _ _ _ _ _ _) ey).trans ((Rows.canon_whole _ _ _ _ _).trans ((pointM0 _ _ _).trans ?_))
  refine congrArg₂ Adam.mom1 ?_ ?_
  · exact (Rows.ld_whole _ _ _ _).trans (blk1 m c t _ _)
  · exact (Rows.ld_whole _ _ _ _).trans (blk2 m c t _ _)

theorem arr2 : (dats m 0 c).arrAt 14 cfg0.N = U (A1 m c) (A3 m c) := by
  refine (dats m 0 c).arrAt_eq_of_covers 14 _ (by decide +kernel) fun t hf y => ?_
  blk_simp
  rw [after0_14]
  have hy : (y 0).val < 3 := (y 0).isLt
  have ey : y = ix2 (n0 := 3) (n1 := 256) (y 0) (y 1) := eq_ix2 y
  have eG : (((View.whole main_v0_2).slice (win0_14.rect t)).emb y) = ix2 (n0 := 3) (n1 := 256) (y 0) (y 1) := by
    blk_ext [idx14 t]
  rw [eG]
  refine (congrArg (out0_14 (F := Ideal) _ _ _ _ _ _ _ _ _ _ _ _) ey).trans ((Rows.canon_whole _ _ _ _ _).trans ((pointU0 _ _ _).trans ?_))
  refine congrArg₂ Adam.mom2 ?_ ?_
  · exact (Rows.ld_whole _ _ _ _).trans (blk1 m c t _ _)
  · exact (Rows.ld_whole _ _ _ _).trans (blk3 m c t _ _)

/-! The convolution's bias. -/

theorem pointD1 (x g y z : (⟨2, ![1, 256]⟩ : Shape).Idx → EReal) (i : (⟨2, ![1, 256]⟩ : Shape).Idx) :
    k0_pay9 (F := Ideal) x g y z i = Adam.delta (g i) (x i) (y i) (z i) := rfl
theorem pointM1 (g y : (⟨2, ![1, 256]⟩ : Shape).Idx → EReal) (i : (⟨2, ![1, 256]⟩ : Shape).Idx) : k0_pay7 (F := Ideal) g y i = Adam.mom1 (g i) (y i) := rfl
theorem pointU1 (g z : (⟨2, ![1, 256]⟩ : Shape).Idx → EReal) (i : (⟨2, ![1, 256]⟩ : Shape).Idx) : k0_pay8 (F := Ideal) g z i = Adam.mom2 (g i) (z i) := rfl

theorem arr3 : (dats m 0 c).arrAt 15 cfg0.N = D (A4 m c) (A5 m c) (A6 m c) (A7 m c) := by
  refine (dats m 0 c).arrAt_eq_of_covers 15 _ (by decide +kernel) fun t hf y => ?_
  blk_simp
  rw [after0_15]
  have hy : (y 0).val < 1 := (y 0).isLt
  have ey : y = ix2 (n0 := 1) (n1 := 256) (y 0) (y 1) := eq_ix2 y
  have eG : (((View.whole main_v0_3).slice (win0_15.rect t)).emb y) = ix2 (n0 := 1) (n1 := 256) (y 0) (y 1) := by
    blk_ext [idx15 t]
  rw [eG]
  refine (congrArg (out0_15 (F := Ideal) _ _ _ _ _ _ _ _ _ _ _ _) ey).trans ((Rows.canon_whole _ _ _ _ _).trans ((pointD1 _ _ _ _ _).trans ?_))
  refine Adam.delta_congr ?_ ?_ ?_ ?_
  · exact (Rows.ld_whole _ _ _ _).trans (blk5 m c t _ _)
  · exact (Rows.ld_whole _ _ _ _).trans (blk4 m c t _ _)
  · exact (Rows.ld_whole _ _ _ _).trans (blk6 m c t _ _)
  · exact (Rows.ld_whole _ _ _ _).trans (blk7 m c t _ _)

theorem arr4 : (dats m 0 c).arrAt 16 cfg0.N = M (A5 m c) (A6 m c) := by
  refine (dats m 0 c).arrAt_eq_of_covers 16 _ (by decide +kernel) fun t hf y => ?_
  blk_simp
  rw [after0_16]
  have hy : (y 0).val < 1 := (y 0).isLt
  have ey : y = ix2 (n0 := 1) (n1 := 256) (y 0) (y 1) := eq_ix2 y
  have eG : (((View.whole main_v0_4).slice (win0_16.rect t)).emb y) = ix2 (n0 := 1) (n1 := 256) (y 0) (y 1) := by
    blk_ext [idx16 t]
  rw [eG]
  refine (congrArg (out0_16 (F := Ideal) _ _ _ _ _ _ _ _ _ _ _ _) ey).trans ((Rows.canon_whole _ _ _ _ _).trans ((pointM1 _ _ _).trans ?_))
  refine congrArg₂ Adam.mom1 ?_ ?_
  · exact (Rows.ld_whole _ _ _ _).trans (blk5 m c t _ _)
  · exact (Rows.ld_whole _ _ _ _).trans (blk6 m c t _ _)

theorem arr5 : (dats m 0 c).arrAt 17 cfg0.N = U (A5 m c) (A7 m c) := by
  refine (dats m 0 c).arrAt_eq_of_covers 17 _ (by decide +kernel) fun t hf y => ?_
  blk_simp
  rw [after0_17]
  have hy : (y 0).val < 1 := (y 0).isLt
  have ey : y = ix2 (n0 := 1) (n1 := 256) (y 0) (y 1) := eq_ix2 y
  have eG : (((View.whole main_v0_5).slice (win0_17.rect t)).emb y) = ix2 (n0 := 1) (n1 := 256) (y 0) (y 1) := by
    blk_ext [idx17 t]
  rw [eG]
  refine (congrArg (out0_17 (F := Ideal) _ _ _ _ _ _ _ _ _ _ _ _) ey).trans ((Rows.canon_whole _ _ _ _ _).trans ((pointU1 _ _ _).trans ?_))
  refine congrArg₂ Adam.mom2 ?_ ?_
  · exact (Rows.ld_whole _ _ _ _).trans (blk5 m c t _ _)
  · exact (Rows.ld_whole _ _ _ _).trans (blk7 m c t _ _)

/-! The final norm's gain. -/

theorem pointD2 (x g y z : (⟨2, ![1, 1024]⟩ : Shape).Idx → EReal) (i : (⟨2, ![1, 1024]⟩ : Shape).Idx) :
    k0_pay3 (F := Ideal) x g y z i = Adam.delta (g i) (x i) (y i) (z i) := rfl
theorem pointM2 (g y : (⟨2, ![1, 1024]⟩ : Shape).Idx → EReal) (i : (⟨2, ![1, 1024]⟩ : Shape).Idx) : k0_pay1 (F := Ideal) g y i = Adam.mom1 (g i) (y i) := rfl
theorem pointU2 (g z : (⟨2, ![1, 1024]⟩ : Shape).Idx → EReal) (i : (⟨2, ![1, 1024]⟩ : Shape).Idx) : k0_pay2 (F := Ideal) g z i = Adam.mom2 (g i) (z i) := rfl

theorem arr6 : (dats m 0 c).arrAt 18 cfg0.N = D (A8 m c) (A9 m c) (A10 m c) (A11 m c) := by
  refine (dats m 0 c).arrAt_eq_of_covers 18 _ (by decide +kernel) fun t hf y => ?_
  blk_simp
  rw [after0_18]
  have hy : (y 0).val < 1 := (y 0).isLt
  have ey : y = ix2 (n0 := 1) (n1 := 1024) (y 0) (y 1) := eq_ix2 y
  have eG : (((View.whole main_v0_6).slice (win0_18.rect t)).emb y) = ix2 (n0 := 1) (n1 := 1024) (y 0) (y 1) := by
    blk_ext [idx18 t]
  rw [eG]
  refine (congrArg (out0_18 (F := Ideal) _ _ _ _ _ _ _ _ _ _ _ _) ey).trans ((Rows.canon_whole _ _ _ _ _).trans ((pointD2 _ _ _ _ _).trans ?_))
  refine Adam.delta_congr ?_ ?_ ?_ ?_
  · exact (Rows.ld_whole _ _ _ _).trans (blk9 m c t _ _)
  · exact (Rows.ld_whole _ _ _ _).trans (blk8 m c t _ _)
  · exact (Rows.ld_whole _ _ _ _).trans (blk10 m c t _ _)
  · exact (Rows.ld_whole _ _ _ _).trans (blk11 m c t _ _)

theorem arr7 : (dats m 0 c).arrAt 19 cfg0.N = M (A9 m c) (A10 m c) := by
  refine (dats m 0 c).arrAt_eq_of_covers 19 _ (by decide +kernel) fun t hf y => ?_
  blk_simp
  rw [after0_19]
  have hy : (y 0).val < 1 := (y 0).isLt
  have ey : y = ix2 (n0 := 1) (n1 := 1024) (y 0) (y 1) := eq_ix2 y
  have eG : (((View.whole main_v0_7).slice (win0_19.rect t)).emb y) = ix2 (n0 := 1) (n1 := 1024) (y 0) (y 1) := by
    blk_ext [idx19 t]
  rw [eG]
  refine (congrArg (out0_19 (F := Ideal) _ _ _ _ _ _ _ _ _ _ _ _) ey).trans ((Rows.canon_whole _ _ _ _ _).trans ((pointM2 _ _ _).trans ?_))
  refine congrArg₂ Adam.mom1 ?_ ?_
  · exact (Rows.ld_whole _ _ _ _).trans (blk9 m c t _ _)
  · exact (Rows.ld_whole _ _ _ _).trans (blk10 m c t _ _)

theorem arr8 : (dats m 0 c).arrAt 20 cfg0.N = U (A9 m c) (A11 m c) := by
  refine (dats m 0 c).arrAt_eq_of_covers 20 _ (by decide +kernel) fun t hf y => ?_
  blk_simp
  rw [after0_20]
  have hy : (y 0).val < 1 := (y 0).isLt
  have ey : y = ix2 (n0 := 1) (n1 := 1024) (y 0) (y 1) := eq_ix2 y
  have eG : (((View.whole main_v0_8).slice (win0_20.rect t)).emb y) = ix2 (n0 := 1) (n1 := 1024) (y 0) (y 1) := by
    blk_ext [idx20 t]
  rw [eG]
  refine (congrArg (out0_20 (F := Ideal) _ _ _ _ _ _ _ _ _ _ _ _) ey).trans ((Rows.canon_whole _ _ _ _ _).trans ((pointU2 _ _ _).trans ?_))
  refine congrArg₂ Adam.mom2 ?_ ?_
  · exact (Rows.ld_whole _ _ _ _).trans (blk9 m c t _ _)
  · exact (Rows.ld_whole _ _ _ _).trans (blk11 m c t _ _)

end Kernel

section Reference

open Cert.AdamTinyRefIdeal.Read

/-! The reference's step, entry by entry. -/

theorem refD0 (x g y z : Wt 3 256) : val_main_v23 (F := Ideal) x g y z = D x g y z := rfl
theorem refM0 (g y : Wt 3 256) : val_main_v4 (F := Ideal) g y = M g y := rfl
theorem refU0 (g z : Wt 3 256) : val_main_v10 (F := Ideal) g z = U g z := rfl
theorem refD1 (x g y z : Wt 1 256) : val_main_v47 (F := Ideal) x g y z = D x g y z := rfl
theorem refM1 (g y : Wt 1 256) : val_main_v28 (F := Ideal) g y = M g y := rfl
theorem refU1 (g z : Wt 1 256) : val_main_v34 (F := Ideal) g z = U g z := rfl
theorem refD2 (x g y z : Wt 1 1024) : val_main_v71 (F := Ideal) x g y z = D x g y z := rfl
theorem refM2 (g y : Wt 1 1024) : val_main_v52 (F := Ideal) g y = M g y := rfl
theorem refU2 (g z : Wt 1 1024) : val_main_v58 (F := Ideal) g z = U g z := rfl

end Reference

/-- The reference's frame. -/
theorem ref_frame : Cert.quiescent_AdamTinyRefIdeal := fun m ρ _ =>
  (θ_run Cert.AdamTinyRefIdeal.defs _ _).mono (fun r h => ⟨fun c => (h c).2.2.2.2.2.2.2.2.2,
      Idealize.ShloMosaic.sem_eq_zero_of_no_sems (by decide) r.2⟩)
    (Cert.AdamTinyRefIdeal.Value.run (F := Ideal) m ρ)

/-- Equal results. -/
theorem algebraic : Cert.algebraic_AdamTinyIdeal_AdamTinyRefIdeal := by
  intro m g m' g' _ hag
  refine ⟨fun c => D (A0 m c) (A1 m c) (A2 m c) (A3 m c),
    fun c => M (A1 m c) (A2 m c),
    fun c => U (A1 m c) (A3 m c),
    fun c => D (A4 m c) (A5 m c) (A6 m c) (A7 m c),
    fun c => M (A5 m c) (A6 m c),
    fun c => U (A5 m c) (A7 m c),
    fun c => D (A8 m c) (A9 m c) (A10 m c) (A11 m c),
    fun c => M (A9 m c) (A10 m c),
    fun c => U (A9 m c) (A11 m c), ?_, ?_⟩
  · refine (θ_run Cert.AdamTinyIdeal.defs _ _).mono (fun r h c => ?_) (Cert.AdamTinyIdeal.Value.run_blocks (F := Ideal) m g)
    obtain ⟨r0, r1, r2, r3, r4, r5, r6, r7, r8, ra⟩ := h c
    exact ⟨r0.trans (arr0 m c), r1.trans (arr1 m c), r2.trans (arr2 m c), r3.trans (arr3 m c), r4.trans (arr4 m c), r5.trans (arr5 m c), r6.trans (arr6 m c), r7.trans (arr7 m c), r8.trans (arr8 m c), ra⟩
  · refine (θ_run Cert.AdamTinyRefIdeal.defs _ _).mono (fun r h c => ?_) (Cert.AdamTinyRefIdeal.Value.run (F := Ideal) m' g')
    obtain ⟨r0, r1, r2, r3, r4, r5, r6, r7, r8, ra⟩ := h c
    obtain ⟨e0, e1, e2, e3, e4, e5, e6, e7, e8, e9, e10, e11⟩ := hag c
    refine ⟨r0.trans ((Cert.AdamTinyRefIdeal.Read.val_main_v23_eq _ _ _ _).trans ?_),
      r1.trans ((Cert.AdamTinyRefIdeal.Read.val_main_v4_eq _ _).trans ?_),
      r2.trans ((Cert.AdamTinyRefIdeal.Read.val_main_v10_eq _ _).trans ?_),
      r3.trans ((Cert.AdamTinyRefIdeal.Read.val_main_v47_eq _ _ _ _).trans ?_),
      r4.trans ((Cert.AdamTinyRefIdeal.Read.val_main_v28_eq _ _).trans ?_),
      r5.trans ((Cert.AdamTinyRefIdeal.Read.val_main_v34_eq _ _).trans ?_),
      r6.trans ((Cert.AdamTinyRefIdeal.Read.val_main_v71_eq _ _ _ _).trans ?_),
      r7.trans ((Cert.AdamTinyRefIdeal.Read.val_main_v52_eq _ _).trans ?_),
      r8.trans ((Cert.AdamTinyRefIdeal.Read.val_main_v58_eq _ _).trans ?_), ra⟩
    · exact (refD0 _ _ _ _).trans (congrD e0 e1 e2 e3)
    · exact (refM0 _ _).trans (congrArg₂ M e1 e2)
    · exact (refU0 _ _).trans (congrArg₂ U e1 e3)
    · exact (refD1 _ _ _ _).trans (congrD e4 e5 e6 e7)
    · exact (refM1 _ _).trans (congrArg₂ M e5 e6)
    · exact (refU1 _ _).trans (congrArg₂ U e5 e7)
    · exact (refD2 _ _ _ _).trans (congrD e8 e9 e10 e11)
    · exact (refM2 _ _).trans (congrArg₂ M e9 e10)
    · exact (refU2 _ _).trans (congrArg₂ U e9 e11)

end Cert.AdamT

end
-- ==== Proof.lean ====
/- The claims of this proof: for each call its frames, the text that the idealised program keeps, and the equality of
   the kernel's results with the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.NormBwd
public import proofs.«01_k».proof.Proof.Gen.NormBwd.Skeleton
public import proofs.«01_k».proof.Proof.Gen.NormBwd.Launch
public import proofs.«01_k».proof.Proof.Gen.NormBwd.Points
public import proofs.«01_k».proof.Proof.Gen.NormBwd.Frame
public import proofs.«01_k».proof.Proof.Gen.NormBwdIdeal
public import proofs.«01_k».proof.Proof.Gen.NormBwdIdeal.Skeleton
public import proofs.«01_k».proof.Proof.Gen.NormBwdIdeal.Launch
public import proofs.«01_k».proof.Proof.Gen.NormBwdIdeal.Points
public import proofs.«01_k».proof.Proof.Gen.NormBwdIdeal.Frame
public import proofs.«01_k».proof.Proof.Gen.NormBwdIdeal.Value
public import proofs.«01_k».proof.Proof.Gen.NormBwdRefIdeal
public import proofs.«01_k».proof.Proof.Gen.NormBwdRefIdeal.Run
public import proofs.«01_k».proof.Proof.Gen.NormBwdRefIdeal.Read
public import proofs.«01_k».proof.Proof.Gen.OutBwd
public import proofs.«01_k».proof.Proof.Gen.OutBwd.Skeleton
public import proofs.«01_k».proof.Proof.Gen.OutBwd.Launch
public import proofs.«01_k».proof.Proof.Gen.OutBwd.Points
public import proofs.«01_k».proof.Proof.Gen.OutBwd.Frame
public import proofs.«01_k».proof.Proof.Gen.OutBwdIdeal
public import proofs.«01_k».proof.Proof.Gen.OutBwdIdeal.Skeleton
public import proofs.«01_k».proof.Proof.Gen.OutBwdIdeal.Launch
public import proofs.«01_k».proof.Proof.Gen.OutBwdIdeal.Points
public import proofs.«01_k».proof.Proof.Gen.OutBwdIdeal.Frame
public import proofs.«01_k».proof.Proof.Gen.OutBwdIdeal.Value
public import proofs.«01_k».proof.Proof.Gen.OutBwdRefIdeal
public import proofs.«01_k».proof.Proof.Gen.OutBwdRefIdeal.Run
public import proofs.«01_k».proof.Proof.Gen.OutBwdRefIdeal.Read
public import proofs.«01_k».proof.Proof.Gen.OutWgrad
public import proofs.«01_k».proof.Proof.Gen.OutWgrad.Skeleton
public import proofs.«01_k».proof.Proof.Gen.OutWgrad.Launch
public import proofs.«01_k».proof.Proof.Gen.OutWgrad.Points
public import proofs.«01_k».proof.Proof.Gen.OutWgrad.Frame
public import proofs.«01_k».proof.Proof.Gen.OutWgradIdeal
public import proofs.«01_k».proof.Proof.Gen.OutWgradIdeal.Skeleton
public import proofs.«01_k».proof.Proof.Gen.OutWgradIdeal.Launch
public import proofs.«01_k».proof.Proof.Gen.OutWgradIdeal.Points
public import proofs.«01_k».proof.Proof.Gen.OutWgradIdeal.Frame
public import proofs.«01_k».proof.Proof.Gen.OutWgradIdeal.Value
public import proofs.«01_k».proof.Proof.Gen.OutWgradRefIdeal
public import proofs.«01_k».proof.Proof.Gen.OutWgradRefIdeal.Run
public import proofs.«01_k».proof.Proof.Gen.OutWgradRefIdeal.Read
public import proofs.«01_k».proof.Proof.Gen.InWgrad
public import proofs.«01_k».proof.Proof.Gen.InWgrad.Skeleton
public import proofs.«01_k».proof.Proof.Gen.InWgrad.Launch
public import proofs.«01_k».proof.Proof.Gen.InWgrad.Points
public import proofs.«01_k».proof.Proof.Gen.InWgrad.Frame
public import proofs.«01_k».proof.Proof.Gen.InWgradIdeal
public import proofs.«01_k».proof.Proof.Gen.InWgradIdeal.Skeleton
public import proofs.«01_k».proof.Proof.Gen.InWgradIdeal.Launch
public import proofs.«01_k».proof.Proof.Gen.InWgradIdeal.Points
public import proofs.«01_k».proof.Proof.Gen.InWgradIdeal.Frame
public import proofs.«01_k».proof.Proof.Gen.InWgradIdeal.Value
public import proofs.«01_k».proof.Proof.Gen.InWgradRefIdeal
public import proofs.«01_k».proof.Proof.Gen.InWgradRefIdeal.Run
public import proofs.«01_k».proof.Proof.Gen.InWgradRefIdeal.Read
public import proofs.«01_k».proof.Proof.Gen.EvenWgrad
public import proofs.«01_k».proof.Proof.Gen.EvenWgrad.Skeleton
public import proofs.«01_k».proof.Proof.Gen.EvenWgrad.Launch
public import proofs.«01_k».proof.Proof.Gen.EvenWgrad.Points
public import proofs.«01_k».proof.Proof.Gen.EvenWgrad.Frame
public import proofs.«01_k».proof.Proof.Gen.EvenWgradIdeal
public import proofs.«01_k».proof.Proof.Gen.EvenWgradIdeal.Skeleton
public import proofs.«01_k».proof.Proof.Gen.EvenWgradIdeal.Launch
public import proofs.«01_k».proof.Proof.Gen.EvenWgradIdeal.Points
public import proofs.«01_k».proof.Proof.Gen.EvenWgradIdeal.Frame
public import proofs.«01_k».proof.Proof.Gen.EvenWgradIdeal.Value
public import proofs.«01_k».proof.Proof.Gen.EvenWgradRefIdeal
public import proofs.«01_k».proof.Proof.Gen.EvenWgradRefIdeal.Run
public import proofs.«01_k».proof.Proof.Gen.EvenWgradRefIdeal.Read
public import proofs.«01_k».proof.Proof.Gen.OutFwd
public import proofs.«01_k».proof.Proof.Gen.OutFwd.Skeleton
public import proofs.«01_k».proof.Proof.Gen.OutFwd.Launch
public import proofs.«01_k».proof.Proof.Gen.OutFwd.Points
public import proofs.«01_k».proof.Proof.Gen.OutFwd.Frame
public import proofs.«01_k».proof.Proof.Gen.OutFwdIdeal
public import proofs.«01_k».proof.Proof.Gen.OutFwdIdeal.Skeleton
public import proofs.«01_k».proof.Proof.Gen.OutFwdIdeal.Launch
public import proofs.«01_k».proof.Proof.Gen.OutFwdIdeal.Points
public import proofs.«01_k».proof.Proof.Gen.OutFwdIdeal.Frame
public import proofs.«01_k».proof.Proof.Gen.OutFwdIdeal.Value
public import proofs.«01_k».proof.Proof.Gen.OutFwdRefIdeal
public import proofs.«01_k».proof.Proof.Gen.OutFwdRefIdeal.Run
public import proofs.«01_k».proof.Proof.Gen.OutFwdRefIdeal.Read
public import proofs.«01_k».proof.Proof.Gen.InFwd
public import proofs.«01_k».proof.Proof.Gen.InFwd.Skeleton
public import proofs.«01_k».proof.Proof.Gen.InFwd.Launch
public import proofs.«01_k».proof.Proof.Gen.InFwd.Points
public import proofs.«01_k».proof.Proof.Gen.InFwd.Frame
public import proofs.«01_k».proof.Proof.Gen.InFwdIdeal
public import proofs.«01_k».proof.Proof.Gen.InFwdIdeal.Skeleton
public import proofs.«01_k».proof.Proof.Gen.InFwdIdeal.Launch
public import proofs.«01_k».proof.Proof.Gen.InFwdIdeal.Points
public import proofs.«01_k».proof.Proof.Gen.InFwdIdeal.Frame
public import proofs.«01_k».proof.Proof.Gen.InFwdIdeal.Value
public import proofs.«01_k».proof.Proof.Gen.InFwdRefIdeal
public import proofs.«01_k».proof.Proof.Gen.InFwdRefIdeal.Run
public import proofs.«01_k».proof.Proof.Gen.InFwdRefIdeal.Read
public import proofs.«01_k».proof.Proof.Gen.GateBwd
public import proofs.«01_k».proof.Proof.Gen.GateBwd.Skeleton
public import proofs.«01_k».proof.Proof.Gen.GateBwd.Launch
public import proofs.«01_k».proof.Proof.Gen.GateBwd.Points
public import proofs.«01_k».proof.Proof.Gen.GateBwd.Frame
public import proofs.«01_k».proof.Proof.Gen.GateBwdIdeal
public import proofs.«01_k».proof.Proof.Gen.GateBwdIdeal.Skeleton
public import proofs.«01_k».proof.Proof.Gen.GateBwdIdeal.Launch
public import proofs.«01_k».proof.Proof.Gen.GateBwdIdeal.Points
public import proofs.«01_k».proof.Proof.Gen.GateBwdIdeal.Frame
public import proofs.«01_k».proof.Proof.Gen.GateBwdIdeal.Value
public import proofs.«01_k».proof.Proof.Gen.GateBwdRefIdeal
public import proofs.«01_k».proof.Proof.Gen.GateBwdRefIdeal.Run
public import proofs.«01_k».proof.Proof.Gen.GateBwdRefIdeal.Read
public import proofs.«01_k».proof.Proof.Gen.EvenBwd
public import proofs.«01_k».proof.Proof.Gen.EvenBwd.Skeleton
public import proofs.«01_k».proof.Proof.Gen.EvenBwd.Launch
public import proofs.«01_k».proof.Proof.Gen.EvenBwd.Points
public import proofs.«01_k».proof.Proof.Gen.EvenBwd.Frame
public import proofs.«01_k».proof.Proof.Gen.EvenBwdIdeal
public import proofs.«01_k».proof.Proof.Gen.EvenBwdIdeal.Skeleton
public import proofs.«01_k».proof.Proof.Gen.EvenBwdIdeal.Launch
public import proofs.«01_k».proof.Proof.Gen.EvenBwdIdeal.Points
public import proofs.«01_k».proof.Proof.Gen.EvenBwdIdeal.Frame
public import proofs.«01_k».proof.Proof.Gen.EvenBwdIdeal.Value
public import proofs.«01_k».proof.Proof.Gen.EvenBwdRefIdeal
public import proofs.«01_k».proof.Proof.Gen.EvenBwdRefIdeal.Run
public import proofs.«01_k».proof.Proof.Gen.EvenBwdRefIdeal.Read
public import proofs.«01_k».proof.Proof.Gen.AdamInEven
public import proofs.«01_k».proof.Proof.Gen.AdamInEven.Skeleton
public import proofs.«01_k».proof.Proof.Gen.AdamInEven.Launch
public import proofs.«01_k».proof.Proof.Gen.AdamInEven.Points
public import proofs.«01_k».proof.Proof.Gen.AdamInEven.Frame
public import proofs.«01_k».proof.Proof.Gen.AdamInEvenIdeal
public import proofs.«01_k».proof.Proof.Gen.AdamInEvenIdeal.Skeleton
public import proofs.«01_k».proof.Proof.Gen.AdamInEvenIdeal.Launch
public import proofs.«01_k».proof.Proof.Gen.AdamInEvenIdeal.Points
public import proofs.«01_k».proof.Proof.Gen.AdamInEvenIdeal.Frame
public import proofs.«01_k».proof.Proof.Gen.AdamInEvenIdeal.Value
public import proofs.«01_k».proof.Proof.Gen.AdamInEvenRefIdeal
public import proofs.«01_k».proof.Proof.Gen.AdamInEvenRefIdeal.Run
public import proofs.«01_k».proof.Proof.Gen.AdamInEvenRefIdeal.Read
public import proofs.«01_k».proof.Proof.Gen.AdamOut
public import proofs.«01_k».proof.Proof.Gen.AdamOut.Skeleton
public import proofs.«01_k».proof.Proof.Gen.AdamOut.Launch
public import proofs.«01_k».proof.Proof.Gen.AdamOut.Points
public import proofs.«01_k».proof.Proof.Gen.AdamOut.Frame
public import proofs.«01_k».proof.Proof.Gen.AdamOutIdeal
public import proofs.«01_k».proof.Proof.Gen.AdamOutIdeal.Skeleton
public import proofs.«01_k».proof.Proof.Gen.AdamOutIdeal.Launch
public import proofs.«01_k».proof.Proof.Gen.AdamOutIdeal.Points
public import proofs.«01_k».proof.Proof.Gen.AdamOutIdeal.Frame
public import proofs.«01_k».proof.Proof.Gen.AdamOutIdeal.Value
public import proofs.«01_k».proof.Proof.Gen.AdamOutRefIdeal
public import proofs.«01_k».proof.Proof.Gen.AdamOutRefIdeal.Run
public import proofs.«01_k».proof.Proof.Gen.AdamOutRefIdeal.Read
public import proofs.«01_k».proof.Proof.Gen.AdamInOdd
public import proofs.«01_k».proof.Proof.Gen.AdamInOdd.Skeleton
public import proofs.«01_k».proof.Proof.Gen.AdamInOdd.Launch
public import proofs.«01_k».proof.Proof.Gen.AdamInOdd.Points
public import proofs.«01_k».proof.Proof.Gen.AdamInOdd.Frame
public import proofs.«01_k».proof.Proof.Gen.AdamInOddIdeal
public import proofs.«01_k».proof.Proof.Gen.AdamInOddIdeal.Skeleton
public import proofs.«01_k».proof.Proof.Gen.AdamInOddIdeal.Launch
public import proofs.«01_k».proof.Proof.Gen.AdamInOddIdeal.Points
public import proofs.«01_k».proof.Proof.Gen.AdamInOddIdeal.Frame
public import proofs.«01_k».proof.Proof.Gen.AdamInOddIdeal.Value
public import proofs.«01_k».proof.Proof.Gen.AdamInOddRefIdeal
public import proofs.«01_k».proof.Proof.Gen.AdamInOddRefIdeal.Run
public import proofs.«01_k».proof.Proof.Gen.AdamInOddRefIdeal.Read
public import proofs.«01_k».proof.Proof.Gen.AdamPool
public import proofs.«01_k».proof.Proof.Gen.AdamPool.Skeleton
public import proofs.«01_k».proof.Proof.Gen.AdamPool.Launch
public import proofs.«01_k».proof.Proof.Gen.AdamPool.Points
public import proofs.«01_k».proof.Proof.Gen.AdamPool.Frame
public import proofs.«01_k».proof.Proof.Gen.AdamPoolIdeal
public import proofs.«01_k».proof.Proof.Gen.AdamPoolIdeal.Skeleton
public import proofs.«01_k».proof.Proof.Gen.AdamPoolIdeal.Launch
public import proofs.«01_k».proof.Proof.Gen.AdamPoolIdeal.Points
public import proofs.«01_k».proof.Proof.Gen.AdamPoolIdeal.Frame
public import proofs.«01_k».proof.Proof.Gen.AdamPoolIdeal.Value
public import proofs.«01_k».proof.Proof.Gen.AdamPoolRefIdeal
public import proofs.«01_k».proof.Proof.Gen.AdamPoolRefIdeal.Run
public import proofs.«01_k».proof.Proof.Gen.AdamPoolRefIdeal.Read
public import proofs.«01_k».proof.Proof.Gen.FinalLoss
public import proofs.«01_k».proof.Proof.Gen.FinalLoss.Skeleton
public import proofs.«01_k».proof.Proof.Gen.FinalLoss.Launch
public import proofs.«01_k».proof.Proof.Gen.FinalLoss.Points
public import proofs.«01_k».proof.Proof.Gen.FinalLoss.Frame
public import proofs.«01_k».proof.Proof.Gen.FinalLossIdeal
public import proofs.«01_k».proof.Proof.Gen.FinalLossIdeal.Skeleton
public import proofs.«01_k».proof.Proof.Gen.FinalLossIdeal.Launch
public import proofs.«01_k».proof.Proof.Gen.FinalLossIdeal.Points
public import proofs.«01_k».proof.Proof.Gen.FinalLossIdeal.Frame
public import proofs.«01_k».proof.Proof.Gen.FinalLossIdeal.Value
public import proofs.«01_k».proof.Proof.Gen.FinalLossRefIdeal
public import proofs.«01_k».proof.Proof.Gen.FinalLossRefIdeal.Run
public import proofs.«01_k».proof.Proof.Gen.FinalLossRefIdeal.Read
public import proofs.«01_k».proof.Proof.Gen.AdamSmall
public import proofs.«01_k».proof.Proof.Gen.AdamSmall.Skeleton
public import proofs.«01_k».proof.Proof.Gen.AdamSmall.Launch
public import proofs.«01_k».proof.Proof.Gen.AdamSmall.Points
public import proofs.«01_k».proof.Proof.Gen.AdamSmall.Frame
public import proofs.«01_k».proof.Proof.Gen.AdamSmallIdeal
public import proofs.«01_k».proof.Proof.Gen.AdamSmallIdeal.Skeleton
public import proofs.«01_k».proof.Proof.Gen.AdamSmallIdeal.Launch
public import proofs.«01_k».proof.Proof.Gen.AdamSmallIdeal.Points
public import proofs.«01_k».proof.Proof.Gen.AdamSmallIdeal.Frame
public import proofs.«01_k».proof.Proof.Gen.AdamSmallIdeal.Value
public import proofs.«01_k».proof.Proof.Gen.AdamSmallRefIdeal
public import proofs.«01_k».proof.Proof.Gen.AdamSmallRefIdeal.Run
public import proofs.«01_k».proof.Proof.Gen.AdamSmallRefIdeal.Read
public import proofs.«01_k».proof.Proof.Gen.AdamTiny
public import proofs.«01_k».proof.Proof.Gen.AdamTiny.Skeleton
public import proofs.«01_k».proof.Proof.Gen.AdamTiny.Launch
public import proofs.«01_k».proof.Proof.Gen.AdamTiny.Points
public import proofs.«01_k».proof.Proof.Gen.AdamTiny.Frame
public import proofs.«01_k».proof.Proof.Gen.AdamTinyIdeal
public import proofs.«01_k».proof.Proof.Gen.AdamTinyIdeal.Skeleton
public import proofs.«01_k».proof.Proof.Gen.AdamTinyIdeal.Launch
public import proofs.«01_k».proof.Proof.Gen.AdamTinyIdeal.Points
public import proofs.«01_k».proof.Proof.Gen.AdamTinyIdeal.Frame
public import proofs.«01_k».proof.Proof.Gen.AdamTinyIdeal.Value
public import proofs.«01_k».proof.Proof.Gen.AdamTinyRefIdeal
public import proofs.«01_k».proof.Proof.Gen.AdamTinyRefIdeal.Run
public import proofs.«01_k».proof.Proof.Gen.AdamTinyRefIdeal.Read
public import proofs.«01_k».proof.Proof.Gen.AdamAda
public import proofs.«01_k».proof.Proof.Gen.AdamAda.Skeleton
public import proofs.«01_k».proof.Proof.Gen.AdamAda.Launch
public import proofs.«01_k».proof.Proof.Gen.AdamAda.Points
public import proofs.«01_k».proof.Proof.Gen.AdamAda.Frame
public import proofs.«01_k».proof.Proof.Gen.AdamAdaIdeal
public import proofs.«01_k».proof.Proof.Gen.AdamAdaIdeal.Skeleton
public import proofs.«01_k».proof.Proof.Gen.AdamAdaIdeal.Launch
public import proofs.«01_k».proof.Proof.Gen.AdamAdaIdeal.Points
public import proofs.«01_k».proof.Proof.Gen.AdamAdaIdeal.Frame
public import proofs.«01_k».proof.Proof.Gen.AdamAdaRefIdeal
public import proofs.«01_k».proof.Proof.Gen.AdamAdaRefIdeal.Run
public import proofs.«01_k».proof.Proof.Gen.AdamAdaRefIdeal.Read
public import proofs.«01_k».proof.Proof.Gen.GateFwd
public import proofs.«01_k».proof.Proof.Gen.GateFwd.Skeleton
public import proofs.«01_k».proof.Proof.Gen.GateFwd.Launch
public import proofs.«01_k».proof.Proof.Gen.GateFwd.Points
public import proofs.«01_k».proof.Proof.Gen.GateFwd.Frame
public import proofs.«01_k».proof.Proof.Gen.GateFwdIdeal
public import proofs.«01_k».proof.Proof.Gen.GateFwdIdeal.Skeleton
public import proofs.«01_k».proof.Proof.Gen.GateFwdIdeal.Launch
public import proofs.«01_k».proof.Proof.Gen.GateFwdIdeal.Points
public import proofs.«01_k».proof.Proof.Gen.GateFwdIdeal.Frame
public import proofs.«01_k».proof.Proof.Gen.GateFwdIdeal.Value
public import proofs.«01_k».proof.Proof.Gen.GateFwdRefIdeal
public import proofs.«01_k».proof.Proof.Gen.GateFwdRefIdeal.Run
public import proofs.«01_k».proof.Proof.Gen.GateFwdRefIdeal.Read
public import proofs.«01_k».proof.Proof.Gen.LnMod
public import proofs.«01_k».proof.Proof.Gen.LnMod.Skeleton
public import proofs.«01_k».proof.Proof.Gen.LnMod.Launch
public import proofs.«01_k».proof.Proof.Gen.LnMod.Points
public import proofs.«01_k».proof.Proof.Gen.LnMod.Frame
public import proofs.«01_k».proof.Proof.Gen.LnModIdeal
public import proofs.«01_k».proof.Proof.Gen.LnModIdeal.Skeleton
public import proofs.«01_k».proof.Proof.Gen.LnModIdeal.Launch
public import proofs.«01_k».proof.Proof.Gen.LnModIdeal.Points
public import proofs.«01_k».proof.Proof.Gen.LnModIdeal.Frame
public import proofs.«01_k».proof.Proof.Gen.LnModIdeal.Value
public import proofs.«01_k».proof.Proof.Gen.LnModRefIdeal
public import proofs.«01_k».proof.Proof.Gen.LnModRefIdeal.Run
public import proofs.«01_k».proof.Proof.Gen.LnModRefIdeal.Read
public import proofs.«01_k».proof.Proof.Gen.ResidLn
public import proofs.«01_k».proof.Proof.Gen.ResidLn.Skeleton
public import proofs.«01_k».proof.Proof.Gen.ResidLn.Launch
public import proofs.«01_k».proof.Proof.Gen.ResidLn.Points
public import proofs.«01_k».proof.Proof.Gen.ResidLn.Frame
public import proofs.«01_k».proof.Proof.Gen.ResidLnIdeal
public import proofs.«01_k».proof.Proof.Gen.ResidLnIdeal.Skeleton
public import proofs.«01_k».proof.Proof.Gen.ResidLnIdeal.Launch
public import proofs.«01_k».proof.Proof.Gen.ResidLnIdeal.Points
public import proofs.«01_k».proof.Proof.Gen.ResidLnIdeal.Frame
public import proofs.«01_k».proof.Proof.Gen.ResidLnIdeal.Value
public import proofs.«01_k».proof.Proof.Gen.ResidLnRefIdeal
public import proofs.«01_k».proof.Proof.Gen.ResidLnRefIdeal.Run
public import proofs.«01_k».proof.Proof.Gen.ResidLnRefIdeal.Read
public import proofs.«01_k».proof.Proof.Gen.ConvFwd
public import proofs.«01_k».proof.Proof.Gen.ConvFwd.Skeleton
public import proofs.«01_k».proof.Proof.Gen.ConvFwd.Launch
public import proofs.«01_k».proof.Proof.Gen.ConvFwd.Points
public import proofs.«01_k».proof.Proof.Gen.ConvFwd.Frame
public import proofs.«01_k».proof.Proof.Gen.ConvFwdIdeal
public import proofs.«01_k».proof.Proof.Gen.ConvFwdIdeal.Skeleton
public import proofs.«01_k».proof.Proof.Gen.ConvFwdIdeal.Launch
public import proofs.«01_k».proof.Proof.Gen.ConvFwdIdeal.Points
public import proofs.«01_k».proof.Proof.Gen.ConvFwdIdeal.Frame
public import proofs.«01_k».proof.Proof.Gen.ConvFwdIdeal.Value
public import proofs.«01_k».proof.Proof.Gen.ConvFwdRefIdeal
public import proofs.«01_k».proof.Proof.Gen.ConvFwdRefIdeal.Run
public import proofs.«01_k».proof.Proof.Gen.ConvFwdRefIdeal.Read
public import proofs.«01_k».proof.Proof.Gen.Pre_finite
public import proofs.«01_k».proof.Proof.Gen.Pre_norm_bwd_finite
public import proofs.«01_k».proof.Proof.Gen.Pre_gate_bwd_finite
public import proofs.«01_k».proof.Proof.Gen.Pre_even_bwd_finite
public import proofs.«01_k».proof.Proof.Gen.Pre_final_loss_finite
public import proofs.«01_k».proof.Proof.ConvClaim
public import proofs.«01_k».proof.Proof.NormClaim
public import proofs.«01_k».proof.Proof.OutBwdClaim
public import proofs.«01_k».proof.Proof.OutWgradClaim
public import proofs.«01_k».proof.Proof.InWgradClaim
public import proofs.«01_k».proof.Proof.EvenWgradClaim
public import proofs.«01_k».proof.Proof.OutFwdClaim
public import proofs.«01_k».proof.Proof.InFwdClaim
public import proofs.«01_k».proof.Proof.GateBwdClaim
public import proofs.«01_k».proof.Proof.EvenBwdClaim
public import proofs.«01_k».proof.Proof.AdamInEvenClaim
public import proofs.«01_k».proof.Proof.AdamOutClaim
public import proofs.«01_k».proof.Proof.AdamInOddClaim
public import proofs.«01_k».proof.Proof.AdamPoolClaim
public import proofs.«01_k».proof.Proof.FinalLossClaim
public import proofs.«01_k».proof.Proof.AdamSmallClaim
public import proofs.«01_k».proof.Proof.AdamAdaClaim
public import proofs.«01_k».proof.Proof.GateFwdClaim
public import proofs.«01_k».proof.Proof.LnModClaim
public import proofs.«01_k».proof.Proof.ResidLnClaim
public import proofs.«01_k».proof.Proof.ConvFwdClaim
public import proofs.«01_k».proof.Proof.AdamTinyClaim
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts,
  Cert.KernelIdeal.Gen.facts,
  Cert.ReferenceIdeal.Gen.facts,
  Cert.NormBwd.Gen.facts,
  Cert.NormBwdIdeal.Gen.facts,
  Cert.NormBwdRefIdeal.Gen.facts,
  Cert.OutBwd.Gen.facts,
  Cert.OutBwdIdeal.Gen.facts,
  Cert.OutBwdRefIdeal.Gen.facts,
  Cert.OutWgrad.Gen.facts,
  Cert.OutWgradIdeal.Gen.facts,
  Cert.OutWgradRefIdeal.Gen.facts,
  Cert.InWgrad.Gen.facts,
  Cert.InWgradIdeal.Gen.facts,
  Cert.InWgradRefIdeal.Gen.facts,
  Cert.EvenWgrad.Gen.facts,
  Cert.EvenWgradIdeal.Gen.facts,
  Cert.EvenWgradRefIdeal.Gen.facts,
  Cert.OutFwd.Gen.facts,
  Cert.OutFwdIdeal.Gen.facts,
  Cert.OutFwdRefIdeal.Gen.facts,
  Cert.InFwd.Gen.facts,
  Cert.InFwdIdeal.Gen.facts,
  Cert.InFwdRefIdeal.Gen.facts,
  Cert.GateBwd.Gen.facts,
  Cert.GateBwdIdeal.Gen.facts,
  Cert.GateBwdRefIdeal.Gen.facts,
  Cert.EvenBwd.Gen.facts,
  Cert.EvenBwdIdeal.Gen.facts,
  Cert.EvenBwdRefIdeal.Gen.facts,
  Cert.AdamInEven.Gen.facts,
  Cert.AdamInEvenIdeal.Gen.facts,
  Cert.AdamInEvenRefIdeal.Gen.facts,
  Cert.AdamOut.Gen.facts,
  Cert.AdamOutIdeal.Gen.facts,
  Cert.AdamOutRefIdeal.Gen.facts,
  Cert.AdamInOdd.Gen.facts,
  Cert.AdamInOddIdeal.Gen.facts,
  Cert.AdamInOddRefIdeal.Gen.facts,
  Cert.AdamPool.Gen.facts,
  Cert.AdamPoolIdeal.Gen.facts,
  Cert.AdamPoolRefIdeal.Gen.facts,
  Cert.FinalLoss.Gen.facts,
  Cert.FinalLossIdeal.Gen.facts,
  Cert.FinalLossRefIdeal.Gen.facts,
  Cert.AdamSmall.Gen.facts,
  Cert.AdamSmallIdeal.Gen.facts,
  Cert.AdamSmallRefIdeal.Gen.facts,
  Cert.AdamTiny.Gen.facts,
  Cert.AdamTinyIdeal.Gen.facts,
  Cert.AdamTinyRefIdeal.Gen.facts,
  Cert.AdamAda.Gen.facts,
  Cert.AdamAdaIdeal.Gen.facts,
  Cert.AdamAdaRefIdeal.Gen.facts,
  Cert.GateFwd.Gen.facts,
  Cert.GateFwdIdeal.Gen.facts,
  Cert.GateFwdRefIdeal.Gen.facts,
  Cert.LnMod.Gen.facts,
  Cert.LnModIdeal.Gen.facts,
  Cert.LnModRefIdeal.Gen.facts,
  Cert.ResidLn.Gen.facts,
  Cert.ResidLnIdeal.Gen.facts,
  Cert.ResidLnRefIdeal.Gen.facts,
  Cert.ConvFwd.Gen.facts,
  Cert.ConvFwdIdeal.Gen.facts,
  Cert.ConvFwdRefIdeal.Gen.facts,
  Cert.Pre_finite.Gen.facts,
  Cert.Pre_norm_bwd_finite.Gen.facts,
  Cert.Pre_gate_bwd_finite.Gen.facts,
  Cert.Pre_even_bwd_finite.Gen.facts,
  Cert.Pre_final_loss_finite.Gen.facts,
  fun m ρ _ => Cert.Kernel.Gen.frame m ρ,
  fun m ρ _ => Cert.KernelIdeal.Gen.frame m ρ,
  fun m ρ _ => Cert.KernelIdeal.Gen.frame m ρ,
  Cert.Conv.ref_frame,
  fun m ρ _ => Cert.Conv.ref_frame m ρ trivial,
  fun m ρ _ => Cert.NormBwd.Gen.frame m ρ,
  fun m ρ _ => Cert.NormBwdIdeal.Gen.frame m ρ,
  fun m ρ _ => Cert.NormBwdIdeal.Gen.frame m ρ,
  Cert.Norm.ref_frame,
  fun m ρ _ => Cert.Norm.ref_frame m ρ trivial,
  fun m ρ _ => Cert.OutBwd.Gen.frame m ρ,
  fun m ρ _ => Cert.OutBwdIdeal.Gen.frame m ρ,
  Cert.OutB.ref_frame,
  fun m ρ _ => Cert.OutWgrad.Gen.frame m ρ,
  fun m ρ _ => Cert.OutWgradIdeal.Gen.frame m ρ,
  Cert.OutW.ref_frame,
  fun m ρ _ => Cert.InWgrad.Gen.frame m ρ,
  fun m ρ _ => Cert.InWgradIdeal.Gen.frame m ρ,
  Cert.InW.ref_frame,
  fun m ρ _ => Cert.EvenWgrad.Gen.frame m ρ,
  fun m ρ _ => Cert.EvenWgradIdeal.Gen.frame m ρ,
  Cert.EvenW.ref_frame,
  fun m ρ _ => Cert.OutFwd.Gen.frame m ρ,
  fun m ρ _ => Cert.OutFwdIdeal.Gen.frame m ρ,
  Cert.OutF.ref_frame,
  fun m ρ _ => Cert.InFwd.Gen.frame m ρ,
  fun m ρ _ => Cert.InFwdIdeal.Gen.frame m ρ,
  Cert.InF.ref_frame,
  fun m ρ _ => Cert.GateBwd.Gen.frame m ρ,
  fun m ρ _ => Cert.GateBwdIdeal.Gen.frame m ρ,
  fun m ρ _ => Cert.GateBwdIdeal.Gen.frame m ρ,
  Cert.GateB.ref_frame,
  fun m ρ _ => Cert.GateB.ref_frame m ρ trivial,
  fun m ρ _ => Cert.EvenBwd.Gen.frame m ρ,
  fun m ρ _ => Cert.EvenBwdIdeal.Gen.frame m ρ,
  fun m ρ _ => Cert.EvenBwdIdeal.Gen.frame m ρ,
  Cert.EvenB.ref_frame,
  fun m ρ _ => Cert.EvenB.ref_frame m ρ trivial,
  fun m ρ _ => Cert.AdamInEven.Gen.frame m ρ,
  fun m ρ _ => Cert.AdamInEvenIdeal.Gen.frame m ρ,
  Cert.AdamIE.ref_frame,
  fun m ρ _ => Cert.AdamOut.Gen.frame m ρ,
  fun m ρ _ => Cert.AdamOutIdeal.Gen.frame m ρ,
  Cert.AdamO.ref_frame,
  fun m ρ _ => Cert.AdamInOdd.Gen.frame m ρ,
  fun m ρ _ => Cert.AdamInOddIdeal.Gen.frame m ρ,
  Cert.AdamIO.ref_frame,
  fun m ρ _ => Cert.AdamPool.Gen.frame m ρ,
  fun m ρ _ => Cert.AdamPoolIdeal.Gen.frame m ρ,
  Cert.AdamP.ref_frame,
  fun m ρ _ => Cert.FinalLoss.Gen.frame m ρ,
  fun m ρ _ => Cert.FinalLossIdeal.Gen.frame m ρ,
  fun m ρ _ => Cert.FinalLossIdeal.Gen.frame m ρ,
  Cert.Loss.ref_frame,
  fun m ρ _ => Cert.Loss.ref_frame m ρ trivial,
  fun m ρ _ => Cert.AdamSmall.Gen.frame m ρ,
  fun m ρ _ => Cert.AdamSmallIdeal.Gen.frame m ρ,
  Cert.AdamS.ref_frame,
  fun m ρ _ => Cert.AdamTiny.Gen.frame m ρ,
  fun m ρ _ => Cert.AdamTinyIdeal.Gen.frame m ρ,
  Cert.AdamT.ref_frame,
  fun m ρ _ => Cert.AdamAda.Gen.frame m ρ,
  fun m ρ _ => Cert.AdamAdaIdeal.Gen.frame m ρ,
  Cert.AdamA.ref_frame,
  fun m ρ _ => Cert.GateFwd.Gen.frame m ρ,
  fun m ρ _ => Cert.GateFwdIdeal.Gen.frame m ρ,
  Cert.GateF.ref_frame,
  fun m ρ _ => Cert.LnMod.Gen.frame m ρ,
  fun m ρ _ => Cert.LnModIdeal.Gen.frame m ρ,
  Cert.LnM.ref_frame,
  fun m ρ _ => Cert.ResidLn.Gen.frame m ρ,
  fun m ρ _ => Cert.ResidLnIdeal.Gen.frame m ρ,
  Cert.ResidL.ref_frame,
  fun m ρ _ => Cert.ConvFwd.Gen.frame m ρ,
  fun m ρ _ => Cert.ConvFwdIdeal.Gen.frame m ρ,
  Cert.ConvF.ref_frame,
  trivial,
  Cert.Conv.algebraic,
  trivial,
  Cert.Norm.algebraic,
  trivial,
  Cert.OutB.algebraic,
  trivial,
  Cert.OutW.algebraic,
  trivial,
  Cert.InW.algebraic,
  trivial,
  Cert.EvenW.algebraic,
  trivial,
  Cert.OutF.algebraic,
  trivial,
  Cert.InF.algebraic,
  trivial,
  Cert.GateB.algebraic,
  trivial,
  Cert.EvenB.algebraic,
  trivial,
  Cert.AdamIE.algebraic,
  trivial,
  Cert.AdamO.algebraic,
  trivial,
  Cert.AdamIO.algebraic,
  trivial,
  Cert.AdamP.algebraic,
  trivial,
  Cert.Loss.algebraic,
  trivial,
  Cert.AdamS.algebraic,
  trivial,
  Cert.AdamT.algebraic,
  trivial,
  Cert.AdamA.algebraic,
  trivial,
  Cert.GateF.algebraic,
  trivial,
  Cert.LnM.algebraic,
  trivial,
  Cert.ResidL.algebraic,
  trivial,
  Cert.ConvF.algebraic⟩

end Cert.Proof

end
